-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2 (m : (ℓ : Loc Cert.Reference2.nD Cert.Reference2.τ Cert.Reference2.sig) → Buf (Elt Bits) ℓ) : Prop :=
  True

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3 (m : (ℓ : Loc Cert.Reference3.nD Cert.Reference3.τ Cert.Reference3.sig) → Buf (Elt Bits) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4 (m : (ℓ : Loc Cert.Reference4.nD Cert.Reference4.τ Cert.Reference4.sig) → Buf (Elt Bits) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5 (m : (ℓ : Loc Cert.Reference5.nD Cert.Reference5.τ Cert.Reference5.sig) → Buf (Elt Bits) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6 (m : (ℓ : Loc Cert.Reference6.nD Cert.Reference6.τ Cert.Reference6.sig) → Buf (Elt Bits) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7 (m : (ℓ : Loc Cert.Reference7.nD Cert.Reference7.τ Cert.Reference7.sig) → Buf (Elt Bits) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8 (m : (ℓ : Loc Cert.Reference8.nD Cert.Reference8.τ Cert.Reference8.sig) → Buf (Elt Bits) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9 (m : (ℓ : Loc Cert.Reference9.nD Cert.Reference9.τ Cert.Reference9.sig) → Buf (Elt Bits) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10 (m : (ℓ : Loc Cert.Reference10.nD Cert.Reference10.τ Cert.Reference10.sig) → Buf (Elt Bits) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11 (m : (ℓ : Loc Cert.Reference11.nD Cert.Reference11.τ Cert.Reference11.sig) → Buf (Elt Bits) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12 (m : (ℓ : Loc Cert.Reference12.nD Cert.Reference12.τ Cert.Reference12.sig) → Buf (Elt Bits) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13 (m : (ℓ : Loc Cert.Reference13.nD Cert.Reference13.τ Cert.Reference13.sig) → Buf (Elt Bits) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14 (m : (ℓ : Loc Cert.Reference14.nD Cert.Reference14.τ Cert.Reference14.sig) → Buf (Elt Bits) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15 (m : (ℓ : Loc Cert.Reference15.nD Cert.Reference15.τ Cert.Reference15.sig) → Buf (Elt Bits) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16 (m : (ℓ : Loc Cert.Reference16.nD Cert.Reference16.τ Cert.Reference16.sig) → Buf (Elt Bits) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_kept [hPre_kept : Cert.Pre_kept.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_kept.fn (F := Ideal) (m ((c.tc : Thread Cert.Kernel17Ideal.nD Cert.Kernel17Ideal.τ).loc Cert.Kernel17Ideal.main_arg0))) = (fun _ => 1#1)

def Pre_Reference17 (m : (ℓ : Loc Cert.Reference17.nD Cert.Reference17.τ Cert.Reference17.sig) → Buf (Elt Bits) ℓ) : Prop :=
  True

def Pre_Reference17Ideal (m : (ℓ : Loc Cert.Reference17Ideal.nD Cert.Reference17Ideal.τ Cert.Reference17Ideal.sig) → Buf (Elt Ideal) ℓ) : Prop :=
  True

def Pre_Reference17Ideal_kept [hPre_kept : Cert.Pre_kept.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_kept.fn (F := Ideal) (m ((c.tc : Thread Cert.Reference17Ideal.nD Cert.Reference17Ideal.τ).loc Cert.Reference17Ideal.main_arg0))) = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite18 [hPre_finite18 : Cert.Pre_finite18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4))) = (fun _ => 1#1)

def Pre_Reference18 (m : (ℓ : Loc Cert.Reference18.nD Cert.Reference18.τ Cert.Reference18.sig) → Buf (Elt Bits) ℓ) : Prop :=
  True

def Pre_Reference18Ideal (m : (ℓ : Loc Cert.Reference18Ideal.nD Cert.Reference18Ideal.τ Cert.Reference18Ideal.sig) → Buf (Elt Ideal) ℓ) : Prop :=
  True

def Pre_Reference18Ideal_finite18 [hPre_finite18 : Cert.Pre_finite18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite19 [hPre_finite19 : Cert.Pre_finite19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))) = (fun _ => 1#1)

def Pre_Reference19 (m : (ℓ : Loc Cert.Reference19.nD Cert.Reference19.τ Cert.Reference19.sig) → Buf (Elt Bits) ℓ) : Prop :=
  True

def Pre_Reference19Ideal (m : (ℓ : Loc Cert.Reference19Ideal.nD Cert.Reference19Ideal.τ Cert.Reference19Ideal.sig) → Buf (Elt Ideal) ℓ) : Prop :=
  True

def Pre_Reference19Ideal_finite19 [hPre_finite19 : Cert.Pre_finite19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite20 [hPre_finite20 : Cert.Pre_finite20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5)) (m ((c.tc : Thread Cert.Kernel20Ideal.nD Cert.Kernel20Ideal.τ).loc Cert.Kernel20Ideal.main_arg6)) (m ((c.tc : Thread Cert.Kernel20Ideal.nD Cert.Kernel20Ideal.τ).loc Cert.Kernel20Ideal.main_arg7))) = (fun _ => 1#1)

def Pre_Reference20 (m : (ℓ : Loc Cert.Reference20.nD Cert.Reference20.τ Cert.Reference20.sig) → Buf (Elt Bits) ℓ) : Prop :=
  True

def Pre_Reference20Ideal (m : (ℓ : Loc Cert.Reference20Ideal.nD Cert.Reference20Ideal.τ Cert.Reference20Ideal.sig) → Buf (Elt Ideal) ℓ) : Prop :=
  True

def Pre_Reference20Ideal_finite20 [hPre_finite20 : Cert.Pre_finite20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5)) (m ((c.tc : Thread Cert.Reference20Ideal.nD Cert.Reference20Ideal.τ).loc Cert.Reference20Ideal.main_arg6)) (m ((c.tc : Thread Cert.Reference20Ideal.nD Cert.Reference20Ideal.τ).loc Cert.Reference20Ideal.main_arg7))) = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21 (m : (ℓ : Loc Cert.Reference21.nD Cert.Reference21.τ Cert.Reference21.sig) → Buf (Elt Bits) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22 (m : (ℓ : Loc Cert.Reference22.nD Cert.Reference22.τ Cert.Reference22.sig) → Buf (Elt Bits) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23 (m : (ℓ : Loc Cert.Reference23.nD Cert.Reference23.τ Cert.Reference23.sig) → Buf (Elt Bits) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24 (m : (ℓ : Loc Cert.Reference24.nD Cert.Reference24.τ Cert.Reference24.sig) → Buf (Elt Bits) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25 (m : (ℓ : Loc Cert.Reference25.nD Cert.Reference25.τ Cert.Reference25.sig) → Buf (Elt Bits) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26 (m : (ℓ : Loc Cert.Reference26.nD Cert.Reference26.τ Cert.Reference26.sig) → Buf (Elt Bits) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27 (m : (ℓ : Loc Cert.Reference27.nD Cert.Reference27.τ Cert.Reference27.sig) → Buf (Elt Bits) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28 (m : (ℓ : Loc Cert.Reference28.nD Cert.Reference28.τ Cert.Reference28.sig) → Buf (Elt Bits) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29 (m : (ℓ : Loc Cert.Reference29.nD Cert.Reference29.τ Cert.Reference29.sig) → Buf (Elt Bits) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30 (m : (ℓ : Loc Cert.Reference30.nD Cert.Reference30.τ Cert.Reference30.sig) → Buf (Elt Bits) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31 (m : (ℓ : Loc Cert.Reference31.nD Cert.Reference31.τ Cert.Reference31.sig) → Buf (Elt Bits) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32 (m : (ℓ : Loc Cert.Reference32.nD Cert.Reference32.τ Cert.Reference32.sig) → Buf (Elt Bits) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33 (m : (ℓ : Loc Cert.Reference33.nD Cert.Reference33.τ Cert.Reference33.sig) → Buf (Elt Bits) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34 (m : (ℓ : Loc Cert.Reference34.nD Cert.Reference34.τ Cert.Reference34.sig) → Buf (Elt Bits) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35 (m : (ℓ : Loc Cert.Reference35.nD Cert.Reference35.τ Cert.Reference35.sig) → Buf (Elt Bits) ℓ) : Prop :=
  True

def Pre_Reference35Ideal (m : (ℓ : Loc Cert.Reference35Ideal.nD Cert.Reference35Ideal.τ Cert.Reference35Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9)
      ∧ r.2.mem ((c.tc : Thread Cert.Reference.nD Cert.Reference.τ).loc Cert.Reference.main_arg10) = m ((c.tc : Thread Cert.Reference.nD Cert.Reference.τ).loc Cert.Reference.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2 [hReference2 : Cert.Reference2.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1)
      ∧ r.2.mem ((c.tc : Thread Cert.Reference2.nD Cert.Reference2.τ).loc Cert.Reference2.main_arg2) = m ((c.tc : Thread Cert.Reference2.nD Cert.Reference2.τ).loc Cert.Reference2.main_arg2)
      ∧ r.2.mem ((c.tc : Thread Cert.Reference2.nD Cert.Reference2.τ).loc Cert.Reference2.main_arg3) = m ((c.tc : Thread Cert.Reference2.nD Cert.Reference2.τ).loc Cert.Reference2.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3 [hReference3 : Cert.Reference3.Facts] : Prop :=
  ∀ (m : (ℓ : Loc Cert.Reference3.nD Cert.Reference3.τ Cert.Reference3.sig) → Buf (Elt Bits) ℓ) (g : Dev Cert.Reference3.nD → PrngReg), Pre_Reference3 m →
    θ_run (Cert.Reference3.defs (F := Bits)) (onTc (τ := Cert.Reference3.τ) (Cert.Reference3.main (F := Bits))) ⟨m, fun _ => 0, g⟩ (fun r => (∀ c : Dev Cert.Reference3.nD,
      r.2.mem ((c.tc : Thread Cert.Reference3.nD Cert.Reference3.τ).loc Cert.Reference3.main_arg0) = m ((c.tc : Thread Cert.Reference3.nD Cert.Reference3.τ).loc Cert.Reference3.main_arg0)
      ∧ r.2.mem ((c.tc : Thread Cert.Reference3.nD Cert.Reference3.τ).loc Cert.Reference3.main_arg1) = m ((c.tc : Thread Cert.Reference3.nD Cert.Reference3.τ).loc Cert.Reference3.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4 [hReference4 : Cert.Reference4.Facts] : Prop :=
  ∀ (m : (ℓ : Loc Cert.Reference4.nD Cert.Reference4.τ Cert.Reference4.sig) → Buf (Elt Bits) ℓ) (g : Dev Cert.Reference4.nD → PrngReg), Pre_Reference4 m →
    θ_run (Cert.Reference4.defs (F := Bits)) (onTc (τ := Cert.Reference4.τ) (Cert.Reference4.main (F := Bits))) ⟨m, fun _ => 0, g⟩ (fun r => (∀ c : Dev Cert.Reference4.nD,
      r.2.mem ((c.tc : Thread Cert.Reference4.nD Cert.Reference4.τ).loc Cert.Reference4.main_arg0) = m ((c.tc : Thread Cert.Reference4.nD Cert.Reference4.τ).loc Cert.Reference4.main_arg0)
      ∧ r.2.mem ((c.tc : Thread Cert.Reference4.nD Cert.Reference4.τ).loc Cert.Reference4.main_arg1) = m ((c.tc : Thread Cert.Reference4.nD Cert.Reference4.τ).loc Cert.Reference4.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5 [hReference5 : Cert.Reference5.Facts] : Prop :=
  ∀ (m : (ℓ : Loc Cert.Reference5.nD Cert.Reference5.τ Cert.Reference5.sig) → Buf (Elt Bits) ℓ) (g : Dev Cert.Reference5.nD → PrngReg), Pre_Reference5 m →
    θ_run (Cert.Reference5.defs (F := Bits)) (onTc (τ := Cert.Reference5.τ) (Cert.Reference5.main (F := Bits))) ⟨m, fun _ => 0, g⟩ (fun r => (∀ c : Dev Cert.Reference5.nD,
      r.2.mem ((c.tc : Thread Cert.Reference5.nD Cert.Reference5.τ).loc Cert.Reference5.main_arg0) = m ((c.tc : Thread Cert.Reference5.nD Cert.Reference5.τ).loc Cert.Reference5.main_arg0)
      ∧ r.2.mem ((c.tc : Thread Cert.Reference5.nD Cert.Reference5.τ).loc Cert.Reference5.main_arg1) = m ((c.tc : Thread Cert.Reference5.nD Cert.Reference5.τ).loc Cert.Reference5.main_arg1)
      ∧ r.2.mem ((c.tc : Thread Cert.Reference5.nD Cert.Reference5.τ).loc Cert.Reference5.main_arg2) = m ((c.tc : Thread Cert.Reference5.nD Cert.Reference5.τ).loc Cert.Reference5.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6 [hReference6 : Cert.Reference6.Facts] : Prop :=
  ∀ (m : (ℓ : Loc Cert.Reference6.nD Cert.Reference6.τ Cert.Reference6.sig) → Buf (Elt Bits) ℓ) (g : Dev Cert.Reference6.nD → PrngReg), Pre_Reference6 m →
    θ_run (Cert.Reference6.defs (F := Bits)) (onTc (τ := Cert.Reference6.τ) (Cert.Reference6.main (F := Bits))) ⟨m, fun _ => 0, g⟩ (fun r => (∀ c : Dev Cert.Reference6.nD,
      r.2.mem ((c.tc : Thread Cert.Reference6.nD Cert.Reference6.τ).loc Cert.Reference6.main_arg0) = m ((c.tc : Thread Cert.Reference6.nD Cert.Reference6.τ).loc Cert.Reference6.main_arg0)
      ∧ r.2.mem ((c.tc : Thread Cert.Reference6.nD Cert.Reference6.τ).loc Cert.Reference6.main_arg1) = m ((c.tc : Thread Cert.Reference6.nD Cert.Reference6.τ).loc Cert.Reference6.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7 [hReference7 : Cert.Reference7.Facts] : Prop :=
  ∀ (m : (ℓ : Loc Cert.Reference7.nD Cert.Reference7.τ Cert.Reference7.sig) → Buf (Elt Bits) ℓ) (g : Dev Cert.Reference7.nD → PrngReg), Pre_Reference7 m →
    θ_run (Cert.Reference7.defs (F := Bits)) (onTc (τ := Cert.Reference7.τ) (Cert.Reference7.main (F := Bits))) ⟨m, fun _ => 0, g⟩ (fun r => (∀ c : Dev Cert.Reference7.nD,
      r.2.mem ((c.tc : Thread Cert.Reference7.nD Cert.Reference7.τ).loc Cert.Reference7.main_arg0) = m ((c.tc : Thread Cert.Reference7.nD Cert.Reference7.τ).loc Cert.Reference7.main_arg0)
      ∧ r.2.mem ((c.tc : Thread Cert.Reference7.nD Cert.Reference7.τ).loc Cert.Reference7.main_arg1) = m ((c.tc : Thread Cert.Reference7.nD Cert.Reference7.τ).loc Cert.Reference7.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8 [hReference8 : Cert.Reference8.Facts] : Prop :=
  ∀ (m : (ℓ : Loc Cert.Reference8.nD Cert.Reference8.τ Cert.Reference8.sig) → Buf (Elt Bits) ℓ) (g : Dev Cert.Reference8.nD → PrngReg), Pre_Reference8 m →
    θ_run (Cert.Reference8.defs (F := Bits)) (onTc (τ := Cert.Reference8.τ) (Cert.Reference8.main (F := Bits))) ⟨m, fun _ => 0, g⟩ (fun r => (∀ c : Dev Cert.Reference8.nD,
      r.2.mem ((c.tc : Thread Cert.Reference8.nD Cert.Reference8.τ).loc Cert.Reference8.main_arg0) = m ((c.tc : Thread Cert.Reference8.nD Cert.Reference8.τ).loc Cert.Reference8.main_arg0)
      ∧ r.2.mem ((c.tc : Thread Cert.Reference8.nD Cert.Reference8.τ).loc Cert.Reference8.main_arg1) = m ((c.tc : Thread Cert.Reference8.nD Cert.Reference8.τ).loc Cert.Reference8.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9 [hReference9 : Cert.Reference9.Facts] : Prop :=
  ∀ (m : (ℓ : Loc Cert.Reference9.nD Cert.Reference9.τ Cert.Reference9.sig) → Buf (Elt Bits) ℓ) (g : Dev Cert.Reference9.nD → PrngReg), Pre_Reference9 m →
    θ_run (Cert.Reference9.defs (F := Bits)) (onTc (τ := Cert.Reference9.τ) (Cert.Reference9.main (F := Bits))) ⟨m, fun _ => 0, g⟩ (fun r => (∀ c : Dev Cert.Reference9.nD,
      r.2.mem ((c.tc : Thread Cert.Reference9.nD Cert.Reference9.τ).loc Cert.Reference9.main_arg0) = m ((c.tc : Thread Cert.Reference9.nD Cert.Reference9.τ).loc Cert.Reference9.main_arg0)
      ∧ r.2.mem ((c.tc : Thread Cert.Reference9.nD Cert.Reference9.τ).loc Cert.Reference9.main_arg1) = m ((c.tc : Thread Cert.Reference9.nD Cert.Reference9.τ).loc Cert.Reference9.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10 [hReference10 : Cert.Reference10.Facts] : Prop :=
  ∀ (m : (ℓ : Loc Cert.Reference10.nD Cert.Reference10.τ Cert.Reference10.sig) → Buf (Elt Bits) ℓ) (g : Dev Cert.Reference10.nD → PrngReg), Pre_Reference10 m →
    θ_run (Cert.Reference10.defs (F := Bits)) (onTc (τ := Cert.Reference10.τ) (Cert.Reference10.main (F := Bits))) ⟨m, fun _ => 0, g⟩ (fun r => (∀ c : Dev Cert.Reference10.nD,
      r.2.mem ((c.tc : Thread Cert.Reference10.nD Cert.Reference10.τ).loc Cert.Reference10.main_arg0) = m ((c.tc : Thread Cert.Reference10.nD Cert.Reference10.τ).loc Cert.Reference10.main_arg0)
      ∧ r.2.mem ((c.tc : Thread Cert.Reference10.nD Cert.Reference10.τ).loc Cert.Reference10.main_arg1) = m ((c.tc : Thread Cert.Reference10.nD Cert.Reference10.τ).loc Cert.Reference10.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11 [hReference11 : Cert.Reference11.Facts] : Prop :=
  ∀ (m : (ℓ : Loc Cert.Reference11.nD Cert.Reference11.τ Cert.Reference11.sig) → Buf (Elt Bits) ℓ) (g : Dev Cert.Reference11.nD → PrngReg), Pre_Reference11 m →
    θ_run (Cert.Reference11.defs (F := Bits)) (onTc (τ := Cert.Reference11.τ) (Cert.Reference11.main (F := Bits))) ⟨m, fun _ => 0, g⟩ (fun r => (∀ c : Dev Cert.Reference11.nD,
      r.2.mem ((c.tc : Thread Cert.Reference11.nD Cert.Reference11.τ).loc Cert.Reference11.main_arg0) = m ((c.tc : Thread Cert.Reference11.nD Cert.Reference11.τ).loc Cert.Reference11.main_arg0)
      ∧ r.2.mem ((c.tc : Thread Cert.Reference11.nD Cert.Reference11.τ).loc Cert.Reference11.main_arg1) = m ((c.tc : Thread Cert.Reference11.nD Cert.Reference11.τ).loc Cert.Reference11.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12 [hReference12 : Cert.Reference12.Facts] : Prop :=
  ∀ (m : (ℓ : Loc Cert.Reference12.nD Cert.Reference12.τ Cert.Reference12.sig) → Buf (Elt Bits) ℓ) (g : Dev Cert.Reference12.nD → PrngReg), Pre_Reference12 m →
    θ_run (Cert.Reference12.defs (F := Bits)) (onTc (τ := Cert.Reference12.τ) (Cert.Reference12.main (F := Bits))) ⟨m, fun _ => 0, g⟩ (fun r => (∀ c : Dev Cert.Reference12.nD,
      r.2.mem ((c.tc : Thread Cert.Reference12.nD Cert.Reference12.τ).loc Cert.Reference12.main_arg0) = m ((c.tc : Thread Cert.Reference12.nD Cert.Reference12.τ).loc Cert.Reference12.main_arg0)
      ∧ r.2.mem ((c.tc : Thread Cert.Reference12.nD Cert.Reference12.τ).loc Cert.Reference12.main_arg1) = m ((c.tc : Thread Cert.Reference12.nD Cert.Reference12.τ).loc Cert.Reference12.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13 [hReference13 : Cert.Reference13.Facts] : Prop :=
  ∀ (m : (ℓ : Loc Cert.Reference13.nD Cert.Reference13.τ Cert.Reference13.sig) → Buf (Elt Bits) ℓ) (g : Dev Cert.Reference13.nD → PrngReg), Pre_Reference13 m →
    θ_run (Cert.Reference13.defs (F := Bits)) (onTc (τ := Cert.Reference13.τ) (Cert.Reference13.main (F := Bits))) ⟨m, fun _ => 0, g⟩ (fun r => (∀ c : Dev Cert.Reference13.nD,
      r.2.mem ((c.tc : Thread Cert.Reference13.nD Cert.Reference13.τ).loc Cert.Reference13.main_arg0) = m ((c.tc : Thread Cert.Reference13.nD Cert.Reference13.τ).loc Cert.Reference13.main_arg0)
      ∧ r.2.mem ((c.tc : Thread Cert.Reference13.nD Cert.Reference13.τ).loc Cert.Reference13.main_arg1) = m ((c.tc : Thread Cert.Reference13.nD Cert.Reference13.τ).loc Cert.Reference13.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14 [hReference14 : Cert.Reference14.Facts] : Prop :=
  ∀ (m : (ℓ : Loc Cert.Reference14.nD Cert.Reference14.τ Cert.Reference14.sig) → Buf (Elt Bits) ℓ) (g : Dev Cert.Reference14.nD → PrngReg), Pre_Reference14 m →
    θ_run (Cert.Reference14.defs (F := Bits)) (onTc (τ := Cert.Reference14.τ) (Cert.Reference14.main (F := Bits))) ⟨m, fun _ => 0, g⟩ (fun r => (∀ c : Dev Cert.Reference14.nD,
      r.2.mem ((c.tc : Thread Cert.Reference14.nD Cert.Reference14.τ).loc Cert.Reference14.main_arg0) = m ((c.tc : Thread Cert.Reference14.nD Cert.Reference14.τ).loc Cert.Reference14.main_arg0)
      ∧ r.2.mem ((c.tc : Thread Cert.Reference14.nD Cert.Reference14.τ).loc Cert.Reference14.main_arg1) = m ((c.tc : Thread Cert.Reference14.nD Cert.Reference14.τ).loc Cert.Reference14.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15 [hReference15 : Cert.Reference15.Facts] : Prop :=
  ∀ (m : (ℓ : Loc Cert.Reference15.nD Cert.Reference15.τ Cert.Reference15.sig) → Buf (Elt Bits) ℓ) (g : Dev Cert.Reference15.nD → PrngReg), Pre_Reference15 m →
    θ_run (Cert.Reference15.defs (F := Bits)) (onTc (τ := Cert.Reference15.τ) (Cert.Reference15.main (F := Bits))) ⟨m, fun _ => 0, g⟩ (fun r => (∀ c : Dev Cert.Reference15.nD,
      r.2.mem ((c.tc : Thread Cert.Reference15.nD Cert.Reference15.τ).loc Cert.Reference15.main_arg0) = m ((c.tc : Thread Cert.Reference15.nD Cert.Reference15.τ).loc Cert.Reference15.main_arg0)
      ∧ r.2.mem ((c.tc : Thread Cert.Reference15.nD Cert.Reference15.τ).loc Cert.Reference15.main_arg1) = m ((c.tc : Thread Cert.Reference15.nD Cert.Reference15.τ).loc Cert.Reference15.main_arg1)
      ∧ r.2.mem ((c.tc : Thread Cert.Reference15.nD Cert.Reference15.τ).loc Cert.Reference15.main_arg2) = m ((c.tc : Thread Cert.Reference15.nD Cert.Reference15.τ).loc Cert.Reference15.main_arg2)
      ∧ r.2.mem ((c.tc : Thread Cert.Reference15.nD Cert.Reference15.τ).loc Cert.Reference15.main_arg3) = m ((c.tc : Thread Cert.Reference15.nD Cert.Reference15.τ).loc Cert.Reference15.main_arg3)
      ∧ r.2.mem ((c.tc : Thread Cert.Reference15.nD Cert.Reference15.τ).loc Cert.Reference15.main_arg4) = m ((c.tc : Thread Cert.Reference15.nD Cert.Reference15.τ).loc Cert.Reference15.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16 [hReference16 : Cert.Reference16.Facts] : Prop :=
  ∀ (m : (ℓ : Loc Cert.Reference16.nD Cert.Reference16.τ Cert.Reference16.sig) → Buf (Elt Bits) ℓ) (g : Dev Cert.Reference16.nD → PrngReg), Pre_Reference16 m →
    θ_run (Cert.Reference16.defs (F := Bits)) (onTc (τ := Cert.Reference16.τ) (Cert.Reference16.main (F := Bits))) ⟨m, fun _ => 0, g⟩ (fun r => (∀ c : Dev Cert.Reference16.nD,
      r.2.mem ((c.tc : Thread Cert.Reference16.nD Cert.Reference16.τ).loc Cert.Reference16.main_arg0) = m ((c.tc : Thread Cert.Reference16.nD Cert.Reference16.τ).loc Cert.Reference16.main_arg0)
      ∧ r.2.mem ((c.tc : Thread Cert.Reference16.nD Cert.Reference16.τ).loc Cert.Reference16.main_arg1) = m ((c.tc : Thread Cert.Reference16.nD Cert.Reference16.τ).loc Cert.Reference16.main_arg1)
      ∧ r.2.mem ((c.tc : Thread Cert.Reference16.nD Cert.Reference16.τ).loc Cert.Reference16.main_arg2) = m ((c.tc : Thread Cert.Reference16.nD Cert.Reference16.τ).loc Cert.Reference16.main_arg2)
      ∧ r.2.mem ((c.tc : Thread Cert.Reference16.nD Cert.Reference16.τ).loc Cert.Reference16.main_arg3) = m ((c.tc : Thread Cert.Reference16.nD Cert.Reference16.τ).loc Cert.Reference16.main_arg3)
      ∧ r.2.mem ((c.tc : Thread Cert.Reference16.nD Cert.Reference16.τ).loc Cert.Reference16.main_arg4) = m ((c.tc : Thread Cert.Reference16.nD Cert.Reference16.τ).loc Cert.Reference16.main_arg4)
      ∧ r.2.mem ((c.tc : Thread Cert.Reference16.nD Cert.Reference16.τ).loc Cert.Reference16.main_arg5) = m ((c.tc : Thread Cert.Reference16.nD Cert.Reference16.τ).loc Cert.Reference16.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ r.2.sem = fun _ => 0)

def quiescent_Kernel17Ideal_pre_kept [hKernel17Ideal : Cert.Kernel17Ideal.Facts] [hPre_kept : Cert.Pre_kept.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_kept m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ r.2.sem = fun _ => 0)

def quiescent_Reference17 [hReference17 : Cert.Reference17.Facts] : Prop :=
  ∀ (m : (ℓ : Loc Cert.Reference17.nD Cert.Reference17.τ Cert.Reference17.sig) → Buf (Elt Bits) ℓ) (g : Dev Cert.Reference17.nD → PrngReg), Pre_Reference17 m →
    θ_run (Cert.Reference17.defs (F := Bits)) (onTc (τ := Cert.Reference17.τ) (Cert.Reference17.main (F := Bits))) ⟨m, fun _ => 0, g⟩ (fun r => (∀ c : Dev Cert.Reference17.nD,
      r.2.mem ((c.tc : Thread Cert.Reference17.nD Cert.Reference17.τ).loc Cert.Reference17.main_arg0) = m ((c.tc : Thread Cert.Reference17.nD Cert.Reference17.τ).loc Cert.Reference17.main_arg0))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0))
      ∧ r.2.sem = fun _ => 0)

def quiescent_Reference17Ideal_pre_kept [hReference17Ideal : Cert.Reference17Ideal.Facts] [hPre_kept : Cert.Pre_kept.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_kept m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Kernel18Ideal_pre_finite18 [hKernel18Ideal : Cert.Kernel18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite18 m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18 [hReference18 : Cert.Reference18.Facts] : Prop :=
  ∀ (m : (ℓ : Loc Cert.Reference18.nD Cert.Reference18.τ Cert.Reference18.sig) → Buf (Elt Bits) ℓ) (g : Dev Cert.Reference18.nD → PrngReg), Pre_Reference18 m →
    θ_run (Cert.Reference18.defs (F := Bits)) (onTc (τ := Cert.Reference18.τ) (Cert.Reference18.main (F := Bits))) ⟨m, fun _ => 0, g⟩ (fun r => (∀ c : Dev Cert.Reference18.nD,
      r.2.mem ((c.tc : Thread Cert.Reference18.nD Cert.Reference18.τ).loc Cert.Reference18.main_arg0) = m ((c.tc : Thread Cert.Reference18.nD Cert.Reference18.τ).loc Cert.Reference18.main_arg0)
      ∧ r.2.mem ((c.tc : Thread Cert.Reference18.nD Cert.Reference18.τ).loc Cert.Reference18.main_arg1) = m ((c.tc : Thread Cert.Reference18.nD Cert.Reference18.τ).loc Cert.Reference18.main_arg1)
      ∧ r.2.mem ((c.tc : Thread Cert.Reference18.nD Cert.Reference18.τ).loc Cert.Reference18.main_arg2) = m ((c.tc : Thread Cert.Reference18.nD Cert.Reference18.τ).loc Cert.Reference18.main_arg2)
      ∧ r.2.mem ((c.tc : Thread Cert.Reference18.nD Cert.Reference18.τ).loc Cert.Reference18.main_arg3) = m ((c.tc : Thread Cert.Reference18.nD Cert.Reference18.τ).loc Cert.Reference18.main_arg3)
      ∧ r.2.mem ((c.tc : Thread Cert.Reference18.nD Cert.Reference18.τ).loc Cert.Reference18.main_arg4) = m ((c.tc : Thread Cert.Reference18.nD Cert.Reference18.τ).loc Cert.Reference18.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Reference18Ideal_pre_finite18 [hReference18Ideal : Cert.Reference18Ideal.Facts] [hPre_finite18 : Cert.Pre_finite18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Kernel19Ideal_pre_finite19 [hKernel19Ideal : Cert.Kernel19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite19 m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19 [hReference19 : Cert.Reference19.Facts] : Prop :=
  ∀ (m : (ℓ : Loc Cert.Reference19.nD Cert.Reference19.τ Cert.Reference19.sig) → Buf (Elt Bits) ℓ) (g : Dev Cert.Reference19.nD → PrngReg), Pre_Reference19 m →
    θ_run (Cert.Reference19.defs (F := Bits)) (onTc (τ := Cert.Reference19.τ) (Cert.Reference19.main (F := Bits))) ⟨m, fun _ => 0, g⟩ (fun r => (∀ c : Dev Cert.Reference19.nD,
      r.2.mem ((c.tc : Thread Cert.Reference19.nD Cert.Reference19.τ).loc Cert.Reference19.main_arg0) = m ((c.tc : Thread Cert.Reference19.nD Cert.Reference19.τ).loc Cert.Reference19.main_arg0)
      ∧ r.2.mem ((c.tc : Thread Cert.Reference19.nD Cert.Reference19.τ).loc Cert.Reference19.main_arg1) = m ((c.tc : Thread Cert.Reference19.nD Cert.Reference19.τ).loc Cert.Reference19.main_arg1)
      ∧ r.2.mem ((c.tc : Thread Cert.Reference19.nD Cert.Reference19.τ).loc Cert.Reference19.main_arg2) = m ((c.tc : Thread Cert.Reference19.nD Cert.Reference19.τ).loc Cert.Reference19.main_arg2)
      ∧ r.2.mem ((c.tc : Thread Cert.Reference19.nD Cert.Reference19.τ).loc Cert.Reference19.main_arg3) = m ((c.tc : Thread Cert.Reference19.nD Cert.Reference19.τ).loc Cert.Reference19.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Reference19Ideal_pre_finite19 [hReference19Ideal : Cert.Reference19Ideal.Facts] [hPre_finite19 : Cert.Pre_finite19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ r.2.sem = fun _ => 0)

def quiescent_Kernel20Ideal_pre_finite20 [hKernel20Ideal : Cert.Kernel20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ r.2.sem = fun _ => 0)

def quiescent_Reference20 [hReference20 : Cert.Reference20.Facts] : Prop :=
  ∀ (m : (ℓ : Loc Cert.Reference20.nD Cert.Reference20.τ Cert.Reference20.sig) → Buf (Elt Bits) ℓ) (g : Dev Cert.Reference20.nD → PrngReg), Pre_Reference20 m →
    θ_run (Cert.Reference20.defs (F := Bits)) (onTc (τ := Cert.Reference20.τ) (Cert.Reference20.main (F := Bits))) ⟨m, fun _ => 0, g⟩ (fun r => (∀ c : Dev Cert.Reference20.nD,
      r.2.mem ((c.tc : Thread Cert.Reference20.nD Cert.Reference20.τ).loc Cert.Reference20.main_arg0) = m ((c.tc : Thread Cert.Reference20.nD Cert.Reference20.τ).loc Cert.Reference20.main_arg0)
      ∧ r.2.mem ((c.tc : Thread Cert.Reference20.nD Cert.Reference20.τ).loc Cert.Reference20.main_arg1) = m ((c.tc : Thread Cert.Reference20.nD Cert.Reference20.τ).loc Cert.Reference20.main_arg1)
      ∧ r.2.mem ((c.tc : Thread Cert.Reference20.nD Cert.Reference20.τ).loc Cert.Reference20.main_arg2) = m ((c.tc : Thread Cert.Reference20.nD Cert.Reference20.τ).loc Cert.Reference20.main_arg2)
      ∧ r.2.mem ((c.tc : Thread Cert.Reference20.nD Cert.Reference20.τ).loc Cert.Reference20.main_arg3) = m ((c.tc : Thread Cert.Reference20.nD Cert.Reference20.τ).loc Cert.Reference20.main_arg3)
      ∧ r.2.mem ((c.tc : Thread Cert.Reference20.nD Cert.Reference20.τ).loc Cert.Reference20.main_arg4) = m ((c.tc : Thread Cert.Reference20.nD Cert.Reference20.τ).loc Cert.Reference20.main_arg4)
      ∧ r.2.mem ((c.tc : Thread Cert.Reference20.nD Cert.Reference20.τ).loc Cert.Reference20.main_arg5) = m ((c.tc : Thread Cert.Reference20.nD Cert.Reference20.τ).loc Cert.Reference20.main_arg5)
      ∧ r.2.mem ((c.tc : Thread Cert.Reference20.nD Cert.Reference20.τ).loc Cert.Reference20.main_arg6) = m ((c.tc : Thread Cert.Reference20.nD Cert.Reference20.τ).loc Cert.Reference20.main_arg6)
      ∧ r.2.mem ((c.tc : Thread Cert.Reference20.nD Cert.Reference20.τ).loc Cert.Reference20.main_arg7) = m ((c.tc : Thread Cert.Reference20.nD Cert.Reference20.τ).loc Cert.Reference20.main_arg7))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7))
      ∧ r.2.sem = fun _ => 0)

def quiescent_Reference20Ideal_pre_finite20 [hReference20Ideal : Cert.Reference20Ideal.Facts] [hPre_finite20 : Cert.Pre_finite20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21 [hReference21 : Cert.Reference21.Facts] : Prop :=
  ∀ (m : (ℓ : Loc Cert.Reference21.nD Cert.Reference21.τ Cert.Reference21.sig) → Buf (Elt Bits) ℓ) (g : Dev Cert.Reference21.nD → PrngReg), Pre_Reference21 m →
    θ_run (Cert.Reference21.defs (F := Bits)) (onTc (τ := Cert.Reference21.τ) (Cert.Reference21.main (F := Bits))) ⟨m, fun _ => 0, g⟩ (fun r => (∀ c : Dev Cert.Reference21.nD,
      r.2.mem ((c.tc : Thread Cert.Reference21.nD Cert.Reference21.τ).loc Cert.Reference21.main_arg0) = m ((c.tc : Thread Cert.Reference21.nD Cert.Reference21.τ).loc Cert.Reference21.main_arg0)
      ∧ r.2.mem ((c.tc : Thread Cert.Reference21.nD Cert.Reference21.τ).loc Cert.Reference21.main_arg1) = m ((c.tc : Thread Cert.Reference21.nD Cert.Reference21.τ).loc Cert.Reference21.main_arg1)
      ∧ r.2.mem ((c.tc : Thread Cert.Reference21.nD Cert.Reference21.τ).loc Cert.Reference21.main_arg2) = m ((c.tc : Thread Cert.Reference21.nD Cert.Reference21.τ).loc Cert.Reference21.main_arg2)
      ∧ r.2.mem ((c.tc : Thread Cert.Reference21.nD Cert.Reference21.τ).loc Cert.Reference21.main_arg3) = m ((c.tc : Thread Cert.Reference21.nD Cert.Reference21.τ).loc Cert.Reference21.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ r.2.sem = fun _ => 0)

def quiescent_Reference22 [hReference22 : Cert.Reference22.Facts] : Prop :=
  ∀ (m : (ℓ : Loc Cert.Reference22.nD Cert.Reference22.τ Cert.Reference22.sig) → Buf (Elt Bits) ℓ) (g : Dev Cert.Reference22.nD → PrngReg), Pre_Reference22 m →
    θ_run (Cert.Reference22.defs (F := Bits)) (onTc (τ := Cert.Reference22.τ) (Cert.Reference22.main (F := Bits))) ⟨m, fun _ => 0, g⟩ (fun r => (∀ c : Dev Cert.Reference22.nD,
      r.2.mem ((c.tc : Thread Cert.Reference22.nD Cert.Reference22.τ).loc Cert.Reference22.main_arg0) = m ((c.tc : Thread Cert.Reference22.nD Cert.Reference22.τ).loc Cert.Reference22.main_arg0)
      ∧ r.2.mem ((c.tc : Thread Cert.Reference22.nD Cert.Reference22.τ).loc Cert.Reference22.main_arg1) = m ((c.tc : Thread Cert.Reference22.nD Cert.Reference22.τ).loc Cert.Reference22.main_arg1)
      ∧ r.2.mem ((c.tc : Thread Cert.Reference22.nD Cert.Reference22.τ).loc Cert.Reference22.main_arg2) = m ((c.tc : Thread Cert.Reference22.nD Cert.Reference22.τ).loc Cert.Reference22.main_arg2)
      ∧ r.2.mem ((c.tc : Thread Cert.Reference22.nD Cert.Reference22.τ).loc Cert.Reference22.main_arg3) = m ((c.tc : Thread Cert.Reference22.nD Cert.Reference22.τ).loc Cert.Reference22.main_arg3)
      ∧ r.2.mem ((c.tc : Thread Cert.Reference22.nD Cert.Reference22.τ).loc Cert.Reference22.main_arg4) = m ((c.tc : Thread Cert.Reference22.nD Cert.Reference22.τ).loc Cert.Reference22.main_arg4)
      ∧ r.2.mem ((c.tc : Thread Cert.Reference22.nD Cert.Reference22.τ).loc Cert.Reference22.main_arg5) = m ((c.tc : Thread Cert.Reference22.nD Cert.Reference22.τ).loc Cert.Reference22.main_arg5)
      ∧ r.2.mem ((c.tc : Thread Cert.Reference22.nD Cert.Reference22.τ).loc Cert.Reference22.main_arg6) = m ((c.tc : Thread Cert.Reference22.nD Cert.Reference22.τ).loc Cert.Reference22.main_arg6))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23 [hReference23 : Cert.Reference23.Facts] : Prop :=
  ∀ (m : (ℓ : Loc Cert.Reference23.nD Cert.Reference23.τ Cert.Reference23.sig) → Buf (Elt Bits) ℓ) (g : Dev Cert.Reference23.nD → PrngReg), Pre_Reference23 m →
    θ_run (Cert.Reference23.defs (F := Bits)) (onTc (τ := Cert.Reference23.τ) (Cert.Reference23.main (F := Bits))) ⟨m, fun _ => 0, g⟩ (fun r => (∀ c : Dev Cert.Reference23.nD,
      r.2.mem ((c.tc : Thread Cert.Reference23.nD Cert.Reference23.τ).loc Cert.Reference23.main_arg0) = m ((c.tc : Thread Cert.Reference23.nD Cert.Reference23.τ).loc Cert.Reference23.main_arg0)
      ∧ r.2.mem ((c.tc : Thread Cert.Reference23.nD Cert.Reference23.τ).loc Cert.Reference23.main_arg1) = m ((c.tc : Thread Cert.Reference23.nD Cert.Reference23.τ).loc Cert.Reference23.main_arg1)
      ∧ r.2.mem ((c.tc : Thread Cert.Reference23.nD Cert.Reference23.τ).loc Cert.Reference23.main_arg2) = m ((c.tc : Thread Cert.Reference23.nD Cert.Reference23.τ).loc Cert.Reference23.main_arg2)
      ∧ r.2.mem ((c.tc : Thread Cert.Reference23.nD Cert.Reference23.τ).loc Cert.Reference23.main_arg3) = m ((c.tc : Thread Cert.Reference23.nD Cert.Reference23.τ).loc Cert.Reference23.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24 [hReference24 : Cert.Reference24.Facts] : Prop :=
  ∀ (m : (ℓ : Loc Cert.Reference24.nD Cert.Reference24.τ Cert.Reference24.sig) → Buf (Elt Bits) ℓ) (g : Dev Cert.Reference24.nD → PrngReg), Pre_Reference24 m →
    θ_run (Cert.Reference24.defs (F := Bits)) (onTc (τ := Cert.Reference24.τ) (Cert.Reference24.main (F := Bits))) ⟨m, fun _ => 0, g⟩ (fun r => (∀ c : Dev Cert.Reference24.nD,
      r.2.mem ((c.tc : Thread Cert.Reference24.nD Cert.Reference24.τ).loc Cert.Reference24.main_arg0) = m ((c.tc : Thread Cert.Reference24.nD Cert.Reference24.τ).loc Cert.Reference24.main_arg0)
      ∧ r.2.mem ((c.tc : Thread Cert.Reference24.nD Cert.Reference24.τ).loc Cert.Reference24.main_arg1) = m ((c.tc : Thread Cert.Reference24.nD Cert.Reference24.τ).loc Cert.Reference24.main_arg1)
      ∧ r.2.mem ((c.tc : Thread Cert.Reference24.nD Cert.Reference24.τ).loc Cert.Reference24.main_arg2) = m ((c.tc : Thread Cert.Reference24.nD Cert.Reference24.τ).loc Cert.Reference24.main_arg2)
      ∧ r.2.mem ((c.tc : Thread Cert.Reference24.nD Cert.Reference24.τ).loc Cert.Reference24.main_arg3) = m ((c.tc : Thread Cert.Reference24.nD Cert.Reference24.τ).loc Cert.Reference24.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25 [hReference25 : Cert.Reference25.Facts] : Prop :=
  ∀ (m : (ℓ : Loc Cert.Reference25.nD Cert.Reference25.τ Cert.Reference25.sig) → Buf (Elt Bits) ℓ) (g : Dev Cert.Reference25.nD → PrngReg), Pre_Reference25 m →
    θ_run (Cert.Reference25.defs (F := Bits)) (onTc (τ := Cert.Reference25.τ) (Cert.Reference25.main (F := Bits))) ⟨m, fun _ => 0, g⟩ (fun r => (∀ c : Dev Cert.Reference25.nD,
      r.2.mem ((c.tc : Thread Cert.Reference25.nD Cert.Reference25.τ).loc Cert.Reference25.main_arg0) = m ((c.tc : Thread Cert.Reference25.nD Cert.Reference25.τ).loc Cert.Reference25.main_arg0)
      ∧ r.2.mem ((c.tc : Thread Cert.Reference25.nD Cert.Reference25.τ).loc Cert.Reference25.main_arg1) = m ((c.tc : Thread Cert.Reference25.nD Cert.Reference25.τ).loc Cert.Reference25.main_arg1)
      ∧ r.2.mem ((c.tc : Thread Cert.Reference25.nD Cert.Reference25.τ).loc Cert.Reference25.main_arg2) = m ((c.tc : Thread Cert.Reference25.nD Cert.Reference25.τ).loc Cert.Reference25.main_arg2)
      ∧ r.2.mem ((c.tc : Thread Cert.Reference25.nD Cert.Reference25.τ).loc Cert.Reference25.main_arg3) = m ((c.tc : Thread Cert.Reference25.nD Cert.Reference25.τ).loc Cert.Reference25.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26 [hReference26 : Cert.Reference26.Facts] : Prop :=
  ∀ (m : (ℓ : Loc Cert.Reference26.nD Cert.Reference26.τ Cert.Reference26.sig) → Buf (Elt Bits) ℓ) (g : Dev Cert.Reference26.nD → PrngReg), Pre_Reference26 m →
    θ_run (Cert.Reference26.defs (F := Bits)) (onTc (τ := Cert.Reference26.τ) (Cert.Reference26.main (F := Bits))) ⟨m, fun _ => 0, g⟩ (fun r => (∀ c : Dev Cert.Reference26.nD,
      r.2.mem ((c.tc : Thread Cert.Reference26.nD Cert.Reference26.τ).loc Cert.Reference26.main_arg0) = m ((c.tc : Thread Cert.Reference26.nD Cert.Reference26.τ).loc Cert.Reference26.main_arg0)
      ∧ r.2.mem ((c.tc : Thread Cert.Reference26.nD Cert.Reference26.τ).loc Cert.Reference26.main_arg1) = m ((c.tc : Thread Cert.Reference26.nD Cert.Reference26.τ).loc Cert.Reference26.main_arg1)
      ∧ r.2.mem ((c.tc : Thread Cert.Reference26.nD Cert.Reference26.τ).loc Cert.Reference26.main_arg2) = m ((c.tc : Thread Cert.Reference26.nD Cert.Reference26.τ).loc Cert.Reference26.main_arg2)
      ∧ r.2.mem ((c.tc : Thread Cert.Reference26.nD Cert.Reference26.τ).loc Cert.Reference26.main_arg3) = m ((c.tc : Thread Cert.Reference26.nD Cert.Reference26.τ).loc Cert.Reference26.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27 [hReference27 : Cert.Reference27.Facts] : Prop :=
  ∀ (m : (ℓ : Loc Cert.Reference27.nD Cert.Reference27.τ Cert.Reference27.sig) → Buf (Elt Bits) ℓ) (g : Dev Cert.Reference27.nD → PrngReg), Pre_Reference27 m →
    θ_run (Cert.Reference27.defs (F := Bits)) (onTc (τ := Cert.Reference27.τ) (Cert.Reference27.main (F := Bits))) ⟨m, fun _ => 0, g⟩ (fun r => (∀ c : Dev Cert.Reference27.nD,
      r.2.mem ((c.tc : Thread Cert.Reference27.nD Cert.Reference27.τ).loc Cert.Reference27.main_arg0) = m ((c.tc : Thread Cert.Reference27.nD Cert.Reference27.τ).loc Cert.Reference27.main_arg0)
      ∧ r.2.mem ((c.tc : Thread Cert.Reference27.nD Cert.Reference27.τ).loc Cert.Reference27.main_arg1) = m ((c.tc : Thread Cert.Reference27.nD Cert.Reference27.τ).loc Cert.Reference27.main_arg1)
      ∧ r.2.mem ((c.tc : Thread Cert.Reference27.nD Cert.Reference27.τ).loc Cert.Reference27.main_arg2) = m ((c.tc : Thread Cert.Reference27.nD Cert.Reference27.τ).loc Cert.Reference27.main_arg2)
      ∧ r.2.mem ((c.tc : Thread Cert.Reference27.nD Cert.Reference27.τ).loc Cert.Reference27.main_arg3) = m ((c.tc : Thread Cert.Reference27.nD Cert.Reference27.τ).loc Cert.Reference27.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28 [hReference28 : Cert.Reference28.Facts] : Prop :=
  ∀ (m : (ℓ : Loc Cert.Reference28.nD Cert.Reference28.τ Cert.Reference28.sig) → Buf (Elt Bits) ℓ) (g : Dev Cert.Reference28.nD → PrngReg), Pre_Reference28 m →
    θ_run (Cert.Reference28.defs (F := Bits)) (onTc (τ := Cert.Reference28.τ) (Cert.Reference28.main (F := Bits))) ⟨m, fun _ => 0, g⟩ (fun r => (∀ c : Dev Cert.Reference28.nD,
      r.2.mem ((c.tc : Thread Cert.Reference28.nD Cert.Reference28.τ).loc Cert.Reference28.main_arg0) = m ((c.tc : Thread Cert.Reference28.nD Cert.Reference28.τ).loc Cert.Reference28.main_arg0)
      ∧ r.2.mem ((c.tc : Thread Cert.Reference28.nD Cert.Reference28.τ).loc Cert.Reference28.main_arg1) = m ((c.tc : Thread Cert.Reference28.nD Cert.Reference28.τ).loc Cert.Reference28.main_arg1)
      ∧ r.2.mem ((c.tc : Thread Cert.Reference28.nD Cert.Reference28.τ).loc Cert.Reference28.main_arg2) = m ((c.tc : Thread Cert.Reference28.nD Cert.Reference28.τ).loc Cert.Reference28.main_arg2)
      ∧ r.2.mem ((c.tc : Thread Cert.Reference28.nD Cert.Reference28.τ).loc Cert.Reference28.main_arg3) = m ((c.tc : Thread Cert.Reference28.nD Cert.Reference28.τ).loc Cert.Reference28.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29 [hReference29 : Cert.Reference29.Facts] : Prop :=
  ∀ (m : (ℓ : Loc Cert.Reference29.nD Cert.Reference29.τ Cert.Reference29.sig) → Buf (Elt Bits) ℓ) (g : Dev Cert.Reference29.nD → PrngReg), Pre_Reference29 m →
    θ_run (Cert.Reference29.defs (F := Bits)) (onTc (τ := Cert.Reference29.τ) (Cert.Reference29.main (F := Bits))) ⟨m, fun _ => 0, g⟩ (fun r => (∀ c : Dev Cert.Reference29.nD,
      r.2.mem ((c.tc : Thread Cert.Reference29.nD Cert.Reference29.τ).loc Cert.Reference29.main_arg0) = m ((c.tc : Thread Cert.Reference29.nD Cert.Reference29.τ).loc Cert.Reference29.main_arg0)
      ∧ r.2.mem ((c.tc : Thread Cert.Reference29.nD Cert.Reference29.τ).loc Cert.Reference29.main_arg1) = m ((c.tc : Thread Cert.Reference29.nD Cert.Reference29.τ).loc Cert.Reference29.main_arg1)
      ∧ r.2.mem ((c.tc : Thread Cert.Reference29.nD Cert.Reference29.τ).loc Cert.Reference29.main_arg2) = m ((c.tc : Thread Cert.Reference29.nD Cert.Reference29.τ).loc Cert.Reference29.main_arg2)
      ∧ r.2.mem ((c.tc : Thread Cert.Reference29.nD Cert.Reference29.τ).loc Cert.Reference29.main_arg3) = m ((c.tc : Thread Cert.Reference29.nD Cert.Reference29.τ).loc Cert.Reference29.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30 [hReference30 : Cert.Reference30.Facts] : Prop :=
  ∀ (m : (ℓ : Loc Cert.Reference30.nD Cert.Reference30.τ Cert.Reference30.sig) → Buf (Elt Bits) ℓ) (g : Dev Cert.Reference30.nD → PrngReg), Pre_Reference30 m →
    θ_run (Cert.Reference30.defs (F := Bits)) (onTc (τ := Cert.Reference30.τ) (Cert.Reference30.main (F := Bits))) ⟨m, fun _ => 0, g⟩ (fun r => (∀ c : Dev Cert.Reference30.nD,
      r.2.mem ((c.tc : Thread Cert.Reference30.nD Cert.Reference30.τ).loc Cert.Reference30.main_arg0) = m ((c.tc : Thread Cert.Reference30.nD Cert.Reference30.τ).loc Cert.Reference30.main_arg0)
      ∧ r.2.mem ((c.tc : Thread Cert.Reference30.nD Cert.Reference30.τ).loc Cert.Reference30.main_arg1) = m ((c.tc : Thread Cert.Reference30.nD Cert.Reference30.τ).loc Cert.Reference30.main_arg1)
      ∧ r.2.mem ((c.tc : Thread Cert.Reference30.nD Cert.Reference30.τ).loc Cert.Reference30.main_arg2) = m ((c.tc : Thread Cert.Reference30.nD Cert.Reference30.τ).loc Cert.Reference30.main_arg2)
      ∧ r.2.mem ((c.tc : Thread Cert.Reference30.nD Cert.Reference30.τ).loc Cert.Reference30.main_arg3) = m ((c.tc : Thread Cert.Reference30.nD Cert.Reference30.τ).loc Cert.Reference30.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31 [hReference31 : Cert.Reference31.Facts] : Prop :=
  ∀ (m : (ℓ : Loc Cert.Reference31.nD Cert.Reference31.τ Cert.Reference31.sig) → Buf (Elt Bits) ℓ) (g : Dev Cert.Reference31.nD → PrngReg), Pre_Reference31 m →
    θ_run (Cert.Reference31.defs (F := Bits)) (onTc (τ := Cert.Reference31.τ) (Cert.Reference31.main (F := Bits))) ⟨m, fun _ => 0, g⟩ (fun r => (∀ c : Dev Cert.Reference31.nD,
      r.2.mem ((c.tc : Thread Cert.Reference31.nD Cert.Reference31.τ).loc Cert.Reference31.main_arg0) = m ((c.tc : Thread Cert.Reference31.nD Cert.Reference31.τ).loc Cert.Reference31.main_arg0)
      ∧ r.2.mem ((c.tc : Thread Cert.Reference31.nD Cert.Reference31.τ).loc Cert.Reference31.main_arg1) = m ((c.tc : Thread Cert.Reference31.nD Cert.Reference31.τ).loc Cert.Reference31.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32 [hReference32 : Cert.Reference32.Facts] : Prop :=
  ∀ (m : (ℓ : Loc Cert.Reference32.nD Cert.Reference32.τ Cert.Reference32.sig) → Buf (Elt Bits) ℓ) (g : Dev Cert.Reference32.nD → PrngReg), Pre_Reference32 m →
    θ_run (Cert.Reference32.defs (F := Bits)) (onTc (τ := Cert.Reference32.τ) (Cert.Reference32.main (F := Bits))) ⟨m, fun _ => 0, g⟩ (fun r => (∀ c : Dev Cert.Reference32.nD,
      r.2.mem ((c.tc : Thread Cert.Reference32.nD Cert.Reference32.τ).loc Cert.Reference32.main_arg0) = m ((c.tc : Thread Cert.Reference32.nD Cert.Reference32.τ).loc Cert.Reference32.main_arg0)
      ∧ r.2.mem ((c.tc : Thread Cert.Reference32.nD Cert.Reference32.τ).loc Cert.Reference32.main_arg1) = m ((c.tc : Thread Cert.Reference32.nD Cert.Reference32.τ).loc Cert.Reference32.main_arg1)
      ∧ r.2.mem ((c.tc : Thread Cert.Reference32.nD Cert.Reference32.τ).loc Cert.Reference32.main_arg2) = m ((c.tc : Thread Cert.Reference32.nD Cert.Reference32.τ).loc Cert.Reference32.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33 [hReference33 : Cert.Reference33.Facts] : Prop :=
  ∀ (m : (ℓ : Loc Cert.Reference33.nD Cert.Reference33.τ Cert.Reference33.sig) → Buf (Elt Bits) ℓ) (g : Dev Cert.Reference33.nD → PrngReg), Pre_Reference33 m →
    θ_run (Cert.Reference33.defs (F := Bits)) (onTc (τ := Cert.Reference33.τ) (Cert.Reference33.main (F := Bits))) ⟨m, fun _ => 0, g⟩ (fun r => (∀ c : Dev Cert.Reference33.nD,
      r.2.mem ((c.tc : Thread Cert.Reference33.nD Cert.Reference33.τ).loc Cert.Reference33.main_arg0) = m ((c.tc : Thread Cert.Reference33.nD Cert.Reference33.τ).loc Cert.Reference33.main_arg0)
      ∧ r.2.mem ((c.tc : Thread Cert.Reference33.nD Cert.Reference33.τ).loc Cert.Reference33.main_arg1) = m ((c.tc : Thread Cert.Reference33.nD Cert.Reference33.τ).loc Cert.Reference33.main_arg1)
      ∧ r.2.mem ((c.tc : Thread Cert.Reference33.nD Cert.Reference33.τ).loc Cert.Reference33.main_arg2) = m ((c.tc : Thread Cert.Reference33.nD Cert.Reference33.τ).loc Cert.Reference33.main_arg2)
      ∧ r.2.mem ((c.tc : Thread Cert.Reference33.nD Cert.Reference33.τ).loc Cert.Reference33.main_arg3) = m ((c.tc : Thread Cert.Reference33.nD Cert.Reference33.τ).loc Cert.Reference33.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34 [hReference34 : Cert.Reference34.Facts] : Prop :=
  ∀ (m : (ℓ : Loc Cert.Reference34.nD Cert.Reference34.τ Cert.Reference34.sig) → Buf (Elt Bits) ℓ) (g : Dev Cert.Reference34.nD → PrngReg), Pre_Reference34 m →
    θ_run (Cert.Reference34.defs (F := Bits)) (onTc (τ := Cert.Reference34.τ) (Cert.Reference34.main (F := Bits))) ⟨m, fun _ => 0, g⟩ (fun r => (∀ c : Dev Cert.Reference34.nD,
      r.2.mem ((c.tc : Thread Cert.Reference34.nD Cert.Reference34.τ).loc Cert.Reference34.main_arg0) = m ((c.tc : Thread Cert.Reference34.nD Cert.Reference34.τ).loc Cert.Reference34.main_arg0)
      ∧ r.2.mem ((c.tc : Thread Cert.Reference34.nD Cert.Reference34.τ).loc Cert.Reference34.main_arg1) = m ((c.tc : Thread Cert.Reference34.nD Cert.Reference34.τ).loc Cert.Reference34.main_arg1)
      ∧ r.2.mem ((c.tc : Thread Cert.Reference34.nD Cert.Reference34.τ).loc Cert.Reference34.main_arg2) = m ((c.tc : Thread Cert.Reference34.nD Cert.Reference34.τ).loc Cert.Reference34.main_arg2)
      ∧ r.2.mem ((c.tc : Thread Cert.Reference34.nD Cert.Reference34.τ).loc Cert.Reference34.main_arg3) = m ((c.tc : Thread Cert.Reference34.nD Cert.Reference34.τ).loc Cert.Reference34.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3)
      ∧ r.2.mem ((c.tc : Thread Cert.Kernel35.nD Cert.Kernel35.τ).loc Cert.Kernel35.main_arg4) = m ((c.tc : Thread Cert.Kernel35.nD Cert.Kernel35.τ).loc Cert.Kernel35.main_arg4))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
      ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4))
      ∧ r.2.sem = fun _ => 0)

def quiescent_Reference35 [hReference35 : Cert.Reference35.Facts] : Prop :=
  ∀ (m : (ℓ : Loc Cert.Reference35.nD Cert.Reference35.τ Cert.Reference35.sig) → Buf (Elt Bits) ℓ) (g : Dev Cert.Reference35.nD → PrngReg), Pre_Reference35 m →
    θ_run (Cert.Reference35.defs (F := Bits)) (onTc (τ := Cert.Reference35.τ) (Cert.Reference35.main (F := Bits))) ⟨m, fun _ => 0, g⟩ (fun r => (∀ c : Dev Cert.Reference35.nD,
      r.2.mem ((c.tc : Thread Cert.Reference35.nD Cert.Reference35.τ).loc Cert.Reference35.main_arg0) = m ((c.tc : Thread Cert.Reference35.nD Cert.Reference35.τ).loc Cert.Reference35.main_arg0)
      ∧ r.2.mem ((c.tc : Thread Cert.Reference35.nD Cert.Reference35.τ).loc Cert.Reference35.main_arg1) = m ((c.tc : Thread Cert.Reference35.nD Cert.Reference35.τ).loc Cert.Reference35.main_arg1)
      ∧ r.2.mem ((c.tc : Thread Cert.Reference35.nD Cert.Reference35.τ).loc Cert.Reference35.main_arg2) = m ((c.tc : Thread Cert.Reference35.nD Cert.Reference35.τ).loc Cert.Reference35.main_arg2)
      ∧ r.2.mem ((c.tc : Thread Cert.Reference35.nD Cert.Reference35.τ).loc Cert.Reference35.main_arg3) = m ((c.tc : Thread Cert.Reference35.nD Cert.Reference35.τ).loc Cert.Reference35.main_arg3)
      ∧ r.2.mem ((c.tc : Thread Cert.Reference35.nD Cert.Reference35.τ).loc Cert.Reference35.main_arg4) = m ((c.tc : Thread Cert.Reference35.nD Cert.Reference35.τ).loc Cert.Reference35.main_arg4))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3)
      ∧ r.2.mem ((c.tc : Thread Cert.Reference35Ideal.nD Cert.Reference35Ideal.τ).loc Cert.Reference35Ideal.main_arg4) = m ((c.tc : Thread Cert.Reference35Ideal.nD Cert.Reference35Ideal.τ).loc Cert.Reference35Ideal.main_arg4))
      ∧ r.2.sem = fun _ => 0)

def preserves_Kernel_KernelIdeal : Prop :=
  True

def preserves_Reference_ReferenceIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_3)) (v2 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_3) = v1 c
          ∧ r.2.mem ((c.tc : Thread Cert.KernelIdeal.nD Cert.KernelIdeal.τ).loc Cert.KernelIdeal.main_v4_4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def preserves_Reference2_Reference2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def preserves_Reference3_Reference3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def preserves_Reference4_Reference4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def preserves_Reference5_Reference5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def preserves_Reference6_Reference6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def preserves_Reference7_Reference7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def preserves_Reference8_Reference8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def preserves_Reference9_Reference9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def preserves_Reference10_Reference10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def preserves_Reference11_Reference11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def preserves_Reference12_Reference12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_v5) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def preserves_Reference13_Reference13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def preserves_Reference14_Reference14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def preserves_Reference15_Reference15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v45) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def preserves_Reference16_Reference16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v1)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)) (v4 : (c : Dev Cert.Kernel16Ideal.nD) → Buf (Elt Ideal) ((c.tc : Thread Cert.Kernel16Ideal.nD Cert.Kernel16Ideal.τ).loc Cert.Kernel16Ideal.main_v0_4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_v0_4) = v4 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v80) = v0 c
          ∧ r.2.mem ((c.tc : Thread Cert.Reference16Ideal.nD Cert.Reference16Ideal.τ).loc Cert.Reference16Ideal.main_v78) = v1 c
          ∧ r.2.mem ((c.tc : Thread Cert.Reference16Ideal.nD Cert.Reference16Ideal.τ).loc Cert.Reference16Ideal.main_v73) = v2 c
          ∧ r.2.mem ((c.tc : Thread Cert.Reference16Ideal.nD Cert.Reference16Ideal.τ).loc Cert.Reference16Ideal.main_v68) = v3 c
          ∧ r.2.mem ((c.tc : Thread Cert.Reference16Ideal.nD Cert.Reference16Ideal.τ).loc Cert.Reference16Ideal.main_v79) = v4 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def preserves_Reference17_Reference17Ideal : Prop :=
  True

def algebraic_Kernel17Ideal_Reference17Ideal_pre_kept [hKernel17Ideal : Cert.Kernel17Ideal.Facts] [hReference17Ideal : Cert.Reference17Ideal.Facts] [hPre_kept : Cert.Pre_kept.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_kept m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)) →
    ∃ (v0 : (c : Dev Cert.Kernel17Ideal.nD) → Buf (Elt Ideal) ((c.tc : Thread Cert.Kernel17Ideal.nD Cert.Kernel17Ideal.τ).loc Cert.Kernel17Ideal.main_v0_0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v29) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0))

def preserves_Kernel18_Kernel18Ideal : Prop :=
  True

def preserves_Reference18_Reference18Ideal : Prop :=
  True

def algebraic_Kernel18Ideal_Reference18Ideal_pre_finite18 [hKernel18Ideal : Cert.Kernel18Ideal.Facts] [hReference18Ideal : Cert.Reference18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite18 m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v49) = v0 c
          ∧ r.2.mem ((c.tc : Thread Cert.Reference18Ideal.nD Cert.Reference18Ideal.τ).loc Cert.Reference18Ideal.main_v27) = v1 c
          ∧ r.2.mem ((c.tc : Thread Cert.Reference18Ideal.nD Cert.Reference18Ideal.τ).loc Cert.Reference18Ideal.main_v24) = v2 c
          ∧ r.2.mem ((c.tc : Thread Cert.Reference18Ideal.nD Cert.Reference18Ideal.τ).loc Cert.Reference18Ideal.main_v32) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def preserves_Reference19_Reference19Ideal : Prop :=
  True

def algebraic_Kernel19Ideal_Reference19Ideal_pre_finite19 [hKernel19Ideal : Cert.Kernel19Ideal.Facts] [hReference19Ideal : Cert.Reference19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite19 m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v41) = v0 c
          ∧ r.2.mem ((c.tc : Thread Cert.Reference19Ideal.nD Cert.Reference19Ideal.τ).loc Cert.Reference19Ideal.main_v21) = v1 c
          ∧ r.2.mem ((c.tc : Thread Cert.Reference19Ideal.nD Cert.Reference19Ideal.τ).loc Cert.Reference19Ideal.main_v24) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def preserves_Reference20_Reference20Ideal : Prop :=
  True

def algebraic_Kernel20Ideal_Reference20Ideal_pre_finite20 [hKernel20Ideal : Cert.Kernel20Ideal.Facts] [hReference20Ideal : Cert.Reference20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)) (v4 : (c : Dev Cert.Kernel20Ideal.nD) → Buf (Elt Ideal) ((c.tc : Thread Cert.Kernel20Ideal.nD Cert.Kernel20Ideal.τ).loc Cert.Kernel20Ideal.main_v0_4)) (v5 : (c : Dev Cert.Kernel20Ideal.nD) → Buf (Elt Ideal) ((c.tc : Thread Cert.Kernel20Ideal.nD Cert.Kernel20Ideal.τ).loc Cert.Kernel20Ideal.main_v0_5)) (v6 : (c : Dev Cert.Kernel20Ideal.nD) → Buf (Elt Ideal) ((c.tc : Thread Cert.Kernel20Ideal.nD Cert.Kernel20Ideal.τ).loc Cert.Kernel20Ideal.main_v0_6)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_v0_4) = v4 c
          ∧ r.2.mem ((c.tc : Thread Cert.Kernel20Ideal.nD Cert.Kernel20Ideal.τ).loc Cert.Kernel20Ideal.main_v0_5) = v5 c
          ∧ r.2.mem ((c.tc : Thread Cert.Kernel20Ideal.nD Cert.Kernel20Ideal.τ).loc Cert.Kernel20Ideal.main_v0_6) = v6 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v49) = v0 c
          ∧ r.2.mem ((c.tc : Thread Cert.Reference20Ideal.nD Cert.Reference20Ideal.τ).loc Cert.Reference20Ideal.main_v91) = v1 c
          ∧ r.2.mem ((c.tc : Thread Cert.Reference20Ideal.nD Cert.Reference20Ideal.τ).loc Cert.Reference20Ideal.main_v27) = v2 c
          ∧ r.2.mem ((c.tc : Thread Cert.Reference20Ideal.nD Cert.Reference20Ideal.τ).loc Cert.Reference20Ideal.main_v24) = v3 c
          ∧ r.2.mem ((c.tc : Thread Cert.Reference20Ideal.nD Cert.Reference20Ideal.τ).loc Cert.Reference20Ideal.main_v32) = v4 c
          ∧ r.2.mem ((c.tc : Thread Cert.Reference20Ideal.nD Cert.Reference20Ideal.τ).loc Cert.Reference20Ideal.main_v71) = v5 c
          ∧ r.2.mem ((c.tc : Thread Cert.Reference20Ideal.nD Cert.Reference20Ideal.τ).loc Cert.Reference20Ideal.main_v74) = v6 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7))

def preserves_Kernel21_Kernel21Ideal : Prop :=
  True

def preserves_Reference21_Reference21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v18) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def preserves_Reference22_Reference22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v14) = v0 c
          ∧ r.2.mem ((c.tc : Thread Cert.Reference22Ideal.nD Cert.Reference22Ideal.τ).loc Cert.Reference22Ideal.main_v33) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6))

def preserves_Kernel23_Kernel23Ideal : Prop :=
  True

def preserves_Reference23_Reference23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_v5) = v2 c
          ∧ r.2.mem ((c.tc : Thread Cert.Reference23Ideal.nD Cert.Reference23Ideal.τ).loc Cert.Reference23Ideal.main_v11) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def preserves_Reference24_Reference24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v6) = v2 c
          ∧ r.2.mem ((c.tc : Thread Cert.Reference24Ideal.nD Cert.Reference24Ideal.τ).loc Cert.Reference24Ideal.main_v12) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def preserves_Reference25_Reference25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v6) = v2 c
          ∧ r.2.mem ((c.tc : Thread Cert.Reference25Ideal.nD Cert.Reference25Ideal.τ).loc Cert.Reference25Ideal.main_v12) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def preserves_Reference26_Reference26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v6) = v2 c
          ∧ r.2.mem ((c.tc : Thread Cert.Reference26Ideal.nD Cert.Reference26Ideal.τ).loc Cert.Reference26Ideal.main_v12) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def preserves_Reference27_Reference27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v6) = v2 c
          ∧ r.2.mem ((c.tc : Thread Cert.Reference27Ideal.nD Cert.Reference27Ideal.τ).loc Cert.Reference27Ideal.main_v12) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def preserves_Reference28_Reference28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v1) = v0 c
          ∧ r.2.mem ((c.tc : Thread Cert.Reference28Ideal.nD Cert.Reference28Ideal.τ).loc Cert.Reference28Ideal.main_v25) = v1 c
          ∧ r.2.mem ((c.tc : Thread Cert.Reference28Ideal.nD Cert.Reference28Ideal.τ).loc Cert.Reference28Ideal.main_v6) = v2 c
          ∧ r.2.mem ((c.tc : Thread Cert.Reference28Ideal.nD Cert.Reference28Ideal.τ).loc Cert.Reference28Ideal.main_v12) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def preserves_Reference29_Reference29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v1) = v0 c
          ∧ r.2.mem ((c.tc : Thread Cert.Reference29Ideal.nD Cert.Reference29Ideal.τ).loc Cert.Reference29Ideal.main_v25) = v1 c
          ∧ r.2.mem ((c.tc : Thread Cert.Reference29Ideal.nD Cert.Reference29Ideal.τ).loc Cert.Reference29Ideal.main_v6) = v2 c
          ∧ r.2.mem ((c.tc : Thread Cert.Reference29Ideal.nD Cert.Reference29Ideal.τ).loc Cert.Reference29Ideal.main_v12) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def preserves_Reference30_Reference30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v3_0)) (v1 : (c : Dev Cert.Kernel30Ideal.nD) → Buf (Elt Ideal) ((c.tc : Thread Cert.Kernel30Ideal.nD Cert.Kernel30Ideal.τ).loc Cert.Kernel30Ideal.main_v3_1)) (v2 : (c : Dev Cert.Kernel30Ideal.nD) → Buf (Elt Ideal) ((c.tc : Thread Cert.Kernel30Ideal.nD Cert.Kernel30Ideal.τ).loc Cert.Kernel30Ideal.main_v3_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v3_0) = v0 c
          ∧ r.2.mem ((c.tc : Thread Cert.Kernel30Ideal.nD Cert.Kernel30Ideal.τ).loc Cert.Kernel30Ideal.main_v3_1) = v1 c
          ∧ r.2.mem ((c.tc : Thread Cert.Kernel30Ideal.nD Cert.Kernel30Ideal.τ).loc Cert.Kernel30Ideal.main_v3_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v70) = v0 c
          ∧ r.2.mem ((c.tc : Thread Cert.Reference30Ideal.nD Cert.Reference30Ideal.τ).loc Cert.Reference30Ideal.main_v71) = v1 c
          ∧ r.2.mem ((c.tc : Thread Cert.Reference30Ideal.nD Cert.Reference30Ideal.τ).loc Cert.Reference30Ideal.main_v69) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def preserves_Reference31_Reference31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v3) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def preserves_Reference32_Reference32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v4) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def preserves_Reference33_Reference33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v0) = v0 c
          ∧ r.2.mem ((c.tc : Thread Cert.Reference33Ideal.nD Cert.Reference33Ideal.τ).loc Cert.Reference33Ideal.main_v24) = v1 c
          ∧ r.2.mem ((c.tc : Thread Cert.Reference33Ideal.nD Cert.Reference33Ideal.τ).loc Cert.Reference33Ideal.main_v5) = v2 c
          ∧ r.2.mem ((c.tc : Thread Cert.Reference33Ideal.nD Cert.Reference33Ideal.τ).loc Cert.Reference33Ideal.main_v11) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def preserves_Reference34_Reference34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v0) = v0 c
          ∧ r.2.mem ((c.tc : Thread Cert.Reference34Ideal.nD Cert.Reference34Ideal.τ).loc Cert.Reference34Ideal.main_v24) = v1 c
          ∧ r.2.mem ((c.tc : Thread Cert.Reference34Ideal.nD Cert.Reference34Ideal.τ).loc Cert.Reference34Ideal.main_v5) = v2 c
          ∧ r.2.mem ((c.tc : Thread Cert.Reference34Ideal.nD Cert.Reference34Ideal.τ).loc Cert.Reference34Ideal.main_v11) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def preserves_Reference35_Reference35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)
      ∧ m' ((c.tc : Thread Cert.Reference35Ideal.nD Cert.Reference35Ideal.τ).loc Cert.Reference35Ideal.main_arg4) = m ((c.tc : Thread Cert.Kernel35Ideal.nD Cert.Kernel35Ideal.τ).loc Cert.Kernel35Ideal.main_arg4)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
          ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v29) = v0 c
          ∧ r.2.mem ((c.tc : Thread Cert.Reference35Ideal.nD Cert.Reference35Ideal.τ).loc Cert.Reference35Ideal.main_v30) = v1 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3)
          ∧ r.2.mem ((c.tc : Thread Cert.Reference35Ideal.nD Cert.Reference35Ideal.τ).loc Cert.Reference35Ideal.main_arg4) = m' ((c.tc : Thread Cert.Reference35Ideal.nD Cert.Reference35Ideal.τ).loc Cert.Reference35Ideal.main_arg4))

def Claim : Prop :=
  ∃ (hKernel : Cert.Kernel.Facts) (hKernelIdeal : Cert.KernelIdeal.Facts) (hReference : Cert.Reference.Facts) (hReferenceIdeal : Cert.ReferenceIdeal.Facts) (hKernel2 : Cert.Kernel2.Facts) (hKernel2Ideal : Cert.Kernel2Ideal.Facts) (hReference2 : Cert.Reference2.Facts) (hReference2Ideal : Cert.Reference2Ideal.Facts) (hKernel3 : Cert.Kernel3.Facts) (hKernel3Ideal : Cert.Kernel3Ideal.Facts) (hReference3 : Cert.Reference3.Facts) (hReference3Ideal : Cert.Reference3Ideal.Facts) (hKernel4 : Cert.Kernel4.Facts) (hKernel4Ideal : Cert.Kernel4Ideal.Facts) (hReference4 : Cert.Reference4.Facts) (hReference4Ideal : Cert.Reference4Ideal.Facts) (hKernel5 : Cert.Kernel5.Facts) (hKernel5Ideal : Cert.Kernel5Ideal.Facts) (hReference5 : Cert.Reference5.Facts) (hReference5Ideal : Cert.Reference5Ideal.Facts) (hKernel6 : Cert.Kernel6.Facts) (hKernel6Ideal : Cert.Kernel6Ideal.Facts) (hReference6 : Cert.Reference6.Facts) (hReference6Ideal : Cert.Reference6Ideal.Facts) (hKernel7 : Cert.Kernel7.Facts) (hKernel7Ideal : Cert.Kernel7Ideal.Facts) (hReference7 : Cert.Reference7.Facts) (hReference7Ideal : Cert.Reference7Ideal.Facts) (hKernel8 : Cert.Kernel8.Facts) (hKernel8Ideal : Cert.Kernel8Ideal.Facts) (hReference8 : Cert.Reference8.Facts) (hReference8Ideal : Cert.Reference8Ideal.Facts) (hKernel9 : Cert.Kernel9.Facts) (hKernel9Ideal : Cert.Kernel9Ideal.Facts) (hReference9 : Cert.Reference9.Facts) (hReference9Ideal : Cert.Reference9Ideal.Facts) (hKernel10 : Cert.Kernel10.Facts) (hKernel10Ideal : Cert.Kernel10Ideal.Facts) (hReference10 : Cert.Reference10.Facts) (hReference10Ideal : Cert.Reference10Ideal.Facts) (hKernel11 : Cert.Kernel11.Facts) (hKernel11Ideal : Cert.Kernel11Ideal.Facts) (hReference11 : Cert.Reference11.Facts) (hReference11Ideal : Cert.Reference11Ideal.Facts) (hKernel12 : Cert.Kernel12.Facts) (hKernel12Ideal : Cert.Kernel12Ideal.Facts) (hReference12 : Cert.Reference12.Facts) (hReference12Ideal : Cert.Reference12Ideal.Facts) (hKernel13 : Cert.Kernel13.Facts) (hKernel13Ideal : Cert.Kernel13Ideal.Facts) (hReference13 : Cert.Reference13.Facts) (hReference13Ideal : Cert.Reference13Ideal.Facts) (hKernel14 : Cert.Kernel14.Facts) (hKernel14Ideal : Cert.Kernel14Ideal.Facts) (hReference14 : Cert.Reference14.Facts) (hReference14Ideal : Cert.Reference14Ideal.Facts) (hKernel15 : Cert.Kernel15.Facts) (hKernel15Ideal : Cert.Kernel15Ideal.Facts) (hReference15 : Cert.Reference15.Facts) (hReference15Ideal : Cert.Reference15Ideal.Facts) (hKernel16 : Cert.Kernel16.Facts) (hKernel16Ideal : Cert.Kernel16Ideal.Facts) (hReference16 : Cert.Reference16.Facts) (hReference16Ideal : Cert.Reference16Ideal.Facts) (hKernel17 : Cert.Kernel17.Facts) (hKernel17Ideal : Cert.Kernel17Ideal.Facts) (hReference17 : Cert.Reference17.Facts) (hReference17Ideal : Cert.Reference17Ideal.Facts) (hKernel18 : Cert.Kernel18.Facts) (hKernel18Ideal : Cert.Kernel18Ideal.Facts) (hReference18 : Cert.Reference18.Facts) (hReference18Ideal : Cert.Reference18Ideal.Facts) (hKernel19 : Cert.Kernel19.Facts) (hKernel19Ideal : Cert.Kernel19Ideal.Facts) (hReference19 : Cert.Reference19.Facts) (hReference19Ideal : Cert.Reference19Ideal.Facts) (hKernel20 : Cert.Kernel20.Facts) (hKernel20Ideal : Cert.Kernel20Ideal.Facts) (hReference20 : Cert.Reference20.Facts) (hReference20Ideal : Cert.Reference20Ideal.Facts) (hKernel21 : Cert.Kernel21.Facts) (hKernel21Ideal : Cert.Kernel21Ideal.Facts) (hReference21 : Cert.Reference21.Facts) (hReference21Ideal : Cert.Reference21Ideal.Facts) (hKernel22 : Cert.Kernel22.Facts) (hKernel22Ideal : Cert.Kernel22Ideal.Facts) (hReference22 : Cert.Reference22.Facts) (hReference22Ideal : Cert.Reference22Ideal.Facts) (hKernel23 : Cert.Kernel23.Facts) (hKernel23Ideal : Cert.Kernel23Ideal.Facts) (hReference23 : Cert.Reference23.Facts) (hReference23Ideal : Cert.Reference23Ideal.Facts) (hKernel24 : Cert.Kernel24.Facts) (hKernel24Ideal : Cert.Kernel24Ideal.Facts) (hReference24 : Cert.Reference24.Facts) (hReference24Ideal : Cert.Reference24Ideal.Facts) (hKernel25 : Cert.Kernel25.Facts) (hKernel25Ideal : Cert.Kernel25Ideal.Facts) (hReference25 : Cert.Reference25.Facts) (hReference25Ideal : Cert.Reference25Ideal.Facts) (hKernel26 : Cert.Kernel26.Facts) (hKernel26Ideal : Cert.Kernel26Ideal.Facts) (hReference26 : Cert.Reference26.Facts) (hReference26Ideal : Cert.Reference26Ideal.Facts) (hKernel27 : Cert.Kernel27.Facts) (hKernel27Ideal : Cert.Kernel27Ideal.Facts) (hReference27 : Cert.Reference27.Facts) (hReference27Ideal : Cert.Reference27Ideal.Facts) (hKernel28 : Cert.Kernel28.Facts) (hKernel28Ideal : Cert.Kernel28Ideal.Facts) (hReference28 : Cert.Reference28.Facts) (hReference28Ideal : Cert.Reference28Ideal.Facts) (hKernel29 : Cert.Kernel29.Facts) (hKernel29Ideal : Cert.Kernel29Ideal.Facts) (hReference29 : Cert.Reference29.Facts) (hReference29Ideal : Cert.Reference29Ideal.Facts) (hKernel30 : Cert.Kernel30.Facts) (hKernel30Ideal : Cert.Kernel30Ideal.Facts) (hReference30 : Cert.Reference30.Facts) (hReference30Ideal : Cert.Reference30Ideal.Facts) (hKernel31 : Cert.Kernel31.Facts) (hKernel31Ideal : Cert.Kernel31Ideal.Facts) (hReference31 : Cert.Reference31.Facts) (hReference31Ideal : Cert.Reference31Ideal.Facts) (hKernel32 : Cert.Kernel32.Facts) (hKernel32Ideal : Cert.Kernel32Ideal.Facts) (hReference32 : Cert.Reference32.Facts) (hReference32Ideal : Cert.Reference32Ideal.Facts) (hKernel33 : Cert.Kernel33.Facts) (hKernel33Ideal : Cert.Kernel33Ideal.Facts) (hReference33 : Cert.Reference33.Facts) (hReference33Ideal : Cert.Reference33Ideal.Facts) (hKernel34 : Cert.Kernel34.Facts) (hKernel34Ideal : Cert.Kernel34Ideal.Facts) (hReference34 : Cert.Reference34.Facts) (hReference34Ideal : Cert.Reference34Ideal.Facts) (hKernel35 : Cert.Kernel35.Facts) (hKernel35Ideal : Cert.Kernel35Ideal.Facts) (hReference35 : Cert.Reference35.Facts) (hReference35Ideal : Cert.Reference35Ideal.Facts) (hPre_finite : Cert.Pre_finite.Facts) (hPre_finite2 : Cert.Pre_finite2.Facts) (hPre_kept : Cert.Pre_kept.Facts) (hPre_finite18 : Cert.Pre_finite18.Facts) (hPre_finite19 : Cert.Pre_finite19.Facts) (hPre_finite20 : Cert.Pre_finite20.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_Reference (hReference := hReference)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2 (hReference2 := hReference2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3 (hReference3 := hReference3)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4 (hReference4 := hReference4)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5 (hReference5 := hReference5)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6 (hReference6 := hReference6)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7 (hReference7 := hReference7)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8 (hReference8 := hReference8)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9 (hReference9 := hReference9)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10 (hReference10 := hReference10)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11 (hReference11 := hReference11)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12 (hReference12 := hReference12)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13 (hReference13 := hReference13)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14 (hReference14 := hReference14)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15 (hReference15 := hReference15)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16 (hReference16 := hReference16)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_kept (hKernel17Ideal := hKernel17Ideal) (hPre_kept := hPre_kept)
    ∧ quiescent_Reference17 (hReference17 := hReference17)
    ∧ quiescent_Reference17Ideal (hReference17Ideal := hReference17Ideal)
    ∧ quiescent_Reference17Ideal_pre_kept (hReference17Ideal := hReference17Ideal) (hPre_kept := hPre_kept)
    ∧ quiescent_Kernel18 (hKernel18 := hKernel18)
    ∧ quiescent_Kernel18Ideal (hKernel18Ideal := hKernel18Ideal)
    ∧ quiescent_Kernel18Ideal_pre_finite18 (hKernel18Ideal := hKernel18Ideal) (hPre_finite18 := hPre_finite18)
    ∧ quiescent_Reference18 (hReference18 := hReference18)
    ∧ quiescent_Reference18Ideal (hReference18Ideal := hReference18Ideal)
    ∧ quiescent_Reference18Ideal_pre_finite18 (hReference18Ideal := hReference18Ideal) (hPre_finite18 := hPre_finite18)
    ∧ quiescent_Kernel19 (hKernel19 := hKernel19)
    ∧ quiescent_Kernel19Ideal (hKernel19Ideal := hKernel19Ideal)
    ∧ quiescent_Kernel19Ideal_pre_finite19 (hKernel19Ideal := hKernel19Ideal) (hPre_finite19 := hPre_finite19)
    ∧ quiescent_Reference19 (hReference19 := hReference19)
    ∧ quiescent_Reference19Ideal (hReference19Ideal := hReference19Ideal)
    ∧ quiescent_Reference19Ideal_pre_finite19 (hReference19Ideal := hReference19Ideal) (hPre_finite19 := hPre_finite19)
    ∧ quiescent_Kernel20 (hKernel20 := hKernel20)
    ∧ quiescent_Kernel20Ideal (hKernel20Ideal := hKernel20Ideal)
    ∧ quiescent_Kernel20Ideal_pre_finite20 (hKernel20Ideal := hKernel20Ideal) (hPre_finite20 := hPre_finite20)
    ∧ quiescent_Reference20 (hReference20 := hReference20)
    ∧ quiescent_Reference20Ideal (hReference20Ideal := hReference20Ideal)
    ∧ quiescent_Reference20Ideal_pre_finite20 (hReference20Ideal := hReference20Ideal) (hPre_finite20 := hPre_finite20)
    ∧ quiescent_Kernel21 (hKernel21 := hKernel21)
    ∧ quiescent_Kernel21Ideal (hKernel21Ideal := hKernel21Ideal)
    ∧ quiescent_Reference21 (hReference21 := hReference21)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22 (hReference22 := hReference22)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23 (hReference23 := hReference23)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24 (hReference24 := hReference24)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25 (hReference25 := hReference25)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26 (hReference26 := hReference26)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27 (hReference27 := hReference27)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28 (hReference28 := hReference28)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29 (hReference29 := hReference29)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30 (hReference30 := hReference30)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31 (hReference31 := hReference31)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32 (hReference32 := hReference32)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33 (hReference33 := hReference33)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34 (hReference34 := hReference34)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35 (hReference35 := hReference35)
    ∧ quiescent_Reference35Ideal (hReference35Ideal := hReference35Ideal)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
    ∧ preserves_Kernel2_Kernel2Ideal
    ∧ preserves_Reference2_Reference2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ preserves_Reference3_Reference3Ideal
    ∧ algebraic_Kernel3Ideal_Reference3Ideal (hKernel3Ideal := hKernel3Ideal) (hReference3Ideal := hReference3Ideal)
    ∧ preserves_Kernel4_Kernel4Ideal
    ∧ preserves_Reference4_Reference4Ideal
    ∧ algebraic_Kernel4Ideal_Reference4Ideal (hKernel4Ideal := hKernel4Ideal) (hReference4Ideal := hReference4Ideal)
    ∧ preserves_Kernel5_Kernel5Ideal
    ∧ preserves_Reference5_Reference5Ideal
    ∧ algebraic_Kernel5Ideal_Reference5Ideal (hKernel5Ideal := hKernel5Ideal) (hReference5Ideal := hReference5Ideal)
    ∧ preserves_Kernel6_Kernel6Ideal
    ∧ preserves_Reference6_Reference6Ideal
    ∧ algebraic_Kernel6Ideal_Reference6Ideal (hKernel6Ideal := hKernel6Ideal) (hReference6Ideal := hReference6Ideal)
    ∧ preserves_Kernel7_Kernel7Ideal
    ∧ preserves_Reference7_Reference7Ideal
    ∧ algebraic_Kernel7Ideal_Reference7Ideal (hKernel7Ideal := hKernel7Ideal) (hReference7Ideal := hReference7Ideal)
    ∧ preserves_Kernel8_Kernel8Ideal
    ∧ preserves_Reference8_Reference8Ideal
    ∧ algebraic_Kernel8Ideal_Reference8Ideal (hKernel8Ideal := hKernel8Ideal) (hReference8Ideal := hReference8Ideal)
    ∧ preserves_Kernel9_Kernel9Ideal
    ∧ preserves_Reference9_Reference9Ideal
    ∧ algebraic_Kernel9Ideal_Reference9Ideal (hKernel9Ideal := hKernel9Ideal) (hReference9Ideal := hReference9Ideal)
    ∧ preserves_Kernel10_Kernel10Ideal
    ∧ preserves_Reference10_Reference10Ideal
    ∧ algebraic_Kernel10Ideal_Reference10Ideal (hKernel10Ideal := hKernel10Ideal) (hReference10Ideal := hReference10Ideal)
    ∧ preserves_Kernel11_Kernel11Ideal
    ∧ preserves_Reference11_Reference11Ideal
    ∧ algebraic_Kernel11Ideal_Reference11Ideal (hKernel11Ideal := hKernel11Ideal) (hReference11Ideal := hReference11Ideal)
    ∧ preserves_Kernel12_Kernel12Ideal
    ∧ preserves_Reference12_Reference12Ideal
    ∧ algebraic_Kernel12Ideal_Reference12Ideal (hKernel12Ideal := hKernel12Ideal) (hReference12Ideal := hReference12Ideal)
    ∧ preserves_Kernel13_Kernel13Ideal
    ∧ preserves_Reference13_Reference13Ideal
    ∧ algebraic_Kernel13Ideal_Reference13Ideal (hKernel13Ideal := hKernel13Ideal) (hReference13Ideal := hReference13Ideal)
    ∧ preserves_Kernel14_Kernel14Ideal
    ∧ preserves_Reference14_Reference14Ideal
    ∧ algebraic_Kernel14Ideal_Reference14Ideal (hKernel14Ideal := hKernel14Ideal) (hReference14Ideal := hReference14Ideal)
    ∧ preserves_Kernel15_Kernel15Ideal
    ∧ preserves_Reference15_Reference15Ideal
    ∧ algebraic_Kernel15Ideal_Reference15Ideal (hKernel15Ideal := hKernel15Ideal) (hReference15Ideal := hReference15Ideal)
    ∧ preserves_Kernel16_Kernel16Ideal
    ∧ preserves_Reference16_Reference16Ideal
    ∧ algebraic_Kernel16Ideal_Reference16Ideal (hKernel16Ideal := hKernel16Ideal) (hReference16Ideal := hReference16Ideal)
    ∧ preserves_Kernel17_Kernel17Ideal
    ∧ preserves_Reference17_Reference17Ideal
    ∧ algebraic_Kernel17Ideal_Reference17Ideal_pre_kept (hKernel17Ideal := hKernel17Ideal) (hReference17Ideal := hReference17Ideal) (hPre_kept := hPre_kept)
    ∧ preserves_Kernel18_Kernel18Ideal
    ∧ preserves_Reference18_Reference18Ideal
    ∧ algebraic_Kernel18Ideal_Reference18Ideal_pre_finite18 (hKernel18Ideal := hKernel18Ideal) (hReference18Ideal := hReference18Ideal) (hPre_finite18 := hPre_finite18)
    ∧ preserves_Kernel19_Kernel19Ideal
    ∧ preserves_Reference19_Reference19Ideal
    ∧ algebraic_Kernel19Ideal_Reference19Ideal_pre_finite19 (hKernel19Ideal := hKernel19Ideal) (hReference19Ideal := hReference19Ideal) (hPre_finite19 := hPre_finite19)
    ∧ preserves_Kernel20_Kernel20Ideal
    ∧ preserves_Reference20_Reference20Ideal
    ∧ algebraic_Kernel20Ideal_Reference20Ideal_pre_finite20 (hKernel20Ideal := hKernel20Ideal) (hReference20Ideal := hReference20Ideal) (hPre_finite20 := hPre_finite20)
    ∧ preserves_Kernel21_Kernel21Ideal
    ∧ preserves_Reference21_Reference21Ideal
    ∧ algebraic_Kernel21Ideal_Reference21Ideal (hKernel21Ideal := hKernel21Ideal) (hReference21Ideal := hReference21Ideal)
    ∧ preserves_Kernel22_Kernel22Ideal
    ∧ preserves_Reference22_Reference22Ideal
    ∧ algebraic_Kernel22Ideal_Reference22Ideal (hKernel22Ideal := hKernel22Ideal) (hReference22Ideal := hReference22Ideal)
    ∧ preserves_Kernel23_Kernel23Ideal
    ∧ preserves_Reference23_Reference23Ideal
    ∧ algebraic_Kernel23Ideal_Reference23Ideal (hKernel23Ideal := hKernel23Ideal) (hReference23Ideal := hReference23Ideal)
    ∧ preserves_Kernel24_Kernel24Ideal
    ∧ preserves_Reference24_Reference24Ideal
    ∧ algebraic_Kernel24Ideal_Reference24Ideal (hKernel24Ideal := hKernel24Ideal) (hReference24Ideal := hReference24Ideal)
    ∧ preserves_Kernel25_Kernel25Ideal
    ∧ preserves_Reference25_Reference25Ideal
    ∧ algebraic_Kernel25Ideal_Reference25Ideal (hKernel25Ideal := hKernel25Ideal) (hReference25Ideal := hReference25Ideal)
    ∧ preserves_Kernel26_Kernel26Ideal
    ∧ preserves_Reference26_Reference26Ideal
    ∧ algebraic_Kernel26Ideal_Reference26Ideal (hKernel26Ideal := hKernel26Ideal) (hReference26Ideal := hReference26Ideal)
    ∧ preserves_Kernel27_Kernel27Ideal
    ∧ preserves_Reference27_Reference27Ideal
    ∧ algebraic_Kernel27Ideal_Reference27Ideal (hKernel27Ideal := hKernel27Ideal) (hReference27Ideal := hReference27Ideal)
    ∧ preserves_Kernel28_Kernel28Ideal
    ∧ preserves_Reference28_Reference28Ideal
    ∧ algebraic_Kernel28Ideal_Reference28Ideal (hKernel28Ideal := hKernel28Ideal) (hReference28Ideal := hReference28Ideal)
    ∧ preserves_Kernel29_Kernel29Ideal
    ∧ preserves_Reference29_Reference29Ideal
    ∧ algebraic_Kernel29Ideal_Reference29Ideal (hKernel29Ideal := hKernel29Ideal) (hReference29Ideal := hReference29Ideal)
    ∧ preserves_Kernel30_Kernel30Ideal
    ∧ preserves_Reference30_Reference30Ideal
    ∧ algebraic_Kernel30Ideal_Reference30Ideal (hKernel30Ideal := hKernel30Ideal) (hReference30Ideal := hReference30Ideal)
    ∧ preserves_Kernel31_Kernel31Ideal
    ∧ preserves_Reference31_Reference31Ideal
    ∧ algebraic_Kernel31Ideal_Reference31Ideal (hKernel31Ideal := hKernel31Ideal) (hReference31Ideal := hReference31Ideal)
    ∧ preserves_Kernel32_Kernel32Ideal
    ∧ preserves_Reference32_Reference32Ideal
    ∧ algebraic_Kernel32Ideal_Reference32Ideal (hKernel32Ideal := hKernel32Ideal) (hReference32Ideal := hReference32Ideal)
    ∧ preserves_Kernel33_Kernel33Ideal
    ∧ preserves_Reference33_Reference33Ideal
    ∧ algebraic_Kernel33Ideal_Reference33Ideal (hKernel33Ideal := hKernel33Ideal) (hReference33Ideal := hReference33Ideal)
    ∧ preserves_Kernel34_Kernel34Ideal
    ∧ preserves_Reference34_Reference34Ideal
    ∧ algebraic_Kernel34Ideal_Reference34Ideal (hKernel34Ideal := hKernel34Ideal) (hReference34Ideal := hReference34Ideal)
    ∧ preserves_Kernel35_Kernel35Ideal
    ∧ preserves_Reference35_Reference35Ideal
    ∧ algebraic_Kernel35Ideal_Reference35Ideal (hKernel35Ideal := hKernel35Ideal) (hReference35Ideal := hReference35Ideal)
-- ==== Pre_finite.lean ====
abbrev S16384x512 : Shape := ⟨2, ![16384, 512]⟩
abbrev S16384x768 : Shape := ⟨2, ![16384, 768]⟩
abbrev S16384x6144 : Shape := ⟨2, ![16384, 6144]⟩
abbrev S16384x128 : Shape := ⟨2, ![16384, 128]⟩
abbrev S8x16384 : Shape := ⟨2, ![8, 16384]⟩
abbrev S64x4x128x128 : Shape := ⟨4, ![64, 4, 128, 128]⟩
abbrev S8x128 : Shape := ⟨2, ![8, 128]⟩
abbrev S16x256 : Shape := ⟨2, ![16, 256]⟩
abbrev S1x512 : Shape := ⟨2, ![1, 512]⟩
abbrev S_ : Shape := ⟨0, ![]⟩

class Facts : Prop where
  slices_S16384x6144_S16384x512_0_5632 : S16384x6144.Slices ![0, 5632] S16384x512
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel
  slices_S16384x768_S16384x512_0_0 : S16384x768.Slices ![0, 0] S16384x512
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg9 : FVec F S1x512 .f32) (main_arg10 : FVec F S1x512 .f32) (main_v16 : IVec S_ 1) (main_v17 : FVec F S16384x512 .f32) : IVec S_ 1 :=
  let main_cst_4 : FVec F S_ .f32 := constant S_ .f32 0x7F800000#32
  let main_v18 : FVec F S16384x512 .f32 := broadcastInDim S16384x512 ![] bcast_S_S16384x512 main_cst_4
  let main_v19 : IVec S16384x512 1 := cmpf .olt main_v17 main_v18
  let main_c_5 : IVec S_ 1 := constantI S_ 1 1#1
  let main_v20 : IVec S_ 1 := (fun x v => Host.reduce IntOp.andi x v reducesTo_S16384x512_S_d0_1 h_S_) main_v19 main_c_5
  let main_v21 : IVec S_ 1 := andi main_v16 main_v20
  let main_v22 : FVec F S1x512 .f32 := Host.absf main_arg9
  let main_cst_6 : FVec F S_ .f32 := constant S_ .f32 0x7F800000#32
  let main_v23 : FVec F S1x512 .f32 := broadcastInDim S1x512 ![] bcast_S_S1x512 main_cst_6
  let main_v24 : IVec S1x512 1 := cmpf .olt main_v22 main_v23
  let main_c_7 : IVec S_ 1 := constantI S_ 1 1#1
  let main_v25 : IVec S_ 1 := (fun x v => Host.reduce IntOp.andi x v reducesTo_S1x512_S_d0_1 h_S_) main_v24 main_c_7
  let main_v26 : IVec S_ 1 := andi main_v21 main_v25
  let main_v27 : FVec F S1x512 .f32 := Host.absf main_arg10
  let main_cst_8 : FVec F S_ .f32 := constant S_ .f32 0x7F800000#32
  let main_v28 : FVec F S1x512 .f32 := broadcastInDim S1x512 ![] bcast_S_S1x512 main_cst_8
  let main_v29 : IVec S1x512 1 := cmpf .olt main_v27 main_v28
  let main_c_9 : IVec S_ 1 := constantI S_ 1 1#1
  let main_v30 : IVec S_ 1 := (fun x v => Host.reduce IntOp.andi x v reducesTo_S1x512_S_d0_1 h_S_) main_v29 main_c_9
  let main_v31 : IVec S_ 1 := andi main_v26 main_v30
  main_v31

def fn {F : FTy → Type} [FloatOps F] (main_arg0 : FVec F S16384x512 .f32) (main_arg1 : FVec F S16384x512 .f32) (main_arg2 : FVec F S16384x768 .f32) (main_arg3 : FVec F S16384x6144 .bf16) (main_arg4 : FVec F S16384x128 .f32) (main_arg5 : FVec F S8x16384 .f32) (main_arg6 : FVec F S64x4x128x128 .f32) (main_arg7 : FVec F S8x128 .f32) (main_arg8 : FVec F S16x256 .f32) (main_arg9 : FVec F S1x512 .f32) (main_arg10 : FVec F S1x512 .f32) : IVec S_ 1 :=
  let main_v0 : FVec F S16384x512 .bf16 := (extractStridedSlice S16384x512 ![0, 5632] · slices_S16384x6144_S16384x512_0_5632) main_arg3
  let main_v1 : FVec F S16384x512 .f32 := (extf .f32 · bitsLt_bf16_f32) main_v0
  let main_v2 : FVec F S16384x512 .f32 := Host.absf main_arg0
  let main_cst : FVec F S_ .f32 := constant S_ .f32 0x7F800000#32
  let main_v3 : FVec F S16384x512 .f32 := broadcastInDim S16384x512 ![] bcast_S_S16384x512 main_cst
  let main_v4 : IVec S16384x512 1 := cmpf .olt main_v2 main_v3
  let main_c : IVec S_ 1 := constantI S_ 1 1#1
  let main_v5 : IVec S_ 1 := (fun x v => Host.reduce IntOp.andi x v reducesTo_S16384x512_S_d0_1 h_S_) main_v4 main_c
  let main_v6 : FVec F S16384x512 .f32 := Host.absf main_arg1
  let main_cst_0 : FVec F S_ .f32 := constant S_ .f32 0x7F800000#32
  let main_v7 : FVec F S16384x512 .f32 := broadcastInDim S16384x512 ![] bcast_S_S16384x512 main_cst_0
  let main_v8 : IVec S16384x512 1 := cmpf .olt main_v6 main_v7
  let main_c_1 : IVec S_ 1 := constantI S_ 1 1#1
  let main_v9 : IVec S_ 1 := (fun x v => Host.reduce IntOp.andi x v reducesTo_S16384x512_S_d0_1 h_S_) main_v8 main_c_1
  let main_v10 : IVec S_ 1 := andi main_v5 main_v9
  let main_v11 : FVec F S16384x512 .f32 := (extractStridedSlice S16384x512 ![0, 0] · slices_S16384x768_S16384x512_0_0) main_arg2
  let main_v12 : FVec F S16384x512 .f32 := Host.absf main_v11
  let main_cst_2 : FVec F S_ .f32 := constant S_ .f32 0x7F800000#32
  let main_v13 : FVec F S16384x512 .f32 := broadcastInDim S16384x512 ![] bcast_S_S16384x512 main_cst_2
  let main_v14 : IVec S16384x512 1 := cmpf .olt main_v12 main_v13
  let main_c_3 : IVec S_ 1 := constantI S_ 1 1#1
  let main_v15 : IVec S_ 1 := (fun x v => Host.reduce IntOp.andi x v reducesTo_S16384x512_S_d0_1 h_S_) main_v14 main_c_3
  let main_v16 : IVec S_ 1 := andi main_v10 main_v15
  let main_v17 : FVec F S16384x512 .f32 := Host.absf main_v1
  fn_part1 (F := F) main_arg9 main_arg10 main_v16 main_v17
-- ==== Pre_finite18.lean ====
abbrev S16384x1024 : Shape := ⟨2, ![16384, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S16384x1024 .f32) (main_arg1 : FVec F S16384x1024 .f32) (main_arg2 : FVec F S16384x1024 .f32) (main_arg3 : FVec F S1x1024 .f32) (main_arg4 : FVec F S1x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Pre_finite19.lean ====
abbrev S16384x1024 : Shape := ⟨2, ![16384, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S16384x1024 .f32) (main_arg1 : FVec F S16384x1024 .f32) (main_arg2 : FVec F S1x1024 .f32) (main_arg3 : FVec F S1x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Pre_finite2.lean ====
abbrev S16384x1024 : Shape := ⟨2, ![16384, 1024]⟩
abbrev S2816x1024 : Shape := ⟨2, ![2816, 1024]⟩
abbrev S16384x2816 : Shape := ⟨2, ![16384, 2816]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S16384x2816 : S_.BroadcastsInDim S16384x2816 (![] : Fin 0 → Fin S16384x2816.rank)
  reducesTo_S16384x2816_S_d0_1 : S16384x2816.ReducesTo [0, 1] S_

variable [Facts]

def fn_part1 {F : FTy → Type} [FloatOps F] (main_v16 : IVec S_ 1) (main_v17 : FVec F S16384x2816 .f32) : IVec S_ 1 :=
  let main_v18 : FVec F S16384x2816 .f32 := Host.absf main_v17
  let main_cst_4 : FVec F S_ .f32 := constant S_ .f32 0x7F800000#32
  let main_v19 : FVec F S16384x2816 .f32 := broadcastInDim S16384x2816 ![] bcast_S_S16384x2816 main_cst_4
  let main_v20 : IVec S16384x2816 1 := cmpf .olt main_v18 main_v19
  let main_c_5 : IVec S_ 1 := constantI S_ 1 1#1
  let main_v21 : IVec S_ 1 := (fun x v => Host.reduce IntOp.andi x v reducesTo_S16384x2816_S_d0_1 h_S_) main_v20 main_c_5
  let main_v22 : IVec S_ 1 := andi main_v16 main_v21
  main_v22

def fn {F : FTy → Type} [FloatOps F] (main_arg0 : FVec F S16384x1024 .bf16) (main_arg1 : FVec F S2816x1024 .bf16) (main_arg2 : FVec F S16384x2816 .bf16) (main_arg3 : FVec F S16384x2816 .bf16) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S16384x2816 .f32 := (extf .f32 · bitsLt_bf16_f32) main_arg2
  let main_v12 : FVec F S16384x2816 .f32 := Host.absf main_v11
  let main_cst_2 : FVec F S_ .f32 := constant S_ .f32 0x7F800000#32
  let main_v13 : FVec F S16384x2816 .f32 := broadcastInDim S16384x2816 ![] bcast_S_S16384x2816 main_cst_2
  let main_v14 : IVec S16384x2816 1 := cmpf .olt main_v12 main_v13
  let main_c_3 : IVec S_ 1 := constantI S_ 1 1#1
  let main_v15 : IVec S_ 1 := (fun x v => Host.reduce IntOp.andi x v reducesTo_S16384x2816_S_d0_1 h_S_) main_v14 main_c_3
  let main_v16 : IVec S_ 1 := andi main_v10 main_v15
  let main_v17 : FVec F S16384x2816 .f32 := (extf .f32 · bitsLt_bf16_f32) main_arg3
  fn_part1 (F := F) main_v16 main_v17
-- ==== Pre_finite20.lean ====
abbrev S16384x1024 : Shape := ⟨2, ![16384, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v18 : IVec S_ 1) (main_v32 : IVec S_ 1) (main_v33 : FVec F S1x1024 .f32) : IVec S_ 1 :=
  let main_cst_12 : FVec F S_ .f32 := constant S_ .f32 0x7F800000#32
  let main_v34 : FVec F S1x1024 .f32 := broadcastInDim S1x1024 ![] bcast_S_S1x1024 main_cst_12
  let main_v35 : IVec S1x1024 1 := cmpf .olt main_v33 main_v34
  let main_c_13 : IVec S_ 1 := constantI S_ 1 1#1
  let main_v36 : IVec S_ 1 := (fun x v => Host.reduce IntOp.andi x v reducesTo_S1x1024_S_d0_1 h_S_) main_v35 main_c_13
  let main_v37 : IVec S_ 1 := andi main_v32 main_v36
  let main_v38 : IVec S_ 1 := andi main_v18 main_v37
  main_v38

def fn_part1 {F : FTy → Type} [FloatOps F] (main_arg2 : FVec F S16384x1024 .f32) (main_arg5 : FVec F S16384x1024 .f32) (main_arg6 : FVec F S1x1024 .f32) (main_arg7 : FVec F S1x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S16384x1024 .f32 := Host.absf main_arg2
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : FVec F S16384x1024 .f32 := Host.absf main_arg5
  let main_cst_8 : FVec F S_ .f32 := constant S_ .f32 0x7F800000#32
  let main_v24 : FVec F S16384x1024 .f32 := broadcastInDim S16384x1024 ![] bcast_S_S16384x1024 main_cst_8
  let main_v25 : IVec S16384x1024 1 := cmpf .olt main_v23 main_v24
  let main_c_9 : IVec S_ 1 := constantI S_ 1 1#1
  let main_v26 : IVec S_ 1 := (fun x v => Host.reduce IntOp.andi x v reducesTo_S16384x1024_S_d0_1 h_S_) main_v25 main_c_9
  let main_v27 : IVec S_ 1 := andi main_v22 main_v26
  let main_v28 : FVec F S1x1024 .f32 := Host.absf main_arg6
  let main_cst_10 : FVec F S_ .f32 := constant S_ .f32 0x7F800000#32
  let main_v29 : FVec F S1x1024 .f32 := broadcastInDim S1x1024 ![] bcast_S_S1x1024 main_cst_10
  let main_v30 : IVec S1x1024 1 := cmpf .olt main_v28 main_v29
  let main_c_11 : IVec S_ 1 := constantI S_ 1 1#1
  let main_v31 : IVec S_ 1 := (fun x v => Host.reduce IntOp.andi x v reducesTo_S1x1024_S_d0_1 h_S_) main_v30 main_c_11
  let main_v32 : IVec S_ 1 := andi main_v27 main_v31
  let main_v33 : FVec F S1x1024 .f32 := Host.absf main_arg7
  fn_part2 (F := F) main_v18 main_v32 main_v33

def fn {F : FTy → Type} [FloatOps F] (main_arg0 : FVec F S16384x1024 .f32) (main_arg1 : FVec F S16384x1024 .f32) (main_arg2 : FVec F S16384x1024 .f32) (main_arg3 : FVec F S1x1024 .f32) (main_arg4 : FVec F S1x1024 .f32) (main_arg5 : FVec F S16384x1024 .f32) (main_arg6 : FVec F S1x1024 .f32) (main_arg7 : FVec F S1x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg2 main_arg5 main_arg6 main_arg7 main_v13 main_v16
-- ==== Pre_kept.lean ====
abbrev S16384x768 : Shape := ⟨2, ![16384, 768]⟩
abbrev S16384x256 : Shape := ⟨2, ![16384, 256]⟩
abbrev S16384x4x64 : Shape := ⟨3, ![16384, 4, 64]⟩
abbrev S4x16384x16384 : Shape := ⟨3, ![4, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S4x16384x16128 : Shape := ⟨3, ![4, 16384, 16128]⟩
abbrev S4x16384 : Shape := ⟨2, ![4, 16384]⟩
abbrev S2x2x64x256 : Shape := ⟨4, ![2, 2, 64, 256]⟩
abbrev S2x64 : Shape := ⟨2, ![2, 64]⟩

class Facts : Prop where
  slices_S16384x768_S16384x256_0_0 : S16384x768.Slices ![0, 0] S16384x256
  bitsLt_bf16_f32 : FTy.bits .bf16 < FTy.bits .f32
  shapeCasts_S16384x256_S16384x4x64 : S16384x256.ShapeCasts S16384x4x64
  slices_S16384x768_S16384x256_0_256 : S16384x768.Slices ![0, 256] S16384x256
  slices_S16384x768_S16384x256_0_512 : S16384x768.Slices ![0, 512] S16384x256
  bcast_S16384_S1x16384_1 : S16384.BroadcastsInDim S1x16384 (![1] : Fin 1 → Fin S1x16384.rank)
  bcast_S16384_S16384x1_0 : S16384.BroadcastsInDim S16384x1 (![0] : Fin 1 → Fin S16384x1.rank)
  bcast_S1x16384_S16384x16384_0_1 : S1x16384.BroadcastsInDim S16384x16384 (![0, 1] : Fin 2 → Fin S16384x16384.rank)
  bcast_S16384x1_S16384x16384_0_1 : S16384x1.BroadcastsInDim S16384x16384 (![0, 1] : Fin 2 → Fin S16384x16384.rank)
  bcast_S_S4x16384x16384 : S_.BroadcastsInDim S4x16384x16384 (![] : Fin 0 → Fin S4x16384x16384.rank)
  bcast_S16384x16384_S4x16384x16384_1_2 : S16384x16384.BroadcastsInDim S4x16384x16384 (![1, 2] : Fin 2 → Fin S4x16384x16384.rank)
  slices_S4x16384x16384_S4x16384x16128_0_0_256 : S4x16384x16384.Slices ![0, 0, 256] S4x16384x16128
  reducesTo_S4x16384x16128_S4x16384_d2 : S4x16384x16128.ReducesTo [2] S4x16384
  h_S_ : 0 < S_.numel
  shapeCasts_S4x16384_S2x2x64x256 : S4x16384.ShapeCasts S2x2x64x256
  reducesTo_S2x2x64x256_S2x64_d1_3 : S2x2x64x256.ReducesTo [1, 3] S2x64
  bcast_S_S2x64 : S_.BroadcastsInDim S2x64 (![] : Fin 0 → Fin S2x64.rank)
  reducesTo_S2x64_S_d0_1 : S2x64.ReducesTo [0, 1] S_
  dot_S16384x4x64_S16384x4x64_S4x16384x16384_2_2_0_0_1_1_wf : DotDims.WF S16384x4x64 S16384x4x64 S4x16384x16384 [2] [2] [0] [0] [1] [1]

variable [Facts]

def dot_S16384x4x64_S16384x4x64_S4x16384x16384_2_2_0_0_1_1 : DotDims S16384x4x64 S16384x4x64 S4x16384x16384 where
  lhsContracting := [2]
  rhsContracting := [2]
  lhsNonContracting := [0]
  rhsNonContracting := [0]
  lhsBatch := [1]
  rhsBatch := [1]
  wf := dot_S16384x4x64_S16384x4x64_S4x16384x16384_2_2_0_0_1_1_wf
def fn_softplus {F : FTy → Type} [FloatOps F] (arg0 : FVec F S4x16384x16384 .f32) : FVec F S4x16384x16384 .f32 :=
  let cst : FVec F S_ .f32 := constant S_ .f32 0x00000000#32
  let v0 : FVec F S4x16384x16384 .f32 := broadcastInDim S4x16384x16384 ![] bcast_S_S4x16384x16384 cst
  let v1 : FVec F S4x16384x16384 .f32 := maximumf arg0 v0
  let v2 : FVec F S4x16384x16384 .f32 := broadcastInDim S4x16384x16384 ![] bcast_S_S4x16384x16384 cst
  let v3 : FVec F S4x16384x16384 .f32 := subf arg0 v2
  let v4 : IVec S4x16384x16384 1 := cmpf .une v3 v3
  let v5 : FVec F S4x16384x16384 .f32 := broadcastInDim S4x16384x16384 ![] bcast_S_S4x16384x16384 cst
  let v6 : FVec F S4x16384x16384 .f32 := addf arg0 v5
  let v7 : FVec F S4x16384x16384 .f32 := Host.absf v3
  let v8 : FVec F S4x16384x16384 .f32 := Host.negf v7
  let v9 : FVec F S4x16384x16384 .f32 := Host.exp v8
  let v10 : FVec F S4x16384x16384 .f32 := Host.log1p v9
  let v11 : FVec F S4x16384x16384 .f32 := addf v1 v10
  let v12 : FVec F S4x16384x16384 .f32 := select v4 v6 v11
  v12

def fn_log_sigmoid {F : FTy → Type} [FloatOps F] (arg0 : FVec F S4x16384x16384 .f32) : FVec F S4x16384x16384 .f32 :=
  let v0 : FVec F S4x16384x16384 .f32 := Host.negf arg0
  let v1 : FVec F S4x16384x16384 .f32 := fn_softplus (F := F) v0
  let v2 : FVec F S4x16384x16384 .f32 := Host.negf v1
  v2

def fn_where {F : FTy → Type} [FloatOps F] (arg0 : IVec S16384x16384 1) (arg1 : FVec F S4x16384x16384 .f32) (arg2 : FVec F S_ .f32) : FVec F S4x16384x16384 .f32 :=
  let v0 : FVec F S_ .f32 := id arg2
  let v1 : IVec S4x16384x16384 1 := broadcastInDim S4x16384x16384 ![1, 2] bcast_S16384x16384_S4x16384x16384_1_2 arg0
  let v2 : FVec F S4x16384x16384 .f32 := broadcastInDim S4x16384x16384 ![] bcast_S_S4x16384x16384 v0
  let v3 : FVec F S4x16384x16384 .f32 := select v1 arg1 v2
  v3

def fn_part1 {F : FTy → Type} [FloatOps F] (main_v21 : FVec F S4x16384 .f32) : IVec S_ 1 :=
  let main_v22 : FVec F S2x2x64x256 .f32 := shapeCast S2x2x64x256 main_v21 shapeCasts_S4x16384_S2x2x64x256
  let main_cst_1 : FVec F S_ .f32 := constant S_ .f32 0xFF800000#32
  let main_v23 : FVec F S2x64 .f32 := (fun x v => Host.reduce FloatOps.maximumf x v reducesTo_S2x2x64x256_S2x64_d1_3 h_S_) main_v22 main_cst_1
  let main_cst_2 : FVec F S_ .f32 := constant S_ .f32 0xC2D00000#32
  let main_v24 : FVec F S2x64 .f32 := broadcastInDim S2x64 ![] bcast_S_S2x64 main_cst_2
  let main_v25 : IVec S2x64 1 := cmpf .oge main_v23 main_v24
  let main_c : IVec S_ 1 := constantI S_ 1 1#1
  let main_v26 : IVec S_ 1 := (fun x v => Host.reduce IntOp.andi x v reducesTo_S2x64_S_d0_1 h_S_) main_v25 main_c
  main_v26

def fn {F : FTy → Type} [FloatOps F] (main_arg0 : FVec F S16384x768 .bf16) : IVec S_ 1 :=
  let main_v0 : FVec F S16384x256 .bf16 := (extractStridedSlice S16384x256 ![0, 0] · slices_S16384x768_S16384x256_0_0) main_arg0
  let main_v1 : FVec F S16384x256 .f32 := (extf .f32 · bitsLt_bf16_f32) main_v0
  let main_v2 : FVec F S16384x4x64 .f32 := shapeCast S16384x4x64 main_v1 shapeCasts_S16384x256_S16384x4x64
  let main_v3 : FVec F S16384x256 .bf16 := (extractStridedSlice S16384x256 ![0, 256] · slices_S16384x768_S16384x256_0_256) main_arg0
  let main_v4 : FVec F S16384x256 .f32 := (extf .f32 · bitsLt_bf16_f32) main_v3
  let main_v5 : FVec F S16384x4x64 .f32 := shapeCast S16384x4x64 main_v4 shapeCasts_S16384x256_S16384x4x64
  let main_v6 : FVec F S16384x256 .bf16 := (extractStridedSlice S16384x256 ![0, 512] · slices_S16384x768_S16384x256_0_512) main_arg0
  let main_v7 : FVec F S16384x256 .f32 := (extf .f32 · bitsLt_bf16_f32) main_v6
  let main_v8 : FVec F S16384x4x64 .f32 := shapeCast S16384x4x64 main_v7 shapeCasts_S16384x256_S16384x4x64
  let main_v9 : FVec F S4x16384x16384 .f32 := (fun l r => Host.dotGeneral dot_S16384x4x64_S16384x4x64_S4x16384x16384_2_2_0_0_1_1 none l r) main_v2 main_v5
  let main_v10 : IVec S16384 32 := iotaInDim S16384 32 0
  let main_v11 : IVec S1x16384 32 := broadcastInDim S1x16384 ![1] bcast_S16384_S1x16384_1 main_v10
  let main_v12 : IVec S16384 32 := iotaInDim S16384 32 0
  let main_v13 : IVec S16384x1 32 := broadcastInDim S16384x1 ![0] bcast_S16384_S16384x1_0 main_v12
  let main_v14 : IVec S16384x16384 32 := broadcastInDim S16384x16384 ![0, 1] bcast_S1x16384_S16384x16384_0_1 main_v11
  let main_v15 : IVec S16384x16384 32 := broadcastInDim S16384x16384 ![0, 1] bcast_S16384x1_S16384x16384_0_1 main_v13
  let main_v16 : IVec S16384x16384 1 := cmpi .slt main_v14 main_v15
  let main_v17 : FVec F S4x16384x16384 .f32 := Host.negf main_v9
  let main_v18 : FVec F S4x16384x16384 .f32 := fn_log_sigmoid (F := F) main_v17
  let main_cst : FVec F S_ .f32 := constant S_ .f32 0x00000000#32
  let main_v19 : FVec F S4x16384x16384 .f32 := fn_where (F := F) main_v16 main_v18 main_cst
  let main_v20 : FVec F S4x16384x16128 .f32 := (extractStridedSlice S4x16384x16128 ![0, 0, 256] · slices_S4x16384x16384_S4x16384x16128_0_0_256) main_v19
  let main_cst_0 : FVec F S_ .f32 := constant S_ .f32 0x00000000#32
  let main_v21 : FVec F S4x16384 .f32 := (fun x v => Host.reduceAdd x v reducesTo_S4x16384x16128_S4x16384_d2 h_S_) main_v20 main_cst_0
  fn_part1 (F := F) main_v21
-- ==== Kernel.lean ====
abbrev S16384x512 : Shape := ⟨2, ![16384, 512]⟩
abbrev S16384x768 : Shape := ⟨2, ![16384, 768]⟩
abbrev S16384x6144 : Shape := ⟨2, ![16384, 6144]⟩
abbrev S16384x128 : Shape := ⟨2, ![16384, 128]⟩
abbrev S8x16384 : Shape := ⟨2, ![8, 16384]⟩
abbrev S64x4x128x128 : Shape := ⟨4, ![64, 4, 128, 128]⟩
abbrev S8x128 : Shape := ⟨2, ![8, 128]⟩
abbrev S16x256 : Shape := ⟨2, ![16, 256]⟩
abbrev S1x512 : Shape := ⟨2, ![1, 512]⟩
abbrev S256x512 : Shape := ⟨2, ![256, 512]⟩
abbrev S256x768 : Shape := ⟨2, ![256, 768]⟩
abbrev S256x128 : Shape := ⟨2, ![256, 128]⟩
abbrev S8x256 : Shape := ⟨2, ![8, 256]⟩
abbrev S1x4x128x128 : Shape := ⟨4, ![1, 4, 128, 128]⟩
abbrev S4x128x128 : Shape := ⟨3, ![4, 128, 128]⟩
abbrev S256x256 : Shape := ⟨2, ![256, 256]⟩
abbrev S128x512 : Shape := ⟨2, ![128, 512]⟩
abbrev S512x128 : Shape := ⟨2, ![512, 128]⟩
abbrev S1x128 : Shape := ⟨2, ![1, 128]⟩
abbrev S128x1 : Shape := ⟨2, ![128, 1]⟩
abbrev S256 : Shape := ⟨1, ![256]⟩
abbrev S256x1 : Shape := ⟨2, ![256, 1]⟩
abbrev S1x256 : Shape := ⟨2, ![1, 256]⟩
abbrev S512 : Shape := ⟨1, ![512]⟩
abbrev S128x256 : Shape := ⟨2, ![128, 256]⟩
abbrev S1x1x128x128 : Shape := ⟨4, ![1, 1, 128, 128]⟩
abbrev S128x128 : Shape := ⟨2, ![128, 128]⟩
abbrev S1x128x128 : Shape := ⟨3, ![1, 128, 128]⟩
abbrev S128 : Shape := ⟨1, ![128]⟩
abbrev S8x512 : Shape := ⟨2, ![8, 512]⟩

abbrev nBuf : Space → Nat
  | .hbm => 21
  | .vmem => 28
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x768, .f32⟩
  | .hbm, ⟨3, _⟩ => ⟨S16384x6144, .bf16⟩
  | .hbm, ⟨4, _⟩ => ⟨S16384x128, .f32⟩
  | .hbm, ⟨5, _⟩ => ⟨S8x16384, .f32⟩
  | .hbm, ⟨6, _⟩ => ⟨S64x4x128x128, .f32⟩
  | .hbm, ⟨7, _⟩ => ⟨S8x128, .f32⟩
  | .hbm, ⟨8, _⟩ => ⟨S16x256, .f32⟩
  | .hbm, ⟨9, _⟩ => ⟨S1x512, .f32⟩
  | .hbm, ⟨10, _⟩ => ⟨S1x512, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S16384x768, .f32⟩
  | .hbm, ⟨17, _⟩ => ⟨S16384x128, .f32⟩
  | .hbm, ⟨18, _⟩ => ⟨S1x512, .f32⟩
  | .hbm, ⟨19, _⟩ => ⟨S1x512, .f32⟩
  | .hbm, ⟨20, _⟩ => ⟨S8x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x768, .f32⟩
  | .local _ .vmem, ⟨5, _⟩ => ⟨S256x768, .f32⟩
  | .local _ .vmem, ⟨6, _⟩ => ⟨S256x128, .f32⟩
  | .local _ .vmem, ⟨7, _⟩ => ⟨S256x128, .f32⟩
  | .local _ .vmem, ⟨8, _⟩ => ⟨S256x512, .bf16⟩
  | .local _ .vmem, ⟨9, _⟩ => ⟨S256x512, .bf16⟩
  | .local _ .vmem, ⟨10, _⟩ => ⟨S8x256, .f32⟩
  | .local _ .vmem, ⟨11, _⟩ => ⟨S8x256, .f32⟩
  | .local _ .vmem, ⟨12, _⟩ => ⟨S1x4x128x128, .f32⟩
  | .local _ .vmem, ⟨13, _⟩ => ⟨S1x4x128x128, .f32⟩
  | .local _ .vmem, ⟨14, _⟩ => ⟨S8x128, .f32⟩
  | .local _ .vmem, ⟨15, _⟩ => ⟨S16x256, .f32⟩
  | .local _ .vmem, ⟨16, _⟩ => ⟨S1x512, .f32⟩
  | .local _ .vmem, ⟨17, _⟩ => ⟨S1x512, .f32⟩
  | .local _ .vmem, ⟨18, _⟩ => ⟨S256x512, .f32⟩
  | .local _ .vmem, ⟨19, _⟩ => ⟨S256x512, .f32⟩
  | .local _ .vmem, ⟨20, _⟩ => ⟨S256x768, .f32⟩
  | .local _ .vmem, ⟨21, _⟩ => ⟨S256x768, .f32⟩
  | .local _ .vmem, ⟨22, _⟩ => ⟨S256x128, .f32⟩
  | .local _ .vmem, ⟨23, _⟩ => ⟨S256x128, .f32⟩
  | .local _ .vmem, ⟨24, _⟩ => ⟨S1x512, .f32⟩
  | .local _ .vmem, ⟨25, _⟩ => ⟨S1x512, .f32⟩
  | .local _ .vmem, ⟨26, _⟩ => ⟨S8x128, .f32⟩
  | .local _ .vmem, ⟨27, _⟩ => ⟨S4x128x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v4_4 : Ref sig .tc := ⟨.hbm, 19, rfl⟩
abbrev main_v4_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c11_i32 : BitVec 32 := 11#32
  let c0_i32 : BitVec 32 := 0#32
  ![v0.toNat, c11_i32.toNat]

def cc0_transform_5 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![c0_i32.toNat, v0.toNat]

def cc0_transform_6 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference.lean ====
abbrev S16384x512 : Shape := ⟨2, ![16384, 512]⟩
abbrev S16384x768 : Shape := ⟨2, ![16384, 768]⟩
abbrev S16384x6144 : Shape := ⟨2, ![16384, 6144]⟩
abbrev S16384x128 : Shape := ⟨2, ![16384, 128]⟩
abbrev S8x16384 : Shape := ⟨2, ![8, 16384]⟩
abbrev S64x4x128x128 : Shape := ⟨4, ![64, 4, 128, 128]⟩
abbrev S8x128 : Shape := ⟨2, ![8, 128]⟩
abbrev S16x256 : Shape := ⟨2, ![16, 256]⟩
abbrev S1x512 : Shape := ⟨2, ![1, 512]⟩
abbrev S_ : Shape := ⟨0, ![]⟩
abbrev S16384x2x256 : Shape := ⟨3, ![16384, 2, 256]⟩
abbrev S16384x2 : Shape := ⟨2, ![16384, 2]⟩
abbrev S16384x2x1 : Shape := ⟨3, ![16384, 2, 1]⟩
abbrev S512 : Shape := ⟨1, ![512]⟩

abbrev nBuf : Space → Nat
  | .hbm => 87
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x768, .f32⟩
  | .hbm, ⟨3, _⟩ => ⟨S16384x6144, .bf16⟩
  | .hbm, ⟨4, _⟩ => ⟨S16384x128, .f32⟩
  | .hbm, ⟨5, _⟩ => ⟨S8x16384, .f32⟩
  | .hbm, ⟨6, _⟩ => ⟨S64x4x128x128, .f32⟩
  | .hbm, ⟨7, _⟩ => ⟨S8x128, .f32⟩
  | .hbm, ⟨8, _⟩ => ⟨S16x256, .f32⟩
  | .hbm, ⟨9, _⟩ => ⟨S1x512, .f32⟩
  | .hbm, ⟨10, _⟩ => ⟨S1x512, .f32⟩
  | .hbm, ⟨11, _⟩ => ⟨S16384x512, .bf16⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S_, .f32⟩
  | .hbm, ⟨20, _⟩ => ⟨S16384x512, .f32⟩
  | .hbm, ⟨21, _⟩ => ⟨S16384x512, .f32⟩
  | .hbm, ⟨22, _⟩ => ⟨S_, .f32⟩
  | .hbm, ⟨23, _⟩ => ⟨S16384x512, .f32⟩
  | .hbm, ⟨24, _⟩ => ⟨S16384x512, .f32⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x2x256, .f32⟩
  | .hbm, ⟨32, _⟩ => ⟨S16384x2x256, .f32⟩
  | .hbm, ⟨33, _⟩ => ⟨S_, .f32⟩
  | .hbm, ⟨34, _⟩ => ⟨S16384x2, .f32⟩
  | .hbm, ⟨35, _⟩ => ⟨S16384x2x1, .f32⟩
  | .hbm, ⟨36, _⟩ => ⟨S_, .f32⟩
  | .hbm, ⟨37, _⟩ => ⟨S16384x2x1, .f32⟩
  | .hbm, ⟨38, _⟩ => ⟨S16384x2x1, .f32⟩
  | .hbm, ⟨39, _⟩ => ⟨S_, .f32⟩
  | .hbm, ⟨40, _⟩ => ⟨S16384x2x1, .f32⟩
  | .hbm, ⟨41, _⟩ => ⟨S16384x2x1, .f32⟩
  | .hbm, ⟨42, _⟩ => ⟨S16384x2x1, .f32⟩
  | .hbm, ⟨43, _⟩ => ⟨S16384x2x1, .f32⟩
  | .hbm, ⟨44, _⟩ => ⟨S_, .f32⟩
  | .hbm, ⟨45, _⟩ => ⟨S16384x2x1, .f32⟩
  | .hbm, ⟨46, _⟩ => ⟨S16384x2x1, .f32⟩
  | .hbm, ⟨47, _⟩ => ⟨S16384x2x256, .f32⟩
  | .hbm, ⟨48, _⟩ => ⟨S16384x2x256, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S16384x512, .f32⟩
  | .hbm, ⟨53, _⟩ => ⟨S_, .f32⟩
  | .hbm, ⟨54, _⟩ => ⟨S512, .f32⟩
  | .hbm, ⟨55, _⟩ => ⟨S1x512, .f32⟩
  | .hbm, ⟨56, _⟩ => ⟨S16384x512, .f32⟩
  | .hbm, ⟨57, _⟩ => ⟨S16384x512, .f32⟩
  | .hbm, ⟨58, _⟩ => ⟨S16384x2x256, .f32⟩
  | .hbm, ⟨59, _⟩ => ⟨S16384x2x256, .f32⟩
  | .hbm, ⟨60, _⟩ => ⟨S_, .f32⟩
  | .hbm, ⟨61, _⟩ => ⟨S16384x2, .f32⟩
  | .hbm, ⟨62, _⟩ => ⟨S16384x2x1, .f32⟩
  | .hbm, ⟨63, _⟩ => ⟨S16384x2x256, .f32⟩
  | .hbm, ⟨64, _⟩ => ⟨S16384x2x256, .f32⟩
  | .hbm, ⟨65, _⟩ => ⟨S16384x2x1, .f32⟩
  | .hbm, ⟨66, _⟩ => ⟨S_, .f32⟩
  | .hbm, ⟨67, _⟩ => ⟨S16384x2x1, .f32⟩
  | .hbm, ⟨68, _⟩ => ⟨S16384x2x1, .f32⟩
  | .hbm, ⟨69, _⟩ => ⟨S_, .f32⟩
  | .hbm, ⟨70, _⟩ => ⟨S16384x2, .f32⟩
  | .hbm, ⟨71, _⟩ => ⟨S16384x2x256, .f32⟩
  | .hbm, ⟨72, _⟩ => ⟨S16384x2x256, .f32⟩
  | .hbm, ⟨73, _⟩ => ⟨S16384x2x256, .f32⟩
  | .hbm, ⟨74, _⟩ => ⟨S16384x2x256, .f32⟩
  | .hbm, ⟨75, _⟩ => ⟨S16384x2x256, .f32⟩
  | .hbm, ⟨76, _⟩ => ⟨S16384x512, .f32⟩
  | .hbm, ⟨77, _⟩ => ⟨S16384x512, .f32⟩
  | .hbm, ⟨78, _⟩ => ⟨S16384x512, .f32⟩
  | .hbm, ⟨79, _⟩ => ⟨S16384x512, .f32⟩
  | .hbm, ⟨80, _⟩ => ⟨S16384x512, .f32⟩
  | .hbm, ⟨81, _⟩ => ⟨S16384x512, .f32⟩
  | .hbm, ⟨82, _⟩ => ⟨S16384x512, .f32⟩
  | .hbm, ⟨83, _⟩ => ⟨S16384x512, .f32⟩
  | .hbm, ⟨84, _⟩ => ⟨S_, .f32⟩
  | .hbm, ⟨85, _⟩ => ⟨S512, .f32⟩
  | .hbm, ⟨86, _⟩ => ⟨S1x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v6_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v6_1 : Ref sig .tc := ⟨.hbm, 28, rfl⟩
abbrev main_v6_0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_cst_0 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_3 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_4 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_5 : Ref sig .tc := ⟨.hbm, 66, rfl⟩
abbrev main_v37 : Ref sig .tc := ⟨.hbm, 67, rfl⟩
abbrev main_v38 : Ref sig .tc := ⟨.hbm, 68, rfl⟩
abbrev main_cst_6 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v48 : Ref sig .tc := ⟨.hbm, 82, rfl⟩
abbrev main_v49 : Ref sig .tc := ⟨.hbm, 83, rfl⟩
abbrev main_cst_7 : Ref sig .tc := ⟨.hbm, 84, rfl⟩
abbrev main_v50 : Ref sig .tc := ⟨.hbm, 85, rfl⟩
abbrev main_v51 : Ref sig .tc := ⟨.hbm, 86, rfl⟩

abbrev nD : Nat := 1
abbrev τ : Topo := Topo.v7x

variable {F : FTy → Type} [FloatOps F]
-- ==== Kernel2.lean ====
abbrev S16384x1024 : Shape := ⟨2, ![16384, 1024]⟩
abbrev S2816x1024 : Shape := ⟨2, ![2816, 1024]⟩
abbrev S16384x2816 : Shape := ⟨2, ![16384, 2816]⟩
abbrev S256x1024 : Shape := ⟨2, ![256, 1024]⟩
abbrev S256x2816 : Shape := ⟨2, ![256, 2816]⟩
abbrev S256x256 : Shape := ⟨2, ![256, 256]⟩

abbrev nBuf : Space → Nat
  | .hbm => 6
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S16384x2816, .bf16⟩
  | .hbm, ⟨3, _⟩ => ⟨S16384x2816, .bf16⟩
  | .hbm, ⟨4, _⟩ => ⟨S16384x2816, .bf16⟩
  | .hbm, ⟨5, _⟩ => ⟨S16384x2816, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2.lean ====
abbrev S16384x1024 : Shape := ⟨2, ![16384, 1024]⟩
abbrev S2816x1024 : Shape := ⟨2, ![2816, 1024]⟩
abbrev S16384x2816 : Shape := ⟨2, ![16384, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S16384x2816, .bf16⟩
  | .hbm, ⟨3, _⟩ => ⟨S16384x2816, .bf16⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S2816x1024, .f32⟩
  | .hbm, ⟨21, _⟩ => ⟨S16384x1024, .f32⟩
  | .hbm, ⟨22, _⟩ => ⟨S16384x1024, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .bf16⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel3.lean ====
abbrev S16384x6144 : Shape := ⟨2, ![16384, 6144]⟩
abbrev S1024x6144 : Shape := ⟨2, ![1024, 6144]⟩
abbrev S16384x1024 : Shape := ⟨2, ![16384, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x6144, .bf16⟩
  | .hbm, ⟨1, _⟩ => ⟨S1024x6144, .bf16⟩
  | .hbm, ⟨2, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3.lean ====
abbrev S16384x6144 : Shape := ⟨2, ![16384, 6144]⟩
abbrev S1024x6144 : Shape := ⟨2, ![1024, 6144]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S1024x6144, .bf16⟩
  | .hbm, ⟨2, _⟩ => ⟨S1024x6144, .f32⟩
  | .hbm, ⟨3, _⟩ => ⟨S16384x6144, .f32⟩
  | .hbm, ⟨4, _⟩ => ⟨S16384x1024, .f32⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S16384x1024 : Shape := ⟨2, ![16384, 1024]⟩
abbrev S16384x6144 : Shape := ⟨2, ![16384, 6144]⟩
abbrev S1024x6144 : Shape := ⟨2, ![1024, 6144]⟩
abbrev S512x1024 : Shape := ⟨2, ![512, 1024]⟩
abbrev S512x2048 : Shape := ⟨2, ![512, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x6144, .bf16⟩
  | .hbm, ⟨2, _⟩ => ⟨S1024x6144, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 32], ![false, false, false]⟩

def k0_cond2 (i : grid0.Coords) : BitVec 1 :=
  let arg2 : BitVec 32 := BitVec.ofNat 32 (i 2).val
  let c31_i32 : BitVec 32 := 31#32
  let v11 : BitVec 1 := Scalar.cmpi .eq arg2 c31_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4.lean ====
abbrev S16384x1024 : Shape := ⟨2, ![16384, 1024]⟩
abbrev S16384x6144 : Shape := ⟨2, ![16384, 6144]⟩
abbrev S6144x1024 : Shape := ⟨2, ![6144, 1024]⟩
abbrev S1024x6144 : Shape := ⟨2, ![1024, 6144]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x6144, .bf16⟩
  | .hbm, ⟨2, _⟩ => ⟨S16384x1024, .f32⟩
  | .hbm, ⟨3, _⟩ => ⟨S16384x6144, .f32⟩
  | .hbm, ⟨4, _⟩ => ⟨S6144x1024, .f32⟩
  | .hbm, ⟨5, _⟩ => ⟨S1024x6144, .f32⟩
  | .hbm, ⟨6, _⟩ => ⟨S1024x6144, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S16384x2816 : Shape := ⟨2, ![16384, 2816]⟩
abbrev S1024x5632 : Shape := ⟨2, ![1024, 5632]⟩
abbrev S16384x1024 : Shape := ⟨2, ![16384, 1024]⟩
abbrev S1024x1408 : Shape := ⟨2, ![1024, 1408]⟩
abbrev S1024x1024 : Shape := ⟨2, ![1024, 1024]⟩

abbrev nBuf : Space → Nat
  | .hbm => 4
  | .vmem => 11
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x5632, .bf16⟩
  | .hbm, ⟨3, _⟩ => ⟨S16384x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 1, 2], ![false, false, false]⟩

def k0_cond2 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference5.lean ====
abbrev S16384x2816 : Shape := ⟨2, ![16384, 2816]⟩
abbrev S1024x5632 : Shape := ⟨2, ![1024, 5632]⟩
abbrev S16384x5632 : Shape := ⟨2, ![16384, 5632]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x5632, .bf16⟩
  | .hbm, ⟨3, _⟩ => ⟨S1024x5632, .f32⟩
  | .hbm, ⟨4, _⟩ => ⟨S16384x2816, .f32⟩
  | .hbm, ⟨5, _⟩ => ⟨S16384x2816, .f32⟩
  | .hbm, ⟨6, _⟩ => ⟨S16384x5632, .f32⟩
  | .hbm, ⟨7, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S16384x1024 : Shape := ⟨2, ![16384, 1024]⟩
abbrev S16384x2816 : Shape := ⟨2, ![16384, 2816]⟩
abbrev S1024x2816 : Shape := ⟨2, ![1024, 2816]⟩
abbrev S512x1024 : Shape := ⟨2, ![512, 1024]⟩
abbrev S512x1408 : Shape := ⟨2, ![512, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S1024x2816, .bf16⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 32], ![false, false, false]⟩

def k0_cond2 (i : grid0.Coords) : BitVec 1 :=
  let arg2 : BitVec 32 := BitVec.ofNat 32 (i 2).val
  let c31_i32 : BitVec 32 := 31#32
  let v11 : BitVec 1 := Scalar.cmpi .eq arg2 c31_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6.lean ====
abbrev S16384x1024 : Shape := ⟨2, ![16384, 1024]⟩
abbrev S16384x2816 : Shape := ⟨2, ![16384, 2816]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S16384x1024, .f32⟩
  | .hbm, ⟨3, _⟩ => ⟨S16384x2816, .f32⟩
  | .hbm, ⟨4, _⟩ => ⟨S2816x1024, .f32⟩
  | .hbm, ⟨5, _⟩ => ⟨S1024x2816, .f32⟩
  | .hbm, ⟨6, _⟩ => ⟨S1024x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S16384x2816 : Shape := ⟨2, ![16384, 2816]⟩
abbrev S16384x1024 : Shape := ⟨2, ![16384, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .bf16⟩
  | .local _ .vmem, ⟨0, _⟩ => ⟨S512x1408, .bf16⟩
  | .local _ .vmem, ⟨1, _⟩ => ⟨S512x1408, .bf16⟩
  | .local _ .vmem, ⟨2, _⟩ => ⟨S512x1024, .bf16⟩
  | .local _ .vmem, ⟨3, _⟩ => ⟨S512x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 32], ![false, false, false]⟩

def k0_cond2 (i : grid0.Coords) : BitVec 1 :=
  let arg2 : BitVec 32 := BitVec.ofNat 32 (i 2).val
  let c31_i32 : BitVec 32 := 31#32
  let v11 : BitVec 1 := Scalar.cmpi .eq arg2 c31_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7.lean ====
abbrev S16384x2816 : Shape := ⟨2, ![16384, 2816]⟩
abbrev S16384x1024 : Shape := ⟨2, ![16384, 1024]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S16384x2816, .f32⟩
  | .hbm, ⟨3, _⟩ => ⟨S16384x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S16384x1024 : Shape := ⟨2, ![16384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S1024x1024, .f32⟩
  | .hbm, ⟨3, _⟩ => ⟨S16384x1024, .f32⟩
  | .hbm, ⟨4, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 32], ![false, false, false]⟩

def k0_cond2 (i : grid0.Coords) : BitVec 1 :=
  let arg2 : BitVec 32 := BitVec.ofNat 32 (i 2).val
  let c31_i32 : BitVec 32 := 31#32
  let v11 : BitVec 1 := Scalar.cmpi .eq arg2 c31_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9.lean ====
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S16384x1024 : Shape := ⟨2, ![16384, 1024]⟩
abbrev S1024x6144 : Shape := ⟨2, ![1024, 6144]⟩
abbrev S16384x6144 : Shape := ⟨2, ![16384, 6144]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x6144, .bf16⟩
  | .hbm, ⟨2, _⟩ => ⟨S16384x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10.lean ====
abbrev S16384x1024 : Shape := ⟨2, ![16384, 1024]⟩
abbrev S1024x6144 : Shape := ⟨2, ![1024, 6144]⟩
abbrev S16384x6144 : Shape := ⟨2, ![16384, 6144]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x6144, .bf16⟩
  | .hbm, ⟨2, _⟩ => ⟨S16384x1024, .f32⟩
  | .hbm, ⟨3, _⟩ => ⟨S1024x6144, .f32⟩
  | .hbm, ⟨4, _⟩ => ⟨S16384x6144, .f32⟩
  | .hbm, ⟨5, _⟩ => ⟨S16384x6144, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S16384x1024 : Shape := ⟨2, ![16384, 1024]⟩
abbrev S1024x128 : Shape := ⟨2, ![1024, 128]⟩
abbrev S16384x128 : Shape := ⟨2, ![16384, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x128, .bf16⟩
  | .hbm, ⟨2, _⟩ => ⟨S16384x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11.lean ====
abbrev S16384x1024 : Shape := ⟨2, ![16384, 1024]⟩
abbrev S1024x128 : Shape := ⟨2, ![1024, 128]⟩
abbrev S16384x128 : Shape := ⟨2, ![16384, 128]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x128, .bf16⟩
  | .hbm, ⟨2, _⟩ => ⟨S16384x1024, .f32⟩
  | .hbm, ⟨3, _⟩ => ⟨S1024x128, .f32⟩
  | .hbm, ⟨4, _⟩ => ⟨S16384x128, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S16384x1024 : Shape := ⟨2, ![16384, 1024]⟩
abbrev S1024x5632 : Shape := ⟨2, ![1024, 5632]⟩
abbrev S16384x2816 : Shape := ⟨2, ![16384, 2816]⟩
abbrev S1024x1024 : Shape := ⟨2, ![1024, 1024]⟩
abbrev S1024x1408 : Shape := ⟨2, ![1024, 1408]⟩

abbrev nBuf : Space → Nat
  | .hbm => 5
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x2816, .bf16⟩
  | .hbm, ⟨3, _⟩ => ⟨S16384x2816, .bf16⟩
  | .hbm, ⟨4, _⟩ => ⟨S16384x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference12.lean ====
abbrev S16384x1024 : Shape := ⟨2, ![16384, 1024]⟩
abbrev S1024x5632 : Shape := ⟨2, ![1024, 5632]⟩
abbrev S16384x5632 : Shape := ⟨2, ![16384, 5632]⟩
abbrev S16384x2816 : Shape := ⟨2, ![16384, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x1024, .f32⟩
  | .hbm, ⟨3, _⟩ => ⟨S1024x5632, .f32⟩
  | .hbm, ⟨4, _⟩ => ⟨S16384x5632, .f32⟩
  | .hbm, ⟨5, _⟩ => ⟨S16384x5632, .bf16⟩
  | .hbm, ⟨6, _⟩ => ⟨S16384x2816, .bf16⟩
  | .hbm, ⟨7, _⟩ => ⟨S16384x2816, .bf16⟩
  | .hbm, ⟨8, _⟩ => ⟨S16384x2816, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel13.lean ====
abbrev S16384x2816 : Shape := ⟨2, ![16384, 2816]⟩
abbrev S2816x1024 : Shape := ⟨2, ![2816, 1024]⟩
abbrev S16384x1024 : Shape := ⟨2, ![16384, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x2816, .f32⟩
  | .hbm, ⟨3, _⟩ => ⟨S2816x1024, .f32⟩
  | .hbm, ⟨4, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S16384x256 : Shape := ⟨2, ![16384, 256]⟩
abbrev S16384x512 : Shape := ⟨2, ![16384, 512]⟩
abbrev S16384x6144 : Shape := ⟨2, ![16384, 6144]⟩
abbrev S1024x1024 : Shape := ⟨2, ![1024, 1024]⟩
abbrev S16384x1024 : Shape := ⟨2, ![16384, 1024]⟩
abbrev S256x256 : Shape := ⟨2, ![256, 256]⟩
abbrev S256x512 : Shape := ⟨2, ![256, 512]⟩
abbrev S256x3072 : Shape := ⟨2, ![256, 3072]⟩
abbrev S256x1024 : Shape := ⟨2, ![256, 1024]⟩
abbrev S512x1024 : Shape := ⟨2, ![512, 1024]⟩

abbrev nBuf : Space → Nat
  | .hbm => 6
  | .vmem => 11
  | .smem => 0
  | _ => 0

abbrev bufTy : (tb : Table) → Fin (tcTables nBuf tb) → BufTy
  | .hbm, ⟨0, _⟩ => ⟨S16384x256, .bf16⟩
  | .hbm, ⟨1, _⟩ => ⟨S16384x256, .f32⟩
  | .hbm, ⟨2, _⟩ => ⟨S16384x512, .bf16⟩
  | .hbm, ⟨3, _⟩ => ⟨S16384x6144, .bf16⟩
  | .hbm, ⟨4, _⟩ => ⟨S1024x1024, .bf16⟩
  | .hbm, ⟨5, _⟩ => ⟨S16384x1024, .bf16⟩
  | .local _ .vmem, ⟨0, _⟩ => ⟨S256x256, .bf16⟩
  | .local _ .vmem, ⟨1, _⟩ => ⟨S256x256, .bf16⟩
  | .local _ .vmem, ⟨2, _⟩ => ⟨S256x256, .f32⟩
  | .local _ .vmem, ⟨3, _⟩ => ⟨S256x256, .f32⟩
  | .local _ .vmem, ⟨4, _⟩ => ⟨S256x512, .bf16⟩
  | .local _ .vmem, ⟨5, _⟩ => ⟨S256x512, .bf16⟩
  | .local _ .vmem, ⟨6, _⟩ => ⟨S256x3072, .bf16⟩
  | .local _ .vmem, ⟨7, _⟩ => ⟨S256x3072, .bf16⟩
  | .local _ .vmem, ⟨8, _⟩ => ⟨S1024x1024, .bf16⟩
  | .local _ .vmem, ⟨9, _⟩ => ⟨S256x1024, .bf16⟩
  | .local _ .vmem, ⟨10, _⟩ => ⟨S256x1024, .bf16⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference15.lean ====
abbrev S16384x256 : Shape := ⟨2, ![16384, 256]⟩
abbrev S16384x512 : Shape := ⟨2, ![16384, 512]⟩
abbrev S16384x6144 : Shape := ⟨2, ![16384, 6144]⟩
abbrev S1024x1024 : Shape := ⟨2, ![1024, 1024]⟩
abbrev S16384x3072 : Shape := ⟨2, ![16384, 3072]⟩
abbrev S256x1024 : Shape := ⟨2, ![256, 1024]⟩
abbrev S512x1024 : Shape := ⟨2, ![512, 1024]⟩
abbrev S16384x1024 : Shape := ⟨2, ![16384, 1024]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S16384x256, .f32⟩
  | .hbm, ⟨2, _⟩ => ⟨S16384x512, .bf16⟩
  | .hbm, ⟨3, _⟩ => ⟨S16384x6144, .bf16⟩
  | .hbm, ⟨4, _⟩ => ⟨S1024x1024, .bf16⟩
  | .hbm, ⟨5, _⟩ => ⟨S16384x3072, .bf16⟩
  | .hbm, ⟨6, _⟩ => ⟨S256x1024, .bf16⟩
  | .hbm, ⟨7, _⟩ => ⟨S256x1024, .bf16⟩
  | .hbm, ⟨8, _⟩ => ⟨S512x1024, .bf16⟩
  | .hbm, ⟨9, _⟩ => ⟨S16384x256, .f32⟩
  | .hbm, ⟨10, _⟩ => ⟨S256x1024, .f32⟩
  | .hbm, ⟨11, _⟩ => ⟨S16384x1024, .f32⟩
  | .hbm, ⟨12, _⟩ => ⟨S16384x1024, .bf16⟩
  | .hbm, ⟨13, _⟩ => ⟨S16384x1024, .f32⟩
  | .hbm, ⟨14, _⟩ => ⟨S256x1024, .f32⟩
  | .hbm, ⟨15, _⟩ => ⟨S16384x1024, .f32⟩
  | .hbm, ⟨16, _⟩ => ⟨S16384x1024, .bf16⟩
  | .hbm, ⟨17, _⟩ => ⟨S16384x1024, .f32⟩
  | .hbm, ⟨18, _⟩ => ⟨S16384x512, .f32⟩
  | .hbm, ⟨19, _⟩ => ⟨S512x1024, .f32⟩
  | .hbm, ⟨20, _⟩ => ⟨S16384x1024, .f32⟩
  | .hbm, ⟨21, _⟩ => ⟨S16384x1024, .bf16⟩
  | .hbm, ⟨22, _⟩ => ⟨S16384x1024, .f32⟩
  | .hbm, ⟨23, _⟩ => ⟨S16384x3072, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .bf16⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== Kernel16.lean ====
abbrev S16384x1024 : Shape := ⟨2, ![16384, 1024]⟩
abbrev S16384x256 : Shape := ⟨2, ![16384, 256]⟩
abbrev S16384x512 : Shape := ⟨2, ![16384, 512]⟩
abbrev S16384x6144 : Shape := ⟨2, ![16384, 6144]⟩
abbrev S1024x1024 : Shape := ⟨2, ![1024, 1024]⟩
abbrev S256x1024 : Shape := ⟨2, ![256, 1024]⟩
abbrev S256x256 : Shape := ⟨2, ![256, 256]⟩
abbrev S256x512 : Shape := ⟨2, ![256, 512]⟩
abbrev S256x3072 : Shape := ⟨2, ![256, 3072]⟩
abbrev S512x1024 : Shape := ⟨2, ![512, 1024]⟩
abbrev S16384x3072 : Shape := ⟨2, ![16384, 3072]⟩

abbrev nBuf : Space → Nat
  | .hbm => 12
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S16384x256, .f32⟩
  | .hbm, ⟨3, _⟩ => ⟨S16384x512, .bf16⟩
  | .hbm, ⟨4, _⟩ => ⟨S16384x6144, .bf16⟩
  | .hbm, ⟨5, _⟩ => ⟨S1024x1024, .bf16⟩
  | .hbm, ⟨6, _⟩ => ⟨S16384x6144, .bf16⟩
  | .hbm, ⟨7, _⟩ => ⟨S16384x256, .f32⟩
  | .hbm, ⟨8, _⟩ => ⟨S16384x256, .f32⟩
  | .hbm, ⟨9, _⟩ => ⟨S16384x512, .f32⟩
  | .hbm, ⟨10, _⟩ => ⟨S1024x1024, .f32⟩
  | .hbm, ⟨11, _⟩ => ⟨S16384x3072, .bf16⟩
  | .local _ .vmem, ⟨0, _⟩ => ⟨S256x1024, .f32⟩
  | .local _ .vmem, ⟨1, _⟩ => ⟨S256x1024, .f32⟩
  | .local _ .vmem, ⟨2, _⟩ => ⟨S256x256, .bf16⟩
  | .local _ .vmem, ⟨3, _⟩ => ⟨S256x256, .bf16⟩
  | .local _ .vmem, ⟨4, _⟩ => ⟨S256x256, .f32⟩
  | .local _ .vmem, ⟨5, _⟩ => ⟨S256x256, .f32⟩
  | .local _ .vmem, ⟨6, _⟩ => ⟨S256x512, .bf16⟩
  | .local _ .vmem, ⟨7, _⟩ => ⟨S256x512, .bf16⟩
  | .local _ .vmem, ⟨8, _⟩ => ⟨S256x3072, .bf16⟩
  | .local _ .vmem, ⟨9, _⟩ => ⟨S256x3072, .bf16⟩
  | .local _ .vmem, ⟨10, _⟩ => ⟨S1024x1024, .bf16⟩
  | .local _ .vmem, ⟨11, _⟩ => ⟨S256x3072, .bf16⟩
  | .local _ .vmem, ⟨12, _⟩ => ⟨S256x3072, .bf16⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x512, .f32⟩
  | .local _ .vmem, ⟨18, _⟩ => ⟨S256x512, .f32⟩
  | .local _ .vmem, ⟨19, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference16.lean ====
abbrev S16384x1024 : Shape := ⟨2, ![16384, 1024]⟩
abbrev S16384x256 : Shape := ⟨2, ![16384, 256]⟩
abbrev S16384x512 : Shape := ⟨2, ![16384, 512]⟩
abbrev S16384x6144 : Shape := ⟨2, ![16384, 6144]⟩
abbrev S1024x1024 : Shape := ⟨2, ![1024, 1024]⟩
abbrev S16384x3072 : Shape := ⟨2, ![16384, 3072]⟩
abbrev S256x1024 : Shape := ⟨2, ![256, 1024]⟩
abbrev S512x1024 : Shape := ⟨2, ![512, 1024]⟩
abbrev S_ : Shape := ⟨0, ![]⟩
abbrev S1024x512 : Shape := ⟨2, ![1024, 512]⟩
abbrev S1024x256 : Shape := ⟨2, ![1024, 256]⟩

abbrev nBuf : Space → Nat
  | .hbm => 96
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S16384x256, .f32⟩
  | .hbm, ⟨3, _⟩ => ⟨S16384x512, .bf16⟩
  | .hbm, ⟨4, _⟩ => ⟨S16384x6144, .bf16⟩
  | .hbm, ⟨5, _⟩ => ⟨S1024x1024, .bf16⟩
  | .hbm, ⟨6, _⟩ => ⟨S16384x3072, .bf16⟩
  | .hbm, ⟨7, _⟩ => ⟨S16384x256, .f32⟩
  | .hbm, ⟨8, _⟩ => ⟨S16384x512, .f32⟩
  | .hbm, ⟨9, _⟩ => ⟨S16384x3072, .f32⟩
  | .hbm, ⟨10, _⟩ => ⟨S1024x1024, .f32⟩
  | .hbm, ⟨11, _⟩ => ⟨S256x1024, .f32⟩
  | .hbm, ⟨12, _⟩ => ⟨S256x1024, .f32⟩
  | .hbm, ⟨13, _⟩ => ⟨S512x1024, .f32⟩
  | .hbm, ⟨14, _⟩ => ⟨S16384x1024, .f32⟩
  | .hbm, ⟨15, _⟩ => ⟨S16384x1024, .bf16⟩
  | .hbm, ⟨16, _⟩ => ⟨S16384x1024, .f32⟩
  | .hbm, ⟨17, _⟩ => ⟨S16384x1024, .f32⟩
  | .hbm, ⟨18, _⟩ => ⟨S16384x1024, .bf16⟩
  | .hbm, ⟨19, _⟩ => ⟨S16384x1024, .f32⟩
  | .hbm, ⟨20, _⟩ => ⟨S16384x1024, .f32⟩
  | .hbm, ⟨21, _⟩ => ⟨S16384x1024, .bf16⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x3072, .f32⟩
  | .hbm, ⟨79, _⟩ => ⟨S16384x1024, .bf16⟩
  | .hbm, ⟨80, _⟩ => ⟨S16384x1024, .f32⟩
  | .hbm, ⟨81, _⟩ => ⟨S1024x512, .f32⟩
  | .hbm, ⟨82, _⟩ => ⟨S512x1024, .f32⟩
  | .hbm, ⟨83, _⟩ => ⟨S16384x512, .f32⟩
  | .hbm, ⟨84, _⟩ => ⟨S16384x1024, .bf16⟩
  | .hbm, ⟨85, _⟩ => ⟨S16384x1024, .f32⟩
  | .hbm, ⟨86, _⟩ => ⟨S1024x256, .f32⟩
  | .hbm, ⟨87, _⟩ => ⟨S256x1024, .f32⟩
  | .hbm, ⟨88, _⟩ => ⟨S16384x256, .f32⟩
  | .hbm, ⟨89, _⟩ => ⟨S16384x1024, .bf16⟩
  | .hbm, ⟨90, _⟩ => ⟨S16384x1024, .f32⟩
  | .hbm, ⟨91, _⟩ => ⟨S1024x256, .f32⟩
  | .hbm, ⟨92, _⟩ => ⟨S256x1024, .f32⟩
  | .hbm, ⟨93, _⟩ => ⟨S16384x256, .f32⟩
  | .hbm, ⟨94, _⟩ => ⟨S1024x1024, .f32⟩
  | .hbm, ⟨95, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩

abbrev nD : Nat := 1
abbrev τ : Topo := Topo.v7x

variable {F : FTy → Type} [FloatOps F]
-- ==== Kernel17.lean ====
abbrev S16384x768 : Shape := ⟨2, ![16384, 768]⟩
abbrev S16384x256 : Shape := ⟨2, ![16384, 256]⟩
abbrev S4x16384x128 : Shape := ⟨3, ![4, 16384, 128]⟩
abbrev S256x128 : Shape := ⟨2, ![256, 128]⟩
abbrev S16384x128 : Shape := ⟨2, ![16384, 128]⟩
abbrev S2x256x128 : Shape := ⟨3, ![2, 256, 128]⟩
abbrev S2x256x1 : Shape := ⟨3, ![2, 256, 1]⟩
abbrev S1x128 : Shape := ⟨2, ![1, 128]⟩
abbrev S256x256 : Shape := ⟨2, ![256, 256]⟩
abbrev S1x256x1 : Shape := ⟨3, ![1, 256, 1]⟩
abbrev S256x1 : Shape := ⟨2, ![256, 1]⟩
abbrev S256 : Shape := ⟨1, ![256]⟩
abbrev S1x256x128 : Shape := ⟨3, ![1, 256, 128]⟩
abbrev S1 : Shape := ⟨1, ![1]⟩
abbrev S1x1x1 : Shape := ⟨3, ![1, 1, 1]⟩

abbrev nBuf : Space → Nat
  | .hbm => 3
  | .vmem => 12
  | .smem => 0
  | _ => 0

abbrev bufTy : (tb : Table) → Fin (tcTables nBuf tb) → BufTy
  | .hbm, ⟨0, _⟩ => ⟨S16384x768, .bf16⟩
  | .hbm, ⟨1, _⟩ => ⟨S16384x256, .f32⟩
  | .hbm, ⟨2, _⟩ => ⟨S4x16384x128, .f32⟩
  | .local _ .vmem, ⟨0, _⟩ => ⟨S256x128, .bf16⟩
  | .local _ .vmem, ⟨1, _⟩ => ⟨S256x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S256x128, .f32⟩
  | .local _ .vmem, ⟨7, _⟩ => ⟨S256x128, .f32⟩
  | .local _ .vmem, ⟨8, _⟩ => ⟨S2x256x128, .f32⟩
  | .local _ .vmem, ⟨9, _⟩ => ⟨S2x256x128, .f32⟩
  | .local _ .vmem, ⟨10, _⟩ => ⟨S2x256x128, .f32⟩
  | .local _ .vmem, ⟨11, _⟩ => ⟨S2x256x1, .f32⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let arg1 : BitVec 32 := BitVec.ofNat 32 (i 1).val
  let c1_i32 : BitVec 32 := 1#32
  let v36 : BitVec 32 := Scalar.addi arg1 c1_i32
  let c1_i32_15 : BitVec 32 := 1#32
  let v37 : BitVec 32 := Scalar.muli v36 c1_i32_15
  let c1_i32_16 : BitVec 32 := 1#32
  let v38 : BitVec 32 := Scalar.subi v37 c1_i32_16
  let c0_i32 : BitVec 32 := 0#32
  let v39 : BitVec 32 := Scalar.subi v38 c0_i32
  let c256_i32_17 : BitVec 32 := 256#32
  let v40 : BitVec 32 := Scalar.muli v39 c256_i32_17
  v40
def k0_off1 (i : grid0.Coords) : Fin 2 → Nat :=
  let arg1 : BitVec 32 := BitVec.ofNat 32 (i 1).val
  let c1_i32 : BitVec 32 := 1#32
  let v36 : BitVec 32 := Scalar.addi arg1 c1_i32
  let c1_i32_15 : BitVec 32 := 1#32
  let v37 : BitVec 32 := Scalar.muli v36 c1_i32_15
  let c1_i32_16 : BitVec 32 := 1#32
  let v38 : BitVec 32 := Scalar.subi v37 c1_i32_16
  let c0_i32 : BitVec 32 := 0#32
  let v39 : BitVec 32 := Scalar.subi v38 c0_i32
  let c256_i32_17 : BitVec 32 := 256#32
  let v40 : BitVec 32 := Scalar.muli v39 c256_i32_17
  let v41 : BitVec 32 := v40
  let v42 : Index := Scalar.indexCast v41
  let c0_18 : Index := 0#32
  ![v42.toNat, 0]
def k0_mult2 (i : grid0.Coords) : BitVec 32 :=
  let arg1 : BitVec 32 := BitVec.ofNat 32 (i 1).val
  let c1_i32 : BitVec 32 := 1#32
  let v36 : BitVec 32 := Scalar.addi arg1 c1_i32
  let c1_i32_15 : BitVec 32 := 1#32
  let v37 : BitVec 32 := Scalar.muli v36 c1_i32_15
  let c1_i32_16 : BitVec 32 := 1#32
  let v38 : BitVec 32 := Scalar.subi v37 c1_i32_16
  let c0_i32 : BitVec 32 := 0#32
  let v39 : BitVec 32 := Scalar.subi v38 c0_i32
  let c256_i32_19 : BitVec 32 := 256#32
  let v44 : BitVec 32 := Scalar.muli v39 c256_i32_19
  v44
def k0_mult3 (i : grid0.Coords) (arg9 : BitVec 32) : BitVec 32 :=
  let arg1 : BitVec 32 := BitVec.ofNat 32 (i 1).val
  let c1_i32_94 : BitVec 32 := 1#32
  let v173 : BitVec 32 := Scalar.muli arg1 c1_i32_94
  let c1_i32_95 : BitVec 32 := 1#32
  let v174 : BitVec 32 := Scalar.subi v173 c1_i32_95
  let v175 : BitVec 32 := Scalar.subi v174 arg9
  let c256_i32_96 : BitVec 32 := 256#32
  let v176 : BitVec 32 := Scalar.muli v175 c256_i32_96
  v176

def k0_off2 (i : grid0.Coords) (arg9 : BitVec 32) : Fin 2 → Nat :=
  let arg1 : BitVec 32 := BitVec.ofNat 32 (i 1).val
  let c1_i32_94 : BitVec 32 := 1#32
  let v173 : BitVec 32 := Scalar.muli arg1 c1_i32_94
  let c1_i32_95 : BitVec 32 := 1#32
  let v174 : BitVec 32 := Scalar.subi v173 c1_i32_95
  let v175 : BitVec 32 := Scalar.subi v174 arg9
  let c256_i32_96 : BitVec 32 := 256#32
  let v176 : BitVec 32 := Scalar.muli v175 c256_i32_96
  let v177 : BitVec 32 := v176
  let v178 : Index := Scalar.indexCast v177
  let c0_97 : Index := 0#32
  ![v178.toNat, 0]
def k0_mult4 (i : grid0.Coords) (arg9 : BitVec 32) : BitVec 32 :=
  let arg1 : BitVec 32 := BitVec.ofNat 32 (i 1).val
  let c1_i32_94 : BitVec 32 := 1#32
  let v173 : BitVec 32 := Scalar.muli arg1 c1_i32_94
  let c1_i32_95 : BitVec 32 := 1#32
  let v174 : BitVec 32 := Scalar.subi v173 c1_i32_95
  let v175 : BitVec 32 := Scalar.subi v174 arg9
  let c256_i32_98 : BitVec 32 := 256#32
  let v180 : BitVec 32 := Scalar.muli v175 c256_i32_98
  v180

def k0_chk1 (i : grid0.Coords) (arg9 : BitVec 32) : Prop :=
  (256 ∣ (k0_mult3 i arg9).toNat) ∧
  (∀ a, (k0_off2 i arg9) a + S256x128.size a ≤ S16384x128.size a) ∧
  (256 ∣ (k0_mult4 i arg9).toNat)
theorem k0_mult3_dvd : ∀ (i : grid0.Coords) (arg9 : BitVec 32) (k0_hw1 : k0_chk1 i arg9), 256 ∣ (k0_mult3 i arg9).toNat := fun i arg9 k0_hw1 => k0_hw1.1
theorem k0_off2_inb : ∀ (i : grid0.Coords) (arg9 : BitVec 32) (k0_hw1 : k0_chk1 i arg9), ∀ a, (k0_off2 i arg9) a + S256x128.size a ≤ S16384x128.size a := fun i arg9 k0_hw1 => k0_hw1.2.1
theorem k0_mult4_dvd : ∀ (i : grid0.Coords) (arg9 : BitVec 32) (k0_hw1 : k0_chk1 i arg9), 256 ∣ (k0_mult4 i arg9).toNat := fun i arg9 k0_hw1 => k0_hw1.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference17.lean ====
abbrev S16384x768 : Shape := ⟨2, ![16384, 768]⟩
abbrev S16384x256 : Shape := ⟨2, ![16384, 256]⟩
abbrev S16384x4x64 : Shape := ⟨3, ![16384, 4, 64]⟩
abbrev S4x16384x16384 : Shape := ⟨3, ![4, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S4x16384x16383 : Shape := ⟨3, ![4, 16384, 16383]⟩
abbrev S4x64x16384 : Shape := ⟨3, ![4, 64, 16384]⟩

abbrev nBuf : Space → Nat
  | .hbm => 58
  | .vmem => 0
  | .smem => 0
  | _ => 0

abbrev bufTy : (tb : Table) → Fin (tcTables nBuf tb) → BufTy
  | .hbm, ⟨0, _⟩ => ⟨S16384x768, .bf16⟩
  | .hbm, ⟨1, _⟩ => ⟨S16384x256, .bf16⟩
  | .hbm, ⟨2, _⟩ => ⟨S16384x256, .f32⟩
  | .hbm, ⟨3, _⟩ => ⟨S16384x4x64, .f32⟩
  | .hbm, ⟨4, _⟩ => ⟨S16384x256, .bf16⟩
  | .hbm, ⟨5, _⟩ => ⟨S16384x256, .f32⟩
  | .hbm, ⟨6, _⟩ => ⟨S16384x4x64, .f32⟩
  | .hbm, ⟨7, _⟩ => ⟨S16384x256, .bf16⟩
  | .hbm, ⟨8, _⟩ => ⟨S16384x256, .f32⟩
  | .hbm, ⟨9, _⟩ => ⟨S16384x4x64, .f32⟩
  | .hbm, ⟨10, _⟩ => ⟨S4x16384x16384, .f32⟩
  | .hbm, ⟨11, _⟩ => ⟨S16384, .i32⟩
  | .hbm, ⟨12, _⟩ => ⟨S1x16384, .i32⟩
  | .hbm, ⟨13, _⟩ => ⟨S16384, .i32⟩
  | .hbm, ⟨14, _⟩ => ⟨S16384x1, .i32⟩
  | .hbm, ⟨15, _⟩ => ⟨S16384x16384, .i32⟩
  | .hbm, ⟨16, _⟩ => ⟨S16384x16384, .i32⟩
  | .hbm, ⟨17, _⟩ => ⟨S16384x16384, .i1⟩
  | .hbm, ⟨18, _⟩ => ⟨S4x16384x16384, .f32⟩
  | .hbm, ⟨19, _⟩ => ⟨S4x16384x16384, .f32⟩
  | .hbm, ⟨20, _⟩ => ⟨S_, .f32⟩
  | .hbm, ⟨21, _⟩ => ⟨S4x16384x16384, .f32⟩
  | .hbm, ⟨22, _⟩ => ⟨S4x16384x16384, .f32⟩
  | .hbm, ⟨23, _⟩ => ⟨S4x16384x16384, .f32⟩
  | .hbm, ⟨24, _⟩ => ⟨S4x16384x16384, .f32⟩
  | .hbm, ⟨25, _⟩ => ⟨S4x16384x16384, .i1⟩
  | .hbm, ⟨26, _⟩ => ⟨S4x16384x16384, .f32⟩
  | .hbm, ⟨27, _⟩ => ⟨S4x16384x16384, .f32⟩
  | .hbm, ⟨28, _⟩ => ⟨S4x16384x16384, .f32⟩
  | .hbm, ⟨29, _⟩ => ⟨S4x16384x16384, .f32⟩
  | .hbm, ⟨30, _⟩ => ⟨S4x16384x16384, .f32⟩
  | .hbm, ⟨31, _⟩ => ⟨S4x16384x16384, .f32⟩
  | .hbm, ⟨32, _⟩ => ⟨S4x16384x16384, .f32⟩
  | .hbm, ⟨33, _⟩ => ⟨S4x16384x16384, .f32⟩
  | .hbm, ⟨34, _⟩ => ⟨S4x16384x16384, .f32⟩
  | .hbm, ⟨35, _⟩ => ⟨S_, .f32⟩
  | .hbm, ⟨36, _⟩ => ⟨S_, .f32⟩
  | .hbm, ⟨37, _⟩ => ⟨S4x16384x16384, .i1⟩
  | .hbm, ⟨38, _⟩ => ⟨S4x16384x16384, .f32⟩
  | .hbm, ⟨39, _⟩ => ⟨S4x16384x16384, .f32⟩
  | .hbm, ⟨40, _⟩ => ⟨S4x16384x16383, .f32⟩
  | .hbm, ⟨41, _⟩ => ⟨S_, .i32⟩
  | .hbm, ⟨42, _⟩ => ⟨S_, .f32⟩
  | .hbm, ⟨43, _⟩ => ⟨S4x16384x16384, .f32⟩
  | .hbm, ⟨44, _⟩ => ⟨S_, .f32⟩
  | .hbm, ⟨45, _⟩ => ⟨S_, .f32⟩
  | .hbm, ⟨46, _⟩ => ⟨S4x16384x16384, .f32⟩
  | .hbm, ⟨47, _⟩ => ⟨S4x16384x16384, .f32⟩
  | .hbm, ⟨48, _⟩ => ⟨S4x16384x16384, .f32⟩
  | .hbm, ⟨49, _⟩ => ⟨S4x16384x16384, .f32⟩
  | .hbm, ⟨50, _⟩ => ⟨S_, .f32⟩
  | .hbm, ⟨51, _⟩ => ⟨S_, .f32⟩
  | .hbm, ⟨52, _⟩ => ⟨S4x16384x16384, .i1⟩
  | .hbm, ⟨53, _⟩ => ⟨S4x16384x16384, .f32⟩
  | .hbm, ⟨54, _⟩ => ⟨S4x16384x16384, .f32⟩
  | .hbm, ⟨55, _⟩ => ⟨S4x64x16384, .f32⟩
  | .hbm, ⟨56, _⟩ => ⟨S16384x4x64, .f32⟩
  | .hbm, ⟨57, _⟩ => ⟨S16384x256, .f32⟩
  | _, _ => ⟨S16384x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v18 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v19 : Ref sig .tc := ⟨.hbm, 39, rfl⟩
abbrev main_v20 : Ref sig .tc := ⟨.hbm, 40, rfl⟩
abbrev main_c : Ref sig .tc := ⟨.hbm, 41, rfl⟩
abbrev main_call2_v0 : Ref sig .tc := ⟨.hbm, 42, rfl⟩
abbrev main_v21 : Ref sig .tc := ⟨.hbm, 43, rfl⟩
abbrev main_call3_cst : Ref sig .tc := ⟨.hbm, 44, rfl⟩
abbrev main_call3_v0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_0 : Ref sig .tc := ⟨.hbm, 50, rfl⟩
abbrev main_call4_v0 : Ref sig .tc := ⟨.hbm, 51, rfl⟩
abbrev main_call4_v1 : Ref sig .tc := ⟨.hbm, 52, rfl⟩
abbrev main_call4_v2 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩

abbrev nD : Nat := 1
abbrev τ : Topo := Topo.v7x

variable {F : FTy → Type} [FloatOps F]
-- ==== Kernel18.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S1x1024, .f32⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference18.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 67
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S16384x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S_, .f32⟩
  | .hbm, ⟨60, _⟩ => ⟨S16384, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel19.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S16384x1024, .bf16⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference19.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel20.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S1x1024, .f32⟩
  | .hbm, ⟨7, _⟩ => ⟨S1x1024, .f32⟩
  | .hbm, ⟨8, _⟩ => ⟨S16384x1024, .f32⟩
  | .hbm, ⟨9, _⟩ => ⟨S16384x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference20.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 121
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S16384x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S_, .f32⟩
  | .hbm, ⟨63, _⟩ => ⟨S16384, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S_, .f32⟩
  | .hbm, ⟨78, _⟩ => ⟨S16384x1, .f32⟩
  | .hbm, ⟨79, _⟩ => ⟨S16384x1, .f32⟩
  | .hbm, ⟨80, _⟩ => ⟨S16384x1, .f32⟩
  | .hbm, ⟨81, _⟩ => ⟨S16384x1, .f32⟩
  | .hbm, ⟨82, _⟩ => ⟨S_, .f32⟩
  | .hbm, ⟨83, _⟩ => ⟨S16384x1, .f32⟩
  | .hbm, ⟨84, _⟩ => ⟨S16384x1, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S_, .f32⟩
  | .hbm, ⟨95, _⟩ => ⟨S1024, .f32⟩
  | .hbm, ⟨96, _⟩ => ⟨S1x1024, .f32⟩
  | .hbm, ⟨97, _⟩ => ⟨S16384x1024, .f32⟩
  | .hbm, ⟨98, _⟩ => ⟨S_, .f32⟩
  | .hbm, ⟨99, _⟩ => ⟨S1024, .f32⟩
  | .hbm, ⟨100, _⟩ => ⟨S1x1024, .f32⟩
  | .hbm, ⟨101, _⟩ => ⟨S16384x1024, .f32⟩
  | .hbm, ⟨102, _⟩ => ⟨S16384x1024, .f32⟩
  | .hbm, ⟨103, _⟩ => ⟨S16384x1024, .f32⟩
  | .hbm, ⟨104, _⟩ => ⟨S_, .f32⟩
  | .hbm, ⟨105, _⟩ => ⟨S16384, .f32⟩
  | .hbm, ⟨106, _⟩ => ⟨S16384x1, .f32⟩
  | .hbm, ⟨107, _⟩ => ⟨S16384x1024, .f32⟩
  | .hbm, ⟨108, _⟩ => ⟨S16384x1024, .f32⟩
  | .hbm, ⟨109, _⟩ => ⟨S16384x1, .f32⟩
  | .hbm, ⟨110, _⟩ => ⟨S_, .f32⟩
  | .hbm, ⟨111, _⟩ => ⟨S16384x1, .f32⟩
  | .hbm, ⟨112, _⟩ => ⟨S16384x1, .f32⟩
  | .hbm, ⟨113, _⟩ => ⟨S_, .f32⟩
  | .hbm, ⟨114, _⟩ => ⟨S16384, .f32⟩
  | .hbm, ⟨115, _⟩ => ⟨S16384x1024, .f32⟩
  | .hbm, ⟨116, _⟩ => ⟨S16384x1024, .f32⟩
  | .hbm, ⟨117, _⟩ => ⟨S16384x1024, .f32⟩
  | .hbm, ⟨118, _⟩ => ⟨S16384x1024, .f32⟩
  | .hbm, ⟨119, _⟩ => ⟨S16384x1024, .f32⟩
  | .hbm, ⟨120, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_14 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_15 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_16 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_17 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_18 : Ref sig .tc := ⟨.hbm, 110, rfl⟩
abbrev main_v83 : Ref sig .tc := ⟨.hbm, 111, rfl⟩
abbrev main_v84 : Ref sig .tc := ⟨.hbm, 112, rfl⟩
abbrev main_cst_19 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩

abbrev nD : Nat := 1
abbrev τ : Topo := Topo.v7x

variable {F : FTy → Type} [FloatOps F]
-- ==== Kernel21.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference21.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel22.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference22.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel23.lean ====
abbrev S1x2048x768 : Shape := ⟨3, ![1, 2048, 768]⟩
abbrev S2048x768 : Shape := ⟨2, ![2048, 768]⟩
abbrev S1x512x768 : Shape := ⟨3, ![1, 512, 768]⟩
abbrev S512x768 : Shape := ⟨2, ![512, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .local _ .vmem, ⟨0, _⟩ => ⟨S1x512x768, .f32⟩
  | .local _ .vmem, ⟨1, _⟩ => ⟨S1x512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23.lean ====
abbrev S1x2048x768 : Shape := ⟨3, ![1, 2048, 768]⟩
abbrev S2048x768 : Shape := ⟨2, ![2048, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S_, .f32⟩
  | .hbm, ⟨7, _⟩ => ⟨S2048x768, .f32⟩
  | .hbm, ⟨8, _⟩ => ⟨S2048x768, .f32⟩
  | .hbm, ⟨9, _⟩ => ⟨S_, .f32⟩
  | .hbm, ⟨10, _⟩ => ⟨S2048x768, .f32⟩
  | .hbm, ⟨11, _⟩ => ⟨S2048x768, .f32⟩
  | .hbm, ⟨12, _⟩ => ⟨S2048x768, .f32⟩
  | .hbm, ⟨13, _⟩ => ⟨S_, .f32⟩
  | .hbm, ⟨14, _⟩ => ⟨S2048x768, .f32⟩
  | .hbm, ⟨15, _⟩ => ⟨S2048x768, .f32⟩
  | .hbm, ⟨16, _⟩ => ⟨S2048x768, .f32⟩
  | .hbm, ⟨17, _⟩ => ⟨S_, .f32⟩
  | .hbm, ⟨18, _⟩ => ⟨S2048x768, .f32⟩
  | .hbm, ⟨19, _⟩ => ⟨S2048x768, .f32⟩
  | .hbm, ⟨20, _⟩ => ⟨S2048x768, .f32⟩
  | .hbm, ⟨21, _⟩ => ⟨S_, .f32⟩
  | .hbm, ⟨22, _⟩ => ⟨S2048x768, .f32⟩
  | .hbm, ⟨23, _⟩ => ⟨S2048x768, .f32⟩
  | .hbm, ⟨24, _⟩ => ⟨S_, .f32⟩
  | .hbm, ⟨25, _⟩ => ⟨S2048x768, .f32⟩
  | .hbm, ⟨26, _⟩ => ⟨S2048x768, .f32⟩
  | .hbm, ⟨27, _⟩ => ⟨S2048x768, .f32⟩
  | .hbm, ⟨28, _⟩ => ⟨S_, .f32⟩
  | .hbm, ⟨29, _⟩ => ⟨S2048x768, .f32⟩
  | .hbm, ⟨30, _⟩ => ⟨S2048x768, .f32⟩
  | .hbm, ⟨31, _⟩ => ⟨S2048x768, .f32⟩
  | .hbm, ⟨32, _⟩ => ⟨S_, .f32⟩
  | .hbm, ⟨33, _⟩ => ⟨S2048x768, .f32⟩
  | .hbm, ⟨34, _⟩ => ⟨S2048x768, .f32⟩
  | .hbm, ⟨35, _⟩ => ⟨S2048x768, .f32⟩
  | .hbm, ⟨36, _⟩ => ⟨S_, .f32⟩
  | .hbm, ⟨37, _⟩ => ⟨S2048x768, .f32⟩
  | .hbm, ⟨38, _⟩ => ⟨S2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel24.lean ====
abbrev S4x2048x737 : Shape := ⟨3, ![4, 2048, 737]⟩
abbrev S2048x737 : Shape := ⟨2, ![2048, 737]⟩
abbrev S4x512x737 : Shape := ⟨3, ![4, 512, 737]⟩
abbrev S512x737 : Shape := ⟨2, ![512, 737]⟩
abbrev S1x512x737 : Shape := ⟨3, ![1, 512, 737]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x737, .bf16⟩
  | .hbm, ⟨1, _⟩ => ⟨S2048x737, .f32⟩
  | .hbm, ⟨2, _⟩ => ⟨S2048x737, .f32⟩
  | .hbm, ⟨3, _⟩ => ⟨S2048x737, .f32⟩
  | .hbm, ⟨4, _⟩ => ⟨S2048x737, .f32⟩
  | .hbm, ⟨5, _⟩ => ⟨S2048x737, .f32⟩
  | .hbm, ⟨6, _⟩ => ⟨S2048x737, .f32⟩
  | .hbm, ⟨7, _⟩ => ⟨S2048x737, .f32⟩
  | .local _ .vmem, ⟨0, _⟩ => ⟨S4x512x737, .bf16⟩
  | .local _ .vmem, ⟨1, _⟩ => ⟨S4x512x737, .bf16⟩
  | .local _ .vmem, ⟨2, _⟩ => ⟨S512x737, .f32⟩
  | .local _ .vmem, ⟨3, _⟩ => ⟨S512x737, .f32⟩
  | .local _ .vmem, ⟨4, _⟩ => ⟨S512x737, .f32⟩
  | .local _ .vmem, ⟨5, _⟩ => ⟨S512x737, .f32⟩
  | .local _ .vmem, ⟨6, _⟩ => ⟨S512x737, .f32⟩
  | .local _ .vmem, ⟨7, _⟩ => ⟨S512x737, .f32⟩
  | .local _ .vmem, ⟨8, _⟩ => ⟨S512x737, .f32⟩
  | .local _ .vmem, ⟨9, _⟩ => ⟨S512x737, .f32⟩
  | .local _ .vmem, ⟨10, _⟩ => ⟨S512x737, .f32⟩
  | .local _ .vmem, ⟨11, _⟩ => ⟨S512x737, .f32⟩
  | .local _ .vmem, ⟨12, _⟩ => ⟨S512x737, .f32⟩
  | .local _ .vmem, ⟨13, _⟩ => ⟨S512x737, .f32⟩
  | .local _ .vmem, ⟨14, _⟩ => ⟨S512x737, .f32⟩
  | .local _ .vmem, ⟨15, _⟩ => ⟨S512x737, .f32⟩
  | _, _ => ⟨S4x2048x737, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x737 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x737 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x737 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x737 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x737 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x737 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x737 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x737 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference24.lean ====
abbrev S4x2048x737 : Shape := ⟨3, ![4, 2048, 737]⟩
abbrev S2048x737 : Shape := ⟨2, ![2048, 737]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x737, .bf16⟩
  | .hbm, ⟨1, _⟩ => ⟨S2048x737, .f32⟩
  | .hbm, ⟨2, _⟩ => ⟨S2048x737, .f32⟩
  | .hbm, ⟨3, _⟩ => ⟨S2048x737, .f32⟩
  | .hbm, ⟨4, _⟩ => ⟨S4x2048x737, .f32⟩
  | .hbm, ⟨5, _⟩ => ⟨S_, .f32⟩
  | .hbm, ⟨6, _⟩ => ⟨S2048x737, .f32⟩
  | .hbm, ⟨7, _⟩ => ⟨S_, .f32⟩
  | .hbm, ⟨8, _⟩ => ⟨S2048x737, .f32⟩
  | .hbm, ⟨9, _⟩ => ⟨S2048x737, .f32⟩
  | .hbm, ⟨10, _⟩ => ⟨S_, .f32⟩
  | .hbm, ⟨11, _⟩ => ⟨S2048x737, .f32⟩
  | .hbm, ⟨12, _⟩ => ⟨S2048x737, .f32⟩
  | .hbm, ⟨13, _⟩ => ⟨S2048x737, .f32⟩
  | .hbm, ⟨14, _⟩ => ⟨S_, .f32⟩
  | .hbm, ⟨15, _⟩ => ⟨S2048x737, .f32⟩
  | .hbm, ⟨16, _⟩ => ⟨S2048x737, .f32⟩
  | .hbm, ⟨17, _⟩ => ⟨S2048x737, .f32⟩
  | .hbm, ⟨18, _⟩ => ⟨S_, .f32⟩
  | .hbm, ⟨19, _⟩ => ⟨S2048x737, .f32⟩
  | .hbm, ⟨20, _⟩ => ⟨S2048x737, .f32⟩
  | .hbm, ⟨21, _⟩ => ⟨S2048x737, .f32⟩
  | .hbm, ⟨22, _⟩ => ⟨S_, .f32⟩
  | .hbm, ⟨23, _⟩ => ⟨S2048x737, .f32⟩
  | .hbm, ⟨24, _⟩ => ⟨S2048x737, .f32⟩
  | .hbm, ⟨25, _⟩ => ⟨S_, .f32⟩
  | .hbm, ⟨26, _⟩ => ⟨S2048x737, .f32⟩
  | .hbm, ⟨27, _⟩ => ⟨S2048x737, .f32⟩
  | .hbm, ⟨28, _⟩ => ⟨S2048x737, .f32⟩
  | .hbm, ⟨29, _⟩ => ⟨S_, .f32⟩
  | .hbm, ⟨30, _⟩ => ⟨S2048x737, .f32⟩
  | .hbm, ⟨31, _⟩ => ⟨S2048x737, .f32⟩
  | .hbm, ⟨32, _⟩ => ⟨S2048x737, .f32⟩
  | .hbm, ⟨33, _⟩ => ⟨S_, .f32⟩
  | .hbm, ⟨34, _⟩ => ⟨S2048x737, .f32⟩
  | .hbm, ⟨35, _⟩ => ⟨S2048x737, .f32⟩
  | .hbm, ⟨36, _⟩ => ⟨S2048x737, .f32⟩
  | .hbm, ⟨37, _⟩ => ⟨S_, .f32⟩
  | .hbm, ⟨38, _⟩ => ⟨S2048x737, .f32⟩
  | .hbm, ⟨39, _⟩ => ⟨S2048x737, .f32⟩
  | _, _ => ⟨S4x2048x737, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel25.lean ====
abbrev S4x512x128 : Shape := ⟨3, ![4, 512, 128]⟩
abbrev S512x128 : Shape := ⟨2, ![512, 128]⟩
abbrev S1x512x128 : Shape := ⟨3, ![1, 512, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S4x512x128, .bf16⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S4x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference25.lean ====
abbrev S4x512x128 : Shape := ⟨3, ![4, 512, 128]⟩
abbrev S512x128 : Shape := ⟨2, ![512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S4x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S4x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel26.lean ====
abbrev S4x1024x128 : Shape := ⟨3, ![4, 1024, 128]⟩
abbrev S1024x128 : Shape := ⟨2, ![1024, 128]⟩
abbrev S4x512x128 : Shape := ⟨3, ![4, 512, 128]⟩
abbrev S512x128 : Shape := ⟨2, ![512, 128]⟩
abbrev S1x512x128 : Shape := ⟨3, ![1, 512, 128]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x128, .bf16⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .local _ .vmem, ⟨0, _⟩ => ⟨S4x512x128, .bf16⟩
  | .local _ .vmem, ⟨1, _⟩ => ⟨S4x512x128, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S4x1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26.lean ====
abbrev S4x1024x128 : Shape := ⟨3, ![4, 1024, 128]⟩
abbrev S1024x128 : Shape := ⟨2, ![1024, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x128, .bf16⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S4x1024x128, .f32⟩
  | .hbm, ⟨5, _⟩ => ⟨S_, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S_, .f32⟩
  | .hbm, ⟨11, _⟩ => ⟨S1024x128, .f32⟩
  | .hbm, ⟨12, _⟩ => ⟨S1024x128, .f32⟩
  | .hbm, ⟨13, _⟩ => ⟨S1024x128, .f32⟩
  | .hbm, ⟨14, _⟩ => ⟨S_, .f32⟩
  | .hbm, ⟨15, _⟩ => ⟨S1024x128, .f32⟩
  | .hbm, ⟨16, _⟩ => ⟨S1024x128, .f32⟩
  | .hbm, ⟨17, _⟩ => ⟨S1024x128, .f32⟩
  | .hbm, ⟨18, _⟩ => ⟨S_, .f32⟩
  | .hbm, ⟨19, _⟩ => ⟨S1024x128, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S_, .f32⟩
  | .hbm, ⟨26, _⟩ => ⟨S1024x128, .f32⟩
  | .hbm, ⟨27, _⟩ => ⟨S1024x128, .f32⟩
  | .hbm, ⟨28, _⟩ => ⟨S1024x128, .f32⟩
  | .hbm, ⟨29, _⟩ => ⟨S_, .f32⟩
  | .hbm, ⟨30, _⟩ => ⟨S1024x128, .f32⟩
  | .hbm, ⟨31, _⟩ => ⟨S1024x128, .f32⟩
  | .hbm, ⟨32, _⟩ => ⟨S1024x128, .f32⟩
  | .hbm, ⟨33, _⟩ => ⟨S_, .f32⟩
  | .hbm, ⟨34, _⟩ => ⟨S1024x128, .f32⟩
  | .hbm, ⟨35, _⟩ => ⟨S1024x128, .f32⟩
  | .hbm, ⟨36, _⟩ => ⟨S1024x128, .f32⟩
  | .hbm, ⟨37, _⟩ => ⟨S_, .f32⟩
  | .hbm, ⟨38, _⟩ => ⟨S1024x128, .f32⟩
  | .hbm, ⟨39, _⟩ => ⟨S1024x128, .f32⟩
  | _, _ => ⟨S4x1024x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel27.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S4x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference27.lean ====
abbrev S4x256x1024 : Shape := ⟨3, ![4, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S4x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel28.lean ====
abbrev S4x2048x704 : Shape := ⟨3, ![4, 2048, 704]⟩
abbrev S2048x704 : Shape := ⟨2, ![2048, 704]⟩
abbrev S4x512x704 : Shape := ⟨3, ![4, 512, 704]⟩
abbrev S512x704 : Shape := ⟨2, ![512, 704]⟩
abbrev S1x512x704 : Shape := ⟨3, ![1, 512, 704]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x704, .bf16⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .local _ .vmem, ⟨0, _⟩ => ⟨S4x512x704, .bf16⟩
  | .local _ .vmem, ⟨1, _⟩ => ⟨S4x512x704, .bf16⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference28.lean ====
abbrev S4x2048x704 : Shape := ⟨3, ![4, 2048, 704]⟩
abbrev S2048x704 : Shape := ⟨2, ![2048, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S4x2048x704, .f32⟩
  | .hbm, ⟨5, _⟩ => ⟨S_, .f32⟩
  | .hbm, ⟨6, _⟩ => ⟨S2048x704, .f32⟩
  | .hbm, ⟨7, _⟩ => ⟨S_, .f32⟩
  | .hbm, ⟨8, _⟩ => ⟨S2048x704, .f32⟩
  | .hbm, ⟨9, _⟩ => ⟨S2048x704, .f32⟩
  | .hbm, ⟨10, _⟩ => ⟨S_, .f32⟩
  | .hbm, ⟨11, _⟩ => ⟨S2048x704, .f32⟩
  | .hbm, ⟨12, _⟩ => ⟨S2048x704, .f32⟩
  | .hbm, ⟨13, _⟩ => ⟨S2048x704, .f32⟩
  | .hbm, ⟨14, _⟩ => ⟨S_, .f32⟩
  | .hbm, ⟨15, _⟩ => ⟨S2048x704, .f32⟩
  | .hbm, ⟨16, _⟩ => ⟨S2048x704, .f32⟩
  | .hbm, ⟨17, _⟩ => ⟨S2048x704, .f32⟩
  | .hbm, ⟨18, _⟩ => ⟨S_, .f32⟩
  | .hbm, ⟨19, _⟩ => ⟨S2048x704, .f32⟩
  | .hbm, ⟨20, _⟩ => ⟨S2048x704, .f32⟩
  | .hbm, ⟨21, _⟩ => ⟨S2048x704, .f32⟩
  | .hbm, ⟨22, _⟩ => ⟨S_, .f32⟩
  | .hbm, ⟨23, _⟩ => ⟨S2048x704, .f32⟩
  | .hbm, ⟨24, _⟩ => ⟨S2048x704, .f32⟩
  | .hbm, ⟨25, _⟩ => ⟨S_, .f32⟩
  | .hbm, ⟨26, _⟩ => ⟨S2048x704, .f32⟩
  | .hbm, ⟨27, _⟩ => ⟨S2048x704, .f32⟩
  | .hbm, ⟨28, _⟩ => ⟨S2048x704, .f32⟩
  | .hbm, ⟨29, _⟩ => ⟨S_, .f32⟩
  | .hbm, ⟨30, _⟩ => ⟨S2048x704, .f32⟩
  | .hbm, ⟨31, _⟩ => ⟨S2048x704, .f32⟩
  | .hbm, ⟨32, _⟩ => ⟨S2048x704, .f32⟩
  | .hbm, ⟨33, _⟩ => ⟨S_, .f32⟩
  | .hbm, ⟨34, _⟩ => ⟨S2048x704, .f32⟩
  | .hbm, ⟨35, _⟩ => ⟨S2048x704, .f32⟩
  | .hbm, ⟨36, _⟩ => ⟨S2048x704, .f32⟩
  | .hbm, ⟨37, _⟩ => ⟨S_, .f32⟩
  | .hbm, ⟨38, _⟩ => ⟨S2048x704, .f32⟩
  | .hbm, ⟨39, _⟩ => ⟨S2048x704, .f32⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel29.lean ====
abbrev S4x704x1024 : Shape := ⟨3, ![4, 704, 1024]⟩
abbrev S704x1024 : Shape := ⟨2, ![704, 1024]⟩
abbrev S4x352x1024 : Shape := ⟨3, ![4, 352, 1024]⟩
abbrev S352x1024 : Shape := ⟨2, ![352, 1024]⟩
abbrev S1x352x1024 : Shape := ⟨3, ![1, 352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S4x352x1024, .bf16⟩
  | .local _ .vmem, ⟨1, _⟩ => ⟨S4x352x1024, .bf16⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference29.lean ====
abbrev S4x704x1024 : Shape := ⟨3, ![4, 704, 1024]⟩
abbrev S704x1024 : Shape := ⟨2, ![704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S4x704x1024, .f32⟩
  | .hbm, ⟨5, _⟩ => ⟨S_, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel30.lean ====
abbrev S16384x6144 : Shape := ⟨2, ![16384, 6144]⟩
abbrev S3x256 : Shape := ⟨2, ![3, 256]⟩
abbrev S4x768 : Shape := ⟨2, ![4, 768]⟩
abbrev S768 : Shape := ⟨1, ![768]⟩
abbrev S_ : Shape := ⟨0, ![]⟩
abbrev S8x256 : Shape := ⟨2, ![8, 256]⟩
abbrev S8x768 : Shape := ⟨2, ![8, 768]⟩
abbrev S1x768 : Shape := ⟨2, ![1, 768]⟩
abbrev S16384x256 : Shape := ⟨2, ![16384, 256]⟩
abbrev S16384x768 : Shape := ⟨2, ![16384, 768]⟩
abbrev S512x768 : Shape := ⟨2, ![512, 768]⟩
abbrev S16x768 : Shape := ⟨2, ![16, 768]⟩
abbrev S512x256 : Shape := ⟨2, ![512, 256]⟩
abbrev S1x256 : Shape := ⟨2, ![1, 256]⟩
abbrev S504x256 : Shape := ⟨2, ![504, 256]⟩
abbrev S512x512 : Shape := ⟨2, ![512, 512]⟩
abbrev S504x768 : Shape := ⟨2, ![504, 768]⟩

abbrev nBuf : Space → Nat
  | .hbm => 14
  | .vmem => 19
  | .smem => 0
  | _ => 0

abbrev bufTy : (tb : Table) → Fin (tcTables nBuf tb) → BufTy
  | .hbm, ⟨0, _⟩ => ⟨S16384x6144, .bf16⟩
  | .hbm, ⟨1, _⟩ => ⟨S3x256, .f32⟩
  | .hbm, ⟨2, _⟩ => ⟨S4x768, .f32⟩
  | .hbm, ⟨3, _⟩ => ⟨S768, .f32⟩
  | .hbm, ⟨4, _⟩ => ⟨S_, .i32⟩
  | .hbm, ⟨5, _⟩ => ⟨S_, .f32⟩
  | .hbm, ⟨6, _⟩ => ⟨S8x256, .f32⟩
  | .hbm, ⟨7, _⟩ => ⟨S_, .i32⟩
  | .hbm, ⟨8, _⟩ => ⟨S_, .f32⟩
  | .hbm, ⟨9, _⟩ => ⟨S8x768, .f32⟩
  | .hbm, ⟨10, _⟩ => ⟨S1x768, .f32⟩
  | .hbm, ⟨11, _⟩ => ⟨S16384x256, .bf16⟩
  | .hbm, ⟨12, _⟩ => ⟨S16384x768, .bf16⟩
  | .hbm, ⟨13, _⟩ => ⟨S16384x768, .f32⟩
  | .local _ .vmem, ⟨0, _⟩ => ⟨S512x768, .bf16⟩
  | .local _ .vmem, ⟨1, _⟩ => ⟨S512x768, .bf16⟩
  | .local _ .vmem, ⟨2, _⟩ => ⟨S16x768, .bf16⟩
  | .local _ .vmem, ⟨3, _⟩ => ⟨S16x768, .bf16⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S16x768, .bf16⟩
  | .local _ .vmem, ⟨9, _⟩ => ⟨S16x768, .bf16⟩
  | .local _ .vmem, ⟨10, _⟩ => ⟨S8x256, .f32⟩
  | .local _ .vmem, ⟨11, _⟩ => ⟨S8x768, .f32⟩
  | .local _ .vmem, ⟨12, _⟩ => ⟨S1x768, .f32⟩
  | .local _ .vmem, ⟨13, _⟩ => ⟨S512x256, .bf16⟩
  | .local _ .vmem, ⟨14, _⟩ => ⟨S512x256, .bf16⟩
  | .local _ .vmem, ⟨15, _⟩ => ⟨S512x768, .bf16⟩
  | .local _ .vmem, ⟨16, _⟩ => ⟨S512x768, .bf16⟩
  | .local _ .vmem, ⟨17, _⟩ => ⟨S512x768, .f32⟩
  | .local _ .vmem, ⟨18, _⟩ => ⟨S512x768, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference30.lean ====
abbrev S16384x6144 : Shape := ⟨2, ![16384, 6144]⟩
abbrev S3x256 : Shape := ⟨2, ![3, 256]⟩
abbrev S4x768 : Shape := ⟨2, ![4, 768]⟩
abbrev S768 : Shape := ⟨1, ![768]⟩
abbrev S16384x256 : Shape := ⟨2, ![16384, 256]⟩
abbrev S16384x512 : Shape := ⟨2, ![16384, 512]⟩
abbrev S16384x768 : Shape := ⟨2, ![16384, 768]⟩
abbrev S_ : Shape := ⟨0, ![]⟩
abbrev S16386x256 : Shape := ⟨2, ![16386, 256]⟩
abbrev S1x256 : Shape := ⟨2, ![1, 256]⟩
abbrev S256 : Shape := ⟨1, ![256]⟩
abbrev S16387x768 : Shape := ⟨2, ![16387, 768]⟩
abbrev S1x768 : Shape := ⟨2, ![1, 768]⟩

abbrev nBuf : Space → Nat
  | .hbm => 89
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S3x256, .f32⟩
  | .hbm, ⟨2, _⟩ => ⟨S4x768, .f32⟩
  | .hbm, ⟨3, _⟩ => ⟨S768, .f32⟩
  | .hbm, ⟨4, _⟩ => ⟨S16384x256, .bf16⟩
  | .hbm, ⟨5, _⟩ => ⟨S16384x256, .f32⟩
  | .hbm, ⟨6, _⟩ => ⟨S16384x256, .bf16⟩
  | .hbm, ⟨7, _⟩ => ⟨S16384x256, .f32⟩
  | .hbm, ⟨8, _⟩ => ⟨S16384x256, .bf16⟩
  | .hbm, ⟨9, _⟩ => ⟨S16384x256, .f32⟩
  | .hbm, ⟨10, _⟩ => ⟨S16384x256, .bf16⟩
  | .hbm, ⟨11, _⟩ => ⟨S16384x256, .f32⟩
  | .hbm, ⟨12, _⟩ => ⟨S16384x512, .bf16⟩
  | .hbm, ⟨13, _⟩ => ⟨S16384x512, .f32⟩
  | .hbm, ⟨14, _⟩ => ⟨S16384x768, .bf16⟩
  | .hbm, ⟨15, _⟩ => ⟨S16384x768, .f32⟩
  | .hbm, ⟨16, _⟩ => ⟨S16384x256, .f32⟩
  | .hbm, ⟨17, _⟩ => ⟨S_, .i32⟩
  | .hbm, ⟨18, _⟩ => ⟨S_, .f32⟩
  | .hbm, ⟨19, _⟩ => ⟨S16386x256, .f32⟩
  | .hbm, ⟨20, _⟩ => ⟨S1x256, .f32⟩
  | .hbm, ⟨21, _⟩ => ⟨S256, .f32⟩
  | .hbm, ⟨22, _⟩ => ⟨S16384x256, .f32⟩
  | .hbm, ⟨23, _⟩ => ⟨S1x256, .f32⟩
  | .hbm, ⟨24, _⟩ => ⟨S16384x256, .f32⟩
  | .hbm, ⟨25, _⟩ => ⟨S16384x256, .f32⟩
  | .hbm, ⟨26, _⟩ => ⟨S1x256, .f32⟩
  | .hbm, ⟨27, _⟩ => ⟨S256, .f32⟩
  | .hbm, ⟨28, _⟩ => ⟨S16384x256, .f32⟩
  | .hbm, ⟨29, _⟩ => ⟨S1x256, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S1x256, .f32⟩
  | .hbm, ⟨34, _⟩ => ⟨S256, .f32⟩
  | .hbm, ⟨35, _⟩ => ⟨S16384x256, .f32⟩
  | .hbm, ⟨36, _⟩ => ⟨S1x256, .f32⟩
  | .hbm, ⟨37, _⟩ => ⟨S16384x256, .f32⟩
  | .hbm, ⟨38, _⟩ => ⟨S16384x256, .f32⟩
  | .hbm, ⟨39, _⟩ => ⟨S16384x256, .f32⟩
  | .hbm, ⟨40, _⟩ => ⟨S16384x256, .f32⟩
  | .hbm, ⟨41, _⟩ => ⟨S_, .f32⟩
  | .hbm, ⟨42, _⟩ => ⟨S16384x256, .f32⟩
  | .hbm, ⟨43, _⟩ => ⟨S16384x256, .f32⟩
  | .hbm, ⟨44, _⟩ => ⟨S16384x768, .f32⟩
  | .hbm, ⟨45, _⟩ => ⟨S_, .i32⟩
  | .hbm, ⟨46, _⟩ => ⟨S_, .f32⟩
  | .hbm, ⟨47, _⟩ => ⟨S16387x768, .f32⟩
  | .hbm, ⟨48, _⟩ => ⟨S1x768, .f32⟩
  | .hbm, ⟨49, _⟩ => ⟨S768, .f32⟩
  | .hbm, ⟨50, _⟩ => ⟨S16384x768, .f32⟩
  | .hbm, ⟨51, _⟩ => ⟨S1x768, .f32⟩
  | .hbm, ⟨52, _⟩ => ⟨S16384x768, .f32⟩
  | .hbm, ⟨53, _⟩ => ⟨S16384x768, .f32⟩
  | .hbm, ⟨54, _⟩ => ⟨S1x768, .f32⟩
  | .hbm, ⟨55, _⟩ => ⟨S768, .f32⟩
  | .hbm, ⟨56, _⟩ => ⟨S16384x768, .f32⟩
  | .hbm, ⟨57, _⟩ => ⟨S1x768, .f32⟩
  | .hbm, ⟨58, _⟩ => ⟨S16384x768, .f32⟩
  | .hbm, ⟨59, _⟩ => ⟨S16384x768, .f32⟩
  | .hbm, ⟨60, _⟩ => ⟨S16384x768, .f32⟩
  | .hbm, ⟨61, _⟩ => ⟨S1x768, .f32⟩
  | .hbm, ⟨62, _⟩ => ⟨S768, .f32⟩
  | .hbm, ⟨63, _⟩ => ⟨S16384x768, .f32⟩
  | .hbm, ⟨64, _⟩ => ⟨S1x768, .f32⟩
  | .hbm, ⟨65, _⟩ => ⟨S16384x768, .f32⟩
  | .hbm, ⟨66, _⟩ => ⟨S16384x768, .f32⟩
  | .hbm, ⟨67, _⟩ => ⟨S16384x768, .f32⟩
  | .hbm, ⟨68, _⟩ => ⟨S1x768, .f32⟩
  | .hbm, ⟨69, _⟩ => ⟨S768, .f32⟩
  | .hbm, ⟨70, _⟩ => ⟨S16384x768, .f32⟩
  | .hbm, ⟨71, _⟩ => ⟨S1x768, .f32⟩
  | .hbm, ⟨72, _⟩ => ⟨S16384x768, .f32⟩
  | .hbm, ⟨73, _⟩ => ⟨S16384x768, .f32⟩
  | .hbm, ⟨74, _⟩ => ⟨S16384x768, .f32⟩
  | .hbm, ⟨75, _⟩ => ⟨S1x768, .f32⟩
  | .hbm, ⟨76, _⟩ => ⟨S16384x768, .f32⟩
  | .hbm, ⟨77, _⟩ => ⟨S16384x768, .f32⟩
  | .hbm, ⟨78, _⟩ => ⟨S16384x768, .f32⟩
  | .hbm, ⟨79, _⟩ => ⟨S16384x768, .f32⟩
  | .hbm, ⟨80, _⟩ => ⟨S_, .f32⟩
  | .hbm, ⟨81, _⟩ => ⟨S16384x768, .f32⟩
  | .hbm, ⟨82, _⟩ => ⟨S16384x768, .f32⟩
  | .hbm, ⟨83, _⟩ => ⟨S_, .f32⟩
  | .hbm, ⟨84, _⟩ => ⟨S16384x768, .f32⟩
  | .hbm, ⟨85, _⟩ => ⟨S16384x768, .f32⟩
  | .hbm, ⟨86, _⟩ => ⟨S16384x768, .f32⟩
  | .hbm, ⟨87, _⟩ => ⟨S16384x256, .bf16⟩
  | .hbm, ⟨88, _⟩ => ⟨S16384x768, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_call0_v0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_c_0 : Ref sig .tc := ⟨.hbm, 45, rfl⟩
abbrev main_call1_v0 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_call2_v0 : Ref sig .tc := ⟨.hbm, 78, rfl⟩
abbrev main_call2_v1 : Ref sig .tc := ⟨.hbm, 79, rfl⟩
abbrev main_call2_cst : Ref sig .tc := ⟨.hbm, 80, rfl⟩
abbrev main_call2_v2 : Ref sig .tc := ⟨.hbm, 81, rfl⟩
abbrev main_call2_v3 : Ref sig .tc := ⟨.hbm, 82, rfl⟩
abbrev main_call2_cst_0 : Ref sig .tc := ⟨.hbm, 83, rfl⟩
abbrev main_call2_v4 : Ref sig .tc := ⟨.hbm, 84, rfl⟩
abbrev main_call2_v5 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== Kernel31.lean ====
abbrev S8x1024 : Shape := ⟨2, ![8, 1024]⟩
abbrev S2x8x768 : Shape := ⟨3, ![2, 8, 768]⟩
abbrev S2x1024x768 : Shape := ⟨3, ![2, 1024, 768]⟩
abbrev S1x8x768 : Shape := ⟨3, ![1, 8, 768]⟩
abbrev S8x768 : Shape := ⟨2, ![8, 768]⟩
abbrev S1024x768 : Shape := ⟨2, ![1024, 768]⟩
abbrev S1x1024x768 : Shape := ⟨3, ![1, 1024, 768]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S2x8x768, .f32⟩
  | .hbm, ⟨2, _⟩ => ⟨S2x1024x768, .f32⟩
  | .local _ .vmem, ⟨0, _⟩ => ⟨S8x1024, .f32⟩
  | .local _ .vmem, ⟨1, _⟩ => ⟨S2x8x768, .f32⟩
  | .local _ .vmem, ⟨2, _⟩ => ⟨S2x1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference31.lean ====
abbrev S8x1024 : Shape := ⟨2, ![8, 1024]⟩
abbrev S2x8x768 : Shape := ⟨3, ![2, 8, 768]⟩
abbrev S_ : Shape := ⟨0, ![]⟩
abbrev S2x768x8 : Shape := ⟨3, ![2, 768, 8]⟩
abbrev S2x768x1024 : Shape := ⟨3, ![2, 768, 1024]⟩
abbrev S2x1024x768 : Shape := ⟨3, ![2, 1024, 768]⟩

abbrev nBuf : Space → Nat
  | .hbm => 14
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x8x768, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S2x768x8, .f32⟩
  | .hbm, ⟨12, _⟩ => ⟨S2x768x1024, .f32⟩
  | .hbm, ⟨13, _⟩ => ⟨S2x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== Kernel32.lean ====
abbrev S8x1024 : Shape := ⟨2, ![8, 1024]⟩
abbrev S2x1024x768 : Shape := ⟨3, ![2, 1024, 768]⟩
abbrev S2x1x768 : Shape := ⟨3, ![2, 1, 768]⟩
abbrev S2x8x768 : Shape := ⟨3, ![2, 8, 768]⟩
abbrev S1x1024x768 : Shape := ⟨3, ![1, 1024, 768]⟩
abbrev S1024x768 : Shape := ⟨2, ![1024, 768]⟩
abbrev S8x768 : Shape := ⟨2, ![8, 768]⟩
abbrev S1x1x768 : Shape := ⟨3, ![1, 1, 768]⟩
abbrev S1x768 : Shape := ⟨2, ![1, 768]⟩
abbrev S1x8x768 : Shape := ⟨3, ![1, 8, 768]⟩

abbrev nBuf : Space → Nat
  | .hbm => 4
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S2x1024x768, .f32⟩
  | .hbm, ⟨2, _⟩ => ⟨S2x1x768, .f32⟩
  | .hbm, ⟨3, _⟩ => ⟨S2x8x768, .f32⟩
  | .local _ .vmem, ⟨0, _⟩ => ⟨S8x1024, .f32⟩
  | .local _ .vmem, ⟨1, _⟩ => ⟨S2x1024x768, .f32⟩
  | .local _ .vmem, ⟨2, _⟩ => ⟨S2x1x768, .f32⟩
  | .local _ .vmem, ⟨3, _⟩ => ⟨S2x8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference32.lean ====
abbrev S8x1024 : Shape := ⟨2, ![8, 1024]⟩
abbrev S2x1024x768 : Shape := ⟨3, ![2, 1024, 768]⟩
abbrev S2x1x768 : Shape := ⟨3, ![2, 1, 768]⟩
abbrev S_ : Shape := ⟨0, ![]⟩
abbrev S2x768x8 : Shape := ⟨3, ![2, 768, 8]⟩
abbrev S2x8x768 : Shape := ⟨3, ![2, 8, 768]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x768, .f32⟩
  | .hbm, ⟨2, _⟩ => ⟨S2x1x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S2x768x8, .f32⟩
  | .hbm, ⟨13, _⟩ => ⟨S2x8x768, .f32⟩
  | .hbm, ⟨14, _⟩ => ⟨S2x8x768, .f32⟩
  | .hbm, ⟨15, _⟩ => ⟨S2x8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel33.lean ====
abbrev S8x184x128 : Shape := ⟨3, ![8, 184, 128]⟩
abbrev S184x128 : Shape := ⟨2, ![184, 128]⟩
abbrev S1x184x128 : Shape := ⟨3, ![1, 184, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x184x128, .f32⟩
  | .hbm, ⟨1, _⟩ => ⟨S184x128, .f32⟩
  | .hbm, ⟨2, _⟩ => ⟨S184x128, .f32⟩
  | .hbm, ⟨3, _⟩ => ⟨S184x128, .f32⟩
  | .hbm, ⟨4, _⟩ => ⟨S184x128, .f32⟩
  | .hbm, ⟨5, _⟩ => ⟨S184x128, .f32⟩
  | .hbm, ⟨6, _⟩ => ⟨S184x128, .f32⟩
  | .hbm, ⟨7, _⟩ => ⟨S184x128, .f32⟩
  | .local _ .vmem, ⟨0, _⟩ => ⟨S8x184x128, .f32⟩
  | .local _ .vmem, ⟨1, _⟩ => ⟨S184x128, .f32⟩
  | .local _ .vmem, ⟨2, _⟩ => ⟨S184x128, .f32⟩
  | .local _ .vmem, ⟨3, _⟩ => ⟨S184x128, .f32⟩
  | .local _ .vmem, ⟨4, _⟩ => ⟨S184x128, .f32⟩
  | .local _ .vmem, ⟨5, _⟩ => ⟨S184x128, .f32⟩
  | .local _ .vmem, ⟨6, _⟩ => ⟨S184x128, .f32⟩
  | .local _ .vmem, ⟨7, _⟩ => ⟨S184x128, .f32⟩
  | _, _ => ⟨S8x184x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x184x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S184x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S184x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S184x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S184x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S184x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S184x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S184x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference33.lean ====
abbrev S8x184x128 : Shape := ⟨3, ![8, 184, 128]⟩
abbrev S184x128 : Shape := ⟨2, ![184, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x184x128, .f32⟩
  | .hbm, ⟨1, _⟩ => ⟨S184x128, .f32⟩
  | .hbm, ⟨2, _⟩ => ⟨S184x128, .f32⟩
  | .hbm, ⟨3, _⟩ => ⟨S184x128, .f32⟩
  | .hbm, ⟨4, _⟩ => ⟨S_, .f32⟩
  | .hbm, ⟨5, _⟩ => ⟨S184x128, .f32⟩
  | .hbm, ⟨6, _⟩ => ⟨S_, .f32⟩
  | .hbm, ⟨7, _⟩ => ⟨S184x128, .f32⟩
  | .hbm, ⟨8, _⟩ => ⟨S184x128, .f32⟩
  | .hbm, ⟨9, _⟩ => ⟨S_, .f32⟩
  | .hbm, ⟨10, _⟩ => ⟨S184x128, .f32⟩
  | .hbm, ⟨11, _⟩ => ⟨S184x128, .f32⟩
  | .hbm, ⟨12, _⟩ => ⟨S184x128, .f32⟩
  | .hbm, ⟨13, _⟩ => ⟨S_, .f32⟩
  | .hbm, ⟨14, _⟩ => ⟨S184x128, .f32⟩
  | .hbm, ⟨15, _⟩ => ⟨S184x128, .f32⟩
  | .hbm, ⟨16, _⟩ => ⟨S184x128, .f32⟩
  | .hbm, ⟨17, _⟩ => ⟨S_, .f32⟩
  | .hbm, ⟨18, _⟩ => ⟨S184x128, .f32⟩
  | .hbm, ⟨19, _⟩ => ⟨S184x128, .f32⟩
  | .hbm, ⟨20, _⟩ => ⟨S184x128, .f32⟩
  | .hbm, ⟨21, _⟩ => ⟨S_, .f32⟩
  | .hbm, ⟨22, _⟩ => ⟨S184x128, .f32⟩
  | .hbm, ⟨23, _⟩ => ⟨S184x128, .f32⟩
  | .hbm, ⟨24, _⟩ => ⟨S_, .f32⟩
  | .hbm, ⟨25, _⟩ => ⟨S184x128, .f32⟩
  | .hbm, ⟨26, _⟩ => ⟨S184x128, .f32⟩
  | .hbm, ⟨27, _⟩ => ⟨S184x128, .f32⟩
  | .hbm, ⟨28, _⟩ => ⟨S_, .f32⟩
  | .hbm, ⟨29, _⟩ => ⟨S184x128, .f32⟩
  | .hbm, ⟨30, _⟩ => ⟨S184x128, .f32⟩
  | .hbm, ⟨31, _⟩ => ⟨S184x128, .f32⟩
  | .hbm, ⟨32, _⟩ => ⟨S_, .f32⟩
  | .hbm, ⟨33, _⟩ => ⟨S184x128, .f32⟩
  | .hbm, ⟨34, _⟩ => ⟨S184x128, .f32⟩
  | .hbm, ⟨35, _⟩ => ⟨S184x128, .f32⟩
  | .hbm, ⟨36, _⟩ => ⟨S_, .f32⟩
  | .hbm, ⟨37, _⟩ => ⟨S184x128, .f32⟩
  | .hbm, ⟨38, _⟩ => ⟨S184x128, .f32⟩
  | _, _ => ⟨S8x184x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel34.lean ====
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .local _ .vmem, ⟨0, _⟩ => ⟨S8x8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S8x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference34.lean ====
abbrev S8x8x128 : Shape := ⟨3, ![8, 8, 128]⟩
abbrev S8x128 : Shape := ⟨2, ![8, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S_, .f32⟩
  | .hbm, ⟨7, _⟩ => ⟨S8x128, .f32⟩
  | .hbm, ⟨8, _⟩ => ⟨S8x128, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S_, .f32⟩
  | .hbm, ⟨14, _⟩ => ⟨S8x128, .f32⟩
  | .hbm, ⟨15, _⟩ => ⟨S8x128, .f32⟩
  | .hbm, ⟨16, _⟩ => ⟨S8x128, .f32⟩
  | .hbm, ⟨17, _⟩ => ⟨S_, .f32⟩
  | .hbm, ⟨18, _⟩ => ⟨S8x128, .f32⟩
  | .hbm, ⟨19, _⟩ => ⟨S8x128, .f32⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .f32⟩
  | .hbm, ⟨24, _⟩ => ⟨S_, .f32⟩
  | .hbm, ⟨25, _⟩ => ⟨S8x128, .f32⟩
  | .hbm, ⟨26, _⟩ => ⟨S8x128, .f32⟩
  | .hbm, ⟨27, _⟩ => ⟨S8x128, .f32⟩
  | .hbm, ⟨28, _⟩ => ⟨S_, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S_, .f32⟩
  | .hbm, ⟨33, _⟩ => ⟨S8x128, .f32⟩
  | .hbm, ⟨34, _⟩ => ⟨S8x128, .f32⟩
  | .hbm, ⟨35, _⟩ => ⟨S8x128, .f32⟩
  | .hbm, ⟨36, _⟩ => ⟨S_, .f32⟩
  | .hbm, ⟨37, _⟩ => ⟨S8x128, .f32⟩
  | .hbm, ⟨38, _⟩ => ⟨S8x128, .f32⟩
  | _, _ => ⟨S8x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel35.lean ====
abbrev S16384x1024 : Shape := ⟨2, ![16384, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S16384x1024, .f32⟩
  | .hbm, ⟨5, _⟩ => ⟨S16384x1024, .f32⟩
  | .hbm, ⟨6, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference35.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S8x128 : Shape := ⟨2, ![8, 128]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S8x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_cst_7 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Proof.SbaRunIdeal.lean ====
/-
  The stick-breaking attention forward kernel (`Cert.Kernel17Ideal`): its body's run.  A grid point takes one block of 256 queries
  of a pair of heads.  It works through the diagonal block of keys, then calls a loop that walks the earlier key
  blocks from the nearest to the first and stops early once every query's remaining weight is negligible.
  This module states one trip of that loop as a function of the three buffers it updates (`trip`), the loop
  as a recursion over the trips left (`loop`), and proves the loop's specification (`spec_le`).
-/
module

public import proofs.«01_k».proof.Proof.Gen.Kernel17Ideal.Launch
public import proofs.«01_k».proof.Proof.Gen.Kernel17Ideal.Skeleton
public import proofs.«01_k».proof.Proof.Gen.Kernel17Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel17Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The accesses -/

/-- Head 0's part of a buffer with one column per query. -/
abbrev n0 : Rect S2x256x1 := Rect.unit (s := S2x256x1) ![0, 0, 0] S1x256x1.size inb_S2x256x1_S1x256x1_0_0_0
/-- Head 1's part of it. -/
abbrev n1 : Rect S2x256x1 := Rect.unit (s := S2x256x1) ![1, 0, 0] S1x256x1.size inb_S2x256x1_S1x256x1_1_0_0
/-- The whole of it. -/
abbrev nn : Rect S2x256x1 := Rect.unit (s := S2x256x1) ![0, 0, 0] S2x256x1.size inb_S2x256x1_S2x256x1_0_0_0
/-- Head 0's part of a buffer with 128 lanes per query. -/
abbrev a0 : Rect S2x256x128 := Rect.unit (s := S2x256x128) ![0, 0, 0] S1x256x128.size inb_S2x256x128_S1x256x128_0_0_0
/-- Head 1's part of it. -/
abbrev a1 : Rect S2x256x128 := Rect.unit (s := S2x256x128) ![1, 0, 0] S1x256x128.size inb_S2x256x128_S1x256x128_1_0_0
/-- The whole of it. -/
abbrev aa : Rect S2x256x128 := Rect.unit (s := S2x256x128) ![0, 0, 0] S2x256x128.size inb_S2x256x128_S2x256x128_0_0_0
/-- A whole block of 256 rows. -/
abbrev bb : Rect S256x128 := Rect.unit (s := S256x128) ![0, 0] S256x128.size inb_S256x128_S256x128_0_0
/-- The diagonal block of keys. -/
abbrev kd (i : grid0.Coords) : Rect S16384x128 := Rect.unit (s := S16384x128) (k0_off1 i) S256x128.size (k0_off1_inb i)
/-- The block of keys of the loop's trip `n`. -/
abbrev kt (i : grid0.Coords) (n : BitVec 32) (h : k0_chk1 i n) : Rect S16384x128 :=
  Rect.unit (s := S16384x128) (k0_off2 i n) S256x128.size (k0_off2_inb i n h)

/-! ## One trip and the loop -/

/-- What the loop updates: the accumulated output, the running sums, the record of the running sums. -/
structure St (F : FTy → Type) where
  acc : Vec F S2x256x128 .f32
  run : Vec F S2x256x1 .f32
  runs : Vec F S2x256x128 .f32

/-- The number of the key block of trip `n`, as the body computes it. -/
abbrev blockNo (i : grid0.Coords) (n : BitVec 32) : BitVec 32 :=
  Scalar.subi (Scalar.subi (Scalar.muli (BitVec.ofNat 32 (i 1).val) 1#32) 1#32) n

/-- One trip: the three buffers after it, from what they held, the two heads' queries and the block of keys and values. -/
def trip (w : BitVec 32) (q0 q1 : Vec F S256x128 .bf16) (lt : FVec F S256x256 .bf16)
    (col : IVec S256x128 32) (k v : Vec F S256x128 .bf16) (s : St F) : St F where
  acc := View.canon [⟨a1, k0_pay45 v (k0_pay39 (k0_pay30 q1 k) (k0_pay32 q1 k) (k0_pay34 q1 lt k) (View.ld s.run n1)) (View.ld s.acc a1)⟩,
    ⟨a0, k0_pay40 v (k0_pay29 q0 k) (k0_pay31 q0 k) (k0_pay33 q0 lt k) (k0_pay35 (View.ld s.run n0)) (View.ld s.acc a0)⟩]
  run := View.canon [⟨n1, k0_pay38 (k0_pay32 q1 k) (View.ld s.run n1)⟩, ⟨n0, k0_pay36 (k0_pay31 q0 k) (k0_pay35 (View.ld s.run n0))⟩]
  runs := View.canon [⟨a1, k0_pay46 col w (k0_pay37 (View.ld s.run n1)) (View.ld s.runs a1)⟩,
    ⟨a0, k0_pay44 (k0_pay41 col w) (k0_pay42 (View.ld s.runs a0)) (k0_pay43 (k0_pay35 (View.ld s.run n0)))⟩]

/-- Whether the walk goes on: the largest running sum, over both heads, against the threshold. -/
def goes (r : Vec F S2x256x1 .f32) : BitVec 1 :=
  Scalar.cmpf .oge (k0_pay3 (k0_pay47 (View.ld r n0)) (k0_pay48 (View.ld r n1))) (Scalar.ofBits .f32 0xC2D00000#32)

open Classical in
/-- The loop with `fuel` trips left, the next being trip `n`: it ends when the flag is down. -/
def loop (i : grid0.Coords) (q0 q1 : Vec F S256x128 .bf16) (lt : FVec F S256x256 .bf16) (col : IVec S256x128 32)
    (k v : Vec F S16384x128 .bf16) : ℕ → ℕ → BitVec 1 → St F → St F
  | 0, _, _, s => s
  | fuel + 1, n, go, s =>
    if h : go = 1#1 ∧ k0_chk1 i (BitVec.ofNat 32 n) then
      let s' := trip (blockNo i (BitVec.ofNat 32 n)) q0 q1 lt col (View.ld k (kt i _ h.2)) (View.ld v (kt i _ h.2)) s
      loop i q0 q1 lt col k v fuel (n + 1) (goes s'.run) s'
    else s

/-- Block `b` of the loop over `a` blocks is block `a - 1 - b`. -/
theorem blockWord (a b : ℕ) (h : b < a) :
    Scalar.subi (Scalar.subi (Scalar.muli (BitVec.ofNat 32 a) 1#32) 1#32) (BitVec.ofNat 32 b) = BitVec.ofNat 32 (a - 1 - b) := by
  obtain ⟨d, rfl⟩ : ∃ d, a = d + 1 + b := ⟨a - 1 - b, by omega⟩
  rw [show d + 1 + b - 1 - b = d by omega]
  show BitVec.ofNat 32 (d + 1 + b) * 1#32 - 1#32 - BitVec.ofNat 32 b = _
  rw [BitVec.mul_one, BitVec.ofNat_add, BitVec.ofNat_add, BitVec.sub_sub, BitVec.add_assoc]
  exact BitVec.add_sub_cancel _ _

/-- The check of trip `n` holds while there is a block left. -/
theorem chk_of_lt : ∀ (i : grid0.Coords) (n : Fin 64), n.val < (i 1).val → k0_chk1 i (BitVec.ofNat 32 n.val) := by
  intro i n h
  have h1 : (i 1).val < 64 := (i 1).isLt
  have e : (Scalar.muli (blockNo i (BitVec.ofNat 32 n.val)) 256#32).toNat = ((i 1).val - 1 - n.val) * 256 := by
    rw [blockNo, blockWord _ _ h]
    show (BitVec.ofNat 32 _ * BitVec.ofNat 32 256).toNat = _
    rw [← BitVec.ofNat_mul, BitVec.toNat_ofNat]
    exact Nat.mod_eq_of_lt (by omega)
  refine ⟨⟨_, e.trans (Nat.mul_comm _ _)⟩, ?_, ⟨_, e.trans (Nat.mul_comm _ _)⟩⟩
  intro a
  fin_cases a
  · show (Scalar.muli (blockNo i (BitVec.ofNat 32 n.val)) 256#32).toNat + 256 ≤ 16384
    omega
  · show 0 + 128 ≤ 128
    omega

/-- The loop's test: a block is left and the flag is up. -/
theorem test_eq (a b : ℕ) (ha : a < 64) (hb : b ≤ 64) (go : BitVec 1) :
    Scalar.andi (Scalar.cmpi .slt (BitVec.ofNat 32 b) (Scalar.muli (BitVec.ofNat 32 a) 1#32)) go = 1#1 ↔ b < a ∧ go = 1#1 := by
  have e : Scalar.cmpi .slt (BitVec.ofNat 32 b) (Scalar.muli (BitVec.ofNat 32 a) 1#32) = BitVec.ofBool (decide (b < a)) := by
    simp only [Scalar.cmpi, Scalar.muli, IntOp.muli, BitVec.mul_one]
    word_cmp
  rw [e]
  by_cases h : b < a
  · rw [decide_eq_true h]; revert go; simp only [h, true_and]; decide
  · rw [decide_eq_false h]; revert go; simp only [h, false_and, iff_false]; decide

/-- The two heads' parts make up the running sums. -/
theorem coverN (p1 p0 : Vec F S1x256x1 .f32) (y : S2x256x1.Idx) :
    ∃ pc ∈ ([⟨n1, p1⟩, ⟨n0, p0⟩] : List (View.Piece (Elt F) S2x256x1 .f32)), y ∈ pc.1.set :=
  View.cover_of_tiled [⟨n1, p1⟩, ⟨n0, p0⟩] S1x256x1.size (by rfl) y

/-- The two heads' parts make up a buffer with 128 lanes per query. -/
theorem coverA (p1 p0 : Vec F S1x256x128 .f32) (y : S2x256x128.Idx) :
    ∃ pc ∈ ([⟨a1, p1⟩, ⟨a0, p0⟩] : List (View.Piece (Elt F) S2x256x128 .f32)), y ∈ pc.1.set :=
  View.cover_of_tiled [⟨a1, p1⟩, ⟨a0, p0⟩] S1x256x128.size (by rfl) y

/-! ## The loop's specification -/

section Label

variable (c : Dev nD) (i : grid0.Coords)
  (arg3 : Memref sig .tc .vmem S16384x128 .bf16) (harg3 : arg3.IsWhole) (arg4 : Memref sig .tc .vmem S16384x128 .bf16) (harg4 : arg4.IsWhole)
  (arg6 : Memref sig .tc .vmem S2x256x128 .f32) (harg6 : arg6.IsWhole) (arg7 : Memref sig .tc .vmem S2x256x128 .f32) (harg7 : arg7.IsWhole)
  (arg8 : Memref sig .tc .vmem S2x256x1 .f32) (harg8 : arg8.IsWhole)
  (q0 q1 : Vec F S256x128 .bf16) (lt : FVec F S256x256 .bf16) (col : IVec S256x128 32) (k v : Vec F S16384x128 .bf16)

/-- What the loop holds: the keys and the values, and the three buffers it updates. -/
def held (s : St F) : sProp 𝕄 :=
  iprop(owns (c : Thread nD τ) arg3 fullShare k ∗ owns (c : Thread nD τ) arg4 fullShare v
    ∗ owns (c : Thread nD τ) arg6 fullShare s.runs ∗ owns (c : Thread nD τ) arg7 fullShare s.acc ∗ owns (c : Thread nD τ) arg8 fullShare s.run)

/-- The loop's specification: from the buffers at one state it returns some counter and flag, and the buffers at another. -/
def spec (s s' : St F) : sWPT 𝕄 (BitVec 32 × BitVec 1) := do
  sWPT.consume (held c arg3 arg4 arg6 arg7 arg8 k v s)
  let r ← sWPT.arbitrary
  sWPT.produce (held c arg3 arg4 arg6 arg7 arg8 k v s')
  pure r

/-- What the specification asks before a continuation: the buffers at the first state, and the continuation from the second. -/
theorem spec_apply (s s' : St F) (K : BitVec 32 × BitVec 1 → sProp 𝕄) :
    spec c arg3 arg4 arg6 arg7 arg8 k v s s' K
      = iprop(held c arg3 arg4 arg6 arg7 arg8 k v s ∗ ∀ r : BitVec 32 × BitVec 1, (held c arg3 arg4 arg6 arg7 arg8 k v s' -∗ K r)) := rfl

set_option maxHeartbeats 1000000 in
/-- The loop meets its specification: from any state it leaves the buffers at what the recursion over the trips left computes. -/
theorem spec_le (E : Set ℕ) :
    ∀ fuel n, n + fuel = (i 1).val → ∀ (go : BitVec 1) (s : St F) (K : BitVec 32 × BitVec 1 → sProp 𝕄),
      spec c arg3 arg4 arg6 arg7 arg8 k v s (loop i q0 q1 lt col k v fuel n go s) K
      ⊢ wp frame (wpE (defs₀ (F := F)) Variants.nat (c : Thread nD τ) (some fuel)) E
          (defs₀ (F := F) .tc 1 ⟨i, arg3, harg3, arg4, harg4, q0, q1, lt, arg8, harg8, arg7, harg7, col, arg6, harg6, BitVec.ofNat 32 n, go⟩) K := by
  have hi : (i 1).val < 64 := (i 1).isLt
  intro fuel
  induction fuel with
  | zero =>
    intro n hn go s K
    rw [spec_apply]
    show _ ⊢ wp frame (wpE (defs₀ (F := F)) Variants.nat (c : Thread nD τ) (some 0)) E
      (cc0_while1 i arg3 harg3 arg4 harg4 q0 q1 lt arg8 harg8 arg7 harg7 col arg6 harg6 (BitVec.ofNat 32 n) go) K
    simp only [cc0_while1_eq_skeleton]; unfold cc0_while1_skel
    have htest : ¬Scalar.andi (Scalar.cmpi .slt (BitVec.ofNat 32 n) (Scalar.muli (BitVec.ofNat 32 (i 1).val) 1#32)) go = 1#1 :=
      fun h => by have := ((test_eq _ _ hi (by omega) _).mp h).1; omega
    simp only [htest, ↓reduceIte, Prog.pure_eq_ret]
    iintro ⟨H, Hk⟩
    rw [wp_ret]; imodintro
    iapply Hk
    simp only [loop]; iexact H
  | succ fuel ih =>
    intro n hn go s K
    rw [spec_apply]
    show _ ⊢ wp frame (wpE (defs₀ (F := F)) Variants.nat (c : Thread nD τ) (some (fuel + 1))) E
      (cc0_while1 i arg3 harg3 arg4 harg4 q0 q1 lt arg8 harg8 arg7 harg7 col arg6 harg6 (BitVec.ofNat 32 n) go) K
    simp only [cc0_while1_eq_skeleton]; unfold cc0_while1_skel
    by_cases hgo : go = 1#1
    · have htest : Scalar.andi (Scalar.cmpi .slt (BitVec.ofNat 32 n) (Scalar.muli (BitVec.ofNat 32 (i 1).val) 1#32)) go = 1#1 :=
        (test_eq _ _ hi (by omega) _).mpr ⟨by omega, hgo⟩
      have hchk : k0_chk1 i (BitVec.ofNat 32 n) := chk_of_lt i ⟨n, by omega⟩ (by show n < _; omega)
      obtain ⟨acc, run, runs⟩ := s
      rw [show loop i q0 q1 lt col k v (fuel + 1) n go ⟨acc, run, runs⟩ = _ from dif_pos ⟨hgo, hchk⟩]
      unfold held owns
      iintro ⟨⟨⟨%f3, %hf3, H3⟩, ⟨%f4, %hf4, H4⟩, ⟨%f6, %hf6, H6⟩, ⟨%f7, %hf7, H7⟩, ⟨%f8, %hf8, H8⟩⟩, Hk⟩
      dsimp only at hf6 hf7 hf8
      subst hf3 hf4 hf6 hf7 hf8
      sl_exec (disch := first | sl_exact htest | sl_exact hchk)
      have e9 : spec_le.sl.v272 n = BitVec.ofNat 32 (n + 1) := by
        show BitVec.ofNat 32 n + BitVec.ofNat 32 1 = _
        exact (BitVec.ofNat_add n 1).symm
      have e10 : spec_le.sl.v286 c i arg3 arg8 q0 q1 n hchk f3 f8
          = goes (trip (blockNo i (BitVec.ofNat 32 n)) q0 q1 lt col (View.ld (arg3.view.read (Elt F) f3) (kt i _ hchk)) (View.ld (arg4.view.read (Elt F) f4) (kt i _ hchk)) ⟨arg7.view.read (Elt F) f7, arg8.view.read (Elt F) f8, arg6.view.read (Elt F) f6⟩).run := by
        delta spec_le.sl.v286 spec_le.sl.r_13 spec_le.sl.r_14 spec_le.sl.v273 spec_le.sl.v279 spec_le.sl.H8_2
        unfold goes
        rw [View.readCov_eq_canon_ld _ _ _ (coverN _ _), View.readCov_eq_canon_ld _ _ _ (coverN _ _)]
        rfl
      rw [e9, e10]
      iapply (wp_call_spec Variants.nat (c : Thread nD τ) (some (fuel + 1)) E _ fuel (fun u hu => by cases hu; exact Nat.lt_succ_self fuel)
        (ih (n + 1) (by omega) _ (trip (blockNo i (BitVec.ofNat 32 n)) q0 q1 lt col (View.ld (arg3.view.read (Elt F) f3) (kt i _ hchk)) (View.ld (arg4.view.read (Elt F) f4) (kt i _ hchk)) ⟨arg7.view.read (Elt F) f7, arg8.view.read (Elt F) f8, arg6.view.read (Elt F) f6⟩)))
      rw [spec_apply]
      unfold held owns
      isplitl [H3 H4 H6 H7 H8]
      · isplitl [H3]
        · iexists f3; isplitr; · ipureintro; rfl
          iexact H3
        isplitl [H4]
        · iexists f4; isplitr; · ipureintro; rfl
          iexact H4
        isplitl [H6]
        · iexists _; isplitr
          swap; · iexact H6
          ipureintro
          exact View.read_writes_eq_canon _ _ _ (coverA _ _)
        isplitl [H7]
        · iexists _; isplitr
          swap; · iexact H7
          ipureintro
          refine (View.read_writes_eq_canon _ _ _ (coverA _ _)).trans ?_
          dsimp only [trip]
          delta spec_le.sl.r spec_le.sl.r_1 spec_le.sl.r_3 spec_le.sl.r_5 spec_le.sl.r_7 spec_le.sl.r_9 spec_le.sl.v254
          delta spec_le.sl.r_2 spec_le.sl.r_4 spec_le.sl.r_6 spec_le.sl.v218
          rfl
        iexists _; isplitr
        swap; · iexact H8
        ipureintro
        exact View.read_writes_eq_canon _ _ _ (coverN _ _)
      iintro %r H
      rw [wp_ret]; imodintro
      iapply Hk
      iexact H
    · have htest : ¬Scalar.andi (Scalar.cmpi .slt (BitVec.ofNat 32 n) (Scalar.muli (BitVec.ofNat 32 (i 1).val) 1#32)) go = 1#1 :=
        fun h => hgo ((test_eq _ _ hi (by omega) _).mp h).2
      simp only [htest, ↓reduceIte, Prog.pure_eq_ret]
      iintro ⟨H, Hk⟩
      rw [wp_ret]; imodintro
      iapply Hk
      rw [show loop i q0 q1 lt col k v (fuel + 1) n go s = s from dif_neg fun h => hgo h.1]
      iexact H

end Label

end Cert.Kernel17Ideal.Gen

end
-- ==== Proof.SbaBodyIdeal.lean ====
/-
  The stick-breaking attention forward kernel (`Cert.Kernel17Ideal`): the body's whole run.  It states what the diagonal block
  leaves (`first`), what the loop leaves after it (`final`) and the block of outputs (`out0_3`), and proves the body's triple
  (`sound_kernel`).
-/
module

public import proofs.«01_k».proof.Proof.SbaRunIdeal
public import Idealize.ShloMosaic.Lib.Pipeline.ReadBack

@[expose] public section

set_option maxRecDepth 16384

noncomputable section

namespace Cert.Kernel17Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Reading back what a point has stored -/

/-- A load of head 0's running sums after the whole buffer is stored. -/
theorem readN0 {sp : Space} (v : View sig .tc sp S2x256x1 .f32) (z : Vec F S2x256x1 .f32) :
    v.readCov [⟨nn, z⟩] n0.toLoadRect = View.ld z n0 :=
  View.readCov_fill v inb_S2x256x1_S2x256x1_0_0_0 z [] n0 (by decide)
/-- A load of head 1's running sums after the whole buffer and head 0's part are stored. -/
theorem readN1 {sp : Space} (v : View sig .tc sp S2x256x1 .f32) (x : Vec F S1x256x1 .f32) (z : Vec F S2x256x1 .f32) :
    v.readCov [⟨n0, x⟩, ⟨nn, z⟩] n1.toLoadRect = View.ld z n1 := by
  rw [View.readCov_skip v n0 x [⟨nn, z⟩] n1.toLoadRect (by decide)]
  exact View.readCov_fill v inb_S2x256x1_S2x256x1_0_0_0 z [] n1 (by decide)
/-- A load of head 0's accumulated output after the whole buffer is stored. -/
theorem readA0 {sp : Space} (v : View sig .tc sp S2x256x128 .f32) (z : Vec F S2x256x128 .f32) :
    v.readCov [⟨aa, z⟩] a0.toLoadRect = View.ld z a0 :=
  View.readCov_fill v inb_S2x256x128_S2x256x128_0_0_0 z [] a0 (by decide)
/-- A load of head 1's accumulated output after the whole buffer and head 0's part are stored. -/
theorem readA1 {sp : Space} (v : View sig .tc sp S2x256x128 .f32) (x : Vec F S1x256x128 .f32) (z : Vec F S2x256x128 .f32) :
    v.readCov [⟨a0, x⟩, ⟨aa, z⟩] a1.toLoadRect = View.ld z a1 := by
  rw [View.readCov_skip v a0 x [⟨aa, z⟩] a1.toLoadRect (by decide)]
  exact View.readCov_fill v inb_S2x256x128_S2x256x128_0_0_0 z [] a1 (by decide)
/-- A load of the running sums after both heads' parts are stored. -/
theorem readN {sp : Space} (v : View sig .tc sp S2x256x1 .f32) (y x : Vec F S1x256x1 .f32) (z : Vec F S2x256x1 .f32) (r : Rect S2x256x1) :
    v.readCov [⟨n1, y⟩, ⟨n0, x⟩, ⟨nn, z⟩] r.toLoadRect = View.ld (View.canon [⟨n1, y⟩, ⟨n0, x⟩]) r := by
  show View.ld (v.read (Elt F) (v.writes (Elt F) (v.writes (Elt F) v.junk [⟨nn, z⟩]) [⟨n1, y⟩, ⟨n0, x⟩])) r = _
  rw [View.read_writes_eq_canon _ _ _ (coverN y x)]

/-! ## The diagonal block -/

/-- Head 0's queries: the lanes below 64, the others zero. -/
def hq0 (x0 : Vec F S256x128 .bf16) : Vec F S256x128 .bf16 := k0_pay6 (View.ld x0 bb)
/-- Head 1's queries: the lanes from 64, the others zero. -/
def hq1 (x0 : Vec F S256x128 .bf16) : Vec F S256x128 .bf16 := k0_pay7 (View.ld x0 bb)
/-- The lane numbers of a block. -/
def col : IVec S256x128 32 := iota .tc S256x128 32 [1] iota_S256x128_d1_w32
/-- The column numbers of a tile. -/
def cols : IVec S256x256 32 := iota .tc S256x256 32 [1] iota_S256x256_d1_w32
/-- The number of the diagonal block, as the body computes it. -/
abbrev diagNo (i : grid0.Coords) : BitVec 32 :=
  Scalar.subi (Scalar.subi (Scalar.muli (Scalar.addi (BitVec.ofNat 32 (i 1).val) 1#32) 1#32) 1#32) 0#32
/-- The keys before the query, on the diagonal tile. -/
abbrev strict (i : grid0.Coords) : IVec S256x256 1 := k0_pay11 (BitVec.ofNat 32 (i 1).val) (k0_pay4 i) cols

/-- The three buffers after the diagonal block. -/
def first (i : grid0.Coords) (q0 q1 : Vec F S256x128 .bf16) (k v : Vec F S256x128 .bf16) : St F where
  acc := View.canon [⟨a1, k0_pay27 v (k0_pay23 k0_pay5 (strict i) (k0_pay13 q1 k) (k0_pay14 q1 k) k0_pay16 (View.ld k0_pay9 n1)) (View.ld k0_pay8 a1)⟩,
    ⟨a0, k0_pay25 v (k0_pay22 k0_pay5 (strict i) (k0_pay12 q0 k) (k0_pay15 (BitVec.ofNat 32 (i 1).val) (k0_pay4 i) cols q0 k) (View.ld k0_pay9 n0))
      (k0_pay24 (View.ld k0_pay8 a0))⟩]
  run := View.canon [⟨n1, k0_pay21 (strict i) (k0_pay14 q1 k) k0_pay16 (View.ld k0_pay9 n1)⟩,
    ⟨n0, k0_pay19 (k0_pay15 (BitVec.ofNat 32 (i 1).val) (k0_pay4 i) cols q0 k) (View.ld k0_pay9 n0)⟩]
  runs := View.canon [⟨a1, k0_pay28 col (diagNo i) (k0_pay20 (View.ld k0_pay9 n1)) (View.ld k0_pay10 a1)⟩,
    ⟨a0, k0_pay26 col (diagNo i) (k0_pay18 (View.ld k0_pay9 n0)) (View.ld k0_pay10 a0)⟩]

/-- Whether the loop is entered. -/
def enters (r : Vec F S2x256x1 .f32) : BitVec 1 :=
  Scalar.cmpf .oge (k0_pay1 (View.ld r n0) (View.ld r n1)) (Scalar.ofBits .f32 0xC2D00000#32)

/-- The three buffers after the loop, from the block of queries and all the keys and values. -/
def final (i : grid0.Coords) (x0 : Vec F S256x128 .bf16) (x1 x2 : Vec F S16384x128 .bf16) : St F :=
  let s := first i (hq0 x0) (hq1 x0) (View.ld x1 (kd i)) (View.ld x2 (kd i))
  loop i (hq0 x0) (hq1 x0) k0_pay5 col x1 x2 (i 1).val 0 (enters s.run) s

/-- The block of outputs the body leaves. -/
def out0_3 (i : grid0.Coords) (x0 : Vec F S256x128 .bf16) (x1 x2 : Vec F S16384x128 .bf16) : Vec F S256x128 .f32 :=
  View.canon [⟨bb, k0_pay2 (iota .tc S1x128 32 [1] iota_S1x128_d1_w32) (View.ld (final i x0 x1 x2).acc a0) (View.ld (final i x0 x1 x2).acc a1)⟩]

/-- The one store makes up the block. -/
theorem coverB (p : Vec F S256x128 .f32) (y : S256x128.Idx) :
    ∃ pc ∈ ([⟨bb, p⟩] : List (View.Piece (Elt F) S256x128 .f32)), y ∈ pc.1.set :=
  View.cover_of_tiled [⟨bb, p⟩] S256x128.size (by rfl) y

/-! ## The body's triple -/

set_option maxHeartbeats 1000000 in
/-- The body's triple: it keeps the queries, keys and values, and leaves its block of outputs and its record of the running sums at what the walk computes. -/
theorem sound_kernel (c : Dev nD) (E : Set ℕ) (i : grid0.Coords) (arg2 : Memref sig .tc .vmem S256x128 .bf16) (harg2 : arg2.IsWhole)
    (arg3 : Memref sig .tc .vmem S16384x128 .bf16) (harg3 : arg3.IsWhole) (arg4 : Memref sig .tc .vmem S16384x128 .bf16) (harg4 : arg4.IsWhole)
    (arg5 : Memref sig .tc .vmem S256x128 .f32) (harg5 : arg5.IsWhole)
    (arg6 : Memref sig .tc .vmem S2x256x128 .f32) (harg6 : arg6.IsWhole) (arg7 : Memref sig .tc .vmem S2x256x128 .f32) (harg7 : arg7.IsWhole)
    (arg8 : Memref sig .tc .vmem S2x256x1 .f32) (harg8 : arg8.IsWhole)
    (x0 : Vec F S256x128 .bf16) (x1 x2 : Vec F S16384x128 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 i x0 x1 x2) ∗ owns (c : Thread nD τ) arg6 fullShare (final i x0 x1 x2).runs
            ∗ (∃ d, owns (c : Thread nD τ) arg7 fullShare d) ∗ (∃ d, owns (c : Thread nD τ) arg8 fullShare d)) -∗ K ⟨⟩))
      ⊢ wp frame (wpE (defs₀ (F := F)) Variants.nat c none) E (cc0_sba_fwd i arg2 harg2 arg3 harg3 arg4 harg4 arg5 harg5 arg6 harg6 arg7 harg7 arg8 harg8) K := by
  simp only [cc0_sba_fwd_eq_skeleton]; unfold cc0_sba_fwd_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf2 hf3 hf4
  sl_exec
  have e5 : sound_kernel.sl.v161 c i arg2 arg3 arg8 f2 f3
      = enters (first i (hq0 (arg2.view.read (Elt F) f2)) (hq1 (arg2.view.read (Elt F) f2)) (View.ld (arg3.view.read (Elt F) f3) (kd i)) (View.ld (arg4.view.read (Elt F) f4) (kd i))).run := by
    delta sound_kernel.sl.v161 sound_kernel.sl.v148 sound_kernel.sl.v154 sound_kernel.sl.H8_3 sound_kernel.sl.H8_2 sound_kernel.sl.H8_1
    unfold enters
    rw [readN, readN]
    delta sound_kernel.sl.v90 sound_kernel.sl.H8_2 sound_kernel.sl.H8_1 sound_kernel.sl.v82
    rw [readN1, readN0]
    rfl
  rw [e5]
  iapply (wp_call_spec Variants.nat (c : Thread nD τ) none E _ (i 1).val (fun u hu => nomatch hu)
    (spec_le c i arg3 harg3 arg4 harg4 arg6 harg6 arg7 harg7 arg8 harg8 (hq0 (arg2.view.read (Elt F) f2)) (hq1 (arg2.view.read (Elt F) f2)) k0_pay5 col
      (arg3.view.read (Elt F) f3) (arg4.view.read (Elt F) f4) E (i 1).val 0 (Nat.zero_add _)
      (enters (first i (hq0 (arg2.view.read (Elt F) f2)) (hq1 (arg2.view.read (Elt F) f2)) (View.ld (arg3.view.read (Elt F) f3) (kd i)) (View.ld (arg4.view.read (Elt F) f4) (kd i))).run)
      (first i (hq0 (arg2.view.read (Elt F) f2)) (hq1 (arg2.view.read (Elt F) f2)) (View.ld (arg3.view.read (Elt F) f3) (kd i)) (View.ld (arg4.view.read (Elt F) f4) (kd i)))))
  rw [spec_apply]
  unfold held
  isplitl [H3 H4 H6 H7 H8]
  · unfold owns
    isplitl [H3]
    · iexists f3; isplitr; · ipureintro; rfl
      iexact H3
    isplitl [H4]
    · iexists f4; isplitr; · ipureintro; rfl
      iexact H4
    isplitl [H6]
    · iexists _; isplitr
      swap; · iexact H6
      ipureintro
      delta sound_kernel.sl.H6_2 sound_kernel.sl.H6_1
      refine (View.read_writes_eq_canon _ (arg6.view.writes (Elt F) f6 [⟨aa, _⟩]) [⟨a1, _⟩, ⟨a0, _⟩] (coverA _ _)).trans ?_
      delta sound_kernel.sl.r_13 sound_kernel.sl.v140 sound_kernel.sl.v122 sound_kernel.sl.H6_2 sound_kernel.sl.H6_1 sound_kernel.sl.r_8 sound_kernel.sl.r_9
        sound_kernel.sl.v90 sound_kernel.sl.v82 sound_kernel.sl.H8_2 sound_kernel.sl.H8_1
      rw [readN1, readA1, readN0, readA0]
      rfl
    isplitl [H7]
    · iexists _; isplitr
      swap; · iexact H7
      ipureintro
      delta sound_kernel.sl.H7_2 sound_kernel.sl.H7_1
      refine (View.read_writes_eq_canon _ (arg7.view.writes (Elt F) f7 [⟨aa, _⟩]) [⟨a1, _⟩, ⟨a0, _⟩] (coverA _ _)).trans ?_
      delta sound_kernel.sl.r_2 sound_kernel.sl.r_11 sound_kernel.sl.v130 sound_kernel.sl.r_10 sound_kernel.sl.r_12 sound_kernel.sl.v112
        sound_kernel.sl.H7_2 sound_kernel.sl.H7_1 sound_kernel.sl.v90 sound_kernel.sl.v82 sound_kernel.sl.H8_2 sound_kernel.sl.H8_1
      rw [readN1, readA1, readN0, readA0]
      rfl
    iexists _; isplitr
    swap; · iexact H8
    ipureintro
    delta sound_kernel.sl.H8_3 sound_kernel.sl.H8_2 sound_kernel.sl.H8_1
    refine (View.read_writes_eq_canon _ (arg8.view.writes (Elt F) f8 [⟨nn, _⟩]) [⟨n1, _⟩, ⟨n0, _⟩] (coverN _ _)).trans ?_
    delta sound_kernel.sl.v90 sound_kernel.sl.v82 sound_kernel.sl.H8_2 sound_kernel.sl.H8_1
    rw [readN1, readN0]
    rfl
  unfold owns
  iintro %r ⟨H3, H4, H6, ⟨%g7, %hg7, H7⟩, H8⟩
  obtain ⟨r1, r2⟩ := r
  sl_exec
  sl_step
  iapply Hk
  isplitl [H2]
  · iexists f2; isplitr; · ipureintro; rfl
    iexact H2
  isplitl [H3]; · iexact H3
  isplitl [H4]; · iexact H4
  isplitl [H5]
  · iexists _; isplitr
    swap; · iexact H5
    ipureintro
    refine (View.read_writes_eq_canon _ _ _ (coverB _)).trans ?_
    unfold out0_3 final
    dsimp only
    rw [← hg7]
    rfl
  isplitl [H6]; · iexact H6
  isplitl [H7]
  · iexists _, g7; isplitr; · ipureintro; rfl
    iexact H7
  iexists _; iexact H8

end Cert.Kernel17Ideal.Gen

end
-- ==== Proof.SbaFrameIdeal.lean ====
/-
  The stick-breaking attention forward kernel (`Cert.Kernel17Ideal`): its frame.  Every grid point's body leaves its three input
  blocks as they were, its block of outputs at `out0_3` of them and its record of the running sums at
  `final`'s; the two scratch buffers belong to no point.  From that the program terminates without fault, its
  argument is unchanged and every counter is zero again.
-/
module

public import proofs.«01_k».proof.Proof.SbaBodyIdeal

@[expose] public section

set_option maxRecDepth 16384

noncomputable section

namespace Cert.Kernel17Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- The buffers when the region is entered: as launched, for the program is the region alone. -/
abbrev V (c : Dev nD) (b : Ref sig .tc) : Buf (Elt F) ((c : Thread nD τ).loc b) := m ((c : Thread nD τ).loc b)

set_option maxHeartbeats 800000 in
/-- The program is the one region, entered with the buffers as launched. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-! ## The proof data -/

/-- What each window's buffer holds after the body at each point. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (grid0.coords t) (iblk m c 0 t) (iblk m c 1 t) (iblk m c 2 t)
    | ⟨4, _⟩ => (final (grid0.coords t) (iblk m c 0 t) (iblk m c 1 t) (iblk m c 2 t)).runs
  Φ _ := Pipeline.ΦA spec0 c
  q w := Pipeline.shareOf spec0 w
  owed _ := 0

/-- The array a window is over, as the region finds it. -/
theorem A_eq (c : Dev nD) (w : Fin (cfg0 (F := F)).W) : (dats m 0 c).A w = V m c (Pipeline.arrRef spec0 w) := by
  dsimp only [dats]

/-- The queries' buffer after the body is its block. -/
theorem after0_0 (c : Dev nD) (t : Fin (cfg0 (F := F)).N) : (dats m 0 c).after 0 t = iblk m c 0 t := by dsimp only [dats]; rfl
/-- The keys' buffer after the body is its block. -/
theorem after0_1 (c : Dev nD) (t : Fin (cfg0 (F := F)).N) : (dats m 0 c).after 1 t = iblk m c 1 t := by dsimp only [dats]; rfl
/-- The values' buffer after the body is its block. -/
theorem after0_2 (c : Dev nD) (t : Fin (cfg0 (F := F)).N) : (dats m 0 c).after 2 t = iblk m c 2 t := by dsimp only [dats]; rfl
/-- The output's buffer after the body is the block of outputs. -/
theorem after0_3 (c : Dev nD) (t : Fin (cfg0 (F := F)).N) :
    (dats m 0 c).after 3 t = out0_3 (grid0.coords t) (iblk m c 0 t) (iblk m c 1 t) (iblk m c 2 t) := by dsimp only [dats]; rfl
/-- The record's buffer after the body is the record of the running sums. -/
theorem after0_4 (c : Dev nD) (t : Fin (cfg0 (F := F)).N) :
    (dats m 0 c).after 4 t = (final (grid0.coords t) (iblk m c 0 t) (iblk m c 1 t) (iblk m c 2 t)).runs := by dsimp only [dats]; rfl

/-- An input's buffer holds its block at every point, fetched there or not. -/
theorem before0_0 (c : Dev nD) (t : Fin (cfg0 (F := F)).N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; rfl) t d).trans
    (by unfold Dat.fetched Dat.blockOf iblk; rw [A_eq]; rfl)
/-- The keys' buffer holds its block at every point. -/
theorem before0_1 (c : Dev nD) (t : Fin (cfg0 (F := F)).N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; rfl) t d).trans
    (by unfold Dat.fetched Dat.blockOf iblk; rw [A_eq]; rfl)
/-- The values' buffer holds its block at every point. -/
theorem before0_2 (c : Dev nD) (t : Fin (cfg0 (F := F)).N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; rfl) t d).trans
    (by unfold Dat.fetched Dat.blockOf iblk; rw [A_eq]; rfl)

/-! ## The body obligation -/

/-- The region's invariant: the two scratch buffers at anything, and the generator register. -/
theorem inv_eq (c : Dev nD) :
    (Pipeline.ΦA spec0 c : sProp 𝕄)
      = iprop(((∃ d, owns (c : Thread nD τ) (Memref.whole cc0_scratch0 : Memref sig .tc .vmem S2x256x128 .f32) fullShare d)
          ∗ (∃ d, owns (c : Thread nD τ) (Memref.whole cc0_scratch1 : Memref sig .tc .vmem S2x256x1 .f32) fullShare d)) ∗ (∃ r, prngReg c r)) := by
  unfold Pipeline.ΦA; rw [scopedRest0_eq]; simp only [owns_whole]; try rfl

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at a point takes what it is called with to what it returns. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, inv_eq,
    after0_0, after0_1, after0_2, after0_3, after0_4]
  iintro ⟨⟨⟨HS, HR⟩, Hg⟩, Ho, ⟨%d0, H0⟩, ⟨%d1, H1⟩, ⟨%d2, H2⟩, ⟨%d3, H3⟩, ⟨%d4, H4⟩⟩
  iapply (sound_kernel c Set.univ (grid0.coords t) _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [HS]; · iexact HS
  isplitl [HR]; · iexact HR
  iintro ⟨H0, H1, H2, H3, H4, HS, HR⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  iexact H4

/-- The body's entry among the definitions, at a point. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- Every point's body does what the region asks of it. -/
theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every fair execution ends, each array at what the proof data computes and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.nat m ρ main
    (hbody := fun c => (body_obligation m c).loose) (hq := fun _ _ _ => rfl)
    (howed := fun _ _ => rfl) (V := V m) (hmain := hmain m Variants.nat) (hA := A_eq m) (hΦ := fun _ _ => rfl)

/-- Every fair execution ends, each array at what the proof data computes. -/
theorem run_main : θ_run defs (onTc (τ := τ) (main (F := F))) (s₀ m ρ) (Pipeline.FramePost cfgs (dats m) 0 (V m)) :=
  (θ_run defs _ _).mono (fun _ h => h.1) (run_main_quiescent m ρ)

/-- The frame claim, at any float arithmetic: the argument ends as it began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and ((θ_run defs _ _).mono (fun _ h c => ((h c).1 0).trans (((dats m 0 c).arrAt_in 0 rfl _).trans (A_eq m c 0))) (run_main m ρ))
    ((θ_run defs _ _).mono (fun _ h => h.2) (run_main_quiescent m ρ))

end Cert.Kernel17Ideal.Gen

end
-- ==== Proof.Reals.lean ====
/- Operations on extended reals read at real numbers, and what a precondition by `isfinite` says. -/
module

public import Idealize.ShloMosaic.PureOps.Ideal.Laws
public import Idealize.ShloMosaic.Lib.Pointwise
public import Idealize.ShloMosaic.Lib.ReduceAll

@[expose] public section

set_option maxRecDepth 16384

noncomputable section

namespace Cert.Reals

open Idealize.ShloMosaic

/-- A quotient of real numbers by one that is not zero is the real quotient. -/
theorem div_real (a b : ℝ) (hb : b ≠ 0) : Ideal.div (a : EReal) (b : EReal) = ((a / b : ℝ) : EReal) := by
  rw [Ideal.div_coe hb, ← EReal.coe_mul]
  congr 1
  ring

/-- The exponential of a real number is the real exponential. -/
theorem exp_real (a : ℝ) : Ideal.exp (a : EReal) = ((Real.exp a : ℝ) : EReal) := rfl

/-- The reciprocal square root of a positive real number is the real one. -/
theorem rsqrt_real (a : ℝ) (h : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr h.le), if_neg h.ne']

/-- A finite sum of real numbers is the real sum. -/
theorem sum_real {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of products of real numbers is a real number. -/
theorem real_dot {ι : Type*} [Fintype ι] (x y : ι → EReal) (hx : ∀ i, ∃ r : ℝ, x i = (r : EReal)) (hy : ∀ i, ∃ r : ℝ, y i = (r : EReal)) :
    ∃ r : ℝ, ∑ i, x i * y i = (r : EReal) := by
  choose a ha using hx
  choose b hb using hy
  refine ⟨∑ i, a i * b i, ?_⟩
  rw [← sum_real]
  exact Finset.sum_congr rfl fun i _ => by rw [ha, hb, EReal.coe_mul]

/-- The logistic function. -/
def sig (x : ℝ) : ℝ := 1 / (1 + Real.exp (-x))

/-- One plus an exponential is not zero. -/
theorem one_add_exp_ne (x : ℝ) : 1 + Real.exp x ≠ 0 := (by positivity : (0 : ℝ) < 1 + Real.exp x).ne'

/-- `1 / (1 + exp (-x))` at a real number. -/
theorem sig_neg (x : ℝ) : Ideal.div 1 (1 + Ideal.exp (-(x : EReal))) = ((sig x : ℝ) : EReal) := by
  rw [← EReal.coe_neg, exp_real, ← EReal.coe_one, ← EReal.coe_add, div_real _ _ (one_add_exp_ne _)]
  rfl

/-- `1 / (1 + exp (0 - x))` at a real number. -/
theorem sig_sub (x : ℝ) : Ideal.div 1 (1 + Ideal.exp (0 - (x : EReal))) = ((sig x : ℝ) : EReal) := by
  rw [zero_sub, sig_neg]

/-- The pattern of `+∞` is the top element. -/
theorem ofBits_inf : Ideal.ofBits .f32 0x7F800000#32 = ⊤ := by
  simp [Ideal.ofBits, Ideal.ieee]

/-- An extended real whose absolute value is below `⊤` is a real number. -/
theorem real_of_abs_lt (x : EReal) (h : max x (-x) < ⊤) : ∃ r : ℝ, x = (r : EReal) := by
  induction x using EReal.rec with
  | bot => simp at h
  | top => simp at h
  | coe r => exact ⟨r, rfl⟩

/-- An array whose entries all have absolute value below infinity holds real numbers. -/
theorem real_of_all {s t u v : Shape} [Subsingleton t.Idx] (x : FVec Ideal s .f32) {axes : List (Fin s.rank)}
    (hr : s.ReducesTo axes t) (hu : 0 < u.numel) {d : Fin v.rank → Fin s.rank} (hb : v.BroadcastsInDim s d)
    (init : IVec u 1) (j : t.Idx)
    (h : Host.reduce IntOp.andi (cmpf .olt (Host.absf x) (broadcastInDim s d hb (constant v .f32 0x7F800000#32))) init hr hu j = 1#1)
    (i : s.Idx) : ∃ r : ℝ, x i = (r : EReal) := by
  have e := Host.reduce_andi_all _ init hr hu j h i
  apply real_of_abs_lt
  have e' : Ideal.cmp .olt (max (x i) (-(x i))) (Ideal.ofBits .f32 0x7F800000#32) = 1#1 := e
  rw [ofBits_inf] at e'
  by_contra hn
  have e2 : BitVec.ofBool (decide (max (x i) (-(x i)) < ⊤)) = 1#1 := e'
  rw [show decide (max (x i) (-(x i)) < ⊤) = false from decide_eq_false hn] at e2
  exact absurd e2 (by decide)

/-- Both words of a conjunction that is one are one. -/
theorem andi_split {s : Shape} (a b : IVec s 1) (j : s.Idx) (h : andi a b j = 1#1) : a j = 1#1 ∧ b j = 1#1 :=
  IntOp.andi_eq_one.1 h

/-- A sum over blocks of one length is the sum over all the places. -/
theorem sum_blocks {n b N : Nat} (h : n * b = N) (F : Fin N → EReal) :
    ∑ s : Fin n, ∑ k : Fin b, F ⟨b * s.val + k.val, by
      have h1 : b * s.val + k.val < b * (s.val + 1) := by rw [Nat.mul_succ]; omega
      have h2 : b * (s.val + 1) ≤ b * n := Nat.mul_le_mul_left _ s.isLt
      rw [← h, Nat.mul_comm n b]; omega⟩ = ∑ r : Fin N, F r := by
  subst h
  rw [← Fintype.sum_prod_type']
  exact Fintype.sum_equiv (finProdFinEquiv (m := n) (n := b)) _ _ fun x => congrArg F (Fin.ext (Nat.add_comm _ _))

end Cert.Reals

end
-- ==== Proof.Ssd.lean ====
/- The gradients at the tail of the state-space mixer (skip connection, gate, grouped norm): at real arguments the gradients of
   the gate, of the norm's weight and of the skip's weight are the reference's. -/
module

public import proofs.«01_k».proof.Proof.Gen.KernelIdeal.Value
public import proofs.«01_k».proof.Proof.Gen.ReferenceIdeal.Read
public import proofs.«01_k».proof.Proof.Reals
public import proofs.«01_k».proof.Defs
public import Idealize.ShloMosaic.Lib.Pipeline.ValueKit
public import Idealize.ShloMosaic.Lib.Claim

@[expose] public section

set_option maxRecDepth 16384

noncomputable section

namespace Cert.KernelIdeal.Ssd

open Cert.KernelIdeal Cert.KernelIdeal.Gen Cert.Reals Idealize.ShloMosaic Idealize.ShloMosaic.TcCoe
open Idealize.ShloMosaic.Pipeline (Dat)

/-! ## One row: the gated, grouped normalisation and its gradient -/

/-- The group of 256 columns that holds a column. -/
def grp (j : Fin 512) : Fin 2 := ⟨j.val / 256, by omega⟩

/-- Column `x` of a group. -/
def at2 (g : Fin 2) (x : Fin 256) : Fin 512 := ⟨g.val * 256 + x.val, by omega⟩

/-- The logistic function of the gate. -/
def sg (z : EReal) : EReal := Ideal.div 1 (1 + Ideal.exp (-z))

/-- The gated row. -/
def yg (Y Z : Fin 512 → EReal) (j : Fin 512) : EReal := Y j * (Z j * sg (Z j))

/-- The gated row over the group of a column. -/
def seg (Y Z : Fin 512 → EReal) (j : Fin 512) (x : Fin 256) : EReal := yg Y Z (at2 (grp j) x)

/-- The weighted gradient over the group of a column. -/
def dseg (D W : Fin 512 → EReal) (j : Fin 512) (x : Fin 256) : EReal := D (at2 (grp j) x) * W (at2 (grp j) x)

/-- The mean of squares of a group, and the small constant. -/
def ms (A : Fin 256 → EReal) : EReal :=
  Ideal.div (∑ x, A x * A x) (Ideal.ofBits .f32 1132462080#32) + Ideal.ofBits .f32 897988541#32

/-- The gradient of the normalisation, as the kernel computes it. -/
def kdyg (A B : Fin 256 → EReal) (a b : EReal) : EReal :=
  Ideal.rsqrt (ms A) * (b - a * Ideal.rsqrt (ms A) *
    Ideal.div (∑ x, A x * Ideal.rsqrt (ms A) * B x) (Ideal.ofBits .f32 1132462080#32))

/-- The gradient of the gated row, as the kernel computes it. -/
def dyg (Y Z D W : Fin 512 → EReal) (j : Fin 512) : EReal := kdyg (seg Y Z j) (dseg D W j) (yg Y Z j) (D j * W j)

/-- A row of the gate's gradient. -/
def kdz (Y Z D W : Fin 512 → EReal) (j : Fin 512) : EReal :=
  dyg Y Z D W j * Y j * (sg (Z j) * (1 + Z j * (1 - sg (Z j))))

/-- A row's part of the norm weight's gradient. -/
def kdnw (Y Z D : Fin 512 → EReal) (j : Fin 512) : EReal := D j * (yg Y Z j * Ideal.rsqrt (ms (seg Y Z j)))

/-- A row's part of the skip weight's gradient. -/
def kdd (Y Z D W X : Fin 512 → EReal) (j : Fin 512) : EReal := dyg Y Z D W j * (Z j * sg (Z j)) * X j

/-- A column of the first group. -/
theorem grp_low (j : Fin 512) (h : j.val < 256) : grp j = 0 := Fin.ext (Nat.div_eq_of_lt h)

/-- A column of the second group. -/
theorem grp_high (j : Fin 512) (h : ¬ j.val < 256) : grp j = 1 := Fin.ext (show j.val / 256 = 1 by omega)

/-- A column of the first group, by its place there. -/
theorem at2_zero (x : Fin 256) : at2 0 x = ⟨x.val, by omega⟩ := Fin.ext (show 0 * 256 + x.val = x.val by omega)

/-- A column of the second group, by its place there. -/
theorem at2_one (x : Fin 256) : at2 1 x = ⟨256 + x.val, by omega⟩ := Fin.ext (show 1 * 256 + x.val = 256 + x.val by omega)

set_option backward.isDefEq.respectTransparency false in
/-- The gate's gradient over a block, at an index. -/
theorem dz_apply (dyc yv : Vec Ideal S256x512 .f32) (z : Vec Ideal S256x512 .bf16) (nw : Vec Ideal S1x512 .f32) (p : Fin 256) (j : Fin 512) :
    k0_pay47 (k0_pay30 z)
      (k0_pay45 (k0_pay28 yv) (k0_pay32 yv z) (k0_pay33 nw dyc) (k0_pay35 yv z)
        (k0_pay36 yv z) (k0_pay37 nw dyc) (k0_pay38 yv z nw dyc))
      (k0_pay46 (k0_pay29 z) (k0_pay30 z)) (FloatOps.ofBits FTy.f32 1065353216#32) (ix2 p j) =
    kdz (fun j => yv (ix2 p j)) (fun j => z (ix2 p j)) (fun j => dyc (ix2 p j)) (fun j => nw (ix2 0 j)) j := by
  pointwise [k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28]
  by_cases h : j.val < 256
  · simp only [h, dite_true, zero_sub, kdz, dyg, kdyg, ms, seg, dseg, yg, sg, grp_low j h, at2_zero]
  · have e : ∀ q, (⟨256 + (j.val - 256), q⟩ : Fin 512) = j := fun q => Fin.ext (show 256 + (j.val - 256) = j.val by omega)
    simp only [h, dite_false, zero_sub, kdz, dyg, kdyg, ms, seg, dseg, yg, sg, grp_high j h, at2_one, e]

set_option backward.isDefEq.respectTransparency false in
/-- The norm weight's gradient after a block, at an index. -/
theorem dnw_apply (dyc yv : Vec Ideal S256x512 .f32) (z : Vec Ideal S256x512 .bf16) (o : Vec Ideal S1x512 .f32) (j : Fin 512) :
    k0_pay43 (k0_pay32 yv z) dyc (k0_pay36 yv z) o (ix2 0 j) = o (ix2 0 j) +
      ∑ p : Fin 256, kdnw (fun j => yv (ix2 p j)) (fun j => z (ix2 p j)) (fun j => dyc (ix2 p j)) j := by
  pointwise [k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28]
  by_cases h : j.val < 256
  · simp only [h, dite_true, zero_sub, kdnw, ms, seg, yg, sg, grp_low j h, at2_zero]
  · have e : ∀ q, (⟨256 + (j.val - 256), q⟩ : Fin 512) = j := fun q => Fin.ext (show 256 + (j.val - 256) = j.val by omega)
    simp only [h, dite_false, zero_sub, kdnw, ms, seg, yg, sg, grp_high j h, at2_one, e]

set_option backward.isDefEq.respectTransparency false in
/-- The skip weight's gradient after a block, at an index. -/
theorem dd_apply (dyc yv : Vec Ideal S256x512 .f32) (z : Vec Ideal S256x512 .bf16) (nw : Vec Ideal S1x512 .f32)
    (xs : Vec Ideal S256x512 .f32) (o : Vec Ideal S1x512 .f32) (j : Fin 512) :
    k0_pay48 xs (k0_pay44 (k0_pay31 z) (k0_pay32 yv z) (k0_pay33 nw dyc) (k0_pay35 yv z)
        (k0_pay36 yv z) (k0_pay37 nw dyc) (k0_pay38 yv z nw dyc)) o (ix2 0 j) = o (ix2 0 j) +
      ∑ p : Fin 256, kdd (fun j => yv (ix2 p j)) (fun j => z (ix2 p j)) (fun j => dyc (ix2 p j)) (fun j => nw (ix2 0 j))
        (fun j => xs (ix2 p j)) j := by
  pointwise [k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28]
  by_cases h : j.val < 256
  · simp only [h, dite_true, zero_sub, kdd, dyg, kdyg, ms, seg, dseg, yg, sg, grp_low j h, at2_zero]
  · have e : ∀ q, (⟨256 + (j.val - 256), q⟩ : Fin 512) = j := fun q => Fin.ext (show 256 + (j.val - 256) = j.val by omega)
    simp only [h, dite_false, zero_sub, kdd, dyg, kdyg, ms, seg, dseg, yg, sg, grp_high j h, at2_one, e]

variable (m : (ℓ : Loc nD τ sig) → Buf (Elt Ideal) ℓ)

/-! ## Blocks of rows: point `t` works on the block of rows `63 - t` -/

/-- The row of the whole arrays at place `p` of the block of point `t`. -/
def row (t : Fin 64) (p : Fin 256) : Fin 16384 := ⟨256 * (63 - t.val) + p.val, by omega⟩

/-- The blocks' positions at a grid point. -/
theorem idx : ∀ t : Fin cfg0.N, t.val < 64 ∧ win0_0.index t = ![63 - t.val, 0] ∧ win0_1.index t = ![63 - t.val, 0]
    ∧ win0_2.index t = ![63 - t.val, 0] ∧ win0_4.index t = ![63 - t.val, 11] ∧ win0_10.index t = ![0, 0]
    ∧ win0_11.index t = ![63 - t.val, 0] ∧ win0_14.index t = ![0, 0] ∧ win0_15.index t = ![0, 0] :=
  (by decide +kernel : ∀ t : Fin grid0.N, _)

section Reads
variable (x0 x1 : Vec Ideal S16384x512 .f32) (x2 : Vec Ideal S16384x768 .f32) (x3 : Vec Ideal S16384x6144 .bf16) (x9 x10 : Vec Ideal S1x512 .f32)

/-- A row of the mixer's result: the scan's and the skip connection. -/
def Yr (r : Fin 16384) (j : Fin 512) : EReal := x1 (ix2 r j) + x2 (ix2 r ⟨j.val, by omega⟩) * x9 (ix2 0 j)

/-- A row of the gate. -/
def Zr (r : Fin 16384) (j : Fin 512) : EReal := x3 (ix2 r ⟨5632 + j.val, by omega⟩)

/-- A row of the result's gradient. -/
def Dr (r : Fin 16384) (j : Fin 512) : EReal := x0 (ix2 r j)

/-- The norm weight. -/
def Wr (j : Fin 512) : EReal := x10 (ix2 0 j)

/-- A row of the skip connection's input. -/
def Xr (r : Fin 16384) (j : Fin 512) : EReal := x2 (ix2 r ⟨j.val, by omega⟩)

end Reads

set_option backward.isDefEq.respectTransparency false in
/-- The scan's output with the skip connection added: row `p` of a point's block is the whole array's row. -/
theorem b1 (c : Dev nD) (t : Fin cfg0.N) (p : Fin 256) (j : Fin 512) :
    (iblk m c 1 t : Vec Ideal S256x512 .f32) (ix2 p j) = Yr (m ((c : Thread nD τ).loc main_arg1)) (m ((c : Thread nD τ).loc main_arg2))
      (m ((c : Thread nD τ).loc main_arg9)) (row ⟨t.val, (idx t).1⟩ p) j := by
  unfold Yr row
  blk_simp [iblk, idx t]
  entry_read
  have e : (((View.whole main_v3).slice (win0_1.rect t)).emb (ix2 p j) : S16384x512.Idx)
      = ix2 ⟨256 * (63 - t.val) + p.val, by omega⟩ j := by
    blk_ext! [idx t]
  refine (congrArg _ e).trans ?_
  pointwise

set_option backward.isDefEq.respectTransparency false in
/-- The gate: row `p` of a point's block is the whole array's row. -/
theorem b4 (c : Dev nD) (t : Fin cfg0.N) (p : Fin 256) (j : Fin 512) :
    (iblk m c 4 t : Vec Ideal S256x512 .bf16) (ix2 p j) = Zr (m ((c : Thread nD τ).loc main_arg3)) (row ⟨t.val, (idx t).1⟩ p) j := by
  unfold Zr row
  blk_ext! [iblk, V, idx t]

set_option backward.isDefEq.respectTransparency false in
/-- The mixer's gradient: row `p` of a point's block is the whole array's row. -/
theorem b0 (c : Dev nD) (t : Fin cfg0.N) (p : Fin 256) (j : Fin 512) :
    (iblk m c 0 t : Vec Ideal S256x512 .f32) (ix2 p j) = Dr (m ((c : Thread nD τ).loc main_arg0)) (row ⟨t.val, (idx t).1⟩ p) j := by
  unfold Dr row
  blk_ext! [iblk, V, idx t]

set_option backward.isDefEq.respectTransparency false in
/-- The norm's weight: every point's block is the whole of it. -/
theorem b10 (c : Dev nD) (t : Fin cfg0.N) (j : Fin 512) :
    (iblk m c 10 t : Vec Ideal S1x512 .f32) (ix2 0 j) = Wr (m ((c : Thread nD τ).loc main_arg10)) j := by
  unfold Wr
  blk_ext! [iblk, V, idx t]

set_option backward.isDefEq.respectTransparency false in
/-- The skip connection's input: row `p` of a point's block, its first columns, is the whole array's row. -/
theorem b2 (c : Dev nD) (t : Fin cfg0.N) (p : Fin 256) (j : Fin 512) :
    View.ld (iblk m c 2 t : Vec Ideal S256x768 .f32) (Rect.unit ![0, 0] ![256, 512] inb_S256x768_S256x512_0_0) (ix2 p j)
      = Xr (m ((c : Thread nD τ).loc main_arg2)) (row ⟨t.val, (idx t).1⟩ p) j := by
  unfold Xr row
  blk_ext! [iblk, V, idx t]

/-! ## What a grid point stores, read by rows -/

section Args
variable (m : (ℓ : Loc nD τ sig) → Buf (Elt Ideal) ℓ) (c : Dev nD)

/-- The mixer's result in the arguments. -/
abbrev mY := Yr (m ((c : Thread nD τ).loc main_arg1)) (m ((c : Thread nD τ).loc main_arg2)) (m ((c : Thread nD τ).loc main_arg9))
/-- The gate in the arguments. -/
abbrev mZ := Zr (m ((c : Thread nD τ).loc main_arg3))
/-- The result's gradient in the arguments. -/
abbrev mD := Dr (m ((c : Thread nD τ).loc main_arg0))
/-- The norm weight in the arguments. -/
abbrev mW := Wr (m ((c : Thread nD τ).loc main_arg10))
/-- The skip connection's input in the arguments. -/
abbrev mX := Xr (m ((c : Thread nD τ).loc main_arg2))

end Args

set_option backward.isDefEq.respectTransparency false in
/-- The gradient of the gate a grid point stores, at its first block. -/
theorem s11 (c : Dev nD) (t : Fin cfg0.N) (p : Fin 256) (j : Fin 512) :
    (outsAt0 m c t.val t.isLt).1 (ix2 p j) = kdz (mY m c (row ⟨t.val, (idx t).1⟩ p)) (mZ m c (row ⟨t.val, (idx t).1⟩ p))
      (mD m c (row ⟨t.val, (idx t).1⟩ p)) (mW m c) j := by
  by_cases h : t.val % 64 = 0
  · rw [outsAt0_A m c t h]
    frame_out
    refine (dz_apply _ _ _ _ p j).trans ?_
    simp only [b1, b4, b0, b10]
  · rw [outsAt0_B m c t h]
    frame_out
    refine (dz_apply _ _ _ _ p j).trans ?_
    simp only [b1, b4, b0, b10]

set_option backward.isDefEq.respectTransparency false in
/-- The norm weight's accumulator at the first point. -/
theorem s14A (c : Dev nD) (t : Fin cfg0.N) (h : t.val % 64 = 0) (j : Fin 512) :
    (outsAt0 m c t.val t.isLt).2.2.2.1 (ix2 0 j) = 0 + ∑ p, kdnw (mY m c (row ⟨t.val, (idx t).1⟩ p))
      (mZ m c (row ⟨t.val, (idx t).1⟩ p)) (mD m c (row ⟨t.val, (idx t).1⟩ p)) j := by
  rw [outsAt0_A m c t h]
  frame_out
  refine (dnw_apply _ _ _ _ j).trans ?_
  simp only [b1, b4, b0, b10]
  refine congrArg₂ (· + ·) ?_ rfl
  pointwise [k0_pay4]

set_option backward.isDefEq.respectTransparency false in
/-- The norm weight's accumulator at a later point. -/
theorem s14B (c : Dev nD) (t : Fin cfg0.N) (h : ¬t.val % 64 = 0) (j : Fin 512) :
    (outsAt0 m c t.val t.isLt).2.2.2.1 (ix2 0 j) = (outsAt0 m c (t.val - 1) (by omega)).2.2.2.1 (ix2 0 j)
      + ∑ p, kdnw (mY m c (row ⟨t.val, (idx t).1⟩ p))
      (mZ m c (row ⟨t.val, (idx t).1⟩ p)) (mD m c (row ⟨t.val, (idx t).1⟩ p)) j := by
  rw [outsAt0_B m c t h]
  frame_out
  refine (dnw_apply _ _ _ _ j).trans ?_
  simp only [b1, b4, b0, b10]

set_option backward.isDefEq.respectTransparency false in
/-- The skip weight's accumulator at the first point. -/
theorem s15A (c : Dev nD) (t : Fin cfg0.N) (h : t.val % 64 = 0) (j : Fin 512) :
    (outsAt0 m c t.val t.isLt).2.2.2.2.1 (ix2 0 j) = 0 + ∑ p, kdd (mY m c (row ⟨t.val, (idx t).1⟩ p))
      (mZ m c (row ⟨t.val, (idx t).1⟩ p)) (mD m c (row ⟨t.val, (idx t).1⟩ p)) (mW m c) (mX m c (row ⟨t.val, (idx t).1⟩ p)) j := by
  rw [outsAt0_A m c t h]
  frame_out
  refine (dd_apply _ _ _ _ _ _ j).trans ?_
  simp only [b1, b4, b0, b10, b2]
  refine congrArg₂ (· + ·) ?_ rfl
  pointwise [k0_pay5]

set_option backward.isDefEq.respectTransparency false in
/-- The skip weight's accumulator at a later point. -/
theorem s15B (c : Dev nD) (t : Fin cfg0.N) (h : ¬t.val % 64 = 0) (j : Fin 512) :
    (outsAt0 m c t.val t.isLt).2.2.2.2.1 (ix2 0 j) = (outsAt0 m c (t.val - 1) (by omega)).2.2.2.2.1 (ix2 0 j)
      + ∑ p, kdd (mY m c (row ⟨t.val, (idx t).1⟩ p))
      (mZ m c (row ⟨t.val, (idx t).1⟩ p)) (mD m c (row ⟨t.val, (idx t).1⟩ p)) (mW m c) (mX m c (row ⟨t.val, (idx t).1⟩ p)) j := by
  rw [outsAt0_B m c t h]
  frame_out
  refine (dd_apply _ _ _ _ _ _ j).trans ?_
  simp only [b1, b4, b0, b10, b2]

/-- The 64 blocks of 256 rows, taken from the last to the first, are all the rows. -/
theorem sum_rows (F : Fin 16384 → EReal) : ∑ s : Fin 64, ∑ p : Fin 256, F (row s p) = ∑ r : Fin 16384, F r := by
  rw [← Fintype.sum_prod_type']
  exact Fintype.sum_equiv ((Equiv.prodCongr Fin.revPerm (Equiv.refl (Fin 256))).trans (finProdFinEquiv (m := 64) (n := 256)))
    _ _ fun x => congrArg F (Fin.ext (show 256 * (63 - x.1.val) + x.2.val = x.2.val + 256 * (64 - (x.1.val + 1)) by omega))

/-! ## The arrays after the run -/

section Results
variable (x0 x1 : Vec Ideal S16384x512 .f32) (x2 : Vec Ideal S16384x768 .f32) (x3 : Vec Ideal S16384x6144 .bf16) (x9 x10 : Vec Ideal S1x512 .f32)

/-- The gate's gradient from the program's arguments. -/
def G11 : Vec Ideal S16384x512 .bf16 := fun y => kdz (Yr x1 x2 x9 (y 0)) (Zr x3 (y 0)) (Dr x0 (y 0)) (Wr x10) (y 1)

/-- The norm weight's gradient from the program's arguments. -/
def G14 : Vec Ideal S1x512 .f32 := fun y => ∑ r : Fin 16384, kdnw (Yr x1 x2 x9 r) (Zr x3 r) (Dr x0 r) (y 1)

/-- The skip weight's gradient from the program's arguments. -/
def G15 : Vec Ideal S1x512 .f32 := fun y => ∑ r : Fin 16384, kdd (Yr x1 x2 x9 r) (Zr x3 r) (Dr x0 r) (Wr x10) (Xr x2 r) (y 1)

end Results

set_option backward.isDefEq.respectTransparency false in
/-- The norm weight's accumulator where it is written back. -/
theorem acc14 (c : Dev nD) (t : Fin cfg0.N) (h : t.val % 64 = 63) (j : Fin 512) :
    (outsAt0 m c t.val t.isLt).2.2.2.1 (ix2 0 j) = ∑ r, kdnw (mY m c r) (mZ m c r) (mD m c r) j := by
  refine (Pipeline.eq_sum_fin_of_reset_step_apply_of_flush (fun n hn (j : Fin 512) => (outsAt0 m c n hn).2.2.2.1 (ix2 0 j)) 64 (fun _ => 0)
    (fun t j => ∑ p, kdnw (mY m c (row ⟨t.val, (idx t).1⟩ p)) (mZ m c (row ⟨t.val, (idx t).1⟩ p)) (mD m c (row ⟨t.val, (idx t).1⟩ p)) j)
    (fun t h j => s14A m c t h j) (fun t h j => s14B m c t h j) t h j).trans ?_
  rw [zero_add, ← sum_rows]
  have := (idx t).1
  exact Finset.sum_congr rfl fun s _ => Finset.sum_congr rfl fun p _ =>
    congrArg (fun r => kdnw (mY m c r) (mZ m c r) (mD m c r) j) (congrArg (row · p) (Fin.ext (show 64 * (t.val / 64) + s.val = s.val by omega)))

set_option backward.isDefEq.respectTransparency false in
/-- The skip weight's accumulator where it is written back. -/
theorem acc15 (c : Dev nD) (t : Fin cfg0.N) (h : t.val % 64 = 63) (j : Fin 512) :
    (outsAt0 m c t.val t.isLt).2.2.2.2.1 (ix2 0 j) = ∑ r, kdd (mY m c r) (mZ m c r) (mD m c r) (mW m c) (mX m c r) j := by
  refine (Pipeline.eq_sum_fin_of_reset_step_apply_of_flush (fun n hn (j : Fin 512) => (outsAt0 m c n hn).2.2.2.2.1 (ix2 0 j)) 64 (fun _ => 0)
    (fun t j => ∑ p, kdd (mY m c (row ⟨t.val, (idx t).1⟩ p)) (mZ m c (row ⟨t.val, (idx t).1⟩ p)) (mD m c (row ⟨t.val, (idx t).1⟩ p)) (mW m c)
      (mX m c (row ⟨t.val, (idx t).1⟩ p)) j)
    (fun t h j => s15A m c t h j) (fun t h j => s15B m c t h j) t h j).trans ?_
  rw [zero_add, ← sum_rows]
  have := (idx t).1
  exact Finset.sum_congr rfl fun s _ => Finset.sum_congr rfl fun p _ =>
    congrArg (fun r => kdd (mY m c r) (mZ m c r) (mD m c r) (mW m c) (mX m c r) j)
      (congrArg (row · p) (Fin.ext (show 64 * (t.val / 64) + s.val = s.val by omega)))

set_option backward.isDefEq.respectTransparency false in
/-- The gate's gradient after the run. -/
theorem final11 (c : Dev nD) : (dats m 0 c).arrAt 11 cfg0.N = G11 (m ((c : Thread nD τ).loc main_arg0)) (m ((c : Thread nD τ).loc main_arg1))
    (m ((c : Thread nD τ).loc main_arg2)) (m ((c : Thread nD τ).loc main_arg3)) (m ((c : Thread nD τ).loc main_arg9)) (m ((c : Thread nD τ).loc main_arg10)) := by
  refine Dat.arrAt_eq_of_covers (dats m 0 c) 11 (G11 (m ((c : Thread nD τ).loc main_arg0)) (m ((c : Thread nD τ).loc main_arg1))
    (m ((c : Thread nD τ).loc main_arg2)) (m ((c : Thread nD τ).loc main_arg3)) (m ((c : Thread nD τ).loc main_arg9)) (m ((c : Thread nD τ).loc main_arg10)))
    (by decide +kernel) fun t hf y => ?_
  blk_simp
  rw [after0_11]
  idx_vars y
  refine (s11 m c t _ _).trans ?_
  have e : (((View.whole main_v4_0).slice (win0_11.rect t)).emb (ix2 y0 y1) : S16384x512.Idx) = ix2 (row ⟨t.val, (idx t).1⟩ y0) y1 := by
    unfold row
    blk_ext! [idx t]
  exact (congrArg (G11 _ _ _ _ _ _) e).symm

set_option backward.isDefEq.respectTransparency false in
/-- The norm weight's gradient after the run. -/
theorem final14 (c : Dev nD) : (dats m 0 c).arrAt 14 cfg0.N = G14 (m ((c : Thread nD τ).loc main_arg0)) (m ((c : Thread nD τ).loc main_arg1))
    (m ((c : Thread nD τ).loc main_arg2)) (m ((c : Thread nD τ).loc main_arg3)) (m ((c : Thread nD τ).loc main_arg9)) := by
  refine Dat.arrAt_eq_of_covers (dats m 0 c) 14 (G14 (m ((c : Thread nD τ).loc main_arg0)) (m ((c : Thread nD τ).loc main_arg1))
    (m ((c : Thread nD τ).loc main_arg2)) (m ((c : Thread nD τ).loc main_arg3)) (m ((c : Thread nD τ).loc main_arg9)))
    (by decide +kernel) fun t hf y => ?_
  blk_simp
  rw [after0_14]
  idx_vars y
  obtain rfl : y0 = 0 := Subsingleton.elim _ _
  refine (acc14 m c t ((flush0_14 t).mp hf) y1).trans ?_
  have e : (((View.whole main_v4_3).slice (win0_14.rect t)).emb (ix2 0 y1) : S1x512.Idx) = ix2 0 y1 := by
    blk_ext! [idx t]
  exact (congrArg (G14 _ _ _ _ _) e).symm

set_option backward.isDefEq.respectTransparency false in
/-- The skip weight's gradient after the run. -/
theorem final15 (c : Dev nD) : (dats m 0 c).arrAt 15 cfg0.N = G15 (m ((c : Thread nD τ).loc main_arg0)) (m ((c : Thread nD τ).loc main_arg1))
    (m ((c : Thread nD τ).loc main_arg2)) (m ((c : Thread nD τ).loc main_arg3)) (m ((c : Thread nD τ).loc main_arg9)) (m ((c : Thread nD τ).loc main_arg10)) := by
  refine Dat.arrAt_eq_of_covers (dats m 0 c) 15 (G15 (m ((c : Thread nD τ).loc main_arg0)) (m ((c : Thread nD τ).loc main_arg1))
    (m ((c : Thread nD τ).loc main_arg2)) (m ((c : Thread nD τ).loc main_arg3)) (m ((c : Thread nD τ).loc main_arg9)) (m ((c : Thread nD τ).loc main_arg10)))
    (by decide +kernel) fun t hf y => ?_
  blk_simp
  rw [after0_15]
  idx_vars y
  obtain rfl : y0 = 0 := Subsingleton.elim _ _
  refine (acc15 m c t ((flush0_15 t).mp hf) y1).trans ?_
  have e : (((View.whole main_v4_4).slice (win0_15.rect t)).emb (ix2 0 y1) : S1x512.Idx) = ix2 0 y1 := by
    blk_ext! [idx t]
  exact (congrArg (G15 _ _ _ _ _ _) e).symm

/-! ## The reference's results -/

section Ref
variable (x0 x1 : Vec Ideal S16384x512 .f32) (x2 : Vec Ideal S16384x768 .f32) (x3 : Vec Ideal S16384x6144 .bf16) (x9 x10 : Vec Ideal S1x512 .f32)

/-- The normalisation's gradient, as the reference computes it. -/
def rdyg (A B : Fin 256 → EReal) (a b : EReal) : EReal :=
  b * Ideal.rsqrt (ms A) + a * ∑ _x : Fin 1, Ideal.div ((∑ x, A x * B x) * (Ideal.ofBits .f32 3204448256#32
      * Ideal.div (Ideal.rsqrt (ms A)) (ms A))) (Ideal.ofBits .f32 1132462080#32)
    + (∑ _x : Fin 1, Ideal.div ((∑ x, A x * B x) * (Ideal.ofBits .f32 3204448256#32
      * Ideal.div (Ideal.rsqrt (ms A)) (ms A))) (Ideal.ofBits .f32 1132462080#32)) * a

/-- The reference's gradient of the norm's weight, at an index. -/
theorem ref14 (j : Fin 512) : Cert.ReferenceIdeal.Read.val_main_v27 (F := Ideal) x0 x1 x2 x3 x9 (ix2 0 j) =
    ∑ r : Fin 16384, yg (Yr x1 x2 x9 r) (Zr x3 r) j * Ideal.rsqrt (ms (seg (Yr x1 x2 x9 r) (Zr x3 r) j)) * Dr x0 r j := by
  pointwise [Cert.ReferenceIdeal.Read.val_main_v51, Cert.ReferenceIdeal.Read.val_main_v50, Cert.ReferenceIdeal.Read.val_main_cst_7, Cert.ReferenceIdeal.Read.val_main_v49, Cert.ReferenceIdeal.Read.val_main_v48, Cert.ReferenceIdeal.Read.val_main_call1_v2, Cert.ReferenceIdeal.Read.val_main_call1_v1, Cert.ReferenceIdeal.Read.val_main_call1_v0, Cert.ReferenceIdeal.Read.val_main_v47, Cert.ReferenceIdeal.Read.val_main_v46, Cert.ReferenceIdeal.Read.val_main_v45, Cert.ReferenceIdeal.Read.val_main_v44, Cert.ReferenceIdeal.Read.val_main_v43, Cert.ReferenceIdeal.Read.val_main_v42, Cert.ReferenceIdeal.Read.val_main_v41, Cert.ReferenceIdeal.Read.val_main_v40, Cert.ReferenceIdeal.Read.val_main_v39, Cert.ReferenceIdeal.Read.val_main_cst_6, Cert.ReferenceIdeal.Read.val_main_v38, Cert.ReferenceIdeal.Read.val_main_v37, Cert.ReferenceIdeal.Read.val_main_cst_5, Cert.ReferenceIdeal.Read.val_main_v36, Cert.ReferenceIdeal.Read.val_main_v35, Cert.ReferenceIdeal.Read.val_main_v34, Cert.ReferenceIdeal.Read.val_main_v33, Cert.ReferenceIdeal.Read.val_main_v32, Cert.ReferenceIdeal.Read.val_main_cst_4, Cert.ReferenceIdeal.Read.val_main_v31, Cert.ReferenceIdeal.Read.val_main_v30, Cert.ReferenceIdeal.Read.val_main_v29, Cert.ReferenceIdeal.Read.val_main_v28, Cert.ReferenceIdeal.Read.val_main_v27, Cert.ReferenceIdeal.Read.val_main_v26, Cert.ReferenceIdeal.Read.val_main_cst_3, Cert.ReferenceIdeal.Read.val_main_v25, Cert.ReferenceIdeal.Read.val_main_v24, Cert.ReferenceIdeal.Read.val_main_v23, Cert.ReferenceIdeal.Read.val_main_v22, Cert.ReferenceIdeal.Read.val_main_v21, Cert.ReferenceIdeal.Read.val_main_v20, Cert.ReferenceIdeal.Read.val_main_v19, Cert.ReferenceIdeal.Read.val_main_v18, Cert.ReferenceIdeal.Read.val_main_cst_2, Cert.ReferenceIdeal.Read.val_main_v17, Cert.ReferenceIdeal.Read.val_main_v16, Cert.ReferenceIdeal.Read.val_main_v15, Cert.ReferenceIdeal.Read.val_main_v14, Cert.ReferenceIdeal.Read.val_main_cst_1, Cert.ReferenceIdeal.Read.val_main_v13, Cert.ReferenceIdeal.Read.val_main_v12, Cert.ReferenceIdeal.Read.val_main_cst_0, Cert.ReferenceIdeal.Read.val_main_v11, Cert.ReferenceIdeal.Read.val_main_v10, Cert.ReferenceIdeal.Read.val_main_cst, Cert.ReferenceIdeal.Read.val_main_v9, Cert.ReferenceIdeal.Read.val_main_v8, Cert.ReferenceIdeal.Read.val_main_v7, Cert.ReferenceIdeal.Read.val_main_v6_0, Cert.ReferenceIdeal.Read.val_main_v6_1, Cert.ReferenceIdeal.Read.val_main_call0_v7, Cert.ReferenceIdeal.Read.val_main_call0_v6, Cert.ReferenceIdeal.Read.val_main_call0_cst_1, Cert.ReferenceIdeal.Read.val_main_v6_2, Cert.ReferenceIdeal.Read.val_main_call0_v4, Cert.ReferenceIdeal.Read.val_main_call0_cst_0, Cert.ReferenceIdeal.Read.val_main_call0_v3, Cert.ReferenceIdeal.Read.val_main_call0_v2, Cert.ReferenceIdeal.Read.val_main_call0_cst, Cert.ReferenceIdeal.Read.val_main_call0_v1, Cert.ReferenceIdeal.Read.val_main_call0_v0, Cert.ReferenceIdeal.Read.val_main_v5, Cert.ReferenceIdeal.Read.val_main_v4, Cert.ReferenceIdeal.Read.val_main_v3, Cert.ReferenceIdeal.Read.val_main_v2, Cert.ReferenceIdeal.Read.val_main_v1, Cert.ReferenceIdeal.Read.val_main_v0]
  rfl

/-- The reference's gradient of the gate, at an index. -/
theorem ref11 (r : Fin 16384) (j : Fin 512) : Cert.ReferenceIdeal.Read.val_main_v48 (F := Ideal) x0 x1 x2 x3 x9 x10 (ix2 r j) =
    Yr x1 x2 x9 r j * rdyg (seg (Yr x1 x2 x9 r) (Zr x3 r) j) (dseg (Dr x0 r) (Wr x10) j) (yg (Yr x1 x2 x9 r) (Zr x3 r) j) (Dr x0 r j * Wr x10 j) * sg (Zr x3 r j)
    + Zr x3 r j * (Yr x1 x2 x9 r j * rdyg (seg (Yr x1 x2 x9 r) (Zr x3 r) j) (dseg (Dr x0 r) (Wr x10) j) (yg (Yr x1 x2 x9 r) (Zr x3 r) j) (Dr x0 r j * Wr x10 j)) * (sg (Zr x3 r j) * (1 - sg (Zr x3 r j))) := by
  pointwise [Cert.ReferenceIdeal.Read.val_main_v51, Cert.ReferenceIdeal.Read.val_main_v50, Cert.ReferenceIdeal.Read.val_main_cst_7, Cert.ReferenceIdeal.Read.val_main_v49, Cert.ReferenceIdeal.Read.val_main_v48, Cert.ReferenceIdeal.Read.val_main_call1_v2, Cert.ReferenceIdeal.Read.val_main_call1_v1, Cert.ReferenceIdeal.Read.val_main_call1_v0, Cert.ReferenceIdeal.Read.val_main_v47, Cert.ReferenceIdeal.Read.val_main_v46, Cert.ReferenceIdeal.Read.val_main_v45, Cert.ReferenceIdeal.Read.val_main_v44, Cert.ReferenceIdeal.Read.val_main_v43, Cert.ReferenceIdeal.Read.val_main_v42, Cert.ReferenceIdeal.Read.val_main_v41, Cert.ReferenceIdeal.Read.val_main_v40, Cert.ReferenceIdeal.Read.val_main_v39, Cert.ReferenceIdeal.Read.val_main_cst_6, Cert.ReferenceIdeal.Read.val_main_v38, Cert.ReferenceIdeal.Read.val_main_v37, Cert.ReferenceIdeal.Read.val_main_cst_5, Cert.ReferenceIdeal.Read.val_main_v36, Cert.ReferenceIdeal.Read.val_main_v35, Cert.ReferenceIdeal.Read.val_main_v34, Cert.ReferenceIdeal.Read.val_main_v33, Cert.ReferenceIdeal.Read.val_main_v32, Cert.ReferenceIdeal.Read.val_main_cst_4, Cert.ReferenceIdeal.Read.val_main_v31, Cert.ReferenceIdeal.Read.val_main_v30, Cert.ReferenceIdeal.Read.val_main_v29, Cert.ReferenceIdeal.Read.val_main_v28, Cert.ReferenceIdeal.Read.val_main_v27, Cert.ReferenceIdeal.Read.val_main_v26, Cert.ReferenceIdeal.Read.val_main_cst_3, Cert.ReferenceIdeal.Read.val_main_v25, Cert.ReferenceIdeal.Read.val_main_v24, Cert.ReferenceIdeal.Read.val_main_v23, Cert.ReferenceIdeal.Read.val_main_v22, Cert.ReferenceIdeal.Read.val_main_v21, Cert.ReferenceIdeal.Read.val_main_v20, Cert.ReferenceIdeal.Read.val_main_v19, Cert.ReferenceIdeal.Read.val_main_v18, Cert.ReferenceIdeal.Read.val_main_cst_2, Cert.ReferenceIdeal.Read.val_main_v17, Cert.ReferenceIdeal.Read.val_main_v16, Cert.ReferenceIdeal.Read.val_main_v15, Cert.ReferenceIdeal.Read.val_main_v14, Cert.ReferenceIdeal.Read.val_main_cst_1, Cert.ReferenceIdeal.Read.val_main_v13, Cert.ReferenceIdeal.Read.val_main_v12, Cert.ReferenceIdeal.Read.val_main_cst_0, Cert.ReferenceIdeal.Read.val_main_v11, Cert.ReferenceIdeal.Read.val_main_v10, Cert.ReferenceIdeal.Read.val_main_cst, Cert.ReferenceIdeal.Read.val_main_v9, Cert.ReferenceIdeal.Read.val_main_v8, Cert.ReferenceIdeal.Read.val_main_v7, Cert.ReferenceIdeal.Read.val_main_v6_0, Cert.ReferenceIdeal.Read.val_main_v6_1, Cert.ReferenceIdeal.Read.val_main_call0_v7, Cert.ReferenceIdeal.Read.val_main_call0_v6, Cert.ReferenceIdeal.Read.val_main_call0_cst_1, Cert.ReferenceIdeal.Read.val_main_v6_2, Cert.ReferenceIdeal.Read.val_main_call0_v4, Cert.ReferenceIdeal.Read.val_main_call0_cst_0, Cert.ReferenceIdeal.Read.val_main_call0_v3, Cert.ReferenceIdeal.Read.val_main_call0_v2, Cert.ReferenceIdeal.Read.val_main_call0_cst, Cert.ReferenceIdeal.Read.val_main_call0_v1, Cert.ReferenceIdeal.Read.val_main_call0_v0, Cert.ReferenceIdeal.Read.val_main_v5, Cert.ReferenceIdeal.Read.val_main_v4, Cert.ReferenceIdeal.Read.val_main_v3, Cert.ReferenceIdeal.Read.val_main_v2, Cert.ReferenceIdeal.Read.val_main_v1, Cert.ReferenceIdeal.Read.val_main_v0]
  rfl

/-- The reference's gradient of the skip's weight, at an index. -/
theorem ref15 (j : Fin 512) : Cert.ReferenceIdeal.Read.val_main_v51 (F := Ideal) x0 x1 x2 x3 x9 x10 (ix2 0 j) =
    ∑ r, Xr x2 r j * (rdyg (seg (Yr x1 x2 x9 r) (Zr x3 r) j) (dseg (Dr x0 r) (Wr x10) j) (yg (Yr x1 x2 x9 r) (Zr x3 r) j) (Dr x0 r j * Wr x10 j) * (Zr x3 r j * sg (Zr x3 r j))) := by
  pointwise [Cert.ReferenceIdeal.Read.val_main_v51, Cert.ReferenceIdeal.Read.val_main_v50, Cert.ReferenceIdeal.Read.val_main_cst_7, Cert.ReferenceIdeal.Read.val_main_v49, Cert.ReferenceIdeal.Read.val_main_v48, Cert.ReferenceIdeal.Read.val_main_call1_v2, Cert.ReferenceIdeal.Read.val_main_call1_v1, Cert.ReferenceIdeal.Read.val_main_call1_v0, Cert.ReferenceIdeal.Read.val_main_v47, Cert.ReferenceIdeal.Read.val_main_v46, Cert.ReferenceIdeal.Read.val_main_v45, Cert.ReferenceIdeal.Read.val_main_v44, Cert.ReferenceIdeal.Read.val_main_v43, Cert.ReferenceIdeal.Read.val_main_v42, Cert.ReferenceIdeal.Read.val_main_v41, Cert.ReferenceIdeal.Read.val_main_v40, Cert.ReferenceIdeal.Read.val_main_v39, Cert.ReferenceIdeal.Read.val_main_cst_6, Cert.ReferenceIdeal.Read.val_main_v38, Cert.ReferenceIdeal.Read.val_main_v37, Cert.ReferenceIdeal.Read.val_main_cst_5, Cert.ReferenceIdeal.Read.val_main_v36, Cert.ReferenceIdeal.Read.val_main_v35, Cert.ReferenceIdeal.Read.val_main_v34, Cert.ReferenceIdeal.Read.val_main_v33, Cert.ReferenceIdeal.Read.val_main_v32, Cert.ReferenceIdeal.Read.val_main_cst_4, Cert.ReferenceIdeal.Read.val_main_v31, Cert.ReferenceIdeal.Read.val_main_v30, Cert.ReferenceIdeal.Read.val_main_v29, Cert.ReferenceIdeal.Read.val_main_v28, Cert.ReferenceIdeal.Read.val_main_v27, Cert.ReferenceIdeal.Read.val_main_v26, Cert.ReferenceIdeal.Read.val_main_cst_3, Cert.ReferenceIdeal.Read.val_main_v25, Cert.ReferenceIdeal.Read.val_main_v24, Cert.ReferenceIdeal.Read.val_main_v23, Cert.ReferenceIdeal.Read.val_main_v22, Cert.ReferenceIdeal.Read.val_main_v21, Cert.ReferenceIdeal.Read.val_main_v20, Cert.ReferenceIdeal.Read.val_main_v19, Cert.ReferenceIdeal.Read.val_main_v18, Cert.ReferenceIdeal.Read.val_main_cst_2, Cert.ReferenceIdeal.Read.val_main_v17, Cert.ReferenceIdeal.Read.val_main_v16, Cert.ReferenceIdeal.Read.val_main_v15, Cert.ReferenceIdeal.Read.val_main_v14, Cert.ReferenceIdeal.Read.val_main_cst_1, Cert.ReferenceIdeal.Read.val_main_v13, Cert.ReferenceIdeal.Read.val_main_v12, Cert.ReferenceIdeal.Read.val_main_cst_0, Cert.ReferenceIdeal.Read.val_main_v11, Cert.ReferenceIdeal.Read.val_main_v10, Cert.ReferenceIdeal.Read.val_main_cst, Cert.ReferenceIdeal.Read.val_main_v9, Cert.ReferenceIdeal.Read.val_main_v8, Cert.ReferenceIdeal.Read.val_main_v7, Cert.ReferenceIdeal.Read.val_main_v6_0, Cert.ReferenceIdeal.Read.val_main_v6_1, Cert.ReferenceIdeal.Read.val_main_call0_v7, Cert.ReferenceIdeal.Read.val_main_call0_v6, Cert.ReferenceIdeal.Read.val_main_call0_cst_1, Cert.ReferenceIdeal.Read.val_main_v6_2, Cert.ReferenceIdeal.Read.val_main_call0_v4, Cert.ReferenceIdeal.Read.val_main_call0_cst_0, Cert.ReferenceIdeal.Read.val_main_call0_v3, Cert.ReferenceIdeal.Read.val_main_call0_v2, Cert.ReferenceIdeal.Read.val_main_call0_cst, Cert.ReferenceIdeal.Read.val_main_call0_v1, Cert.ReferenceIdeal.Read.val_main_call0_v0, Cert.ReferenceIdeal.Read.val_main_v5, Cert.ReferenceIdeal.Read.val_main_v4, Cert.ReferenceIdeal.Read.val_main_v3, Cert.ReferenceIdeal.Read.val_main_v2, Cert.ReferenceIdeal.Read.val_main_v1, Cert.ReferenceIdeal.Read.val_main_v0]
  rfl

end Ref

/-! ## The two forms agree on reals -/

/-- The real number of a group's mean of squares. -/
theorem ms_real (A : Fin 256 → ℝ) : ∃ M : ℝ, 0 < M ∧ ms (fun x => (A x : EReal)) = M := by
  have e1 : Ideal.ofBits .f32 1132462080#32 = ((256 : ℝ) : EReal) := by
    simp [Ideal.ofBits, Ideal.ieee, -EReal.coe_mul]; norm_num
  have e2 : ∃ e : ℝ, 0 < e ∧ Ideal.ofBits .f32 897988541#32 = (e : EReal) := by
    refine ⟨_, ?_, by simp [Ideal.ofBits, Ideal.ieee, -EReal.coe_mul]; rfl⟩
    positivity
  obtain ⟨e, he, e2⟩ := e2
  refine ⟨(∑ x, A x * A x) / 256 + e, ?_, ?_⟩
  · have : 0 ≤ ∑ x, A x * A x := Finset.sum_nonneg fun x _ => mul_self_nonneg _
    positivity
  · unfold ms
    rw [e1, e2]
    simp only [← EReal.coe_mul, sum_real]
    rw [div_real _ _ (by norm_num), ← EReal.coe_add]

/-- The kernel's gradient of the normalisation is the reference's. -/
theorem kdyg_eq (A B : Fin 256 → ℝ) (a b : ℝ) :
    ∃ g : ℝ, kdyg (fun x => (A x : EReal)) (fun x => (B x : EReal)) a b = g ∧ rdyg (fun x => (A x : EReal)) (fun x => (B x : EReal)) a b = g := by
  obtain ⟨M, hM, e⟩ := ms_real A
  have e1 : Ideal.ofBits .f32 1132462080#32 = ((256 : ℝ) : EReal) := by
    simp [Ideal.ofBits, Ideal.ieee, -EReal.coe_mul]; norm_num
  have e3 : Ideal.ofBits .f32 3204448256#32 = ((-1/2 : ℝ) : EReal) := by
    simp [Ideal.ofBits, Ideal.ieee, -EReal.coe_mul]; norm_num
  unfold kdyg rdyg
  rw [e, e1, e3, rsqrt_real M hM, div_real _ _ hM.ne']
  simp only [← EReal.coe_mul, sum_real]
  rw [div_real _ _ (by norm_num), div_real _ _ (by norm_num)]
  simp only [← EReal.coe_mul, sum_real, ← EReal.coe_add, ← EReal.coe_sub]
  refine ⟨_, rfl, ?_⟩
  congr 1
  have hs : √M * √M = M := Real.mul_self_sqrt hM.le
  have hp : 0 < √M := Real.sqrt_pos.mpr hM
  have hx : ∑ x, A x * (√M)⁻¹ * B x = (√M)⁻¹ * ∑ x, A x * B x := by
    rw [Finset.mul_sum]; exact Finset.sum_congr rfl fun x _ => by ring
  rw [hx]
  generalize ∑ x, A x * B x = S
  simp only [Finset.univ_unique, Finset.sum_singleton]
  generalize √M = q at hs hp ⊢
  subst hs
  field_simp
  ring

/-- An array without axes has one index. -/
instance : Subsingleton Cert.Pre_finite.S_.Idx := ⟨fun a b => funext fun i => i.elim0⟩

/-- The rows the precondition speaks of hold real numbers. -/
structure RealRows (x0 x1 : Vec Ideal S16384x512 .f32) (x2 : Vec Ideal S16384x768 .f32) (x3 : Vec Ideal S16384x6144 .bf16)
    (x9 x10 : Vec Ideal S1x512 .f32) : Prop where
  hY : ∀ r, ∃ A : Fin 512 → ℝ, Yr x1 x2 x9 r = fun j => (A j : EReal)
  hZ : ∀ r, ∃ A : Fin 512 → ℝ, Zr x3 r = fun j => (A j : EReal)
  hD : ∀ r, ∃ A : Fin 512 → ℝ, Dr x0 r = fun j => (A j : EReal)
  hW : ∃ A : Fin 512 → ℝ, Wr x10 = fun j => (A j : EReal)

/-- The precondition says that the rows hold real numbers. -/
theorem realRows [Cert.Pre_finite.Facts] (x0 x1 : Vec Ideal S16384x512 .f32) (x2 : Vec Ideal S16384x768 .f32) (x3 : Vec Ideal S16384x6144 .bf16)
    (x4 : Vec Ideal S16384x128 .f32) (x5 : Vec Ideal S8x16384 .f32) (x6 : Vec Ideal S64x4x128x128 .f32) (x7 : Vec Ideal S8x128 .f32)
    (x8 : Vec Ideal S16x256 .f32) (x9 x10 : Vec Ideal S1x512 .f32)
    (j : Cert.Pre_finite.S_.Idx) (h : Cert.Pre_finite.fn (F := Ideal) x0 x1 x2 x3 x4 x5 x6 x7 x8 x9 x10 j = 1#1) : RealRows x0 x1 x2 x3 x9 x10 := by
  obtain ⟨h, e10⟩ := andi_split _ _ j h
  obtain ⟨h, e9⟩ := andi_split _ _ j h
  obtain ⟨h, e3⟩ := andi_split _ _ j h
  obtain ⟨h, e2⟩ := andi_split _ _ j h
  obtain ⟨e0, e1⟩ := andi_split _ _ j h
  have r0 := real_of_all _ _ _ _ _ j e0
  have r1 := real_of_all _ _ _ _ _ j e1
  have r2 := real_of_all _ _ _ _ _ j e2
  have r3 := real_of_all _ _ _ _ _ j e3
  have r9 := real_of_all _ _ _ _ _ j e9
  have r10 := real_of_all _ _ _ _ _ j e10
  refine ⟨fun r => ?_, fun r => ?_, fun r => ?_, ?_⟩
  · choose a1 h1 using r1
    choose a2 h2 using r2
    choose a9 h9 using r9
    refine ⟨fun j => a1 (ix2 r j) + a2 (ix2 r j) * a9 (ix2 0 j), funext fun j => ?_⟩
    have e : x2 (ix2 r ⟨j.val, by omega⟩) = a2 (ix2 r j) := by
      rw [← h2]
      pointwise
    rw [EReal.coe_add, EReal.coe_mul, ← h1, ← h9, ← e]
    rfl
  · choose a3 h3 using r3
    refine ⟨fun j => a3 (ix2 r j), funext fun j => ?_⟩
    rw [← h3]
    unfold Zr
    pointwise
  · choose a0 h0 using r0
    exact ⟨fun j => a0 (ix2 r j), funext fun j => h0 _⟩
  · choose a10 h10 using r10
    exact ⟨fun j => a10 (ix2 0 j), funext fun j => h10 _⟩

/-- The gradient of the gated row agrees with the reference's at real rows. -/
theorem dyg_eq (Y Z D W : Fin 512 → ℝ) (j : Fin 512) :
    ∃ g : ℝ, dyg (fun j => (Y j : EReal)) (fun j => (Z j : EReal)) (fun j => (D j : EReal)) (fun j => (W j : EReal)) j = g
      ∧ rdyg (seg (fun j => (Y j : EReal)) (fun j => (Z j : EReal)) j) (dseg (fun j => (D j : EReal)) (fun j => (W j : EReal)) j)
        (yg (fun j => (Y j : EReal)) (fun j => (Z j : EReal)) j) ((D j : EReal) * (W j : EReal)) = g := by
  have es : seg (fun j => (Y j : EReal)) (fun j => (Z j : EReal)) j
      = fun x => ((Y (at2 (grp j) x) * (Z (at2 (grp j) x) * Reals.sig (Z (at2 (grp j) x))) : ℝ) : EReal) :=
    funext fun x => by simp only [seg, yg, sg, sig_neg, EReal.coe_mul]
  have ed : dseg (fun j => (D j : EReal)) (fun j => (W j : EReal)) j
      = fun x => ((D (at2 (grp j) x) * W (at2 (grp j) x) : ℝ) : EReal) :=
    funext fun x => by simp only [dseg, EReal.coe_mul]
  have ey : yg (fun j => (Y j : EReal)) (fun j => (Z j : EReal)) j = ((Y j * (Z j * Reals.sig (Z j)) : ℝ) : EReal) := by
    simp only [yg, sg, sig_neg, EReal.coe_mul]
  unfold dyg
  rw [es, ed, ey, ← EReal.coe_mul]
  exact kdyg_eq _ _ _ _

section Agree
variable (x0 x1 : Vec Ideal S16384x512 .f32) (x2 : Vec Ideal S16384x768 .f32) (x3 : Vec Ideal S16384x6144 .bf16) (x9 x10 : Vec Ideal S1x512 .f32)

/-- The reference's gradient of the gate is the kernel's. -/
theorem agree11 (h : RealRows x0 x1 x2 x3 x9 x10) :
    Cert.ReferenceIdeal.Read.val_main_v48 (F := Ideal) x0 x1 x2 x3 x9 x10 = G11 x0 x1 x2 x3 x9 x10 := by
  funext i
  idx_vars i
  obtain ⟨Y, hY⟩ := h.hY i0
  obtain ⟨Z, hZ⟩ := h.hZ i0
  obtain ⟨D, hD⟩ := h.hD i0
  obtain ⟨W, hW⟩ := h.hW
  obtain ⟨g, h1, h2⟩ := dyg_eq Y Z D W i1
  refine (ref11 x0 x1 x2 x3 x9 x10 i0 i1).trans ?_
  show _ = kdz (Yr x1 x2 x9 i0) (Zr x3 i0) (Dr x0 i0) (Wr x10) i1
  unfold kdz
  rw [hY, hZ, hD, hW, h1, h2]
  simp only [sg, sig_neg]
  rw [← EReal.coe_one]
  simp only [← EReal.coe_mul, ← EReal.coe_sub, ← EReal.coe_add]
  congr 1
  ring

/-- The reference's gradient of the norm weight is the kernel's. -/
theorem agree14 : Cert.ReferenceIdeal.Read.val_main_v27 (F := Ideal) x0 x1 x2 x3 x9 = G14 x0 x1 x2 x3 x9 := by
  funext i
  idx_vars i
  obtain rfl : i0 = 0 := Subsingleton.elim _ _
  exact (ref14 x0 x1 x2 x3 x9 i1).trans (Finset.sum_congr rfl fun r _ => mul_comm _ _)

/-- The reference's gradient of the skip weight is the kernel's. -/
theorem agree15 (h : RealRows x0 x1 x2 x3 x9 x10) :
    Cert.ReferenceIdeal.Read.val_main_v51 (F := Ideal) x0 x1 x2 x3 x9 x10 = G15 x0 x1 x2 x3 x9 x10 := by
  funext i
  idx_vars i
  obtain rfl : i0 = 0 := Subsingleton.elim _ _
  refine (ref15 x0 x1 x2 x3 x9 x10 i1).trans (Finset.sum_congr rfl fun r _ => (mul_comm _ _).trans ?_)
  obtain ⟨Y, hY⟩ := h.hY r
  obtain ⟨Z, hZ⟩ := h.hZ r
  obtain ⟨D, hD⟩ := h.hD r
  obtain ⟨W, hW⟩ := h.hW
  obtain ⟨g, h1, h2⟩ := dyg_eq Y Z D W i1
  show _ = kdd (Yr x1 x2 x9 r) (Zr x3 r) (Dr x0 r) (Wr x10) (Xr x2 r) i1
  unfold kdd
  rw [hY, hZ, hD, hW, h1, h2]

end Agree

/-- The gradients of the gate, the norm weight and the skip weight agree with the reference's where the rows hold real numbers. -/
theorem claim [Cert.Pre_finite.Facts] : Cert.algebraic_KernelIdeal_ReferenceIdeal_pre_finite := by
  intro m ρ m' ρ' hpre hagree
  have hr : ∀ c : Dev nD, _ := fun c => realRows _ _ _ _ _ _ _ _ _ _ _ ix0 (congrFun (hpre c) ix0)
  refine ⟨fun c => G11 _ _ _ _ _ _, fun c => G14 _ _ _ _ _, fun c => G15 _ _ _ _ _ _,
    (θ_run defs _ _).mono (fun r h c => ⟨(h c).1.trans (final11 m c), (h c).2.2.2.1.trans (final14 m c),
      (h c).2.2.2.2.1.trans (final15 m c), (h c).2.2.2.2.2.2⟩)
      (Value.run_blocks (F := Ideal) m ρ), ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · refine (Cert.ReferenceIdeal.Read.val_main_v48_eq _ _).trans ?_
    obtain ⟨a0, a1, a2, a3, a4, a5, a6, a7, a8, a9, a10⟩ := hagree c
    rw [a0, a1, a2, a3, a9, a10]
    exact agree11 _ _ _ _ _ _ (hr c)
  · obtain ⟨a0, a1, a2, a3, a4, a5, a6, a7, a8, a9, a10⟩ := hagree c
    rw [a0, a1, a2, a3, a9]
    exact (Cert.ReferenceIdeal.Read.val_main_v27_eq _ _ _ _ _).trans (agree14 _ _ _ _ _)
  · refine (Cert.ReferenceIdeal.Read.val_main_v51_eq _ _).trans ?_
    obtain ⟨a0, a1, a2, a3, a4, a5, a6, a7, a8, a9, a10⟩ := hagree c
    rw [a0, a1, a2, a3, a9, a10]
    exact agree15 _ _ _ _ _ _ (hr c)

end Cert.KernelIdeal.Ssd

end
-- ==== Proof.Swiglu.lean ====
/- The gradients of the SwiGLU through the second product of the channel mixer: at real arguments the kernel's tiles of the
   gradients of the two factors are the reference's. -/
module

public import proofs.«01_k».proof.Proof.Gen.Kernel2Ideal.Value
public import proofs.«01_k».proof.Proof.Gen.Reference2Ideal.Read
public import proofs.«01_k».proof.Proof.Reals
public import proofs.«01_k».proof.Defs
public import Idealize.ShloMosaic.Lib.Pipeline.ValueKit
public import Idealize.ShloMosaic.Lib.Claim

@[expose] public section

set_option maxRecDepth 16384

noncomputable section

namespace Cert.Kernel2Ideal.Swiglu

open Cert.Kernel2Ideal Cert.Kernel2Ideal.Gen Cert.Reals Idealize.ShloMosaic Idealize.ShloMosaic.TcCoe
open Idealize.ShloMosaic.Pipeline (Dat)

/-- The gate's gradient from the gradient `a` of the product, the gate `g` and the other factor `u`. -/
def dgate (a g u : EReal) : EReal :=
  a * u * (Ideal.div 1 (1 + Ideal.exp (0 - g)) * (1 + g * (1 - Ideal.div 1 (1 + Ideal.exp (0 - g)))))

/-- The other factor's gradient from the gradient `a` of the product and the gate `g`. -/
def dother (a g : EReal) : EReal := a * (g * Ideal.div 1 (1 + Ideal.exp (0 - g)))

set_option backward.isDefEq.respectTransparency false in
/-- One tile of the gradient of the gate, read at an index. -/
theorem pay7_apply (v0 v1 : Vec Ideal S256x1024 .bf16) (g u : Vec Ideal S256x256 .bf16) (i : S256x256.Idx) :
    k0_pay7 (F := Ideal) v0 v1 g u i = dgate (∑ k : Fin 1024, v0 (ix2 (i 0) k) * v1 (ix2 (i 1) k)) (g i) (u i) := by
  pointwise [k0_pay7, k0_pay6, k0_pay5, k0_pay3]
  rfl

set_option backward.isDefEq.respectTransparency false in
/-- One tile of the gradient of the other factor, read at an index. -/
theorem pay8_apply (v0 v1 : Vec Ideal S256x1024 .bf16) (g : Vec Ideal S256x256 .bf16) (i : S256x256.Idx) :
    k0_pay8 (F := Ideal) v0 v1 g i = dother (∑ k : Fin 1024, v0 (ix2 (i 0) k) * v1 (ix2 (i 1) k)) (g i) := by
  pointwise [k0_pay8, k0_pay6, k0_pay5, k0_pay3]
  rfl

/-- The gate's gradient over a block of rows. -/
def gBlk (x0 : Vec Ideal S256x1024 .bf16) (x1 : Vec Ideal S2816x1024 .bf16) (x2 x3 : Vec Ideal S256x2816 .bf16) : Vec Ideal S256x2816 .bf16 :=
  fun y => dgate (∑ k : Fin 1024, x0 (ix2 (y 0) k) * x1 (ix2 (y 1) k)) (x2 y) (x3 y)

/-- The other factor's gradient over a block of rows. -/
def oBlk (x0 : Vec Ideal S256x1024 .bf16) (x1 : Vec Ideal S2816x1024 .bf16) (x2 : Vec Ideal S256x2816 .bf16) : Vec Ideal S256x2816 .bf16 :=
  fun y => dother (∑ k : Fin 1024, x0 (ix2 (y 0) k) * x1 (ix2 (y 1) k)) (x2 y)

/-- Two coordinates determine an index of a rectangle's read. -/
theorem ld_two {n0 n1 : Nat} (X : Vec Ideal (⟨2, ![n0, n1]⟩ : Shape) .bf16) (o : Fin 2 → Nat) (sz : Fin 2 → Nat)
    (inb : ∀ a, o a + sz a ≤ (⟨2, ![n0, n1]⟩ : Shape).size a) (x : (Rect.unit (s := ⟨2, ![n0, n1]⟩) o sz inb).shape.Idx)
    (i : (⟨2, ![n0, n1]⟩ : Shape).Idx) (h0 : (i 0 : Nat) = o 0 + x 0) (h1 : (i 1 : Nat) = o 1 + x 1) :
    View.ld X (Rect.unit (s := ⟨2, ![n0, n1]⟩) o sz inb) x = X i :=
  View.ld_unit_apply_of X o sz inb x i (fun a => by
    match a with
    | ⟨0, _⟩ => exact h0
    | ⟨1, _⟩ => exact h1)

set_option backward.isDefEq.respectTransparency false in
/-- The tile of the gate's gradient at column offset `o` is the tile's part of the block. -/
theorem tile7 (o : Nat) (inbW : ∀ a, (![o, 0] : Fin 2 → Nat) a + S256x1024.size a ≤ S2816x1024.size a)
    (inbG : ∀ a, (![0, o] : Fin 2 → Nat) a + S256x256.size a ≤ S256x2816.size a)
    (x0 : Vec Ideal S256x1024 .bf16) (x1 : Vec Ideal S2816x1024 .bf16) (x2 x3 : Vec Ideal S256x2816 .bf16)
    (y : S256x2816.Idx) (i : S256x256.Idx) (h0 : (y 0 : Nat) = i 0) (h1 : (y 1 : Nat) = o + i 1) :
    k0_pay7 (F := Ideal) (View.ld x0 r0_0) (View.ld x1 (Rect.unit (s := S2816x1024) ![o, 0] S256x1024.size inbW))
      (View.ld x2 (Rect.unit (s := S256x2816) ![0, o] S256x256.size inbG))
      (View.ld x3 (Rect.unit (s := S256x2816) ![0, o] S256x256.size inbG)) i = gBlk x0 x1 x2 x3 y := by
  refine (pay7_apply _ _ _ _ _).trans ?_
  refine congr (congr (congrArg dgate (Finset.sum_congr rfl fun k _ => congr (congrArg _ ?_) ?_)) ?_) ?_
  · exact ld_two x0 _ _ _ _ _ (by simpa using h0) (by simp)
  · exact ld_two x1 _ _ _ _ _ (by simpa using h1) (by simp)
  · exact ld_two x2 _ _ _ _ _ (by simpa using h0) (by simpa using h1)
  · exact ld_two x3 _ _ _ _ _ (by simpa using h0) (by simpa using h1)

set_option backward.isDefEq.respectTransparency false in
/-- The tile of the other factor's gradient at column offset `o` is the tile's part of the block. -/
theorem tile8 (o : Nat) (inbW : ∀ a, (![o, 0] : Fin 2 → Nat) a + S256x1024.size a ≤ S2816x1024.size a)
    (inbG : ∀ a, (![0, o] : Fin 2 → Nat) a + S256x256.size a ≤ S256x2816.size a)
    (x0 : Vec Ideal S256x1024 .bf16) (x1 : Vec Ideal S2816x1024 .bf16) (x2 : Vec Ideal S256x2816 .bf16)
    (y : S256x2816.Idx) (i : S256x256.Idx) (h0 : (y 0 : Nat) = i 0) (h1 : (y 1 : Nat) = o + i 1) :
    k0_pay8 (F := Ideal) (View.ld x0 r0_0) (View.ld x1 (Rect.unit (s := S2816x1024) ![o, 0] S256x1024.size inbW))
      (View.ld x2 (Rect.unit (s := S256x2816) ![0, o] S256x256.size inbG)) i = oBlk x0 x1 x2 y := by
  refine (pay8_apply _ _ _ _).trans ?_
  refine congr (congrArg dother (Finset.sum_congr rfl fun k _ => congr (congrArg _ ?_) ?_)) ?_
  · exact ld_two x0 _ _ _ _ _ (by simpa using h0) (by simp)
  · exact ld_two x1 _ _ _ _ _ (by simpa using h1) (by simp)
  · exact ld_two x2 _ _ _ _ _ (by simpa using h0) (by simpa using h1)

set_option backward.isDefEq.respectTransparency false in
/-- The body's first result over a block of rows. -/
theorem out4_apply (x0 : Vec Ideal S256x1024 .bf16) (x1 : Vec Ideal S2816x1024 .bf16) (x2 x3 : Vec Ideal S256x2816 .bf16) (y : S256x2816.Idx) :
    out0_4 (F := Ideal) x0 x1 x2 x3 y = gBlk x0 x1 x2 x3 y := by
  unfold_out out0_4
  canon_tiles y h
  · exact tile7 2560 _ _ x0 x1 x2 x3 _ _ h0 h1
  · exact tile7 2304 _ _ x0 x1 x2 x3 _ _ h0 h1
  · exact tile7 2048 _ _ x0 x1 x2 x3 _ _ h0 h1
  · exact tile7 1792 _ _ x0 x1 x2 x3 _ _ h0 h1
  · exact tile7 1536 _ _ x0 x1 x2 x3 _ _ h0 h1
  · exact tile7 1280 _ _ x0 x1 x2 x3 _ _ h0 h1
  · exact tile7 1024 _ _ x0 x1 x2 x3 _ _ h0 h1
  · exact tile7 768 _ _ x0 x1 x2 x3 _ _ h0 h1
  · exact tile7 512 _ _ x0 x1 x2 x3 _ _ h0 h1
  · exact tile7 256 _ _ x0 x1 x2 x3 _ _ h0 h1
  · exact tile7 0 _ _ x0 x1 x2 x3 _ _ h0 (by simpa using h1)

set_option backward.isDefEq.respectTransparency false in
/-- The body's second result over a block of rows. -/
theorem out5_apply (x0 : Vec Ideal S256x1024 .bf16) (x1 : Vec Ideal S2816x1024 .bf16) (x2 x3 : Vec Ideal S256x2816 .bf16) (y : S256x2816.Idx) :
    out0_5 (F := Ideal) x0 x1 x2 x3 y = oBlk x0 x1 x2 y := by
  unfold_out out0_5
  canon_tiles y h
  · exact tile8 2560 _ _ x0 x1 x2 _ _ h0 h1
  · exact tile8 2304 _ _ x0 x1 x2 _ _ h0 h1
  · exact tile8 2048 _ _ x0 x1 x2 _ _ h0 h1
  · exact tile8 1792 _ _ x0 x1 x2 _ _ h0 h1
  · exact tile8 1536 _ _ x0 x1 x2 _ _ h0 h1
  · exact tile8 1280 _ _ x0 x1 x2 _ _ h0 h1
  · exact tile8 1024 _ _ x0 x1 x2 _ _ h0 h1
  · exact tile8 768 _ _ x0 x1 x2 _ _ h0 h1
  · exact tile8 512 _ _ x0 x1 x2 _ _ h0 h1
  · exact tile8 256 _ _ x0 x1 x2 _ _ h0 h1
  · exact tile8 0 _ _ x0 x1 x2 _ _ h0 (by simpa using h1)

variable (m : (ℓ : Loc nD τ sig) → Buf (Elt Ideal) ℓ)

/-- The blocks' positions at a grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] :=
  (by decide +kernel : ∀ t : Fin grid0.N, _)

/-- The first result from the program's arguments. -/
def G4 (x0 : Vec Ideal S16384x1024 .bf16) (x1 : Vec Ideal S2816x1024 .bf16) (x2 x3 : Vec Ideal S16384x2816 .bf16) :
    Vec Ideal S16384x2816 .bf16 :=
  fun y => dgate (∑ k : Fin 1024, x0 (ix2 (y 0) k) * x1 (ix2 (y 1) k)) (x2 y) (x3 y)

/-- The second result from the program's arguments. -/
def G5 (x0 : Vec Ideal S16384x1024 .bf16) (x1 : Vec Ideal S2816x1024 .bf16) (x2 : Vec Ideal S16384x2816 .bf16) :
    Vec Ideal S16384x2816 .bf16 :=
  fun y => dother (∑ k : Fin 1024, x0 (ix2 (y 0) k) * x1 (ix2 (y 1) k)) (x2 y)

set_option backward.isDefEq.respectTransparency false in
/-- The first result's array after the run. -/
theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) := by
  refine Dat.arrAt_eq_of_covers (dats m 0 c) 4 (G4 (m ((c : Thread nD τ).loc main_arg0)) (m ((c : Thread nD τ).loc main_arg1)) (m ((c : Thread nD τ).loc main_arg2)) (m ((c : Thread nD τ).loc main_arg3))) (by decide +kernel) fun t hf y => ?_
  blk_simp
  rw [after0_4, out4_apply]
  unfold G4 gBlk
  refine congr (congr (congrArg dgate (Finset.sum_congr rfl fun k _ => congr (congrArg _ ?_) ?_)) ?_) ?_
  · blk_point [iblk, V, idx t]
  · blk_point [iblk, V, idx t]
  · blk_point [iblk, V, idx t]
  · blk_point [iblk, V, idx t]

set_option backward.isDefEq.respectTransparency false in
/-- The second result's array after the run. -/
theorem final5 (c : Dev nD) : (dats m 0 c).arrAt 5 cfg0.N = G5 (m ((c : Thread nD τ).loc main_arg0)) (m ((c : Thread nD τ).loc main_arg1)) (m ((c : Thread nD τ).loc main_arg2)) := by
  refine Dat.arrAt_eq_of_covers (dats m 0 c) 5 (G5 (m ((c : Thread nD τ).loc main_arg0)) (m ((c : Thread nD τ).loc main_arg1)) (m ((c : Thread nD τ).loc main_arg2))) (by decide +kernel) fun t hf y => ?_
  blk_simp
  rw [after0_5, out5_apply]
  unfold G5 oBlk
  refine congr (congrArg dother (Finset.sum_congr rfl fun k _ => congr (congrArg _ ?_) ?_)) ?_
  · blk_point [iblk, V, idx t]
  · blk_point [iblk, V, idx t]
  · blk_point [iblk, V, idx t]

/-! ## The reference, and its agreement with the kernel at real arguments -/

open Cert.Reference2Ideal.Read in
set_option backward.isDefEq.respectTransparency false in
/-- The reference's gradient of the gate, at an index. -/
theorem ref4_apply (x0 : Vec Ideal S16384x1024 .bf16) (x1 : Vec Ideal S2816x1024 .bf16) (x2 x3 : Vec Ideal S16384x2816 .bf16)
    (i : S16384x2816.Idx) : val_main_v12 (F := Ideal) x0 x1 x2 x3 i =
      (∑ k : Fin 1024, x0 (ix2 (i 0) k) * x1 (ix2 (i 1) k)) * x3 i * Ideal.div 1 (1 + Ideal.exp (-(x2 i))) +
      x2 i * ((∑ k : Fin 1024, x0 (ix2 (i 0) k) * x1 (ix2 (i 1) k)) * x3 i) *
        (Ideal.div 1 (1 + Ideal.exp (-(x2 i))) * (1 - Ideal.div 1 (1 + Ideal.exp (-(x2 i))))) := by
  pointwise [val_main_v12, val_main_v11, val_main_call1_v2, val_main_call1_v1, val_main_call1_v0, val_main_v10, val_main_v9, val_main_v8, val_main_v7, val_main_v6, val_main_v5, val_main_v4, val_main_v3, val_main_v2, val_main_v1_0, val_main_v1_1, val_main_call0_v7, val_main_call0_v6, val_main_call0_cst_1, val_main_v1_2, val_main_call0_v4, val_main_call0_cst_0, val_main_call0_v3, val_main_call0_v2, val_main_call0_cst, val_main_call0_v1, val_main_call0_v0, val_main_v0]

open Cert.Reference2Ideal.Read in
set_option backward.isDefEq.respectTransparency false in
/-- The reference's gradient of the other factor, at an index. -/
theorem ref5_apply (x0 : Vec Ideal S16384x1024 .bf16) (x1 : Vec Ideal S2816x1024 .bf16) (x2 : Vec Ideal S16384x2816 .bf16)
    (i : S16384x2816.Idx) : val_main_v10 (F := Ideal) x0 x1 x2 i =
      x2 i * Ideal.div 1 (1 + Ideal.exp (-(x2 i))) * ∑ k : Fin 1024, x0 (ix2 (i 0) k) * x1 (ix2 (i 1) k) := by
  pointwise [val_main_v12, val_main_v11, val_main_call1_v2, val_main_call1_v1, val_main_call1_v0, val_main_v10, val_main_v9, val_main_v8, val_main_v7, val_main_v6, val_main_v5, val_main_v4, val_main_v3, val_main_v2, val_main_v1_0, val_main_v1_1, val_main_call0_v7, val_main_call0_v6, val_main_call0_cst_1, val_main_v1_2, val_main_call0_v4, val_main_call0_cst_0, val_main_call0_v3, val_main_call0_v2, val_main_call0_cst, val_main_call0_v1, val_main_call0_v0, val_main_v0]

/-- Every entry of the four arguments is a real number. -/
structure Real4 (x0 : Vec Ideal S16384x1024 .bf16) (x1 : Vec Ideal S2816x1024 .bf16) (x2 x3 : Vec Ideal S16384x2816 .bf16) : Prop where
  h0 : ∀ i, ∃ r : ℝ, x0 i = (r : EReal)
  h1 : ∀ i, ∃ r : ℝ, x1 i = (r : EReal)
  h2 : ∀ i, ∃ r : ℝ, x2 i = (r : EReal)
  h3 : ∀ i, ∃ r : ℝ, x3 i = (r : EReal)

/-- An array without axes has one index. -/
instance : Subsingleton Cert.Pre_finite2.S_.Idx := ⟨fun a b => funext fun i => i.elim0⟩

/-- The precondition says that the arguments hold real numbers. -/
theorem real4 [Cert.Pre_finite2.Facts] (x0 : Vec Ideal S16384x1024 .bf16) (x1 : Vec Ideal S2816x1024 .bf16) (x2 x3 : Vec Ideal S16384x2816 .bf16)
    (j : Cert.Pre_finite2.S_.Idx) (h : Cert.Pre_finite2.fn (F := Ideal) x0 x1 x2 x3 j = 1#1) : Real4 x0 x1 x2 x3 := by
  obtain ⟨h, e3⟩ := andi_split _ _ j h
  obtain ⟨h, e2⟩ := andi_split _ _ j h
  obtain ⟨e0, e1⟩ := andi_split _ _ j h
  exact ⟨real_of_all _ _ _ _ _ j e0, real_of_all _ _ _ _ _ j e1, real_of_all _ _ _ _ _ j e2, real_of_all _ _ _ _ _ j e3⟩

/-- The two forms of the gate's gradient agree at real numbers. -/
theorem dgate_real (a g u : ℝ) : (a : EReal) * u * Ideal.div 1 (1 + Ideal.exp (-(g : EReal))) +
      g * ((a : EReal) * u) * (Ideal.div 1 (1 + Ideal.exp (-(g : EReal))) * (1 - Ideal.div 1 (1 + Ideal.exp (-(g : EReal)))))
    = dgate a g u := by
  unfold dgate
  rw [zero_sub, sig_neg, ← EReal.coe_one]
  simp only [← EReal.coe_mul, ← EReal.coe_sub, ← EReal.coe_add]
  congr 1
  ring

/-- At real arguments the reference's first result is the kernel's. -/
theorem agree4 (x0 : Vec Ideal S16384x1024 .bf16) (x1 : Vec Ideal S2816x1024 .bf16) (x2 x3 : Vec Ideal S16384x2816 .bf16)
    (h : Real4 x0 x1 x2 x3) : Cert.Reference2Ideal.Read.val_main_v12 (F := Ideal) x0 x1 x2 x3 = G4 x0 x1 x2 x3 := by
  funext i
  obtain ⟨r2, e2⟩ := h.h2 i
  obtain ⟨r3, e3⟩ := h.h3 i
  obtain ⟨a, ea⟩ := real_dot (fun k : Fin 1024 => x0 (ix2 (i 0) k)) (fun k => x1 (ix2 (i 1) k)) (fun k => h.h0 _) (fun k => h.h1 _)
  rw [ref4_apply, G4, ea, e2, e3]
  exact dgate_real a r2 r3

/-- The reference's second result is the kernel's. -/
theorem agree5 (x0 : Vec Ideal S16384x1024 .bf16) (x1 : Vec Ideal S2816x1024 .bf16) (x2 : Vec Ideal S16384x2816 .bf16) :
    Cert.Reference2Ideal.Read.val_main_v10 (F := Ideal) x0 x1 x2 = G5 x0 x1 x2 := by
  funext i
  rw [ref5_apply, G5, dother, zero_sub]
  exact mul_comm _ _

/-- The gradients of the gated product agree with the reference's at arguments of real numbers. -/
theorem claim [Cert.Pre_finite2.Facts] : Cert.algebraic_Kernel2Ideal_Reference2Ideal_pre_finite2 := by
  intro m ρ m' ρ' hpre hagree
  have hr : ∀ c : Dev nD, _ := fun c => real4 _ _ _ _ ix0 (congrFun (hpre c) ix0)
  refine ⟨fun c => G4 _ _ _ _, fun c => G5 _ _ _,
    (θ_run defs _ _).mono (fun r h c => ⟨(h c).1.trans (final4 m c), (h c).2.1.trans (final5 m c), (h c).2.2⟩)
      (Value.run_blocks (F := Ideal) m ρ), ?_⟩
  refine (θ_run Cert.Reference2Ideal.defs _ _).mono (fun _ h c => ⟨(h c).1.trans ?_, (h c).2.1.trans ?_, (h c).2.2⟩)
    (Cert.Reference2Ideal.Value.run (F := Ideal) m' ρ')
  · rw [(hagree c).1, (hagree c).2.1, (hagree c).2.2.1, (hagree c).2.2.2]
    exact (Cert.Reference2Ideal.Read.val_main_v12_eq _ _ _ _).trans (agree4 _ _ _ _ (hr c))
  · rw [(hagree c).1, (hagree c).2.1, (hagree c).2.2.1]
    exact (Cert.Reference2Ideal.Read.val_main_v10_eq _ _ _).trans (agree5 _ _ _)

end Cert.Kernel2Ideal.Swiglu

end
-- ==== Proof.InProjDx.lean ====
/- The gradient of the first projection's input: at every argument the kernel's accumulated tiles are the reference's product. -/
module

public import proofs.«01_k».proof.Proof.Gen.Kernel3Ideal.Value
public import proofs.«01_k».proof.Proof.Gen.Reference3Ideal.Read
public import proofs.«01_k».proof.Proof.Reals
public import proofs.«01_k».proof.Defs
public import Idealize.ShloMosaic.Lib.Pipeline.ValueKit
public import Idealize.ShloMosaic.Lib.Claim

@[expose] public section

set_option maxRecDepth 16384

noncomputable section

namespace Cert.Kernel3Ideal.InProjDx

open Cert.Kernel3Ideal Cert.Kernel3Ideal.Gen Cert.Reals Idealize.ShloMosaic Idealize.ShloMosaic.TcCoe
open Idealize.ShloMosaic.Pipeline (Dat)

variable (m : (ℓ : Loc nD τ sig) → Buf (Elt Ideal) ℓ)

/-- The blocks' positions at a grid point. -/
theorem idx : ∀ t : Fin cfg0.N, win0_0.index t = ![t.val / 6, t.val % 6] ∧ win0_1.index t = ![0, t.val % 6] ∧ win0_2.index t = ![t.val / 6, 0] :=
  (by decide +kernel : ∀ t : Fin grid0.N, _)

/-- The product of two blocks at an index. -/
def dot (a : Vec Ideal S1024x1024 .bf16) (b : Vec Ideal S1024x1024 .bf16) (y : S1024x1024.Idx) : EReal :=
  ∑ k : Fin 1024, a (ix2 (y 0) k) * b (ix2 (y 1) k)

set_option backward.isDefEq.respectTransparency false in
/-- What a point adds to the accumulator. -/
theorem pay_apply (acc : Vec Ideal S1024x1024 .f32) (a : Vec Ideal S1024x1024 .bf16) (b : Vec Ideal S1024x1024 .bf16) (y : S1024x1024.Idx) :
    k0_pay2 acc a b y = acc y + dot a b y := by
  unfold dot
  pointwise [k0_pay2]

/-- The part of the sum a point adds. -/
def term (c : Dev nD) (t : Fin cfg0.N) (y : S1024x1024.Idx) : EReal := dot (iblk m c 0 t) (iblk m c 1 t) y

set_option backward.isDefEq.respectTransparency false in
/-- The accumulator after the first point of a run. -/
theorem first (c : Dev nD) (t : Fin cfg0.N) (h : t.val % 6 = 0) (y : S1024x1024.Idx) :
    (outsAt0 m c t.val t.isLt).2 y = 0 + term m c t y := by
  rw [outsAt0_A m c t h (by omega)]
  frame_out
  refine (pay_apply _ _ _ y).trans ?_
  refine congrArg₂ (· + ·) ?_ rfl
  pointwise [k0_pay1]

set_option backward.isDefEq.respectTransparency false in
/-- The accumulator after a later point of a run. -/
theorem step (c : Dev nD) (t : Fin cfg0.N) (h : ¬t.val % 6 = 0) (y : S1024x1024.Idx) :
    (outsAt0 m c t.val t.isLt).2 y = (outsAt0 m c (t.val - 1) (by omega)).2 y + term m c t y := by
  by_cases h1 : t.val % 6 = 5
  · rw [outsAt0_C m c t h h1]
    frame_out
    refine (pay_apply _ _ _ y).trans ?_
    exact congrArg₂ (· + ·) (congrFun ((Memref.isWhole_whole cc0_scratch0).read_unread _) y) rfl
  · rw [outsAt0_B m c t h h1]
    frame_out
    refine (pay_apply _ _ _ y).trans ?_
    exact congrArg₂ (· + ·) (congrFun ((Memref.isWhole_whole cc0_scratch0).read_unread _) y) rfl

set_option backward.isDefEq.respectTransparency false in
/-- The last point of a run stores the accumulator. -/
theorem last (c : Dev nD) (t : Fin cfg0.N) (h : t.val % 6 = 5) (y : S1024x1024.Idx) :
    (outsAt0 m c t.val t.isLt).1 y = (outsAt0 m c t.val t.isLt).2 y := by
  rw [outsAt0_C m c t (by omega) h]
  frame_out

/-- The result from the program's arguments. -/
def G (x0 : Vec Ideal S16384x6144 .bf16) (x1 : Vec Ideal S1024x6144 .bf16) : Vec Ideal S16384x1024 .f32 :=
  fun i => ∑ k : Fin 6144, x0 (ix2 (i 0) k) * x1 (ix2 (i 1) k)

set_option backward.isDefEq.respectTransparency false in
/-- The result's array after the run. -/
theorem final (c : Dev nD) : (dats m 0 c).arrAt 2 cfg0.N = G (m ((c : Thread nD τ).loc main_arg0)) (m ((c : Thread nD τ).loc main_arg1)) := by
  refine Dat.arrAt_eq_of_covers (dats m 0 c) 2 (G (m ((c : Thread nD τ).loc main_arg0)) (m ((c : Thread nD τ).loc main_arg1)))
    (by decide +kernel) fun t hf y => ?_
  have hm := (flush0_2 t).mp hf
  blk_simp
  rw [after0_2]
  refine (last m c t hm _).trans ?_
  refine (Pipeline.eq_sum_fin_of_reset_step_apply_of_flush (fun n hn y => (outsAt0 m c n hn).2 y) 6 (fun _ => 0)
    (fun t y => term m c t y) (fun t h y => first m c t h y) (fun t h y => step m c t h y) t hm y).trans ?_
  rw [zero_add]
  unfold G
  rw [← sum_blocks (n := 6) (b := 1024) rfl]
  refine Finset.sum_congr rfl fun s _ => ?_
  unfold term dot
  refine Finset.sum_congr rfl fun k _ => congrArg₂ (· * ·) ?_ ?_
  · blk_point [iblk, V, idx t, idx ⟨6 * (t.val / 6) + s.val, Pipeline.run_point_lt_of_flush t hm s⟩]
  · blk_point [iblk, V, idx t, idx ⟨6 * (t.val / 6) + s.val, Pipeline.run_point_lt_of_flush t hm s⟩]

/-- The reference's result is the kernel's. -/
theorem agree (x0 : Vec Ideal S16384x6144 .bf16) (x1 : Vec Ideal S1024x6144 .bf16) :
    Cert.Reference3Ideal.Read.val_main_v2 (F := Ideal) x0 x1 = G x0 x1 := by
  funext i
  unfold G
  pointwise [Cert.Reference3Ideal.Read.val_main_v2, Cert.Reference3Ideal.Read.val_main_v1, Cert.Reference3Ideal.Read.val_main_v0]

/-- The result agrees with the reference's, at all arguments. -/
theorem claim : Cert.algebraic_Kernel3Ideal_Reference3Ideal := by
  intro m ρ m' ρ' _ hagree
  refine ⟨fun c => G _ _,
    (θ_run defs _ _).mono (fun r h c => ⟨(h c).1.trans (final m c), (h c).2⟩)
      (Value.run_blocks (F := Ideal) m ρ), ?_⟩
  refine (θ_run Cert.Reference3Ideal.defs _ _).mono (fun _ h c => ⟨(h c).1.trans ?_, (h c).2⟩)
    (Cert.Reference3Ideal.Value.run (F := Ideal) m' ρ')
  rw [(hagree c).1, (hagree c).2]
  exact (Cert.Reference3Ideal.Read.val_main_v2_eq _ _).trans (agree _ _)

end Cert.Kernel3Ideal.InProjDx

end
-- ==== Proof.InProjDw.lean ====
/- The gradient of the first projection's weight: at every argument the kernel's accumulated tiles are the reference's product. -/
module

public import proofs.«01_k».proof.Proof.Gen.Kernel4Ideal.Value
public import proofs.«01_k».proof.Proof.Gen.Reference4Ideal.Read
public import proofs.«01_k».proof.Proof.Reals
public import proofs.«01_k».proof.Defs
public import Idealize.ShloMosaic.Lib.Pipeline.ValueKit
public import Idealize.ShloMosaic.Lib.Claim

@[expose] public section

set_option maxRecDepth 16384

noncomputable section

namespace Cert.Kernel4Ideal.InProjDw

open Cert.Kernel4Ideal Cert.Kernel4Ideal.Gen Cert.Reals Idealize.ShloMosaic Idealize.ShloMosaic.TcCoe
open Idealize.ShloMosaic.Pipeline (Dat)

variable (m : (ℓ : Loc nD τ sig) → Buf (Elt Ideal) ℓ)

/-- The blocks' positions at a grid point. -/
theorem idx : ∀ t : Fin cfg0.N, win0_0.index t = ![t.val % 32, 0] ∧ win0_1.index t = ![t.val % 32, t.val / 32] ∧ win0_2.index t = ![0, t.val / 32] :=
  (by decide +kernel : ∀ t : Fin grid0.N, _)

/-- The product of two blocks at an index. -/
def dot (a : Vec Ideal S512x1024 .bf16) (b : Vec Ideal S512x2048 .bf16) (y : S1024x2048.Idx) : EReal :=
  ∑ k : Fin 512, a (ix2 k (y 0)) * b (ix2 k (y 1))

set_option backward.isDefEq.respectTransparency false in
/-- What a point adds to the accumulator. -/
theorem pay_apply (acc : Vec Ideal S1024x2048 .f32) (a : Vec Ideal S512x1024 .bf16) (b : Vec Ideal S512x2048 .bf16) (y : S1024x2048.Idx) :
    k0_pay2 acc a b y = acc y + dot a b y := by
  unfold dot
  pointwise [k0_pay2]

/-- The part of the sum a point adds. -/
def term (c : Dev nD) (t : Fin cfg0.N) (y : S1024x2048.Idx) : EReal := dot (iblk m c 0 t) (iblk m c 1 t) y

set_option backward.isDefEq.respectTransparency false in
/-- The accumulator after the first point of a run. -/
theorem first (c : Dev nD) (t : Fin cfg0.N) (h : t.val % 32 = 0) (y : S1024x2048.Idx) :
    (outsAt0 m c t.val t.isLt).2 y = 0 + term m c t y := by
  rw [outsAt0_A m c t h (by omega)]
  frame_out
  refine (pay_apply _ _ _ y).trans ?_
  refine congrArg₂ (· + ·) ?_ rfl
  pointwise [k0_pay1]

set_option backward.isDefEq.respectTransparency false in
/-- The accumulator after a later point of a run. -/
theorem step (c : Dev nD) (t : Fin cfg0.N) (h : ¬t.val % 32 = 0) (y : S1024x2048.Idx) :
    (outsAt0 m c t.val t.isLt).2 y = (outsAt0 m c (t.val - 1) (by omega)).2 y + term m c t y := by
  by_cases h1 : t.val % 32 = 31
  · rw [outsAt0_C m c t h h1]
    frame_out
    refine (pay_apply _ _ _ y).trans ?_
    exact congrArg₂ (· + ·) (congrFun ((Memref.isWhole_whole cc0_scratch0).read_unread _) y) rfl
  · rw [outsAt0_B m c t h h1]
    frame_out
    refine (pay_apply _ _ _ y).trans ?_
    exact congrArg₂ (· + ·) (congrFun ((Memref.isWhole_whole cc0_scratch0).read_unread _) y) rfl

set_option backward.isDefEq.respectTransparency false in
/-- The last point of a run stores the accumulator. -/
theorem last (c : Dev nD) (t : Fin cfg0.N) (h : t.val % 32 = 31) (y : S1024x2048.Idx) :
    (outsAt0 m c t.val t.isLt).1 y = (outsAt0 m c t.val t.isLt).2 y := by
  rw [outsAt0_C m c t (by omega) h]
  frame_out
  pointwise [k0_pay3]

/-- The result from the program's arguments. -/
def G (x0 : Vec Ideal S16384x1024 .bf16) (x1 : Vec Ideal S16384x6144 .bf16) : Vec Ideal S1024x6144 .bf16 :=
  fun i => ∑ k : Fin 16384, x0 (ix2 k (i 0)) * x1 (ix2 k (i 1))

set_option backward.isDefEq.respectTransparency false in
/-- The result's array after the run. -/
theorem final (c : Dev nD) : (dats m 0 c).arrAt 2 cfg0.N = G (m ((c : Thread nD τ).loc main_arg0)) (m ((c : Thread nD τ).loc main_arg1)) := by
  refine Dat.arrAt_eq_of_covers (dats m 0 c) 2 (G (m ((c : Thread nD τ).loc main_arg0)) (m ((c : Thread nD τ).loc main_arg1)))
    (by decide +kernel) fun t hf y => ?_
  have hm := (flush0_2 t).mp hf
  blk_simp
  rw [after0_2]
  refine (last m c t hm _).trans ?_
  refine (Pipeline.eq_sum_fin_of_reset_step_apply_of_flush (fun n hn y => (outsAt0 m c n hn).2 y) 32 (fun _ => 0)
    (fun t y => term m c t y) (fun t h y => first m c t h y) (fun t h y => step m c t h y) t hm y).trans ?_
  rw [zero_add]
  unfold G
  rw [← sum_blocks (n := 32) (b := 512) rfl]
  refine Finset.sum_congr rfl fun s _ => ?_
  unfold term dot
  refine Finset.sum_congr rfl fun k _ => congrArg₂ (· * ·) ?_ ?_
  · blk_point [iblk, V, idx t, idx ⟨32 * (t.val / 32) + s.val, Pipeline.run_point_lt_of_flush t hm s⟩]
  · blk_point [iblk, V, idx t, idx ⟨32 * (t.val / 32) + s.val, Pipeline.run_point_lt_of_flush t hm s⟩]

/-- The reference's result is the kernel's. -/
theorem agree (x0 : Vec Ideal S16384x1024 .bf16) (x1 : Vec Ideal S16384x6144 .bf16) :
    Cert.Reference4Ideal.Read.val_main_v4 (F := Ideal) x0 x1 = G x0 x1 := by
  funext i
  unfold G
  pointwise [Cert.Reference4Ideal.Read.val_main_v4, Cert.Reference4Ideal.Read.val_main_v3, Cert.Reference4Ideal.Read.val_main_v2, Cert.Reference4Ideal.Read.val_main_v1, Cert.Reference4Ideal.Read.val_main_v0]
  exact Finset.sum_congr rfl fun k _ => mul_comm _ _

/-- The result agrees with the reference's, at all arguments. -/
theorem claim : Cert.algebraic_Kernel4Ideal_Reference4Ideal := by
  intro m ρ m' ρ' _ hagree
  refine ⟨fun c => G _ _,
    (θ_run defs _ _).mono (fun r h c => ⟨(h c).1.trans (final m c), (h c).2⟩)
      (Value.run_blocks (F := Ideal) m ρ), ?_⟩
  refine (θ_run Cert.Reference4Ideal.defs _ _).mono (fun _ h c => ⟨(h c).1.trans ?_, (h c).2⟩)
    (Cert.Reference4Ideal.Value.run (F := Ideal) m' ρ')
  rw [(hagree c).1, (hagree c).2]
  exact (Cert.Reference4Ideal.Read.val_main_v4_eq _ _).trans (agree _ _)

end Cert.Kernel4Ideal.InProjDw

end
-- ==== Proof.FfnInDx.lean ====
/- The gradient of the channel mixer's first product's input, from the gradients of its two halves: at every argument the kernel's accumulated tiles are the reference's product. -/
module

public import proofs.«01_k».proof.Proof.Gen.Kernel5Ideal.Value
public import proofs.«01_k».proof.Proof.Gen.Reference5Ideal.Read
public import proofs.«01_k».proof.Proof.Reals
public import proofs.«01_k».proof.Defs
public import Idealize.ShloMosaic.Lib.Pipeline.ValueKit
public import Idealize.ShloMosaic.Lib.Claim

@[expose] public section

set_option maxRecDepth 16384

noncomputable section

namespace Cert.Kernel5Ideal.FfnInDx

open Cert.Kernel5Ideal Cert.Kernel5Ideal.Gen Cert.Reals Idealize.ShloMosaic Idealize.ShloMosaic.TcCoe
open Idealize.ShloMosaic.Pipeline (Dat)

variable (m : (ℓ : Loc nD τ sig) → Buf (Elt Ideal) ℓ)

/-- The blocks' positions at a grid point. -/
theorem idx : ∀ t : Fin cfg0.N, win0_0.index t = ![t.val / 2, t.val % 2] ∧ win0_1.index t = ![t.val / 2, t.val % 2]
    ∧ win0_2.index t = ![0, t.val % 2] ∧ win0_3.index t = ![0, t.val % 2 + 2] ∧ win0_4.index t = ![t.val / 2, 0] :=
  (by decide +kernel : ∀ t : Fin grid0.N, _)

/-- The product of two blocks at an index. -/
def dot (a : Vec Ideal S1024x1408 .bf16) (b : Vec Ideal S1024x1408 .bf16) (y : S1024x1024.Idx) : EReal :=
  ∑ k : Fin 1408, a (ix2 (y 0) k) * b (ix2 (y 1) k)

set_option backward.isDefEq.respectTransparency false in
/-- What a point adds to the accumulator. -/
theorem pay_apply (acc : Vec Ideal S1024x1024 .f32) (a0 b0 a1 b1 : Vec Ideal S1024x1408 .bf16) (y : S1024x1024.Idx) :
    k0_pay2 acc a0 b0 a1 b1 y = acc y + (dot a0 b0 y + dot a1 b1 y) := by
  unfold dot
  rw [← add_assoc]
  pointwise [k0_pay2]

/-- The part of the sum a point adds. -/
def term (c : Dev nD) (t : Fin cfg0.N) (y : S1024x1024.Idx) : EReal :=
  dot (iblk m c 0 t) (iblk m c 2 t) y + dot (iblk m c 1 t) (iblk m c 3 t) y

set_option backward.isDefEq.respectTransparency false in
/-- The accumulator after the first point of a run. -/
theorem first (c : Dev nD) (t : Fin cfg0.N) (h : t.val % 2 = 0) (y : S1024x1024.Idx) :
    (outsAt0 m c t.val t.isLt).2 y = 0 + term m c t y := by
  rw [outsAt0_A m c t h (by omega)]
  frame_out
  refine (pay_apply _ _ _ _ _ y).trans ?_
  refine congrArg₂ (· + ·) ?_ rfl
  pointwise [k0_pay1]

set_option backward.isDefEq.respectTransparency false in
/-- The accumulator after a later point of a run. -/
theorem step (c : Dev nD) (t : Fin cfg0.N) (h : ¬t.val % 2 = 0) (y : S1024x1024.Idx) :
    (outsAt0 m c t.val t.isLt).2 y = (outsAt0 m c (t.val - 1) (by omega)).2 y + term m c t y := by
  rw [outsAt0_B m c t h (by omega)]
  frame_out
  refine (pay_apply _ _ _ _ _ y).trans ?_
  exact congrArg₂ (· + ·) (congrFun ((Memref.isWhole_whole cc0_scratch0).read_unread _) y) rfl

set_option backward.isDefEq.respectTransparency false in
/-- The last point of a run stores the accumulator. -/
theorem last (c : Dev nD) (t : Fin cfg0.N) (h : t.val % 2 = 1) (y : S1024x1024.Idx) :
    (outsAt0 m c t.val t.isLt).1 y = (outsAt0 m c t.val t.isLt).2 y := by
  rw [outsAt0_B m c t (by omega) h]
  frame_out

/-- The result from the program's arguments: one sum over the columns of each half. -/
def G (x0 x1 : Vec Ideal S16384x2816 .bf16) (x2 : Vec Ideal S1024x5632 .bf16) : Vec Ideal S16384x1024 .f32 :=
  fun i => ∑ k : Fin 2816, x0 (ix2 (i 0) k) * x2 (ix2 (i 1) ⟨k.val, by omega⟩)
    + ∑ k : Fin 2816, x1 (ix2 (i 0) k) * x2 (ix2 (i 1) ⟨2816 + k.val, by omega⟩)

set_option backward.isDefEq.respectTransparency false in
/-- The result's array after the run. -/
theorem final (c : Dev nD) : (dats m 0 c).arrAt 4 cfg0.N = G (m ((c : Thread nD τ).loc main_arg0)) (m ((c : Thread nD τ).loc main_arg1)) (m ((c : Thread nD τ).loc main_arg2)) := by
  refine Dat.arrAt_eq_of_covers (dats m 0 c) 4 (G (m ((c : Thread nD τ).loc main_arg0)) (m ((c : Thread nD τ).loc main_arg1)) (m ((c : Thread nD τ).loc main_arg2)))
    (by decide +kernel) fun t hf y => ?_
  have hm := (flush0_4 t).mp hf
  blk_simp
  rw [after0_4]
  refine (last m c t hm _).trans ?_
  refine (Pipeline.eq_sum_fin_of_reset_step_apply_of_flush (fun n hn y => (outsAt0 m c n hn).2 y) 2 (fun _ => 0)
    (fun t y => term m c t y) (fun t h y => first m c t h y) (fun t h y => step m c t h y) t hm y).trans ?_
  rw [zero_add]
  unfold term
  rw [Finset.sum_add_distrib]
  unfold G
  refine congrArg₂ (· + ·) ?_ ?_
  · rw [← sum_blocks (n := 2) (b := 1408) rfl]
    refine Finset.sum_congr rfl fun s _ => ?_
    unfold dot
    refine Finset.sum_congr rfl fun k _ => congrArg₂ (· * ·) ?_ ?_
    · blk_point [iblk, V, idx t, idx ⟨2 * (t.val / 2) + s.val, Pipeline.run_point_lt_of_flush t hm s⟩]
    · blk_point [iblk, V, idx t, idx ⟨2 * (t.val / 2) + s.val, Pipeline.run_point_lt_of_flush t hm s⟩]
  · rw [← sum_blocks (n := 2) (b := 1408) rfl]
    refine Finset.sum_congr rfl fun s _ => ?_
    unfold dot
    refine Finset.sum_congr rfl fun k _ => congrArg₂ (· * ·) ?_ ?_
    · blk_point [iblk, V, idx t, idx ⟨2 * (t.val / 2) + s.val, Pipeline.run_point_lt_of_flush t hm s⟩]
    · blk_point [iblk, V, idx t, idx ⟨2 * (t.val / 2) + s.val, Pipeline.run_point_lt_of_flush t hm s⟩]

open Cert.Reference5Ideal.Read in
set_option backward.isDefEq.respectTransparency false in
/-- The reference's result is the kernel's. -/
theorem agree (x0 x1 : Vec Ideal S16384x2816 .bf16) (x2 : Vec Ideal S1024x5632 .bf16) :
    val_main_v4 (F := Ideal) x0 x1 x2 = G x0 x1 x2 := by
  funext i
  rw [val_main_v4_apply]
  unfold G
  refine (Fin.sum_univ_add (a := 2816) (b := 2816) _).trans (congrArg₂ (· + ·) ?_ ?_)
  · refine Finset.sum_congr rfl fun k _ => ?_
    pointwise [val_main_v3, val_main_v2, val_main_v1, val_main_v0]
    rw [dif_pos (show (Fin.castAdd 2816 k).val < 2816 from k.isLt)]
    exact congrArg₂ (· * ·) rfl (congrArg x2 (funext fun a => match a with
      | ⟨0, _⟩ => rfl
      | ⟨1, _⟩ => rfl))
  · refine Finset.sum_congr rfl fun k _ => ?_
    pointwise [val_main_v3, val_main_v2, val_main_v1, val_main_v0]
    rw [dif_neg (show ¬(Fin.natAdd 2816 k).val < 2816 from by simp)]
    refine congrArg₂ (· * ·) (congrArg (fun k => x1 (ix2 (i 0) k)) (Fin.ext ?_)) (congrArg x2 (funext fun a => match a with
      | ⟨0, _⟩ => rfl
      | ⟨1, _⟩ => rfl))
    exact Nat.add_sub_cancel_left 2816 k.val

/-- The result agrees with the reference's, at all arguments. -/
theorem claim : Cert.algebraic_Kernel5Ideal_Reference5Ideal := by
  intro m ρ m' ρ' _ hagree
  refine ⟨fun c => G _ _ _,
    (θ_run defs _ _).mono (fun r h c => ⟨(h c).1.trans (final m c), (h c).2⟩)
      (Value.run_blocks (F := Ideal) m ρ), ?_⟩
  refine (θ_run Cert.Reference5Ideal.defs _ _).mono (fun _ h c => ⟨(h c).1.trans ?_, (h c).2⟩)
    (Cert.Reference5Ideal.Value.run (F := Ideal) m' ρ')
  rw [(hagree c).1, (hagree c).2.1, (hagree c).2.2]
  exact (Cert.Reference5Ideal.Read.val_main_v4_eq _ _ _).trans (agree _ _ _)

end Cert.Kernel5Ideal.FfnInDx

end
-- ==== Proof.FfnInDw.lean ====
/- The gradient of half of the channel mixer's first weight: at every argument the kernel's accumulated tiles are the reference's product. -/
module

public import proofs.«01_k».proof.Proof.Gen.Kernel6Ideal.Value
public import proofs.«01_k».proof.Proof.Gen.Reference6Ideal.Read
public import proofs.«01_k».proof.Proof.Reals
public import proofs.«01_k».proof.Defs
public import Idealize.ShloMosaic.Lib.Pipeline.ValueKit
public import Idealize.ShloMosaic.Lib.Claim

@[expose] public section

set_option maxRecDepth 16384

noncomputable section

namespace Cert.Kernel6Ideal.FfnInDw

open Cert.Kernel6Ideal Cert.Kernel6Ideal.Gen Cert.Reals Idealize.ShloMosaic Idealize.ShloMosaic.TcCoe
open Idealize.ShloMosaic.Pipeline (Dat)

variable (m : (ℓ : Loc nD τ sig) → Buf (Elt Ideal) ℓ)

/-- The blocks' positions at a grid point. -/
theorem idx : ∀ t : Fin cfg0.N, win0_0.index t = ![t.val % 32, 0] ∧ win0_1.index t = ![t.val % 32, t.val / 32] ∧ win0_2.index t = ![0, t.val / 32] :=
  (by decide +kernel : ∀ t : Fin grid0.N, _)

/-- The product of two blocks at an index. -/
def dot (a : Vec Ideal S512x1024 .bf16) (b : Vec Ideal S512x1408 .bf16) (y : S1024x1408.Idx) : EReal :=
  ∑ k : Fin 512, a (ix2 k (y 0)) * b (ix2 k (y 1))

set_option backward.isDefEq.respectTransparency false in
/-- What a point adds to the accumulator. -/
theorem pay_apply (acc : Vec Ideal S1024x1408 .f32) (a : Vec Ideal S512x1024 .bf16) (b : Vec Ideal S512x1408 .bf16) (y : S1024x1408.Idx) :
    k0_pay2 acc a b y = acc y + dot a b y := by
  unfold dot
  pointwise [k0_pay2]

/-- The part of the sum a point adds. -/
def term (c : Dev nD) (t : Fin cfg0.N) (y : S1024x1408.Idx) : EReal := dot (iblk m c 0 t) (iblk m c 1 t) y

set_option backward.isDefEq.respectTransparency false in
/-- The accumulator after the first point of a run. -/
theorem first (c : Dev nD) (t : Fin cfg0.N) (h : t.val % 32 = 0) (y : S1024x1408.Idx) :
    (outsAt0 m c t.val t.isLt).2 y = 0 + term m c t y := by
  rw [outsAt0_A m c t h (by omega)]
  frame_out
  refine (pay_apply _ _ _ y).trans ?_
  refine congrArg₂ (· + ·) ?_ rfl
  pointwise [k0_pay1]

set_option backward.isDefEq.respectTransparency false in
/-- The accumulator after a later point of a run. -/
theorem step (c : Dev nD) (t : Fin cfg0.N) (h : ¬t.val % 32 = 0) (y : S1024x1408.Idx) :
    (outsAt0 m c t.val t.isLt).2 y = (outsAt0 m c (t.val - 1) (by omega)).2 y + term m c t y := by
  by_cases h1 : t.val % 32 = 31
  · rw [outsAt0_C m c t h h1]
    frame_out
    refine (pay_apply _ _ _ y).trans ?_
    exact congrArg₂ (· + ·) (congrFun ((Memref.isWhole_whole cc0_scratch0).read_unread _) y) rfl
  · rw [outsAt0_B m c t h h1]
    frame_out
    refine (pay_apply _ _ _ y).trans ?_
    exact congrArg₂ (· + ·) (congrFun ((Memref.isWhole_whole cc0_scratch0).read_unread _) y) rfl

set_option backward.isDefEq.respectTransparency false in
/-- The last point of a run stores the accumulator. -/
theorem last (c : Dev nD) (t : Fin cfg0.N) (h : t.val % 32 = 31) (y : S1024x1408.Idx) :
    (outsAt0 m c t.val t.isLt).1 y = (outsAt0 m c t.val t.isLt).2 y := by
  rw [outsAt0_C m c t (by omega) h]
  frame_out
  pointwise [k0_pay3]

/-- The result from the program's arguments. -/
def G (x0 : Vec Ideal S16384x1024 .bf16) (x1 : Vec Ideal S16384x2816 .bf16) : Vec Ideal S1024x2816 .bf16 :=
  fun i => ∑ k : Fin 16384, x0 (ix2 k (i 0)) * x1 (ix2 k (i 1))

set_option backward.isDefEq.respectTransparency false in
/-- The result's array after the run. -/
theorem final (c : Dev nD) : (dats m 0 c).arrAt 2 cfg0.N = G (m ((c : Thread nD τ).loc main_arg0)) (m ((c : Thread nD τ).loc main_arg1)) := by
  refine Dat.arrAt_eq_of_covers (dats m 0 c) 2 (G (m ((c : Thread nD τ).loc main_arg0)) (m ((c : Thread nD τ).loc main_arg1)))
    (by decide +kernel) fun t hf y => ?_
  have hm := (flush0_2 t).mp hf
  blk_simp
  rw [after0_2]
  refine (last m c t hm _).trans ?_
  refine (Pipeline.eq_sum_fin_of_reset_step_apply_of_flush (fun n hn y => (outsAt0 m c n hn).2 y) 32 (fun _ => 0)
    (fun t y => term m c t y) (fun t h y => first m c t h y) (fun t h y => step m c t h y) t hm y).trans ?_
  rw [zero_add]
  unfold G
  rw [← sum_blocks (n := 32) (b := 512) rfl]
  refine Finset.sum_congr rfl fun s _ => ?_
  unfold term dot
  refine Finset.sum_congr rfl fun k _ => congrArg₂ (· * ·) ?_ ?_
  · blk_point [iblk, V, idx t, idx ⟨32 * (t.val / 32) + s.val, Pipeline.run_point_lt_of_flush t hm s⟩]
  · blk_point [iblk, V, idx t, idx ⟨32 * (t.val / 32) + s.val, Pipeline.run_point_lt_of_flush t hm s⟩]

/-- The reference's result is the kernel's. -/
theorem agree (x0 : Vec Ideal S16384x1024 .bf16) (x1 : Vec Ideal S16384x2816 .bf16) :
    Cert.Reference6Ideal.Read.val_main_v4 (F := Ideal) x0 x1 = G x0 x1 := by
  funext i
  unfold G
  pointwise [Cert.Reference6Ideal.Read.val_main_v4, Cert.Reference6Ideal.Read.val_main_v3, Cert.Reference6Ideal.Read.val_main_v2, Cert.Reference6Ideal.Read.val_main_v1, Cert.Reference6Ideal.Read.val_main_v0]
  exact Finset.sum_congr rfl fun k _ => mul_comm _ _

/-- The result agrees with the reference's, at all arguments. -/
theorem claim : Cert.algebraic_Kernel6Ideal_Reference6Ideal := by
  intro m ρ m' ρ' _ hagree
  refine ⟨fun c => G _ _,
    (θ_run defs _ _).mono (fun r h c => ⟨(h c).1.trans (final m c), (h c).2⟩)
      (Value.run_blocks (F := Ideal) m ρ), ?_⟩
  refine (θ_run Cert.Reference6Ideal.defs _ _).mono (fun _ h c => ⟨(h c).1.trans ?_, (h c).2⟩)
    (Cert.Reference6Ideal.Value.run (F := Ideal) m' ρ')
  rw [(hagree c).1, (hagree c).2]
  exact (Cert.Reference6Ideal.Read.val_main_v4_eq _ _).trans (agree _ _)

end Cert.Kernel6Ideal.FfnInDw

end
-- ==== Proof.FfnOutDw.lean ====
/- The gradient of the channel mixer's second weight: at every argument the kernel's accumulated tiles are the reference's product. -/
module

public import proofs.«01_k».proof.Proof.Gen.Kernel7Ideal.Value
public import proofs.«01_k».proof.Proof.Gen.Reference7Ideal.Read
public import proofs.«01_k».proof.Proof.Reals
public import proofs.«01_k».proof.Defs
public import Idealize.ShloMosaic.Lib.Pipeline.ValueKit
public import Idealize.ShloMosaic.Lib.Claim

@[expose] public section

set_option maxRecDepth 16384

noncomputable section

namespace Cert.Kernel7Ideal.FfnOutDw

open Cert.Kernel7Ideal Cert.Kernel7Ideal.Gen Cert.Reals Idealize.ShloMosaic Idealize.ShloMosaic.TcCoe
open Idealize.ShloMosaic.Pipeline (Dat)

variable (m : (ℓ : Loc nD τ sig) → Buf (Elt Ideal) ℓ)

/-- The blocks' positions at a grid point. -/
theorem idx : ∀ t : Fin cfg0.N, win0_0.index t = ![t.val % 32, t.val / 32] ∧ win0_1.index t = ![t.val % 32, 0] ∧ win0_2.index t = ![t.val / 32, 0] :=
  (by decide +kernel : ∀ t : Fin grid0.N, _)

/-- The product of two blocks at an index. -/
def dot (a : Vec Ideal S512x1408 .bf16) (b : Vec Ideal S512x1024 .bf16) (y : S1408x1024.Idx) : EReal :=
  ∑ k : Fin 512, a (ix2 k (y 0)) * b (ix2 k (y 1))

set_option backward.isDefEq.respectTransparency false in
/-- What a point adds to the accumulator. -/
theorem pay_apply (acc : Vec Ideal S1408x1024 .f32) (a : Vec Ideal S512x1408 .bf16) (b : Vec Ideal S512x1024 .bf16) (y : S1408x1024.Idx) :
    k0_pay2 acc a b y = acc y + dot a b y := by
  unfold dot
  pointwise [k0_pay2]

/-- The part of the sum a point adds. -/
def term (c : Dev nD) (t : Fin cfg0.N) (y : S1408x1024.Idx) : EReal := dot (iblk m c 0 t) (iblk m c 1 t) y

set_option backward.isDefEq.respectTransparency false in
/-- The accumulator after the first point of a run. -/
theorem first (c : Dev nD) (t : Fin cfg0.N) (h : t.val % 32 = 0) (y : S1408x1024.Idx) :
    (outsAt0 m c t.val t.isLt).2 y = 0 + term m c t y := by
  rw [outsAt0_A m c t h (by omega)]
  frame_out
  refine (pay_apply _ _ _ y).trans ?_
  refine congrArg₂ (· + ·) ?_ rfl
  pointwise [k0_pay1]

set_option backward.isDefEq.respectTransparency false in
/-- The accumulator after a later point of a run. -/
theorem step (c : Dev nD) (t : Fin cfg0.N) (h : ¬t.val % 32 = 0) (y : S1408x1024.Idx) :
    (outsAt0 m c t.val t.isLt).2 y = (outsAt0 m c (t.val - 1) (by omega)).2 y + term m c t y := by
  by_cases h1 : t.val % 32 = 31
  · rw [outsAt0_C m c t h h1]
    frame_out
    refine (pay_apply _ _ _ y).trans ?_
    exact congrArg₂ (· + ·) (congrFun ((Memref.isWhole_whole cc0_scratch0).read_unread _) y) rfl
  · rw [outsAt0_B m c t h h1]
    frame_out
    refine (pay_apply _ _ _ y).trans ?_
    exact congrArg₂ (· + ·) (congrFun ((Memref.isWhole_whole cc0_scratch0).read_unread _) y) rfl

set_option backward.isDefEq.respectTransparency false in
/-- The last point of a run stores the accumulator. -/
theorem last (c : Dev nD) (t : Fin cfg0.N) (h : t.val % 32 = 31) (y : S1408x1024.Idx) :
    (outsAt0 m c t.val t.isLt).1 y = (outsAt0 m c t.val t.isLt).2 y := by
  rw [outsAt0_C m c t (by omega) h]
  frame_out
  pointwise [k0_pay3]

/-- The result from the program's arguments. -/
def G (x0 : Vec Ideal S16384x2816 .bf16) (x1 : Vec Ideal S16384x1024 .bf16) : Vec Ideal S2816x1024 .bf16 :=
  fun i => ∑ k : Fin 16384, x0 (ix2 k (i 0)) * x1 (ix2 k (i 1))

set_option backward.isDefEq.respectTransparency false in
/-- The result's array after the run. -/
theorem final (c : Dev nD) : (dats m 0 c).arrAt 2 cfg0.N = G (m ((c : Thread nD τ).loc main_arg0)) (m ((c : Thread nD τ).loc main_arg1)) := by
  refine Dat.arrAt_eq_of_covers (dats m 0 c) 2 (G (m ((c : Thread nD τ).loc main_arg0)) (m ((c : Thread nD τ).loc main_arg1)))
    (by decide +kernel) fun t hf y => ?_
  have hm := (flush0_2 t).mp hf
  blk_simp
  rw [after0_2]
  refine (last m c t hm _).trans ?_
  refine (Pipeline.eq_sum_fin_of_reset_step_apply_of_flush (fun n hn y => (outsAt0 m c n hn).2 y) 32 (fun _ => 0)
    (fun t y => term m c t y) (fun t h y => first m c t h y) (fun t h y => step m c t h y) t hm y).trans ?_
  rw [zero_add]
  unfold G
  rw [← sum_blocks (n := 32) (b := 512) rfl]
  refine Finset.sum_congr rfl fun s _ => ?_
  unfold term dot
  refine Finset.sum_congr rfl fun k _ => congrArg₂ (· * ·) ?_ ?_
  · blk_point [iblk, V, idx t, idx ⟨32 * (t.val / 32) + s.val, Pipeline.run_point_lt_of_flush t hm s⟩]
  · blk_point [iblk, V, idx t, idx ⟨32 * (t.val / 32) + s.val, Pipeline.run_point_lt_of_flush t hm s⟩]

/-- The reference's result is the kernel's. -/
theorem agree (x0 : Vec Ideal S16384x2816 .bf16) (x1 : Vec Ideal S16384x1024 .bf16) :
    Cert.Reference7Ideal.Read.val_main_v4 (F := Ideal) x0 x1 = G x0 x1 := by
  funext i
  unfold G
  pointwise [Cert.Reference7Ideal.Read.val_main_v4, Cert.Reference7Ideal.Read.val_main_v3, Cert.Reference7Ideal.Read.val_main_v2, Cert.Reference7Ideal.Read.val_main_v1, Cert.Reference7Ideal.Read.val_main_v0]
  exact Finset.sum_congr rfl fun k _ => mul_comm _ _

/-- The result agrees with the reference's, at all arguments. -/
theorem claim : Cert.algebraic_Kernel7Ideal_Reference7Ideal := by
  intro m ρ m' ρ' _ hagree
  refine ⟨fun c => G _ _,
    (θ_run defs _ _).mono (fun r h c => ⟨(h c).1.trans (final m c), (h c).2⟩)
      (Value.run_blocks (F := Ideal) m ρ), ?_⟩
  refine (θ_run Cert.Reference7Ideal.defs _ _).mono (fun _ h c => ⟨(h c).1.trans ?_, (h c).2⟩)
    (Cert.Reference7Ideal.Value.run (F := Ideal) m' ρ')
  rw [(hagree c).1, (hagree c).2]
  exact (Cert.Reference7Ideal.Read.val_main_v4_eq _ _).trans (agree _ _)

end Cert.Kernel7Ideal.FfnOutDw

end
-- ==== Proof.OutProjDx.lean ====
/- The gradient of the output projection's input: at every argument the kernel's tiles are the reference's product. -/
module

public import proofs.«01_k».proof.Proof.Gen.Kernel8Ideal.Value
public import proofs.«01_k».proof.Proof.Gen.Reference8Ideal.Read
public import proofs.«01_k».proof.Proof.Reals
public import proofs.«01_k».proof.Defs
public import Idealize.ShloMosaic.Lib.Pipeline.ValueKit
public import Idealize.ShloMosaic.Lib.Claim

@[expose] public section

set_option maxRecDepth 16384

noncomputable section

namespace Cert.Kernel8Ideal.OutProjDx

open Cert.Kernel8Ideal Cert.Kernel8Ideal.Gen Cert.Reals Idealize.ShloMosaic Idealize.ShloMosaic.TcCoe
open Idealize.ShloMosaic.Pipeline (Dat)

variable (m : (ℓ : Loc nD τ sig) → Buf (Elt Ideal) ℓ)

/-- The blocks' positions at a grid point. -/
theorem idx : ∀ t : Fin cfg0.N, win0_0.index t = ![t.val, 0] ∧ win0_1.index t = ![0, 0] ∧ win0_2.index t = ![t.val, 0] :=
  (by decide +kernel : ∀ t : Fin grid0.N, _)

/-- The product of two blocks at an index. -/
def dot (a : Vec Ideal S1024x1024 .bf16) (b : Vec Ideal S1024x1024 .bf16) (y : S1024x1024.Idx) : EReal :=
  ∑ k : Fin 1024, a (ix2 (y 0) k) * b (ix2 (y 1) k)

set_option backward.isDefEq.respectTransparency false in
/-- What a point adds to the accumulator. -/
theorem pay_apply (acc : Vec Ideal S1024x1024 .f32) (a : Vec Ideal S1024x1024 .bf16) (b : Vec Ideal S1024x1024 .bf16) (y : S1024x1024.Idx) :
    k0_pay2 acc a b y = acc y + dot a b y := by
  unfold dot
  pointwise [k0_pay2]

set_option backward.isDefEq.respectTransparency false in
/-- What a point stores. -/
theorem last (c : Dev nD) (t : Fin cfg0.N) (y : S1024x1024.Idx) :
    outsAt0 m c t y = dot (iblk m c 0 t) (iblk m c 1 t) y := by
  unfold outsAt0
  frame_out
  refine (pay_apply _ _ _ y).trans ?_
  refine Eq.trans (congrArg₂ (· + ·) (?_ : _ = (0 : EReal)) rfl) (zero_add _)
  pointwise [k0_pay1]

/-- The result from the program's arguments. -/
def G (x0 : Vec Ideal S16384x1024 .bf16) (x1 : Vec Ideal S1024x1024 .bf16) : Vec Ideal S16384x1024 .f32 :=
  fun i => ∑ k : Fin 1024, x0 (ix2 (i 0) k) * x1 (ix2 (i 1) k)

set_option backward.isDefEq.respectTransparency false in
/-- The result's array after the run. -/
theorem final (c : Dev nD) : (dats m 0 c).arrAt 2 cfg0.N = G (m ((c : Thread nD τ).loc main_arg0)) (m ((c : Thread nD τ).loc main_arg1)) := by
  refine Dat.arrAt_eq_of_covers (dats m 0 c) 2 (G (m ((c : Thread nD τ).loc main_arg0)) (m ((c : Thread nD τ).loc main_arg1)))
    (by decide +kernel) fun t hf y => ?_
  blk_simp
  rw [after0_2]
  refine (last m c t _).trans ?_
  unfold G dot
  refine Finset.sum_congr rfl fun k _ => congrArg₂ (· * ·) ?_ ?_
  · blk_point [iblk, V, idx t]
  · blk_point [iblk, V, idx t]

/-- The reference's result is the kernel's. -/
theorem agree (x0 : Vec Ideal S16384x1024 .bf16) (x1 : Vec Ideal S1024x1024 .bf16) :
    Cert.Reference8Ideal.Read.val_main_v2 (F := Ideal) x0 x1 = G x0 x1 := by
  funext i
  unfold G
  pointwise [Cert.Reference8Ideal.Read.val_main_v2, Cert.Reference8Ideal.Read.val_main_v1, Cert.Reference8Ideal.Read.val_main_v0]

/-- The result agrees with the reference's, at all arguments. -/
theorem claim : Cert.algebraic_Kernel8Ideal_Reference8Ideal := by
  intro m ρ m' ρ' _ hagree
  refine ⟨fun c => G _ _,
    (θ_run defs _ _).mono (fun r h c => ⟨(h c).1.trans (final m c), (h c).2⟩)
      (Value.run_blocks (F := Ideal) m ρ), ?_⟩
  refine (θ_run Cert.Reference8Ideal.defs _ _).mono (fun _ h c => ⟨(h c).1.trans ?_, (h c).2⟩)
    (Cert.Reference8Ideal.Value.run (F := Ideal) m' ρ')
  rw [(hagree c).1, (hagree c).2]
  exact (Cert.Reference8Ideal.Read.val_main_v2_eq _ _).trans (agree _ _)

end Cert.Kernel8Ideal.OutProjDx

end
-- ==== Proof.OutProjDw.lean ====
/- The gradient of the output projection's weight: at every argument the kernel's accumulated tiles are the reference's product. -/
module

public import proofs.«01_k».proof.Proof.Gen.Kernel9Ideal.Value
public import proofs.«01_k».proof.Proof.Gen.Reference9Ideal.Read
public import proofs.«01_k».proof.Proof.Reals
public import proofs.«01_k».proof.Defs
public import Idealize.ShloMosaic.Lib.Pipeline.ValueKit
public import Idealize.ShloMosaic.Lib.Claim

@[expose] public section

set_option maxRecDepth 16384

noncomputable section

namespace Cert.Kernel9Ideal.OutProjDw

open Cert.Kernel9Ideal Cert.Kernel9Ideal.Gen Cert.Reals Idealize.ShloMosaic Idealize.ShloMosaic.TcCoe
open Idealize.ShloMosaic.Pipeline (Dat)

variable (m : (ℓ : Loc nD τ sig) → Buf (Elt Ideal) ℓ)

/-- The blocks' positions at a grid point. -/
theorem idx : ∀ t : Fin cfg0.N, win0_0.index t = ![t.val % 32, 0] ∧ win0_1.index t = ![t.val % 32, 0] ∧ win0_2.index t = ![0, 0] :=
  (by decide +kernel : ∀ t : Fin grid0.N, _)

/-- The product of two blocks at an index. -/
def dot (a : Vec Ideal S512x1024 .bf16) (b : Vec Ideal S512x1024 .bf16) (y : S1024x1024.Idx) : EReal :=
  ∑ k : Fin 512, a (ix2 k (y 0)) * b (ix2 k (y 1))

set_option backward.isDefEq.respectTransparency false in
/-- What a point adds to the accumulator. -/
theorem pay_apply (acc : Vec Ideal S1024x1024 .f32) (a : Vec Ideal S512x1024 .bf16) (b : Vec Ideal S512x1024 .bf16) (y : S1024x1024.Idx) :
    k0_pay2 acc a b y = acc y + dot a b y := by
  unfold dot
  pointwise [k0_pay2]

/-- The part of the sum a point adds. -/
def term (c : Dev nD) (t : Fin cfg0.N) (y : S1024x1024.Idx) : EReal := dot (iblk m c 0 t) (iblk m c 1 t) y

set_option backward.isDefEq.respectTransparency false in
/-- The accumulator after the first point of a run. -/
theorem first (c : Dev nD) (t : Fin cfg0.N) (h : t.val % 32 = 0) (y : S1024x1024.Idx) :
    (outsAt0 m c t.val t.isLt).2 y = 0 + term m c t y := by
  rw [outsAt0_A m c t h (by omega)]
  frame_out
  refine (pay_apply _ _ _ y).trans ?_
  refine congrArg₂ (· + ·) ?_ rfl
  pointwise [k0_pay1]

set_option backward.isDefEq.respectTransparency false in
/-- The accumulator after a later point of a run. -/
theorem step (c : Dev nD) (t : Fin cfg0.N) (h : ¬t.val % 32 = 0) (y : S1024x1024.Idx) :
    (outsAt0 m c t.val t.isLt).2 y = (outsAt0 m c (t.val - 1) (by omega)).2 y + term m c t y := by
  by_cases h1 : t.val % 32 = 31
  · rw [outsAt0_C m c t h h1]
    frame_out
    refine (pay_apply _ _ _ y).trans ?_
    exact congrArg₂ (· + ·) (congrFun ((Memref.isWhole_whole cc0_scratch0).read_unread _) y) rfl
  · rw [outsAt0_B m c t h h1]
    frame_out
    refine (pay_apply _ _ _ y).trans ?_
    exact congrArg₂ (· + ·) (congrFun ((Memref.isWhole_whole cc0_scratch0).read_unread _) y) rfl

set_option backward.isDefEq.respectTransparency false in
/-- The last point of a run stores the accumulator. -/
theorem last (c : Dev nD) (t : Fin cfg0.N) (h : t.val % 32 = 31) (y : S1024x1024.Idx) :
    (outsAt0 m c t.val t.isLt).1 y = (outsAt0 m c t.val t.isLt).2 y := by
  rw [outsAt0_C m c t (by omega) h]
  frame_out
  pointwise [k0_pay3]

/-- The result from the program's arguments. -/
def G (x0 : Vec Ideal S16384x1024 .bf16) (x1 : Vec Ideal S16384x1024 .bf16) : Vec Ideal S1024x1024 .bf16 :=
  fun i => ∑ k : Fin 16384, x0 (ix2 k (i 0)) * x1 (ix2 k (i 1))

set_option backward.isDefEq.respectTransparency false in
/-- The result's array after the run. -/
theorem final (c : Dev nD) : (dats m 0 c).arrAt 2 cfg0.N = G (m ((c : Thread nD τ).loc main_arg0)) (m ((c : Thread nD τ).loc main_arg1)) := by
  refine Dat.arrAt_eq_of_covers (dats m 0 c) 2 (G (m ((c : Thread nD τ).loc main_arg0)) (m ((c : Thread nD τ).loc main_arg1)))
    (by decide +kernel) fun t hf y => ?_
  have hm := (flush0_2 t).mp hf
  blk_simp
  rw [after0_2]
  refine (last m c t hm _).trans ?_
  refine (Pipeline.eq_sum_fin_of_reset_step_apply_of_flush (fun n hn y => (outsAt0 m c n hn).2 y) 32 (fun _ => 0)
    (fun t y => term m c t y) (fun t h y => first m c t h y) (fun t h y => step m c t h y) t hm y).trans ?_
  rw [zero_add]
  unfold G
  rw [← sum_blocks (n := 32) (b := 512) rfl]
  refine Finset.sum_congr rfl fun s _ => ?_
  unfold term dot
  refine Finset.sum_congr rfl fun k _ => congrArg₂ (· * ·) ?_ ?_
  · blk_point [iblk, V, idx t, idx ⟨32 * (t.val / 32) + s.val, Pipeline.run_point_lt_of_flush t hm s⟩]
  · blk_point [iblk, V, idx t, idx ⟨32 * (t.val / 32) + s.val, Pipeline.run_point_lt_of_flush t hm s⟩]

/-- The reference's result is the kernel's. -/
theorem agree (x0 : Vec Ideal S16384x1024 .bf16) (x1 : Vec Ideal S16384x1024 .bf16) :
    Cert.Reference9Ideal.Read.val_main_v4 (F := Ideal) x0 x1 = G x0 x1 := by
  funext i
  unfold G
  pointwise [Cert.Reference9Ideal.Read.val_main_v4, Cert.Reference9Ideal.Read.val_main_v3, Cert.Reference9Ideal.Read.val_main_v2, Cert.Reference9Ideal.Read.val_main_v1, Cert.Reference9Ideal.Read.val_main_v0]
  exact Finset.sum_congr rfl fun k _ => mul_comm _ _

/-- The result agrees with the reference's, at all arguments. -/
theorem claim : Cert.algebraic_Kernel9Ideal_Reference9Ideal := by
  intro m ρ m' ρ' _ hagree
  refine ⟨fun c => G _ _,
    (θ_run defs _ _).mono (fun r h c => ⟨(h c).1.trans (final m c), (h c).2⟩)
      (Value.run_blocks (F := Ideal) m ρ), ?_⟩
  refine (θ_run Cert.Reference9Ideal.defs _ _).mono (fun _ h c => ⟨(h c).1.trans ?_, (h c).2⟩)
    (Cert.Reference9Ideal.Value.run (F := Ideal) m' ρ')
  rw [(hagree c).1, (hagree c).2]
  exact (Cert.Reference9Ideal.Read.val_main_v4_eq _ _).trans (agree _ _)

end Cert.Kernel9Ideal.OutProjDw

end
-- ==== Proof.InProj.lean ====
/- The first projection: at every argument the kernel's tiles are the reference's product. -/
module

public import proofs.«01_k».proof.Proof.Gen.Kernel10Ideal.Value
public import proofs.«01_k».proof.Proof.Gen.Reference10Ideal.Read
public import proofs.«01_k».proof.Proof.Reals
public import proofs.«01_k».proof.Defs
public import Idealize.ShloMosaic.Lib.Pipeline.ValueKit
public import Idealize.ShloMosaic.Lib.Claim

@[expose] public section

set_option maxRecDepth 16384

noncomputable section

namespace Cert.Kernel10Ideal.InProj

open Cert.Kernel10Ideal Cert.Kernel10Ideal.Gen Cert.Reals Idealize.ShloMosaic Idealize.ShloMosaic.TcCoe
open Idealize.ShloMosaic.Pipeline (Dat)

variable (m : (ℓ : Loc nD τ sig) → Buf (Elt Ideal) ℓ)

/-- The blocks' positions at a grid point. -/
theorem idx : ∀ t : Fin cfg0.N, win0_0.index t = ![t.val / 6, 0] ∧ win0_1.index t = ![0, t.val % 6] ∧ win0_2.index t = ![t.val / 6, t.val % 6] :=
  (by decide +kernel : ∀ t : Fin grid0.N, _)

/-- The product of two blocks at an index. -/
def dot (a : Vec Ideal S1024x1024 .bf16) (b : Vec Ideal S1024x1024 .bf16) (y : S1024x1024.Idx) : EReal :=
  ∑ k : Fin 1024, a (ix2 (y 0) k) * b (ix2 k (y 1))

set_option backward.isDefEq.respectTransparency false in
/-- The block a point stores. -/
theorem pay_apply (a : Vec Ideal S1024x1024 .bf16) (b : Vec Ideal S1024x1024 .bf16) (y : S1024x1024.Idx) : k0_pay1 a b y = dot a b y := by
  unfold dot
  pointwise [k0_pay1]

/-- The result from the program's arguments. -/
def G (x0 : Vec Ideal S16384x1024 .bf16) (x1 : Vec Ideal S1024x6144 .bf16) : Vec Ideal S16384x6144 .bf16 :=
  fun i => ∑ k : Fin 1024, x0 (ix2 (i 0) k) * x1 (ix2 k (i 1))

set_option backward.isDefEq.respectTransparency false in
/-- The result's array after the run. -/
theorem final (c : Dev nD) : (dats m 0 c).arrAt 2 cfg0.N = G (m ((c : Thread nD τ).loc main_arg0)) (m ((c : Thread nD τ).loc main_arg1)) := by
  refine Dat.arrAt_eq_of_covers (dats m 0 c) 2 (G (m ((c : Thread nD τ).loc main_arg0)) (m ((c : Thread nD τ).loc main_arg1))) (by decide +kernel) fun t hf y => ?_
  blk_simp
  rw [after0_2]
  frame_out
  refine (pay_apply _ _ _).trans ?_
  unfold G dot
  refine Finset.sum_congr rfl fun k _ => congrArg₂ (· * ·) ?_ ?_
  · blk_point [iblk, V, idx t]
  · blk_point [iblk, V, idx t]

/-- The reference's result is the kernel's. -/
theorem agree (x0 : Vec Ideal S16384x1024 .bf16) (x1 : Vec Ideal S1024x6144 .bf16) :
    Cert.Reference10Ideal.Read.val_main_v3 (F := Ideal) x0 x1 = G x0 x1 := by
  funext i
  unfold G
  pointwise [Cert.Reference10Ideal.Read.val_main_v3, Cert.Reference10Ideal.Read.val_main_v2, Cert.Reference10Ideal.Read.val_main_v1, Cert.Reference10Ideal.Read.val_main_v0]

/-- The result agrees with the reference's, at all arguments. -/
theorem claim : Cert.algebraic_Kernel10Ideal_Reference10Ideal := by
  intro m ρ m' ρ' _ hagree
  refine ⟨fun c => G _ _,
    (θ_run defs _ _).mono (fun r h c => ⟨(h c).1.trans (final m c), (h c).2⟩)
      (Value.run_blocks (F := Ideal) m ρ), ?_⟩
  refine (θ_run Cert.Reference10Ideal.defs _ _).mono (fun _ h c => ⟨(h c).1.trans ?_, (h c).2⟩)
    (Cert.Reference10Ideal.Value.run (F := Ideal) m' ρ')
  rw [(hagree c).1, (hagree c).2]
  exact (Cert.Reference10Ideal.Read.val_main_v3_eq _ _).trans (agree _ _)

end Cert.Kernel10Ideal.InProj

end
-- ==== Proof.TimeSteps.lean ====
/- The first projection's columns of the time steps: at every argument the kernel's tiles are the reference's product. -/
module

public import proofs.«01_k».proof.Proof.Gen.Kernel11Ideal.Value
public import proofs.«01_k».proof.Proof.Gen.Reference11Ideal.Read
public import proofs.«01_k».proof.Proof.Reals
public import proofs.«01_k».proof.Defs
public import Idealize.ShloMosaic.Lib.Pipeline.ValueKit
public import Idealize.ShloMosaic.Lib.Claim

@[expose] public section

set_option maxRecDepth 16384

noncomputable section

namespace Cert.Kernel11Ideal.TimeSteps

open Cert.Kernel11Ideal Cert.Kernel11Ideal.Gen Cert.Reals Idealize.ShloMosaic Idealize.ShloMosaic.TcCoe
open Idealize.ShloMosaic.Pipeline (Dat)

variable (m : (ℓ : Loc nD τ sig) → Buf (Elt Ideal) ℓ)

/-- The blocks' positions at a grid point. -/
theorem idx : ∀ t : Fin cfg0.N, win0_0.index t = ![t.val, 0] ∧ win0_1.index t = ![0, 0] ∧ win0_2.index t = ![t.val, 0] :=
  (by decide +kernel : ∀ t : Fin grid0.N, _)

/-- The product of two blocks at an index. -/
def dot (a : Vec Ideal S1024x1024 .bf16) (b : Vec Ideal S1024x128 .bf16) (y : S1024x128.Idx) : EReal :=
  ∑ k : Fin 1024, a (ix2 (y 0) k) * b (ix2 k (y 1))

set_option backward.isDefEq.respectTransparency false in
/-- The block a point stores. -/
theorem pay_apply (a : Vec Ideal S1024x1024 .bf16) (b : Vec Ideal S1024x128 .bf16) (y : S1024x128.Idx) : k0_pay1 a b y = dot a b y := by
  unfold dot
  pointwise [k0_pay1]

/-- The result from the program's arguments. -/
def G (x0 : Vec Ideal S16384x1024 .bf16) (x1 : Vec Ideal S1024x128 .bf16) : Vec Ideal S16384x128 .f32 :=
  fun i => ∑ k : Fin 1024, x0 (ix2 (i 0) k) * x1 (ix2 k (i 1))

set_option backward.isDefEq.respectTransparency false in
/-- The result's array after the run. -/
theorem final (c : Dev nD) : (dats m 0 c).arrAt 2 cfg0.N = G (m ((c : Thread nD τ).loc main_arg0)) (m ((c : Thread nD τ).loc main_arg1)) := by
  refine Dat.arrAt_eq_of_covers (dats m 0 c) 2 (G (m ((c : Thread nD τ).loc main_arg0)) (m ((c : Thread nD τ).loc main_arg1))) (by decide +kernel) fun t hf y => ?_
  blk_simp
  rw [after0_2]
  frame_out
  refine (pay_apply _ _ _).trans ?_
  unfold G dot
  refine Finset.sum_congr rfl fun k _ => congrArg₂ (· * ·) ?_ ?_
  · blk_point [iblk, V, idx t]
  · blk_point [iblk, V, idx t]

/-- The reference's result is the kernel's. -/
theorem agree (x0 : Vec Ideal S16384x1024 .bf16) (x1 : Vec Ideal S1024x128 .bf16) :
    Cert.Reference11Ideal.Read.val_main_v2 (F := Ideal) x0 x1 = G x0 x1 := by
  funext i
  unfold G
  pointwise [Cert.Reference11Ideal.Read.val_main_v2, Cert.Reference11Ideal.Read.val_main_v1, Cert.Reference11Ideal.Read.val_main_v0]

/-- The result agrees with the reference's, at all arguments. -/
theorem claim : Cert.algebraic_Kernel11Ideal_Reference11Ideal := by
  intro m ρ m' ρ' _ hagree
  refine ⟨fun c => G _ _,
    (θ_run defs _ _).mono (fun r h c => ⟨(h c).1.trans (final m c), (h c).2⟩)
      (Value.run_blocks (F := Ideal) m ρ), ?_⟩
  refine (θ_run Cert.Reference11Ideal.defs _ _).mono (fun _ h c => ⟨(h c).1.trans ?_, (h c).2⟩)
    (Cert.Reference11Ideal.Value.run (F := Ideal) m' ρ')
  rw [(hagree c).1, (hagree c).2]
  exact (Cert.Reference11Ideal.Read.val_main_v2_eq _ _).trans (agree _ _)

end Cert.Kernel11Ideal.TimeSteps

end
-- ==== Proof.FfnIn.lean ====
/- The channel mixer's first product and its SwiGLU: at every argument the kernel's tiles of the two halves and of the
   gated product are the reference's. -/
module

public import proofs.«01_k».proof.Proof.Gen.Kernel12Ideal.Value
public import proofs.«01_k».proof.Proof.Gen.Reference12Ideal.Read
public import proofs.«01_k».proof.Proof.Reals
public import proofs.«01_k».proof.Defs
public import Idealize.ShloMosaic.Lib.Pipeline.ValueKit
public import Idealize.ShloMosaic.Lib.Claim

@[expose] public section

set_option maxRecDepth 16384

noncomputable section

namespace Cert.Kernel12Ideal.FfnIn

open Cert.Kernel12Ideal Cert.Kernel12Ideal.Gen Cert.Reals Idealize.ShloMosaic Idealize.ShloMosaic.TcCoe
open Idealize.ShloMosaic.Pipeline (Dat)

variable (m : (ℓ : Loc nD τ sig) → Buf (Elt Ideal) ℓ)

/-- The blocks' positions at a grid point. -/
theorem idx : ∀ t : Fin cfg0.N, win0_0.index t = ![t.val / 2, 0] ∧ win0_1.index t = ![0, t.val % 2] ∧ win0_2.index t = ![0, t.val % 2 + 2]
    ∧ win0_3.index t = ![t.val / 2, t.val % 2] ∧ win0_4.index t = ![t.val / 2, t.val % 2] ∧ win0_5.index t = ![t.val / 2, t.val % 2] :=
  (by decide +kernel : ∀ t : Fin grid0.N, _)

/-- The gated product of a gate `g` and the other factor `u`. -/
def gated (g u : EReal) : EReal := g * Ideal.div 1 (1 + Ideal.exp (0 - g)) * u

/-- The product of two blocks at an index. -/
def dot (a : Vec Ideal S1024x1024 .bf16) (b : Vec Ideal S1024x1408 .bf16) (y : S1024x1408.Idx) : EReal :=
  ∑ k : Fin 1024, a (ix2 (y 0) k) * b (ix2 k (y 1))

set_option backward.isDefEq.respectTransparency false in
/-- The gate's block. -/
theorem pay3_apply (a : Vec Ideal S1024x1024 .bf16) (b : Vec Ideal S1024x1408 .bf16) (y : S1024x1408.Idx) : k0_pay3 a b y = dot a b y := by
  unfold dot
  pointwise [k0_pay3, k0_pay1]

set_option backward.isDefEq.respectTransparency false in
/-- The other factor's block. -/
theorem pay4_apply (a : Vec Ideal S1024x1024 .bf16) (b : Vec Ideal S1024x1408 .bf16) (y : S1024x1408.Idx) : k0_pay4 a b y = dot a b y := by
  unfold dot
  pointwise [k0_pay4, k0_pay2]

set_option backward.isDefEq.respectTransparency false in
/-- The gated product's block. -/
theorem pay5_apply (a : Vec Ideal S1024x1024 .bf16) (b b' : Vec Ideal S1024x1408 .bf16) (y : S1024x1408.Idx) :
    k0_pay5 a b b' y = gated (dot a b y) (dot a b' y) := by
  unfold gated dot
  pointwise [k0_pay5, k0_pay2, k0_pay1]

/-- The product with the first half of the columns, at an index. -/
def P0 (x0 : Vec Ideal S16384x1024 .bf16) (x1 : Vec Ideal S1024x5632 .bf16) (r : Fin 16384) (j : Fin 2816) : EReal :=
  ∑ k : Fin 1024, x0 (ix2 r k) * x1 (ix2 k ⟨j.val, by omega⟩)

/-- The product with the second half of the columns, at an index. -/
def P2816 (x0 : Vec Ideal S16384x1024 .bf16) (x1 : Vec Ideal S1024x5632 .bf16) (r : Fin 16384) (j : Fin 2816) : EReal :=
  ∑ k : Fin 1024, x0 (ix2 r k) * x1 (ix2 k ⟨2816 + j.val, by omega⟩)

/-- The gate from the program's arguments. -/
def G3 (x0 : Vec Ideal S16384x1024 .bf16) (x1 : Vec Ideal S1024x5632 .bf16) : Vec Ideal S16384x2816 .bf16 :=
  fun i => P0 x0 x1 (i 0) (i 1)

/-- The other factor from the program's arguments. -/
def G4 (x0 : Vec Ideal S16384x1024 .bf16) (x1 : Vec Ideal S1024x5632 .bf16) : Vec Ideal S16384x2816 .bf16 :=
  fun i => P2816 x0 x1 (i 0) (i 1)

/-- The gated product from the program's arguments. -/
def G5 (x0 : Vec Ideal S16384x1024 .bf16) (x1 : Vec Ideal S1024x5632 .bf16) : Vec Ideal S16384x2816 .bf16 :=
  fun i => gated (P0 x0 x1 (i 0) (i 1)) (P2816 x0 x1 (i 0) (i 1))

set_option backward.isDefEq.respectTransparency false in
/-- A block of the product with the gate's columns is its part of the whole, read through window 3. -/
theorem part3_0 (c : Dev nD) (t : Fin cfg0.N) (y : S1024x1408.Idx) :
    dot (iblk m c 0 t) (iblk m c 1 t) y = P0 (m ((c : Thread nD τ).loc main_arg0)) (m ((c : Thread nD τ).loc main_arg1)) ((win0_3.blk t).view.emb y 0) ((win0_3.blk t).view.emb y 1) := by
  unfold dot P0
  refine Finset.sum_congr rfl fun k _ => congrArg₂ (· * ·) ?_ ?_
  · blk_point [iblk, V, idx t]
  · blk_point [iblk, V, idx t]

set_option backward.isDefEq.respectTransparency false in
/-- A block of the product with the other factor's columns is its part of the whole, read through window 4. -/
theorem part4_2816 (c : Dev nD) (t : Fin cfg0.N) (y : S1024x1408.Idx) :
    dot (iblk m c 0 t) (iblk m c 2 t) y = P2816 (m ((c : Thread nD τ).loc main_arg0)) (m ((c : Thread nD τ).loc main_arg1)) ((win0_4.blk t).view.emb y 0) ((win0_4.blk t).view.emb y 1) := by
  unfold dot P2816
  refine Finset.sum_congr rfl fun k _ => congrArg₂ (· * ·) ?_ ?_
  · blk_point [iblk, V, idx t]
  · blk_point [iblk, V, idx t]

set_option backward.isDefEq.respectTransparency false in
/-- A block of the product with the gate's columns is its part of the whole, read through window 5. -/
theorem part5_0 (c : Dev nD) (t : Fin cfg0.N) (y : S1024x1408.Idx) :
    dot (iblk m c 0 t) (iblk m c 1 t) y = P0 (m ((c : Thread nD τ).loc main_arg0)) (m ((c : Thread nD τ).loc main_arg1)) ((win0_5.blk t).view.emb y 0) ((win0_5.blk t).view.emb y 1) := by
  unfold dot P0
  refine Finset.sum_congr rfl fun k _ => congrArg₂ (· * ·) ?_ ?_
  · blk_point [iblk, V, idx t]
  · blk_point [iblk, V, idx t]

set_option backward.isDefEq.respectTransparency false in
/-- A block of the product with the other factor's columns is its part of the whole, read through window 5. -/
theorem part5_2816 (c : Dev nD) (t : Fin cfg0.N) (y : S1024x1408.Idx) :
    dot (iblk m c 0 t) (iblk m c 2 t) y = P2816 (m ((c : Thread nD τ).loc main_arg0)) (m ((c : Thread nD τ).loc main_arg1)) ((win0_5.blk t).view.emb y 0) ((win0_5.blk t).view.emb y 1) := by
  unfold dot P2816
  refine Finset.sum_congr rfl fun k _ => congrArg₂ (· * ·) ?_ ?_
  · blk_point [iblk, V, idx t]
  · blk_point [iblk, V, idx t]

set_option backward.isDefEq.respectTransparency false in
/-- The gate's array after the run. -/
theorem final3 (c : Dev nD) : (dats m 0 c).arrAt 3 cfg0.N = G3 (m ((c : Thread nD τ).loc main_arg0)) (m ((c : Thread nD τ).loc main_arg1)) := by
  refine Dat.arrAt_eq_of_covers (dats m 0 c) 3 (G3 (m ((c : Thread nD τ).loc main_arg0)) (m ((c : Thread nD τ).loc main_arg1))) (by decide +kernel) fun t hf y => ?_
  blk_simp
  rw [after0_3]
  frame_out
  exact (pay3_apply _ _ _).trans (part3_0 m c t _)

set_option backward.isDefEq.respectTransparency false in
/-- The other factor's array after the run. -/
theorem final4 (c : Dev nD) : (dats m 0 c).arrAt 4 cfg0.N = G4 (m ((c : Thread nD τ).loc main_arg0)) (m ((c : Thread nD τ).loc main_arg1)) := by
  refine Dat.arrAt_eq_of_covers (dats m 0 c) 4 (G4 (m ((c : Thread nD τ).loc main_arg0)) (m ((c : Thread nD τ).loc main_arg1))) (by decide +kernel) fun t hf y => ?_
  blk_simp
  rw [after0_4]
  frame_out
  exact (pay4_apply _ _ _).trans (part4_2816 m c t _)

set_option backward.isDefEq.respectTransparency false in
/-- The gated product's array after the run. -/
theorem final5 (c : Dev nD) : (dats m 0 c).arrAt 5 cfg0.N = G5 (m ((c : Thread nD τ).loc main_arg0)) (m ((c : Thread nD τ).loc main_arg1)) := by
  refine Dat.arrAt_eq_of_covers (dats m 0 c) 5 (G5 (m ((c : Thread nD τ).loc main_arg0)) (m ((c : Thread nD τ).loc main_arg1))) (by decide +kernel) fun t hf y => ?_
  blk_simp
  rw [after0_5]
  frame_out
  exact (pay5_apply _ _ _ _).trans (congrArg₂ gated (part5_0 m c t _) (part5_2816 m c t _))

open Cert.Reference12Ideal.Read in
set_option backward.isDefEq.respectTransparency false in
/-- The reference's gate is the kernel's. -/
theorem agree3 (x0 : Vec Ideal S16384x1024 .bf16) (x1 : Vec Ideal S1024x5632 .bf16) : val_main_v4 (F := Ideal) x0 x1 = G3 x0 x1 := by
  funext i
  unfold G3 P0
  skip
  pointwise [val_main_v10, val_main_v9, val_main_v8, val_main_v7, val_main_call0_v5, val_main_call0_v4, val_main_call0_cst_0, val_main_call0_v3, val_main_call0_v2, val_main_call0_cst, val_main_call0_v1, val_main_call0_v0, val_main_v6, val_main_v5, val_main_v4, val_main_v3, val_main_v2, val_main_v1, val_main_v0]

open Cert.Reference12Ideal.Read in
set_option backward.isDefEq.respectTransparency false in
/-- The reference's other factor is the kernel's. -/
theorem agree4 (x0 : Vec Ideal S16384x1024 .bf16) (x1 : Vec Ideal S1024x5632 .bf16) : val_main_v5 (F := Ideal) x0 x1 = G4 x0 x1 := by
  funext i
  unfold G4 P2816
  skip
  pointwise [val_main_v10, val_main_v9, val_main_v8, val_main_v7, val_main_call0_v5, val_main_call0_v4, val_main_call0_cst_0, val_main_call0_v3, val_main_call0_v2, val_main_call0_cst, val_main_call0_v1, val_main_call0_v0, val_main_v6, val_main_v5, val_main_v4, val_main_v3, val_main_v2, val_main_v1, val_main_v0]

open Cert.Reference12Ideal.Read in
set_option backward.isDefEq.respectTransparency false in
/-- The reference's gated product is the kernel's. -/
theorem agree5 (x0 : Vec Ideal S16384x1024 .bf16) (x1 : Vec Ideal S1024x5632 .bf16) : val_main_v10 (F := Ideal) x0 x1 = G5 x0 x1 := by
  funext i
  unfold G5 gated P0 P2816
  rw [zero_sub]
  pointwise [val_main_v10, val_main_v9, val_main_v8, val_main_v7, val_main_call0_v5, val_main_call0_v4, val_main_call0_cst_0, val_main_call0_v3, val_main_call0_v2, val_main_call0_cst, val_main_call0_v1, val_main_call0_v0, val_main_v6, val_main_v5, val_main_v4, val_main_v3, val_main_v2, val_main_v1, val_main_v0]

/-- The three results agree with the reference's, at all arguments. -/
theorem claim : Cert.algebraic_Kernel12Ideal_Reference12Ideal := by
  intro m ρ m' ρ' _ hagree
  refine ⟨fun c => G3 _ _, fun c => G4 _ _, fun c => G5 _ _,
    (θ_run defs _ _).mono (fun r h c => ⟨(h c).1.trans (final3 m c), (h c).2.1.trans (final4 m c), (h c).2.2.1.trans (final5 m c), (h c).2.2.2⟩)
      (Value.run_blocks (F := Ideal) m ρ), ?_⟩
  refine (θ_run Cert.Reference12Ideal.defs _ _).mono
    (fun _ h c => ⟨(h c).1.trans ?_, (h c).2.1.trans ?_, (h c).2.2.1.trans ?_, (h c).2.2.2⟩)
    (Cert.Reference12Ideal.Value.run (F := Ideal) m' ρ')
  · rw [(hagree c).1, (hagree c).2]
    exact (Cert.Reference12Ideal.Read.val_main_v4_eq _ _).trans (agree3 _ _)
  · rw [(hagree c).1, (hagree c).2]
    exact (Cert.Reference12Ideal.Read.val_main_v5_eq _ _).trans (agree4 _ _)
  · rw [(hagree c).1, (hagree c).2]
    exact (Cert.Reference12Ideal.Read.val_main_v10_eq _ _).trans (agree5 _ _)

end Cert.Kernel12Ideal.FfnIn

end
-- ==== Proof.FfnOut.lean ====
/- The channel mixer's second product: at every argument the kernel's accumulated tiles are the reference's product. -/
module

public import proofs.«01_k».proof.Proof.Gen.Kernel13Ideal.Value
public import proofs.«01_k».proof.Proof.Gen.Reference13Ideal.Read
public import proofs.«01_k».proof.Proof.Reals
public import proofs.«01_k».proof.Defs
public import Idealize.ShloMosaic.Lib.Pipeline.ValueKit
public import Idealize.ShloMosaic.Lib.Claim

@[expose] public section

set_option maxRecDepth 16384

noncomputable section

namespace Cert.Kernel13Ideal.FfnOut

open Cert.Kernel13Ideal Cert.Kernel13Ideal.Gen Cert.Reals Idealize.ShloMosaic Idealize.ShloMosaic.TcCoe
open Idealize.ShloMosaic.Pipeline (Dat)

variable (m : (ℓ : Loc nD τ sig) → Buf (Elt Ideal) ℓ)

/-- The blocks' positions at a grid point. -/
theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

/-- The product of two blocks at an index. -/
def dot (a : Vec Ideal S1024x1408 .bf16) (b : Vec Ideal S1408x1024 .bf16) (y : S1024x1024.Idx) : EReal :=
  ∑ k : Fin 1408, a (ix2 (y 0) k) * b (ix2 k (y 1))

set_option backward.isDefEq.respectTransparency false in
/-- What a point adds to the accumulator. -/
theorem pay_apply (acc : Vec Ideal S1024x1024 .f32) (a : Vec Ideal S1024x1408 .bf16) (b : Vec Ideal S1408x1024 .bf16) (y : S1024x1024.Idx) :
    k0_pay2 acc a b y = acc y + dot a b y := by
  unfold dot
  pointwise [k0_pay2]

/-- The part of the sum a point adds. -/
def term (c : Dev nD) (t : Fin cfg0.N) (y : S1024x1024.Idx) : EReal := dot (iblk m c 0 t) (iblk m c 1 t) y

set_option backward.isDefEq.respectTransparency false in
/-- The accumulator after the first point of a run. -/
theorem first (c : Dev nD) (t : Fin cfg0.N) (h : t.val % 2 = 0) (y : S1024x1024.Idx) :
    (outsAt0 m c t.val t.isLt).2 y = 0 + term m c t y := by
  rw [outsAt0_A m c t h (by omega)]
  frame_out
  refine (pay_apply _ _ _ y).trans ?_
  refine congrArg₂ (· + ·) ?_ rfl
  pointwise [k0_pay1]

set_option backward.isDefEq.respectTransparency false in
/-- The accumulator after a later point of a run. -/
theorem step (c : Dev nD) (t : Fin cfg0.N) (h : ¬t.val % 2 = 0) (y : S1024x1024.Idx) :
    (outsAt0 m c t.val t.isLt).2 y = (outsAt0 m c (t.val - 1) (by omega)).2 y + term m c t y := by
  rw [outsAt0_B m c t h (by omega)]
  frame_out
  refine (pay_apply _ _ _ y).trans ?_
  exact congrArg₂ (· + ·) (congrFun ((Memref.isWhole_whole cc0_scratch0).read_unread _) y) rfl

set_option backward.isDefEq.respectTransparency false in
/-- The last point of a run stores the accumulator. -/
theorem last (c : Dev nD) (t : Fin cfg0.N) (h : t.val % 2 = 1) (y : S1024x1024.Idx) :
    (outsAt0 m c t.val t.isLt).1 y = (outsAt0 m c t.val t.isLt).2 y := by
  rw [outsAt0_B m c t (by omega) h]
  frame_out

/-- The result from the program's arguments. -/
def G (x0 : Vec Ideal S16384x2816 .bf16) (x1 : Vec Ideal S2816x1024 .bf16) : Vec Ideal S16384x1024 .f32 :=
  fun i => ∑ k : Fin 2816, x0 (ix2 (i 0) k) * x1 (ix2 k (i 1))

set_option backward.isDefEq.respectTransparency false in
/-- The result's array after the run. -/
theorem final (c : Dev nD) : (dats m 0 c).arrAt 2 cfg0.N = G (m ((c : Thread nD τ).loc main_arg0)) (m ((c : Thread nD τ).loc main_arg1)) := by
  refine Dat.arrAt_eq_of_covers (dats m 0 c) 2 (G (m ((c : Thread nD τ).loc main_arg0)) (m ((c : Thread nD τ).loc main_arg1)))
    (by decide +kernel) fun t hf y => ?_
  have hm := (flush0_2 t).mp hf
  blk_simp
  rw [after0_2]
  refine (last m c t hm _).trans ?_
  refine (Pipeline.eq_sum_fin_of_reset_step_apply_of_flush (fun n hn y => (outsAt0 m c n hn).2 y) 2 (fun _ => 0)
    (fun t y => term m c t y) (fun t h y => first m c t h y) (fun t h y => step m c t h y) t hm y).trans ?_
  rw [zero_add]
  unfold G
  rw [← sum_blocks (n := 2) (b := 1408) rfl]
  refine Finset.sum_congr rfl fun s _ => ?_
  unfold term dot
  refine Finset.sum_congr rfl fun k _ => congrArg₂ (· * ·) ?_ ?_
  · blk_point [iblk, V, idx t, idx ⟨2 * (t.val / 2) + s.val, Pipeline.run_point_lt_of_flush t hm s⟩]
  · blk_point [iblk, V, idx t, idx ⟨2 * (t.val / 2) + s.val, Pipeline.run_point_lt_of_flush t hm s⟩]

/-- The reference's result is the kernel's. -/
theorem agree (x0 : Vec Ideal S16384x2816 .bf16) (x1 : Vec Ideal S2816x1024 .bf16) :
    Cert.Reference13Ideal.Read.val_main_v2 (F := Ideal) x0 x1 = G x0 x1 := by
  funext i
  unfold G
  pointwise [Cert.Reference13Ideal.Read.val_main_v2, Cert.Reference13Ideal.Read.val_main_v1, Cert.Reference13Ideal.Read.val_main_v0]

/-- The result agrees with the reference's, at all arguments. -/
theorem claim : Cert.algebraic_Kernel13Ideal_Reference13Ideal := by
  intro m ρ m' ρ' _ hagree
  refine ⟨fun c => G _ _,
    (θ_run defs _ _).mono (fun r h c => ⟨(h c).1.trans (final m c), (h c).2⟩)
      (Value.run_blocks (F := Ideal) m ρ), ?_⟩
  refine (θ_run Cert.Reference13Ideal.defs _ _).mono (fun _ h c => ⟨(h c).1.trans ?_, (h c).2⟩)
    (Cert.Reference13Ideal.Value.run (F := Ideal) m' ρ')
  rw [(hagree c).1, (hagree c).2]
  exact (Cert.Reference13Ideal.Read.val_main_v2_eq _ _).trans (agree _ _)

end Cert.Kernel13Ideal.FfnOut

end
-- ==== Proof.OutProj.lean ====
/- The mixers' output projection: at every argument the kernel's tiles are the reference's product. -/
module

public import proofs.«01_k».proof.Proof.Gen.Kernel14Ideal.Value
public import proofs.«01_k».proof.Proof.Gen.Reference14Ideal.Read
public import proofs.«01_k».proof.Proof.Reals
public import proofs.«01_k».proof.Defs
public import Idealize.ShloMosaic.Lib.Pipeline.ValueKit
public import Idealize.ShloMosaic.Lib.Claim

@[expose] public section

set_option maxRecDepth 16384

noncomputable section

namespace Cert.Kernel14Ideal.OutProj

open Cert.Kernel14Ideal Cert.Kernel14Ideal.Gen Cert.Reals Idealize.ShloMosaic Idealize.ShloMosaic.TcCoe
open Idealize.ShloMosaic.Pipeline (Dat)

variable (m : (ℓ : Loc nD τ sig) → Buf (Elt Ideal) ℓ)

/-- The blocks' positions at a grid point. -/
theorem idx : ∀ t : Fin cfg0.N, win0_0.index t = ![t.val, 0] ∧ win0_1.index t = ![0, 0] ∧ win0_2.index t = ![t.val, 0] :=
  (by decide +kernel : ∀ t : Fin grid0.N, _)

/-- The product of two blocks at an index. -/
def dot (a : Vec Ideal S1024x1024 .bf16) (b : Vec Ideal S1024x1024 .bf16) (y : S1024x1024.Idx) : EReal :=
  ∑ k : Fin 1024, a (ix2 (y 0) k) * b (ix2 k (y 1))

set_option backward.isDefEq.respectTransparency false in
/-- The block a point stores. -/
theorem pay_apply (a : Vec Ideal S1024x1024 .bf16) (b : Vec Ideal S1024x1024 .bf16) (y : S1024x1024.Idx) : k0_pay1 a b y = dot a b y := by
  unfold dot
  pointwise [k0_pay1]

/-- The result from the program's arguments. -/
def G (x0 : Vec Ideal S16384x1024 .bf16) (x1 : Vec Ideal S1024x1024 .bf16) : Vec Ideal S16384x1024 .f32 :=
  fun i => ∑ k : Fin 1024, x0 (ix2 (i 0) k) * x1 (ix2 k (i 1))

set_option backward.isDefEq.respectTransparency false in
/-- The result's array after the run. -/
theorem final (c : Dev nD) : (dats m 0 c).arrAt 2 cfg0.N = G (m ((c : Thread nD τ).loc main_arg0)) (m ((c : Thread nD τ).loc main_arg1)) := by
  refine Dat.arrAt_eq_of_covers (dats m 0 c) 2 (G (m ((c : Thread nD τ).loc main_arg0)) (m ((c : Thread nD τ).loc main_arg1))) (by decide +kernel) fun t hf y => ?_
  blk_simp
  rw [after0_2]
  frame_out
  refine (pay_apply _ _ _).trans ?_
  unfold G dot
  refine Finset.sum_congr rfl fun k _ => congrArg₂ (· * ·) ?_ ?_
  · blk_point [iblk, V, idx t]
  · blk_point [iblk, V, idx t]

/-- The reference's result is the kernel's. -/
theorem agree (x0 : Vec Ideal S16384x1024 .bf16) (x1 : Vec Ideal S1024x1024 .bf16) :
    Cert.Reference14Ideal.Read.val_main_v2 (F := Ideal) x0 x1 = G x0 x1 := by
  funext i
  unfold G
  pointwise [Cert.Reference14Ideal.Read.val_main_v2, Cert.Reference14Ideal.Read.val_main_v1, Cert.Reference14Ideal.Read.val_main_v0]

/-- The result agrees with the reference's, at all arguments. -/
theorem claim : Cert.algebraic_Kernel14Ideal_Reference14Ideal := by
  intro m ρ m' ρ' _ hagree
  refine ⟨fun c => G _ _,
    (θ_run defs _ _).mono (fun r h c => ⟨(h c).1.trans (final m c), (h c).2⟩)
      (Value.run_blocks (F := Ideal) m ρ), ?_⟩
  refine (θ_run Cert.Reference14Ideal.defs _ _).mono (fun _ h c => ⟨(h c).1.trans ?_, (h c).2⟩)
    (Cert.Reference14Ideal.Value.run (F := Ideal) m' ρ')
  rw [(hagree c).1, (hagree c).2]
  exact (Cert.Reference14Ideal.Read.val_main_v2_eq _ _).trans (agree _ _)

end Cert.Kernel14Ideal.OutProj

end
-- ==== Proof.Branch.lean ====
/- The mixers' own projections, weighed by their gates and added up: at every argument the kernel's rows are the
   reference's. -/
module

public import proofs.«01_k».proof.Proof.Gen.Kernel15Ideal.Value
public import proofs.«01_k».proof.Proof.Gen.Reference15Ideal.Read
public import proofs.«01_k».proof.Proof.Reals
public import proofs.«01_k».proof.Defs
public import Idealize.ShloMosaic.Lib.Pipeline.ValueKit
public import Idealize.ShloMosaic.Lib.Claim

@[expose] public section

set_option maxRecDepth 16384

noncomputable section

namespace Cert.Kernel15Ideal.Branch

open Cert.Kernel15Ideal Cert.Kernel15Ideal.Gen Cert.Reals Idealize.ShloMosaic Idealize.ShloMosaic.TcCoe
open Idealize.ShloMosaic.Pipeline (Dat)

variable (m : (ℓ : Loc nD τ sig) → Buf (Elt Ideal) ℓ)

/-- The blocks' positions at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] :=
  (by decide +kernel : ∀ t : Fin grid0.N, _)

/-- The gate of a logit. -/
def gate (x : EReal) : EReal := Ideal.div 1 (1 + Ideal.exp (0 - x))

/-- One entry of the merged row: the three projections' entries, weighed by their gates. -/
def merged (ya yb : Fin 256 → EReal) (yc : Fin 512 → EReal) (wa wb : Fin 256 → EReal) (wc : Fin 512 → EReal) (ga gb gc : EReal) : EReal :=
  gate ga * ∑ k, ya k * wa k + gate gb * ∑ k, yb k * wb k + gate gc * ∑ k, yc k * wc k

set_option backward.isDefEq.respectTransparency false in
/-- What a point stores, at an index. -/
theorem pay_apply (v0 : Vec Ideal S256x256 .bf16) (v1 : Vec Ideal S256x1024 .bf16) (v3 : Vec Ideal S256x256 .f32) (v5 : Vec Ideal S256x1024 .bf16)
    (v7 : Vec Ideal S256x512 .bf16) (v8 : Vec Ideal S512x1024 .bf16) (v10 v20 v31 : Vec Ideal S256x1024 .bf16) (y : S256x1024.Idx) :
    k0_pay1 (k0_pay2 v7 v8) (k0_pay3 v0 v1 v3 v5 v10 v20) v31 y =
      merged (fun k => v0 (ix2 (y 0) k)) (fun k => v3 (ix2 (y 0) k)) (fun k => v7 (ix2 (y 0) k)) (fun k => v1 (ix2 k (y 1)))
        (fun k => v5 (ix2 k (y 1))) (fun k => v8 (ix2 k (y 1))) (v10 y) (v20 y) (v31 y) := by
  unfold merged gate
  pointwise [k0_pay1, k0_pay2, k0_pay3]

/-- The result's entry at row `r` and column `j`, from arrays with any number of rows. -/
def entry {N M : Nat} (x0 : Vec Ideal (⟨2, ![N, 256]⟩ : Shape) .bf16) (x1 : Vec Ideal (⟨2, ![N, 256]⟩ : Shape) .f32)
    (x2 : Vec Ideal (⟨2, ![N, 512]⟩ : Shape) .bf16) (x3 : Vec Ideal (⟨2, ![N, M]⟩ : Shape) .bf16) (x4 : Vec Ideal S1024x1024 .bf16)
    (hM : 3072 ≤ M) (r : Fin N) (j : Fin 1024) : EReal :=
  merged (fun k => x0 (ix2 r k)) (fun k => x1 (ix2 r k)) (fun k => x2 (ix2 r k)) (fun k => x4 (ix2 ⟨k.val, by omega⟩ j))
    (fun k => x4 (ix2 ⟨256 + k.val, by omega⟩ j)) (fun k => x4 (ix2 ⟨512 + k.val, by omega⟩ j)) (x3 (ix2 r ⟨j.val, by omega⟩))
    (x3 (ix2 r ⟨1024 + j.val, by omega⟩)) (x3 (ix2 r ⟨2048 + j.val, by omega⟩))

/-- Two coordinates determine an index of a rectangle's read. -/
theorem ld_two {e : EltTy} {n0 n1 : Nat} (X : Vec Ideal (⟨2, ![n0, n1]⟩ : Shape) e) (o : Fin 2 → Nat) (sz : Fin 2 → Nat)
    (inb : ∀ a, o a + sz a ≤ (⟨2, ![n0, n1]⟩ : Shape).size a) (x : (Rect.unit (s := ⟨2, ![n0, n1]⟩) o sz inb).shape.Idx)
    (i : (⟨2, ![n0, n1]⟩ : Shape).Idx) (h0 : (i 0 : Nat) = o 0 + x 0) (h1 : (i 1 : Nat) = o 1 + x 1) :
    View.ld X (Rect.unit (s := ⟨2, ![n0, n1]⟩) o sz inb) x = X i :=
  View.ld_unit_apply_of X o sz inb x i (fun a => by
    match a with
    | ⟨0, _⟩ => exact h0
    | ⟨1, _⟩ => exact h1)

set_option backward.isDefEq.respectTransparency false in
/-- What a point stores, from its blocks. -/
theorem out_apply (x0 : Vec Ideal S256x256 .bf16) (x1 : Vec Ideal S256x256 .f32) (x2 : Vec Ideal S256x512 .bf16) (x3 : Vec Ideal S256x3072 .bf16)
    (x4 : Vec Ideal S1024x1024 .bf16) (y : S256x1024.Idx) :
    out0_5 (F := Ideal) x0 x1 x2 x3 x4 y = entry x0 x1 x2 x3 x4 (by omega) (y 0) (y 1) := by
  frame_out
  refine (pay_apply _ _ _ _ _ _ _ _ _ y).trans ?_
  unfold entry
  congr 1
  · exact funext fun k => ld_two x4 _ _ _ _ _ (by simp) (by simp)
  · exact funext fun k => ld_two x4 _ _ _ _ _ (by simp) (by simp)
  · exact funext fun k => ld_two x4 _ _ _ _ _ (by simp) (by simp)
  · exact ld_two x3 _ _ _ _ _ (by simp) (by simp)
  · exact ld_two x3 _ _ _ _ _ (by simp) (by simp)
  · exact ld_two x3 _ _ _ _ _ (by simp) (by simp)

/-- The result from the program's arguments. -/
def G (x0 : Vec Ideal S16384x256 .bf16) (x1 : Vec Ideal S16384x256 .f32) (x2 : Vec Ideal S16384x512 .bf16) (x3 : Vec Ideal S16384x6144 .bf16)
    (x4 : Vec Ideal S1024x1024 .bf16) : Vec Ideal S16384x1024 .bf16 :=
  fun i => entry x0 x1 x2 x3 x4 (by omega) (i 0) (i 1)

set_option backward.isDefEq.respectTransparency false in
/-- The result's array after the run. -/
theorem final (c : Dev nD) : (dats m 0 c).arrAt 5 cfg0.N = G (m ((c : Thread nD τ).loc main_arg0)) (m ((c : Thread nD τ).loc main_arg1)) (m ((c : Thread nD τ).loc main_arg2)) (m ((c : Thread nD τ).loc main_arg3)) (m ((c : Thread nD τ).loc main_arg4)) := by
  refine Dat.arrAt_eq_of_covers (dats m 0 c) 5 (G (m ((c : Thread nD τ).loc main_arg0)) (m ((c : Thread nD τ).loc main_arg1)) (m ((c : Thread nD τ).loc main_arg2)) (m ((c : Thread nD τ).loc main_arg3)) (m ((c : Thread nD τ).loc main_arg4)))
    (by decide +kernel) fun t hf y => ?_
  blk_simp
  rw [after0_5, out_apply]
  unfold G entry
  congr 1
  · funext k; blk_point [iblk, V, idx t]
  · funext k; blk_point [iblk, V, idx t]
  · funext k; blk_point [iblk, V, idx t]
  · funext k; blk_point [iblk, V, idx t]
  · funext k; blk_point [iblk, V, idx t]
  · funext k; blk_point [iblk, V, idx t]
  · blk_point [iblk, V, idx t]
  · blk_point [iblk, V, idx t]
  · blk_point [iblk, V, idx t]

open Cert.Reference15Ideal.Read in
set_option backward.isDefEq.respectTransparency false in
/-- The reference's result is the kernel's. -/
theorem agree (x0 : Vec Ideal S16384x256 .bf16) (x1 : Vec Ideal S16384x256 .f32) (x2 : Vec Ideal S16384x512 .bf16) (x3 : Vec Ideal S16384x6144 .bf16)
    (x4 : Vec Ideal S1024x1024 .bf16) : val_main_v45 (F := Ideal) x0 x1 x2 x3 x4 = G x0 x1 x2 x3 x4 := by
  funext i
  unfold G entry merged gate
  simp only [zero_sub]
  pointwise [val_main_v45, val_main_v44, val_main_v43, val_main_v42, val_main_v41, val_main_cst_4, val_main_v40, val_main_v39, val_main_cst_3, val_main_v38, val_main_v37, val_main_v36, val_main_v35, val_main_v34, val_main_v33, val_main_cst_2, val_main_v32, val_main_v31, val_main_cst_1, val_main_v30, val_main_v29, val_main_v28, val_main_v27, val_main_v26, val_main_cst_0, val_main_v25, val_main_v24, val_main_cst, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]

/-- The result agrees with the reference's, at all arguments. -/
theorem claim : Cert.algebraic_Kernel15Ideal_Reference15Ideal := by
  intro m ρ m' ρ' _ hagree
  refine ⟨fun c => G _ _ _ _ _,
    (θ_run defs _ _).mono (fun r h c => ⟨(h c).1.trans (final m c), (h c).2⟩)
      (Value.run_blocks (F := Ideal) m ρ), ?_⟩
  refine (θ_run Cert.Reference15Ideal.defs _ _).mono (fun _ h c => ⟨(h c).1.trans ?_, (h c).2⟩)
    (Cert.Reference15Ideal.Value.run (F := Ideal) m' ρ')
  rw [(hagree c).1, (hagree c).2.1, (hagree c).2.2.1, (hagree c).2.2.2.1, (hagree c).2.2.2.2]
  exact (Cert.Reference15Ideal.Read.val_main_v45_eq _ _ _ _ _).trans (agree _ _ _ _ _)

end Cert.Kernel15Ideal.Branch

end
-- ==== Proof.BranchBwd.lean ====
/- The gradients of the mixers' own projections, weighed by their gates and added up: at every argument the kernel's five
   results are the reference's. -/
module

public import proofs.«01_k».proof.Proof.Gen.Kernel16Ideal.Frame
public import proofs.«01_k».proof.Proof.Gen.Reference16Ideal.Read
public import proofs.«01_k».proof.Proof.Reals
public import proofs.«01_k».proof.Defs
public import Idealize.ShloMosaic.Lib.Pipeline.ReadBack
public import Idealize.ShloMosaic.Lib.Pipeline.ValueKit
public import Idealize.ShloMosaic.Lib.UnfoldOut
public import Idealize.ShloMosaic.Lib.Claim

@[expose] public section

set_option maxRecDepth 16384

noncomputable section

namespace Cert.Kernel16Ideal.BranchBwd

open Cert.Kernel16Ideal Cert.Kernel16Ideal.Gen Cert.Reals Idealize.ShloMosaic Idealize.ShloMosaic.TcCoe
open Idealize.ShloMosaic.Pipeline (Dat)

/-- The blocks' positions at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![t.val, 0] ∧ win0_9.index t = ![t.val, 0] ∧ win0_10.index t = ![0, 0] :=
  (by decide +kernel : ∀ t : Fin grid0.N, _)

/-- The gate of a logit. -/
def gate (x : EReal) : EReal := Ideal.div 1 (1 + Ideal.exp (0 - x))

/-- A logit's gradient from the gradient `d` of the sum, the projection's entry `p` and the logit `g`. -/
def dlogit (d p g : EReal) : EReal := d * p * gate g * (1 - gate g)

/-- A projection's gradient from the gradient `d` of the sum and the gate's logit `g`. -/
def dproj (d g : EReal) : EReal := d * gate g

/-- Two coordinates determine an array's entry. -/
theorem at_two {n0 n1 : Nat} {e : EltTy} (X : Vec Ideal (⟨2, ![n0, n1]⟩ : Shape) e) (i j : (⟨2, ![n0, n1]⟩ : Shape).Idx)
    (h0 : (i 0 : Nat) = j 0) (h1 : (i 1 : Nat) = j 1) : X i = X j :=
  congrArg X (funext fun a => Fin.ext (match a with
    | ⟨0, _⟩ => h0
    | ⟨1, _⟩ => h1))

/-- Two coordinates determine an index of a rectangle's read. -/
theorem ld_two {e : EltTy} {n0 n1 : Nat} (X : Vec Ideal (⟨2, ![n0, n1]⟩ : Shape) e) (o : Fin 2 → Nat) (sz : Fin 2 → Nat)
    (inb : ∀ a, o a + sz a ≤ (⟨2, ![n0, n1]⟩ : Shape).size a) (x : (Rect.unit (s := ⟨2, ![n0, n1]⟩) o sz inb).shape.Idx)
    (i : (⟨2, ![n0, n1]⟩ : Shape).Idx) (h0 : (i 0 : Nat) = o 0 + x 0) (h1 : (i 1 : Nat) = o 1 + x 1) :
    View.ld X (Rect.unit (s := ⟨2, ![n0, n1]⟩) o sz inb) x = X i :=
  View.ld_unit_apply_of X o sz inb x i (fun a => by
    match a with
    | ⟨0, _⟩ => exact h0
    | ⟨1, _⟩ => exact h1)

/-! ## What a point computes, at an index -/

set_option backward.isDefEq.respectTransparency false in
/-- The first gate's logits' gradients a point stores, at an index. -/
theorem pay9_apply (d : Vec Ideal S256x1024 .f32) (a : Vec Ideal S256x256 .bf16) (w g : Vec Ideal S256x1024 .bf16) (i : S256x1024.Idx) :
    k0_pay9 (F := Ideal) d a w g i = dlogit (d i) (∑ k : Fin 256, a (ix2 (i 0) k) * w (ix2 k (i 1))) (g i) := by
  unfold dlogit gate
  pointwise [k0_pay9, k0_pay8]

set_option backward.isDefEq.respectTransparency false in
/-- The second gate's logits' gradients a point stores, at an index. -/
theorem pay14_apply (d : Vec Ideal S256x1024 .f32) (a : Vec Ideal S256x256 .f32) (w g : Vec Ideal S256x1024 .bf16) (i : S256x1024.Idx) :
    k0_pay14 (F := Ideal) d (k0_pay7 a) w g i = dlogit (d i) (∑ k : Fin 256, a (ix2 (i 0) k) * w (ix2 k (i 1))) (g i) := by
  unfold dlogit gate
  pointwise [k0_pay14, k0_pay13, k0_pay7]

set_option backward.isDefEq.respectTransparency false in
/-- The third gate's logits' gradients a point stores, at an index. -/
theorem pay2_apply (d : Vec Ideal S256x1024 .f32) (a : Vec Ideal S256x512 .bf16) (w : Vec Ideal S512x1024 .bf16) (g : Vec Ideal S256x1024 .bf16)
    (i : S256x1024.Idx) :
    k0_pay2 (F := Ideal) d a w g i = dlogit (d i) (∑ k : Fin 512, a (ix2 (i 0) k) * w (ix2 k (i 1))) (g i) := by
  unfold dlogit gate
  pointwise [k0_pay2, k0_pay1]

set_option backward.isDefEq.respectTransparency false in
/-- The first mixer's gradients a point stores, at an index. -/
theorem pay11_apply (d : Vec Ideal S256x1024 .f32) (g w : Vec Ideal S256x1024 .bf16) (i : S256x256.Idx) :
    k0_pay11 (F := Ideal) d g w i = ∑ j : Fin 1024, dproj (d (ix2 (i 0) j)) (g (ix2 (i 0) j)) * w (ix2 (i 1) j) := by
  unfold dproj gate
  pointwise [k0_pay11, k0_pay10, k0_pay8]

set_option backward.isDefEq.respectTransparency false in
/-- The second mixer's gradients a point stores, at an index. -/
theorem pay16_apply (d : Vec Ideal S256x1024 .f32) (g w : Vec Ideal S256x1024 .bf16) (i : S256x256.Idx) :
    k0_pay16 (F := Ideal) d g w i = ∑ j : Fin 1024, dproj (d (ix2 (i 0) j)) (g (ix2 (i 0) j)) * w (ix2 (i 1) j) := by
  unfold dproj gate
  pointwise [k0_pay16, k0_pay15, k0_pay13]

set_option backward.isDefEq.respectTransparency false in
/-- The third mixer's gradients a point stores, at an index. -/
theorem pay4_apply (d : Vec Ideal S256x1024 .f32) (g : Vec Ideal S256x1024 .bf16) (w : Vec Ideal S512x1024 .bf16) (i : S256x512.Idx) :
    k0_pay4 (F := Ideal) d g w i = ∑ j : Fin 1024, dproj (d (ix2 (i 0) j)) (g (ix2 (i 0) j)) * w (ix2 (i 1) j) := by
  unfold dproj gate
  pointwise [k0_pay4, k0_pay3, k0_pay1]

set_option backward.isDefEq.respectTransparency false in
/-- The first mixer's weights' gradient after a point's addition, at an index. -/
theorem pay12_apply (d : Vec Ideal S256x1024 .f32) (a : Vec Ideal S256x256 .bf16) (g : Vec Ideal S256x1024 .bf16) (P : Vec Ideal S256x1024 .f32)
    (i : S256x1024.Idx) :
    k0_pay12 (F := Ideal) a (k0_pay10 d g) P i = P i + ∑ r : Fin 256, a (ix2 r (i 0)) * dproj (d (ix2 r (i 1))) (g (ix2 r (i 1))) := by
  unfold dproj gate
  pointwise [k0_pay12, k0_pay10, k0_pay8]

set_option backward.isDefEq.respectTransparency false in
/-- The second mixer's weights' gradient after a point's addition, at an index. -/
theorem pay17_apply (d : Vec Ideal S256x1024 .f32) (a : Vec Ideal S256x256 .f32) (g : Vec Ideal S256x1024 .bf16) (P : Vec Ideal S256x1024 .f32)
    (i : S256x1024.Idx) :
    k0_pay17 (F := Ideal) d (k0_pay7 a) g P i = P i + ∑ r : Fin 256, a (ix2 r (i 0)) * dproj (d (ix2 r (i 1))) (g (ix2 r (i 1))) := by
  unfold dproj gate
  pointwise [k0_pay17, k0_pay15, k0_pay13, k0_pay7]

set_option backward.isDefEq.respectTransparency false in
/-- The third mixer's weights' gradient after a point's addition, at an index. -/
theorem pay5_apply (d : Vec Ideal S256x1024 .f32) (a : Vec Ideal S256x512 .bf16) (g : Vec Ideal S256x1024 .bf16) (P : Vec Ideal S512x1024 .f32)
    (i : S512x1024.Idx) :
    k0_pay5 (F := Ideal) d a g P i = P i + ∑ r : Fin 256, a (ix2 r (i 0)) * dproj (d (ix2 r (i 1))) (g (ix2 r (i 1))) := by
  unfold dproj gate
  pointwise [k0_pay5, k0_pay3, k0_pay1]

/-! ## The results from arrays with any number of rows -/

section Rows

variable {N M : Nat} (x0 : Vec Ideal (⟨2, ![N, 1024]⟩ : Shape) .f32) (x1 : Vec Ideal (⟨2, ![N, 256]⟩ : Shape) .bf16)
  (x2 : Vec Ideal (⟨2, ![N, 256]⟩ : Shape) .f32) (x3 : Vec Ideal (⟨2, ![N, 512]⟩ : Shape) .bf16)
  (x4 : Vec Ideal (⟨2, ![N, M]⟩ : Shape) .bf16) (x5 : Vec Ideal S1024x1024 .bf16) (hM : 3072 ≤ M)

/-- The logits' gradients at row `r` and column `j`. -/
def dgl (r : Fin N) (j : Fin 3072) : EReal :=
  if h : j.val < 1024 then
    dlogit (x0 (ix2 r ⟨j.val, h⟩)) (∑ k : Fin 256, x1 (ix2 r k) * x5 (ix2 ⟨k.val, by omega⟩ ⟨j.val, h⟩)) (x4 (ix2 r ⟨j.val, by omega⟩))
  else if h' : j.val < 2048 then
    dlogit (x0 (ix2 r ⟨j.val - 1024, by omega⟩)) (∑ k : Fin 256, x2 (ix2 r k) * x5 (ix2 ⟨256 + k.val, by omega⟩ ⟨j.val - 1024, by omega⟩))
      (x4 (ix2 r ⟨j.val, by omega⟩))
  else
    dlogit (x0 (ix2 r ⟨j.val - 2048, by omega⟩)) (∑ k : Fin 512, x3 (ix2 r k) * x5 (ix2 ⟨512 + k.val, by omega⟩ ⟨j.val - 2048, by omega⟩))
      (x4 (ix2 r ⟨j.val, by omega⟩))

/-- The gradient of the first mixer's result. -/
def dya (r : Fin N) (k : Fin 256) : EReal :=
  ∑ j : Fin 1024, dproj (x0 (ix2 r j)) (x4 (ix2 r ⟨j.val, by omega⟩)) * x5 (ix2 ⟨k.val, by omega⟩ j)

/-- The gradient of the second mixer's result. -/
def dyb (r : Fin N) (k : Fin 256) : EReal :=
  ∑ j : Fin 1024, dproj (x0 (ix2 r j)) (x4 (ix2 r ⟨1024 + j.val, by omega⟩)) * x5 (ix2 ⟨256 + k.val, by omega⟩ j)

/-- The gradient of the third mixer's result. -/
def dyc (r : Fin N) (k : Fin 512) : EReal :=
  ∑ j : Fin 1024, dproj (x0 (ix2 r j)) (x4 (ix2 r ⟨2048 + j.val, by omega⟩)) * x5 (ix2 ⟨512 + k.val, by omega⟩ j)

/-- A row's part of the weights' gradient at `(k, j)`. -/
def dwRow (r : Fin N) (k j : Fin 1024) : EReal :=
  if h : k.val < 256 then x1 (ix2 r ⟨k.val, h⟩) * dproj (x0 (ix2 r j)) (x4 (ix2 r ⟨j.val, by omega⟩))
  else if h' : k.val < 512 then x2 (ix2 r ⟨k.val - 256, by omega⟩) * dproj (x0 (ix2 r j)) (x4 (ix2 r ⟨1024 + j.val, by omega⟩))
  else x3 (ix2 r ⟨k.val - 512, by omega⟩) * dproj (x0 (ix2 r j)) (x4 (ix2 r ⟨2048 + j.val, by omega⟩))

end Rows

section Congr

variable {N M N' M' : Nat} {x0 : Vec Ideal (⟨2, ![N, 1024]⟩ : Shape) .f32} {x1 : Vec Ideal (⟨2, ![N, 256]⟩ : Shape) .bf16}
  {x2 : Vec Ideal (⟨2, ![N, 256]⟩ : Shape) .f32} {x3 : Vec Ideal (⟨2, ![N, 512]⟩ : Shape) .bf16}
  {x4 : Vec Ideal (⟨2, ![N, M]⟩ : Shape) .bf16} {x5 : Vec Ideal S1024x1024 .bf16} {hM : 3072 ≤ M}
  {z0 : Vec Ideal (⟨2, ![N', 1024]⟩ : Shape) .f32} {z1 : Vec Ideal (⟨2, ![N', 256]⟩ : Shape) .bf16}
  {z2 : Vec Ideal (⟨2, ![N', 256]⟩ : Shape) .f32} {z3 : Vec Ideal (⟨2, ![N', 512]⟩ : Shape) .bf16}
  {z4 : Vec Ideal (⟨2, ![N', M']⟩ : Shape) .bf16} {z5 : Vec Ideal S1024x1024 .bf16} {hM' : 3072 ≤ M'} {r : Fin N} {r' : Fin N'}

/-- Equal rows give equal gradients of the logits. -/
theorem dgl_congr (h0 : ∀ j, x0 (ix2 r j) = z0 (ix2 r' j)) (h1 : ∀ j, x1 (ix2 r j) = z1 (ix2 r' j)) (h2 : ∀ j, x2 (ix2 r j) = z2 (ix2 r' j))
    (h3 : ∀ j, x3 (ix2 r j) = z3 (ix2 r' j)) (h4 : ∀ j (h : j < 3072), x4 (ix2 r ⟨j, by omega⟩) = z4 (ix2 r' ⟨j, by omega⟩)) (h5 : ∀ k j, x5 (ix2 k j) = z5 (ix2 k j)) (j : Fin 3072) :
    dgl x0 x1 x2 x3 x4 x5 hM r j = dgl z0 z1 z2 z3 z4 z5 hM' r' j := by
  unfold dgl
  simp only [h0, h1, h2, h3, h4 _ j.isLt, h5]

/-- Equal rows give equal gradients of the first mixer's result. -/
theorem dya_congr (h0 : ∀ j, x0 (ix2 r j) = z0 (ix2 r' j)) (h4 : ∀ j (h : j < 3072), x4 (ix2 r ⟨j, by omega⟩) = z4 (ix2 r' ⟨j, by omega⟩))
    (h5 : ∀ k j, x5 (ix2 k j) = z5 (ix2 k j)) (k : Fin 256) : dya x0 x4 x5 hM r k = dya z0 z4 z5 hM' r' k := by
  unfold dya
  exact Finset.sum_congr rfl fun j _ => by rw [h0, h5, h4 _ (by omega)]

/-- Equal rows give equal gradients of the second mixer's result. -/
theorem dyb_congr (h0 : ∀ j, x0 (ix2 r j) = z0 (ix2 r' j)) (h4 : ∀ j (h : j < 3072), x4 (ix2 r ⟨j, by omega⟩) = z4 (ix2 r' ⟨j, by omega⟩))
    (h5 : ∀ k j, x5 (ix2 k j) = z5 (ix2 k j)) (k : Fin 256) : dyb x0 x4 x5 hM r k = dyb z0 z4 z5 hM' r' k := by
  unfold dyb
  exact Finset.sum_congr rfl fun j _ => by rw [h0, h5, h4 _ (by omega)]

/-- Equal rows give equal gradients of the third mixer's result. -/
theorem dyc_congr (h0 : ∀ j, x0 (ix2 r j) = z0 (ix2 r' j)) (h4 : ∀ j (h : j < 3072), x4 (ix2 r ⟨j, by omega⟩) = z4 (ix2 r' ⟨j, by omega⟩))
    (h5 : ∀ k j, x5 (ix2 k j) = z5 (ix2 k j)) (k : Fin 512) : dyc x0 x4 x5 hM r k = dyc z0 z4 z5 hM' r' k := by
  unfold dyc
  exact Finset.sum_congr rfl fun j _ => by rw [h0, h5, h4 _ (by omega)]

/-- Equal rows give equal parts of the weights' gradient. -/
theorem dwRow_congr (h0 : ∀ j, x0 (ix2 r j) = z0 (ix2 r' j)) (h1 : ∀ j, x1 (ix2 r j) = z1 (ix2 r' j)) (h2 : ∀ j, x2 (ix2 r j) = z2 (ix2 r' j))
    (h3 : ∀ j, x3 (ix2 r j) = z3 (ix2 r' j)) (h4 : ∀ j (h : j < 3072), x4 (ix2 r ⟨j, by omega⟩) = z4 (ix2 r' ⟨j, by omega⟩)) (k j : Fin 1024) :
    dwRow x0 x1 x2 x3 x4 hM r k j = dwRow z0 z1 z2 z3 z4 hM' r' k j := by
  unfold dwRow
  rw [h0, h4 j.val (by omega), h4 (1024 + j.val) (by omega), h4 (2048 + j.val) (by omega)]
  simp only [h1, h2, h3]

end Congr

/-! ## A point's results from its blocks -/

section Point

variable (x0 : Vec Ideal S256x1024 .f32) (x1 : Vec Ideal S256x256 .bf16) (x2 : Vec Ideal S256x256 .f32) (x3 : Vec Ideal S256x512 .bf16)
  (x4 : Vec Ideal S256x3072 .bf16) (x5 : Vec Ideal S1024x1024 .bf16)

set_option backward.isDefEq.respectTransparency false in
/-- The three stores of the logits' gradients. -/
theorem canon6 (y : S256x3072.Idx) :
    View.canon
      ([⟨Rect.unit (s := S256x3072) ![0, 2048] ![256, 1024] inb_S256x3072_S256x1024_0_2048,
          k0_pay2 (F := Ideal) x0 x3
            (View.ld x5 (Rect.unit (s := S1024x1024) ![512, 0] ![512, 1024] inb_S1024x1024_S512x1024_512_0))
            (View.ld x4 (Rect.unit (s := S256x3072) ![0, 2048] ![256, 1024] inb_S256x3072_S256x1024_0_2048))⟩,
        ⟨Rect.unit (s := S256x3072) ![0, 1024] ![256, 1024] inb_S256x3072_S256x1024_0_1024,
          k0_pay14 (F := Ideal) x0 (k0_pay7 x2)
            (View.ld x5 (Rect.unit (s := S1024x1024) ![256, 0] ![256, 1024] inb_S1024x1024_S256x1024_256_0))
            (View.ld x4 (Rect.unit (s := S256x3072) ![0, 1024] ![256, 1024] inb_S256x3072_S256x1024_0_1024))⟩,
        ⟨Rect.unit (s := S256x3072) ![0, 0] ![256, 1024] inb_S256x3072_S256x1024_0_0,
          k0_pay9 (F := Ideal) x0 x1
            (View.ld x5 (Rect.unit (s := S1024x1024) ![0, 0] ![256, 1024] inb_S1024x1024_S256x1024_0_0))
            (View.ld x4 (Rect.unit (s := S256x3072) ![0, 0] ![256, 1024] inb_S256x3072_S256x1024_0_0))⟩] : List (View.Piece (Elt Ideal) S256x3072 .bf16))
      y = dgl x0 x1 x2 x3 x4 x5 (by omega) (y 0) (y 1) := by
  canon_tiles y h
  · refine (pay2_apply _ _ _ _ _).trans ?_
    unfold dgl
    rw [dif_neg (by omega), dif_neg (by omega)]
    refine congr (congr (congrArg dlogit ?_) (Finset.sum_congr rfl fun k _ => congrArg₂ (· * ·) ?_ ?_)) ?_
    · exact at_two x0 _ _ (by simpa using h0.symm) (by simp; omega)
    · exact at_two x3 _ _ (by simpa using h0.symm) (by simp)
    · exact ld_two x5 _ _ _ _ _ (by simp) (by simp; omega)
    · exact ld_two x4 _ _ _ _ _ (by simpa using h0) (by simp; omega)
  · refine (pay14_apply _ _ _ _ _).trans ?_
    unfold dgl
    rw [dif_neg (by omega), dif_pos (by omega)]
    refine congr (congr (congrArg dlogit ?_) (Finset.sum_congr rfl fun k _ => congrArg₂ (· * ·) ?_ ?_)) ?_
    · exact at_two x0 _ _ (by simpa using h0.symm) (by simp; omega)
    · exact at_two x2 _ _ (by simpa using h0.symm) (by simp)
    · exact ld_two x5 _ _ _ _ _ (by simp) (by simp; omega)
    · exact ld_two x4 _ _ _ _ _ (by simpa using h0) (by simp; omega)
  · refine (pay9_apply _ _ _ _ _).trans ?_
    unfold dgl
    rw [dif_pos (by omega)]
    refine congr (congr (congrArg dlogit ?_) (Finset.sum_congr rfl fun k _ => congrArg₂ (· * ·) ?_ ?_)) ?_
    · exact at_two x0 _ _ (by simpa using h0.symm) (by simp; omega)
    · exact at_two x1 _ _ (by simpa using h0.symm) (by simp)
    · exact ld_two x5 _ _ _ _ _ (by simp) (by simp; omega)
    · exact ld_two x4 _ _ _ _ _ (by simpa using h0) (by simp; omega)

set_option backward.isDefEq.respectTransparency false in
/-- The three stores of the weights' gradient, over any earlier ones: what the buffer held before, `P`, and the point's part. -/
theorem canon10 (P : Vec Ideal S1024x1024 .f32) (L : List (View.Piece (Elt Ideal) S1024x1024 .f32)) (y : S1024x1024.Idx) :
    View.canon
      ([⟨Rect.unit (s := S1024x1024) ![512, 0] ![512, 1024] inb_S1024x1024_S512x1024_512_0,
          k0_pay5 (F := Ideal) x0 x3
            (View.ld x4 (Rect.unit (s := S256x3072) ![0, 2048] ![256, 1024] inb_S256x3072_S256x1024_0_2048))
            (View.ld P (Rect.unit (s := S1024x1024) ![512, 0] ![512, 1024] inb_S1024x1024_S512x1024_512_0))⟩,
        ⟨Rect.unit (s := S1024x1024) ![256, 0] ![256, 1024] inb_S1024x1024_S256x1024_256_0,
          k0_pay17 (F := Ideal) x0 (k0_pay7 x2)
            (View.ld x4 (Rect.unit (s := S256x3072) ![0, 1024] ![256, 1024] inb_S256x3072_S256x1024_0_1024))
            (View.ld P (Rect.unit (s := S1024x1024) ![256, 0] ![256, 1024] inb_S1024x1024_S256x1024_256_0))⟩,
        ⟨Rect.unit (s := S1024x1024) ![0, 0] ![256, 1024] inb_S1024x1024_S256x1024_0_0,
          k0_pay12 (F := Ideal) x1
            (k0_pay10 x0
              (View.ld x4 (Rect.unit (s := S256x3072) ![0, 0] ![256, 1024] inb_S256x3072_S256x1024_0_0)))
            (View.ld P (Rect.unit (s := S1024x1024) ![0, 0] ![256, 1024] inb_S1024x1024_S256x1024_0_0))⟩] ++ L : List (View.Piece (Elt Ideal) S1024x1024 .f32))
      y = P y + ∑ r : Fin 256, dwRow x0 x1 x2 x3 x4 (by omega) r (y 0) (y 1) := by
  refine View.canon_append_of_piecesOf (fun y => P y + ∑ r : Fin 256, dwRow x0 x1 x2 x3 x4 (by omega) r (y 0) (y 1)) L _ ?_ y
    (View.cover_of_tiledBy _ ![256, 1024] (by sl_kernel_rfl) y)
  refine ⟨fun i => ?_, fun i => ?_, fun i => ?_, trivial⟩
  · have h0 : (i 0 : Nat) < 512 := (i 0).isLt
    refine (pay5_apply _ _ _ _ _).trans (congrArg₂ (· + ·) ?_ (Finset.sum_congr rfl fun r _ => ?_))
    · exact ld_two P _ _ _ _ _ (by simp [Rect.emb_apply]) (by simp [Rect.emb_apply])
    · unfold dwRow
      rw [dif_neg (by simp [Rect.emb_apply]; omega), dif_neg (by simp [Rect.emb_apply])]
      refine congrArg₂ (· * ·) ?_ (congrArg₂ dproj ?_ ?_)
      · exact at_two x3 _ _ (by simp) (by simp [Rect.emb_apply])
      · exact at_two x0 _ _ (by simp) (by simp [Rect.emb_apply])
      · exact ld_two x4 _ _ _ _ _ (by simp) (by simp [Rect.emb_apply])
  · have h0 : (i 0 : Nat) < 256 := (i 0).isLt
    refine (pay17_apply _ _ _ _ _).trans (congrArg₂ (· + ·) ?_ (Finset.sum_congr rfl fun r _ => ?_))
    · exact ld_two P _ _ _ _ _ (by simp [Rect.emb_apply]) (by simp [Rect.emb_apply])
    · unfold dwRow
      rw [dif_neg (by simp [Rect.emb_apply]), dif_pos (by simp [Rect.emb_apply]; omega)]
      refine congrArg₂ (· * ·) ?_ (congrArg₂ dproj ?_ ?_)
      · exact at_two x2 _ _ (by simp) (by simp [Rect.emb_apply])
      · exact at_two x0 _ _ (by simp) (by simp [Rect.emb_apply])
      · exact ld_two x4 _ _ _ _ _ (by simp) (by simp [Rect.emb_apply])
  · have h0 : (i 0 : Nat) < 256 := (i 0).isLt
    refine (pay12_apply _ _ _ _ _).trans (congrArg₂ (· + ·) ?_ (Finset.sum_congr rfl fun r _ => ?_))
    · exact ld_two P _ _ _ _ _ (by simp [Rect.emb_apply]) (by simp [Rect.emb_apply])
    · unfold dwRow
      rw [dif_pos (by simp [Rect.emb_apply])]
      refine congrArg₂ (· * ·) ?_ (congrArg₂ dproj ?_ ?_)
      · exact at_two x1 _ _ (by simp) (by simp [Rect.emb_apply])
      · exact at_two x0 _ _ (by simp) (by simp [Rect.emb_apply])
      · exact ld_two x4 _ _ _ _ _ (by simp) (by simp [Rect.emb_apply])

set_option backward.isDefEq.respectTransparency false in
/-- A point's gradients of the first mixer's result, from its blocks. -/
theorem block7 (i : S256x256.Idx) :
    k0_pay11 (F := Ideal) x0 (View.ld x4 (Rect.unit (s := S256x3072) ![0, 0] ![256, 1024] inb_S256x3072_S256x1024_0_0))
      (View.ld x5 (Rect.unit (s := S1024x1024) ![0, 0] ![256, 1024] inb_S1024x1024_S256x1024_0_0)) i
    = dya x0 x4 x5 (by omega) (i 0) (i 1) := by
  refine (pay11_apply _ _ _ _).trans (Finset.sum_congr rfl fun j _ => congrArg₂ (· * ·) (congrArg (dproj _) ?_) ?_)
  · exact ld_two x4 _ _ _ _ _ (by simp) (by simp)
  · exact ld_two x5 _ _ _ _ _ (by simp) (by simp)

set_option backward.isDefEq.respectTransparency false in
/-- A point's gradients of the second mixer's result, from its blocks. -/
theorem block8 (i : S256x256.Idx) :
    k0_pay16 (F := Ideal) x0 (View.ld x4 (Rect.unit (s := S256x3072) ![0, 1024] ![256, 1024] inb_S256x3072_S256x1024_0_1024))
      (View.ld x5 (Rect.unit (s := S1024x1024) ![256, 0] ![256, 1024] inb_S1024x1024_S256x1024_256_0)) i
    = dyb x0 x4 x5 (by omega) (i 0) (i 1) := by
  refine (pay16_apply _ _ _ _).trans (Finset.sum_congr rfl fun j _ => congrArg₂ (· * ·) (congrArg (dproj _) ?_) ?_)
  · exact ld_two x4 _ _ _ _ _ (by simp) (by simp)
  · exact ld_two x5 _ _ _ _ _ (by simp) (by simp)

set_option backward.isDefEq.respectTransparency false in
/-- A point's gradients of the third mixer's result, from its blocks. -/
theorem block9 (i : S256x512.Idx) :
    k0_pay4 (F := Ideal) x0 (View.ld x4 (Rect.unit (s := S256x3072) ![0, 2048] ![256, 1024] inb_S256x3072_S256x1024_0_2048))
      (View.ld x5 (Rect.unit (s := S1024x1024) ![512, 0] ![512, 1024] inb_S1024x1024_S512x1024_512_0)) i
    = dyc x0 x4 x5 (by omega) (i 0) (i 1) := by
  refine (pay4_apply _ _ _ _).trans (Finset.sum_congr rfl fun j _ => congrArg₂ (· * ·) (congrArg (dproj _) ?_) ?_)
  · exact ld_two x4 _ _ _ _ _ (by simp) (by simp)
  · exact ld_two x5 _ _ _ _ _ (by simp) (by simp)

end Point

/-! ## The arrays after the run -/

section Run

variable (m : (ℓ : Loc nD τ sig) → Buf (Elt Ideal) ℓ)

set_option backward.isDefEq.respectTransparency false in
/-- The logits' gradients a point stores. -/
theorem out6 (c : Dev nD) (t : Fin cfg0.N) (y : S256x3072.Idx) :
    (outsAt0 m c t.val t.isLt).1 y = dgl (iblk m c 0 t) (iblk m c 1 t) (iblk m c 2 t) (iblk m c 3 t) (iblk m c 4 t) (iblk m c 5 t) (by omega) (y 0) (y 1) := by
  by_cases h0 : t.val % 64 = 0
  · rw [outsAt0_A m c t h0]
    dsimp only
    frame_out
    exact canon6 _ _ _ _ _ _ y
  · rw [outsAt0_B m c t h0]
    dsimp only
    frame_out
    exact canon6 _ _ _ _ _ _ y

set_option backward.isDefEq.respectTransparency false in
/-- The first mixer's gradients a point stores. -/
theorem out7 (c : Dev nD) (t : Fin cfg0.N) (y : S256x256.Idx) :
    (outsAt0 m c t.val t.isLt).2.1 y = dya (iblk m c 0 t) (iblk m c 4 t) (iblk m c 5 t) (by omega) (y 0) (y 1) := by
  by_cases h0 : t.val % 64 = 0
  · rw [outsAt0_A m c t h0]
    dsimp only
    frame_out
    exact block7 _ _ _ y
  · rw [outsAt0_B m c t h0]
    dsimp only
    frame_out
    exact block7 _ _ _ y

set_option backward.isDefEq.respectTransparency false in
/-- The second mixer's gradients a point stores. -/
theorem out8 (c : Dev nD) (t : Fin cfg0.N) (y : S256x256.Idx) :
    (outsAt0 m c t.val t.isLt).2.2.1 y = dyb (iblk m c 0 t) (iblk m c 4 t) (iblk m c 5 t) (by omega) (y 0) (y 1) := by
  by_cases h0 : t.val % 64 = 0
  · rw [outsAt0_A m c t h0]
    dsimp only
    frame_out
    exact block8 _ _ _ y
  · rw [outsAt0_B m c t h0]
    dsimp only
    frame_out
    exact block8 _ _ _ y

set_option backward.isDefEq.respectTransparency false in
/-- The third mixer's gradients a point stores. -/
theorem out9 (c : Dev nD) (t : Fin cfg0.N) (y : S256x512.Idx) :
    (outsAt0 m c t.val t.isLt).2.2.2.1 y = dyc (iblk m c 0 t) (iblk m c 4 t) (iblk m c 5 t) (by omega) (y 0) (y 1) := by
  by_cases h0 : t.val % 64 = 0
  · rw [outsAt0_A m c t h0]
    dsimp only
    frame_out
    exact block9 _ _ _ y
  · rw [outsAt0_B m c t h0]
    dsimp only
    frame_out
    exact block9 _ _ _ y

/-- The part of the weights' gradient a point adds. -/
def term (c : Dev nD) (t : Fin cfg0.N) (y : S1024x1024.Idx) : EReal :=
  ∑ r : Fin 256, dwRow (iblk m c 0 t) (iblk m c 1 t) (iblk m c 2 t) (iblk m c 3 t) (iblk m c 4 t) (by omega) r (y 0) (y 1)

set_option backward.isDefEq.respectTransparency false in
/-- The weights' gradient after the first point. -/
theorem first (c : Dev nD) (t : Fin cfg0.N) (h : t.val % 64 = 0) (y : S1024x1024.Idx) :
    (outsAt0 m c t.val t.isLt).2.2.2.2 y = 0 + term m c t y := by
  rw [outsAt0_A m c t h]
  dsimp only
  frame_out
  simp (disch := decide) only [View.readCov_skip, View.readCov_fill]
  refine (canon10 _ _ _ _ _ _ _ y).trans ?_
  refine congrArg₂ (· + ·) ?_ rfl
  pointwise [k0_pay6]

set_option backward.isDefEq.respectTransparency false in
/-- The weights' gradient after a later point. -/
theorem step (c : Dev nD) (t : Fin cfg0.N) (h : ¬t.val % 64 = 0) (y : S1024x1024.Idx) :
    (outsAt0 m c t.val t.isLt).2.2.2.2 y = (outsAt0 m c (t.val - 1) (by omega)).2.2.2.2 y + term m c t y := by
  rw [outsAt0_B m c t h]
  dsimp only
  frame_out
  exact canon10 _ _ _ _ _ _ [] y

/-- The logits' gradients from the program's arguments. -/
def G6 (x0 : Vec Ideal S16384x1024 .f32) (x1 : Vec Ideal S16384x256 .bf16) (x2 : Vec Ideal S16384x256 .f32) (x3 : Vec Ideal S16384x512 .bf16)
    (x4 : Vec Ideal S16384x6144 .bf16) (x5 : Vec Ideal S1024x1024 .bf16) : Vec Ideal S16384x3072 .bf16 :=
  fun i => dgl x0 x1 x2 x3 x4 x5 (by omega) (i 0) (i 1)

/-- The first mixer's gradients from the program's arguments. -/
def G7 (x0 : Vec Ideal S16384x1024 .f32) (x4 : Vec Ideal S16384x6144 .bf16) (x5 : Vec Ideal S1024x1024 .bf16) : Vec Ideal S16384x256 .f32 :=
  fun i => dya x0 x4 x5 (by omega) (i 0) (i 1)

/-- The second mixer's gradients from the program's arguments. -/
def G8 (x0 : Vec Ideal S16384x1024 .f32) (x4 : Vec Ideal S16384x6144 .bf16) (x5 : Vec Ideal S1024x1024 .bf16) : Vec Ideal S16384x256 .f32 :=
  fun i => dyb x0 x4 x5 (by omega) (i 0) (i 1)

/-- The third mixer's gradients from the program's arguments. -/
def G9 (x0 : Vec Ideal S16384x1024 .f32) (x4 : Vec Ideal S16384x6144 .bf16) (x5 : Vec Ideal S1024x1024 .bf16) : Vec Ideal S16384x512 .f32 :=
  fun i => dyc x0 x4 x5 (by omega) (i 0) (i 1)

/-- The weights' gradient from the program's arguments. -/
def G10 (x0 : Vec Ideal S16384x1024 .f32) (x1 : Vec Ideal S16384x256 .bf16) (x2 : Vec Ideal S16384x256 .f32) (x3 : Vec Ideal S16384x512 .bf16)
    (x4 : Vec Ideal S16384x6144 .bf16) : Vec Ideal S1024x1024 .f32 :=
  fun i => ∑ r : Fin 16384, dwRow x0 x1 x2 x3 x4 (by omega) r (i 0) (i 1)

/-- The array of the logits' gradients: its first 3072 columns are written. -/
def H6 (x0 : Vec Ideal S16384x1024 .f32) (x1 : Vec Ideal S16384x256 .bf16) (x2 : Vec Ideal S16384x256 .f32) (x3 : Vec Ideal S16384x512 .bf16)
    (x4 : Vec Ideal S16384x6144 .bf16) (x5 : Vec Ideal S1024x1024 .bf16) : Vec Ideal S16384x6144 .bf16 :=
  fun i => if h : (i 1 : Nat) < 3072 then dgl x0 x1 x2 x3 x4 x5 (by omega) (i 0) ⟨i 1, h⟩ else 0

set_option backward.isDefEq.respectTransparency false in
/-- The array of the logits' gradients after the run, in its first 3072 columns. -/
theorem final6 (c : Dev nD) : (dats m 0 c).arrAt 6 cfg0.N = fun i => if (i 1 : Nat) / 3072 = 0 then
    H6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i
      else (dats m 0 c).A 6 i := by
  refine (dats m 0 c).arrAt_eq_of_coversWhere 6
    (H6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
    (fun β => β 1 = 0) (by decide +kernel) (fun t hf y => ?_) (fun j => Iff.rfl)
  blk_simp
  rw [after0_6]
  refine (out6 m c t _).trans ?_
  have hy : (y 1 : Nat) < 3072 := (y 1).isLt
  have e : ((((cfg0.win 6).blk t).view.emb y) 1 : Nat) = y 1 := by blk_point [idx t]
  unfold H6
  rw [dif_pos (by rw [e]; exact hy)]
  refine (dgl_congr ?_ ?_ ?_ ?_ ?_ ?_ _).trans (congrArg _ (Fin.ext e.symm))
  · intro j; blk_point [iblk, V, idx t]
  · intro j; blk_point [iblk, V, idx t]
  · intro j; blk_point [iblk, V, idx t]
  · intro j; blk_point [iblk, V, idx t]
  · intro j h; blk_point [iblk, V, idx t]
  · intro k j; blk_point [iblk, V, idx t]

set_option backward.isDefEq.respectTransparency false in
/-- The first mixer's gradients after the run. -/
theorem final7 (c : Dev nD) : (dats m 0 c).arrAt 7 cfg0.N = G7 (m ((c : Thread nD τ).loc main_arg0)) (m ((c : Thread nD τ).loc main_arg4)) (m ((c : Thread nD τ).loc main_arg5)) := by
  refine Dat.arrAt_eq_of_covers (dats m 0 c) 7 (G7 (m ((c : Thread nD τ).loc main_arg0)) (m ((c : Thread nD τ).loc main_arg4)) (m ((c : Thread nD τ).loc main_arg5)))
    (by decide +kernel) fun t hf y => ?_
  blk_simp
  rw [after0_7]
  refine (out7 m c t _).trans ?_
  refine (dya_congr ?_ ?_ ?_ _).trans (congrArg (dya _ _ _ _ _) ?_)
  · intro j; blk_point [iblk, V, idx t]
  · intro j h; blk_point [iblk, V, idx t]
  · intro k j; blk_point [iblk, V, idx t]
  · apply Fin.ext; blk_point [idx t]

set_option backward.isDefEq.respectTransparency false in
/-- The second mixer's gradients after the run. -/
theorem final8 (c : Dev nD) : (dats m 0 c).arrAt 8 cfg0.N = G8 (m ((c : Thread nD τ).loc main_arg0)) (m ((c : Thread nD τ).loc main_arg4)) (m ((c : Thread nD τ).loc main_arg5)) := by
  refine Dat.arrAt_eq_of_covers (dats m 0 c) 8 (G8 (m ((c : Thread nD τ).loc main_arg0)) (m ((c : Thread nD τ).loc main_arg4)) (m ((c : Thread nD τ).loc main_arg5)))
    (by decide +kernel) fun t hf y => ?_
  blk_simp
  rw [after0_8]
  refine (out8 m c t _).trans ?_
  refine (dyb_congr ?_ ?_ ?_ _).trans (congrArg (dyb _ _ _ _ _) ?_)
  · intro j; blk_point [iblk, V, idx t]
  · intro j h; blk_point [iblk, V, idx t]
  · intro k j; blk_point [iblk, V, idx t]
  · apply Fin.ext; blk_point [idx t]

set_option backward.isDefEq.respectTransparency false in
/-- The third mixer's gradients after the run. -/
theorem final9 (c : Dev nD) : (dats m 0 c).arrAt 9 cfg0.N = G9 (m ((c : Thread nD τ).loc main_arg0)) (m ((c : Thread nD τ).loc main_arg4)) (m ((c : Thread nD τ).loc main_arg5)) := by
  refine Dat.arrAt_eq_of_covers (dats m 0 c) 9 (G9 (m ((c : Thread nD τ).loc main_arg0)) (m ((c : Thread nD τ).loc main_arg4)) (m ((c : Thread nD τ).loc main_arg5)))
    (by decide +kernel) fun t hf y => ?_
  blk_simp
  rw [after0_9]
  refine (out9 m c t _).trans ?_
  refine (dyc_congr ?_ ?_ ?_ _).trans (congrArg (dyc _ _ _ _ _) ?_)
  · intro j; blk_point [iblk, V, idx t]
  · intro j h; blk_point [iblk, V, idx t]
  · intro k j; blk_point [iblk, V, idx t]
  · apply Fin.ext; blk_point [idx t]

set_option backward.isDefEq.respectTransparency false in
/-- The weights' gradient after the run. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) := by
  refine Dat.arrAt_eq_of_covers (dats m 0 c) 10 (G10 (m ((c : Thread nD τ).loc main_arg0)) (m ((c : Thread nD τ).loc main_arg1)) (m ((c : Thread nD τ).loc main_arg2)) (m ((c : Thread nD τ).loc main_arg3)) (m ((c : Thread nD τ).loc main_arg4)))
    (by decide +kernel) fun t hf y => ?_
  have hm := (flush0_10 t).mp hf
  blk_simp
  rw [after0_10]
  refine (Pipeline.eq_sum_fin_of_reset_step_apply_of_flush (fun n hn y => (outsAt0 m c n hn).2.2.2.2 y) 64 (fun _ => 0)
    (fun t y => term m c t y) (fun t h y => first m c t h y) (fun t h y => step m c t h y) t hm _).trans ?_
  rw [zero_add]
  unfold G10
  rw [← sum_blocks (n := 64) (b := 256) rfl]
  refine Finset.sum_congr rfl fun s _ => ?_
  unfold term
  refine Finset.sum_congr rfl fun k _ => ?_
  have e0 : ((((cfg0.win 10).blk t).view.emb y) 0 : Nat) = y 0 := by blk_point [idx t]
  have e1 : ((((cfg0.win 10).blk t).view.emb y) 1 : Nat) = y 1 := by blk_point [idx t]
  refine (dwRow_congr ?_ ?_ ?_ ?_ ?_ _ _).trans (congrArg₂ _ (Fin.ext e0.symm) (Fin.ext e1.symm))
  · intro j; blk_point [iblk, V, idx t, idx ⟨64 * (t.val / 64) + s.val, Pipeline.run_point_lt_of_flush t hm s⟩]
  · intro j; blk_point [iblk, V, idx t, idx ⟨64 * (t.val / 64) + s.val, Pipeline.run_point_lt_of_flush t hm s⟩]
  · intro j; blk_point [iblk, V, idx t, idx ⟨64 * (t.val / 64) + s.val, Pipeline.run_point_lt_of_flush t hm s⟩]
  · intro j; blk_point [iblk, V, idx t, idx ⟨64 * (t.val / 64) + s.val, Pipeline.run_point_lt_of_flush t hm s⟩]
  · intro j h; blk_point [iblk, V, idx t, idx ⟨64 * (t.val / 64) + s.val, Pipeline.run_point_lt_of_flush t hm s⟩]

end Run

open Cert.Reference16Ideal.Read in
set_option backward.isDefEq.respectTransparency false in
/-- The reference's gradients of the first mixer's result are the kernel's. -/
theorem agree7 (x0 : Vec Ideal S16384x1024 .f32) (x4 : Vec Ideal S16384x6144 .bf16) (x5 : Vec Ideal S1024x1024 .bf16) :
    val_main_v78 (F := Ideal) x0 x4 x5 = G7 x0 x4 x5 := by
  funext i
  unfold G7 dya dproj gate
  simp only [zero_sub]
  pointwise [val_main_v78, val_main_v75, val_main_v74, val_main_v60, val_main_v52, val_main_v25, val_main_v24, val_main_cst_0, val_main_v23, val_main_v22, val_main_cst, val_main_v21, val_main_v20, val_main_v17, val_main_v5, val_main_v3, val_main_v0, val_main_v4]
  exact Finset.sum_congr rfl fun j _ => congrArg (· * _) (mul_comm _ _)

open Cert.Reference16Ideal.Read in
set_option backward.isDefEq.respectTransparency false in
/-- The reference's gradients of the second mixer's result are the kernel's. -/
theorem agree8 (x0 : Vec Ideal S16384x1024 .f32) (x4 : Vec Ideal S16384x6144 .bf16) (x5 : Vec Ideal S1024x1024 .bf16) :
    val_main_v73 (F := Ideal) x0 x4 x5 = G8 x0 x4 x5 := by
  funext i
  unfold G8 dyb dproj gate
  simp only [zero_sub]
  pointwise [val_main_v73, val_main_v70, val_main_v69, val_main_v57, val_main_v52, val_main_v35, val_main_v34, val_main_cst_3, val_main_v33, val_main_v32, val_main_cst_2, val_main_v31, val_main_v30, val_main_v18, val_main_v6, val_main_v3, val_main_v0, val_main_v4]
  exact Finset.sum_congr rfl fun j _ => congrArg (· * _) (mul_comm _ _)

open Cert.Reference16Ideal.Read in
set_option backward.isDefEq.respectTransparency false in
/-- The reference's gradients of the third mixer's result are the kernel's. -/
theorem agree9 (x0 : Vec Ideal S16384x1024 .f32) (x4 : Vec Ideal S16384x6144 .bf16) (x5 : Vec Ideal S1024x1024 .bf16) :
    val_main_v68 (F := Ideal) x0 x4 x5 = G9 x0 x4 x5 := by
  funext i
  unfold G9 dyc dproj gate
  simp only [zero_sub]
  pointwise [val_main_v68, val_main_v65, val_main_v64, val_main_v54, val_main_v53, val_main_v46, val_main_v45, val_main_cst_6, val_main_v44, val_main_v43, val_main_cst_5, val_main_v42, val_main_v41, val_main_v19, val_main_v7, val_main_v3, val_main_v0, val_main_v4]
  exact Finset.sum_congr rfl fun j _ => congrArg (· * _) (mul_comm _ _)

open Cert.Reference16Ideal.Read in
set_option backward.isDefEq.respectTransparency false in
/-- The reference's gradient of the weights is the kernel's. -/
theorem agree10 (x0 : Vec Ideal S16384x1024 .f32) (x1 : Vec Ideal S16384x256 .bf16) (x2 : Vec Ideal S16384x256 .f32) (x3 : Vec Ideal S16384x512 .bf16)
    (x4 : Vec Ideal S16384x6144 .bf16) : val_main_v79 (F := Ideal) x0 x1 x2 x3 x4 = G10 x0 x1 x2 x3 x4 := by
  funext i
  have hi : (i 0 : Nat) < 1024 := (i 0).isLt
  unfold G10 dwRow dproj gate
  simp only [zero_sub]
  pointwise [val_main_v79]
  by_cases ha : (i 0 : Nat) < 256
  · simp only [dif_pos ha]
    pointwise [val_main_v77, val_main_v76, val_main_v75, val_main_v74, val_main_v60, val_main_v52, val_main_v25, val_main_v24, val_main_cst_0, val_main_v23, val_main_v22, val_main_cst, val_main_v21, val_main_v20, val_main_v17, val_main_v3, val_main_v0, val_main_v1]
    exact Finset.sum_congr rfl fun _ _ => (mul_comm _ _).trans (congrArg (_ * ·) (mul_comm _ _))
  · by_cases hb : (i 0 : Nat) < 512
    · simp only [dif_neg ha, dif_pos hb, dif_pos (show (i 0 : Nat) - 256 < 256 by omega)]
      pointwise [val_main_v72, val_main_v71, val_main_v70, val_main_v69, val_main_v57, val_main_v52, val_main_v35, val_main_v34, val_main_cst_3, val_main_v33, val_main_v32, val_main_cst_2, val_main_v31, val_main_v30, val_main_v18, val_main_v3, val_main_v0]
      exact Finset.sum_congr rfl fun _ _ => (mul_comm _ _).trans (congrArg (_ * ·) (mul_comm _ _))
    · simp only [dif_neg ha, dif_neg hb, dif_neg (show ¬(i 0 : Nat) - 256 < 256 by omega)]
      pointwise [val_main_v67, val_main_v66, val_main_v65, val_main_v64, val_main_v54, val_main_v53, val_main_v46, val_main_v45, val_main_cst_6, val_main_v44, val_main_v43, val_main_cst_5, val_main_v42, val_main_v41, val_main_v19, val_main_v3, val_main_v0, val_main_v2]
      simp only [show (i 0 : Nat) - 256 - 256 = (i 0 : Nat) - 512 by omega]
      exact Finset.sum_congr rfl fun _ _ => (mul_comm _ _).trans (congrArg (_ * ·) (mul_comm _ _))

open Cert.Reference16Ideal.Read in
set_option backward.isDefEq.respectTransparency false in
/-- The reference's gradients of the logits are the kernel's. -/
theorem agree6 (x0 : Vec Ideal S16384x1024 .f32) (x1 : Vec Ideal S16384x256 .bf16) (x2 : Vec Ideal S16384x256 .f32) (x3 : Vec Ideal S16384x512 .bf16)
    (x4 : Vec Ideal S16384x6144 .bf16) (x5 : Vec Ideal S1024x1024 .bf16) : val_main_v80 (F := Ideal) x0 x1 x2 x3 x4 x5 = G6 x0 x1 x2 x3 x4 x5 := by
  funext i
  have hi : (i 1 : Nat) < 3072 := (i 1).isLt
  unfold G6 dgl dlogit gate
  simp only [zero_sub]
  pointwise [val_main_v80, val_main_v63]
  by_cases ha : (i 1 : Nat) < 1024
  · simp only [dif_pos ha]
    pointwise [val_main_v62, val_main_v61, val_main_v52, val_main_v10, val_main_v9, val_main_v8, val_main_v28, val_main_v27, val_main_v26, val_main_cst_1, val_main_v25, val_main_v24, val_main_cst_0, val_main_v23, val_main_v22, val_main_cst, val_main_v21, val_main_v20, val_main_v17, val_main_v3, val_main_v0, val_main_v1, val_main_v5, val_main_v4]
    exact (mul_assoc (_ : EReal) _ _).symm
  · by_cases hb : (i 1 : Nat) < 2048
    · simp only [dif_neg ha, dif_pos hb, dif_pos (show (i 1 : Nat) - 1024 < 1024 by omega)]
      pointwise [val_main_v59, val_main_v58, val_main_v52, val_main_v13, val_main_v12, val_main_v11, val_main_v38, val_main_v37, val_main_v36, val_main_cst_4, val_main_v35, val_main_v34, val_main_cst_3, val_main_v33, val_main_v32, val_main_cst_2, val_main_v31, val_main_v30, val_main_v18, val_main_v3, val_main_v0, val_main_v6, val_main_v4]
      simp only [show 1024 + ((i 1 : Nat) - 1024) = i 1 by omega]
      exact (mul_assoc (_ : EReal) _ _).symm
    · simp only [dif_neg ha, dif_neg hb, dif_neg (show ¬(i 1 : Nat) - 1024 < 1024 by omega)]
      pointwise [val_main_v56, val_main_v55, val_main_v53, val_main_v16, val_main_v15, val_main_v14, val_main_v49, val_main_v48, val_main_v47, val_main_cst_7, val_main_v46, val_main_v45, val_main_cst_6, val_main_v44, val_main_v43, val_main_cst_5, val_main_v42, val_main_v41, val_main_v19, val_main_v3, val_main_v0, val_main_v2, val_main_v7, val_main_v4]
      simp only [show (i 1 : Nat) - 1024 - 1024 = (i 1 : Nat) - 2048 by omega, show 2048 + ((i 1 : Nat) - 2048) = i 1 by omega]
      exact (mul_assoc (_ : EReal) _ _).symm

/-- The kernel's results after the run, and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = G7 (m ((c : Thread nD τ).loc main_arg0)) (m ((c : Thread nD τ).loc main_arg4)) (m ((c : Thread nD τ).loc main_arg5))
      ∧ r.2.mem ((c : Thread nD τ).loc main_v0_2) = G8 (m ((c : Thread nD τ).loc main_arg0)) (m ((c : Thread nD τ).loc main_arg4)) (m ((c : Thread nD τ).loc main_arg5))
      ∧ r.2.mem ((c : Thread nD τ).loc main_v0_3) = G9 (m ((c : Thread nD τ).loc main_arg0)) (m ((c : Thread nD τ).loc main_arg4)) (m ((c : Thread nD τ).loc main_arg5))
      ∧ r.2.mem ((c : Thread nD τ).loc main_v0_4) = G10 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (run_main (F := Ideal) m ρ)
  refine ⟨?_, ((h c).1 7).trans (final7 m c), ((h c).1 8).trans (final8 m c), ((h c).1 9).trans (final9 m c), ((h c).1 10).trans (final10 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c)))⟩
  refine ((h c).2 main_v1 (by decide)).trans ?_
  show StableHlo.after [hostOps1].flatten _ _ = _
  simp only [List.flatten_cons, List.flatten_nil, List.append_nil]
  after_results_simp
  refine (congrArg (fun a : Vec Ideal S16384x6144 .bf16 => extractStridedSlice S16384x3072 ![0, 0] a slices_S16384x6144_S16384x3072_0_0)
    ((Pipeline.withArrays_arr spec0 (by decide) c (V0 m c) (fun w => (dats m 0 c).arrAt w cfg0.N) 6).trans (final6 m c))).trans ?_
  funext i
  have hi : (i 1 : Nat) < 3072 := (i 1).isLt
  unfold G6
  pointwise []
  rw [if_pos (by omega)]
  unfold H6
  exact dif_pos hi

/-- The results agree with the reference's, at all arguments. -/
theorem claim : Cert.algebraic_Kernel16Ideal_Reference16Ideal := by
  intro m ρ m' ρ' _ hagree
  refine ⟨_, _, _, _, _, run m ρ, ?_⟩
  refine (θ_run Cert.Reference16Ideal.defs _ _).mono (fun _ h c => ⟨(h c).1.trans ?_, (h c).2.1.trans ?_, (h c).2.2.1.trans ?_, (h c).2.2.2.1.trans ?_, (h c).2.2.2.2.1.trans ?_, (h c).2.2.2.2.2⟩)
    (Cert.Reference16Ideal.Value.run (F := Ideal) m' ρ')
  · refine (Cert.Reference16Ideal.Read.val_main_v80_eq _ _).trans ((agree6 _ _ _ _ _ _).trans ?_)
    rw [(hagree c).1, (hagree c).2.1, (hagree c).2.2.1, (hagree c).2.2.2.1, (hagree c).2.2.2.2.1, (hagree c).2.2.2.2.2]
  · refine (Cert.Reference16Ideal.Read.val_main_v78_eq _ _ _).trans ((agree7 _ _ _).trans ?_)
    rw [(hagree c).1, (hagree c).2.2.2.2.1, (hagree c).2.2.2.2.2]
  · refine (Cert.Reference16Ideal.Read.val_main_v73_eq _ _ _).trans ((agree8 _ _ _).trans ?_)
    rw [(hagree c).1, (hagree c).2.2.2.2.1, (hagree c).2.2.2.2.2]
  · refine (Cert.Reference16Ideal.Read.val_main_v68_eq _ _ _).trans ((agree9 _ _ _).trans ?_)
    rw [(hagree c).1, (hagree c).2.2.2.2.1, (hagree c).2.2.2.2.2]
  · refine (Cert.Reference16Ideal.Read.val_main_v79_eq _ _ _ _ _).trans ((agree10 _ _ _ _ _).trans ?_)
    rw [(hagree c).1, (hagree c).2.1, (hagree c).2.2.1, (hagree c).2.2.2.1, (hagree c).2.2.2.2.1]

end Cert.Kernel16Ideal.BranchBwd

end
-- ==== Proof.SbaSums.lean ====
/-
  The arithmetic of stick-breaking attention: for one query, `lk s` is the logarithm of the part of the stick that key `s` leaves,
  the weight of key `s` is `exp` of its score, its own `lk` and the `lk` of every later key, and the output is the sum of the
  values by their weights.  Keys are numbered by naturals, so that a sum over them splits into blocks.
-/
module

public import proofs.«01_k».proof.Proof.Reals
public import Idealize.ShloMosaic.Lib.ValueIdxCore

@[expose] public section

set_option maxRecDepth 16384

noncomputable section

namespace Cert.Sba

open Idealize.ShloMosaic Finset

/-! ## The logarithm of what a key leaves -/

/-- The logarithm of one minus the logistic function, as the kernel writes it. -/
def lsn (z : EReal) : EReal := min (0 - z) 0 - Ideal.log (1 + Ideal.exp (min z (0 - z)))

/-- The exponential is not negative. -/
theorem exp_nonneg (z : EReal) : 0 ≤ Ideal.exp z := by
  induction z using EReal.rec with
  | bot => exact le_refl _
  | top => exact le_top
  | coe r => exact EReal.coe_nonneg.mpr (Real.exp_pos r).le

/-- The logarithm of one plus a number that is not negative is not negative. -/
theorem log_nonneg (e : EReal) (h : 0 ≤ e) : 0 ≤ Ideal.log (1 + e) := by
  induction e using EReal.rec with
  | bot => exact absurd h (by simp)
  | top => rw [EReal.add_top_of_ne_bot (by exact EReal.coe_ne_bot 1)]; exact le_top
  | coe r =>
    have hr : 0 ≤ r := EReal.coe_nonneg.mp h
    rw [← EReal.coe_one, ← EReal.coe_add]
    show (0 : EReal) ≤ if 1 + r ≤ 0 then ⊥ else ((Real.log (1 + r) : ℝ) : EReal)
    rw [if_neg (by linarith)]
    exact EReal.coe_nonneg.mpr (Real.log_nonneg (by linarith))

/-- It is never positive. -/
theorem lsn_nonpos (z : EReal) : lsn z ≤ 0 := by
  unfold lsn
  rw [sub_eq_add_neg]
  refine (add_le_add (min_le_right _ _) (EReal.neg_le_neg_iff.mpr (log_nonneg _ (exp_nonneg _)))).trans ?_
  rw [neg_zero, add_zero]

/-- The same as minus the softplus function of the score. -/
theorem lsn_eq (z : EReal) : -(max z 0 + Ideal.log (1 + Ideal.exp (-(max z (-z))))) = lsn z := by
  have h1 : (0 : EReal) ≤ max z 0 := le_max_right _ _
  have h2 := log_nonneg _ (exp_nonneg (-(max z (-z))))
  have e1 : -(max z (-z)) = min z (0 - z) := by
    rw [zero_sub]
    rcases le_total z (-z) with h | h
    · rw [max_eq_right h, min_eq_left h, neg_neg]
    · rw [max_eq_left h, min_eq_right h]
  have e2 : -(max z 0) = min (0 - z) 0 := by
    rw [zero_sub]
    rcases le_total z 0 with h | h
    · rw [max_eq_right h, neg_zero, min_eq_right (by rw [← neg_zero]; exact EReal.neg_le_neg_iff.mpr h)]
    · rw [max_eq_left h, min_eq_left (by rw [← neg_zero]; exact EReal.neg_le_neg_iff.mpr h)]
  unfold lsn
  rw [← e1, ← e2, EReal.neg_add (Or.inl fun h => by rw [h] at h1; exact absurd h1 (by simp)) (Or.inr fun h => by rw [h] at h2; exact absurd h2 (by simp))]

/-! ## Sums over the keys -/

/-- A sum over a block of 256 keys. -/
theorem sum_block (g : ℕ → EReal) (b : ℕ) : ∑ c : Fin 256, g (256 * b + c.val) = ∑ s ∈ Ico (256 * b) (256 * (b + 1)), g s := by
  rw [Fin.sum_univ_eq_sum_range (fun c => g (256 * b + c)) 256, Finset.sum_Ico_eq_sum_range]
  exact congrArg (fun n => ∑ c ∈ range n, g (256 * b + c)) (by omega)

/-- The part of a block after column `c`. -/
theorem sum_later (g : ℕ → EReal) (b c : ℕ) (hc : c < 256) :
    ∑ k : Fin 256, g (256 * b + k.val) * (if c < k.val then 1 else 0) = ∑ s ∈ Ico (256 * b + c + 1) (256 * (b + 1)), g s := by
  simp only [mul_ite, mul_one, mul_zero]
  have e := sum_block (fun s => if 256 * b + c < s then g s else 0) b
  simp only [Nat.add_lt_add_iff_left] at e
  rw [e, ← Finset.sum_filter]
  refine Finset.sum_congr (Finset.ext fun s => ?_) fun _ _ => rfl
  simp only [Finset.mem_filter, Finset.mem_Ico]
  omega

/-- Joining two consecutive stretches of keys. -/
theorem sum_join (g : ℕ → EReal) {a b c : ℕ} (h1 : a ≤ b) (h2 : b ≤ c) :
    ∑ s ∈ Ico a b, g s + ∑ s ∈ Ico b c, g s = ∑ s ∈ Ico a c, g s := Finset.sum_Ico_consecutive g h1 h2

/-- The weight of key `s` for query `r` among `N` keys. -/
def att (z lk : ℕ → EReal) (N r s : ℕ) : EReal := if s < r then Ideal.exp (z s + lk s + ∑ s' ∈ Ico (s + 1) N, lk s') else 0

/-- A block of keys before the query adds its part of the output. -/
theorem step_acc (z lk v : ℕ → EReal) (N r b : ℕ) (hr : 256 * (b + 1) ≤ r) (hN : 256 * (b + 1) ≤ N) :
    ∑ c : Fin 256, Ideal.exp (z (256 * b + c.val) + lk (256 * b + c.val) + ∑ k : Fin 256, lk (256 * b + k.val) * (if c.val < k.val then 1 else 0)
        + ∑ s ∈ Ico (256 * (b + 1)) N, lk s) * v (256 * b + c.val)
      = ∑ s ∈ Ico (256 * b) (256 * (b + 1)), att z lk N r s * v s := by
  rw [← sum_block]
  refine Finset.sum_congr rfl fun c _ => ?_
  have hc := c.isLt
  unfold att
  rw [if_pos (by omega), sum_later lk b c.val hc, add_assoc (z _ + lk _), sum_join lk (by omega) hN]

/-- The block that holds the query, the keys from the query on masked. -/
theorem diag_acc (z lk v : ℕ → EReal) (N r b : ℕ) (hN : 256 * (b + 1) ≤ N) (h0 : ∀ s, 256 * (b + 1) ≤ s → lk s = 0) :
    ∑ c : Fin 256, (if 256 * b + c.val < r then
        Ideal.exp (z (256 * b + c.val) + lk (256 * b + c.val) + ∑ k : Fin 256, lk (256 * b + k.val) * (if c.val < k.val then 1 else 0) + 0) else 0) * v (256 * b + c.val)
      = ∑ s ∈ Ico (256 * b) (256 * (b + 1)), att z lk N r s * v s := by
  rw [← sum_block]
  refine Finset.sum_congr rfl fun c _ => ?_
  have hc := c.isLt
  have e : ∑ s ∈ Ico (256 * (b + 1)) N, lk s = 0 := Finset.sum_eq_zero fun s hs => h0 s (Finset.mem_Ico.mp hs).1
  unfold att
  rw [sum_later lk b c.val hc, ← e, add_assoc (z _ + lk _), sum_join lk (by omega) hN, e]

/-- A sum of numbers none of which is positive over fewer keys is no smaller. -/
theorem sum_le (lk : ℕ → EReal) (h : ∀ s, lk s ≤ 0) {a b N : ℕ} (hab : a ≤ b) : ∑ s ∈ Ico a N, lk s ≤ ∑ s ∈ Ico b N, lk s := by
  rcases le_total b N with hb | hb
  · rw [← sum_join lk hab hb]
    refine (add_le_add_left (Finset.sum_nonpos fun s _ => h s) _).trans ?_
    rw [zero_add]
  · rw [Finset.Ico_eq_empty_of_le hb, Finset.sum_empty]
    exact Finset.sum_nonpos fun s _ => h s

/-- A sum over all the keys by their numbers. -/
theorem sum_all {N : ℕ} (g : ℕ → EReal) : ∑ s : Fin N, g s.val = ∑ s ∈ Ico 0 N, g s := by
  rw [Fin.sum_univ_eq_sum_range g N, Finset.range_eq_Ico]

/-! ## The running sum of the reference -/

/-- A left fold of a sum. -/
theorem foldl_sum {n : ℕ} (g : Fin n → EReal) (v : EReal) : (List.finRange n).foldl (fun r k => r + g k) v = v + ∑ k, g k := by
  have e : ∀ (l : List (Fin n)) (v : EReal), l.foldl (fun r k => r + g k) v = v + (l.map g).sum := by
    intro l
    induction l with
    | nil => intro v; simp
    | cons a l ih => intro v; rw [List.foldl_cons, ih, List.map_cons, List.sum_cons, add_assoc]
  rw [e, ← List.ofFn_eq_map, List.sum_ofFn]

/-- The places of a window one wide on the first two axes. -/
def winIdx (N : ℕ) : Fin N ≃ (⟨3, ![1, 1, N]⟩ : Shape).Idx where
  toFun k := ValueIdx.ix3 0 0 k
  invFun j := j 2
  left_inv k := rfl
  right_inv j := funext fun a => match a with
    | ⟨0, _⟩ => Subsingleton.elim (α := Fin 1) _ _
    | ⟨1, _⟩ => Subsingleton.elim (α := Fin 1) _ _
    | ⟨2, _⟩ => rfl

/-- A window sum from each place to the end of the last axis. -/
theorem window_sum {A B N M : ℕ} (x : (⟨3, ![A, B, N]⟩ : Shape).Idx → EReal) (init : (⟨0, ![]⟩ : Shape).Idx → EReal) (hi : ∀ i, init i = 0)
    (h : (⟨3, ![A, B, N]⟩ : Shape).ReduceWindows (![1, 1, N] : Fin 3 → ℕ) ![1, 1, 1] ![0, 0, 0] ![0, 0, M] (⟨3, ![A, B, N]⟩ : Shape))
    (hu : 0 < (⟨0, ![]⟩ : Shape).numel) (a : Fin A) (b : Fin B) (c : Fin N) :
    Host.reduceWindowAdd (F := Ideal) (φ := .f32) ![1, 1, N] ![1, 1, 1] ![0, 0, 0] ![0, 0, M] x init h hu (ValueIdx.ix3 a b c)
      = ∑ n : Fin N, if hn : c.val + n.val < N then x (ValueIdx.ix3 a b ⟨c.val + n.val, hn⟩) else 0 := by
  show Host.reduceWindow (· + ·) ![1, 1, N] ![1, 1, 1] ![0, 0, 0] ![0, 0, M] x (fun _ : (⟨0, ![]⟩ : Shape).Idx => init (Shape.Idx.first hu)) h (by decide) (ValueIdx.ix3 a b c) = _
  unfold Host.reduceWindow
  rw [hi]
  refine (foldl_sum _ 0).trans ?_
  rw [zero_add, ← Equiv.sum_comp (⟨3, ![1, 1, N]⟩ : Shape).rowMajor, ← Equiv.sum_comp (winIdx N)]
  refine Finset.sum_congr rfl fun n _ => ?_
  have q : ∀ ax, ((⟨3, ![1, 1, N]⟩ : Shape).rowMajor.symm ((⟨3, ![1, 1, N]⟩ : Shape).rowMajor (winIdx N n)) ax).val = (winIdx N n ax).val :=
    fun ax => by rw [Equiv.symm_apply_apply]
  have q0 := q 0
  have q1 := q 1
  have q2 := q 2
  change _ = 0 at q0
  change _ = 0 at q1
  change _ = n.val at q2
  have e0 : a.val * 1 + 0 - 0 = a.val := by omega
  have e1 : b.val * 1 + 0 - 0 = b.val := by omega
  have e2 : c.val * 1 + n.val - 0 = c.val + n.val := by omega
  have l0 : a.val * 1 + 0 - 0 < A := lt_of_eq_of_lt e0 a.isLt
  have l1 : b.val * 1 + 0 - 0 < B := lt_of_eq_of_lt e1 b.isLt
  by_cases hn : c.val + n.val < N
  · have l2 : c.val * 1 + n.val - 0 < N := lt_of_eq_of_lt e2 hn
    rw [dif_pos hn, dif_pos fun ax => by
      match ax with
      | ⟨0, _⟩ => exact ⟨Nat.zero_le _, lt_of_eq_of_lt (congrArg (fun w => a.val * 1 + w - 0) q0) l0⟩
      | ⟨1, _⟩ => exact ⟨Nat.zero_le _, lt_of_eq_of_lt (congrArg (fun w => b.val * 1 + w - 0) q1) l1⟩
      | ⟨2, _⟩ => exact ⟨Nat.zero_le _, lt_of_eq_of_lt (congrArg (fun w => c.val * 1 + w - 0) q2) l2⟩]
    refine congrArg x (funext fun ax => Fin.ext ?_)
    match ax with
    | ⟨0, _⟩ => exact (congrArg (fun w => a.val * 1 + w - 0) q0).trans e0
    | ⟨1, _⟩ => exact (congrArg (fun w => b.val * 1 + w - 0) q1).trans e1
    | ⟨2, _⟩ => exact (congrArg (fun w => c.val * 1 + w - 0) q2).trans e2
  · rw [dif_neg hn, dif_neg fun hh => hn (by
      have h2 : c.val * 1 + n.val - 0 < N := lt_of_eq_of_lt (congrArg (fun w => c.val * 1 + w - 0) q2).symm (hh 2).2
      omega)]

/-- The sum of a shifted sequence from a place to its end. -/
theorem sum_shift (lk : ℕ → EReal) {N : ℕ} (c : Fin N) :
    (∑ n : Fin N, if c.val + n.val + 1 < N then lk (c.val + n.val + 1) else 0) = ∑ s ∈ Ico (c.val + 1) N, lk s := by
  rw [Fin.sum_univ_eq_sum_range (fun n => if c.val + n + 1 < N then lk (c.val + n + 1) else 0) N, Finset.sum_Ico_eq_sum_range, ← Finset.sum_filter]
  refine Finset.sum_congr (Finset.ext fun n => ?_) fun n _ => congrArg lk (by omega)
  simp only [Finset.mem_filter, Finset.mem_range]
  omega

end Cert.Sba

end
-- ==== Proof.SbaRef.lean ====
/- Stick-breaking attention by the reference: its result read at an index. -/
module

public import proofs.«01_k».proof.Proof.Gen.Reference17Ideal.Read
public import proofs.«01_k».proof.Proof.SbaSums
public import proofs.«01_k».proof.Defs
public import Idealize.ShloMosaic.Lib.Pointwise
public import Idealize.ShloMosaic.Lib.KernelVsHost
public import Idealize.ShloMosaic.Lib.WordCmp
public import Idealize.ShloMosaic.Lib.ReduceAll

@[expose] public section

set_option maxRecDepth 16384

noncomputable section

namespace Cert.Sba

open Cert.Reference17Ideal Cert.Reference17Ideal.Gen Cert.Reference17Ideal.Read Idealize.ShloMosaic Idealize.ShloMosaic.TcCoe Finset

/-- The argument by row and column numbers. -/
def ent (x : Vec Ideal S16384x768 .bf16) (r c : ℕ) : EReal := if h : r < 16384 ∧ c < 768 then x (ix2 ⟨r, h.1⟩ ⟨c, h.2⟩) else 0

/-- It at numbers in range. -/
theorem ent_of (x : Vec Ideal S16384x768 .bf16) (r c : ℕ) (hr : r < 16384) (hc : c < 768) : ent x r c = x (ix2 ⟨r, hr⟩ ⟨c, hc⟩) :=
  dif_pos ⟨hr, hc⟩

/-- The score of key `s` for query `r` in head `h`. -/
def score (x : Vec Ideal S16384x768 .bf16) (h r s : ℕ) : EReal := ∑ k : Fin 64, ent x r (64 * h + k.val) * ent x s (256 + 64 * h + k.val)

/-- The logarithm of what key `s` leaves of the stick of query `r`; keys from the query on leave all of it. -/
def lk (x : Vec Ideal S16384x768 .bf16) (h r s : ℕ) : EReal := if s < r then lsn (score x h r s) else 0

/-- The output of query `r` in head `h` at lane `d`. -/
def out (x : Vec Ideal S16384x768 .bf16) (h r d : ℕ) : EReal :=
  ∑ s ∈ Ico 0 16384, att (score x h r) (lk x h r) 16384 r s * ent x s (512 + 64 * h + d)

/-- The result from the argument. -/
def G (x : Vec Ideal S16384x768 .bf16) : Vec Ideal S16384x256 .f32 := fun i => out x ((i 1).val / 64) (i 0).val ((i 1).val % 64)

/-- It is never positive. -/
theorem lk_nonpos (x : Vec Ideal S16384x768 .bf16) (h r s : ℕ) : lk x h r s ≤ 0 := by
  unfold lk
  split
  · exact lsn_nonpos _
  · exact le_refl _

set_option backward.isDefEq.respectTransparency false in
/-- The reference's scores. -/
theorem v9_apply (x : Vec Ideal S16384x768 .bf16) (h : Fin 4) (r s : Fin 16384) :
    val_main_v9 (F := Ideal) x (ix3 h r s) = score x h.val r.val s.val := by
  have hh := h.isLt
  rw [val_main_v9_apply]
  unfold score
  refine Finset.sum_congr rfl fun k _ => congrArg₂ (· * ·) ?_ ?_
  · have hk := k.isLt
    rw [ent_of x _ _ r.isLt (by omega), val_main_v2_apply, val_main_v1_apply, val_main_v0_apply]
    refine congrArg x (funext fun a => Fin.ext ?_)
    match a with
    | ⟨0, _⟩ => show ((r.val * 4 + h.val) * 64 + k.val) / 256 = r.val; omega
    | ⟨1, _⟩ => show ((r.val * 4 + h.val) * 64 + k.val) % 256 = 64 * h.val + k.val; omega
  · have hk := k.isLt
    rw [ent_of x _ _ s.isLt (by omega), val_main_v5_apply, val_main_v4_apply, val_main_v3_apply]
    refine congrArg x (funext fun a => Fin.ext ?_)
    match a with
    | ⟨0, _⟩ => show ((s.val * 4 + h.val) * 64 + k.val) / 256 = s.val; omega
    | ⟨1, _⟩ => show 256 + ((s.val * 4 + h.val) * 64 + k.val) % 256 = 256 + 64 * h.val + k.val; omega

/-- Whether a key is before a query. -/
theorem v16_apply (r s : Fin 16384) : val_main_v16 (F := Ideal) (ix2 r s) = BitVec.ofBool (decide (s.val < r.val)) := by
  rw [val_main_v16_apply, val_main_v14_apply, val_main_v11_apply, val_main_v10_apply, val_main_v15_apply, val_main_v13_apply, val_main_v12_apply]
  show IntOp.cmpi .slt (BitVec.ofNat 32 s.val) (BitVec.ofNat 32 r.val) = _
  have hr := r.isLt
  have hs := s.isLt
  exact WordCmp.cmpi_slt_ofNat (by omega) (by omega)

/-- A selection by a decided word. -/
theorem select_of (p : Prop) [Decidable p] (a b : EReal) : Scalar.select (BitVec.ofBool (decide p)) a b = if p then a else b := by
  by_cases h : p
  · rw [if_pos h, decide_eq_true h]; rfl
  · rw [if_neg h, decide_eq_false h]; rfl

/-- The host's logarithm of the complement at a score. -/
theorem host_lsn (z : EReal) : FloatOps.hostNegf (F := Ideal) (φ := .f32) (Scalar.select (FloatOps.cmpf (F := Ideal) (φ := .f32) .une (z - 0) (z - 0)) (z + 0)
    (max z 0 + FloatOps.hostUnary (F := Ideal) (φ := .f32) .log1p (FloatOps.hostUnary (F := Ideal) (φ := .f32) .exp (FloatOps.hostNegf (F := Ideal) (φ := .f32) (FloatOps.hostAbsf (F := Ideal) (φ := .f32) (z - 0)))))) = lsn z := by
  rw [← lsn_eq, sub_zero]
  show -(Scalar.select (BitVec.ofBool (decide (z ≠ z))) (z + 0) (max z 0 + Ideal.log (1 + Ideal.exp (-(max z (-z)))))) = _
  rw [select_of, if_neg (by simp)]

/-- The reference's masked logarithms. -/
theorem v19_apply (x : Vec Ideal S16384x768 .bf16) (h : Fin 4) (r s : Fin 16384) :
    val_main_v19 (F := Ideal) x (ix3 h r s) = lk x h.val r.val s.val := by
  rw [val_main_v19_apply, val_main_call1_v1_apply, (funext fun a => match a with | ⟨0, _⟩ => rfl | ⟨1, _⟩ => rfl : idx_main_call1_v1 (ix3 h r s) = ix2 r s), v16_apply, select_of]
  unfold lk
  refine if_congr Iff.rfl ?_ ?_
  · rw [val_main_v18_apply, val_main_call0_v1_apply]
    have e : val_main_call0_v0 (F := Ideal) x (ix3 h r s) = score x h.val r.val s.val := by
      rw [val_main_call0_v0_apply, val_main_v17_apply, v9_apply]
      exact neg_neg _
    have e0 : ∀ i, val_main_call0_call0_cst (F := Ideal) i = 0 := fun i => Ideal.ofBits_zero_f32
    refine Eq.trans ?_ (host_lsn _)
    rw [val_main_call0_call0_v4_apply, val_main_call0_call0_v6_apply, val_main_call0_call0_v11_apply, val_main_call0_call0_v1_apply,
      val_main_call0_call0_v10_apply, val_main_call0_call0_v9_apply, val_main_call0_call0_v8_apply, val_main_call0_call0_v7_apply, val_main_call0_call0_v3_apply,
      val_main_call0_call0_v0_apply, val_main_call0_call0_v2_apply, val_main_call0_call0_v5_apply, e0, e]
    rfl
  · rw [val_main_call1_v2_apply]
    exact Ideal.ofBits_zero_f32

/-- The logarithms moved one key down. -/
theorem v21_apply (x : Vec Ideal S16384x768 .bf16) (h : Fin 4) (r s : Fin 16384) :
    val_main_v21 (F := Ideal) x (ix3 h r s) = if s.val + 1 < 16384 then lk x h.val r.val (s.val + 1) else 0 := by
  unfold val_main_v21
  by_cases hs : s.val + 1 < 16384
  · rw [if_pos hs, ← v19_apply x h r ⟨s.val + 1, hs⟩]
    refine (pad_apply_of_inside _ _ _ _ _ _ _ (ix3 h r s) (ix3 h r (⟨s.val, by omega⟩ : Fin 16383)) fun a => ?_).trans ?_
    · match a with
      | ⟨0, _⟩ => exact ((Nat.zero_add _).trans (Nat.mul_one _)).symm
      | ⟨1, _⟩ => exact ((Nat.zero_add _).trans (Nat.mul_one _)).symm
      | ⟨2, _⟩ => exact ((Nat.zero_add _).trans (Nat.mul_one _)).symm
    · rw [val_main_v20_apply]
      refine congrArg (val_main_v19 (F := Ideal) x) (funext fun a => Fin.ext ?_)
      match a with
      | ⟨0, _⟩ => rfl
      | ⟨1, _⟩ => rfl
      | ⟨2, _⟩ => exact Nat.add_comm 1 s.val
  · rw [if_neg hs]
    refine (pad_apply_of_not_inside _ _ _ _ _ _ _ (ix3 h r s) 2 fun hh => hs ?_).trans ?_
    · have h2 : (s.val - 0) / (0 + 1) < 16383 := hh.2.2
      rw [Nat.div_one] at h2
      omega
    · show ((BitVec.toInt (0#32) : ℝ) : EReal) = 0
      simp

/-- The logarithms of the keys after each key. -/
theorem v22_apply (x : Vec Ideal S16384x768 .bf16) (h : Fin 4) (r s : Fin 16384) :
    val_main_v22 (F := Ideal) x (ix3 h r s) = ∑ s' ∈ Ico (s.val + 1) 16384, lk x h.val r.val s' := by
  unfold val_main_v22
  refine (window_sum (val_main_v21 (F := Ideal) x) (val_main_call3_v0 (F := Ideal)) (fun i => Ideal.ofBits_zero_f32) _ _ h r s).trans ?_
  rw [← sum_shift]
  refine Finset.sum_congr rfl fun n _ => ?_
  by_cases hn : s.val + n.val < 16384
  · rw [dif_pos hn]
    exact v21_apply x h r ⟨s.val + n.val, hn⟩
  · rw [dif_neg hn, if_neg (by omega)]

/-- The reference's weights. -/
theorem v26_apply (x : Vec Ideal S16384x768 .bf16) (h : Fin 4) (r s : Fin 16384) :
    val_main_v26 (F := Ideal) x (ix3 h r s) = att (score x h.val r.val) (lk x h.val r.val) 16384 r.val s.val := by
  rw [val_main_v26_apply, val_main_call4_v1_apply, (funext fun a => match a with | ⟨0, _⟩ => rfl | ⟨1, _⟩ => rfl : idx_main_call4_v1 (ix3 h r s) = ix2 r s), v16_apply, select_of]
  unfold att
  refine if_congr Iff.rfl ?_ ?_
  · rw [val_main_v25_apply, val_main_v24_apply, val_main_v23_apply, v9_apply, v19_apply, v22_apply]
    rfl
  · rw [val_main_call4_v2_apply]
    exact Ideal.ofBits_zero_f32

/-- The reference's result. -/
theorem reference (x : Vec Ideal S16384x768 .bf16) : val_main_v29 (F := Ideal) x = G x := by
  funext i
  have h0 : (i 0).val < 16384 := (i 0).isLt
  have h1 : (i 1).val < 256 := (i 1).isLt
  rw [val_main_v29_apply, val_main_v28_apply, val_main_v27_apply]
  unfold G out
  rw [← sum_all (N := 16384) (fun s => att (score x ((i 1).val / 64) (i 0).val) (lk x ((i 1).val / 64) (i 0).val) 16384 (i 0).val s * ent x s (512 + 64 * ((i 1).val / 64) + (i 1).val % 64))]
  refine Finset.sum_congr rfl fun s _ => ?_
  rw [mul_comm]
  refine congrArg₂ (· * ·) ?_ ?_
  · refine Eq.trans (congrArg (val_main_v26 (F := Ideal) x) (?_ : _ = ix3 (⟨(i 1).val / 64, by omega⟩ : Fin 4) (⟨(i 0).val, h0⟩ : Fin 16384) s)) (v26_apply x _ _ s)
    refine funext fun a => Fin.ext ?_
    match a with
    | ⟨0, _⟩ => show ((i 0).val * 256 + (i 1).val) / 64 % 4 = (i 1).val / 64; omega
    | ⟨1, _⟩ => show ((i 0).val * 256 + (i 1).val) / 256 = (i 0).val; omega
    | ⟨2, _⟩ => rfl
  · have hs := s.isLt
    rw [ent_of x _ _ s.isLt (by omega), val_main_v8_apply, val_main_v7_apply, val_main_v6_apply]
    refine congrArg x (funext fun a => Fin.ext ?_)
    match a with
    | ⟨0, _⟩ => show ((s.val * 4 + ((i 0).val * 256 + (i 1).val) / 64 % 4) * 64 + ((i 0).val * 256 + (i 1).val) % 64) / 256 = s.val; omega
    | ⟨1, _⟩ =>
      show 512 + ((s.val * 4 + ((i 0).val * 256 + (i 1).val) / 64 % 4) * 64 + ((i 0).val * 256 + (i 1).val) % 64) % 256 = 512 + 64 * ((i 1).val / 64) + (i 1).val % 64
      omega

end Cert.Sba

end
-- ==== Proof.SbaPre.lean ====
/- Stick-breaking attention's precondition, read as what it says of the running sums. -/
module

public import proofs.«01_k».proof.Proof.SbaRef

@[expose] public section

set_option maxRecDepth 16384

noncomputable section

namespace Cert.Sba

open Cert.Reference17Ideal Cert.Reference17Ideal.Gen Cert.Reference17Ideal.Read Idealize.ShloMosaic Idealize.ShloMosaic.TcCoe Finset

/-- The threshold is not the bottom element. -/
theorem threshold_ne : Ideal.ofBits .f32 0xC2D00000#32 ≠ ⊥ := by
  simp [Ideal.ofBits, Ideal.ieee]
  rw [← EReal.coe_mul]
  exact EReal.coe_ne_top _

/-- What the maximum starts from is the bottom element. -/
theorem bottom : Ideal.ofBits .f32 0xFF800000#32 = ⊥ := by
  simp [Ideal.ofBits, Ideal.ieee]

/-- A fold of `max` that reaches `t` from below it meets a value that does. -/
theorem foldl_max_reach {ι : Type*} (f : ι → EReal) (t : EReal) :
    ∀ (l : List ι) (z : EReal), ¬ t ≤ z → t ≤ l.foldl (fun a n => max a (f n)) z → ∃ n ∈ l, t ≤ f n
  | [], z, hz, h => absurd h hz
  | n :: l, z, hz, h => by
    by_cases hn : t ≤ f n
    · exact ⟨n, List.mem_cons_self, hn⟩
    · obtain ⟨k, hk, hk'⟩ := foldl_max_reach f t l (max z (f n)) (fun hm => (le_max_iff.mp hm).elim hz hn) h
      exact ⟨k, List.mem_cons_of_mem _ hk, hk'⟩

/-- What a comparison that holds says. -/
theorem oge_of {s : Shape} (a b : FVec Ideal s .f32) (j : s.Idx) (h : cmpf .oge a b j = 1#1) : b j ≤ a j :=
  (WordCmp.ofBool_decide_eq_one_iff (b j ≤ a j)).mp h

/-- The sums of the logarithms over the keys from 256 on, as the precondition takes them. -/
def left (x : Vec Ideal S16384x768 .bf16) (h r : ℕ) : EReal := ∑ s ∈ Ico 256 16384, lk x h r s

variable [Cert.Pre_kept.Facts]
open Cert.Pre_kept.Facts

/-- A reduction over the last axis, from 0. -/
theorem reduce_tail (v : FVec Ideal Cert.Pre_kept.S4x16384x16128 .f32) (h : Fin 4) (r : Fin 16384) :
    Host.reduceAdd (F := Ideal) (φ := .f32) v
      (constant Cert.Pre_kept.S_ .f32 0x00000000#32) reducesTo_S4x16384x16128_S4x16384_d2 Cert.Pre_kept.Facts.h_S_ (ix2 h r) = ∑ k : Fin 16128, v (ix3 h r k) := by
  have w : Cert.Pre_kept.S4x16384x16128.Reduces [2] Cert.Pre_kept.S4x16384 := by decide
  have e := Ideal.hostReduceAdd_single reducesTo_S4x16384x16128_S4x16384_d2 w v (Ideal.ofBits .f32 0x00000000#32) (ix2 h r)
  rw [Ideal.ofBits_zero_f32, zero_add] at e
  refine Eq.trans ?_ (e.trans (Finset.sum_congr rfl fun k _ => congrArg v ?_))
  · rw [← Ideal.ofBits_zero_f32]; rfl
  · funext a
    match a with
    | ⟨0, _⟩ => rfl
    | ⟨1, _⟩ => rfl
    | ⟨2, _⟩ => rfl

/-- The kept part of the logarithms, by its numbers. -/
theorem slice_tail (v : FVec Ideal Cert.Pre_kept.S4x16384x16384 .f32) (h : Fin 4) (r : Fin 16384) (k : Fin 16128) :
    extractStridedSlice Cert.Pre_kept.S4x16384x16128 ![0, 0, 256] v slices_S4x16384x16384_S4x16384x16128_0_0_256 (ix3 h r k)
      = v (ix3 h r ⟨256 + k.val, by have := k.isLt; omega⟩) := by
  refine (extractStridedSlice_apply ![0, 0, 256] _ _ _ (ix3 h r ⟨256 + k.val, by have := k.isLt; omega⟩) fun a => ?_)
  match a with
  | ⟨0, _⟩ => exact (Nat.zero_add _).symm
  | ⟨1, _⟩ => exact (Nat.zero_add _).symm
  | ⟨2, _⟩ => rfl

/-- They are the precondition's sums. -/
theorem left_apply (x : Vec Ideal S16384x768 .bf16) (h : Fin 4) (r : Fin 16384) :
    Host.reduceAdd (F := Ideal) (φ := .f32) (extractStridedSlice Cert.Pre_kept.S4x16384x16128 ![0, 0, 256] (val_main_v19 (F := Ideal) x) slices_S4x16384x16384_S4x16384x16128_0_0_256)
      (constant Cert.Pre_kept.S_ .f32 0x00000000#32) reducesTo_S4x16384x16128_S4x16384_d2 Cert.Pre_kept.Facts.h_S_ (ix2 h r) = left x h.val r.val := by
  refine (reduce_tail _ h r).trans ?_
  unfold left
  rw [Finset.sum_Ico_eq_sum_range, ← Fin.sum_univ_eq_sum_range (fun k => lk x h.val r.val (256 + k)) 16128]
  exact Finset.sum_congr rfl fun k _ => (slice_tail _ h r k).trans (v19_apply x h r ⟨256 + k.val, by have := k.isLt; omega⟩)

/-- The reshape of the sums, by its numbers. -/
theorem pairs_apply (v : FVec Ideal Cert.Pre_kept.S4x16384 .f32) (q : Cert.Pre_kept.S2x2x64x256.Idx) (h : Fin 4) (r : Fin 16384)
    (hh : h.val = 2 * (q 0).val + (q 1).val) (hr : r.val = 256 * (q 2).val + (q 3).val) :
    shapeCast Cert.Pre_kept.S2x2x64x256 v shapeCasts_S4x16384_S2x2x64x256 q = v (ix2 h r) := by
  have a0 : (q 0).val < 2 := (q 0).isLt
  have a1 : (q 1).val < 2 := (q 1).isLt
  have a2 : (q 2).val < 64 := (q 2).isLt
  have a3 : (q 3).val < 256 := (q 3).isLt
  refine shapeCast_apply _ _ _ _ ?_
  simp only [Shape.rowMajor_val_two, Shape.rowMajor_val_four]
  simp
  omega

/-- Where the maximum over two heads and 256 queries is at least the threshold, one of the values is. -/
theorem max_reach (v : FVec Ideal Cert.Pre_kept.S2x2x64x256 .f32) (p : Fin 2) (i : Fin 64)
    (h : Ideal.ofBits .f32 0xC2D00000#32 ≤ Host.reduce FloatOps.maximumf v (constant Cert.Pre_kept.S_ .f32 0xFF800000#32) reducesTo_S2x2x64x256_S2x64_d1_3 Cert.Pre_kept.Facts.h_S_ (ix2 p i)) :
    ∃ q : Cert.Pre_kept.S2x2x64x256.Idx, (q 0).val = p.val ∧ (q 2).val = i.val ∧ Ideal.ofBits .f32 0xC2D00000#32 ≤ v q := by
  rw [Host.reduce_eq_foldl] at h
  obtain ⟨q, hq, hle⟩ := foldl_max_reach _ _ _ _ (fun hh => threshold_ne (le_bot_iff.mp (hh.trans_eq bottom))) h
  have hd : reducesTo_S2x2x64x256_S2x64_d1_3.drop q = ix2 p i := by simpa using (List.mem_filter.mp hq).2
  refine ⟨q, ?_, ?_, hle⟩
  · rw [← reducesTo_S2x2x64x256_S2x64_d1_3.drop_apply_val_of_eq q 0 0, hd]; rfl
  · rw [← reducesTo_S2x2x64x256_S2x64_d1_3.drop_apply_val_of_eq q 1 2, hd]; rfl

/-- Under the precondition, in every block of queries of a pair of heads some query of one of the two still has, over the keys from 256 on,
    a sum no smaller than the threshold. -/
theorem kept (x : Vec Ideal S16384x768 .bf16) (hx : Cert.Pre_kept.fn (F := Ideal) x = fun _ => 1#1) (p : Fin 2) (i : Fin 64) :
    ∃ (e : Fin 2) (r : Fin 256), Ideal.ofBits .f32 0xC2D00000#32 ≤ left x (2 * p.val + e.val) (256 * i.val + r.val) := by
  have e : Cert.Pre_kept.fn_part1 (F := Ideal) (Host.reduceAdd (F := Ideal) (φ := .f32) (extractStridedSlice Cert.Pre_kept.S4x16384x16128 ![0, 0, 256] (val_main_v19 (F := Ideal) x) slices_S4x16384x16384_S4x16384x16128_0_0_256)
      (constant Cert.Pre_kept.S_ .f32 0x00000000#32) reducesTo_S4x16384x16128_S4x16384_d2 Cert.Pre_kept.Facts.h_S_) = fun _ => 1#1 := hx
  have e1 := congrFun e (fun a => a.elim0)
  unfold Cert.Pre_kept.fn_part1 at e1
  have e2 := Host.reduce_andi_all (t := Cert.Pre_kept.S_) (hu := Cert.Pre_kept.Facts.h_S_) (h := reducesTo_S2x64_S_d0_1) _ _ _ e1 (ix2 p i)
  have e3 := oge_of _ _ _ e2
  obtain ⟨q, q0, q2, hq⟩ := max_reach _ p i e3
  have h1 : (q 1).val < 2 := (q 1).isLt
  have h3 : (q 3).val < 256 := (q 3).isLt
  refine ⟨⟨(q 1).val, h1⟩, ⟨(q 3).val, h3⟩, hq.trans_eq ?_⟩
  exact (pairs_apply _ q ⟨2 * p.val + (q 1).val, by omega⟩ ⟨256 * i.val + (q 3).val, by omega⟩ (by rw [q0]) (by rw [q2])).trans (left_apply x _ _)

end Cert.Sba

end
-- ==== Proof.SbaPay.lean ====
/- Stick-breaking attention: the kernel's payloads, read at an index. -/
module

public import proofs.«01_k».proof.Proof.SbaBodyIdeal
public import proofs.«01_k».proof.Proof.SbaPre
public import Idealize.ShloMosaic.Lib.Pipeline.ValueKit

@[expose] public section

set_option maxRecDepth 16384

noncomputable section

namespace Cert.Sba

open Cert.Kernel17Ideal Cert.Kernel17Ideal.Gen Idealize.ShloMosaic Idealize.ShloMosaic.TcCoe Finset

/-- The score of query `r` of a block of queries against key `c` of a block of keys. -/
def zt (q k : Vec Ideal S256x128 .bf16) (r c : Fin 256) : EReal := ∑ l : Fin 128, q (ix2 r l) * k (ix2 c l)

set_option backward.isDefEq.respectTransparency false in
/-- The block of scores. -/
theorem pay29_apply (q k : Vec Ideal S256x128 .bf16) (y : S256x256.Idx) : k0_pay29 (F := Ideal) q k y = zt q k (y 0) (y 1) := by
  unfold zt
  pointwise [k0_pay29]

/-- The pattern of 1. -/
theorem ofBits_one : Ideal.ofBits .f32 0x3F800000#32 = 1 := by
  simp [Ideal.ofBits, Ideal.ieee]
  rw [← EReal.coe_mul, show (8388608 : ℝ) * (2 ^ 23)⁻¹ = 1 by norm_num]
  rfl

/-- The block of their logarithms. -/
theorem pay31_apply (q k : Vec Ideal S256x128 .bf16) (y : S256x256.Idx) : k0_pay31 (F := Ideal) q k y = lsn (zt q k (y 0) (y 1)) := by
  show min (Ideal.ofBits .f32 0x00000000#32 - k0_pay29 q k y) (Ideal.ofBits .f32 0x00000000#32)
    - Ideal.log (Ideal.ofBits .f32 0x3F800000#32 + Ideal.exp (min (k0_pay29 q k y) (Ideal.ofBits .f32 0x00000000#32 - k0_pay29 q k y))) = _
  rw [pay29_apply, Ideal.ofBits_zero_f32, ofBits_one]
  rfl

/-- The 0/1 matrix that picks the later keys of a block. -/
theorem pay5_apply (k c : Fin 256) : k0_pay5 (F := Ideal) (ix2 k c) = if c < k then 1 else 0 := by
  have e : cmpi .sgt (iota .tc S256x256 32 [0] iota_S256x256_d0_w32) (iota .tc S256x256 32 [1] iota_S256x256_d1_w32) (ix2 k c)
      = BitVec.ofBool (decide (c < k)) := by
    show IntOp.cmpi .sgt (iota .tc S256x256 32 [0] iota_S256x256_d0_w32 (ix2 k c)) (iota .tc S256x256 32 [1] iota_S256x256_d1_w32 (ix2 k c)) = _
    rw [iota_single_apply, iota_single_apply]
    have hk := k.isLt
    have hc := c.isLt
    exact WordCmp.cmpi_sgt_ofNat (a := k.val) (b := c.val) (by omega) (by omega)
  show ((((cmpi .sgt (iota .tc S256x256 32 [0] iota_S256x256_d0_w32) (iota .tc S256x256 32 [1] iota_S256x256_d1_w32) (ix2 k c)).setWidth 32).toInt : ℝ) : EReal) = _
  rw [e]
  by_cases h : c < k
  · rw [if_pos h, decide_eq_true h]
    show (((1 : ℤ) : ℝ) : EReal) = 1
    rw [Int.cast_one]; rfl
  · rw [if_neg h, decide_eq_false h]
    show (((0 : ℤ) : ℝ) : EReal) = 0
    rw [Int.cast_zero]; rfl

set_option backward.isDefEq.respectTransparency false in
/-- The logarithms' sums over the later keys of the block. -/
theorem pay33_apply (q k : Vec Ideal S256x128 .bf16) (lt : Vec Ideal S256x256 .bf16) (y : S256x256.Idx) :
    k0_pay33 (F := Ideal) q lt k y = ∑ j : Fin 256, k0_pay31 (F := Ideal) q k (ix2 (y 0) j) * lt (ix2 j (y 1)) := by
  pointwise [k0_pay33]

set_option backward.isDefEq.respectTransparency false in
/-- The running sums after a block. -/
theorem pay36_apply (a : Vec Ideal S256x256 .f32) (run : Vec Ideal S1x256x1 .f32) (r : Fin 256) :
    k0_pay36 (F := Ideal) a (k0_pay35 run) (ix3 0 r 0) = run (ix3 0 r 0) + ∑ j : Fin 256, a (ix2 r j) := by
  pointwise [k0_pay36, k0_pay35]

set_option backward.isDefEq.respectTransparency false in
/-- The accumulated output after a block. -/
theorem pay40_apply (v : Vec Ideal S256x128 .bf16) (z l w : Vec Ideal S256x256 .f32) (run : Vec Ideal S1x256x1 .f32) (acc : Vec Ideal S1x256x128 .f32)
    (r : Fin 256) (c : Fin 128) :
    k0_pay40 (F := Ideal) v z l w (k0_pay35 run) acc (ix3 0 r c)
      = acc (ix3 0 r c) + ∑ j : Fin 256, Ideal.exp (z (ix2 r j) + l (ix2 r j) + w (ix2 r j) + run (ix3 0 r 0)) * v (ix2 j c) := by
  pointwise [k0_pay40, k0_pay35]

set_option backward.isDefEq.respectTransparency false in
/-- The accumulated output after the diagonal block. -/
theorem pay25_apply (v : Vec Ideal S256x128 .bf16) (a : Vec Ideal S256x256 .f32) (acc : Vec Ideal S1x256x128 .f32)
    (r : Fin 256) (c : Fin 128) :
    k0_pay25 (F := Ideal) v a (k0_pay24 acc) (ix3 0 r c) = acc (ix3 0 r c) + ∑ j : Fin 256, a (ix2 r j) * v (ix2 j c) := by
  pointwise [k0_pay25, k0_pay24]

set_option backward.isDefEq.respectTransparency false in
/-- The weights of the diagonal block. -/
theorem pay22_apply (lt : Vec Ideal S256x256 .bf16) (s : IVec S256x256 1) (z l : Vec Ideal S256x256 .f32) (run : Vec Ideal S1x256x1 .f32) (y : S256x256.Idx) :
    k0_pay22 (F := Ideal) lt s z l run y
      = Scalar.select (s y) (Ideal.exp (z y + l y + ∑ j : Fin 256, l (ix2 (y 0) j) * lt (ix2 j (y 1)) + run (ix3 0 (y 0) 0))) 0 := by
  pointwise [k0_pay22, k0_pay18]

set_option backward.isDefEq.respectTransparency false in
/-- Which keys of the diagonal block a query takes: the earlier ones. -/
theorem strict_apply (i : grid0.Coords) (r c : Fin 256) : strict i (ix2 r c) = BitVec.ofBool (decide (c < r)) := by
  have h1 : (i 1).val < 64 := (i 1).isLt
  have e : strict i (ix2 r c) = IntOp.cmpi .slt (BitVec.ofNat 32 c.val + (((BitVec.ofNat 32 (i 1).val + BitVec.ofNat 32 1) * BitVec.ofNat 32 1 - 1#32) - 0#32) * BitVec.ofNat 32 256)
      (BitVec.ofNat 32 r.val + BitVec.ofNat 32 (i 1).val * BitVec.ofNat 32 256) := by
    show IntOp.cmpi .slt (cols (ix2 r c) + _) (iota .tc S256x256 32 [0] iota_S256x256_d0_w32 (ix2 r c) + _) = _
    unfold cols
    rw [iota_single_apply, iota_single_apply]
    rfl
  rw [e, BitVec.mul_one, BitVec.sub_zero, show BitVec.ofNat 32 1 = 1#32 from rfl, BitVec.add_sub_cancel, ← BitVec.ofNat_mul, ← BitVec.ofNat_add, ← BitVec.ofNat_add]
  have hr := r.isLt
  have hc := c.isLt
  refine (WordCmp.cmpi_slt_ofNat (by omega) (by omega)).trans ?_
  congr 2
  exact propext ⟨fun h => by show c.val < r.val; omega, fun h => by have : c.val < r.val := h; omega⟩

/-- Which lanes are below 64. -/
theorem lane_apply (r : Fin 256) (l : Fin 128) :
    broadcastTo S256x128 (shapeCast S1x128 (cmpi .slt (iota .tc S1x128 32 [1] iota_S1x128_d1_w32) (broadcast S1x128 64#32)) shapeCasts_S1x128_S1x128) broadcasts_S1x128_S256x128 (ix2 r l)
      = BitVec.ofBool (decide (l.val < 64)) := by
  rw [shapeCast_self]
  refine (broadcastTo_apply _ _ (ix2 r l) (ix2 0 l) fun a => by fin_cases a <;> rfl).trans ?_
  show IntOp.cmpi .slt (iota .tc S1x128 32 [1] iota_S1x128_d1_w32 (ix2 0 l)) 64#32 = _
  rw [iota_single_apply]
  have h := l.isLt
  exact WordCmp.cmpi_slt_ofNat (a := l.val) (b := 64) (by omega) (by omega)

/-- Which are not. -/
theorem lane_apply' (r : Fin 256) (l : Fin 128) :
    broadcastTo S256x128 (shapeCast S1x128 (cmpi .sge (iota .tc S1x128 32 [1] iota_S1x128_d1_w32) (broadcast S1x128 64#32)) shapeCasts_S1x128_S1x128) broadcasts_S1x128_S256x128 (ix2 r l)
      = BitVec.ofBool (decide (64 ≤ l.val)) := by
  rw [shapeCast_self]
  refine (broadcastTo_apply _ _ (ix2 r l) (ix2 0 l) fun a => by fin_cases a <;> rfl).trans ?_
  show IntOp.cmpi .sge (iota .tc S1x128 32 [1] iota_S1x128_d1_w32 (ix2 0 l)) 64#32 = _
  rw [iota_single_apply]
  have h := l.isLt
  exact WordCmp.cmpi_sge_ofNat (a := l.val) (b := 64) (by omega) (by omega)

/-- Head 0's queries: the lanes below 64. -/
theorem hq0_apply (x : Vec Ideal S256x128 .bf16) (r : Fin 256) (l : Fin 128) : hq0 (F := Ideal) x (ix2 r l) = if l.val < 64 then x (ix2 r l) else 0 := by
  rw [← select_of, ← lane_apply r l, ← Ideal.ofBits_zero_bf16]
  unfold hq0 k0_pay6
  rw [View.ld_unit_lit _ _ (by decide)]
  rfl

/-- Head 1's queries: the others. -/
theorem hq1_apply (x : Vec Ideal S256x128 .bf16) (r : Fin 256) (l : Fin 128) : hq1 (F := Ideal) x (ix2 r l) = if 64 ≤ l.val then x (ix2 r l) else 0 := by
  rw [← select_of, ← lane_apply' r l, ← Ideal.ofBits_zero_bf16]
  unfold hq1 k0_pay7
  rw [View.ld_unit_lit _ _ (by decide)]
  rfl

/-- The block of outputs: the lanes below 64 from head 0, the others from head 1. -/
theorem pay2_apply (a b : Vec Ideal S1x256x128 .f32) (r : Fin 256) (l : Fin 128) :
    k0_pay2 (F := Ideal) (iota .tc S1x128 32 [1] iota_S1x128_d1_w32) a b (ix2 r l) = if l.val < 64 then a (ix3 0 r l) else b (ix3 0 r l) := by
  rw [← select_of, ← lane_apply r l]
  have e : ∀ v : Vec Ideal S1x256x128 .f32, shapeCast S256x128 v shapeCasts_S1x256x128_S256x128 (ix2 r l) = v (ix3 0 r l) := fun v => by pointwise
  rw [← e a, ← e b]
  rfl

/-- The maximum over both heads is at least each value. -/
theorem pay1_ge (a b : Vec Ideal S1x256x1 .f32) (r : Fin 256) : a (ix3 0 r 0) ≤ k0_pay1 (F := Ideal) a b ∧ b (ix3 0 r 0) ≤ k0_pay1 (F := Ideal) a b := by
  have hm : ∀ (v : FVec Ideal S1x256x1 .f32) (j : S1.Idx),
      v (ix3 0 r 0) ≤ multiReduction .maximumf [1, 2] S1 v 0xFF800000#32 reduces_S1x256x1_S1 (.inl rfl) rfl j := by
    intro v j
    refine le_of_le_of_eq ?_ (multiReduction_maximumf_eq_fold v 0xFF800000#32 reduces_S1x256x1_S1 (.inl rfl) rfl j).symm
    refine (Finset.le_fold_max _).mpr (Or.inr ⟨ix3 0 r 0, Finset.mem_filter.mpr ⟨Finset.mem_univ _, ?_⟩, le_rfl⟩)
    funext a
    fin_cases a
    exact Subsingleton.elim (α := Fin 1) _ _
  have hc : ∀ v : FVec Ideal S1x256x1 .f32, shapeCast S1x256x1 (shapeCast S256x1 v shapeCasts_S1x256x1_S256x1) shapeCasts_S256x1_S1x256x1 (ix3 0 r 0) = v (ix3 0 r 0) := fun v => by
    pointwise
  exact ⟨(hc a).symm.trans_le ((hm _ _).trans (le_max_left _ _)), (hc b).symm.trans_le ((hm _ _).trans (le_max_right _ _))⟩

end Cert.Sba

end
-- ==== Proof.SbaTrip.lean ====
/- Stick-breaking attention: what the diagonal block and one trip of the loop leave, read at an index. -/
module

public import proofs.«01_k».proof.Proof.SbaPay

@[expose] public section

set_option maxRecDepth 16384

noncomputable section

namespace Cert.Sba

open Cert.Kernel17Ideal Cert.Kernel17Ideal.Gen Idealize.ShloMosaic Idealize.ShloMosaic.TcCoe Finset

/-! ## The two heads' parts -/

/-- Head 0's part of the running sums, read back. -/
theorem canonN0 (p1 p0 : Vec Ideal S1x256x1 .f32) (r : Fin 256) :
    View.canon (Val := Elt Ideal) (e := .f32) [⟨n1, p1⟩, ⟨n0, p0⟩] (ix3 0 r 0) = p0 (ix3 0 r 0) := by
  have e0 : n0.emb (ix3 0 r 0) = (ix3 0 r 0 : S2x256x1.Idx) := funext fun a => Fin.ext ((Rect.idx_unit_val _ _ _ _ a).trans (by fin_cases a <;> exact Nat.zero_add _))
  rw [View.canon_cons_of_not_mem, ← e0, View.canon_cons_emb]
  rw [Rect.mem_set_unit]
  intro h
  have := (h 0).1
  exact absurd this (by decide : ¬ 1 ≤ 0)

/-- Head 1's. -/
theorem canonN1 (p1 p0 : Vec Ideal S1x256x1 .f32) (r : Fin 256) :
    View.canon (Val := Elt Ideal) (e := .f32) [⟨n1, p1⟩, ⟨n0, p0⟩] (ix3 1 r 0) = p1 (ix3 0 r 0) := by
  have e1 : n1.emb (ix3 0 r 0) = (ix3 1 r 0 : S2x256x1.Idx) := funext fun a => Fin.ext ((Rect.idx_unit_val _ _ _ _ a).trans (by fin_cases a <;> first | rfl | exact Nat.zero_add _))
  rw [← e1, View.canon_cons_emb]

/-- Head 0's part of the accumulated output, read back. -/
theorem canonA0 (p1 p0 : Vec Ideal S1x256x128 .f32) (r : Fin 256) (l : Fin 128) :
    View.canon (Val := Elt Ideal) (e := .f32) [⟨a1, p1⟩, ⟨a0, p0⟩] (ix3 0 r l) = p0 (ix3 0 r l) := by
  have e0 : a0.emb (ix3 0 r l) = (ix3 0 r l : S2x256x128.Idx) := funext fun a => Fin.ext ((Rect.idx_unit_val _ _ _ _ a).trans (by fin_cases a <;> exact Nat.zero_add _))
  rw [View.canon_cons_of_not_mem, ← e0, View.canon_cons_emb]
  rw [Rect.mem_set_unit]
  intro h
  have := (h 0).1
  exact absurd this (by decide : ¬ 1 ≤ 0)

/-- Head 1's. -/
theorem canonA1 (p1 p0 : Vec Ideal S1x256x128 .f32) (r : Fin 256) (l : Fin 128) :
    View.canon (Val := Elt Ideal) (e := .f32) [⟨a1, p1⟩, ⟨a0, p0⟩] (ix3 1 r l) = p1 (ix3 0 r l) := by
  have e1 : a1.emb (ix3 0 r l) = (ix3 1 r l : S2x256x128.Idx) := funext fun a => Fin.ext ((Rect.idx_unit_val _ _ _ _ a).trans (by fin_cases a <;> first | rfl | exact Nat.zero_add _))
  rw [← e1, View.canon_cons_emb]

/-- A load of head 0's part of the running sums. -/
theorem ldN0 (x : Vec Ideal S2x256x1 .f32) (r : Fin 256) : View.ld x n0 (ix3 0 r 0) = x (ix3 0 r 0) :=
  View.ld_unit_apply_of x _ _ _ _ _ fun a => by fin_cases a <;> exact (Nat.zero_add _).symm
/-- A load of head 1's part. -/
theorem ldN1 (x : Vec Ideal S2x256x1 .f32) (r : Fin 256) : View.ld x n1 (ix3 0 r 0) = x (ix3 1 r 0) :=
  View.ld_unit_apply_of x _ _ _ _ _ fun a => by fin_cases a <;> first | rfl | exact (Nat.zero_add _).symm
/-- A load of head 0's part of the accumulated output. -/
theorem ldA0 (x : Vec Ideal S2x256x128 .f32) (r : Fin 256) (l : Fin 128) : View.ld x a0 (ix3 0 r l) = x (ix3 0 r l) :=
  View.ld_unit_apply_of x _ _ _ _ _ fun a => by fin_cases a <;> exact (Nat.zero_add _).symm
/-- A load of head 1's part. -/
theorem ldA1 (x : Vec Ideal S2x256x128 .f32) (r : Fin 256) (l : Fin 128) : View.ld x a1 (ix3 0 r l) = x (ix3 1 r l) :=
  View.ld_unit_apply_of x _ _ _ _ _ fun a => by fin_cases a <;> first | rfl | exact (Nat.zero_add _).symm

/-- The queries of one of the two heads. -/
def pick (q0 q1 : Vec Ideal S256x128 .bf16) (e : Fin 2) : Vec Ideal S256x128 .bf16 := if e = 0 then q0 else q1

/-! ## One trip -/

/-- The running sums after a block, at either head. -/
theorem run_tile (q k : Vec Ideal S256x128 .bf16) (run : Vec Ideal S1x256x1 .f32) (r : Fin 256) :
    k0_pay36 (F := Ideal) (k0_pay31 q k) (k0_pay35 run) (ix3 0 r 0) = run (ix3 0 r 0) + ∑ j : Fin 256, lsn (zt q k r j) :=
  (pay36_apply _ _ _).trans (congrArg (run (ix3 0 r 0) + ·) (Finset.sum_congr rfl fun j _ => pay31_apply q k (ix2 r j)))

/-- The accumulated output after a block, at either head. -/
theorem acc_tile (q k v : Vec Ideal S256x128 .bf16) (run : Vec Ideal S1x256x1 .f32) (acc : Vec Ideal S1x256x128 .f32) (r : Fin 256) (l : Fin 128) :
    k0_pay40 (F := Ideal) v (k0_pay29 q k) (k0_pay31 q k) (k0_pay33 q k0_pay5 k) (k0_pay35 run) acc (ix3 0 r l)
      = acc (ix3 0 r l) + ∑ c : Fin 256, Ideal.exp (zt q k r c + lsn (zt q k r c) + ∑ j : Fin 256, lsn (zt q k r j) * (if c < j then 1 else 0) + run (ix3 0 r 0)) * v (ix2 c l) := by
  refine (pay40_apply _ _ _ _ _ _ _ _).trans (congrArg (acc (ix3 0 r l) + ·) (Finset.sum_congr rfl fun c _ => congrArg (fun t => Ideal.exp t * v (ix2 c l)) ?_))
  rw [pay29_apply, pay31_apply, pay33_apply]
  refine congrArg (fun t => zt q k r c + lsn (zt q k r c) + t + run (ix3 0 r 0)) (Finset.sum_congr rfl fun j _ => ?_)
  exact congrArg₂ (· * ·) (pay31_apply q k (ix2 r j)) (pay5_apply j c)

/-- The running sums after a trip. -/
theorem trip_run (w : BitVec 32) (q0 q1 k v : Vec Ideal S256x128 .bf16) (lt : Vec Ideal S256x256 .bf16) (s : St Ideal) (e : Fin 2) (r : Fin 256) :
    (trip w q0 q1 lt col k v s).run (ix3 e r 0) = s.run (ix3 e r 0) + ∑ j : Fin 256, lsn (zt (pick q0 q1 e) k r j) := by
  have he : e = 0 ∨ e = 1 := by omega
  rcases he with rfl | rfl
  · dsimp only [trip]
    rw [canonN0]
    refine (run_tile q0 k _ r).trans ?_
    rw [ldN0]; rfl
  · dsimp only [trip]
    rw [canonN1]
    refine (run_tile q1 k _ r).trans ?_
    rw [ldN1]; rfl

/-- The accumulated output after a trip. -/
theorem trip_acc (w : BitVec 32) (q0 q1 k v : Vec Ideal S256x128 .bf16) (s : St Ideal) (e : Fin 2) (r : Fin 256) (l : Fin 128) :
    (trip w q0 q1 k0_pay5 col k v s).acc (ix3 e r l) = s.acc (ix3 e r l)
      + ∑ c : Fin 256, Ideal.exp (zt (pick q0 q1 e) k r c + lsn (zt (pick q0 q1 e) k r c)
        + ∑ j : Fin 256, lsn (zt (pick q0 q1 e) k r j) * (if c < j then 1 else 0) + s.run (ix3 e r 0)) * v (ix2 c l) := by
  have he : e = 0 ∨ e = 1 := by omega
  rcases he with rfl | rfl
  · dsimp only [trip]
    rw [canonA0]
    refine (acc_tile q0 k v _ _ r l).trans ?_
    rw [ldN0, ldA0]; rfl
  · dsimp only [trip]
    rw [canonA1]
    refine (acc_tile q1 k v _ _ r l).trans ?_
    rw [ldN1, ldA1]; rfl

/-! ## The diagonal block -/

/-- The masked logarithms of the diagonal block. -/
def ldiag (q k : Vec Ideal S256x128 .bf16) (r j : Fin 256) : EReal := if j < r then lsn (zt q k r j) else 0

/-- They are what the kernel selects. -/
theorem ldiag_apply (i : grid0.Coords) (q k : Vec Ideal S256x128 .bf16) (r j : Fin 256) :
    k0_pay17 (F := Ideal) (strict i) (k0_pay14 q k) k0_pay16 (ix2 r j) = ldiag q k r j := by
  unfold ldiag
  rw [← select_of, ← strict_apply i r j, ← Ideal.ofBits_zero_f32]
  exact congrArg (fun t => Scalar.select (strict i (ix2 r j)) t (Ideal.ofBits .f32 0x00000000#32)) (pay31_apply q k (ix2 r j))

/-- The running sums after the diagonal block, at either head. -/
theorem run_diag (i : grid0.Coords) (q k : Vec Ideal S256x128 .bf16) (run : Vec Ideal S1x256x1 .f32) (r : Fin 256) :
    k0_pay21 (F := Ideal) (strict i) (k0_pay14 q k) k0_pay16 run (ix3 0 r 0) = run (ix3 0 r 0) + ∑ j : Fin 256, ldiag q k r j :=
  (pay36_apply (k0_pay17 (strict i) (k0_pay14 q k) k0_pay16) run r).trans (congrArg (run (ix3 0 r 0) + ·) (Finset.sum_congr rfl fun j _ => ldiag_apply i q k r j))

/-- The accumulated output after the diagonal block, at either head. -/
theorem acc_diag (i : grid0.Coords) (q k v : Vec Ideal S256x128 .bf16) (run : Vec Ideal S1x256x1 .f32) (acc : Vec Ideal S1x256x128 .f32) (r : Fin 256) (l : Fin 128) :
    k0_pay25 (F := Ideal) v (k0_pay22 k0_pay5 (strict i) (k0_pay12 q k) (k0_pay17 (strict i) (k0_pay14 q k) k0_pay16) run) (k0_pay24 acc) (ix3 0 r l)
      = acc (ix3 0 r l) + ∑ c : Fin 256, (if c < r then Ideal.exp (zt q k r c + ldiag q k r c + ∑ j : Fin 256, ldiag q k r j * (if c < j then 1 else 0) + run (ix3 0 r 0)) else 0)
        * v (ix2 c l) := by
  refine (pay25_apply _ _ _ _ _).trans (congrArg (acc (ix3 0 r l) + ·) (Finset.sum_congr rfl fun c _ => congrArg (· * v (ix2 c l)) ?_))
  rw [← select_of, ← strict_apply i r c]
  refine (pay22_apply _ _ _ _ _ _).trans (congrArg (fun t => Scalar.select (strict i (ix2 r c)) (Ideal.exp t) 0) ?_)
  refine congrArg (· + run (ix3 0 r 0)) (congrArg₂ (· + ·) (congrArg₂ (· + ·) (pay29_apply q k (ix2 r c)) (ldiag_apply i q k r c)) (Finset.sum_congr rfl fun j _ => ?_))
  exact congrArg₂ (· * ·) (ldiag_apply i q k r j) (pay5_apply j c)

/-- Head 1's output is computed as head 0's is. -/
theorem pay27_eq (v : Vec Ideal S256x128 .bf16) (a : Vec Ideal S256x256 .f32) (acc : Vec Ideal S1x256x128 .f32) :
    k0_pay27 (F := Ideal) v a acc = k0_pay25 v a (k0_pay24 acc) := rfl

/-- So are its weights. -/
theorem pay23_eq (i : grid0.Coords) (q k : Vec Ideal S256x128 .bf16) (run : Vec Ideal S1x256x1 .f32) :
    k0_pay23 (F := Ideal) k0_pay5 (strict i) (k0_pay13 q k) (k0_pay14 q k) k0_pay16 run
      = k0_pay22 k0_pay5 (strict i) (k0_pay12 q k) (k0_pay17 (strict i) (k0_pay14 q k) k0_pay16) run := rfl

/-- The running sums start from zero. -/
theorem zeroN (y : S2x256x1.Idx) : k0_pay9 (F := Ideal) y = 0 := by
  unfold k0_pay9
  rw [shapeCast_self]
  exact Ideal.ofBits_zero_f32
/-- So does the accumulated output. -/
theorem zeroA (y : S2x256x128.Idx) : k0_pay8 (F := Ideal) y = 0 := by
  unfold k0_pay8
  rw [shapeCast_self]
  exact Ideal.ofBits_zero_f32

/-- The running sums after the diagonal block. -/
theorem first_run (i : grid0.Coords) (q0 q1 k v : Vec Ideal S256x128 .bf16) (e : Fin 2) (r : Fin 256) :
    (first i q0 q1 k v).run (ix3 e r 0) = ∑ j : Fin 256, ldiag (pick q0 q1 e) k r j := by
  have he : e = 0 ∨ e = 1 := by omega
  rcases he with rfl | rfl
  · dsimp only [first]
    rw [canonN0]
    refine (run_diag i q0 k _ r).trans ?_
    rw [ldN0, zeroN, zero_add]; rfl
  · dsimp only [first]
    rw [canonN1]
    refine (run_diag i q1 k _ r).trans ?_
    rw [ldN1, zeroN, zero_add]; rfl

/-- The accumulated output after the diagonal block. -/
theorem first_acc (i : grid0.Coords) (q0 q1 k v : Vec Ideal S256x128 .bf16) (e : Fin 2) (r : Fin 256) (l : Fin 128) :
    (first i q0 q1 k v).acc (ix3 e r l) = ∑ c : Fin 256, (if c < r then Ideal.exp (zt (pick q0 q1 e) k r c + ldiag (pick q0 q1 e) k r c
      + ∑ j : Fin 256, ldiag (pick q0 q1 e) k r j * (if c < j then 1 else 0) + 0) else 0) * v (ix2 c l) := by
  have he : e = 0 ∨ e = 1 := by omega
  rcases he with rfl | rfl
  · dsimp only [first]
    rw [canonA0]
    refine (acc_diag i q0 k v _ _ r l).trans ?_
    rw [ldN0, ldA0, zeroN, zeroA, zero_add]; rfl
  · dsimp only [first]
    rw [canonA1]
    rw [pay27_eq, pay23_eq]
    refine (acc_diag i q1 k v _ _ r l).trans ?_
    rw [ldN1, ldA1, zeroN, zeroA, zero_add]; rfl

end Cert.Sba

end
-- ==== Proof.SbaWalk.lean ====
/- Stick-breaking attention: the walk over the key blocks.  After the diagonal block and `n` trips the running sums and the
   accumulated output are the reference's sums over the keys from the block reached to the last; under the precondition
   the walk reaches the first block. -/
module

public import proofs.«01_k».proof.Proof.SbaTrip

@[expose] public section

set_option maxRecDepth 16384

noncomputable section

namespace Cert.Sba

open Cert.Kernel17Ideal Cert.Kernel17Ideal.Gen Idealize.ShloMosaic Idealize.ShloMosaic.TcCoe Finset

/-- The diagonal block's offsets. -/
theorem off1_eq (i : grid0.Coords) : k0_off1 i = ![256 * (i 1).val, 0] := by
  have h : (i 1).val < 64 := (i 1).isLt
  have e : ((((BitVec.ofNat 32 (i 1).val + 1#32) * 1#32 - 1#32) - 0#32) * 256#32 : BitVec 32).toNat = 256 * (i 1).val := by
    rw [BitVec.mul_one, BitVec.sub_zero, BitVec.add_sub_cancel, show (256#32 : BitVec 32) = BitVec.ofNat 32 256 from rfl, ← BitVec.ofNat_mul, BitVec.toNat_ofNat]
    omega
  show ![_, 0] = _
  rw [← e]
  rfl

/-- The offsets of trip `n`'s block. -/
theorem off2_eq (i : grid0.Coords) (n : ℕ) (hn : n < (i 1).val) : k0_off2 i (BitVec.ofNat 32 n) = ![256 * ((i 1).val - 1 - n), 0] := by
  have h : (i 1).val < 64 := (i 1).isLt
  have e : (Scalar.muli (blockNo i (BitVec.ofNat 32 n)) 256#32 : BitVec 32).toNat = 256 * ((i 1).val - 1 - n) := by
    rw [blockNo, blockWord _ _ hn]
    show (BitVec.ofNat 32 ((i 1).val - 1 - n) * BitVec.ofNat 32 256).toNat = _
    rw [← BitVec.ofNat_mul, BitVec.toNat_ofNat]
    omega
  show ![_, 0] = _
  rw [← e]
  rfl

section Walk

variable (x : Vec Ideal S16384x768 .bf16) (i : grid0.Coords) (x0 : Vec Ideal S256x128 .bf16) (x1 x2 : Vec Ideal S16384x128 .bf16)

/-- The head of the pair `i 0`. -/
abbrev hd (e : Fin 2) : ℕ := 2 * (i 0).val + e.val
/-- The query's number. -/
abbrev qn (r : Fin 256) : ℕ := 256 * (i 1).val + r.val

/-- A block of keys from row `o` on, read at an index. -/
theorem ld_rows (X : Vec Ideal S16384x128 .bf16) (off : Fin 2 → ℕ) (inb) (o : ℕ) (ho : off = ![o, 0]) (c : Fin 256) (l : Fin 128) (hc : o + c.val < 16384) :
    View.ld X (Rect.unit (s := S16384x128) off S256x128.size inb) (ix2 c l) = X (ix2 ⟨o + c.val, hc⟩ l) := by
  subst ho
  exact View.ld_unit_apply_of X _ _ _ _ _ fun a => by fin_cases a <;> first | rfl | exact (Nat.zero_add _).symm

variable (hx0 : ∀ (r : Fin 256) (l : Fin 128), x0 (ix2 r l) = ent x (qn i r) (128 * (i 0).val + l.val))
  (hx1 : ∀ (s : Fin 16384) (l : Fin 128), x1 (ix2 s l) = ent x s.val (256 + (128 * (i 0).val + l.val)))
  (hx2 : ∀ (s : Fin 16384) (l : Fin 128), x2 (ix2 s l) = ent x s.val (512 + (128 * (i 0).val + l.val)))

include hx0 in
/-- A tile of scores is the reference's. -/
theorem zt_eq (k : Vec Ideal S256x128 .bf16) (b : ℕ)
    (hk : ∀ (c : Fin 256) (l : Fin 128), k (ix2 c l) = ent x (256 * b + c.val) (256 + (128 * (i 0).val + l.val))) (e : Fin 2) (r c : Fin 256) :
    zt (pick (hq0 x0) (hq1 x0) e) k r c = score x (hd i e) (qn i r) (256 * b + c.val) := by
  unfold zt score
  rw [Fin.sum_univ_add (a := 64) (b := 64)]
  have he : e = 0 ∨ e = 1 := by omega
  rcases he with rfl | rfl
  · refine Eq.trans (congrArg₂ (· + ·) (Finset.sum_congr rfl fun j _ => ?_) (Finset.sum_eq_zero fun j _ => ?_)) (add_zero _)
    · have hj := j.isLt
      refine congrArg₂ (· * ·) ((hq0_apply x0 r _).trans ((if_pos hj).trans ((hx0 r _).trans ?_))) ((hk c _).trans ?_)
      · exact congrArg (ent x (qn i r)) (by show 128 * (i 0).val + j.val = 64 * (2 * (i 0).val + 0) + j.val; omega)
      · exact congrArg (ent x (256 * b + c.val)) (by show 256 + (128 * (i 0).val + j.val) = 256 + 64 * (2 * (i 0).val + 0) + j.val; omega)
    · refine Eq.trans (congrArg (· * _) ((hq0_apply x0 r _).trans (if_neg ?_))) (zero_mul _)
      show ¬ 64 + j.val < 64
      omega
  · refine Eq.trans (congrArg₂ (· + ·) (Finset.sum_eq_zero fun j _ => ?_) (Finset.sum_congr rfl fun j _ => ?_)) (zero_add _)
    · have hj := j.isLt
      refine Eq.trans (congrArg (· * _) ((hq1_apply x0 r _).trans (if_neg ?_))) (zero_mul _)
      show ¬ 64 ≤ j.val
      omega
    · have h64 : 64 ≤ 64 + j.val := by omega
      refine congrArg₂ (· * ·) ((hq1_apply x0 r _).trans ((if_pos h64).trans ((hx0 r _).trans ?_))) ((hk c _).trans ?_)
      · exact congrArg (ent x (qn i r)) (by show 128 * (i 0).val + (64 + j.val) = 64 * (2 * (i 0).val + 1) + j.val; omega)
      · exact congrArg (ent x (256 * b + c.val)) (by show 256 + (128 * (i 0).val + (64 + j.val)) = 256 + 64 * (2 * (i 0).val + 1) + j.val; omega)

/-- What the buffers hold after the diagonal block and `n` trips. -/
def Inv (n : ℕ) (s : St Ideal) : Prop :=
  ∀ (e : Fin 2) (r : Fin 256),
    s.run (ix3 e r 0) = ∑ t ∈ Ico (256 * ((i 1).val - n)) 16384, lk x (hd i e) (qn i r) t
    ∧ ∀ l : Fin 128, s.acc (ix3 e r l) = ∑ t ∈ Ico (256 * ((i 1).val - n)) 16384,
        att (score x (hd i e) (qn i r)) (lk x (hd i e) (qn i r)) 16384 (qn i r) t * ent x t (512 + (128 * (i 0).val + l.val))

include hx0 in
/-- The diagonal block's logarithms are the reference's. -/
theorem ldiag_eq (k : Vec Ideal S256x128 .bf16)
    (hk : ∀ (c : Fin 256) (l : Fin 128), k (ix2 c l) = ent x (256 * (i 1).val + c.val) (256 + (128 * (i 0).val + l.val))) (e : Fin 2) (r c : Fin 256) :
    ldiag (pick (hq0 x0) (hq1 x0) e) k r c = lk x (hd i e) (qn i r) (256 * (i 1).val + c.val) := by
  unfold ldiag lk
  rw [zt_eq x i x0 hx0 k _ hk]
  exact if_congr (by show c.val < r.val ↔ 256 * (i 1).val + c.val < 256 * (i 1).val + r.val; omega) rfl rfl

include hx0 in
/-- An earlier block's logarithms are the reference's. -/
theorem lsn_zt_eq (k : Vec Ideal S256x128 .bf16) (b : ℕ) (hb : b < (i 1).val)
    (hk : ∀ (c : Fin 256) (l : Fin 128), k (ix2 c l) = ent x (256 * b + c.val) (256 + (128 * (i 0).val + l.val))) (e : Fin 2) (r c : Fin 256) :
    lsn (zt (pick (hq0 x0) (hq1 x0) e) k r c) = lk x (hd i e) (qn i r) (256 * b + c.val) := by
  have hc := c.isLt
  unfold lk
  rw [zt_eq x i x0 hx0 k b hk, if_pos (by show 256 * b + c.val < 256 * (i 1).val + r.val; omega)]

/-- Keys from the query on leave the whole stick. -/
theorem lk_after (e : Fin 2) (r : Fin 256) (t : ℕ) (ht : 256 * ((i 1).val + 1) ≤ t) : lk x (hd i e) (qn i r) t = 0 := by
  have hr := r.isLt
  exact if_neg (by show ¬ t < 256 * (i 1).val + r.val; omega)

/-- Nor have they weight. -/
theorem att_after (e : Fin 2) (r : Fin 256) (t : ℕ) (ht : 256 * ((i 1).val + 1) ≤ t) :
    att (score x (hd i e) (qn i r)) (lk x (hd i e) (qn i r)) 16384 (qn i r) t = 0 := by
  have hr := r.isLt
  exact if_neg (by show ¬ t < 256 * (i 1).val + r.val; omega)

include hx0 in
/-- After the diagonal block. -/
theorem inv_first (k v : Vec Ideal S256x128 .bf16)
    (hk : ∀ (c : Fin 256) (l : Fin 128), k (ix2 c l) = ent x (256 * (i 1).val + c.val) (256 + (128 * (i 0).val + l.val)))
    (hv : ∀ (c : Fin 256) (l : Fin 128), v (ix2 c l) = ent x (256 * (i 1).val + c.val) (512 + (128 * (i 0).val + l.val))) :
    Inv x i 0 (first i (hq0 x0) (hq1 x0) k v) := by
  have hi : (i 1).val < 64 := (i 1).isLt
  intro e r
  rw [Nat.sub_zero]
  constructor
  · rw [first_run, ← sum_join _ (show 256 * (i 1).val ≤ 256 * ((i 1).val + 1) by omega) (show 256 * ((i 1).val + 1) ≤ 16384 by omega),
      Finset.sum_eq_zero (s := Ico (256 * ((i 1).val + 1)) 16384) (fun t ht => lk_after x i e r t (Finset.mem_Ico.mp ht).1), add_zero, ← sum_block]
    exact Finset.sum_congr rfl fun j _ => ldiag_eq x i x0 hx0 k hk e r j
  · intro l
    rw [first_acc, ← sum_join _ (show 256 * (i 1).val ≤ 256 * ((i 1).val + 1) by omega) (show 256 * ((i 1).val + 1) ≤ 16384 by omega),
      Finset.sum_eq_zero (s := Ico (256 * ((i 1).val + 1)) 16384) (fun t ht => by rw [att_after x i e r t (Finset.mem_Ico.mp ht).1, zero_mul]), add_zero,
      ← diag_acc _ _ (fun t => ent x t (512 + (128 * (i 0).val + l.val))) 16384 (qn i r) (i 1).val (by omega) (fun t ht => lk_after x i e r t ht)]
    refine Finset.sum_congr rfl fun c _ => ?_
    rw [hv]
    refine congrArg (· * _) (if_congr (by show c.val < r.val ↔ 256 * (i 1).val + c.val < 256 * (i 1).val + r.val; omega) ?_ rfl)
    rw [zt_eq x i x0 hx0 k _ hk, ldiag_eq x i x0 hx0 k hk]
    refine congrArg (fun t => Ideal.exp (_ + t + 0)) (Finset.sum_congr rfl fun j _ => ?_)
    rw [ldiag_eq x i x0 hx0 k hk]
    rfl

include hx0 in
/-- After one more trip. -/
theorem inv_trip (w : BitVec 32) (n : ℕ) (hn : n < (i 1).val) (k v : Vec Ideal S256x128 .bf16) (s : St Ideal) (hs : Inv x i n s)
    (hk : ∀ (c : Fin 256) (l : Fin 128), k (ix2 c l) = ent x (256 * ((i 1).val - 1 - n) + c.val) (256 + (128 * (i 0).val + l.val)))
    (hv : ∀ (c : Fin 256) (l : Fin 128), v (ix2 c l) = ent x (256 * ((i 1).val - 1 - n) + c.val) (512 + (128 * (i 0).val + l.val))) :
    Inv x i (n + 1) (trip w (hq0 x0) (hq1 x0) k0_pay5 col k v s) := by
  have hi : (i 1).val < 64 := (i 1).isLt
  obtain ⟨b, hb⟩ : ∃ b, b = (i 1).val - 1 - n := ⟨_, rfl⟩
  rw [← hb] at hk hv
  have hbi : b < (i 1).val := by omega
  intro e r
  obtain ⟨h1, h2⟩ := hs e r
  rw [show (i 1).val - n = b + 1 by omega] at h1 h2
  rw [show (i 1).val - (n + 1) = b by omega]
  constructor
  · rw [trip_run, h1, ← sum_join _ (show 256 * b ≤ 256 * (b + 1) by omega) (show 256 * (b + 1) ≤ 16384 by omega), ← sum_block, add_comm]
    exact congrArg (· + _) (Finset.sum_congr rfl fun j _ => lsn_zt_eq x i x0 hx0 k b hbi hk e r j)
  · intro l
    rw [trip_acc, h1, h2 l, ← sum_join _ (show 256 * b ≤ 256 * (b + 1) by omega) (show 256 * (b + 1) ≤ 16384 by omega), add_comm,
      ← step_acc _ _ (fun t => ent x t (512 + (128 * (i 0).val + l.val))) 16384 (qn i r) b (by show 256 * (b + 1) ≤ 256 * (i 1).val + r.val; omega) (by omega)]
    refine congrArg (· + _) (Finset.sum_congr rfl fun c _ => ?_)
    rw [hv]
    refine congrArg (fun t => Ideal.exp t * _) ?_
    rw [lsn_zt_eq x i x0 hx0 k b hbi hk, zt_eq x i x0 hx0 k b hk]
    refine congrArg (fun t => _ + t + _) (Finset.sum_congr rfl fun j _ => ?_)
    rw [lsn_zt_eq x i x0 hx0 k b hbi hk]
    rfl

variable [Cert.Pre_kept.Facts] (hx : Cert.Pre_kept.fn (F := Ideal) x = fun _ => 1#1)

include hx in
/-- While a block is left, some query's running sum is no smaller than the threshold. -/
theorem run_ge (n : ℕ) (hn : n < (i 1).val) (s : St Ideal) (hs : Inv x i n s) :
    ∃ (e : Fin 2) (r : Fin 256), Ideal.ofBits .f32 0xC2D00000#32 ≤ s.run (ix3 e r 0) := by
  obtain ⟨e, r, h⟩ := kept x hx (i 0) (i 1)
  refine ⟨e, r, h.trans ?_⟩
  rw [(hs e r).1]
  exact sum_le _ (fun t => lk_nonpos x _ _ t) (by omega)

/-- A maximum that is no smaller than the threshold lets the walk go on. -/
theorem go_of_ge (run : Vec Ideal S2x256x1 .f32) (e : Fin 2) (r : Fin 256) (h : Ideal.ofBits .f32 0xC2D00000#32 ≤ run (ix3 e r 0)) :
    enters run = 1#1 ∧ goes run = 1#1 := by
  have hm : Ideal.ofBits .f32 0xC2D00000#32 ≤ k0_pay1 (F := Ideal) (View.ld run n0) (View.ld run n1) := by
    obtain ⟨ha, hb⟩ := pay1_ge (View.ld run n0) (View.ld run n1) r
    rw [ldN0] at ha
    rw [ldN1] at hb
    have he : e = 0 ∨ e = 1 := by omega
    rcases he with rfl | rfl
    · exact h.trans ha
    · exact h.trans hb
  have hg : enters run = 1#1 := (WordCmp.ofBool_decide_eq_one_iff (Ideal.ofBits .f32 0xC2D00000#32 ≤ k0_pay1 (F := Ideal) (View.ld run n0) (View.ld run n1))).mpr hm
  exact ⟨hg, hg⟩

include hx0 hx1 hx2 hx in
/-- The loop reaches the first block. -/
theorem inv_loop : ∀ (fuel n : ℕ), n + fuel = (i 1).val → ∀ (go : BitVec 1) (s : St Ideal), (n < (i 1).val → go = 1#1) → Inv x i n s →
    Inv x i (i 1).val (loop i (hq0 x0) (hq1 x0) k0_pay5 col x1 x2 fuel n go s)
  | 0, n, hn, go, s, _, hs => by
    rw [Nat.add_zero] at hn
    rw [hn] at hs
    exact hs
  | fuel + 1, n, hn, go, s, hgo, hs => by
    have hi : (i 1).val < 64 := (i 1).isLt
    have hlt : n < (i 1).val := by omega
    have hchk : k0_chk1 i (BitVec.ofNat 32 n) := chk_of_lt i ⟨n, by omega⟩ hlt
    rw [show loop i (hq0 x0) (hq1 x0) k0_pay5 col x1 x2 (fuel + 1) n go s = _ from dif_pos ⟨hgo hlt, hchk⟩]
    have hs' := inv_trip x i x0 hx0 (blockNo i (BitVec.ofNat 32 n)) n hlt (View.ld x1 (kt i _ hchk)) (View.ld x2 (kt i _ hchk)) s hs
      (fun c l => (ld_rows x1 _ _ _ (off2_eq i n hlt) c l (by have := c.isLt; omega)).trans (hx1 _ l))
      (fun c l => (ld_rows x2 _ _ _ (off2_eq i n hlt) c l (by have := c.isLt; omega)).trans (hx2 _ l))
    refine inv_loop fuel (n + 1) (by omega) _ _ (fun h => ?_) hs'
    obtain ⟨e, r, hr⟩ := run_ge x i hx (n + 1) h _ hs'
    exact (go_of_ge _ e r hr).2

include hx0 hx1 hx2 hx in
/-- What the buffers hold at the end: the sums over all the keys. -/
theorem inv_final : Inv x i (i 1).val (final i x0 x1 x2) := by
  have hi : (i 1).val < 64 := (i 1).isLt
  have h0 := inv_first x i x0 hx0 (View.ld x1 (kd i)) (View.ld x2 (kd i))
    (fun c l => (ld_rows x1 _ _ _ (off1_eq i) c l (by have := c.isLt; omega)).trans (hx1 _ l))
    (fun c l => (ld_rows x2 _ _ _ (off1_eq i) c l (by have := c.isLt; omega)).trans (hx2 _ l))
  refine inv_loop x i x0 x1 x2 hx0 hx1 hx2 hx (i 1).val 0 (Nat.zero_add _) _ _ (fun h => ?_) h0
  obtain ⟨e, r, hr⟩ := run_ge x i hx 0 h _ h0
  exact (go_of_ge _ e r hr).1

include hx0 hx1 hx2 hx in
/-- The block of outputs is the reference's. -/
theorem out_block (r : Fin 256) (l : Fin 128) :
    out0_3 i x0 x1 x2 (ix2 r l) = out x ((128 * (i 0).val + l.val) / 64) (qn i r) ((128 * (i 0).val + l.val) % 64) := by
  have hl := l.isLt
  have hf := inv_final x i x0 x1 x2 hx0 hx1 hx2 hx
  unfold out0_3
  rw [View.canon_cons_unit_lit _ _ _ (by decide), pay2_apply, ldA0, ldA1, (hf 0 r).2 l, (hf 1 r).2 l, Nat.sub_self, Nat.mul_zero]
  unfold out
  by_cases h : l.val < 64
  · rw [if_pos h, show (128 * (i 0).val + l.val) / 64 = hd i 0 by show _ = 2 * (i 0).val + 0; omega]
    rw [show 512 + (128 * (i 0).val + l.val) = 512 + 64 * hd i 0 + (128 * (i 0).val + l.val) % 64 by
      show _ = 512 + 64 * (2 * (i 0).val + 0) + _; omega]
  · rw [if_neg h, show (128 * (i 0).val + l.val) / 64 = hd i 1 by show _ = 2 * (i 0).val + 1; omega]
    rw [show 512 + (128 * (i 0).val + l.val) = 512 + 64 * hd i 1 + (128 * (i 0).val + l.val) % 64 by
      show _ = 512 + 64 * (2 * (i 0).val + 1) + _; omega]

end Walk

end Cert.Sba

end
-- ==== Proof.Sba.lean ====
/- Stick-breaking attention: under its precondition, the kernel's output is the reference's. -/
module

public import proofs.«01_k».proof.Proof.SbaFrameIdeal
public import proofs.«01_k».proof.Proof.SbaWalk
public import proofs.«01_k».proof.Proof.Gen.Reference17Ideal.Read
public import proofs.«01_k».proof.Defs

@[expose] public section

set_option maxRecDepth 16384

noncomputable section

namespace Cert.Kernel17Ideal.Sba

open Cert.Kernel17Ideal Cert.Kernel17Ideal.Gen Cert.Sba Idealize.ShloMosaic Idealize.ShloMosaic.TcCoe
open Idealize.ShloMosaic.Pipeline (Dat)

variable (m : (ℓ : Loc nD τ sig) → Buf (Elt Ideal) ℓ)

/-- The blocks' positions at a grid point: the pair of heads and the block of queries. -/
theorem idx : ∀ t : Fin grid0.N, win0_0.index t = ![(grid0.coords t 1).val, (grid0.coords t 0).val] ∧ win0_1.index t = ![0, 2 + (grid0.coords t 0).val]
    ∧ win0_2.index t = ![0, 4 + (grid0.coords t 0).val] ∧ win0_3.index t = ![(grid0.coords t 1).val, (grid0.coords t 0).val] :=
  (by decide +kernel : ∀ t : Fin grid0.N, _)

set_option backward.isDefEq.respectTransparency false in
/-- The output's array after the run. -/
theorem final_out [Cert.Pre_kept.Facts] (c : Dev nD) (hx : Cert.Pre_kept.fn (F := Ideal) (m ((c : Thread nD τ).loc main_arg0)) = fun _ => 1#1) :
    (dats m 0 c).arrAt 3 grid0.N = G (m ((c : Thread nD τ).loc main_arg0)) := by
  refine Dat.arrAt_eq_of_covers (dats m 0 c) 3 (G (m ((c : Thread nD τ).loc main_arg0))) (by decide +kernel) fun t hf y => ?_
  have hp : (grid0.coords t 0).val < 2 := (grid0.coords t 0).isLt
  have hq : (grid0.coords t 1).val < 64 := (grid0.coords t 1).isLt
  blk_simp
  rw [after0_3]
  have hx0 : ∀ (r : Fin 256) (l : Fin 128), iblk m c 0 t (ix2 r l) = ent (m ((c : Thread nD τ).loc main_arg0)) (qn (grid0.coords t) r) (128 * (grid0.coords t 0).val + l.val) := by
    intro r l
    have hr := r.isLt
    have hl := l.isLt
    rw [ent_of _ _ _ (by show 256 * _ + r.val < 16384; omega) (by omega)]
    blk_point [iblk, V, idx t]
    show (grid0.coords t 1).val * 256 + r.val = 256 * (grid0.coords t 1).val + r.val
    omega
  have hx1 : ∀ (s : Fin 16384) (l : Fin 128), iblk m c 1 t (ix2 s l) = ent (m ((c : Thread nD τ).loc main_arg0)) s.val (256 + (128 * (grid0.coords t 0).val + l.val)) := by
    intro s l
    have hl := l.isLt
    rw [ent_of _ _ _ s.isLt (by omega)]
    blk_point [iblk, V, idx t]
  have hx2 : ∀ (s : Fin 16384) (l : Fin 128), iblk m c 2 t (ix2 s l) = ent (m ((c : Thread nD τ).loc main_arg0)) s.val (512 + (128 * (grid0.coords t 0).val + l.val)) := by
    intro s l
    have hl := l.isLt
    rw [ent_of _ _ _ s.isLt (by omega)]
    blk_point [iblk, V, idx t]
  obtain ⟨r, l, rfl⟩ : ∃ (r : Fin 256) (l : Fin 128), y = ix2 r l := ⟨y 0, y 1, (ix2_eta y).symm⟩
  refine (out_block _ _ _ _ _ hx0 hx1 hx2 hx r l).trans ?_
  unfold G
  have e0 : ((win0_3.blk t).view.emb (ix2 r l) 0 : Nat) = 256 * (grid0.coords t 1).val + r.val := by
    rw [Nat.mul_comm 256]
    blk_point [idx t]
  have e1 : ((win0_3.blk t).view.emb (ix2 r l) 1 : Nat) = 128 * (grid0.coords t 0).val + l.val := by
    rw [Nat.mul_comm 128]
    blk_point [idx t]
  rw [e0, e1]

/-- The output agrees with the reference's, at all arguments that satisfy the precondition. -/
theorem claim [Cert.Pre_kept.Facts] : Cert.algebraic_Kernel17Ideal_Reference17Ideal_pre_kept := by
  intro m ρ m' ρ' hpre hagree
  refine ⟨fun c => G (m ((c : Thread nD τ).loc main_arg0)),
    (θ_run defs _ _).mono (fun r h c => ⟨((h c).1 3).trans (final_out m c (hpre c)), ((h c).1 0).trans (((dats m 0 c).arrAt_in 0 rfl _).trans (A_eq m c 0))⟩)
      (run_main m ρ), ?_⟩
  refine (θ_run Cert.Reference17Ideal.defs _ _).mono (fun _ h c => ⟨(h c).1.trans ?_, (h c).2⟩)
    (Cert.Reference17Ideal.Value.run (F := Ideal) m' ρ')
  exact (Cert.Reference17Ideal.Read.val_main_v29_eq m' c).trans ((reference _).trans (congrArg G (hagree c)))

end Cert.Kernel17Ideal.Sba

end
-- ==== Proof.Norm.lean ====
/- The normalisation of a row of 1024 by its root mean square, and its gradient: the form a kernel computes and the form the
   reference computes give the same real number at real rows. -/
module

public import proofs.«01_k».proof.Proof.Reals

@[expose] public section

noncomputable section

namespace Cert.Norm

open Cert.Reals Idealize.ShloMosaic

/-! ## One row -/

/-- The mean of the squares of a row, and the small constant. -/
def ms (A : Fin 1024 → EReal) : EReal :=
  Ideal.div (∑ x, A x * A x) (Ideal.ofBits .f32 0x44800000#32) + Ideal.ofBits .f32 0x358637BD#32

/-- The reciprocal of the root mean square of a row. -/
def rinv (A : Fin 1024 → EReal) : EReal := Ideal.rsqrt (ms A)

/-- The normalised row. -/
def nrm (A : Fin 1024 → EReal) (j : Fin 1024) : EReal := A j * rinv A

/-- The gradient of the row from the gradient `U` of the normalised row, as a kernel computes it. -/
def kgrad (A U : Fin 1024 → EReal) (j : Fin 1024) : EReal :=
  rinv A * (U j - nrm A j * Ideal.div (∑ x, nrm A x * U x) (Ideal.ofBits .f32 0x44800000#32))

/-- The factor of the row in its gradient, as the reference computes it. -/
def rpart (A U : Fin 1024 → EReal) : EReal :=
  ∑ _x : Fin 1, Ideal.div ((∑ x, A x * U x) * (Ideal.ofBits .f32 0xBF000000#32 * Ideal.div (rinv A) (ms A)))
    (Ideal.ofBits .f32 0x44800000#32)

/-- The gradient of the row from the gradient `U` of the normalised row, as the reference computes it. -/
def rgrad (A U : Fin 1024 → EReal) (j : Fin 1024) : EReal := U j * rinv A + A j * rpart A U + rpart A U * A j

/-- The number of columns as a real number. -/
theorem cols_real : Ideal.ofBits .f32 0x44800000#32 = ((1024 : ℝ) : EReal) := by
  simp [Ideal.ofBits, Ideal.ieee, -EReal.coe_mul]; norm_num

/-- The mean of squares of a real row is a positive real number. -/
theorem ms_real (A : Fin 1024 → ℝ) : ∃ M : ℝ, 0 < M ∧ ms (fun x => (A x : EReal)) = M := by
  have e2 : ∃ e : ℝ, 0 < e ∧ Ideal.ofBits .f32 0x358637BD#32 = (e : EReal) := by
    refine ⟨_, ?_, by simp [Ideal.ofBits, Ideal.ieee, -EReal.coe_mul]; rfl⟩
    positivity
  obtain ⟨e, he, e2⟩ := e2
  refine ⟨(∑ x, A x * A x) / 1024 + e, ?_, ?_⟩
  · have : 0 ≤ ∑ x, A x * A x := Finset.sum_nonneg fun x _ => mul_self_nonneg _
    positivity
  · unfold ms
    rw [cols_real, e2]
    simp only [← EReal.coe_mul, sum_real]
    rw [div_real _ _ (by norm_num), ← EReal.coe_add]

/-- The two forms of the gradient are one real number at real rows. -/
theorem grad_eq (A U : Fin 1024 → ℝ) (j : Fin 1024) :
    ∃ g : ℝ, kgrad (fun x => (A x : EReal)) (fun x => (U x : EReal)) j = g
      ∧ rgrad (fun x => (A x : EReal)) (fun x => (U x : EReal)) j = g := by
  obtain ⟨M, hM, e⟩ := ms_real A
  have e3 : Ideal.ofBits .f32 0xBF000000#32 = ((-1/2 : ℝ) : EReal) := by
    simp [Ideal.ofBits, Ideal.ieee, -EReal.coe_mul]; norm_num
  unfold kgrad rgrad rpart nrm rinv
  rw [e, cols_real, e3, rsqrt_real M hM, div_real _ _ hM.ne']
  simp only [← EReal.coe_mul, sum_real]
  rw [div_real _ _ (by norm_num), div_real _ _ (by norm_num)]
  simp only [← EReal.coe_mul, sum_real, ← EReal.coe_add, ← EReal.coe_sub]
  refine ⟨_, rfl, ?_⟩
  congr 1
  have hs : √M * √M = M := Real.mul_self_sqrt hM.le
  have hp : 0 < √M := Real.sqrt_pos.mpr hM
  have hx : ∑ x, A x * (√M)⁻¹ * U x = (√M)⁻¹ * ∑ x, A x * U x := by
    rw [Finset.mul_sum]; exact Finset.sum_congr rfl fun x _ => by ring
  rw [hx]
  generalize ∑ x, A x * U x = S
  simp only [Finset.univ_unique, Finset.sum_singleton]
  generalize √M = q at hs hp ⊢
  subst hs
  field_simp
  ring

/-- A row that holds real numbers. -/
def IsReal (A : Fin 1024 → EReal) : Prop := ∃ a : Fin 1024 → ℝ, A = fun j => (a j : EReal)

/-- The products of two real rows are a real row. -/
theorem IsReal.mul {A B : Fin 1024 → EReal} (hA : IsReal A) (hB : IsReal B) : IsReal fun j => A j * B j := by
  obtain ⟨a, rfl⟩ := hA
  obtain ⟨b, rfl⟩ := hB
  exact ⟨fun j => a j * b j, funext fun j => (EReal.coe_mul _ _).symm⟩

/-- The sums of two real rows are a real row. -/
theorem IsReal.add {A B : Fin 1024 → EReal} (hA : IsReal A) (hB : IsReal B) : IsReal fun j => A j + B j := by
  obtain ⟨a, rfl⟩ := hA
  obtain ⟨b, rfl⟩ := hB
  exact ⟨fun j => a j + b j, funext fun j => (EReal.coe_add _ _).symm⟩

/-- The row whose entries are all one. -/
theorem isReal_one : IsReal fun _ => (1 : EReal) := ⟨fun _ => 1, funext fun _ => EReal.coe_one.symm⟩

/-- The two forms of the gradient agree at real rows. -/
theorem grad {A U : Fin 1024 → EReal} (hA : IsReal A) (hU : IsReal U) : rgrad A U = kgrad A U := by
  obtain ⟨a, rfl⟩ := hA
  obtain ⟨u, rfl⟩ := hU
  funext j
  obtain ⟨g, h1, h2⟩ := grad_eq a u j
  exact h2.trans h1.symm

/-- The gradient at real rows is a real row. -/
theorem kgrad_real {A U : Fin 1024 → EReal} (hA : IsReal A) (hU : IsReal U) : IsReal (kgrad A U) := by
  obtain ⟨a, rfl⟩ := hA
  obtain ⟨u, rfl⟩ := hU
  choose g h1 h2 using fun j => grad_eq a u j
  exact ⟨g, funext h1⟩

/-! ## The two layers the step normalises in -/

/-- The gradient that reaches the normalised row when the result is the normalised row times `g` times one more than `s`. -/
def ahead (d g s : Fin 1024 → EReal) (j : Fin 1024) : EReal := d j * (1 + s j) * g j

/-- A row's part of the scale's gradient. -/
def kds (d x g : Fin 1024 → EReal) (j : Fin 1024) : EReal := d j * (nrm x j * g j)

/-- A row's part of the gradient of the norm's weight. -/
def kdg (d x s : Fin 1024 → EReal) (j : Fin 1024) : EReal := d j * (1 + s j) * nrm x j

/-- A row of the layer's input gradient, added to what reached the input otherwise. -/
def kdx (d x i g s : Fin 1024 → EReal) (j : Fin 1024) : EReal := i j + kgrad x (ahead d g s) j

/-- The gradient that reaches the normalised row when the result is `t` times the normalised row times `g`. -/
def behind (d t g : Fin 1024 → EReal) (j : Fin 1024) : EReal := d j * t j * g j

/-- A row's part of the gate's gradient. -/
def kdt (d f g : Fin 1024 → EReal) (j : Fin 1024) : EReal := d j * (nrm f j * g j)

/-- A row's part of the gradient of the second norm's weight. -/
def kdp (d f t : Fin 1024 → EReal) (j : Fin 1024) : EReal := d j * t j * nrm f j

/-- What reaches the normalised row is real at real rows. -/
theorem ahead_real {d g s : Fin 1024 → EReal} (hd : IsReal d) (hg : IsReal g) (hs : IsReal s) : IsReal (ahead d g s) :=
  (hd.mul (isReal_one.add hs)).mul hg

/-- What reaches the second normalised row is real at real rows. -/
theorem behind_real {d t g : Fin 1024 → EReal} (hd : IsReal d) (ht : IsReal t) (hg : IsReal g) : IsReal (behind d t g) := (hd.mul ht).mul hg

/-- The layer's input gradient is real at real rows. -/
theorem kdx_real {d x i g s : Fin 1024 → EReal} (hd : IsReal d) (hx : IsReal x) (hi : IsReal i) (hg : IsReal g) (hs : IsReal s) :
    IsReal (kdx d x i g s) := hi.add (kgrad_real hx (ahead_real hd hg hs))

/-! ## Blocks of 512 rows -/

/-- The row of the whole arrays at place `p` of block `t`. -/
def row (t : Fin 32) (p : Fin 512) : Fin 16384 := ⟨512 * t.val + p.val, by omega⟩

/-- The 32 blocks of 512 rows are all the rows. -/
theorem sum_rows (F : Fin 16384 → EReal) : ∑ s : Fin 32, ∑ p : Fin 512, F (row s p) = ∑ r : Fin 16384, F r :=
  sum_blocks (n := 32) (b := 512) (by norm_num) F

end Cert.Norm

end
-- ==== Proof.NormMod.lean ====
/- The gradients of the normalisation before a layer: at real arguments the gradients of the residual stream, the scale, the
   shift and the norm's weight are the reference's. -/
module

public import proofs.«01_k».proof.Proof.Gen.Kernel18Ideal.Value
public import proofs.«01_k».proof.Proof.Gen.Reference18Ideal.Read
public import proofs.«01_k».proof.Proof.Norm
public import proofs.«01_k».proof.Defs
public import Idealize.ShloMosaic.Lib.Pipeline.ValueKit
public import Idealize.ShloMosaic.Lib.Claim

@[expose] public section

set_option maxRecDepth 16384

noncomputable section

namespace Cert.Kernel18Ideal.NormMod

open Cert.Kernel18Ideal Cert.Kernel18Ideal.Gen Cert.Norm Cert.Reals Idealize.ShloMosaic Idealize.ShloMosaic.TcCoe
open Idealize.ShloMosaic.Pipeline (Dat)

/-- A row of an array. -/
abbrev rw0 {n : Nat} (x : Vec Ideal (⟨2, ![n, 1024]⟩ : Shape) .f32) (r : Fin n) (j : Fin 1024) : EReal := x (ix2 r j)

/-! ## A row's results from the rows of the arguments -/

/-- The gradient of the residual stream. -/
def E5 {n : Nat} (x0 x1 x2 : Vec Ideal (⟨2, ![n, 1024]⟩ : Shape) .f32) (x3 x4 : Vec Ideal S1x1024 .f32) (r : Fin n) (j : Fin 1024) : EReal :=
  kdx (rw0 x0 r) (rw0 x1 r) (rw0 x2 r) (rw0 x3 0) (rw0 x4 0) j

/-- A row's part of the scale's gradient. -/
def E6 {n : Nat} (x0 x1 : Vec Ideal (⟨2, ![n, 1024]⟩ : Shape) .f32) (x3 : Vec Ideal S1x1024 .f32) (r : Fin n) (j : Fin 1024) : EReal :=
  kds (rw0 x0 r) (rw0 x1 r) (rw0 x3 0) j

/-- A row's part of the shift's gradient. -/
def E7 {n : Nat} (x0 : Vec Ideal (⟨2, ![n, 1024]⟩ : Shape) .f32) (r : Fin n) (j : Fin 1024) : EReal :=
  (rw0 x0 r) j

/-- A row's part of the gradient of the norm's weight. -/
def E8 {n : Nat} (x0 x1 : Vec Ideal (⟨2, ![n, 1024]⟩ : Shape) .f32) (x4 : Vec Ideal S1x1024 .f32) (r : Fin n) (j : Fin 1024) : EReal :=
  kdg (rw0 x0 r) (rw0 x1 r) (rw0 x4 0) j

/-! ## What a point stores -/

set_option backward.isDefEq.respectTransparency false in
/-- The gradient of the residual stream, as a point stores it. -/
theorem pay5 (x0 x1 x2 : Vec Ideal S512x1024 .f32) (x3 x4 : Vec Ideal S1x1024 .f32) (p : Fin 512) (j : Fin 1024) :
    k0_pay4 x0 x3 (k0_pay5 x1) (k0_pay6 x1) x4 x2 (ix2 p j) = E5 x0 x1 x2 x3 x4 p j := by
  unfold E5 rw0
  simp only [kds, kdg, kdx, kdt, kdp, ahead, behind, kgrad, nrm, rinv, ms]
  pointwise [k0_pay1, k0_pay2, k0_pay3, k0_pay4, k0_pay5, k0_pay6, k0_pay7, k0_pay8, k0_pay9, k0_pay10]

set_option backward.isDefEq.respectTransparency false in
/-- A row's part of the scale's gradient, added over the rows of a point to what was there. -/
theorem pay6 (x0 x1 : Vec Ideal S512x1024 .f32) (x3 : Vec Ideal S1x1024 .f32) (o : Vec Ideal S1x1024 .f32) (j : Fin 1024) :
    k0_pay8 x1 x0 x3 o (ix2 0 j) = o (ix2 0 j) + ∑ p : Fin 512, E6 x0 x1 x3 p j := by
  unfold E6 rw0
  simp only [kds, kdg, kdx, kdt, kdp, ahead, behind, kgrad, nrm, rinv, ms]
  pointwise [k0_pay1, k0_pay2, k0_pay3, k0_pay4, k0_pay5, k0_pay6, k0_pay7, k0_pay8, k0_pay9, k0_pay10]

set_option backward.isDefEq.respectTransparency false in
/-- A row's part of the shift's gradient, added over the rows of a point to what was there. -/
theorem pay7 (x0 : Vec Ideal S512x1024 .f32) (o : Vec Ideal S1x1024 .f32) (j : Fin 1024) :
    k0_pay10 x0 o (ix2 0 j) = o (ix2 0 j) + ∑ p : Fin 512, E7 x0 p j := by
  unfold E7 rw0
  pointwise [k0_pay1, k0_pay2, k0_pay3, k0_pay4, k0_pay5, k0_pay6, k0_pay7, k0_pay8, k0_pay9, k0_pay10]

set_option backward.isDefEq.respectTransparency false in
/-- A row's part of the gradient of the norm's weight, added over the rows of a point to what was there. -/
theorem pay8 (x0 x1 : Vec Ideal S512x1024 .f32) (x4 : Vec Ideal S1x1024 .f32) (o : Vec Ideal S1x1024 .f32) (j : Fin 1024) :
    k0_pay3 x0 (k0_pay6 x1) x4 o (ix2 0 j) = o (ix2 0 j) + ∑ p : Fin 512, E8 x0 x1 x4 p j := by
  unfold E8 rw0
  simp only [kds, kdg, kdx, kdt, kdp, ahead, behind, kgrad, nrm, rinv, ms]
  pointwise [k0_pay1, k0_pay2, k0_pay3, k0_pay4, k0_pay5, k0_pay6, k0_pay7, k0_pay8, k0_pay9, k0_pay10]

variable (m : (ℓ : Loc nD τ sig) → Buf (Elt Ideal) ℓ)

/-! ## Blocks of rows: point `t` works on the block of rows `t` -/

/-- The blocks' positions at a grid point. -/
theorem idx : ∀ t : Fin cfg0.N, t.val < 32
    ∧ win0_0.index t = ![t.val, 0]
    ∧ win0_1.index t = ![t.val, 0]
    ∧ win0_2.index t = ![t.val, 0]
    ∧ win0_3.index t = ![0, 0]
    ∧ win0_4.index t = ![0, 0]
    ∧ win0_5.index t = ![t.val, 0]
    ∧ win0_6.index t = ![0, 0]
    ∧ win0_7.index t = ![0, 0]
    ∧ win0_8.index t = ![0, 0] :=
  (by decide +kernel : ∀ t : Fin grid0.N, _)

set_option backward.isDefEq.respectTransparency false in
/-- The gradient of the layer's input: row `p` of a point's block is the whole array's row. -/
theorem b0 (c : Dev nD) (t : Fin cfg0.N) (p : Fin 512) (j : Fin 1024) :
    (iblk m c 0 t : Vec Ideal S512x1024 .f32) (ix2 p j) = rw0 (n := 16384) (m ((c : Thread nD τ).loc main_arg0)) (row ⟨t.val, (idx t).1⟩ p) j := by
  unfold row
  blk_ext! [iblk, V, idx t]

set_option backward.isDefEq.respectTransparency false in
/-- The residual stream: row `p` of a point's block is the whole array's row. -/
theorem b1 (c : Dev nD) (t : Fin cfg0.N) (p : Fin 512) (j : Fin 1024) :
    (iblk m c 1 t : Vec Ideal S512x1024 .f32) (ix2 p j) = rw0 (n := 16384) (m ((c : Thread nD τ).loc main_arg1)) (row ⟨t.val, (idx t).1⟩ p) j := by
  unfold row
  blk_ext! [iblk, V, idx t]

set_option backward.isDefEq.respectTransparency false in
/-- The gradient that reaches the residual stream otherwise: row `p` of a point's block is the whole array's row. -/
theorem b2 (c : Dev nD) (t : Fin cfg0.N) (p : Fin 512) (j : Fin 1024) :
    (iblk m c 2 t : Vec Ideal S512x1024 .f32) (ix2 p j) = rw0 (n := 16384) (m ((c : Thread nD τ).loc main_arg2)) (row ⟨t.val, (idx t).1⟩ p) j := by
  unfold row
  blk_ext! [iblk, V, idx t]

set_option backward.isDefEq.respectTransparency false in
/-- The norm's weight: every point's block is the whole of it. -/
theorem b3 (c : Dev nD) (t : Fin cfg0.N) (j : Fin 1024) :
    (iblk m c 3 t : Vec Ideal S1x1024 .f32) (ix2 0 j) = rw0 (n := 1) (m ((c : Thread nD τ).loc main_arg3)) 0 j := by
  blk_ext! [iblk, V, idx t]

set_option backward.isDefEq.respectTransparency false in
/-- The scale: every point's block is the whole of it. -/
theorem b4 (c : Dev nD) (t : Fin cfg0.N) (j : Fin 1024) :
    (iblk m c 4 t : Vec Ideal S1x1024 .f32) (ix2 0 j) = rw0 (n := 1) (m ((c : Thread nD τ).loc main_arg4)) 0 j := by
  blk_ext! [iblk, V, idx t]

set_option backward.isDefEq.respectTransparency false in
/-- The gradient of the residual stream: the row of a point's blocks gives what the whole arrays' row gives. -/
theorem e5 (c : Dev nD) (t : Fin cfg0.N) (p : Fin 512) (j : Fin 1024) :
    E5 (n := 512) (iblk m c 0 t) (iblk m c 1 t) (iblk m c 2 t) (iblk m c 3 t) (iblk m c 4 t) p j = E5 (n := 16384) (m ((c : Thread nD τ).loc main_arg0)) (m ((c : Thread nD τ).loc main_arg1)) (m ((c : Thread nD τ).loc main_arg2)) (m ((c : Thread nD τ).loc main_arg3)) (m ((c : Thread nD τ).loc main_arg4)) (row ⟨t.val, (idx t).1⟩ p) j := by
  unfold E5 rw0
  simp only [b0, b1, b2, b3, b4]

set_option backward.isDefEq.respectTransparency false in
/-- The gradient of the residual stream, as stored at a grid point. -/
theorem s5 (c : Dev nD) (t : Fin cfg0.N) (p : Fin 512) (j : Fin 1024) :
    (outsAt0 m c t.val t.isLt).1 (ix2 p j) = E5 (n := 16384) (m ((c : Thread nD τ).loc main_arg0)) (m ((c : Thread nD τ).loc main_arg1)) (m ((c : Thread nD τ).loc main_arg2)) (m ((c : Thread nD τ).loc main_arg3)) (m ((c : Thread nD τ).loc main_arg4)) (row ⟨t.val, (idx t).1⟩ p) j := by
  by_cases h : t.val % 32 = 0
  · rw [outsAt0_A m c t h h h]
    frame_out
    exact (pay5 _ _ _ _ _ p j).trans (e5 m c t p j)
  · rw [outsAt0_B m c t h h h]
    frame_out
    exact (pay5 _ _ _ _ _ p j).trans (e5 m c t p j)

/-- The gradient of the residual stream, for all rows. -/
def G5 (x0 x1 x2 : Vec Ideal S16384x1024 .f32) (x3 x4 : Vec Ideal S1x1024 .f32) : Vec Ideal S16384x1024 .f32 := fun y => E5 x0 x1 x2 x3 x4 (y 0) (y 1)

set_option backward.isDefEq.respectTransparency false in
/-- The gradient of the residual stream: the array after the run. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) (m ((c : Thread nD τ).loc main_arg4)) := by
  refine Dat.arrAt_eq_of_covers (dats m 0 c) 5 (G5 (m ((c : Thread nD τ).loc main_arg0)) (m ((c : Thread nD τ).loc main_arg1)) (m ((c : Thread nD τ).loc main_arg2)) (m ((c : Thread nD τ).loc main_arg3)) (m ((c : Thread nD τ).loc main_arg4)))
    (by decide +kernel) fun t hf y => ?_
  blk_simp
  rw [after0_5]
  idx_vars y
  refine (s5 m c t y0 y1).trans ?_
  have e : (((View.whole main_v0_0).slice (win0_5.rect t)).emb (ix2 y0 y1) : S16384x1024.Idx) = ix2 (row ⟨t.val, (idx t).1⟩ y0) y1 := by
    unfold row
    blk_ext! [idx t]
  exact (congrArg (G5 _ _ _ _ _) e).symm

set_option backward.isDefEq.respectTransparency false in
/-- A row's part of the scale's gradient: the row of a point's blocks gives what the whole arrays' row gives. -/
theorem e6 (c : Dev nD) (t : Fin cfg0.N) (p : Fin 512) (j : Fin 1024) :
    E6 (n := 512) (iblk m c 0 t) (iblk m c 1 t) (iblk m c 3 t) p j = E6 (n := 16384) (m ((c : Thread nD τ).loc main_arg0)) (m ((c : Thread nD τ).loc main_arg1)) (m ((c : Thread nD τ).loc main_arg3)) (row ⟨t.val, (idx t).1⟩ p) j := by
  unfold E6 rw0
  simp only [b0, b1, b3]

set_option backward.isDefEq.respectTransparency false in
/-- A row's part of the scale's gradient: the accumulator at the first point. -/
theorem s6A (c : Dev nD) (t : Fin cfg0.N) (h : t.val % 32 = 0) (j : Fin 1024) :
    (outsAt0 m c t.val t.isLt).2.1 (ix2 0 j) = 0 + ∑ p, E6 (n := 16384) (m ((c : Thread nD τ).loc main_arg0)) (m ((c : Thread nD τ).loc main_arg1)) (m ((c : Thread nD τ).loc main_arg3)) (row ⟨t.val, (idx t).1⟩ p) j := by
  rw [outsAt0_A m c t h h h]
  frame_out
  refine (pay6 _ _ _ _ j).trans (congrArg₂ (· + ·) ?_ (Finset.sum_congr rfl fun p _ => e6 m c t p j))
  pointwise [k0_pay1, k0_pay2, k0_pay3, k0_pay4, k0_pay5, k0_pay6, k0_pay7, k0_pay8, k0_pay9, k0_pay10]

set_option backward.isDefEq.respectTransparency false in
/-- A row's part of the scale's gradient: the accumulator at a later point. -/
theorem s6B (c : Dev nD) (t : Fin cfg0.N) (h : ¬t.val % 32 = 0) (j : Fin 1024) :
    (outsAt0 m c t.val t.isLt).2.1 (ix2 0 j) = (outsAt0 m c (t.val - 1) (by omega)).2.1 (ix2 0 j)
      + ∑ p, E6 (n := 16384) (m ((c : Thread nD τ).loc main_arg0)) (m ((c : Thread nD τ).loc main_arg1)) (m ((c : Thread nD τ).loc main_arg3)) (row ⟨t.val, (idx t).1⟩ p) j := by
  rw [outsAt0_B m c t h h h]
  frame_out
  exact (pay6 _ _ _ _ j).trans (congrArg₂ (· + ·) rfl (Finset.sum_congr rfl fun p _ => e6 m c t p j))

set_option backward.isDefEq.respectTransparency false in
/-- A row's part of the scale's gradient: the accumulator where it is written back. -/
theorem acc6 (c : Dev nD) (t : Fin cfg0.N) (h : t.val % 32 = 31) (j : Fin 1024) :
    (outsAt0 m c t.val t.isLt).2.1 (ix2 0 j) = ∑ r, E6 (n := 16384) (m ((c : Thread nD τ).loc main_arg0)) (m ((c : Thread nD τ).loc main_arg1)) (m ((c : Thread nD τ).loc main_arg3)) r j := by
  refine (Pipeline.eq_sum_fin_of_reset_step_apply_of_flush (fun n hn (j : Fin 1024) => (outsAt0 m c n hn).2.1 (ix2 0 j)) 32 (fun _ => 0)
    (fun t j => ∑ p, E6 (n := 16384) (m ((c : Thread nD τ).loc main_arg0)) (m ((c : Thread nD τ).loc main_arg1)) (m ((c : Thread nD τ).loc main_arg3)) (row ⟨t.val, (idx t).1⟩ p) j)
    (fun t h j => s6A m c t h j) (fun t h j => s6B m c t h j) t h j).trans ?_
  rw [zero_add, ← sum_rows]
  have := (idx t).1
  exact Finset.sum_congr rfl fun s _ => Finset.sum_congr rfl fun p _ =>
    congrArg (fun r => E6 (n := 16384) (m ((c : Thread nD τ).loc main_arg0)) (m ((c : Thread nD τ).loc main_arg1)) (m ((c : Thread nD τ).loc main_arg3)) r j) (congrArg (row · p) (Fin.ext (show 32 * (t.val / 32) + s.val = s.val by omega)))

/-- A row's part of the scale's gradient, added over all rows. -/
def G6 (x0 x1 : Vec Ideal S16384x1024 .f32) (x3 : Vec Ideal S1x1024 .f32) : Vec Ideal S1x1024 .f32 := fun y => ∑ r, E6 x0 x1 x3 r (y 1)

set_option backward.isDefEq.respectTransparency false in
/-- A row's part of the scale's gradient: the array after the run. -/
theorem final6 (c : Dev nD) : (dats m 0 c).arrAt 6 cfg0.N = G6 (m ((c : Thread nD τ).loc main_arg0)) (m ((c : Thread nD τ).loc main_arg1)) (m ((c : Thread nD τ).loc main_arg3)) := by
  refine Dat.arrAt_eq_of_covers (dats m 0 c) 6 (G6 (m ((c : Thread nD τ).loc main_arg0)) (m ((c : Thread nD τ).loc main_arg1)) (m ((c : Thread nD τ).loc main_arg3)))
    (by decide +kernel) fun t hf y => ?_
  blk_simp
  rw [after0_6]
  idx_vars y
  obtain rfl : y0 = 0 := Subsingleton.elim _ _
  refine (acc6 m c t ((flush0_6 t).mp hf) y1).trans ?_
  have e : (((View.whole main_v0_1).slice (win0_6.rect t)).emb (ix2 0 y1) : S1x1024.Idx) = ix2 0 y1 := by
    blk_ext! [idx t]
  exact (congrArg (G6 _ _ _) e).symm

set_option backward.isDefEq.respectTransparency false in
/-- A row's part of the shift's gradient: the row of a point's blocks gives what the whole arrays' row gives. -/
theorem e7 (c : Dev nD) (t : Fin cfg0.N) (p : Fin 512) (j : Fin 1024) :
    E7 (n := 512) (iblk m c 0 t) p j = E7 (n := 16384) (m ((c : Thread nD τ).loc main_arg0)) (row ⟨t.val, (idx t).1⟩ p) j := by
  unfold E7 rw0
  simp only [b0]

set_option backward.isDefEq.respectTransparency false in
/-- A row's part of the shift's gradient: the accumulator at the first point. -/
theorem s7A (c : Dev nD) (t : Fin cfg0.N) (h : t.val % 32 = 0) (j : Fin 1024) :
    (outsAt0 m c t.val t.isLt).2.2.1 (ix2 0 j) = 0 + ∑ p, E7 (n := 16384) (m ((c : Thread nD τ).loc main_arg0)) (row ⟨t.val, (idx t).1⟩ p) j := by
  rw [outsAt0_A m c t h h h]
  frame_out
  refine (pay7 _ _ j).trans (congrArg₂ (· + ·) ?_ (Finset.sum_congr rfl fun p _ => e7 m c t p j))
  pointwise [k0_pay1, k0_pay2, k0_pay3, k0_pay4, k0_pay5, k0_pay6, k0_pay7, k0_pay8, k0_pay9, k0_pay10]

set_option backward.isDefEq.respectTransparency false in
/-- A row's part of the shift's gradient: the accumulator at a later point. -/
theorem s7B (c : Dev nD) (t : Fin cfg0.N) (h : ¬t.val % 32 = 0) (j : Fin 1024) :
    (outsAt0 m c t.val t.isLt).2.2.1 (ix2 0 j) = (outsAt0 m c (t.val - 1) (by omega)).2.2.1 (ix2 0 j)
      + ∑ p, E7 (n := 16384) (m ((c : Thread nD τ).loc main_arg0)) (row ⟨t.val, (idx t).1⟩ p) j := by
  rw [outsAt0_B m c t h h h]
  frame_out
  exact (pay7 _ _ j).trans (congrArg₂ (· + ·) rfl (Finset.sum_congr rfl fun p _ => e7 m c t p j))

set_option backward.isDefEq.respectTransparency false in
/-- A row's part of the shift's gradient: the accumulator where it is written back. -/
theorem acc7 (c : Dev nD) (t : Fin cfg0.N) (h : t.val % 32 = 31) (j : Fin 1024) :
    (outsAt0 m c t.val t.isLt).2.2.1 (ix2 0 j) = ∑ r, E7 (n := 16384) (m ((c : Thread nD τ).loc main_arg0)) r j := by
  refine (Pipeline.eq_sum_fin_of_reset_step_apply_of_flush (fun n hn (j : Fin 1024) => (outsAt0 m c n hn).2.2.1 (ix2 0 j)) 32 (fun _ => 0)
    (fun t j => ∑ p, E7 (n := 16384) (m ((c : Thread nD τ).loc main_arg0)) (row ⟨t.val, (idx t).1⟩ p) j)
    (fun t h j => s7A m c t h j) (fun t h j => s7B m c t h j) t h j).trans ?_
  rw [zero_add, ← sum_rows]
  have := (idx t).1
  exact Finset.sum_congr rfl fun s _ => Finset.sum_congr rfl fun p _ =>
    congrArg (fun r => E7 (n := 16384) (m ((c : Thread nD τ).loc main_arg0)) r j) (congrArg (row · p) (Fin.ext (show 32 * (t.val / 32) + s.val = s.val by omega)))

/-- A row's part of the shift's gradient, added over all rows. -/
def G7 (x0 : Vec Ideal S16384x1024 .f32) : Vec Ideal S1x1024 .f32 := fun y => ∑ r, E7 x0 r (y 1)

set_option backward.isDefEq.respectTransparency false in
/-- A row's part of the shift's gradient: the array after the run. -/
theorem final7 (c : Dev nD) : (dats m 0 c).arrAt 7 cfg0.N = G7 (m ((c : Thread nD τ).loc main_arg0)) := by
  refine Dat.arrAt_eq_of_covers (dats m 0 c) 7 (G7 (m ((c : Thread nD τ).loc main_arg0)))
    (by decide +kernel) fun t hf y => ?_
  blk_simp
  rw [after0_7]
  idx_vars y
  obtain rfl : y0 = 0 := Subsingleton.elim _ _
  refine (acc7 m c t ((flush0_7 t).mp hf) y1).trans ?_
  have e : (((View.whole main_v0_2).slice (win0_7.rect t)).emb (ix2 0 y1) : S1x1024.Idx) = ix2 0 y1 := by
    blk_ext! [idx t]
  exact (congrArg (G7 _) e).symm

set_option backward.isDefEq.respectTransparency false in
/-- A row's part of the gradient of the norm's weight: the row of a point's blocks gives what the whole arrays' row gives. -/
theorem e8 (c : Dev nD) (t : Fin cfg0.N) (p : Fin 512) (j : Fin 1024) :
    E8 (n := 512) (iblk m c 0 t) (iblk m c 1 t) (iblk m c 4 t) p j = E8 (n := 16384) (m ((c : Thread nD τ).loc main_arg0)) (m ((c : Thread nD τ).loc main_arg1)) (m ((c : Thread nD τ).loc main_arg4)) (row ⟨t.val, (idx t).1⟩ p) j := by
  unfold E8 rw0
  simp only [b0, b1, b4]

set_option backward.isDefEq.respectTransparency false in
/-- A row's part of the gradient of the norm's weight: the accumulator at the first point. -/
theorem s8A (c : Dev nD) (t : Fin cfg0.N) (h : t.val % 32 = 0) (j : Fin 1024) :
    (outsAt0 m c t.val t.isLt).2.2.2 (ix2 0 j) = 0 + ∑ p, E8 (n := 16384) (m ((c : Thread nD τ).loc main_arg0)) (m ((c : Thread nD τ).loc main_arg1)) (m ((c : Thread nD τ).loc main_arg4)) (row ⟨t.val, (idx t).1⟩ p) j := by
  rw [outsAt0_A m c t h h h]
  frame_out
  refine (pay8 _ _ _ _ j).trans (congrArg₂ (· + ·) ?_ (Finset.sum_congr rfl fun p _ => e8 m c t p j))
  pointwise [k0_pay1, k0_pay2, k0_pay3, k0_pay4, k0_pay5, k0_pay6, k0_pay7, k0_pay8, k0_pay9, k0_pay10]

set_option backward.isDefEq.respectTransparency false in
/-- A row's part of the gradient of the norm's weight: the accumulator at a later point. -/
theorem s8B (c : Dev nD) (t : Fin cfg0.N) (h : ¬t.val % 32 = 0) (j : Fin 1024) :
    (outsAt0 m c t.val t.isLt).2.2.2 (ix2 0 j) = (outsAt0 m c (t.val - 1) (by omega)).2.2.2 (ix2 0 j)
      + ∑ p, E8 (n := 16384) (m ((c : Thread nD τ).loc main_arg0)) (m ((c : Thread nD τ).loc main_arg1)) (m ((c : Thread nD τ).loc main_arg4)) (row ⟨t.val, (idx t).1⟩ p) j := by
  rw [outsAt0_B m c t h h h]
  frame_out
  exact (pay8 _ _ _ _ j).trans (congrArg₂ (· + ·) rfl (Finset.sum_congr rfl fun p _ => e8 m c t p j))

set_option backward.isDefEq.respectTransparency false in
/-- A row's part of the gradient of the norm's weight: the accumulator where it is written back. -/
theorem acc8 (c : Dev nD) (t : Fin cfg0.N) (h : t.val % 32 = 31) (j : Fin 1024) :
    (outsAt0 m c t.val t.isLt).2.2.2 (ix2 0 j) = ∑ r, E8 (n := 16384) (m ((c : Thread nD τ).loc main_arg0)) (m ((c : Thread nD τ).loc main_arg1)) (m ((c : Thread nD τ).loc main_arg4)) r j := by
  refine (Pipeline.eq_sum_fin_of_reset_step_apply_of_flush (fun n hn (j : Fin 1024) => (outsAt0 m c n hn).2.2.2 (ix2 0 j)) 32 (fun _ => 0)
    (fun t j => ∑ p, E8 (n := 16384) (m ((c : Thread nD τ).loc main_arg0)) (m ((c : Thread nD τ).loc main_arg1)) (m ((c : Thread nD τ).loc main_arg4)) (row ⟨t.val, (idx t).1⟩ p) j)
    (fun t h j => s8A m c t h j) (fun t h j => s8B m c t h j) t h j).trans ?_
  rw [zero_add, ← sum_rows]
  have := (idx t).1
  exact Finset.sum_congr rfl fun s _ => Finset.sum_congr rfl fun p _ =>
    congrArg (fun r => E8 (n := 16384) (m ((c : Thread nD τ).loc main_arg0)) (m ((c : Thread nD τ).loc main_arg1)) (m ((c : Thread nD τ).loc main_arg4)) r j) (congrArg (row · p) (Fin.ext (show 32 * (t.val / 32) + s.val = s.val by omega)))

/-- A row's part of the gradient of the norm's weight, added over all rows. -/
def G8 (x0 x1 : Vec Ideal S16384x1024 .f32) (x4 : Vec Ideal S1x1024 .f32) : Vec Ideal S1x1024 .f32 := fun y => ∑ r, E8 x0 x1 x4 r (y 1)

set_option backward.isDefEq.respectTransparency false in
/-- A row's part of the gradient of the norm's weight: the array after the run. -/
theorem final8 (c : Dev nD) : (dats m 0 c).arrAt 8 cfg0.N = G8 (m ((c : Thread nD τ).loc main_arg0)) (m ((c : Thread nD τ).loc main_arg1)) (m ((c : Thread nD τ).loc main_arg4)) := by
  refine Dat.arrAt_eq_of_covers (dats m 0 c) 8 (G8 (m ((c : Thread nD τ).loc main_arg0)) (m ((c : Thread nD τ).loc main_arg1)) (m ((c : Thread nD τ).loc main_arg4)))
    (by decide +kernel) fun t hf y => ?_
  blk_simp
  rw [after0_8]
  idx_vars y
  obtain rfl : y0 = 0 := Subsingleton.elim _ _
  refine (acc8 m c t ((flush0_8 t).mp hf) y1).trans ?_
  have e : (((View.whole main_v0_3).slice (win0_8.rect t)).emb (ix2 0 y1) : S1x1024.Idx) = ix2 0 y1 := by
    blk_ext! [idx t]
  exact (congrArg (G8 _ _ _) e).symm

/-! ## The reference's results -/

open Cert.Reference18Ideal.Read in
set_option backward.isDefEq.respectTransparency false in
/-- The gradient of the residual stream, as the reference computes it. -/
theorem ref5 (x0 x1 x2 : Vec Ideal S16384x1024 .f32) (x3 x4 : Vec Ideal S1x1024 .f32) (r : Fin 16384) (j : Fin 1024) :
    val_main_v49 (F := Ideal) x0 x1 x2 x3 x4 (ix2 r j) =
      (rw0 x2 r) j + rgrad (rw0 x1 r) (ahead (rw0 x0 r) (rw0 x3 0) (rw0 x4 0)) j := by
  simp only [rgrad, rpart, nrm, ahead, rinv, ms, rw0]
  pointwise [val_main_v49, val_main_v48, val_main_v47, val_main_v46, val_main_v45, val_main_v44, val_main_v43, val_main_cst_10, val_main_v42, val_main_v41, val_main_cst_9, val_main_v40, val_main_v39, val_main_v38, val_main_v37, val_main_v36, val_main_cst_8, val_main_v35, val_main_v34, val_main_v33, val_main_v32, val_main_v31, val_main_cst_7, val_main_v30, val_main_v29, val_main_v28, val_main_v27, val_main_v26, val_main_cst_6, val_main_v25, val_main_v24, val_main_v23, val_main_cst_5, val_main_v22, val_main_v21, val_main_v20, val_main_v19, val_main_v18, val_main_v17, val_main_v16, val_main_cst_4, val_main_v15, val_main_v14, val_main_v13, val_main_v12, val_main_v11, val_main_v10, val_main_cst_3, val_main_v9, val_main_v8, val_main_v7, val_main_v6, val_main_cst_2, val_main_v5, val_main_v4, val_main_cst_1, val_main_v3, val_main_v2, val_main_cst_0, val_main_v1, val_main_v0, val_main_cst]
  all_goals rfl

open Cert.Reference18Ideal.Read in
set_option backward.isDefEq.respectTransparency false in
/-- A row's part of the scale's gradient, as the reference computes it. -/
theorem ref6 (x0 x1 : Vec Ideal S16384x1024 .f32) (x3 : Vec Ideal S1x1024 .f32) (j : Fin 1024) :
    val_main_v27 (F := Ideal) x0 x1 x3 (ix2 0 j) =
      ∑ r : Fin 16384, nrm (rw0 x1 r) j * (rw0 x3 0) j * (rw0 x0 r) j := by
  simp only [rgrad, rpart, nrm, ahead, rinv, ms, rw0]
  pointwise [val_main_v27, val_main_v26, val_main_cst_6, val_main_v25, val_main_v24, val_main_v23, val_main_cst_5, val_main_v22, val_main_v21, val_main_v20, val_main_v19, val_main_v18, val_main_v17, val_main_v16, val_main_cst_4, val_main_v15, val_main_v14, val_main_v13, val_main_v12, val_main_v11, val_main_v10, val_main_cst_3, val_main_v9, val_main_v8, val_main_v7, val_main_v6, val_main_cst_2, val_main_v5, val_main_v4, val_main_cst_1, val_main_v3, val_main_v2, val_main_cst_0, val_main_v1, val_main_v0, val_main_cst]
  all_goals rfl

open Cert.Reference18Ideal.Read in
set_option backward.isDefEq.respectTransparency false in
/-- A row's part of the shift's gradient, as the reference computes it. -/
theorem ref7 (x0 : Vec Ideal S16384x1024 .f32) (j : Fin 1024) :
    val_main_v24 (F := Ideal) x0 (ix2 0 j) =
      ∑ r : Fin 16384, (rw0 x0 r) j := by
  simp only [rgrad, rpart, nrm, ahead, rinv, ms, rw0]
  pointwise [val_main_v24, val_main_v23, val_main_cst_5, val_main_v22, val_main_v21, val_main_v20, val_main_v19, val_main_v18, val_main_v17, val_main_v16, val_main_cst_4, val_main_v15, val_main_v14, val_main_v13, val_main_v12, val_main_v11, val_main_v10, val_main_cst_3, val_main_v9, val_main_v8, val_main_v7, val_main_v6, val_main_cst_2, val_main_v5, val_main_v4, val_main_cst_1, val_main_v3, val_main_v2, val_main_cst_0, val_main_v1, val_main_v0, val_main_cst]
  all_goals rfl

open Cert.Reference18Ideal.Read in
set_option backward.isDefEq.respectTransparency false in
/-- A row's part of the gradient of the norm's weight, as the reference computes it. -/
theorem ref8 (x0 x1 : Vec Ideal S16384x1024 .f32) (x4 : Vec Ideal S1x1024 .f32) (j : Fin 1024) :
    val_main_v32 (F := Ideal) x0 x1 x4 (ix2 0 j) =
      ∑ r : Fin 16384, nrm (rw0 x1 r) j * ((rw0 x0 r) j * (1 + (rw0 x4 0) j)) := by
  simp only [rgrad, rpart, nrm, ahead, rinv, ms, rw0]
  pointwise [val_main_v32, val_main_v31, val_main_cst_7, val_main_v30, val_main_v29, val_main_v28, val_main_v27, val_main_v26, val_main_cst_6, val_main_v25, val_main_v24, val_main_v23, val_main_cst_5, val_main_v22, val_main_v21, val_main_v20, val_main_v19, val_main_v18, val_main_v17, val_main_v16, val_main_cst_4, val_main_v15, val_main_v14, val_main_v13, val_main_v12, val_main_v11, val_main_v10, val_main_cst_3, val_main_v9, val_main_v8, val_main_v7, val_main_v6, val_main_cst_2, val_main_v5, val_main_v4, val_main_cst_1, val_main_v3, val_main_v2, val_main_cst_0, val_main_v1, val_main_v0, val_main_cst]
  all_goals rfl

/-! ## The two agree -/

/-- An array without axes has one index. -/
instance : Subsingleton Cert.Pre_finite18.S_.Idx := ⟨fun a b => funext fun i => i.elim0⟩

/-- The rows the precondition speaks of hold real numbers. -/
structure RealRows (x0 x1 x2 : Vec Ideal S16384x1024 .f32) (x3 x4 : Vec Ideal S1x1024 .f32) : Prop where
  h0 : ∀ r, IsReal (rw0 x0 r)
  h1 : ∀ r, IsReal (rw0 x1 r)
  h3 : IsReal (rw0 x3 0)
  h4 : IsReal (rw0 x4 0)

/-- The precondition says that the rows hold real numbers. -/
theorem realRows [Cert.Pre_finite18.Facts] (x0 x1 x2 : Vec Ideal S16384x1024 .f32) (x3 x4 : Vec Ideal S1x1024 .f32)
    (j : Cert.Pre_finite18.S_.Idx) (h : Cert.Pre_finite18.fn (F := Ideal) x0 x1 x2 x3 x4 j = 1#1) : RealRows x0 x1 x2 x3 x4 := by
  obtain ⟨h, e4⟩ := andi_split _ _ j h
  obtain ⟨h, e3⟩ := andi_split _ _ j h
  obtain ⟨e0, e1⟩ := andi_split _ _ j h
  choose a0 r0 using real_of_all _ _ _ _ _ j e0
  choose a1 r1 using real_of_all _ _ _ _ _ j e1
  choose a3 r3 using real_of_all _ _ _ _ _ j e3
  choose a4 r4 using real_of_all _ _ _ _ _ j e4
  exact ⟨fun r => ⟨fun j => a0 (ix2 r j), funext fun j => r0 _⟩, fun r => ⟨fun j => a1 (ix2 r j), funext fun j => r1 _⟩, ⟨fun j => a3 (ix2 0 j), funext fun j => r3 _⟩, ⟨fun j => a4 (ix2 0 j), funext fun j => r4 _⟩⟩

/-- The gradient of the residual stream: the reference's is the kernel's. -/
theorem agree5 (x0 x1 x2 : Vec Ideal S16384x1024 .f32) (x3 x4 : Vec Ideal S1x1024 .f32) (h : RealRows x0 x1 x2 x3 x4) :
    Cert.Reference18Ideal.Read.val_main_v49 (F := Ideal) x0 x1 x2 x3 x4 = G5 x0 x1 x2 x3 x4 := by
  funext i
  idx_vars i
  refine (ref5 x0 x1 x2 x3 x4 i0 i1).trans ?_
  show _ = E5 x0 x1 x2 x3 x4 i0 i1
  unfold E5
  rw [grad (h.h1 _) (ahead_real (h.h0 _) h.h3 h.h4)]
  rfl

/-- A row's part of the scale's gradient: the reference's is the kernel's. -/
theorem agree6 (x0 x1 : Vec Ideal S16384x1024 .f32) (x3 : Vec Ideal S1x1024 .f32) :
    Cert.Reference18Ideal.Read.val_main_v27 (F := Ideal) x0 x1 x3 = G6 x0 x1 x3 := by
  funext i
  idx_vars i
  obtain rfl : i0 = 0 := Subsingleton.elim _ _
  refine (ref6 x0 x1 x3 i1).trans (Finset.sum_congr rfl fun r _ => ?_)
  show _ = E6 x0 x1 x3 r i1
  unfold E6
  exact mul_comm _ _

/-- A row's part of the shift's gradient: the reference's is the kernel's. -/
theorem agree7 (x0 : Vec Ideal S16384x1024 .f32) :
    Cert.Reference18Ideal.Read.val_main_v24 (F := Ideal) x0 = G7 x0 := by
  funext i
  idx_vars i
  obtain rfl : i0 = 0 := Subsingleton.elim _ _
  refine (ref7 x0 i1).trans (Finset.sum_congr rfl fun r _ => ?_)
  show _ = E7 x0 r i1
  unfold E7
  rfl

/-- A row's part of the gradient of the norm's weight: the reference's is the kernel's. -/
theorem agree8 (x0 x1 : Vec Ideal S16384x1024 .f32) (x4 : Vec Ideal S1x1024 .f32) :
    Cert.Reference18Ideal.Read.val_main_v32 (F := Ideal) x0 x1 x4 = G8 x0 x1 x4 := by
  funext i
  idx_vars i
  obtain rfl : i0 = 0 := Subsingleton.elim _ _
  refine (ref8 x0 x1 x4 i1).trans (Finset.sum_congr rfl fun r _ => ?_)
  show _ = E8 x0 x1 x4 r i1
  unfold E8
  exact mul_comm _ _

/-- The results agree with the reference's where the arguments hold real numbers. -/
theorem claim [Cert.Pre_finite18.Facts] : Cert.algebraic_Kernel18Ideal_Reference18Ideal_pre_finite18 := by
  intro m ρ m' ρ' hpre hagree
  have hr : ∀ c : Dev nD, _ := fun c => realRows _ _ _ _ _ ix0 (congrFun (hpre c) ix0)
  refine ⟨fun c => G5 _ _ _ _ _, fun c => G6 _ _ _, fun c => G7 _, fun c => G8 _ _ _,
    (θ_run defs _ _).mono (fun r h c => ⟨(h c).1.trans (final5 m c), (h c).2.1.trans (final6 m c), (h c).2.2.1.trans (final7 m c), (h c).2.2.2.1.trans (final8 m c), (h c).2.2.2.2⟩)
      (Value.run_blocks (F := Ideal) m ρ), ?_⟩
  refine (θ_run Cert.Reference18Ideal.defs _ _).mono (fun _ h c => ⟨(h c).1.trans ?_, (h c).2.1.trans ?_, (h c).2.2.1.trans ?_, (h c).2.2.2.1.trans ?_, (h c).2.2.2.2⟩)
    (Cert.Reference18Ideal.Value.run (F := Ideal) m' ρ')
  · refine (Cert.Reference18Ideal.Read.val_main_v49_eq _ _).trans ?_
    obtain ⟨a0, a1, a2, a3, a4⟩ := hagree c
    rw [a0, a1, a2, a3, a4]
    exact agree5 _ _ _ _ _ (hr c)
  · obtain ⟨a0, a1, a2, a3, a4⟩ := hagree c
    rw [a0, a1, a3]
    exact (Cert.Reference18Ideal.Read.val_main_v27_eq _ _ _).trans (agree6 _ _ _)
  · obtain ⟨a0, a1, a2, a3, a4⟩ := hagree c
    rw [a0]
    exact (Cert.Reference18Ideal.Read.val_main_v24_eq _).trans (agree7 _)
  · obtain ⟨a0, a1, a2, a3, a4⟩ := hagree c
    rw [a0, a1, a4]
    exact (Cert.Reference18Ideal.Read.val_main_v32_eq _ _ _).trans (agree8 _ _ _)

end Cert.Kernel18Ideal.NormMod

end
-- ==== Proof.Resid.lean ====
/- The gradients of the join of a layer's result to the residual stream: at real arguments the gradients of the layer's result, the
   gate and the norm's weight are the reference's. -/
module

public import proofs.«01_k».proof.Proof.Gen.Kernel19Ideal.Value
public import proofs.«01_k».proof.Proof.Gen.Reference19Ideal.Read
public import proofs.«01_k».proof.Proof.Norm
public import proofs.«01_k».proof.Defs
public import Idealize.ShloMosaic.Lib.Pipeline.ValueKit
public import Idealize.ShloMosaic.Lib.Claim

@[expose] public section

set_option maxRecDepth 16384

noncomputable section

namespace Cert.Kernel19Ideal.Resid

open Cert.Kernel19Ideal Cert.Kernel19Ideal.Gen Cert.Norm Cert.Reals Idealize.ShloMosaic Idealize.ShloMosaic.TcCoe
open Idealize.ShloMosaic.Pipeline (Dat)

/-- A row of an array. -/
abbrev rw0 {n : Nat} (x : Vec Ideal (⟨2, ![n, 1024]⟩ : Shape) .f32) (r : Fin n) (j : Fin 1024) : EReal := x (ix2 r j)

/-! ## A row's results from the rows of the arguments -/

/-- The gradient of the layer's result. -/
def E4 {n : Nat} (x0 x1 : Vec Ideal (⟨2, ![n, 1024]⟩ : Shape) .f32) (x2 x3 : Vec Ideal S1x1024 .f32) (r : Fin n) (j : Fin 1024) : EReal :=
  kgrad (rw0 x1 r) (behind (rw0 x0 r) (rw0 x2 0) (rw0 x3 0)) j

/-- A row's part of the gate's gradient. -/
def E5 {n : Nat} (x0 x1 : Vec Ideal (⟨2, ![n, 1024]⟩ : Shape) .f32) (x3 : Vec Ideal S1x1024 .f32) (r : Fin n) (j : Fin 1024) : EReal :=
  kdt (rw0 x0 r) (rw0 x1 r) (rw0 x3 0) j

/-- A row's part of the gradient of the norm's weight. -/
def E6 {n : Nat} (x0 x1 : Vec Ideal (⟨2, ![n, 1024]⟩ : Shape) .f32) (x2 : Vec Ideal S1x1024 .f32) (r : Fin n) (j : Fin 1024) : EReal :=
  kdp (rw0 x0 r) (rw0 x1 r) (rw0 x2 0) j

/-! ## What a point stores -/

set_option backward.isDefEq.respectTransparency false in
/-- The gradient of the layer's result, as a point stores it. -/
theorem pay4 (x0 x1 : Vec Ideal S512x1024 .f32) (x2 x3 : Vec Ideal S1x1024 .f32) (p : Fin 512) (j : Fin 1024) :
    k0_pay2 x3 (k0_pay3 x1) (k0_pay4 x1) (k0_pay7 x0 x2) (ix2 p j) = E4 x0 x1 x2 x3 p j := by
  unfold E4 rw0
  simp only [kds, kdg, kdx, kdt, kdp, ahead, behind, kgrad, nrm, rinv, ms]
  pointwise [k0_pay1, k0_pay2, k0_pay3, k0_pay4, k0_pay5, k0_pay6, k0_pay7, k0_pay8, k0_pay9]

set_option backward.isDefEq.respectTransparency false in
/-- A row's part of the gate's gradient, added over the rows of a point to what was there. -/
theorem pay5 (x0 x1 : Vec Ideal S512x1024 .f32) (x3 : Vec Ideal S1x1024 .f32) (o : Vec Ideal S1x1024 .f32) (j : Fin 1024) :
    k0_pay6 x1 x0 x3 o (ix2 0 j) = o (ix2 0 j) + ∑ p : Fin 512, E5 x0 x1 x3 p j := by
  unfold E5 rw0
  simp only [kds, kdg, kdx, kdt, kdp, ahead, behind, kgrad, nrm, rinv, ms]
  pointwise [k0_pay1, k0_pay2, k0_pay3, k0_pay4, k0_pay5, k0_pay6, k0_pay7, k0_pay8, k0_pay9]

set_option backward.isDefEq.respectTransparency false in
/-- A row's part of the gradient of the norm's weight, added over the rows of a point to what was there. -/
theorem pay6 (x0 x1 : Vec Ideal S512x1024 .f32) (x2 : Vec Ideal S1x1024 .f32) (o : Vec Ideal S1x1024 .f32) (j : Fin 1024) :
    k0_pay1 (k0_pay8 x1 x0 x2) o (ix2 0 j) = o (ix2 0 j) + ∑ p : Fin 512, E6 x0 x1 x2 p j := by
  unfold E6 rw0
  simp only [kds, kdg, kdx, kdt, kdp, ahead, behind, kgrad, nrm, rinv, ms]
  pointwise [k0_pay1, k0_pay2, k0_pay3, k0_pay4, k0_pay5, k0_pay6, k0_pay7, k0_pay8, k0_pay9]

variable (m : (ℓ : Loc nD τ sig) → Buf (Elt Ideal) ℓ)

/-! ## Blocks of rows: point `t` works on the block of rows `t` -/

/-- The blocks' positions at a grid point. -/
theorem idx : ∀ t : Fin cfg0.N, t.val < 32
    ∧ win0_0.index t = ![t.val, 0]
    ∧ win0_1.index t = ![t.val, 0]
    ∧ win0_2.index t = ![0, 0]
    ∧ win0_3.index t = ![0, 0]
    ∧ win0_4.index t = ![t.val, 0]
    ∧ win0_5.index t = ![0, 0]
    ∧ win0_6.index t = ![0, 0] :=
  (by decide +kernel : ∀ t : Fin grid0.N, _)

set_option backward.isDefEq.respectTransparency false in
/-- The gradient of the residual stream: row `p` of a point's block is the whole array's row. -/
theorem b0 (c : Dev nD) (t : Fin cfg0.N) (p : Fin 512) (j : Fin 1024) :
    (iblk m c 0 t : Vec Ideal S512x1024 .f32) (ix2 p j) = rw0 (n := 16384) (m ((c : Thread nD τ).loc main_arg0)) (row ⟨t.val, (idx t).1⟩ p) j := by
  unfold row
  blk_ext! [iblk, V, idx t]

set_option backward.isDefEq.respectTransparency false in
/-- The layer's result: row `p` of a point's block is the whole array's row. -/
theorem b1 (c : Dev nD) (t : Fin cfg0.N) (p : Fin 512) (j : Fin 1024) :
    (iblk m c 1 t : Vec Ideal S512x1024 .f32) (ix2 p j) = rw0 (n := 16384) (m ((c : Thread nD τ).loc main_arg1)) (row ⟨t.val, (idx t).1⟩ p) j := by
  unfold row
  blk_ext! [iblk, V, idx t]

set_option backward.isDefEq.respectTransparency false in
/-- The gate: every point's block is the whole of it. -/
theorem b2 (c : Dev nD) (t : Fin cfg0.N) (j : Fin 1024) :
    (iblk m c 2 t : Vec Ideal S1x1024 .f32) (ix2 0 j) = rw0 (n := 1) (m ((c : Thread nD τ).loc main_arg2)) 0 j := by
  blk_ext! [iblk, V, idx t]

set_option backward.isDefEq.respectTransparency false in
/-- The weight of the norm: every point's block is the whole of it. -/
theorem b3 (c : Dev nD) (t : Fin cfg0.N) (j : Fin 1024) :
    (iblk m c 3 t : Vec Ideal S1x1024 .f32) (ix2 0 j) = rw0 (n := 1) (m ((c : Thread nD τ).loc main_arg3)) 0 j := by
  blk_ext! [iblk, V, idx t]

set_option backward.isDefEq.respectTransparency false in
/-- The gradient of the layer's result: the row of a point's blocks gives what the whole arrays' row gives. -/
theorem e4 (c : Dev nD) (t : Fin cfg0.N) (p : Fin 512) (j : Fin 1024) :
    E4 (n := 512) (iblk m c 0 t) (iblk m c 1 t) (iblk m c 2 t) (iblk m c 3 t) p j = E4 (n := 16384) (m ((c : Thread nD τ).loc main_arg0)) (m ((c : Thread nD τ).loc main_arg1)) (m ((c : Thread nD τ).loc main_arg2)) (m ((c : Thread nD τ).loc main_arg3)) (row ⟨t.val, (idx t).1⟩ p) j := by
  unfold E4 rw0
  simp only [b0, b1, b2, b3]

set_option backward.isDefEq.respectTransparency false in
/-- The gradient of the layer's result, as stored at a grid point. -/
theorem s4 (c : Dev nD) (t : Fin cfg0.N) (p : Fin 512) (j : Fin 1024) :
    (outsAt0 m c t.val t.isLt).1 (ix2 p j) = E4 (n := 16384) (m ((c : Thread nD τ).loc main_arg0)) (m ((c : Thread nD τ).loc main_arg1)) (m ((c : Thread nD τ).loc main_arg2)) (m ((c : Thread nD τ).loc main_arg3)) (row ⟨t.val, (idx t).1⟩ p) j := by
  by_cases h : t.val % 32 = 0
  · rw [outsAt0_A m c t h h]
    frame_out
    exact (pay4 _ _ _ _ p j).trans (e4 m c t p j)
  · rw [outsAt0_B m c t h h]
    frame_out
    exact (pay4 _ _ _ _ p j).trans (e4 m c t p j)

/-- The gradient of the layer's result, for all rows. -/
def G4 (x0 x1 : Vec Ideal S16384x1024 .f32) (x2 x3 : Vec Ideal S1x1024 .f32) : Vec Ideal S16384x1024 .bf16 := fun y => E4 x0 x1 x2 x3 (y 0) (y 1)

set_option backward.isDefEq.respectTransparency false in
/-- The gradient of the layer's result: the array after the run. -/
theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) := by
  refine Dat.arrAt_eq_of_covers (dats m 0 c) 4 (G4 (m ((c : Thread nD τ).loc main_arg0)) (m ((c : Thread nD τ).loc main_arg1)) (m ((c : Thread nD τ).loc main_arg2)) (m ((c : Thread nD τ).loc main_arg3)))
    (by decide +kernel) fun t hf y => ?_
  blk_simp
  rw [after0_4]
  idx_vars y
  refine (s4 m c t y0 y1).trans ?_
  have e : (((View.whole main_v0_0).slice (win0_4.rect t)).emb (ix2 y0 y1) : S16384x1024.Idx) = ix2 (row ⟨t.val, (idx t).1⟩ y0) y1 := by
    unfold row
    blk_ext! [idx t]
  exact (congrArg (G4 _ _ _ _) e).symm

set_option backward.isDefEq.respectTransparency false in
/-- A row's part of the gate's gradient: the row of a point's blocks gives what the whole arrays' row gives. -/
theorem e5 (c : Dev nD) (t : Fin cfg0.N) (p : Fin 512) (j : Fin 1024) :
    E5 (n := 512) (iblk m c 0 t) (iblk m c 1 t) (iblk m c 3 t) p j = E5 (n := 16384) (m ((c : Thread nD τ).loc main_arg0)) (m ((c : Thread nD τ).loc main_arg1)) (m ((c : Thread nD τ).loc main_arg3)) (row ⟨t.val, (idx t).1⟩ p) j := by
  unfold E5 rw0
  simp only [b0, b1, b3]

set_option backward.isDefEq.respectTransparency false in
/-- A row's part of the gate's gradient: the accumulator at the first point. -/
theorem s5A (c : Dev nD) (t : Fin cfg0.N) (h : t.val % 32 = 0) (j : Fin 1024) :
    (outsAt0 m c t.val t.isLt).2.1 (ix2 0 j) = 0 + ∑ p, E5 (n := 16384) (m ((c : Thread nD τ).loc main_arg0)) (m ((c : Thread nD τ).loc main_arg1)) (m ((c : Thread nD τ).loc main_arg3)) (row ⟨t.val, (idx t).1⟩ p) j := by
  rw [outsAt0_A m c t h h]
  frame_out
  refine (pay5 _ _ _ _ j).trans (congrArg₂ (· + ·) ?_ (Finset.sum_congr rfl fun p _ => e5 m c t p j))
  pointwise [k0_pay1, k0_pay2, k0_pay3, k0_pay4, k0_pay5, k0_pay6, k0_pay7, k0_pay8, k0_pay9]

set_option backward.isDefEq.respectTransparency false in
/-- A row's part of the gate's gradient: the accumulator at a later point. -/
theorem s5B (c : Dev nD) (t : Fin cfg0.N) (h : ¬t.val % 32 = 0) (j : Fin 1024) :
    (outsAt0 m c t.val t.isLt).2.1 (ix2 0 j) = (outsAt0 m c (t.val - 1) (by omega)).2.1 (ix2 0 j)
      + ∑ p, E5 (n := 16384) (m ((c : Thread nD τ).loc main_arg0)) (m ((c : Thread nD τ).loc main_arg1)) (m ((c : Thread nD τ).loc main_arg3)) (row ⟨t.val, (idx t).1⟩ p) j := by
  rw [outsAt0_B m c t h h]
  frame_out
  exact (pay5 _ _ _ _ j).trans (congrArg₂ (· + ·) rfl (Finset.sum_congr rfl fun p _ => e5 m c t p j))

set_option backward.isDefEq.respectTransparency false in
/-- A row's part of the gate's gradient: the accumulator where it is written back. -/
theorem acc5 (c : Dev nD) (t : Fin cfg0.N) (h : t.val % 32 = 31) (j : Fin 1024) :
    (outsAt0 m c t.val t.isLt).2.1 (ix2 0 j) = ∑ r, E5 (n := 16384) (m ((c : Thread nD τ).loc main_arg0)) (m ((c : Thread nD τ).loc main_arg1)) (m ((c : Thread nD τ).loc main_arg3)) r j := by
  refine (Pipeline.eq_sum_fin_of_reset_step_apply_of_flush (fun n hn (j : Fin 1024) => (outsAt0 m c n hn).2.1 (ix2 0 j)) 32 (fun _ => 0)
    (fun t j => ∑ p, E5 (n := 16384) (m ((c : Thread nD τ).loc main_arg0)) (m ((c : Thread nD τ).loc main_arg1)) (m ((c : Thread nD τ).loc main_arg3)) (row ⟨t.val, (idx t).1⟩ p) j)
    (fun t h j => s5A m c t h j) (fun t h j => s5B m c t h j) t h j).trans ?_
  rw [zero_add, ← sum_rows]
  have := (idx t).1
  exact Finset.sum_congr rfl fun s _ => Finset.sum_congr rfl fun p _ =>
    congrArg (fun r => E5 (n := 16384) (m ((c : Thread nD τ).loc main_arg0)) (m ((c : Thread nD τ).loc main_arg1)) (m ((c : Thread nD τ).loc main_arg3)) r j) (congrArg (row · p) (Fin.ext (show 32 * (t.val / 32) + s.val = s.val by omega)))

/-- A row's part of the gate's gradient, added over all rows. -/
def G5 (x0 x1 : Vec Ideal S16384x1024 .f32) (x3 : Vec Ideal S1x1024 .f32) : Vec Ideal S1x1024 .f32 := fun y => ∑ r, E5 x0 x1 x3 r (y 1)

set_option backward.isDefEq.respectTransparency false in
/-- A row's part of the gate's gradient: the array after the run. -/
theorem final5 (c : Dev nD) : (dats m 0 c).arrAt 5 cfg0.N = G5 (m ((c : Thread nD τ).loc main_arg0)) (m ((c : Thread nD τ).loc main_arg1)) (m ((c : Thread nD τ).loc main_arg3)) := by
  refine Dat.arrAt_eq_of_covers (dats m 0 c) 5 (G5 (m ((c : Thread nD τ).loc main_arg0)) (m ((c : Thread nD τ).loc main_arg1)) (m ((c : Thread nD τ).loc main_arg3)))
    (by decide +kernel) fun t hf y => ?_
  blk_simp
  rw [after0_5]
  idx_vars y
  obtain rfl : y0 = 0 := Subsingleton.elim _ _
  refine (acc5 m c t ((flush0_5 t).mp hf) y1).trans ?_
  have e : (((View.whole main_v0_1).slice (win0_5.rect t)).emb (ix2 0 y1) : S1x1024.Idx) = ix2 0 y1 := by
    blk_ext! [idx t]
  exact (congrArg (G5 _ _ _) e).symm

set_option backward.isDefEq.respectTransparency false in
/-- A row's part of the gradient of the norm's weight: the row of a point's blocks gives what the whole arrays' row gives. -/
theorem e6 (c : Dev nD) (t : Fin cfg0.N) (p : Fin 512) (j : Fin 1024) :
    E6 (n := 512) (iblk m c 0 t) (iblk m c 1 t) (iblk m c 2 t) p j = E6 (n := 16384) (m ((c : Thread nD τ).loc main_arg0)) (m ((c : Thread nD τ).loc main_arg1)) (m ((c : Thread nD τ).loc main_arg2)) (row ⟨t.val, (idx t).1⟩ p) j := by
  unfold E6 rw0
  simp only [b0, b1, b2]

set_option backward.isDefEq.respectTransparency false in
/-- A row's part of the gradient of the norm's weight: the accumulator at the first point. -/
theorem s6A (c : Dev nD) (t : Fin cfg0.N) (h : t.val % 32 = 0) (j : Fin 1024) :
    (outsAt0 m c t.val t.isLt).2.2 (ix2 0 j) = 0 + ∑ p, E6 (n := 16384) (m ((c : Thread nD τ).loc main_arg0)) (m ((c : Thread nD τ).loc main_arg1)) (m ((c : Thread nD τ).loc main_arg2)) (row ⟨t.val, (idx t).1⟩ p) j := by
  rw [outsAt0_A m c t h h]
  frame_out
  refine (pay6 _ _ _ _ j).trans (congrArg₂ (· + ·) ?_ (Finset.sum_congr rfl fun p _ => e6 m c t p j))
  pointwise [k0_pay1, k0_pay2, k0_pay3, k0_pay4, k0_pay5, k0_pay6, k0_pay7, k0_pay8, k0_pay9]

set_option backward.isDefEq.respectTransparency false in
/-- A row's part of the gradient of the norm's weight: the accumulator at a later point. -/
theorem s6B (c : Dev nD) (t : Fin cfg0.N) (h : ¬t.val % 32 = 0) (j : Fin 1024) :
    (outsAt0 m c t.val t.isLt).2.2 (ix2 0 j) = (outsAt0 m c (t.val - 1) (by omega)).2.2 (ix2 0 j)
      + ∑ p, E6 (n := 16384) (m ((c : Thread nD τ).loc main_arg0)) (m ((c : Thread nD τ).loc main_arg1)) (m ((c : Thread nD τ).loc main_arg2)) (row ⟨t.val, (idx t).1⟩ p) j := by
  rw [outsAt0_B m c t h h]
  frame_out
  exact (pay6 _ _ _ _ j).trans (congrArg₂ (· + ·) rfl (Finset.sum_congr rfl fun p _ => e6 m c t p j))

set_option backward.isDefEq.respectTransparency false in
/-- A row's part of the gradient of the norm's weight: the accumulator where it is written back. -/
theorem acc6 (c : Dev nD) (t : Fin cfg0.N) (h : t.val % 32 = 31) (j : Fin 1024) :
    (outsAt0 m c t.val t.isLt).2.2 (ix2 0 j) = ∑ r, E6 (n := 16384) (m ((c : Thread nD τ).loc main_arg0)) (m ((c : Thread nD τ).loc main_arg1)) (m ((c : Thread nD τ).loc main_arg2)) r j := by
  refine (Pipeline.eq_sum_fin_of_reset_step_apply_of_flush (fun n hn (j : Fin 1024) => (outsAt0 m c n hn).2.2 (ix2 0 j)) 32 (fun _ => 0)
    (fun t j => ∑ p, E6 (n := 16384) (m ((c : Thread nD τ).loc main_arg0)) (m ((c : Thread nD τ).loc main_arg1)) (m ((c : Thread nD τ).loc main_arg2)) (row ⟨t.val, (idx t).1⟩ p) j)
    (fun t h j => s6A m c t h j) (fun t h j => s6B m c t h j) t h j).trans ?_
  rw [zero_add, ← sum_rows]
  have := (idx t).1
  exact Finset.sum_congr rfl fun s _ => Finset.sum_congr rfl fun p _ =>
    congrArg (fun r => E6 (n := 16384) (m ((c : Thread nD τ).loc main_arg0)) (m ((c : Thread nD τ).loc main_arg1)) (m ((c : Thread nD τ).loc main_arg2)) r j) (congrArg (row · p) (Fin.ext (show 32 * (t.val / 32) + s.val = s.val by omega)))

/-- A row's part of the gradient of the norm's weight, added over all rows. -/
def G6 (x0 x1 : Vec Ideal S16384x1024 .f32) (x2 : Vec Ideal S1x1024 .f32) : Vec Ideal S1x1024 .f32 := fun y => ∑ r, E6 x0 x1 x2 r (y 1)

set_option backward.isDefEq.respectTransparency false in
/-- A row's part of the gradient of the norm's weight: the array after the run. -/
theorem final6 (c : Dev nD) : (dats m 0 c).arrAt 6 cfg0.N = G6 (m ((c : Thread nD τ).loc main_arg0)) (m ((c : Thread nD τ).loc main_arg1)) (m ((c : Thread nD τ).loc main_arg2)) := by
  refine Dat.arrAt_eq_of_covers (dats m 0 c) 6 (G6 (m ((c : Thread nD τ).loc main_arg0)) (m ((c : Thread nD τ).loc main_arg1)) (m ((c : Thread nD τ).loc main_arg2)))
    (by decide +kernel) fun t hf y => ?_
  blk_simp
  rw [after0_6]
  idx_vars y
  obtain rfl : y0 = 0 := Subsingleton.elim _ _
  refine (acc6 m c t ((flush0_6 t).mp hf) y1).trans ?_
  have e : (((View.whole main_v0_2).slice (win0_6.rect t)).emb (ix2 0 y1) : S1x1024.Idx) = ix2 0 y1 := by
    blk_ext! [idx t]
  exact (congrArg (G6 _ _ _) e).symm

/-! ## The reference's results -/

open Cert.Reference19Ideal.Read in
set_option backward.isDefEq.respectTransparency false in
/-- The gradient of the layer's result, as the reference computes it. -/
theorem ref4 (x0 x1 : Vec Ideal S16384x1024 .f32) (x2 x3 : Vec Ideal S1x1024 .f32) (r : Fin 16384) (j : Fin 1024) :
    val_main_v41 (F := Ideal) x0 x1 x2 x3 (ix2 r j) =
      rgrad (rw0 x1 r) (fun j => (rw0 x2 0) j * (rw0 x0 r) j * (rw0 x3 0) j) j := by
  simp only [rgrad, rpart, nrm, ahead, rinv, ms, rw0]
  pointwise [val_main_v41, val_main_v40, val_main_v39, val_main_v38, val_main_v37, val_main_v36, val_main_v35, val_main_cst_7, val_main_v34, val_main_v33, val_main_cst_6, val_main_v32, val_main_v31, val_main_v30, val_main_v29, val_main_v28, val_main_cst_5, val_main_v27, val_main_v26, val_main_v25, val_main_v24, val_main_v23, val_main_cst_4, val_main_v22, val_main_v21, val_main_v20, val_main_cst_3, val_main_v19, val_main_v18, val_main_v17, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0]
  all_goals rfl

open Cert.Reference19Ideal.Read in
set_option backward.isDefEq.respectTransparency false in
/-- A row's part of the gate's gradient, as the reference computes it. -/
theorem ref5 (x0 x1 : Vec Ideal S16384x1024 .f32) (x3 : Vec Ideal S1x1024 .f32) (j : Fin 1024) :
    val_main_v21 (F := Ideal) x0 x1 x3 (ix2 0 j) =
      ∑ r : Fin 16384, (rw0 x0 r) j * (nrm (rw0 x1 r) j * (rw0 x3 0) j) := by
  simp only [rgrad, rpart, nrm, ahead, rinv, ms, rw0]
  pointwise [val_main_v21, val_main_v20, val_main_cst_3, val_main_v19, val_main_v18, val_main_v17, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0]
  all_goals rfl

open Cert.Reference19Ideal.Read in
set_option backward.isDefEq.respectTransparency false in
/-- A row's part of the gradient of the norm's weight, as the reference computes it. -/
theorem ref6 (x0 x1 : Vec Ideal S16384x1024 .f32) (x2 : Vec Ideal S1x1024 .f32) (j : Fin 1024) :
    val_main_v24 (F := Ideal) x0 x1 x2 (ix2 0 j) =
      ∑ r : Fin 16384, nrm (rw0 x1 r) j * ((rw0 x2 0) j * (rw0 x0 r) j) := by
  simp only [rgrad, rpart, nrm, ahead, rinv, ms, rw0]
  pointwise [val_main_v24, val_main_v23, val_main_cst_4, val_main_v22, val_main_v21, val_main_v20, val_main_cst_3, val_main_v19, val_main_v18, val_main_v17, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0]
  all_goals rfl

/-! ## The two agree -/

/-- An array without axes has one index. -/
instance : Subsingleton Cert.Pre_finite19.S_.Idx := ⟨fun a b => funext fun i => i.elim0⟩

/-- The rows the precondition speaks of hold real numbers. -/
structure RealRows (x0 x1 : Vec Ideal S16384x1024 .f32) (x2 x3 : Vec Ideal S1x1024 .f32) : Prop where
  h0 : ∀ r, IsReal (rw0 x0 r)
  h1 : ∀ r, IsReal (rw0 x1 r)
  h2 : IsReal (rw0 x2 0)
  h3 : IsReal (rw0 x3 0)

/-- The precondition says that the rows hold real numbers. -/
theorem realRows [Cert.Pre_finite19.Facts] (x0 x1 : Vec Ideal S16384x1024 .f32) (x2 x3 : Vec Ideal S1x1024 .f32)
    (j : Cert.Pre_finite19.S_.Idx) (h : Cert.Pre_finite19.fn (F := Ideal) x0 x1 x2 x3 j = 1#1) : RealRows x0 x1 x2 x3 := by
  obtain ⟨h, e3⟩ := andi_split _ _ j h
  obtain ⟨h, e2⟩ := andi_split _ _ j h
  obtain ⟨e0, e1⟩ := andi_split _ _ j h
  choose a0 r0 using real_of_all _ _ _ _ _ j e0
  choose a1 r1 using real_of_all _ _ _ _ _ j e1
  choose a2 r2 using real_of_all _ _ _ _ _ j e2
  choose a3 r3 using real_of_all _ _ _ _ _ j e3
  exact ⟨fun r => ⟨fun j => a0 (ix2 r j), funext fun j => r0 _⟩, fun r => ⟨fun j => a1 (ix2 r j), funext fun j => r1 _⟩, ⟨fun j => a2 (ix2 0 j), funext fun j => r2 _⟩, ⟨fun j => a3 (ix2 0 j), funext fun j => r3 _⟩⟩

/-- The gradient of the layer's result: the reference's is the kernel's. -/
theorem agree4 (x0 x1 : Vec Ideal S16384x1024 .f32) (x2 x3 : Vec Ideal S1x1024 .f32) (h : RealRows x0 x1 x2 x3) :
    Cert.Reference19Ideal.Read.val_main_v41 (F := Ideal) x0 x1 x2 x3 = G4 x0 x1 x2 x3 := by
  funext i
  idx_vars i
  refine (ref4 x0 x1 x2 x3 i0 i1).trans ?_
  show _ = E4 x0 x1 x2 x3 i0 i1
  unfold E4
  have e : (fun j => rw0 x2 0 j * rw0 x0 i0 j * rw0 x3 0 j) = behind (rw0 x0 i0) (rw0 x2 0) (rw0 x3 0) :=
    funext fun j => congrArg (· * rw0 x3 0 j) (mul_comm _ _)
  rw [e, grad (h.h1 _) (behind_real (h.h0 _) h.h2 h.h3)]

/-- A row's part of the gate's gradient: the reference's is the kernel's. -/
theorem agree5 (x0 x1 : Vec Ideal S16384x1024 .f32) (x3 : Vec Ideal S1x1024 .f32) :
    Cert.Reference19Ideal.Read.val_main_v21 (F := Ideal) x0 x1 x3 = G5 x0 x1 x3 := by
  funext i
  idx_vars i
  obtain rfl : i0 = 0 := Subsingleton.elim _ _
  refine (ref5 x0 x1 x3 i1).trans (Finset.sum_congr rfl fun r _ => ?_)
  show _ = E5 x0 x1 x3 r i1
  unfold E5
  rfl

/-- A row's part of the gradient of the norm's weight: the reference's is the kernel's. -/
theorem agree6 (x0 x1 : Vec Ideal S16384x1024 .f32) (x2 : Vec Ideal S1x1024 .f32) :
    Cert.Reference19Ideal.Read.val_main_v24 (F := Ideal) x0 x1 x2 = G6 x0 x1 x2 := by
  funext i
  idx_vars i
  obtain rfl : i0 = 0 := Subsingleton.elim _ _
  refine (ref6 x0 x1 x2 i1).trans (Finset.sum_congr rfl fun r _ => ?_)
  show _ = E6 x0 x1 x2 r i1
  unfold E6
  exact (mul_comm _ _).trans (congrArg (· * nrm (rw0 x1 r) i1) (mul_comm _ _))

/-- The results agree with the reference's where the arguments hold real numbers. -/
theorem claim [Cert.Pre_finite19.Facts] : Cert.algebraic_Kernel19Ideal_Reference19Ideal_pre_finite19 := by
  intro m ρ m' ρ' hpre hagree
  have hr : ∀ c : Dev nD, _ := fun c => realRows _ _ _ _ ix0 (congrFun (hpre c) ix0)
  refine ⟨fun c => G4 _ _ _ _, fun c => G5 _ _ _, fun c => G6 _ _ _,
    (θ_run defs _ _).mono (fun r h c => ⟨(h c).1.trans (final4 m c), (h c).2.1.trans (final5 m c), (h c).2.2.1.trans (final6 m c), (h c).2.2.2⟩)
      (Value.run_blocks (F := Ideal) m ρ), ?_⟩
  refine (θ_run Cert.Reference19Ideal.defs _ _).mono (fun _ h c => ⟨(h c).1.trans ?_, (h c).2.1.trans ?_, (h c).2.2.1.trans ?_, (h c).2.2.2⟩)
    (Cert.Reference19Ideal.Value.run (F := Ideal) m' ρ')
  · refine (Cert.Reference19Ideal.Read.val_main_v41_eq _ _).trans ?_
    obtain ⟨a0, a1, a2, a3⟩ := hagree c
    rw [a0, a1, a2, a3]
    exact agree4 _ _ _ _ (hr c)
  · obtain ⟨a0, a1, a2, a3⟩ := hagree c
    rw [a0, a1, a3]
    exact (Cert.Reference19Ideal.Read.val_main_v21_eq _ _ _).trans (agree5 _ _ _)
  · obtain ⟨a0, a1, a2, a3⟩ := hagree c
    rw [a0, a1, a2]
    exact (Cert.Reference19Ideal.Read.val_main_v24_eq _ _ _).trans (agree6 _ _ _)

end Cert.Kernel19Ideal.Resid

end
-- ==== Proof.NormResid.lean ====
/- The gradients of the normalisation before a layer and of the join before it: at real arguments the gradients of the residual
   stream, the layer's result, the gate, the scale, the shift and both norms' weights are the reference's. -/
module

public import proofs.«01_k».proof.Proof.Gen.Kernel20Ideal.Value
public import proofs.«01_k».proof.Proof.Gen.Reference20Ideal.Read
public import proofs.«01_k».proof.Proof.Norm
public import proofs.«01_k».proof.Defs
public import Idealize.ShloMosaic.Lib.Pipeline.ValueKit
public import Idealize.ShloMosaic.Lib.Claim

@[expose] public section

set_option maxRecDepth 16384

noncomputable section

namespace Cert.Kernel20Ideal.NormResid

open Cert.Kernel20Ideal Cert.Kernel20Ideal.Gen Cert.Norm Cert.Reals Idealize.ShloMosaic Idealize.ShloMosaic.TcCoe
open Idealize.ShloMosaic.Pipeline (Dat)

/-- A row of an array. -/
abbrev rw0 {n : Nat} (x : Vec Ideal (⟨2, ![n, 1024]⟩ : Shape) .f32) (r : Fin n) (j : Fin 1024) : EReal := x (ix2 r j)

/-! ## A row's results from the rows of the arguments -/

/-- The gradient of the residual stream. -/
def E8 {n : Nat} (x0 x1 x2 : Vec Ideal (⟨2, ![n, 1024]⟩ : Shape) .f32) (x3 x4 : Vec Ideal S1x1024 .f32) (r : Fin n) (j : Fin 1024) : EReal :=
  kdx (rw0 x0 r) (rw0 x1 r) (rw0 x2 r) (rw0 x3 0) (rw0 x4 0) j

/-- The gradient of the layer's result. -/
def E9 {n : Nat} (x0 x1 x2 : Vec Ideal (⟨2, ![n, 1024]⟩ : Shape) .f32) (x3 x4 : Vec Ideal S1x1024 .f32) (x5 : Vec Ideal (⟨2, ![n, 1024]⟩ : Shape) .f32) (x6 x7 : Vec Ideal S1x1024 .f32) (r : Fin n) (j : Fin 1024) : EReal :=
  kgrad (rw0 x5 r) (behind (kdx (rw0 x0 r) (rw0 x1 r) (rw0 x2 r) (rw0 x3 0) (rw0 x4 0)) (rw0 x6 0) (rw0 x7 0)) j

/-- A row's part of the scale's gradient. -/
def E10 {n : Nat} (x0 x1 : Vec Ideal (⟨2, ![n, 1024]⟩ : Shape) .f32) (x3 : Vec Ideal S1x1024 .f32) (r : Fin n) (j : Fin 1024) : EReal :=
  kds (rw0 x0 r) (rw0 x1 r) (rw0 x3 0) j

/-- A row's part of the shift's gradient. -/
def E11 {n : Nat} (x0 : Vec Ideal (⟨2, ![n, 1024]⟩ : Shape) .f32) (r : Fin n) (j : Fin 1024) : EReal :=
  (rw0 x0 r) j

/-- A row's part of the gradient of the norm's weight. -/
def E12 {n : Nat} (x0 x1 : Vec Ideal (⟨2, ![n, 1024]⟩ : Shape) .f32) (x4 : Vec Ideal S1x1024 .f32) (r : Fin n) (j : Fin 1024) : EReal :=
  kdg (rw0 x0 r) (rw0 x1 r) (rw0 x4 0) j

/-- A row's part of the gate's gradient. -/
def E13 {n : Nat} (x0 x1 x2 : Vec Ideal (⟨2, ![n, 1024]⟩ : Shape) .f32) (x3 x4 : Vec Ideal S1x1024 .f32) (x5 : Vec Ideal (⟨2, ![n, 1024]⟩ : Shape) .f32) (x7 : Vec Ideal S1x1024 .f32) (r : Fin n) (j : Fin 1024) : EReal :=
  kdt (kdx (rw0 x0 r) (rw0 x1 r) (rw0 x2 r) (rw0 x3 0) (rw0 x4 0)) (rw0 x5 r) (rw0 x7 0) j

/-- A row's part of the gradient of the weight of the norm after the layer. -/
def E14 {n : Nat} (x0 x1 x2 : Vec Ideal (⟨2, ![n, 1024]⟩ : Shape) .f32) (x3 x4 : Vec Ideal S1x1024 .f32) (x5 : Vec Ideal (⟨2, ![n, 1024]⟩ : Shape) .f32) (x6 : Vec Ideal S1x1024 .f32) (r : Fin n) (j : Fin 1024) : EReal :=
  kdp (kdx (rw0 x0 r) (rw0 x1 r) (rw0 x2 r) (rw0 x3 0) (rw0 x4 0)) (rw0 x5 r) (rw0 x6 0) j

/-! ## What a point stores -/

set_option backward.isDefEq.respectTransparency false in
/-- The gradient of the residual stream, as a point stores it. -/
theorem pay8 (x0 x1 x2 : Vec Ideal S512x1024 .f32) (x3 x4 : Vec Ideal S1x1024 .f32) (p : Fin 512) (j : Fin 1024) :
    k0_pay11 x0 x3 (k0_pay2 x1) (k0_pay3 x1) x4 x2 (ix2 p j) = E8 x0 x1 x2 x3 x4 p j := by
  unfold E8 rw0
  simp only [kds, kdg, kdx, kdt, kdp, ahead, behind, kgrad, nrm, rinv, ms]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

set_option backward.isDefEq.respectTransparency false in
/-- The gradient of the layer's result, as a point stores it. -/
theorem pay9 (x0 x1 x2 : Vec Ideal S512x1024 .f32) (x3 x4 : Vec Ideal S1x1024 .f32) (x5 : Vec Ideal S512x1024 .f32) (x6 x7 : Vec Ideal S1x1024 .f32) (p : Fin 512) (j : Fin 1024) :
    k0_pay1 (k0_pay13 (k0_pay12 x5)) (k0_pay14 x5 (k0_pay12 x5)) (k0_pay20 (k0_pay11 x0 x3 (k0_pay2 x1) (k0_pay3 x1) x4 x2) x7 x6) (k0_pay21 (k0_pay11 x0 x3 (k0_pay2 x1) (k0_pay3 x1) x4 x2) x5 x7 (k0_pay12 x5) x6) (ix2 p j) = E9 x0 x1 x2 x3 x4 x5 x6 x7 p j := by
  unfold E9 rw0
  simp only [kds, kdg, kdx, kdt, kdp, ahead, behind, kgrad, nrm, rinv, ms]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

set_option backward.isDefEq.respectTransparency false in
/-- A row's part of the scale's gradient, added over the rows of a point to what was there. -/
theorem pay10 (x0 x1 : Vec Ideal S512x1024 .f32) (x3 : Vec Ideal S1x1024 .f32) (o : Vec Ideal S1x1024 .f32) (j : Fin 1024) :
    k0_pay5 x1 x0 x3 o (ix2 0 j) = o (ix2 0 j) + ∑ p : Fin 512, E10 x0 x1 x3 p j := by
  unfold E10 rw0
  simp only [kds, kdg, kdx, kdt, kdp, ahead, behind, kgrad, nrm, rinv, ms]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

set_option backward.isDefEq.respectTransparency false in
/-- A row's part of the shift's gradient, added over the rows of a point to what was there. -/
theorem pay11 (x0 : Vec Ideal S512x1024 .f32) (o : Vec Ideal S1x1024 .f32) (j : Fin 1024) :
    k0_pay7 x0 o (ix2 0 j) = o (ix2 0 j) + ∑ p : Fin 512, E11 x0 p j := by
  unfold E11 rw0
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

set_option backward.isDefEq.respectTransparency false in
/-- A row's part of the gradient of the norm's weight, added over the rows of a point to what was there. -/
theorem pay12 (x0 x1 : Vec Ideal S512x1024 .f32) (x4 : Vec Ideal S1x1024 .f32) (o : Vec Ideal S1x1024 .f32) (j : Fin 1024) :
    k0_pay10 x0 (k0_pay3 x1) x4 o (ix2 0 j) = o (ix2 0 j) + ∑ p : Fin 512, E12 x0 x1 x4 p j := by
  unfold E12 rw0
  simp only [kds, kdg, kdx, kdt, kdp, ahead, behind, kgrad, nrm, rinv, ms]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

set_option backward.isDefEq.respectTransparency false in
/-- A row's part of the gate's gradient, added over the rows of a point to what was there. -/
theorem pay13 (x0 x1 x2 : Vec Ideal S512x1024 .f32) (x3 x4 : Vec Ideal S1x1024 .f32) (x5 : Vec Ideal S512x1024 .f32) (x7 : Vec Ideal S1x1024 .f32) (o : Vec Ideal S1x1024 .f32) (j : Fin 1024) :
    k0_pay16 (k0_pay11 x0 x3 (k0_pay2 x1) (k0_pay3 x1) x4 x2) x5 x7 (k0_pay12 x5) o (ix2 0 j) = o (ix2 0 j) + ∑ p : Fin 512, E13 x0 x1 x2 x3 x4 x5 x7 p j := by
  unfold E13 rw0
  simp only [kds, kdg, kdx, kdt, kdp, ahead, behind, kgrad, nrm, rinv, ms]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

set_option backward.isDefEq.respectTransparency false in
/-- A row's part of the gradient of the weight of the norm after the layer, added over the rows of a point to what was there. -/
theorem pay14 (x0 x1 x2 : Vec Ideal S512x1024 .f32) (x3 x4 : Vec Ideal S1x1024 .f32) (x5 : Vec Ideal S512x1024 .f32) (x6 : Vec Ideal S1x1024 .f32) (o : Vec Ideal S1x1024 .f32) (j : Fin 1024) :
    k0_pay19 (k0_pay11 x0 x3 (k0_pay2 x1) (k0_pay3 x1) x4 x2) x5 (k0_pay12 x5) x6 o (ix2 0 j) = o (ix2 0 j) + ∑ p : Fin 512, E14 x0 x1 x2 x3 x4 x5 x6 p j := by
  unfold E14 rw0
  simp only [kds, kdg, kdx, kdt, kdp, ahead, behind, kgrad, nrm, rinv, ms]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

variable (m : (ℓ : Loc nD τ sig) → Buf (Elt Ideal) ℓ)

/-! ## Blocks of rows: point `t` works on the block of rows `t` -/

/-- The blocks' positions at a grid point. -/
theorem idx : ∀ t : Fin cfg0.N, t.val < 32
    ∧ win0_0.index t = ![t.val, 0]
    ∧ win0_1.index t = ![t.val, 0]
    ∧ win0_2.index t = ![t.val, 0]
    ∧ win0_3.index t = ![0, 0]
    ∧ win0_4.index t = ![0, 0]
    ∧ win0_5.index t = ![t.val, 0]
    ∧ win0_6.index t = ![0, 0]
    ∧ win0_7.index t = ![0, 0]
    ∧ win0_8.index t = ![t.val, 0]
    ∧ win0_9.index t = ![t.val, 0]
    ∧ win0_10.index t = ![0, 0]
    ∧ win0_11.index t = ![0, 0]
    ∧ win0_12.index t = ![0, 0]
    ∧ win0_13.index t = ![0, 0]
    ∧ win0_14.index t = ![0, 0] :=
  (by decide +kernel : ∀ t : Fin grid0.N, _)

set_option backward.isDefEq.respectTransparency false in
/-- The gradient of the layer's input: row `p` of a point's block is the whole array's row. -/
theorem b0 (c : Dev nD) (t : Fin cfg0.N) (p : Fin 512) (j : Fin 1024) :
    (iblk m c 0 t : Vec Ideal S512x1024 .f32) (ix2 p j) = rw0 (n := 16384) (m ((c : Thread nD τ).loc main_arg0)) (row ⟨t.val, (idx t).1⟩ p) j := by
  unfold row
  blk_ext! [iblk, V, idx t]

set_option backward.isDefEq.respectTransparency false in
/-- The residual stream: row `p` of a point's block is the whole array's row. -/
theorem b1 (c : Dev nD) (t : Fin cfg0.N) (p : Fin 512) (j : Fin 1024) :
    (iblk m c 1 t : Vec Ideal S512x1024 .f32) (ix2 p j) = rw0 (n := 16384) (m ((c : Thread nD τ).loc main_arg1)) (row ⟨t.val, (idx t).1⟩ p) j := by
  unfold row
  blk_ext! [iblk, V, idx t]

set_option backward.isDefEq.respectTransparency false in
/-- The gradient that reaches the residual stream otherwise: row `p` of a point's block is the whole array's row. -/
theorem b2 (c : Dev nD) (t : Fin cfg0.N) (p : Fin 512) (j : Fin 1024) :
    (iblk m c 2 t : Vec Ideal S512x1024 .f32) (ix2 p j) = rw0 (n := 16384) (m ((c : Thread nD τ).loc main_arg2)) (row ⟨t.val, (idx t).1⟩ p) j := by
  unfold row
  blk_ext! [iblk, V, idx t]

set_option backward.isDefEq.respectTransparency false in
/-- The norm's weight: every point's block is the whole of it. -/
theorem b3 (c : Dev nD) (t : Fin cfg0.N) (j : Fin 1024) :
    (iblk m c 3 t : Vec Ideal S1x1024 .f32) (ix2 0 j) = rw0 (n := 1) (m ((c : Thread nD τ).loc main_arg3)) 0 j := by
  blk_ext! [iblk, V, idx t]

set_option backward.isDefEq.respectTransparency false in
/-- The scale: every point's block is the whole of it. -/
theorem b4 (c : Dev nD) (t : Fin cfg0.N) (j : Fin 1024) :
    (iblk m c 4 t : Vec Ideal S1x1024 .f32) (ix2 0 j) = rw0 (n := 1) (m ((c : Thread nD τ).loc main_arg4)) 0 j := by
  blk_ext! [iblk, V, idx t]

set_option backward.isDefEq.respectTransparency false in
/-- The layer's result: row `p` of a point's block is the whole array's row. -/
theorem b5 (c : Dev nD) (t : Fin cfg0.N) (p : Fin 512) (j : Fin 1024) :
    (iblk m c 5 t : Vec Ideal S512x1024 .f32) (ix2 p j) = rw0 (n := 16384) (m ((c : Thread nD τ).loc main_arg5)) (row ⟨t.val, (idx t).1⟩ p) j := by
  unfold row
  blk_ext! [iblk, V, idx t]

set_option backward.isDefEq.respectTransparency false in
/-- The gate: every point's block is the whole of it. -/
theorem b6 (c : Dev nD) (t : Fin cfg0.N) (j : Fin 1024) :
    (iblk m c 6 t : Vec Ideal S1x1024 .f32) (ix2 0 j) = rw0 (n := 1) (m ((c : Thread nD τ).loc main_arg6)) 0 j := by
  blk_ext! [iblk, V, idx t]

set_option backward.isDefEq.respectTransparency false in
/-- The weight of the norm after the layer: every point's block is the whole of it. -/
theorem b7 (c : Dev nD) (t : Fin cfg0.N) (j : Fin 1024) :
    (iblk m c 7 t : Vec Ideal S1x1024 .f32) (ix2 0 j) = rw0 (n := 1) (m ((c : Thread nD τ).loc main_arg7)) 0 j := by
  blk_ext! [iblk, V, idx t]

set_option backward.isDefEq.respectTransparency false in
/-- The gradient of the residual stream: the row of a point's blocks gives what the whole arrays' row gives. -/
theorem e8 (c : Dev nD) (t : Fin cfg0.N) (p : Fin 512) (j : Fin 1024) :
    E8 (n := 512) (iblk m c 0 t) (iblk m c 1 t) (iblk m c 2 t) (iblk m c 3 t) (iblk m c 4 t) p j = E8 (n := 16384) (m ((c : Thread nD τ).loc main_arg0)) (m ((c : Thread nD τ).loc main_arg1)) (m ((c : Thread nD τ).loc main_arg2)) (m ((c : Thread nD τ).loc main_arg3)) (m ((c : Thread nD τ).loc main_arg4)) (row ⟨t.val, (idx t).1⟩ p) j := by
  unfold E8 rw0
  simp only [b0, b1, b2, b3, b4]

set_option backward.isDefEq.respectTransparency false in
/-- The gradient of the residual stream, as stored at a grid point. -/
theorem s8 (c : Dev nD) (t : Fin cfg0.N) (p : Fin 512) (j : Fin 1024) :
    (outsAt0 m c t.val t.isLt).1 (ix2 p j) = E8 (n := 16384) (m ((c : Thread nD τ).loc main_arg0)) (m ((c : Thread nD τ).loc main_arg1)) (m ((c : Thread nD τ).loc main_arg2)) (m ((c : Thread nD τ).loc main_arg3)) (m ((c : Thread nD τ).loc main_arg4)) (row ⟨t.val, (idx t).1⟩ p) j := by
  by_cases h : t.val % 32 = 0
  · rw [outsAt0_A m c t h h h h h]
    frame_out
    exact (pay8 _ _ _ _ _ p j).trans (e8 m c t p j)
  · rw [outsAt0_B m c t h h h h h]
    frame_out
    exact (pay8 _ _ _ _ _ p j).trans (e8 m c t p j)

/-- The gradient of the residual stream, for all rows. -/
def G8 (x0 x1 x2 : Vec Ideal S16384x1024 .f32) (x3 x4 : Vec Ideal S1x1024 .f32) : Vec Ideal S16384x1024 .f32 := fun y => E8 x0 x1 x2 x3 x4 (y 0) (y 1)

set_option backward.isDefEq.respectTransparency false in
/-- The gradient of the residual stream: the array after the run. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) := by
  refine Dat.arrAt_eq_of_covers (dats m 0 c) 8 (G8 (m ((c : Thread nD τ).loc main_arg0)) (m ((c : Thread nD τ).loc main_arg1)) (m ((c : Thread nD τ).loc main_arg2)) (m ((c : Thread nD τ).loc main_arg3)) (m ((c : Thread nD τ).loc main_arg4)))
    (by decide +kernel) fun t hf y => ?_
  blk_simp
  rw [after0_8]
  idx_vars y
  refine (s8 m c t y0 y1).trans ?_
  have e : (((View.whole main_v0_0).slice (win0_8.rect t)).emb (ix2 y0 y1) : S16384x1024.Idx) = ix2 (row ⟨t.val, (idx t).1⟩ y0) y1 := by
    unfold row
    blk_ext! [idx t]
  exact (congrArg (G8 _ _ _ _ _) e).symm

set_option backward.isDefEq.respectTransparency false in
/-- The gradient of the layer's result: the row of a point's blocks gives what the whole arrays' row gives. -/
theorem e9 (c : Dev nD) (t : Fin cfg0.N) (p : Fin 512) (j : Fin 1024) :
    E9 (n := 512) (iblk m c 0 t) (iblk m c 1 t) (iblk m c 2 t) (iblk m c 3 t) (iblk m c 4 t) (iblk m c 5 t) (iblk m c 6 t) (iblk m c 7 t) p j = E9 (n := 16384) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (row ⟨t.val, (idx t).1⟩ p) j := by
  unfold E9 rw0
  simp only [b0, b1, b2, b3, b4, b5, b6, b7]

set_option backward.isDefEq.respectTransparency false in
/-- The gradient of the layer's result, as stored at a grid point. -/
theorem s9 (c : Dev nD) (t : Fin cfg0.N) (p : Fin 512) (j : Fin 1024) :
    (outsAt0 m c t.val t.isLt).2.1 (ix2 p j) = E9 (n := 16384) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (row ⟨t.val, (idx t).1⟩ p) j := by
  by_cases h : t.val % 32 = 0
  · rw [outsAt0_A m c t h h h h h]
    frame_out
    exact (pay9 _ _ _ _ _ _ _ _ p j).trans (e9 m c t p j)
  · rw [outsAt0_B m c t h h h h h]
    frame_out
    exact (pay9 _ _ _ _ _ _ _ _ p j).trans (e9 m c t p j)

/-- The gradient of the layer's result, for all rows. -/
def G9 (x0 x1 x2 : Vec Ideal S16384x1024 .f32) (x3 x4 : Vec Ideal S1x1024 .f32) (x5 : Vec Ideal S16384x1024 .f32) (x6 x7 : Vec Ideal S1x1024 .f32) : Vec Ideal S16384x1024 .bf16 := fun y => E9 x0 x1 x2 x3 x4 x5 x6 x7 (y 0) (y 1)

set_option backward.isDefEq.respectTransparency false in
/-- The gradient of the layer's result: the array after the run. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine Dat.arrAt_eq_of_covers (dats m 0 c) 9 (G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (by decide +kernel) fun t hf y => ?_
  blk_simp
  rw [after0_9]
  idx_vars y
  refine (s9 m c t y0 y1).trans ?_
  have e : (((View.whole main_v0_1).slice (win0_9.rect t)).emb (ix2 y0 y1) : S16384x1024.Idx) = ix2 (row ⟨t.val, (idx t).1⟩ y0) y1 := by
    unfold row
    blk_ext! [idx t]
  exact (congrArg (G9 _ _ _ _ _ _ _ _) e).symm

set_option backward.isDefEq.respectTransparency false in
/-- A row's part of the scale's gradient: the row of a point's blocks gives what the whole arrays' row gives. -/
theorem e10 (c : Dev nD) (t : Fin cfg0.N) (p : Fin 512) (j : Fin 1024) :
    E10 (n := 512) (iblk m c 0 t) (iblk m c 1 t) (iblk m c 3 t) p j = E10 (n := 16384) (m ((c : Thread nD τ).loc main_arg0)) (m ((c : Thread nD τ).loc main_arg1)) (m ((c : Thread nD τ).loc main_arg3)) (row ⟨t.val, (idx t).1⟩ p) j := by
  unfold E10 rw0
  simp only [b0, b1, b3]

set_option backward.isDefEq.respectTransparency false in
/-- A row's part of the scale's gradient: the accumulator at the first point. -/
theorem s10A (c : Dev nD) (t : Fin cfg0.N) (h : t.val % 32 = 0) (j : Fin 1024) :
    (outsAt0 m c t.val t.isLt).2.2.1 (ix2 0 j) = 0 + ∑ p, E10 (n := 16384) (m ((c : Thread nD τ).loc main_arg0)) (m ((c : Thread nD τ).loc main_arg1)) (m ((c : Thread nD τ).loc main_arg3)) (row ⟨t.val, (idx t).1⟩ p) j := by
  rw [outsAt0_A m c t h h h h h]
  frame_out
  refine (pay10 _ _ _ _ j).trans (congrArg₂ (· + ·) ?_ (Finset.sum_congr rfl fun p _ => e10 m c t p j))
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

set_option backward.isDefEq.respectTransparency false in
/-- A row's part of the scale's gradient: the accumulator at a later point. -/
theorem s10B (c : Dev nD) (t : Fin cfg0.N) (h : ¬t.val % 32 = 0) (j : Fin 1024) :
    (outsAt0 m c t.val t.isLt).2.2.1 (ix2 0 j) = (outsAt0 m c (t.val - 1) (by omega)).2.2.1 (ix2 0 j)
      + ∑ p, E10 (n := 16384) (m ((c : Thread nD τ).loc main_arg0)) (m ((c : Thread nD τ).loc main_arg1)) (m ((c : Thread nD τ).loc main_arg3)) (row ⟨t.val, (idx t).1⟩ p) j := by
  rw [outsAt0_B m c t h h h h h]
  frame_out
  exact (pay10 _ _ _ _ j).trans (congrArg₂ (· + ·) rfl (Finset.sum_congr rfl fun p _ => e10 m c t p j))

set_option backward.isDefEq.respectTransparency false in
/-- A row's part of the scale's gradient: the accumulator where it is written back. -/
theorem acc10 (c : Dev nD) (t : Fin cfg0.N) (h : t.val % 32 = 31) (j : Fin 1024) :
    (outsAt0 m c t.val t.isLt).2.2.1 (ix2 0 j) = ∑ r, E10 (n := 16384) (m ((c : Thread nD τ).loc main_arg0)) (m ((c : Thread nD τ).loc main_arg1)) (m ((c : Thread nD τ).loc main_arg3)) r j := by
  refine (Pipeline.eq_sum_fin_of_reset_step_apply_of_flush (fun n hn (j : Fin 1024) => (outsAt0 m c n hn).2.2.1 (ix2 0 j)) 32 (fun _ => 0)
    (fun t j => ∑ p, E10 (n := 16384) (m ((c : Thread nD τ).loc main_arg0)) (m ((c : Thread nD τ).loc main_arg1)) (m ((c : Thread nD τ).loc main_arg3)) (row ⟨t.val, (idx t).1⟩ p) j)
    (fun t h j => s10A m c t h j) (fun t h j => s10B m c t h j) t h j).trans ?_
  rw [zero_add, ← sum_rows]
  have := (idx t).1
  exact Finset.sum_congr rfl fun s _ => Finset.sum_congr rfl fun p _ =>
    congrArg (fun r => E10 (n := 16384) (m ((c : Thread nD τ).loc main_arg0)) (m ((c : Thread nD τ).loc main_arg1)) (m ((c : Thread nD τ).loc main_arg3)) r j) (congrArg (row · p) (Fin.ext (show 32 * (t.val / 32) + s.val = s.val by omega)))

/-- A row's part of the scale's gradient, added over all rows. -/
def G10 (x0 x1 : Vec Ideal S16384x1024 .f32) (x3 : Vec Ideal S1x1024 .f32) : Vec Ideal S1x1024 .f32 := fun y => ∑ r, E10 x0 x1 x3 r (y 1)

set_option backward.isDefEq.respectTransparency false in
/-- A row's part of the scale's gradient: the array after the run. -/
theorem final10 (c : Dev nD) : (dats m 0 c).arrAt 10 cfg0.N = G10 (m ((c : Thread nD τ).loc main_arg0)) (m ((c : Thread nD τ).loc main_arg1)) (m ((c : Thread nD τ).loc main_arg3)) := by
  refine Dat.arrAt_eq_of_covers (dats m 0 c) 10 (G10 (m ((c : Thread nD τ).loc main_arg0)) (m ((c : Thread nD τ).loc main_arg1)) (m ((c : Thread nD τ).loc main_arg3)))
    (by decide +kernel) fun t hf y => ?_
  blk_simp
  rw [after0_10]
  idx_vars y
  obtain rfl : y0 = 0 := Subsingleton.elim _ _
  refine (acc10 m c t ((flush0_10 t).mp hf) y1).trans ?_
  have e : (((View.whole main_v0_2).slice (win0_10.rect t)).emb (ix2 0 y1) : S1x1024.Idx) = ix2 0 y1 := by
    blk_ext! [idx t]
  exact (congrArg (G10 _ _ _) e).symm

set_option backward.isDefEq.respectTransparency false in
/-- A row's part of the shift's gradient: the row of a point's blocks gives what the whole arrays' row gives. -/
theorem e11 (c : Dev nD) (t : Fin cfg0.N) (p : Fin 512) (j : Fin 1024) :
    E11 (n := 512) (iblk m c 0 t) p j = E11 (n := 16384) (m ((c : Thread nD τ).loc main_arg0)) (row ⟨t.val, (idx t).1⟩ p) j := by
  unfold E11 rw0
  simp only [b0]

set_option backward.isDefEq.respectTransparency false in
/-- A row's part of the shift's gradient: the accumulator at the first point. -/
theorem s11A (c : Dev nD) (t : Fin cfg0.N) (h : t.val % 32 = 0) (j : Fin 1024) :
    (outsAt0 m c t.val t.isLt).2.2.2.1 (ix2 0 j) = 0 + ∑ p, E11 (n := 16384) (m ((c : Thread nD τ).loc main_arg0)) (row ⟨t.val, (idx t).1⟩ p) j := by
  rw [outsAt0_A m c t h h h h h]
  frame_out
  refine (pay11 _ _ j).trans (congrArg₂ (· + ·) ?_ (Finset.sum_congr rfl fun p _ => e11 m c t p j))
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

set_option backward.isDefEq.respectTransparency false in
/-- A row's part of the shift's gradient: the accumulator at a later point. -/
theorem s11B (c : Dev nD) (t : Fin cfg0.N) (h : ¬t.val % 32 = 0) (j : Fin 1024) :
    (outsAt0 m c t.val t.isLt).2.2.2.1 (ix2 0 j) = (outsAt0 m c (t.val - 1) (by omega)).2.2.2.1 (ix2 0 j)
      + ∑ p, E11 (n := 16384) (m ((c : Thread nD τ).loc main_arg0)) (row ⟨t.val, (idx t).1⟩ p) j := by
  rw [outsAt0_B m c t h h h h h]
  frame_out
  exact (pay11 _ _ j).trans (congrArg₂ (· + ·) rfl (Finset.sum_congr rfl fun p _ => e11 m c t p j))

set_option backward.isDefEq.respectTransparency false in
/-- A row's part of the shift's gradient: the accumulator where it is written back. -/
theorem acc11 (c : Dev nD) (t : Fin cfg0.N) (h : t.val % 32 = 31) (j : Fin 1024) :
    (outsAt0 m c t.val t.isLt).2.2.2.1 (ix2 0 j) = ∑ r, E11 (n := 16384) (m ((c : Thread nD τ).loc main_arg0)) r j := by
  refine (Pipeline.eq_sum_fin_of_reset_step_apply_of_flush (fun n hn (j : Fin 1024) => (outsAt0 m c n hn).2.2.2.1 (ix2 0 j)) 32 (fun _ => 0)
    (fun t j => ∑ p, E11 (n := 16384) (m ((c : Thread nD τ).loc main_arg0)) (row ⟨t.val, (idx t).1⟩ p) j)
    (fun t h j => s11A m c t h j) (fun t h j => s11B m c t h j) t h j).trans ?_
  rw [zero_add, ← sum_rows]
  have := (idx t).1
  exact Finset.sum_congr rfl fun s _ => Finset.sum_congr rfl fun p _ =>
    congrArg (fun r => E11 (n := 16384) (m ((c : Thread nD τ).loc main_arg0)) r j) (congrArg (row · p) (Fin.ext (show 32 * (t.val / 32) + s.val = s.val by omega)))

/-- A row's part of the shift's gradient, added over all rows. -/
def G11 (x0 : Vec Ideal S16384x1024 .f32) : Vec Ideal S1x1024 .f32 := fun y => ∑ r, E11 x0 r (y 1)

set_option backward.isDefEq.respectTransparency false in
/-- A row's part of the shift's gradient: the array after the run. -/
theorem final11 (c : Dev nD) : (dats m 0 c).arrAt 11 cfg0.N = G11 (m ((c : Thread nD τ).loc main_arg0)) := by
  refine Dat.arrAt_eq_of_covers (dats m 0 c) 11 (G11 (m ((c : Thread nD τ).loc main_arg0)))
    (by decide +kernel) fun t hf y => ?_
  blk_simp
  rw [after0_11]
  idx_vars y
  obtain rfl : y0 = 0 := Subsingleton.elim _ _
  refine (acc11 m c t ((flush0_11 t).mp hf) y1).trans ?_
  have e : (((View.whole main_v0_3).slice (win0_11.rect t)).emb (ix2 0 y1) : S1x1024.Idx) = ix2 0 y1 := by
    blk_ext! [idx t]
  exact (congrArg (G11 _) e).symm

set_option backward.isDefEq.respectTransparency false in
/-- A row's part of the gradient of the norm's weight: the row of a point's blocks gives what the whole arrays' row gives. -/
theorem e12 (c : Dev nD) (t : Fin cfg0.N) (p : Fin 512) (j : Fin 1024) :
    E12 (n := 512) (iblk m c 0 t) (iblk m c 1 t) (iblk m c 4 t) p j = E12 (n := 16384) (m ((c : Thread nD τ).loc main_arg0)) (m ((c : Thread nD τ).loc main_arg1)) (m ((c : Thread nD τ).loc main_arg4)) (row ⟨t.val, (idx t).1⟩ p) j := by
  unfold E12 rw0
  simp only [b0, b1, b4]

set_option backward.isDefEq.respectTransparency false in
/-- A row's part of the gradient of the norm's weight: the accumulator at the first point. -/
theorem s12A (c : Dev nD) (t : Fin cfg0.N) (h : t.val % 32 = 0) (j : Fin 1024) :
    (outsAt0 m c t.val t.isLt).2.2.2.2.1 (ix2 0 j) = 0 + ∑ p, E12 (n := 16384) (m ((c : Thread nD τ).loc main_arg0)) (m ((c : Thread nD τ).loc main_arg1)) (m ((c : Thread nD τ).loc main_arg4)) (row ⟨t.val, (idx t).1⟩ p) j := by
  rw [outsAt0_A m c t h h h h h]
  frame_out
  refine (pay12 _ _ _ _ j).trans (congrArg₂ (· + ·) ?_ (Finset.sum_congr rfl fun p _ => e12 m c t p j))
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

set_option backward.isDefEq.respectTransparency false in
/-- A row's part of the gradient of the norm's weight: the accumulator at a later point. -/
theorem s12B (c : Dev nD) (t : Fin cfg0.N) (h : ¬t.val % 32 = 0) (j : Fin 1024) :
    (outsAt0 m c t.val t.isLt).2.2.2.2.1 (ix2 0 j) = (outsAt0 m c (t.val - 1) (by omega)).2.2.2.2.1 (ix2 0 j)
      + ∑ p, E12 (n := 16384) (m ((c : Thread nD τ).loc main_arg0)) (m ((c : Thread nD τ).loc main_arg1)) (m ((c : Thread nD τ).loc main_arg4)) (row ⟨t.val, (idx t).1⟩ p) j := by
  rw [outsAt0_B m c t h h h h h]
  frame_out
  exact (pay12 _ _ _ _ j).trans (congrArg₂ (· + ·) rfl (Finset.sum_congr rfl fun p _ => e12 m c t p j))

set_option backward.isDefEq.respectTransparency false in
/-- A row's part of the gradient of the norm's weight: the accumulator where it is written back. -/
theorem acc12 (c : Dev nD) (t : Fin cfg0.N) (h : t.val % 32 = 31) (j : Fin 1024) :
    (outsAt0 m c t.val t.isLt).2.2.2.2.1 (ix2 0 j) = ∑ r, E12 (n := 16384) (m ((c : Thread nD τ).loc main_arg0)) (m ((c : Thread nD τ).loc main_arg1)) (m ((c : Thread nD τ).loc main_arg4)) r j := by
  refine (Pipeline.eq_sum_fin_of_reset_step_apply_of_flush (fun n hn (j : Fin 1024) => (outsAt0 m c n hn).2.2.2.2.1 (ix2 0 j)) 32 (fun _ => 0)
    (fun t j => ∑ p, E12 (n := 16384) (m ((c : Thread nD τ).loc main_arg0)) (m ((c : Thread nD τ).loc main_arg1)) (m ((c : Thread nD τ).loc main_arg4)) (row ⟨t.val, (idx t).1⟩ p) j)
    (fun t h j => s12A m c t h j) (fun t h j => s12B m c t h j) t h j).trans ?_
  rw [zero_add, ← sum_rows]
  have := (idx t).1
  exact Finset.sum_congr rfl fun s _ => Finset.sum_congr rfl fun p _ =>
    congrArg (fun r => E12 (n := 16384) (m ((c : Thread nD τ).loc main_arg0)) (m ((c : Thread nD τ).loc main_arg1)) (m ((c : Thread nD τ).loc main_arg4)) r j) (congrArg (row · p) (Fin.ext (show 32 * (t.val / 32) + s.val = s.val by omega)))

/-- A row's part of the gradient of the norm's weight, added over all rows. -/
def G12 (x0 x1 : Vec Ideal S16384x1024 .f32) (x4 : Vec Ideal S1x1024 .f32) : Vec Ideal S1x1024 .f32 := fun y => ∑ r, E12 x0 x1 x4 r (y 1)

set_option backward.isDefEq.respectTransparency false in
/-- A row's part of the gradient of the norm's weight: the array after the run. -/
theorem final12 (c : Dev nD) : (dats m 0 c).arrAt 12 cfg0.N = G12 (m ((c : Thread nD τ).loc main_arg0)) (m ((c : Thread nD τ).loc main_arg1)) (m ((c : Thread nD τ).loc main_arg4)) := by
  refine Dat.arrAt_eq_of_covers (dats m 0 c) 12 (G12 (m ((c : Thread nD τ).loc main_arg0)) (m ((c : Thread nD τ).loc main_arg1)) (m ((c : Thread nD τ).loc main_arg4)))
    (by decide +kernel) fun t hf y => ?_
  blk_simp
  rw [after0_12]
  idx_vars y
  obtain rfl : y0 = 0 := Subsingleton.elim _ _
  refine (acc12 m c t ((flush0_12 t).mp hf) y1).trans ?_
  have e : (((View.whole main_v0_4).slice (win0_12.rect t)).emb (ix2 0 y1) : S1x1024.Idx) = ix2 0 y1 := by
    blk_ext! [idx t]
  exact (congrArg (G12 _ _ _) e).symm

set_option backward.isDefEq.respectTransparency false in
/-- A row's part of the gate's gradient: the row of a point's blocks gives what the whole arrays' row gives. -/
theorem e13 (c : Dev nD) (t : Fin cfg0.N) (p : Fin 512) (j : Fin 1024) :
    E13 (n := 512) (iblk m c 0 t) (iblk m c 1 t) (iblk m c 2 t) (iblk m c 3 t) (iblk m c 4 t) (iblk m c 5 t) (iblk m c 7 t) p j = E13 (n := 16384) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (row ⟨t.val, (idx t).1⟩ p) j := by
  unfold E13 rw0
  simp only [b0, b1, b2, b3, b4, b5, b7]

set_option backward.isDefEq.respectTransparency false in
/-- A row's part of the gate's gradient: the accumulator at the first point. -/
theorem s13A (c : Dev nD) (t : Fin cfg0.N) (h : t.val % 32 = 0) (j : Fin 1024) :
    (outsAt0 m c t.val t.isLt).2.2.2.2.2.1 (ix2 0 j) = 0 + ∑ p, E13 (n := 16384) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (row ⟨t.val, (idx t).1⟩ p) j := by
  rw [outsAt0_A m c t h h h h h]
  frame_out
  refine (pay13 _ _ _ _ _ _ _ _ j).trans (congrArg₂ (· + ·) ?_ (Finset.sum_congr rfl fun p _ => e13 m c t p j))
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

set_option backward.isDefEq.respectTransparency false in
/-- A row's part of the gate's gradient: the accumulator at a later point. -/
theorem s13B (c : Dev nD) (t : Fin cfg0.N) (h : ¬t.val % 32 = 0) (j : Fin 1024) :
    (outsAt0 m c t.val t.isLt).2.2.2.2.2.1 (ix2 0 j) = (outsAt0 m c (t.val - 1) (by omega)).2.2.2.2.2.1 (ix2 0 j)
      + ∑ p, E13 (n := 16384) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (row ⟨t.val, (idx t).1⟩ p) j := by
  rw [outsAt0_B m c t h h h h h]
  frame_out
  exact (pay13 _ _ _ _ _ _ _ _ j).trans (congrArg₂ (· + ·) rfl (Finset.sum_congr rfl fun p _ => e13 m c t p j))

set_option backward.isDefEq.respectTransparency false in
/-- A row's part of the gate's gradient: the accumulator where it is written back. -/
theorem acc13 (c : Dev nD) (t : Fin cfg0.N) (h : t.val % 32 = 31) (j : Fin 1024) :
    (outsAt0 m c t.val t.isLt).2.2.2.2.2.1 (ix2 0 j) = ∑ r, E13 (n := 16384) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) r j := by
  refine (Pipeline.eq_sum_fin_of_reset_step_apply_of_flush (fun n hn (j : Fin 1024) => (outsAt0 m c n hn).2.2.2.2.2.1 (ix2 0 j)) 32 (fun _ => 0)
    (fun t j => ∑ p, E13 (n := 16384) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (row ⟨t.val, (idx t).1⟩ p) j)
    (fun t h j => s13A m c t h j) (fun t h j => s13B m c t h j) t h j).trans ?_
  rw [zero_add, ← sum_rows]
  have := (idx t).1
  exact Finset.sum_congr rfl fun s _ => Finset.sum_congr rfl fun p _ =>
    congrArg (fun r => E13 (n := 16384) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) r j) (congrArg (row · p) (Fin.ext (show 32 * (t.val / 32) + s.val = s.val by omega)))

/-- A row's part of the gate's gradient, added over all rows. -/
def G13 (x0 x1 x2 : Vec Ideal S16384x1024 .f32) (x3 x4 : Vec Ideal S1x1024 .f32) (x5 : Vec Ideal S16384x1024 .f32) (x7 : Vec Ideal S1x1024 .f32) : Vec Ideal S1x1024 .f32 := fun y => ∑ r, E13 x0 x1 x2 x3 x4 x5 x7 r (y 1)

set_option backward.isDefEq.respectTransparency false in
/-- A row's part of the gate's gradient: the array after the run. -/
theorem final13 (c : Dev nD) : (dats m 0 c).arrAt 13 cfg0.N = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  refine Dat.arrAt_eq_of_covers (dats m 0 c) 13 (G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)))
    (by decide +kernel) fun t hf y => ?_
  blk_simp
  rw [after0_13]
  idx_vars y
  obtain rfl : y0 = 0 := Subsingleton.elim _ _
  refine (acc13 m c t ((flush0_13 t).mp hf) y1).trans ?_
  have e : (((View.whole main_v0_5).slice (win0_13.rect t)).emb (ix2 0 y1) : S1x1024.Idx) = ix2 0 y1 := by
    blk_ext! [idx t]
  exact (congrArg (G13 _ _ _ _ _ _ _) e).symm

set_option backward.isDefEq.respectTransparency false in
/-- A row's part of the gradient of the weight of the norm after the layer: the row of a point's blocks gives what the whole arrays' row gives. -/
theorem e14 (c : Dev nD) (t : Fin cfg0.N) (p : Fin 512) (j : Fin 1024) :
    E14 (n := 512) (iblk m c 0 t) (iblk m c 1 t) (iblk m c 2 t) (iblk m c 3 t) (iblk m c 4 t) (iblk m c 5 t) (iblk m c 6 t) p j = E14 (n := 16384) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row ⟨t.val, (idx t).1⟩ p) j := by
  unfold E14 rw0
  simp only [b0, b1, b2, b3, b4, b5, b6]

set_option backward.isDefEq.respectTransparency false in
/-- A row's part of the gradient of the weight of the norm after the layer: the accumulator at the first point. -/
theorem s14A (c : Dev nD) (t : Fin cfg0.N) (h : t.val % 32 = 0) (j : Fin 1024) :
    (outsAt0 m c t.val t.isLt).2.2.2.2.2.2 (ix2 0 j) = 0 + ∑ p, E14 (n := 16384) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row ⟨t.val, (idx t).1⟩ p) j := by
  rw [outsAt0_A m c t h h h h h]
  frame_out
  refine (pay14 _ _ _ _ _ _ _ _ j).trans (congrArg₂ (· + ·) ?_ (Finset.sum_congr rfl fun p _ => e14 m c t p j))
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]

set_option backward.isDefEq.respectTransparency false in
/-- A row's part of the gradient of the weight of the norm after the layer: the accumulator at a later point. -/
theorem s14B (c : Dev nD) (t : Fin cfg0.N) (h : ¬t.val % 32 = 0) (j : Fin 1024) :
    (outsAt0 m c t.val t.isLt).2.2.2.2.2.2 (ix2 0 j) = (outsAt0 m c (t.val - 1) (by omega)).2.2.2.2.2.2 (ix2 0 j)
      + ∑ p, E14 (n := 16384) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row ⟨t.val, (idx t).1⟩ p) j := by
  rw [outsAt0_B m c t h h h h h]
  frame_out
  exact (pay14 _ _ _ _ _ _ _ _ j).trans (congrArg₂ (· + ·) rfl (Finset.sum_congr rfl fun p _ => e14 m c t p j))

set_option backward.isDefEq.respectTransparency false in
/-- A row's part of the gradient of the weight of the norm after the layer: the accumulator where it is written back. -/
theorem acc14 (c : Dev nD) (t : Fin cfg0.N) (h : t.val % 32 = 31) (j : Fin 1024) :
    (outsAt0 m c t.val t.isLt).2.2.2.2.2.2 (ix2 0 j) = ∑ r, E14 (n := 16384) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r j := by
  refine (Pipeline.eq_sum_fin_of_reset_step_apply_of_flush (fun n hn (j : Fin 1024) => (outsAt0 m c n hn).2.2.2.2.2.2 (ix2 0 j)) 32 (fun _ => 0)
    (fun t j => ∑ p, E14 (n := 16384) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row ⟨t.val, (idx t).1⟩ p) j)
    (fun t h j => s14A m c t h j) (fun t h j => s14B m c t h j) t h j).trans ?_
  rw [zero_add, ← sum_rows]
  have := (idx t).1
  exact Finset.sum_congr rfl fun s _ => Finset.sum_congr rfl fun p _ =>
    congrArg (fun r => E14 (n := 16384) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r j) (congrArg (row · p) (Fin.ext (show 32 * (t.val / 32) + s.val = s.val by omega)))

/-- A row's part of the gradient of the weight of the norm after the layer, added over all rows. -/
def G14 (x0 x1 x2 : Vec Ideal S16384x1024 .f32) (x3 x4 : Vec Ideal S1x1024 .f32) (x5 : Vec Ideal S16384x1024 .f32) (x6 : Vec Ideal S1x1024 .f32) : Vec Ideal S1x1024 .f32 := fun y => ∑ r, E14 x0 x1 x2 x3 x4 x5 x6 r (y 1)

set_option backward.isDefEq.respectTransparency false in
/-- A row's part of the gradient of the weight of the norm after the layer: the array after the run. -/
theorem final14 (c : Dev nD) : (dats m 0 c).arrAt 14 cfg0.N = G14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine Dat.arrAt_eq_of_covers (dats m 0 c) 14 (G14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (by decide +kernel) fun t hf y => ?_
  blk_simp
  rw [after0_14]
  idx_vars y
  obtain rfl : y0 = 0 := Subsingleton.elim _ _
  refine (acc14 m c t ((flush0_14 t).mp hf) y1).trans ?_
  have e : (((View.whole main_v0_6).slice (win0_14.rect t)).emb (ix2 0 y1) : S1x1024.Idx) = ix2 0 y1 := by
    blk_ext! [idx t]
  exact (congrArg (G14 _ _ _ _ _ _ _) e).symm

/-! ## The reference's results -/

open Cert.Reference20Ideal.Read in
set_option backward.isDefEq.respectTransparency false in
/-- The gradient of the residual stream, as the reference computes it. -/
theorem ref8 (x0 x1 x2 : Vec Ideal S16384x1024 .f32) (x3 x4 : Vec Ideal S1x1024 .f32) (r : Fin 16384) (j : Fin 1024) :
    val_main_v49 (F := Ideal) x0 x1 x2 x3 x4 (ix2 r j) =
      (rw0 x2 r) j + rgrad (rw0 x1 r) (ahead (rw0 x0 r) (rw0 x3 0) (rw0 x4 0)) j := by
  simp only [rgrad, rpart, nrm, ahead, rinv, ms, rw0]
  pointwise [val_main_v49, val_main_v48, val_main_v47, val_main_v46, val_main_v45, val_main_v44, val_main_v43, val_main_cst_10, val_main_v42, val_main_v41, val_main_cst_9, val_main_v40, val_main_v39, val_main_v38, val_main_v37, val_main_v36, val_main_cst_8, val_main_v35, val_main_v34, val_main_v33, val_main_v32, val_main_v31, val_main_cst_7, val_main_v30, val_main_v29, val_main_v28, val_main_v27, val_main_v26, val_main_cst_6, val_main_v25, val_main_v24, val_main_v23, val_main_cst_5, val_main_v22, val_main_v21, val_main_v20, val_main_v19, val_main_v18, val_main_v17, val_main_v16, val_main_cst_4, val_main_v15, val_main_v14, val_main_v13, val_main_v12, val_main_v11, val_main_v10, val_main_cst_3, val_main_v9, val_main_v8, val_main_v7, val_main_v6, val_main_cst_2, val_main_v5, val_main_v4, val_main_cst_1, val_main_v3, val_main_v2, val_main_cst_0, val_main_v1, val_main_v0, val_main_cst]
  all_goals rfl

open Cert.Reference20Ideal.Read in
set_option backward.isDefEq.respectTransparency false in
/-- The gradient of the layer's result, as the reference computes it. -/
theorem ref9 (x0 x1 x2 : Vec Ideal S16384x1024 .f32) (x3 x4 : Vec Ideal S1x1024 .f32) (x5 : Vec Ideal S16384x1024 .f32) (x6 x7 : Vec Ideal S1x1024 .f32) (r : Fin 16384) (j : Fin 1024) :
    val_main_v91 (F := Ideal) x0 x1 x2 x3 x4 x5 x6 x7 (ix2 r j) =
      rgrad (rw0 x5 r) (fun j => (rw0 x6 0) j * (fun j => Cert.Reference20Ideal.Read.val_main_v49 (F := Ideal) x0 x1 x2 x3 x4 (ix2 r j)) j * (rw0 x7 0) j) j := by
  simp only [rgrad, rpart, nrm, ahead, rinv, ms, rw0]
  pointwise [val_main_v91, val_main_v90, val_main_v89, val_main_v88, val_main_v87, val_main_v86, val_main_v85, val_main_cst_19, val_main_v84, val_main_v83, val_main_cst_18, val_main_v82, val_main_v81, val_main_v80, val_main_v79, val_main_v78, val_main_cst_17, val_main_v77, val_main_v76, val_main_v75, val_main_v74, val_main_v73, val_main_cst_16, val_main_v72, val_main_v71, val_main_v70, val_main_cst_15, val_main_v69, val_main_v68, val_main_v67, val_main_v66, val_main_v65, val_main_v64, val_main_v63, val_main_v62, val_main_v61, val_main_v60, val_main_v59, val_main_cst_14, val_main_v58, val_main_v57, val_main_v56, val_main_v55, val_main_cst_13, val_main_v54, val_main_v53, val_main_cst_12, val_main_v52, val_main_v51, val_main_cst_11, val_main_v50, val_main_v48, val_main_v47, val_main_v46, val_main_v45, val_main_v44, val_main_v43, val_main_cst_10, val_main_v42, val_main_v41, val_main_cst_9, val_main_v40, val_main_v39, val_main_v38, val_main_v37, val_main_v36, val_main_cst_8, val_main_v35, val_main_v34, val_main_v33, val_main_v32, val_main_v31, val_main_cst_7, val_main_v30, val_main_v29, val_main_v28, val_main_v27, val_main_v26, val_main_cst_6, val_main_v25, val_main_v24, val_main_v23, val_main_cst_5, val_main_v22, val_main_v21, val_main_v20, val_main_v19, val_main_v18, val_main_v17, val_main_v16, val_main_cst_4, val_main_v15, val_main_v14, val_main_v13, val_main_v12, val_main_v11, val_main_v10, val_main_cst_3, val_main_v9, val_main_v8, val_main_v7, val_main_v6, val_main_cst_2, val_main_v5, val_main_v4, val_main_cst_1, val_main_v3, val_main_v2, val_main_cst_0, val_main_v1, val_main_v0, val_main_cst]
  all_goals rfl

open Cert.Reference20Ideal.Read in
set_option backward.isDefEq.respectTransparency false in
/-- A row's part of the scale's gradient, as the reference computes it. -/
theorem ref10 (x0 x1 : Vec Ideal S16384x1024 .f32) (x3 : Vec Ideal S1x1024 .f32) (j : Fin 1024) :
    val_main_v27 (F := Ideal) x0 x1 x3 (ix2 0 j) =
      ∑ r : Fin 16384, nrm (rw0 x1 r) j * (rw0 x3 0) j * (rw0 x0 r) j := by
  simp only [rgrad, rpart, nrm, ahead, rinv, ms, rw0]
  pointwise [val_main_v27, val_main_v26, val_main_cst_6, val_main_v25, val_main_v24, val_main_v23, val_main_cst_5, val_main_v22, val_main_v21, val_main_v20, val_main_v19, val_main_v18, val_main_v17, val_main_v16, val_main_cst_4, val_main_v15, val_main_v14, val_main_v13, val_main_v12, val_main_v11, val_main_v10, val_main_cst_3, val_main_v9, val_main_v8, val_main_v7, val_main_v6, val_main_cst_2, val_main_v5, val_main_v4, val_main_cst_1, val_main_v3, val_main_v2, val_main_cst_0, val_main_v1, val_main_v0, val_main_cst]
  all_goals rfl

open Cert.Reference20Ideal.Read in
set_option backward.isDefEq.respectTransparency false in
/-- A row's part of the shift's gradient, as the reference computes it. -/
theorem ref11 (x0 : Vec Ideal S16384x1024 .f32) (j : Fin 1024) :
    val_main_v24 (F := Ideal) x0 (ix2 0 j) =
      ∑ r : Fin 16384, (rw0 x0 r) j := by
  simp only [rgrad, rpart, nrm, ahead, rinv, ms, rw0]
  pointwise [val_main_v24, val_main_v23, val_main_cst_5, val_main_v22, val_main_v21, val_main_v20, val_main_v19, val_main_v18, val_main_v17, val_main_v16, val_main_cst_4, val_main_v15, val_main_v14, val_main_v13, val_main_v12, val_main_v11, val_main_v10, val_main_cst_3, val_main_v9, val_main_v8, val_main_v7, val_main_v6, val_main_cst_2, val_main_v5, val_main_v4, val_main_cst_1, val_main_v3, val_main_v2, val_main_cst_0, val_main_v1, val_main_v0, val_main_cst]
  all_goals rfl

open Cert.Reference20Ideal.Read in
set_option backward.isDefEq.respectTransparency false in
/-- A row's part of the gradient of the norm's weight, as the reference computes it. -/
theorem ref12 (x0 x1 : Vec Ideal S16384x1024 .f32) (x4 : Vec Ideal S1x1024 .f32) (j : Fin 1024) :
    val_main_v32 (F := Ideal) x0 x1 x4 (ix2 0 j) =
      ∑ r : Fin 16384, nrm (rw0 x1 r) j * ((rw0 x0 r) j * (1 + (rw0 x4 0) j)) := by
  simp only [rgrad, rpart, nrm, ahead, rinv, ms, rw0]
  pointwise [val_main_v32, val_main_v31, val_main_cst_7, val_main_v30, val_main_v29, val_main_v28, val_main_v27, val_main_v26, val_main_cst_6, val_main_v25, val_main_v24, val_main_v23, val_main_cst_5, val_main_v22, val_main_v21, val_main_v20, val_main_v19, val_main_v18, val_main_v17, val_main_v16, val_main_cst_4, val_main_v15, val_main_v14, val_main_v13, val_main_v12, val_main_v11, val_main_v10, val_main_cst_3, val_main_v9, val_main_v8, val_main_v7, val_main_v6, val_main_cst_2, val_main_v5, val_main_v4, val_main_cst_1, val_main_v3, val_main_v2, val_main_cst_0, val_main_v1, val_main_v0, val_main_cst]
  all_goals rfl

open Cert.Reference20Ideal.Read in
set_option backward.isDefEq.respectTransparency false in
/-- A row's part of the gate's gradient, as the reference computes it. -/
theorem ref13 (x0 x1 x2 : Vec Ideal S16384x1024 .f32) (x3 x4 : Vec Ideal S1x1024 .f32) (x5 : Vec Ideal S16384x1024 .f32) (x7 : Vec Ideal S1x1024 .f32) (j : Fin 1024) :
    val_main_v71 (F := Ideal) x0 x1 x2 x3 x4 x5 x7 (ix2 0 j) =
      ∑ r : Fin 16384, (fun j => Cert.Reference20Ideal.Read.val_main_v49 (F := Ideal) x0 x1 x2 x3 x4 (ix2 r j)) j * (nrm (rw0 x5 r) j * (rw0 x7 0) j) := by
  simp only [rgrad, rpart, nrm, ahead, rinv, ms, rw0]
  pointwise [val_main_v71, val_main_v70, val_main_cst_15, val_main_v69, val_main_v68, val_main_v67, val_main_v66, val_main_v65, val_main_v64, val_main_v63, val_main_v62, val_main_v61, val_main_v60, val_main_v59, val_main_cst_14, val_main_v58, val_main_v57, val_main_v56, val_main_v55, val_main_cst_13, val_main_v54, val_main_v53, val_main_cst_12, val_main_v52, val_main_v51, val_main_cst_11, val_main_v50, val_main_v48, val_main_v47, val_main_v46, val_main_v45, val_main_v44, val_main_v43, val_main_cst_10, val_main_v42, val_main_v41, val_main_cst_9, val_main_v40, val_main_v39, val_main_v38, val_main_v37, val_main_v36, val_main_cst_8, val_main_v35, val_main_v34, val_main_v33, val_main_v32, val_main_v31, val_main_cst_7, val_main_v30, val_main_v29, val_main_v28, val_main_v27, val_main_v26, val_main_cst_6, val_main_v25, val_main_v24, val_main_v23, val_main_cst_5, val_main_v22, val_main_v21, val_main_v20, val_main_v19, val_main_v18, val_main_v17, val_main_v16, val_main_cst_4, val_main_v15, val_main_v14, val_main_v13, val_main_v12, val_main_v11, val_main_v10, val_main_cst_3, val_main_v9, val_main_v8, val_main_v7, val_main_v6, val_main_cst_2, val_main_v5, val_main_v4, val_main_cst_1, val_main_v3, val_main_v2, val_main_cst_0, val_main_v1, val_main_v0, val_main_cst]
  all_goals rfl

open Cert.Reference20Ideal.Read in
set_option backward.isDefEq.respectTransparency false in
/-- A row's part of the gradient of the weight of the norm after the layer, as the reference computes it. -/
theorem ref14 (x0 x1 x2 : Vec Ideal S16384x1024 .f32) (x3 x4 : Vec Ideal S1x1024 .f32) (x5 : Vec Ideal S16384x1024 .f32) (x6 : Vec Ideal S1x1024 .f32) (j : Fin 1024) :
    val_main_v74 (F := Ideal) x0 x1 x2 x3 x4 x5 x6 (ix2 0 j) =
      ∑ r : Fin 16384, nrm (rw0 x5 r) j * ((rw0 x6 0) j * (fun j => Cert.Reference20Ideal.Read.val_main_v49 (F := Ideal) x0 x1 x2 x3 x4 (ix2 r j)) j) := by
  simp only [rgrad, rpart, nrm, ahead, rinv, ms, rw0]
  pointwise [val_main_v74, val_main_v73, val_main_cst_16, val_main_v72, val_main_v71, val_main_v70, val_main_cst_15, val_main_v69, val_main_v68, val_main_v67, val_main_v66, val_main_v65, val_main_v64, val_main_v63, val_main_v62, val_main_v61, val_main_v60, val_main_v59, val_main_cst_14, val_main_v58, val_main_v57, val_main_v56, val_main_v55, val_main_cst_13, val_main_v54, val_main_v53, val_main_cst_12, val_main_v52, val_main_v51, val_main_cst_11, val_main_v50, val_main_v48, val_main_v47, val_main_v46, val_main_v45, val_main_v44, val_main_v43, val_main_cst_10, val_main_v42, val_main_v41, val_main_cst_9, val_main_v40, val_main_v39, val_main_v38, val_main_v37, val_main_v36, val_main_cst_8, val_main_v35, val_main_v34, val_main_v33, val_main_v32, val_main_v31, val_main_cst_7, val_main_v30, val_main_v29, val_main_v28, val_main_v27, val_main_v26, val_main_cst_6, val_main_v25, val_main_v24, val_main_v23, val_main_cst_5, val_main_v22, val_main_v21, val_main_v20, val_main_v19, val_main_v18, val_main_v17, val_main_v16, val_main_cst_4, val_main_v15, val_main_v14, val_main_v13, val_main_v12, val_main_v11, val_main_v10, val_main_cst_3, val_main_v9, val_main_v8, val_main_v7, val_main_v6, val_main_cst_2, val_main_v5, val_main_v4, val_main_cst_1, val_main_v3, val_main_v2, val_main_cst_0, val_main_v1, val_main_v0, val_main_cst]
  all_goals rfl

/-! ## The two agree -/

/-- An array without axes has one index. -/
instance : Subsingleton Cert.Pre_finite20.S_.Idx := ⟨fun a b => funext fun i => i.elim0⟩

/-- The rows the precondition speaks of hold real numbers. -/
structure RealRows (x0 x1 x2 : Vec Ideal S16384x1024 .f32) (x3 x4 : Vec Ideal S1x1024 .f32) (x5 : Vec Ideal S16384x1024 .f32) (x6 x7 : Vec Ideal S1x1024 .f32) : Prop where
  h0 : ∀ r, IsReal (rw0 x0 r)
  h1 : ∀ r, IsReal (rw0 x1 r)
  h2 : ∀ r, IsReal (rw0 x2 r)
  h3 : IsReal (rw0 x3 0)
  h4 : IsReal (rw0 x4 0)
  h5 : ∀ r, IsReal (rw0 x5 r)
  h6 : IsReal (rw0 x6 0)
  h7 : IsReal (rw0 x7 0)

/-- The precondition says that the rows hold real numbers. -/
theorem realRows [Cert.Pre_finite20.Facts] (x0 x1 x2 : Vec Ideal S16384x1024 .f32) (x3 x4 : Vec Ideal S1x1024 .f32) (x5 : Vec Ideal S16384x1024 .f32) (x6 x7 : Vec Ideal S1x1024 .f32)
    (j : Cert.Pre_finite20.S_.Idx) (h : Cert.Pre_finite20.fn (F := Ideal) x0 x1 x2 x3 x4 x5 x6 x7 j = 1#1) : RealRows x0 x1 x2 x3 x4 x5 x6 x7 := by
  obtain ⟨h, h'⟩ := andi_split _ _ j h
  obtain ⟨h, e4⟩ := andi_split _ _ j h
  obtain ⟨h, e3⟩ := andi_split _ _ j h
  obtain ⟨e0, e1⟩ := andi_split _ _ j h
  obtain ⟨h', e7⟩ := andi_split _ _ j h'
  obtain ⟨h', e6⟩ := andi_split _ _ j h'
  obtain ⟨e2, e5⟩ := andi_split _ _ j h'
  choose a0 r0 using real_of_all _ _ _ _ _ j e0
  choose a1 r1 using real_of_all _ _ _ _ _ j e1
  choose a2 r2 using real_of_all _ _ _ _ _ j e2
  choose a3 r3 using real_of_all _ _ _ _ _ j e3
  choose a4 r4 using real_of_all _ _ _ _ _ j e4
  choose a5 r5 using real_of_all _ _ _ _ _ j e5
  choose a6 r6 using real_of_all _ _ _ _ _ j e6
  choose a7 r7 using real_of_all _ _ _ _ _ j e7
  exact ⟨fun r => ⟨fun j => a0 (ix2 r j), funext fun j => r0 _⟩, fun r => ⟨fun j => a1 (ix2 r j), funext fun j => r1 _⟩, fun r => ⟨fun j => a2 (ix2 r j), funext fun j => r2 _⟩, ⟨fun j => a3 (ix2 0 j), funext fun j => r3 _⟩, ⟨fun j => a4 (ix2 0 j), funext fun j => r4 _⟩, fun r => ⟨fun j => a5 (ix2 r j), funext fun j => r5 _⟩, ⟨fun j => a6 (ix2 0 j), funext fun j => r6 _⟩, ⟨fun j => a7 (ix2 0 j), funext fun j => r7 _⟩⟩

/-- The gradient of the residual stream: the reference's is the kernel's. -/
theorem agree8 (x0 x1 x2 : Vec Ideal S16384x1024 .f32) (x3 x4 : Vec Ideal S1x1024 .f32) (x5 : Vec Ideal S16384x1024 .f32) (x6 x7 : Vec Ideal S1x1024 .f32) (h : RealRows x0 x1 x2 x3 x4 x5 x6 x7) :
    Cert.Reference20Ideal.Read.val_main_v49 (F := Ideal) x0 x1 x2 x3 x4 = G8 x0 x1 x2 x3 x4 := by
  funext i
  idx_vars i
  refine (ref8 x0 x1 x2 x3 x4 i0 i1).trans ?_
  show _ = E8 x0 x1 x2 x3 x4 i0 i1
  unfold E8
  rw [grad (h.h1 _) (ahead_real (h.h0 _) h.h3 h.h4)]
  rfl

/-- The gradient of the layer's result: the reference's is the kernel's. -/
theorem agree9 (x0 x1 x2 : Vec Ideal S16384x1024 .f32) (x3 x4 : Vec Ideal S1x1024 .f32) (x5 : Vec Ideal S16384x1024 .f32) (x6 x7 : Vec Ideal S1x1024 .f32) (h : RealRows x0 x1 x2 x3 x4 x5 x6 x7) :
    Cert.Reference20Ideal.Read.val_main_v91 (F := Ideal) x0 x1 x2 x3 x4 x5 x6 x7 = G9 x0 x1 x2 x3 x4 x5 x6 x7 := by
  funext i
  idx_vars i
  refine (ref9 x0 x1 x2 x3 x4 x5 x6 x7 i0 i1).trans ?_
  show _ = E9 x0 x1 x2 x3 x4 x5 x6 x7 i0 i1
  unfold E9
  have d : (fun j => Cert.Reference20Ideal.Read.val_main_v49 (F := Ideal) x0 x1 x2 x3 x4 (ix2 i0 j)) = kdx (rw0 x0 i0) (rw0 x1 i0) (rw0 x2 i0) (rw0 x3 0) (rw0 x4 0) :=
    funext fun j => congrFun (agree8 _ _ _ _ _ _ _ _ h) (ix2 i0 j)
  have e : (fun j => rw0 x6 0 j * (fun j => Cert.Reference20Ideal.Read.val_main_v49 (F := Ideal) x0 x1 x2 x3 x4 (ix2 i0 j)) j * rw0 x7 0 j)
      = behind (kdx (rw0 x0 i0) (rw0 x1 i0) (rw0 x2 i0) (rw0 x3 0) (rw0 x4 0)) (rw0 x6 0) (rw0 x7 0) := by
    rw [d]
    exact funext fun j => congrArg (· * rw0 x7 0 j) (mul_comm _ _)
  rw [e, grad (h.h5 _) (behind_real (kdx_real (h.h0 _) (h.h1 _) (h.h2 _) h.h3 h.h4) h.h6 h.h7)]

/-- A row's part of the scale's gradient: the reference's is the kernel's. -/
theorem agree10 (x0 x1 : Vec Ideal S16384x1024 .f32) (x3 : Vec Ideal S1x1024 .f32) :
    Cert.Reference20Ideal.Read.val_main_v27 (F := Ideal) x0 x1 x3 = G10 x0 x1 x3 := by
  funext i
  idx_vars i
  obtain rfl : i0 = 0 := Subsingleton.elim _ _
  refine (ref10 x0 x1 x3 i1).trans (Finset.sum_congr rfl fun r _ => ?_)
  show _ = E10 x0 x1 x3 r i1
  unfold E10
  exact mul_comm _ _

/-- A row's part of the shift's gradient: the reference's is the kernel's. -/
theorem agree11 (x0 : Vec Ideal S16384x1024 .f32) :
    Cert.Reference20Ideal.Read.val_main_v24 (F := Ideal) x0 = G11 x0 := by
  funext i
  idx_vars i
  obtain rfl : i0 = 0 := Subsingleton.elim _ _
  refine (ref11 x0 i1).trans (Finset.sum_congr rfl fun r _ => ?_)
  show _ = E11 x0 r i1
  unfold E11
  rfl

/-- A row's part of the gradient of the norm's weight: the reference's is the kernel's. -/
theorem agree12 (x0 x1 : Vec Ideal S16384x1024 .f32) (x4 : Vec Ideal S1x1024 .f32) :
    Cert.Reference20Ideal.Read.val_main_v32 (F := Ideal) x0 x1 x4 = G12 x0 x1 x4 := by
  funext i
  idx_vars i
  obtain rfl : i0 = 0 := Subsingleton.elim _ _
  refine (ref12 x0 x1 x4 i1).trans (Finset.sum_congr rfl fun r _ => ?_)
  show _ = E12 x0 x1 x4 r i1
  unfold E12
  exact mul_comm _ _

/-- A row's part of the gate's gradient: the reference's is the kernel's. -/
theorem agree13 (x0 x1 x2 : Vec Ideal S16384x1024 .f32) (x3 x4 : Vec Ideal S1x1024 .f32) (x5 : Vec Ideal S16384x1024 .f32) (x6 x7 : Vec Ideal S1x1024 .f32) (h : RealRows x0 x1 x2 x3 x4 x5 x6 x7) :
    Cert.Reference20Ideal.Read.val_main_v71 (F := Ideal) x0 x1 x2 x3 x4 x5 x7 = G13 x0 x1 x2 x3 x4 x5 x7 := by
  funext i
  idx_vars i
  obtain rfl : i0 = 0 := Subsingleton.elim _ _
  refine (ref13 x0 x1 x2 x3 x4 x5 x7 i1).trans (Finset.sum_congr rfl fun r _ => ?_)
  show _ = E13 x0 x1 x2 x3 x4 x5 x7 r i1
  unfold E13
  have d : (fun j => Cert.Reference20Ideal.Read.val_main_v49 (F := Ideal) x0 x1 x2 x3 x4 (ix2 r j)) = kdx (rw0 x0 r) (rw0 x1 r) (rw0 x2 r) (rw0 x3 0) (rw0 x4 0) :=
    funext fun j => congrFun (agree8 _ _ _ _ _ _ _ _ h) (ix2 r j)
  rw [d]
  rfl

/-- A row's part of the gradient of the weight of the norm after the layer: the reference's is the kernel's. -/
theorem agree14 (x0 x1 x2 : Vec Ideal S16384x1024 .f32) (x3 x4 : Vec Ideal S1x1024 .f32) (x5 : Vec Ideal S16384x1024 .f32) (x6 x7 : Vec Ideal S1x1024 .f32) (h : RealRows x0 x1 x2 x3 x4 x5 x6 x7) :
    Cert.Reference20Ideal.Read.val_main_v74 (F := Ideal) x0 x1 x2 x3 x4 x5 x6 = G14 x0 x1 x2 x3 x4 x5 x6 := by
  funext i
  idx_vars i
  obtain rfl : i0 = 0 := Subsingleton.elim _ _
  refine (ref14 x0 x1 x2 x3 x4 x5 x6 i1).trans (Finset.sum_congr rfl fun r _ => ?_)
  show _ = E14 x0 x1 x2 x3 x4 x5 x6 r i1
  unfold E14
  have d : (fun j => Cert.Reference20Ideal.Read.val_main_v49 (F := Ideal) x0 x1 x2 x3 x4 (ix2 r j)) = kdx (rw0 x0 r) (rw0 x1 r) (rw0 x2 r) (rw0 x3 0) (rw0 x4 0) :=
    funext fun j => congrFun (agree8 _ _ _ _ _ _ _ _ h) (ix2 r j)
  rw [d]
  exact (mul_comm _ _).trans (congrArg (· * nrm (rw0 x5 r) i1) (mul_comm _ _))

/-- The results agree with the reference's where the arguments hold real numbers. -/
theorem claim [Cert.Pre_finite20.Facts] : Cert.algebraic_Kernel20Ideal_Reference20Ideal_pre_finite20 := by
  intro m ρ m' ρ' hpre hagree
  have hr : ∀ c : Dev nD, _ := fun c => realRows _ _ _ _ _ _ _ _ ix0 (congrFun (hpre c) ix0)
  refine ⟨fun c => G8 _ _ _ _ _, fun c => G9 _ _ _ _ _ _ _ _, fun c => G10 _ _ _, fun c => G11 _, fun c => G12 _ _ _, fun c => G13 _ _ _ _ _ _ _, fun c => G14 _ _ _ _ _ _ _,
    (θ_run defs _ _).mono (fun r h c => ⟨(h c).1.trans (final8 m c), (h c).2.1.trans (final9 m c), (h c).2.2.1.trans (final10 m c), (h c).2.2.2.1.trans (final11 m c), (h c).2.2.2.2.1.trans (final12 m c), (h c).2.2.2.2.2.1.trans (final13 m c), (h c).2.2.2.2.2.2.1.trans (final14 m c), (h c).2.2.2.2.2.2.2⟩)
      (Value.run_blocks (F := Ideal) m ρ), ?_⟩
  refine (θ_run Cert.Reference20Ideal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩)
    (Cert.Reference20Ideal.Value.run (F := Ideal) m' ρ')
  · refine (Cert.Reference20Ideal.Read.val_main_v49_eq _ _).trans ?_
    obtain ⟨a0, a1, a2, a3, a4, a5, a6, a7⟩ := hagree c
    rw [a0, a1, a2, a3, a4]
    exact agree8 _ _ _ _ _ _ _ _ (hr c)
  · refine (Cert.Reference20Ideal.Read.val_main_v91_eq _ _).trans ?_
    obtain ⟨a0, a1, a2, a3, a4, a5, a6, a7⟩ := hagree c
    rw [a0, a1, a2, a3, a4, a5, a6, a7]
    exact agree9 _ _ _ _ _ _ _ _ (hr c)
  · obtain ⟨a0, a1, a2, a3, a4, a5, a6, a7⟩ := hagree c
    rw [a0, a1, a3]
    exact (Cert.Reference20Ideal.Read.val_main_v27_eq _ _ _).trans (agree10 _ _ _)
  · obtain ⟨a0, a1, a2, a3, a4, a5, a6, a7⟩ := hagree c
    rw [a0]
    exact (Cert.Reference20Ideal.Read.val_main_v24_eq _).trans (agree11 _)
  · obtain ⟨a0, a1, a2, a3, a4, a5, a6, a7⟩ := hagree c
    rw [a0, a1, a4]
    exact (Cert.Reference20Ideal.Read.val_main_v32_eq _ _ _).trans (agree12 _ _ _)
  · refine (Cert.Reference20Ideal.Read.val_main_v71_eq _ _).trans ?_
    obtain ⟨a0, a1, a2, a3, a4, a5, a6, a7⟩ := hagree c
    rw [a0, a1, a2, a3, a4, a5, a7]
    exact agree13 _ _ _ _ _ _ _ _ (hr c)
  · refine (Cert.Reference20Ideal.Read.val_main_v74_eq _ _).trans ?_
    obtain ⟨a0, a1, a2, a3, a4, a5, a6, a7⟩ := hagree c
    rw [a0, a1, a2, a3, a4, a5, a6]
    exact agree14 _ _ _ _ _ _ _ _ (hr c)

end Cert.Kernel20Ideal.NormResid

end
-- ==== Proof.NormFwd.lean ====
/- The normalisation before a layer, with its scale and shift: at every argument the kernel's rows are the reference's. -/
module

public import proofs.«01_k».proof.Proof.Gen.Kernel21Ideal.Value
public import proofs.«01_k».proof.Proof.Gen.Reference21Ideal.Read
public import proofs.«01_k».proof.Proof.Norm
public import proofs.«01_k».proof.Defs
public import Idealize.ShloMosaic.Lib.Pipeline.ValueKit
public import Idealize.ShloMosaic.Lib.Claim

@[expose] public section

set_option maxRecDepth 16384

noncomputable section

namespace Cert.Kernel21Ideal.NormFwd

open Cert.Kernel21Ideal Cert.Kernel21Ideal.Gen Cert.Norm Cert.Reals Idealize.ShloMosaic Idealize.ShloMosaic.TcCoe
open Idealize.ShloMosaic.Pipeline (Dat)

/-- A row of an array. -/
abbrev rw0 {n : Nat} (x : Vec Ideal (⟨2, ![n, 1024]⟩ : Shape) .f32) (r : Fin n) (j : Fin 1024) : EReal := x (ix2 r j)

/-- A row of the result: the normalised row times its weight and one more than the scale, and the shift. -/
def out (x g s b : Fin 1024 → EReal) (j : Fin 1024) : EReal := nrm x j * g j * (1 + s j) + b j

set_option backward.isDefEq.respectTransparency false in
/-- What a point stores, at an index. -/
theorem pay_apply (x : Vec Ideal S512x1024 .f32) (g s b : Vec Ideal S1x1024 .f32) (p : Fin 512) (j : Fin 1024) :
    k0_pay1 x g s b (ix2 p j) = out (rw0 x p) (rw0 g 0) (rw0 s 0) (rw0 b 0) j := by
  unfold out nrm rinv ms
  pointwise [k0_pay1]

variable (m : (ℓ : Loc nD τ sig) → Buf (Elt Ideal) ℓ)

/-! ## Blocks of rows: point `t` works on the block of rows `t` -/

/-- The blocks' positions at a grid point. -/
theorem idx : ∀ t : Fin cfg0.N, t.val < 32
    ∧ win0_0.index t = ![t.val, 0]
    ∧ win0_1.index t = ![0, 0]
    ∧ win0_2.index t = ![0, 0]
    ∧ win0_3.index t = ![0, 0]
    ∧ win0_4.index t = ![t.val, 0] :=
  (by decide +kernel : ∀ t : Fin grid0.N, _)

set_option backward.isDefEq.respectTransparency false in
/-- The input: row `p` of a point's block is the whole array's row. -/
theorem b0 (c : Dev nD) (t : Fin cfg0.N) (p : Fin 512) (j : Fin 1024) :
    (iblk m c 0 t : Vec Ideal S512x1024 .f32) (ix2 p j) = rw0 (n := 16384) (m ((c : Thread nD τ).loc main_arg0)) (row ⟨t.val, (idx t).1⟩ p) j := by
  unfold row
  blk_ext! [iblk, V, idx t]

set_option backward.isDefEq.respectTransparency false in
/-- The norm's weight: every point's block is the whole of it. -/
theorem b1 (c : Dev nD) (t : Fin cfg0.N) (j : Fin 1024) :
    (iblk m c 1 t : Vec Ideal S1x1024 .f32) (ix2 0 j) = rw0 (n := 1) (m ((c : Thread nD τ).loc main_arg1)) 0 j := by
  blk_ext! [iblk, V, idx t]

set_option backward.isDefEq.respectTransparency false in
/-- The scale: every point's block is the whole of it. -/
theorem b2 (c : Dev nD) (t : Fin cfg0.N) (j : Fin 1024) :
    (iblk m c 2 t : Vec Ideal S1x1024 .f32) (ix2 0 j) = rw0 (n := 1) (m ((c : Thread nD τ).loc main_arg2)) 0 j := by
  blk_ext! [iblk, V, idx t]

set_option backward.isDefEq.respectTransparency false in
/-- The shift: every point's block is the whole of it. -/
theorem b3 (c : Dev nD) (t : Fin cfg0.N) (j : Fin 1024) :
    (iblk m c 3 t : Vec Ideal S1x1024 .f32) (ix2 0 j) = rw0 (n := 1) (m ((c : Thread nD τ).loc main_arg3)) 0 j := by
  blk_ext! [iblk, V, idx t]

/-- The result from the program's arguments. -/
def G (x0 : Vec Ideal S16384x1024 .f32) (x1 x2 x3 : Vec Ideal S1x1024 .f32) : Vec Ideal S16384x1024 .bf16 :=
  fun y => out (rw0 x0 (y 0)) (rw0 x1 0) (rw0 x2 0) (rw0 x3 0) (y 1)

set_option backward.isDefEq.respectTransparency false in
/-- The result's array after the run. -/
theorem final (c : Dev nD) : (dats m 0 c).arrAt 4 cfg0.N = G (m ((c : Thread nD τ).loc main_arg0)) (m ((c : Thread nD τ).loc main_arg1)) (m ((c : Thread nD τ).loc main_arg2)) (m ((c : Thread nD τ).loc main_arg3)) := by
  refine Dat.arrAt_eq_of_covers (dats m 0 c) 4 (G (m ((c : Thread nD τ).loc main_arg0)) (m ((c : Thread nD τ).loc main_arg1)) (m ((c : Thread nD τ).loc main_arg2)) (m ((c : Thread nD τ).loc main_arg3)))
    (by decide +kernel) fun t hf y => ?_
  blk_simp
  rw [after0_4]
  idx_vars y
  frame_out
  refine (pay_apply _ _ _ _ y0 y1).trans ?_
  unfold rw0
  simp only [b0, b1, b2, b3]
  have e : (((View.whole main_v0).slice (win0_4.rect t)).emb (ix2 y0 y1) : S16384x1024.Idx) = ix2 (row ⟨t.val, (idx t).1⟩ y0) y1 := by
    unfold row
    blk_ext! [idx t]
  exact (congrArg (G _ _ _ _) e).symm

open Cert.Reference21Ideal.Read in
set_option backward.isDefEq.respectTransparency false in
/-- The reference's result is the kernel's. -/
theorem agree (x0 : Vec Ideal S16384x1024 .f32) (x1 x2 x3 : Vec Ideal S1x1024 .f32) :
    val_main_v18 (F := Ideal) x0 x1 x2 x3 = G x0 x1 x2 x3 := by
  funext i
  unfold G out nrm rinv ms rw0
  pointwise [val_main_v18, val_main_v17, val_main_v16, val_main_v15, val_main_v14, val_main_v13, val_main_v12, val_main_cst_2, val_main_v11, val_main_v10, val_main_v9, val_main_v8, val_main_v7, val_main_v6, val_main_v5, val_main_cst_1, val_main_v4, val_main_v3, val_main_cst_0, val_main_v2, val_main_v1, val_main_cst, val_main_v0]

/-- The result agrees with the reference's, at all arguments. -/
theorem claim : Cert.algebraic_Kernel21Ideal_Reference21Ideal := by
  intro m ρ m' ρ' _ hagree
  refine ⟨fun c => G _ _ _ _,
    (θ_run defs _ _).mono (fun r h c => ⟨(h c).1.trans (final m c), (h c).2⟩)
      (Value.run_blocks (F := Ideal) m ρ), ?_⟩
  refine (θ_run Cert.Reference21Ideal.defs _ _).mono (fun _ h c => ⟨(h c).1.trans ?_, (h c).2⟩)
    (Cert.Reference21Ideal.Value.run (F := Ideal) m' ρ')
  rw [(hagree c).1, (hagree c).2.1, (hagree c).2.2.1, (hagree c).2.2.2]
  exact (Cert.Reference21Ideal.Read.val_main_v18_eq _ _ _ _).trans (agree _ _ _ _)

end Cert.Kernel21Ideal.NormFwd

end
-- ==== Proof.ResidNorm.lean ====
/- A layer's result joined to the residual stream, and the normalisation before the next layer: at every argument the kernel's
   rows are the reference's. -/
module

public import proofs.«01_k».proof.Proof.Gen.Kernel22Ideal.Value
public import proofs.«01_k».proof.Proof.Gen.Reference22Ideal.Read
public import proofs.«01_k».proof.Proof.Norm
public import proofs.«01_k».proof.Defs
public import Idealize.ShloMosaic.Lib.Pipeline.ValueKit
public import Idealize.ShloMosaic.Lib.Claim

@[expose] public section

set_option maxRecDepth 16384

noncomputable section

namespace Cert.Kernel22Ideal.ResidNorm

open Cert.Kernel22Ideal Cert.Kernel22Ideal.Gen Cert.Norm Cert.Reals Idealize.ShloMosaic Idealize.ShloMosaic.TcCoe
open Idealize.ShloMosaic.Pipeline (Dat)

/-- A row of an array. -/
abbrev rw0 {n : Nat} (x : Vec Ideal (⟨2, ![n, 1024]⟩ : Shape) .f32) (r : Fin n) (j : Fin 1024) : EReal := x (ix2 r j)

/-- A row of the residual stream after the layer: the row before it and the gated, normalised result of the layer. -/
def join (x f t g : Fin 1024 → EReal) (j : Fin 1024) : EReal := x j + t j * (nrm f j * g j)

/-- A row of the next layer's input: the normalised row times its weight and one more than the scale, and the shift. -/
def next (y g s b : Fin 1024 → EReal) (j : Fin 1024) : EReal := nrm y j * g j * (1 + s j) + b j

set_option backward.isDefEq.respectTransparency false in
/-- What a point stores of the residual stream, at an index. -/
theorem join_apply (f x : Vec Ideal S512x1024 .f32) (t g : Vec Ideal S1x1024 .f32) (p : Fin 512) (j : Fin 1024) :
    k0_pay2 f x t g (ix2 p j) = join (rw0 x p) (rw0 f p) (rw0 t 0) (rw0 g 0) j := by
  unfold join nrm rinv ms
  pointwise [k0_pay2]

set_option backward.isDefEq.respectTransparency false in
/-- What a point stores of the next layer's input, at an index. -/
theorem next_apply (f x : Vec Ideal S512x1024 .f32) (t g g' s b : Vec Ideal S1x1024 .f32) (p : Fin 512) (j : Fin 1024) :
    k0_pay1 (k0_pay3 f x t g g') (k0_pay4 s) b (ix2 p j) =
      next (join (rw0 x p) (rw0 f p) (rw0 t 0) (rw0 g 0)) (rw0 g' 0) (rw0 s 0) (rw0 b 0) j := by
  unfold next join nrm rinv ms
  pointwise [k0_pay1, k0_pay2, k0_pay3, k0_pay4]

variable (m : (ℓ : Loc nD τ sig) → Buf (Elt Ideal) ℓ)

/-! ## Blocks of rows: point `t` works on the block of rows `t` -/

/-- The blocks' positions at a grid point. -/
theorem idx : ∀ t : Fin cfg0.N, t.val < 32
    ∧ win0_0.index t = ![t.val, 0]
    ∧ win0_1.index t = ![t.val, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![t.val, 0]
    ∧ win0_8.index t = ![t.val, 0] :=
  (by decide +kernel : ∀ t : Fin grid0.N, _)

set_option backward.isDefEq.respectTransparency false in
/-- The residual stream: row `p` of a point's block is the whole array's row. -/
theorem b0 (c : Dev nD) (t : Fin cfg0.N) (p : Fin 512) (j : Fin 1024) :
    (iblk m c 0 t : Vec Ideal S512x1024 .f32) (ix2 p j) = rw0 (n := 16384) (m ((c : Thread nD τ).loc main_arg0)) (row ⟨t.val, (idx t).1⟩ p) j := by
  unfold row
  blk_ext! [iblk, V, idx t]

set_option backward.isDefEq.respectTransparency false in
/-- The layer's result: row `p` of a point's block is the whole array's row. -/
theorem b1 (c : Dev nD) (t : Fin cfg0.N) (p : Fin 512) (j : Fin 1024) :
    (iblk m c 1 t : Vec Ideal S512x1024 .f32) (ix2 p j) = rw0 (n := 16384) (m ((c : Thread nD τ).loc main_arg1)) (row ⟨t.val, (idx t).1⟩ p) j := by
  unfold row
  blk_ext! [iblk, V, idx t]

set_option backward.isDefEq.respectTransparency false in
/-- The gate: every point's block is the whole of it. -/
theorem b2 (c : Dev nD) (t : Fin cfg0.N) (j : Fin 1024) :
    (iblk m c 2 t : Vec Ideal S1x1024 .f32) (ix2 0 j) = rw0 (n := 1) (m ((c : Thread nD τ).loc main_arg2)) 0 j := by
  blk_ext! [iblk, V, idx t]

set_option backward.isDefEq.respectTransparency false in
/-- The weight of the norm after the layer: every point's block is the whole of it. -/
theorem b3 (c : Dev nD) (t : Fin cfg0.N) (j : Fin 1024) :
    (iblk m c 3 t : Vec Ideal S1x1024 .f32) (ix2 0 j) = rw0 (n := 1) (m ((c : Thread nD τ).loc main_arg3)) 0 j := by
  blk_ext! [iblk, V, idx t]

set_option backward.isDefEq.respectTransparency false in
/-- The weight of the norm before the next layer: every point's block is the whole of it. -/
theorem b4 (c : Dev nD) (t : Fin cfg0.N) (j : Fin 1024) :
    (iblk m c 4 t : Vec Ideal S1x1024 .f32) (ix2 0 j) = rw0 (n := 1) (m ((c : Thread nD τ).loc main_arg4)) 0 j := by
  blk_ext! [iblk, V, idx t]

set_option backward.isDefEq.respectTransparency false in
/-- The scale: every point's block is the whole of it. -/
theorem b5 (c : Dev nD) (t : Fin cfg0.N) (j : Fin 1024) :
    (iblk m c 5 t : Vec Ideal S1x1024 .f32) (ix2 0 j) = rw0 (n := 1) (m ((c : Thread nD τ).loc main_arg5)) 0 j := by
  blk_ext! [iblk, V, idx t]

set_option backward.isDefEq.respectTransparency false in
/-- The shift: every point's block is the whole of it. -/
theorem b6 (c : Dev nD) (t : Fin cfg0.N) (j : Fin 1024) :
    (iblk m c 6 t : Vec Ideal S1x1024 .f32) (ix2 0 j) = rw0 (n := 1) (m ((c : Thread nD τ).loc main_arg6)) 0 j := by
  blk_ext! [iblk, V, idx t]

/-- The residual stream from the program's arguments. -/
def G7 (x0 x1 : Vec Ideal S16384x1024 .f32) (x2 x3 : Vec Ideal S1x1024 .f32) : Vec Ideal S16384x1024 .f32 :=
  fun y => join (rw0 x0 (y 0)) (rw0 x1 (y 0)) (rw0 x2 0) (rw0 x3 0) (y 1)

/-- The next layer's input from the program's arguments. -/
def G8 (x0 x1 : Vec Ideal S16384x1024 .f32) (x2 x3 x4 x5 x6 : Vec Ideal S1x1024 .f32) : Vec Ideal S16384x1024 .bf16 :=
  fun y => next (join (rw0 x0 (y 0)) (rw0 x1 (y 0)) (rw0 x2 0) (rw0 x3 0)) (rw0 x4 0) (rw0 x5 0) (rw0 x6 0) (y 1)

set_option backward.isDefEq.respectTransparency false in
/-- The residual stream after the run. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) := by
  refine Dat.arrAt_eq_of_covers (dats m 0 c) 7 (G7 (m ((c : Thread nD τ).loc main_arg0)) (m ((c : Thread nD τ).loc main_arg1)) (m ((c : Thread nD τ).loc main_arg2)) (m ((c : Thread nD τ).loc main_arg3)))
    (by decide +kernel) fun t hf y => ?_
  blk_simp
  rw [after0_7]
  idx_vars y
  frame_out
  refine (join_apply _ _ _ _ y0 y1).trans ?_
  unfold rw0
  simp only [b0, b1, b2, b3]
  have e : (((View.whole main_v0_0).slice (win0_7.rect t)).emb (ix2 y0 y1) : S16384x1024.Idx) = ix2 (row ⟨t.val, (idx t).1⟩ y0) y1 := by
    unfold row
    blk_ext! [idx t]
  exact (congrArg (G7 _ _ _ _) e).symm

set_option backward.isDefEq.respectTransparency false in
/-- The next layer's input after the run. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine Dat.arrAt_eq_of_covers (dats m 0 c) 8 (G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (by decide +kernel) fun t hf y => ?_
  blk_simp
  rw [after0_8]
  idx_vars y
  frame_out
  refine (next_apply _ _ _ _ _ _ _ y0 y1).trans ?_
  unfold rw0
  simp only [b0, b1, b2, b3, b4, b5, b6]
  have e : (((View.whole main_v0_1).slice (win0_8.rect t)).emb (ix2 y0 y1) : S16384x1024.Idx) = ix2 (row ⟨t.val, (idx t).1⟩ y0) y1 := by
    unfold row
    blk_ext! [idx t]
  exact (congrArg (G8 _ _ _ _ _ _ _) e).symm

open Cert.Reference22Ideal.Read in
set_option backward.isDefEq.respectTransparency false in
/-- The reference's residual stream is the kernel's. -/
theorem agree7 (x0 x1 : Vec Ideal S16384x1024 .f32) (x2 x3 : Vec Ideal S1x1024 .f32) :
    val_main_v14 (F := Ideal) x0 x1 x2 x3 = G7 x0 x1 x2 x3 := by
  funext i
  unfold G7 join nrm rinv ms rw0
  pointwise [val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]

open Cert.Reference22Ideal.Read in
set_option backward.isDefEq.respectTransparency false in
/-- The reference's input of the next layer is the kernel's. -/
theorem agree8 (x0 x1 : Vec Ideal S16384x1024 .f32) (x2 x3 x4 x5 x6 : Vec Ideal S1x1024 .f32) :
    val_main_v33 (F := Ideal) x0 x1 x2 x3 x4 x5 x6 = G8 x0 x1 x2 x3 x4 x5 x6 := by
  funext i
  unfold G8 next join nrm rinv ms rw0
  pointwise [val_main_v33, val_main_v32, val_main_v31, val_main_v30, val_main_v29, val_main_v28, val_main_v27, val_main_cst_5, val_main_v26, val_main_v25, val_main_v24, val_main_v23, val_main_v22, val_main_v21, val_main_v20, val_main_cst_4, val_main_v19, val_main_v18, val_main_cst_3, val_main_v17, val_main_v16, val_main_cst_2, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]

/-- The residual stream and the next layer's input agree with the reference's, at all arguments. -/
theorem claim : Cert.algebraic_Kernel22Ideal_Reference22Ideal := by
  intro m ρ m' ρ' _ hagree
  refine ⟨fun c => G7 _ _ _ _, fun c => G8 _ _ _ _ _ _ _,
    (θ_run defs _ _).mono (fun r h c => ⟨(h c).1.trans (final7 m c), (h c).2.1.trans (final8 m c), (h c).2.2⟩)
      (Value.run_blocks (F := Ideal) m ρ), ?_⟩
  refine (θ_run Cert.Reference22Ideal.defs _ _).mono (fun _ h c => ⟨(h c).1.trans ?_, (h c).2.1.trans ?_, (h c).2.2⟩)
    (Cert.Reference22Ideal.Value.run (F := Ideal) m' ρ')
  · obtain ⟨a0, a1, a2, a3, a4, a5, a6⟩ := hagree c
    rw [a0, a1, a2, a3]
    exact (Cert.Reference22Ideal.Read.val_main_v14_eq _ _ _ _).trans (agree7 _ _ _ _)
  · obtain ⟨a0, a1, a2, a3, a4, a5, a6⟩ := hagree c
    rw [a0, a1, a2, a3, a4, a5, a6]
    exact (Cert.Reference22Ideal.Read.val_main_v33_eq _ _ _ _ _ _ _).trans (agree8 _ _ _ _ _ _ _)

end Cert.Kernel22Ideal.ResidNorm

end
-- ==== Proof.Adam.lean ====
/- One element of the optimiser's step, AdamW: the two running means, and the change of the weight. -/
module

public import proofs.«01_k».proof.Proof.Reals

@[expose] public section

noncomputable section

namespace Cert.Adam

open Idealize.ShloMosaic

/-- The new running mean of the gradient. -/
def mean1 (g m : EReal) : EReal := Ideal.ofBits .f32 0x3F666666#32 * m + Ideal.ofBits .f32 0x3DCCCCCD#32 * g

/-- The new running mean of the gradient's square. -/
def mean2 (g v : EReal) : EReal := Ideal.ofBits .f32 0x3F7FBE77#32 * v + Ideal.ofBits .f32 0x3A83126F#32 * (g * g)

/-- The change of the weight. -/
def change (g w m v : EReal) : EReal :=
  Ideal.ofBits .f32 0xBA83126F#32
    * (Ideal.div (Ideal.div (mean1 g m) (Ideal.ofBits .f32 0x3F26BD02#32))
        (Ideal.sqrt (Ideal.div (mean2 g v) (Ideal.ofBits .f32 0x3C231ACC#32)) + Ideal.ofBits .f32 0x322BCC77#32)
      + Ideal.ofBits .f32 0x3C23D70A#32 * w)

/-- The sum of four parts, in the order in which a kernel takes it. -/
theorem sum_four (f : Fin 4 → EReal) : ∑ k, f k = f 0 + f 1 + f 2 + f 3 := by
  rw [Fin.sum_univ_four]

end Cert.Adam

end
-- ==== Proof.AdamModW.lean ====
/- The optimiser's step of the modulation's weight, its gradient in one part: at every argument the kernel's results are the reference's. -/
module

public import proofs.«01_k».proof.Proof.Gen.Kernel23Ideal.Value
public import proofs.«01_k».proof.Proof.Gen.Reference23Ideal.Read
public import proofs.«01_k».proof.Proof.Adam
public import proofs.«01_k».proof.Defs
public import Idealize.ShloMosaic.Lib.Pipeline.ValueKit
public import Idealize.ShloMosaic.Lib.Claim

@[expose] public section

set_option maxRecDepth 16384

noncomputable section

namespace Cert.Kernel23Ideal.AdamModW

open Cert.Kernel23Ideal Cert.Kernel23Ideal.Gen Cert.Adam Idealize.ShloMosaic Idealize.ShloMosaic.TcCoe
open Idealize.ShloMosaic.Pipeline (Dat)

/-! ## One point's stored values, from its blocks -/

set_option backward.isDefEq.respectTransparency false in
/-- The stored gradient, from the loaded parts. -/
theorem pay_g (x0 : Vec Ideal S1x512x768 .f32) (p : Fin 512) (j : Fin 768) :
    k0_pay1 x0 (ix2 p j) = x0 (ix3 0 p j) := by
  pointwise [k0_pay1, k0_pay2, k0_pay3, k0_pay4]

set_option backward.isDefEq.respectTransparency false in
/-- The stored gradient, from the blocks. -/
theorem out_g (x : Vec Ideal S1x512x768 .f32) (w m v : Vec Ideal S512x768 .f32) (p : Fin 512) (j : Fin 768) :
    out0_4 x w m v (ix2 p j) = ∑ k, x (ix3 k p j) := by
  unfold out0_4
  frame_out
  rw [pay_g, Fin.sum_univ_one]

set_option backward.isDefEq.respectTransparency false in
/-- The stored change of the weight, from the loaded parts. -/
theorem pay_d (x0 : Vec Ideal S1x512x768 .f32) (w m v : Vec Ideal S512x768 .f32) (p : Fin 512) (j : Fin 768) :
    k0_pay4 x0 m v w (ix2 p j) = change (x0 (ix3 0 p j)) (w (ix2 p j)) (m (ix2 p j)) (v (ix2 p j)) := by
  unfold change mean1 mean2
  pointwise [k0_pay1, k0_pay2, k0_pay3, k0_pay4]

set_option backward.isDefEq.respectTransparency false in
/-- The stored change of the weight, from the blocks. -/
theorem out_d (x : Vec Ideal S1x512x768 .f32) (w m v : Vec Ideal S512x768 .f32) (p : Fin 512) (j : Fin 768) :
    out0_5 x w m v (ix2 p j) = change (∑ k, x (ix3 k p j)) (w (ix2 p j)) (m (ix2 p j)) (v (ix2 p j)) := by
  unfold out0_5
  frame_out
  rw [pay_d, Fin.sum_univ_one]

set_option backward.isDefEq.respectTransparency false in
/-- The stored mean of the gradient, from the loaded parts. -/
theorem pay_m (x0 : Vec Ideal S1x512x768 .f32) (m : Vec Ideal S512x768 .f32) (p : Fin 512) (j : Fin 768) :
    k0_pay2 x0 m (ix2 p j) = mean1 (x0 (ix3 0 p j)) (m (ix2 p j)) := by
  unfold mean1
  pointwise [k0_pay1, k0_pay2, k0_pay3, k0_pay4]

set_option backward.isDefEq.respectTransparency false in
/-- The stored mean of the gradient, from the blocks. -/
theorem out_m (x : Vec Ideal S1x512x768 .f32) (w m v : Vec Ideal S512x768 .f32) (p : Fin 512) (j : Fin 768) :
    out0_6 x w m v (ix2 p j) = mean1 (∑ k, x (ix3 k p j)) (m (ix2 p j)) := by
  unfold out0_6
  frame_out
  rw [pay_m, Fin.sum_univ_one]

set_option backward.isDefEq.respectTransparency false in
/-- The stored mean of the square, from the loaded parts. -/
theorem pay_v (x0 : Vec Ideal S1x512x768 .f32) (v : Vec Ideal S512x768 .f32) (p : Fin 512) (j : Fin 768) :
    k0_pay3 x0 v (ix2 p j) = mean2 (x0 (ix3 0 p j)) (v (ix2 p j)) := by
  unfold mean2
  pointwise [k0_pay1, k0_pay2, k0_pay3, k0_pay4]

set_option backward.isDefEq.respectTransparency false in
/-- The stored mean of the square, from the blocks. -/
theorem out_v (x : Vec Ideal S1x512x768 .f32) (w m v : Vec Ideal S512x768 .f32) (p : Fin 512) (j : Fin 768) :
    out0_7 x w m v (ix2 p j) = mean2 (∑ k, x (ix3 k p j)) (v (ix2 p j)) := by
  unfold out0_7
  frame_out
  rw [pay_v, Fin.sum_univ_one]

variable (m : (ℓ : Loc nD τ sig) → Buf (Elt Ideal) ℓ)

/-! ## Blocks of rows: point `t` works on the block of rows `t` -/

/-- The blocks' positions at a grid point. -/
theorem idx : ∀ t : Fin cfg0.N, t.val < 4
    ∧ win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- Row `p` of block `t`. -/
def row (t : Fin cfg0.N) (p : Fin 512) : Fin 2048 := ⟨t.val * 512 + p.val, by have := (idx t).1; omega⟩

set_option backward.isDefEq.respectTransparency false in
/-- The gradient: its part of a point's block is rows of the whole array's part. -/
theorem b0 (c : Dev nD) (t : Fin cfg0.N) (k : Fin 1) (p : Fin 512) (j : Fin 768) :
    (iblk m c 0 t : Vec Ideal S1x512x768 .f32) (ix3 k p j) = (m ((c : Thread nD τ).loc main_arg0) : Vec Ideal S1x2048x768 .f32) (ix3 k (row t p) j) := by
  unfold row
  blk_ext! [iblk, V, idx t]

set_option backward.isDefEq.respectTransparency false in
/-- The weight: row `p` of a point's block is the whole array's row. -/
theorem b1 (c : Dev nD) (t : Fin cfg0.N) (p : Fin 512) (j : Fin 768) :
    (iblk m c 1 t : Vec Ideal S512x768 .f32) (ix2 p j) = (m ((c : Thread nD τ).loc main_arg1) : Vec Ideal S2048x768 .f32) (ix2 (row t p) j) := by
  unfold row
  blk_ext! [iblk, V, idx t]

set_option backward.isDefEq.respectTransparency false in
/-- The mean of the gradient so far: row `p` of a point's block is the whole array's row. -/
theorem b2 (c : Dev nD) (t : Fin cfg0.N) (p : Fin 512) (j : Fin 768) :
    (iblk m c 2 t : Vec Ideal S512x768 .f32) (ix2 p j) = (m ((c : Thread nD τ).loc main_arg2) : Vec Ideal S2048x768 .f32) (ix2 (row t p) j) := by
  unfold row
  blk_ext! [iblk, V, idx t]

set_option backward.isDefEq.respectTransparency false in
/-- The mean of the square so far: row `p` of a point's block is the whole array's row. -/
theorem b3 (c : Dev nD) (t : Fin cfg0.N) (p : Fin 512) (j : Fin 768) :
    (iblk m c 3 t : Vec Ideal S512x768 .f32) (ix2 p j) = (m ((c : Thread nD τ).loc main_arg3) : Vec Ideal S2048x768 .f32) (ix2 (row t p) j) := by
  unfold row
  blk_ext! [iblk, V, idx t]

/-! ## The results from the program's arguments -/

/-- The gradient, from the arguments. -/
def G4 (x0 : Vec Ideal S1x2048x768 .f32) : Vec Ideal S2048x768 .f32 := fun y => ∑ k, x0 (ix3 k (y 0) (y 1))

set_option backward.isDefEq.respectTransparency false in
/-- The array of the gradient after the run. -/
theorem final4 (c : Dev nD) : (dats m 0 c).arrAt 4 cfg0.N = G4 (m ((c : Thread nD τ).loc main_arg0)) := by
  refine Dat.arrAt_eq_of_covers (dats m 0 c) 4 (G4 (m ((c : Thread nD τ).loc main_arg0)))
    (by decide +kernel) fun t hf y => ?_
  blk_simp
  rw [after0_4]
  idx_vars y
  refine (out_g _ _ _ _ y0 y1).trans ?_
  simp only [b0]
  have e : (((View.whole main_v0_0).slice (win0_4.rect t)).emb (ix2 y0 y1) : S2048x768.Idx) = ix2 (row t y0) y1 := by
    unfold row
    blk_ext! [idx t]
  exact (congrArg (G4 _) e).symm

open Cert.Reference23Ideal.Read in
set_option backward.isDefEq.respectTransparency false in
/-- The gradient: the reference's is the kernel's. -/
theorem agree4 (x0 : Vec Ideal S1x2048x768 .f32) : val_main_v0 (F := Ideal) x0 = G4 x0 := by
  funext i
  idx_vars i
  unfold G4
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The change of the weight, from the arguments. -/
def G5 (x0 : Vec Ideal S1x2048x768 .f32) (x1 x2 x3 : Vec Ideal S2048x768 .f32) : Vec Ideal S2048x768 .f32 := fun y => change (∑ k, x0 (ix3 k (y 0) (y 1))) (x1 y) (x2 y) (x3 y)

set_option backward.isDefEq.respectTransparency false in
/-- The array of the change of the weight after the run. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) := by
  refine Dat.arrAt_eq_of_covers (dats m 0 c) 5 (G5 (m ((c : Thread nD τ).loc main_arg0)) (m ((c : Thread nD τ).loc main_arg1)) (m ((c : Thread nD τ).loc main_arg2)) (m ((c : Thread nD τ).loc main_arg3)))
    (by decide +kernel) fun t hf y => ?_
  blk_simp
  rw [after0_5]
  idx_vars y
  refine (out_d _ _ _ _ y0 y1).trans ?_
  simp only [b0, b1, b2, b3]
  have e : (((View.whole main_v0_1).slice (win0_5.rect t)).emb (ix2 y0 y1) : S2048x768.Idx) = ix2 (row t y0) y1 := by
    unfold row
    blk_ext! [idx t]
  exact (congrArg (G5 _ _ _ _) e).symm

open Cert.Reference23Ideal.Read in
set_option backward.isDefEq.respectTransparency false in
/-- The change of the weight: the reference's is the kernel's. -/
theorem agree5 (x0 : Vec Ideal S1x2048x768 .f32) (x1 x2 x3 : Vec Ideal S2048x768 .f32) : val_main_v24 (F := Ideal) x0 x1 x2 x3 = G5 x0 x1 x2 x3 := by
  funext i
  idx_vars i
  unfold G5 change mean1 mean2
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The mean of the gradient, from the arguments. -/
def G6 (x0 : Vec Ideal S1x2048x768 .f32) (x2 : Vec Ideal S2048x768 .f32) : Vec Ideal S2048x768 .f32 := fun y => mean1 (∑ k, x0 (ix3 k (y 0) (y 1))) (x2 y)

set_option backward.isDefEq.respectTransparency false in
/-- The array of the mean of the gradient after the run. -/
theorem final6 (c : Dev nD) : (dats m 0 c).arrAt 6 cfg0.N = G6 (m ((c : Thread nD τ).loc main_arg0)) (m ((c : Thread nD τ).loc main_arg2)) := by
  refine Dat.arrAt_eq_of_covers (dats m 0 c) 6 (G6 (m ((c : Thread nD τ).loc main_arg0)) (m ((c : Thread nD τ).loc main_arg2)))
    (by decide +kernel) fun t hf y => ?_
  blk_simp
  rw [after0_6]
  idx_vars y
  refine (out_m _ _ _ _ y0 y1).trans ?_
  simp only [b0, b2]
  have e : (((View.whole main_v0_2).slice (win0_6.rect t)).emb (ix2 y0 y1) : S2048x768.Idx) = ix2 (row t y0) y1 := by
    unfold row
    blk_ext! [idx t]
  exact (congrArg (G6 _ _) e).symm

open Cert.Reference23Ideal.Read in
set_option backward.isDefEq.respectTransparency false in
/-- The mean of the gradient: the reference's is the kernel's. -/
theorem agree6 (x0 : Vec Ideal S1x2048x768 .f32) (x2 : Vec Ideal S2048x768 .f32) : val_main_v5 (F := Ideal) x0 x2 = G6 x0 x2 := by
  funext i
  idx_vars i
  unfold G6 mean1
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The mean of the square, from the arguments. -/
def G7 (x0 : Vec Ideal S1x2048x768 .f32) (x3 : Vec Ideal S2048x768 .f32) : Vec Ideal S2048x768 .f32 := fun y => mean2 (∑ k, x0 (ix3 k (y 0) (y 1))) (x3 y)

set_option backward.isDefEq.respectTransparency false in
/-- The array of the mean of the square after the run. -/
theorem final7 (c : Dev nD) : (dats m 0 c).arrAt 7 cfg0.N = G7 (m ((c : Thread nD τ).loc main_arg0)) (m ((c : Thread nD τ).loc main_arg3)) := by
  refine Dat.arrAt_eq_of_covers (dats m 0 c) 7 (G7 (m ((c : Thread nD τ).loc main_arg0)) (m ((c : Thread nD τ).loc main_arg3)))
    (by decide +kernel) fun t hf y => ?_
  blk_simp
  rw [after0_7]
  idx_vars y
  refine (out_v _ _ _ _ y0 y1).trans ?_
  simp only [b0, b3]
  have e : (((View.whole main_v0_3).slice (win0_7.rect t)).emb (ix2 y0 y1) : S2048x768.Idx) = ix2 (row t y0) y1 := by
    unfold row
    blk_ext! [idx t]
  exact (congrArg (G7 _ _) e).symm

open Cert.Reference23Ideal.Read in
set_option backward.isDefEq.respectTransparency false in
/-- The mean of the square: the reference's is the kernel's. -/
theorem agree7 (x0 : Vec Ideal S1x2048x768 .f32) (x3 : Vec Ideal S2048x768 .f32) : val_main_v11 (F := Ideal) x0 x3 = G7 x0 x3 := by
  funext i
  idx_vars i
  unfold G7 mean2
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The results agree with the reference's, at all arguments. -/
theorem claim : Cert.algebraic_Kernel23Ideal_Reference23Ideal := by
  intro m ρ m' ρ' _ hagree
  refine ⟨fun c => G4 _, fun c => G5 _ _ _ _, fun c => G6 _ _, fun c => G7 _ _,
    (θ_run defs _ _).mono (fun r h c => ⟨(h c).1.trans (final4 m c), (h c).2.1.trans (final5 m c), (h c).2.2.1.trans (final6 m c), (h c).2.2.2.1.trans (final7 m c), (h c).2.2.2.2⟩)
      (Value.run_blocks (F := Ideal) m ρ), ?_⟩
  refine (θ_run Cert.Reference23Ideal.defs _ _).mono (fun _ h c => ⟨(h c).1.trans ?_, (h c).2.1.trans ?_, (h c).2.2.1.trans ?_, (h c).2.2.2.1.trans ?_, (h c).2.2.2.2⟩)
    (Cert.Reference23Ideal.Value.run (F := Ideal) m' ρ')
  · obtain ⟨a0, a1, a2, a3⟩ := hagree c
    rw [a0]
    exact (Cert.Reference23Ideal.Read.val_main_v0_eq _).trans (agree4 _)
  · obtain ⟨a0, a1, a2, a3⟩ := hagree c
    rw [a0, a1, a2, a3]
    exact (Cert.Reference23Ideal.Read.val_main_v24_eq _ _ _ _).trans (agree5 _ _ _ _)
  · obtain ⟨a0, a1, a2, a3⟩ := hagree c
    rw [a0, a2]
    exact (Cert.Reference23Ideal.Read.val_main_v5_eq _ _).trans (agree6 _ _)
  · obtain ⟨a0, a1, a2, a3⟩ := hagree c
    rw [a0, a3]
    exact (Cert.Reference23Ideal.Read.val_main_v11_eq _ _).trans (agree7 _ _)

end Cert.Kernel23Ideal.AdamModW

end
-- ==== Proof.AdamIn.lean ====
/- The optimiser's step of the first projection's weight: at every argument the kernel's results are the reference's. -/
module

public import proofs.«01_k».proof.Proof.Gen.Kernel24Ideal.Value
public import proofs.«01_k».proof.Proof.Gen.Reference24Ideal.Read
public import proofs.«01_k».proof.Proof.Adam
public import proofs.«01_k».proof.Defs
public import Idealize.ShloMosaic.Lib.Pipeline.ValueKit
public import Idealize.ShloMosaic.Lib.Claim

@[expose] public section

set_option maxRecDepth 16384

noncomputable section

namespace Cert.Kernel24Ideal.AdamIn

open Cert.Kernel24Ideal Cert.Kernel24Ideal.Gen Cert.Adam Idealize.ShloMosaic Idealize.ShloMosaic.TcCoe
open Idealize.ShloMosaic.Pipeline (Dat)

/-! ## One point's stored values, from its blocks -/

set_option backward.isDefEq.respectTransparency false in
/-- Part 0 of a block, read by itself. -/
theorem ld0 (x : Vec Ideal S4x512x737 .bf16) (p : Fin 512) (j : Fin 737) : View.ld x r0_0 (ix3 0 p j) = x (ix3 0 p j) := by
  refine congrArg x (funext fun a => Fin.ext ?_)
  match a with
  | ⟨0, _⟩ => exact (rfl : 0 + 1 * 0 = 0)
  | ⟨1, _⟩ => show 0 + 1 * p.val = p.val; omega
  | ⟨2, _⟩ => show 0 + 1 * j.val = j.val; omega

set_option backward.isDefEq.respectTransparency false in
/-- Part 1 of a block, read by itself. -/
theorem ld1 (x : Vec Ideal S4x512x737 .bf16) (p : Fin 512) (j : Fin 737) : View.ld x r0_1 (ix3 0 p j) = x (ix3 1 p j) := by
  refine congrArg x (funext fun a => Fin.ext ?_)
  match a with
  | ⟨0, _⟩ => exact (rfl : 1 + 1 * 0 = 1)
  | ⟨1, _⟩ => show 0 + 1 * p.val = p.val; omega
  | ⟨2, _⟩ => show 0 + 1 * j.val = j.val; omega

set_option backward.isDefEq.respectTransparency false in
/-- Part 2 of a block, read by itself. -/
theorem ld2 (x : Vec Ideal S4x512x737 .bf16) (p : Fin 512) (j : Fin 737) : View.ld x r0_2 (ix3 0 p j) = x (ix3 2 p j) := by
  refine congrArg x (funext fun a => Fin.ext ?_)
  match a with
  | ⟨0, _⟩ => exact (rfl : 2 + 1 * 0 = 2)
  | ⟨1, _⟩ => show 0 + 1 * p.val = p.val; omega
  | ⟨2, _⟩ => show 0 + 1 * j.val = j.val; omega

set_option backward.isDefEq.respectTransparency false in
/-- Part 3 of a block, read by itself. -/
theorem ld3 (x : Vec Ideal S4x512x737 .bf16) (p : Fin 512) (j : Fin 737) : View.ld x r0_3 (ix3 0 p j) = x (ix3 3 p j) := by
  refine congrArg x (funext fun a => Fin.ext ?_)
  match a with
  | ⟨0, _⟩ => exact (rfl : 3 + 1 * 0 = 3)
  | ⟨1, _⟩ => show 0 + 1 * p.val = p.val; omega
  | ⟨2, _⟩ => show 0 + 1 * j.val = j.val; omega

set_option backward.isDefEq.respectTransparency false in
/-- The stored gradient, from the loaded parts. -/
theorem pay_g (x0 x1 x2 x3 : Vec Ideal S1x512x737 .bf16) (p : Fin 512) (j : Fin 737) :
    k0_pay2 x0 x1 x2 x3 (ix2 p j) = x0 (ix3 0 p j) + x1 (ix3 0 p j) + x2 (ix3 0 p j) + x3 (ix3 0 p j) := by
  pointwise [k0_pay1, k0_pay2, k0_pay3, k0_pay4, k0_pay5, k0_pay6]

set_option backward.isDefEq.respectTransparency false in
/-- The stored gradient, from the blocks. -/
theorem out_g (x : Vec Ideal S4x512x737 .bf16) (w m v : Vec Ideal S512x737 .f32) (p : Fin 512) (j : Fin 737) :
    out0_4 x w m v (ix2 p j) = ∑ k, x (ix3 k p j) := by
  unfold out0_4
  frame_out
  rw [pay_g, sum_four, ld0, ld1, ld2, ld3]

set_option backward.isDefEq.respectTransparency false in
/-- The stored change of the weight, from the loaded parts. -/
theorem pay_d (x0 x1 x2 x3 : Vec Ideal S1x512x737 .bf16) (w m v : Vec Ideal S512x737 .f32) (p : Fin 512) (j : Fin 737) :
    k0_pay1 (k0_pay5 x0 x1 x2 x3 m) (k0_pay6 x0 x1 x2 x3 v) w (ix2 p j) = change (x0 (ix3 0 p j) + x1 (ix3 0 p j) + x2 (ix3 0 p j) + x3 (ix3 0 p j)) (w (ix2 p j)) (m (ix2 p j)) (v (ix2 p j)) := by
  unfold change mean1 mean2
  pointwise [k0_pay1, k0_pay2, k0_pay3, k0_pay4, k0_pay5, k0_pay6]

set_option backward.isDefEq.respectTransparency false in
/-- The stored change of the weight, from the blocks. -/
theorem out_d (x : Vec Ideal S4x512x737 .bf16) (w m v : Vec Ideal S512x737 .f32) (p : Fin 512) (j : Fin 737) :
    out0_5 x w m v (ix2 p j) = change (∑ k, x (ix3 k p j)) (w (ix2 p j)) (m (ix2 p j)) (v (ix2 p j)) := by
  unfold out0_5
  frame_out
  rw [pay_d, sum_four, ld0, ld1, ld2, ld3]

set_option backward.isDefEq.respectTransparency false in
/-- The stored mean of the gradient, from the loaded parts. -/
theorem pay_m (x0 x1 x2 x3 : Vec Ideal S1x512x737 .bf16) (m : Vec Ideal S512x737 .f32) (p : Fin 512) (j : Fin 737) :
    k0_pay3 x0 x1 x2 x3 m (ix2 p j) = mean1 (x0 (ix3 0 p j) + x1 (ix3 0 p j) + x2 (ix3 0 p j) + x3 (ix3 0 p j)) (m (ix2 p j)) := by
  unfold mean1
  pointwise [k0_pay1, k0_pay2, k0_pay3, k0_pay4, k0_pay5, k0_pay6]

set_option backward.isDefEq.respectTransparency false in
/-- The stored mean of the gradient, from the blocks. -/
theorem out_m (x : Vec Ideal S4x512x737 .bf16) (w m v : Vec Ideal S512x737 .f32) (p : Fin 512) (j : Fin 737) :
    out0_6 x w m v (ix2 p j) = mean1 (∑ k, x (ix3 k p j)) (m (ix2 p j)) := by
  unfold out0_6
  frame_out
  rw [pay_m, sum_four, ld0, ld1, ld2, ld3]

set_option backward.isDefEq.respectTransparency false in
/-- The stored mean of the square, from the loaded parts. -/
theorem pay_v (x0 x1 x2 x3 : Vec Ideal S1x512x737 .bf16) (v : Vec Ideal S512x737 .f32) (p : Fin 512) (j : Fin 737) :
    k0_pay4 x0 x1 x2 x3 v (ix2 p j) = mean2 (x0 (ix3 0 p j) + x1 (ix3 0 p j) + x2 (ix3 0 p j) + x3 (ix3 0 p j)) (v (ix2 p j)) := by
  unfold mean2
  pointwise [k0_pay1, k0_pay2, k0_pay3, k0_pay4, k0_pay5, k0_pay6]

set_option backward.isDefEq.respectTransparency false in
/-- The stored mean of the square, from the blocks. -/
theorem out_v (x : Vec Ideal S4x512x737 .bf16) (w m v : Vec Ideal S512x737 .f32) (p : Fin 512) (j : Fin 737) :
    out0_7 x w m v (ix2 p j) = mean2 (∑ k, x (ix3 k p j)) (v (ix2 p j)) := by
  unfold out0_7
  frame_out
  rw [pay_v, sum_four, ld0, ld1, ld2, ld3]

variable (m : (ℓ : Loc nD τ sig) → Buf (Elt Ideal) ℓ)

/-! ## Blocks of rows: point `t` works on the block of rows `t` -/

/-- The blocks' positions at a grid point. -/
theorem idx : ∀ t : Fin cfg0.N, t.val < 4
    ∧ win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- Row `p` of block `t`. -/
def row (t : Fin cfg0.N) (p : Fin 512) : Fin 2048 := ⟨t.val * 512 + p.val, by have := (idx t).1; omega⟩

set_option backward.isDefEq.respectTransparency false in
/-- The gradient: each of its four parts of a point's block is rows of the whole array's part. -/
theorem b0 (c : Dev nD) (t : Fin cfg0.N) (k : Fin 4) (p : Fin 512) (j : Fin 737) :
    (iblk m c 0 t : Vec Ideal S4x512x737 .bf16) (ix3 k p j) = (m ((c : Thread nD τ).loc main_arg0) : Vec Ideal S4x2048x737 .bf16) (ix3 k (row t p) j) := by
  unfold row
  blk_ext! [iblk, V, idx t]

set_option backward.isDefEq.respectTransparency false in
/-- The weight: row `p` of a point's block is the whole array's row. -/
theorem b1 (c : Dev nD) (t : Fin cfg0.N) (p : Fin 512) (j : Fin 737) :
    (iblk m c 1 t : Vec Ideal S512x737 .f32) (ix2 p j) = (m ((c : Thread nD τ).loc main_arg1) : Vec Ideal S2048x737 .f32) (ix2 (row t p) j) := by
  unfold row
  blk_ext! [iblk, V, idx t]

set_option backward.isDefEq.respectTransparency false in
/-- The mean of the gradient so far: row `p` of a point's block is the whole array's row. -/
theorem b2 (c : Dev nD) (t : Fin cfg0.N) (p : Fin 512) (j : Fin 737) :
    (iblk m c 2 t : Vec Ideal S512x737 .f32) (ix2 p j) = (m ((c : Thread nD τ).loc main_arg2) : Vec Ideal S2048x737 .f32) (ix2 (row t p) j) := by
  unfold row
  blk_ext! [iblk, V, idx t]

set_option backward.isDefEq.respectTransparency false in
/-- The mean of the square so far: row `p` of a point's block is the whole array's row. -/
theorem b3 (c : Dev nD) (t : Fin cfg0.N) (p : Fin 512) (j : Fin 737) :
    (iblk m c 3 t : Vec Ideal S512x737 .f32) (ix2 p j) = (m ((c : Thread nD τ).loc main_arg3) : Vec Ideal S2048x737 .f32) (ix2 (row t p) j) := by
  unfold row
  blk_ext! [iblk, V, idx t]

/-! ## The results from the program's arguments -/

/-- The gradient, from the arguments. -/
def G4 (x0 : Vec Ideal S4x2048x737 .bf16) : Vec Ideal S2048x737 .f32 := fun y => ∑ k, x0 (ix3 k (y 0) (y 1))

set_option backward.isDefEq.respectTransparency false in
/-- The array of the gradient after the run. -/
theorem final4 (c : Dev nD) : (dats m 0 c).arrAt 4 cfg0.N = G4 (m ((c : Thread nD τ).loc main_arg0)) := by
  refine Dat.arrAt_eq_of_covers (dats m 0 c) 4 (G4 (m ((c : Thread nD τ).loc main_arg0)))
    (by decide +kernel) fun t hf y => ?_
  blk_simp
  rw [after0_4]
  idx_vars y
  refine (out_g _ _ _ _ y0 y1).trans ?_
  simp only [b0]
  have e : (((View.whole main_v0_0).slice (win0_4.rect t)).emb (ix2 y0 y1) : S2048x737.Idx) = ix2 (row t y0) y1 := by
    unfold row
    blk_ext! [idx t]
  exact (congrArg (G4 _) e).symm

open Cert.Reference24Ideal.Read in
set_option backward.isDefEq.respectTransparency false in
/-- The gradient: the reference's is the kernel's. -/
theorem agree4 (x0 : Vec Ideal S4x2048x737 .bf16) : val_main_v1 (F := Ideal) x0 = G4 x0 := by
  funext i
  idx_vars i
  unfold G4
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The change of the weight, from the arguments. -/
def G5 (x0 : Vec Ideal S4x2048x737 .bf16) (x1 x2 x3 : Vec Ideal S2048x737 .f32) : Vec Ideal S2048x737 .f32 := fun y => change (∑ k, x0 (ix3 k (y 0) (y 1))) (x1 y) (x2 y) (x3 y)

set_option backward.isDefEq.respectTransparency false in
/-- The array of the change of the weight after the run. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) := by
  refine Dat.arrAt_eq_of_covers (dats m 0 c) 5 (G5 (m ((c : Thread nD τ).loc main_arg0)) (m ((c : Thread nD τ).loc main_arg1)) (m ((c : Thread nD τ).loc main_arg2)) (m ((c : Thread nD τ).loc main_arg3)))
    (by decide +kernel) fun t hf y => ?_
  blk_simp
  rw [after0_5]
  idx_vars y
  refine (out_d _ _ _ _ y0 y1).trans ?_
  simp only [b0, b1, b2, b3]
  have e : (((View.whole main_v0_1).slice (win0_5.rect t)).emb (ix2 y0 y1) : S2048x737.Idx) = ix2 (row t y0) y1 := by
    unfold row
    blk_ext! [idx t]
  exact (congrArg (G5 _ _ _ _) e).symm

open Cert.Reference24Ideal.Read in
set_option backward.isDefEq.respectTransparency false in
/-- The change of the weight: the reference's is the kernel's. -/
theorem agree5 (x0 : Vec Ideal S4x2048x737 .bf16) (x1 x2 x3 : Vec Ideal S2048x737 .f32) : val_main_v25 (F := Ideal) x0 x1 x2 x3 = G5 x0 x1 x2 x3 := by
  funext i
  idx_vars i
  unfold G5 change mean1 mean2
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The mean of the gradient, from the arguments. -/
def G6 (x0 : Vec Ideal S4x2048x737 .bf16) (x2 : Vec Ideal S2048x737 .f32) : Vec Ideal S2048x737 .f32 := fun y => mean1 (∑ k, x0 (ix3 k (y 0) (y 1))) (x2 y)

set_option backward.isDefEq.respectTransparency false in
/-- The array of the mean of the gradient after the run. -/
theorem final6 (c : Dev nD) : (dats m 0 c).arrAt 6 cfg0.N = G6 (m ((c : Thread nD τ).loc main_arg0)) (m ((c : Thread nD τ).loc main_arg2)) := by
  refine Dat.arrAt_eq_of_covers (dats m 0 c) 6 (G6 (m ((c : Thread nD τ).loc main_arg0)) (m ((c : Thread nD τ).loc main_arg2)))
    (by decide +kernel) fun t hf y => ?_
  blk_simp
  rw [after0_6]
  idx_vars y
  refine (out_m _ _ _ _ y0 y1).trans ?_
  simp only [b0, b2]
  have e : (((View.whole main_v0_2).slice (win0_6.rect t)).emb (ix2 y0 y1) : S2048x737.Idx) = ix2 (row t y0) y1 := by
    unfold row
    blk_ext! [idx t]
  exact (congrArg (G6 _ _) e).symm

open Cert.Reference24Ideal.Read in
set_option backward.isDefEq.respectTransparency false in
/-- The mean of the gradient: the reference's is the kernel's. -/
theorem agree6 (x0 : Vec Ideal S4x2048x737 .bf16) (x2 : Vec Ideal S2048x737 .f32) : val_main_v6 (F := Ideal) x0 x2 = G6 x0 x2 := by
  funext i
  idx_vars i
  unfold G6 mean1
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The mean of the square, from the arguments. -/
def G7 (x0 : Vec Ideal S4x2048x737 .bf16) (x3 : Vec Ideal S2048x737 .f32) : Vec Ideal S2048x737 .f32 := fun y => mean2 (∑ k, x0 (ix3 k (y 0) (y 1))) (x3 y)

set_option backward.isDefEq.respectTransparency false in
/-- The array of the mean of the square after the run. -/
theorem final7 (c : Dev nD) : (dats m 0 c).arrAt 7 cfg0.N = G7 (m ((c : Thread nD τ).loc main_arg0)) (m ((c : Thread nD τ).loc main_arg3)) := by
  refine Dat.arrAt_eq_of_covers (dats m 0 c) 7 (G7 (m ((c : Thread nD τ).loc main_arg0)) (m ((c : Thread nD τ).loc main_arg3)))
    (by decide +kernel) fun t hf y => ?_
  blk_simp
  rw [after0_7]
  idx_vars y
  refine (out_v _ _ _ _ y0 y1).trans ?_
  simp only [b0, b3]
  have e : (((View.whole main_v0_3).slice (win0_7.rect t)).emb (ix2 y0 y1) : S2048x737.Idx) = ix2 (row t y0) y1 := by
    unfold row
    blk_ext! [idx t]
  exact (congrArg (G7 _ _) e).symm

open Cert.Reference24Ideal.Read in
set_option backward.isDefEq.respectTransparency false in
/-- The mean of the square: the reference's is the kernel's. -/
theorem agree7 (x0 : Vec Ideal S4x2048x737 .bf16) (x3 : Vec Ideal S2048x737 .f32) : val_main_v12 (F := Ideal) x0 x3 = G7 x0 x3 := by
  funext i
  idx_vars i
  unfold G7 mean2
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The results agree with the reference's, at all arguments. -/
theorem claim : Cert.algebraic_Kernel24Ideal_Reference24Ideal := by
  intro m ρ m' ρ' _ hagree
  refine ⟨fun c => G4 _, fun c => G5 _ _ _ _, fun c => G6 _ _, fun c => G7 _ _,
    (θ_run defs _ _).mono (fun r h c => ⟨(h c).1.trans (final4 m c), (h c).2.1.trans (final5 m c), (h c).2.2.1.trans (final6 m c), (h c).2.2.2.1.trans (final7 m c), (h c).2.2.2.2⟩)
      (Value.run_blocks (F := Ideal) m ρ), ?_⟩
  refine (θ_run Cert.Reference24Ideal.defs _ _).mono (fun _ h c => ⟨(h c).1.trans ?_, (h c).2.1.trans ?_, (h c).2.2.1.trans ?_, (h c).2.2.2.1.trans ?_, (h c).2.2.2.2⟩)
    (Cert.Reference24Ideal.Value.run (F := Ideal) m' ρ')
  · obtain ⟨a0, a1, a2, a3⟩ := hagree c
    rw [a0]
    exact (Cert.Reference24Ideal.Read.val_main_v1_eq _).trans (agree4 _)
  · obtain ⟨a0, a1, a2, a3⟩ := hagree c
    rw [a0, a1, a2, a3]
    exact (Cert.Reference24Ideal.Read.val_main_v25_eq _ _ _ _).trans (agree5 _ _ _ _)
  · obtain ⟨a0, a1, a2, a3⟩ := hagree c
    rw [a0, a2]
    exact (Cert.Reference24Ideal.Read.val_main_v6_eq _ _).trans (agree6 _ _)
  · obtain ⟨a0, a1, a2, a3⟩ := hagree c
    rw [a0, a3]
    exact (Cert.Reference24Ideal.Read.val_main_v12_eq _ _).trans (agree7 _ _)

end Cert.Kernel24Ideal.AdamIn

end
-- ==== Proof.AdamScOut.lean ====
/- The optimiser's step of the projection of the short convolution mixer, or of the attention: at every argument the kernel's results are the reference's. -/
module

public import proofs.«01_k».proof.Proof.Gen.Kernel25Ideal.Value
public import proofs.«01_k».proof.Proof.Gen.Reference25Ideal.Read
public import proofs.«01_k».proof.Proof.Adam
public import proofs.«01_k».proof.Defs
public import Idealize.ShloMosaic.Lib.Pipeline.ValueKit
public import Idealize.ShloMosaic.Lib.Claim

@[expose] public section

set_option maxRecDepth 16384

noncomputable section

namespace Cert.Kernel25Ideal.AdamScOut

open Cert.Kernel25Ideal Cert.Kernel25Ideal.Gen Cert.Adam Idealize.ShloMosaic Idealize.ShloMosaic.TcCoe
open Idealize.ShloMosaic.Pipeline (Dat)

/-! ## One point's stored values, from its blocks -/

set_option backward.isDefEq.respectTransparency false in
/-- Part 0 of a block, read by itself. -/
theorem ld0 (x : Vec Ideal S4x512x128 .bf16) (p : Fin 512) (j : Fin 128) : View.ld x r0_0 (ix3 0 p j) = x (ix3 0 p j) := by
  refine congrArg x (funext fun a => Fin.ext ?_)
  match a with
  | ⟨0, _⟩ => exact (rfl : 0 + 1 * 0 = 0)
  | ⟨1, _⟩ => show 0 + 1 * p.val = p.val; omega
  | ⟨2, _⟩ => show 0 + 1 * j.val = j.val; omega

set_option backward.isDefEq.respectTransparency false in
/-- Part 1 of a block, read by itself. -/
theorem ld1 (x : Vec Ideal S4x512x128 .bf16) (p : Fin 512) (j : Fin 128) : View.ld x r0_1 (ix3 0 p j) = x (ix3 1 p j) := by
  refine congrArg x (funext fun a => Fin.ext ?_)
  match a with
  | ⟨0, _⟩ => exact (rfl : 1 + 1 * 0 = 1)
  | ⟨1, _⟩ => show 0 + 1 * p.val = p.val; omega
  | ⟨2, _⟩ => show 0 + 1 * j.val = j.val; omega

set_option backward.isDefEq.respectTransparency false in
/-- Part 2 of a block, read by itself. -/
theorem ld2 (x : Vec Ideal S4x512x128 .bf16) (p : Fin 512) (j : Fin 128) : View.ld x r0_2 (ix3 0 p j) = x (ix3 2 p j) := by
  refine congrArg x (funext fun a => Fin.ext ?_)
  match a with
  | ⟨0, _⟩ => exact (rfl : 2 + 1 * 0 = 2)
  | ⟨1, _⟩ => show 0 + 1 * p.val = p.val; omega
  | ⟨2, _⟩ => show 0 + 1 * j.val = j.val; omega

set_option backward.isDefEq.respectTransparency false in
/-- Part 3 of a block, read by itself. -/
theorem ld3 (x : Vec Ideal S4x512x128 .bf16) (p : Fin 512) (j : Fin 128) : View.ld x r0_3 (ix3 0 p j) = x (ix3 3 p j) := by
  refine congrArg x (funext fun a => Fin.ext ?_)
  match a with
  | ⟨0, _⟩ => exact (rfl : 3 + 1 * 0 = 3)
  | ⟨1, _⟩ => show 0 + 1 * p.val = p.val; omega
  | ⟨2, _⟩ => show 0 + 1 * j.val = j.val; omega

set_option backward.isDefEq.respectTransparency false in
/-- The stored gradient, from the loaded parts. -/
theorem pay_g (x0 x1 x2 x3 : Vec Ideal S1x512x128 .bf16) (p : Fin 512) (j : Fin 128) :
    k0_pay2 x0 x1 x2 x3 (ix2 p j) = x0 (ix3 0 p j) + x1 (ix3 0 p j) + x2 (ix3 0 p j) + x3 (ix3 0 p j) := by
  pointwise [k0_pay1, k0_pay2, k0_pay3, k0_pay4, k0_pay5, k0_pay6]

set_option backward.isDefEq.respectTransparency false in
/-- The stored gradient, from the blocks. -/
theorem out_g (x : Vec Ideal S4x512x128 .bf16) (w m v : Vec Ideal S512x128 .f32) (p : Fin 512) (j : Fin 128) :
    out0_4 x w m v (ix2 p j) = ∑ k, x (ix3 k p j) := by
  unfold out0_4
  frame_out
  rw [pay_g, sum_four, ld0, ld1, ld2, ld3]

set_option backward.isDefEq.respectTransparency false in
/-- The stored change of the weight, from the loaded parts. -/
theorem pay_d (x0 x1 x2 x3 : Vec Ideal S1x512x128 .bf16) (w m v : Vec Ideal S512x128 .f32) (p : Fin 512) (j : Fin 128) :
    k0_pay1 (k0_pay5 x0 x1 x2 x3 m) (k0_pay6 x0 x1 x2 x3 v) w (ix2 p j) = change (x0 (ix3 0 p j) + x1 (ix3 0 p j) + x2 (ix3 0 p j) + x3 (ix3 0 p j)) (w (ix2 p j)) (m (ix2 p j)) (v (ix2 p j)) := by
  unfold change mean1 mean2
  pointwise [k0_pay1, k0_pay2, k0_pay3, k0_pay4, k0_pay5, k0_pay6]

set_option backward.isDefEq.respectTransparency false in
/-- The stored change of the weight, from the blocks. -/
theorem out_d (x : Vec Ideal S4x512x128 .bf16) (w m v : Vec Ideal S512x128 .f32) (p : Fin 512) (j : Fin 128) :
    out0_5 x w m v (ix2 p j) = change (∑ k, x (ix3 k p j)) (w (ix2 p j)) (m (ix2 p j)) (v (ix2 p j)) := by
  unfold out0_5
  frame_out
  rw [pay_d, sum_four, ld0, ld1, ld2, ld3]

set_option backward.isDefEq.respectTransparency false in
/-- The stored mean of the gradient, from the loaded parts. -/
theorem pay_m (x0 x1 x2 x3 : Vec Ideal S1x512x128 .bf16) (m : Vec Ideal S512x128 .f32) (p : Fin 512) (j : Fin 128) :
    k0_pay3 x0 x1 x2 x3 m (ix2 p j) = mean1 (x0 (ix3 0 p j) + x1 (ix3 0 p j) + x2 (ix3 0 p j) + x3 (ix3 0 p j)) (m (ix2 p j)) := by
  unfold mean1
  pointwise [k0_pay1, k0_pay2, k0_pay3, k0_pay4, k0_pay5, k0_pay6]

set_option backward.isDefEq.respectTransparency false in
/-- The stored mean of the gradient, from the blocks. -/
theorem out_m (x : Vec Ideal S4x512x128 .bf16) (w m v : Vec Ideal S512x128 .f32) (p : Fin 512) (j : Fin 128) :
    out0_6 x w m v (ix2 p j) = mean1 (∑ k, x (ix3 k p j)) (m (ix2 p j)) := by
  unfold out0_6
  frame_out
  rw [pay_m, sum_four, ld0, ld1, ld2, ld3]

set_option backward.isDefEq.respectTransparency false in
/-- The stored mean of the square, from the loaded parts. -/
theorem pay_v (x0 x1 x2 x3 : Vec Ideal S1x512x128 .bf16) (v : Vec Ideal S512x128 .f32) (p : Fin 512) (j : Fin 128) :
    k0_pay4 x0 x1 x2 x3 v (ix2 p j) = mean2 (x0 (ix3 0 p j) + x1 (ix3 0 p j) + x2 (ix3 0 p j) + x3 (ix3 0 p j)) (v (ix2 p j)) := by
  unfold mean2
  pointwise [k0_pay1, k0_pay2, k0_pay3, k0_pay4, k0_pay5, k0_pay6]

set_option backward.isDefEq.respectTransparency false in
/-- The stored mean of the square, from the blocks. -/
theorem out_v (x : Vec Ideal S4x512x128 .bf16) (w m v : Vec Ideal S512x128 .f32) (p : Fin 512) (j : Fin 128) :
    out0_7 x w m v (ix2 p j) = mean2 (∑ k, x (ix3 k p j)) (v (ix2 p j)) := by
  unfold out0_7
  frame_out
  rw [pay_v, sum_four, ld0, ld1, ld2, ld3]

variable (m : (ℓ : Loc nD τ sig) → Buf (Elt Ideal) ℓ)

/-! ## Blocks of rows: point `t` works on the block of rows `t` -/

/-- The blocks' positions at a grid point. -/
theorem idx : ∀ t : Fin cfg0.N, t.val < 1
    ∧ win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- Row `p` of block `t`. -/
def row (t : Fin cfg0.N) (p : Fin 512) : Fin 512 := ⟨t.val * 512 + p.val, by have := (idx t).1; omega⟩

set_option backward.isDefEq.respectTransparency false in
/-- The gradient: each of its four parts of a point's block is rows of the whole array's part. -/
theorem b0 (c : Dev nD) (t : Fin cfg0.N) (k : Fin 4) (p : Fin 512) (j : Fin 128) :
    (iblk m c 0 t : Vec Ideal S4x512x128 .bf16) (ix3 k p j) = (m ((c : Thread nD τ).loc main_arg0) : Vec Ideal S4x512x128 .bf16) (ix3 k (row t p) j) := by
  unfold row
  blk_ext! [iblk, V, idx t]

set_option backward.isDefEq.respectTransparency false in
/-- The weight: row `p` of a point's block is the whole array's row. -/
theorem b1 (c : Dev nD) (t : Fin cfg0.N) (p : Fin 512) (j : Fin 128) :
    (iblk m c 1 t : Vec Ideal S512x128 .f32) (ix2 p j) = (m ((c : Thread nD τ).loc main_arg1) : Vec Ideal S512x128 .f32) (ix2 (row t p) j) := by
  unfold row
  blk_ext! [iblk, V, idx t]

set_option backward.isDefEq.respectTransparency false in
/-- The mean of the gradient so far: row `p` of a point's block is the whole array's row. -/
theorem b2 (c : Dev nD) (t : Fin cfg0.N) (p : Fin 512) (j : Fin 128) :
    (iblk m c 2 t : Vec Ideal S512x128 .f32) (ix2 p j) = (m ((c : Thread nD τ).loc main_arg2) : Vec Ideal S512x128 .f32) (ix2 (row t p) j) := by
  unfold row
  blk_ext! [iblk, V, idx t]

set_option backward.isDefEq.respectTransparency false in
/-- The mean of the square so far: row `p` of a point's block is the whole array's row. -/
theorem b3 (c : Dev nD) (t : Fin cfg0.N) (p : Fin 512) (j : Fin 128) :
    (iblk m c 3 t : Vec Ideal S512x128 .f32) (ix2 p j) = (m ((c : Thread nD τ).loc main_arg3) : Vec Ideal S512x128 .f32) (ix2 (row t p) j) := by
  unfold row
  blk_ext! [iblk, V, idx t]

/-! ## The results from the program's arguments -/

/-- The gradient, from the arguments. -/
def G4 (x0 : Vec Ideal S4x512x128 .bf16) : Vec Ideal S512x128 .f32 := fun y => ∑ k, x0 (ix3 k (y 0) (y 1))

set_option backward.isDefEq.respectTransparency false in
/-- The array of the gradient after the run. -/
theorem final4 (c : Dev nD) : (dats m 0 c).arrAt 4 cfg0.N = G4 (m ((c : Thread nD τ).loc main_arg0)) := by
  refine Dat.arrAt_eq_of_covers (dats m 0 c) 4 (G4 (m ((c : Thread nD τ).loc main_arg0)))
    (by decide +kernel) fun t hf y => ?_
  blk_simp
  rw [after0_4]
  idx_vars y
  refine (out_g _ _ _ _ y0 y1).trans ?_
  simp only [b0]
  have e : (((View.whole main_v0_0).slice (win0_4.rect t)).emb (ix2 y0 y1) : S512x128.Idx) = ix2 (row t y0) y1 := by
    unfold row
    blk_ext! [idx t]
  exact (congrArg (G4 _) e).symm

open Cert.Reference25Ideal.Read in
set_option backward.isDefEq.respectTransparency false in
/-- The gradient: the reference's is the kernel's. -/
theorem agree4 (x0 : Vec Ideal S4x512x128 .bf16) : val_main_v1 (F := Ideal) x0 = G4 x0 := by
  funext i
  idx_vars i
  unfold G4
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The change of the weight, from the arguments. -/
def G5 (x0 : Vec Ideal S4x512x128 .bf16) (x1 x2 x3 : Vec Ideal S512x128 .f32) : Vec Ideal S512x128 .f32 := fun y => change (∑ k, x0 (ix3 k (y 0) (y 1))) (x1 y) (x2 y) (x3 y)

set_option backward.isDefEq.respectTransparency false in
/-- The array of the change of the weight after the run. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) := by
  refine Dat.arrAt_eq_of_covers (dats m 0 c) 5 (G5 (m ((c : Thread nD τ).loc main_arg0)) (m ((c : Thread nD τ).loc main_arg1)) (m ((c : Thread nD τ).loc main_arg2)) (m ((c : Thread nD τ).loc main_arg3)))
    (by decide +kernel) fun t hf y => ?_
  blk_simp
  rw [after0_5]
  idx_vars y
  refine (out_d _ _ _ _ y0 y1).trans ?_
  simp only [b0, b1, b2, b3]
  have e : (((View.whole main_v0_1).slice (win0_5.rect t)).emb (ix2 y0 y1) : S512x128.Idx) = ix2 (row t y0) y1 := by
    unfold row
    blk_ext! [idx t]
  exact (congrArg (G5 _ _ _ _) e).symm

open Cert.Reference25Ideal.Read in
set_option backward.isDefEq.respectTransparency false in
/-- The change of the weight: the reference's is the kernel's. -/
theorem agree5 (x0 : Vec Ideal S4x512x128 .bf16) (x1 x2 x3 : Vec Ideal S512x128 .f32) : val_main_v25 (F := Ideal) x0 x1 x2 x3 = G5 x0 x1 x2 x3 := by
  funext i
  idx_vars i
  unfold G5 change mean1 mean2
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The mean of the gradient, from the arguments. -/
def G6 (x0 : Vec Ideal S4x512x128 .bf16) (x2 : Vec Ideal S512x128 .f32) : Vec Ideal S512x128 .f32 := fun y => mean1 (∑ k, x0 (ix3 k (y 0) (y 1))) (x2 y)

set_option backward.isDefEq.respectTransparency false in
/-- The array of the mean of the gradient after the run. -/
theorem final6 (c : Dev nD) : (dats m 0 c).arrAt 6 cfg0.N = G6 (m ((c : Thread nD τ).loc main_arg0)) (m ((c : Thread nD τ).loc main_arg2)) := by
  refine Dat.arrAt_eq_of_covers (dats m 0 c) 6 (G6 (m ((c : Thread nD τ).loc main_arg0)) (m ((c : Thread nD τ).loc main_arg2)))
    (by decide +kernel) fun t hf y => ?_
  blk_simp
  rw [after0_6]
  idx_vars y
  refine (out_m _ _ _ _ y0 y1).trans ?_
  simp only [b0, b2]
  have e : (((View.whole main_v0_2).slice (win0_6.rect t)).emb (ix2 y0 y1) : S512x128.Idx) = ix2 (row t y0) y1 := by
    unfold row
    blk_ext! [idx t]
  exact (congrArg (G6 _ _) e).symm

open Cert.Reference25Ideal.Read in
set_option backward.isDefEq.respectTransparency false in
/-- The mean of the gradient: the reference's is the kernel's. -/
theorem agree6 (x0 : Vec Ideal S4x512x128 .bf16) (x2 : Vec Ideal S512x128 .f32) : val_main_v6 (F := Ideal) x0 x2 = G6 x0 x2 := by
  funext i
  idx_vars i
  unfold G6 mean1
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The mean of the square, from the arguments. -/
def G7 (x0 : Vec Ideal S4x512x128 .bf16) (x3 : Vec Ideal S512x128 .f32) : Vec Ideal S512x128 .f32 := fun y => mean2 (∑ k, x0 (ix3 k (y 0) (y 1))) (x3 y)

set_option backward.isDefEq.respectTransparency false in
/-- The array of the mean of the square after the run. -/
theorem final7 (c : Dev nD) : (dats m 0 c).arrAt 7 cfg0.N = G7 (m ((c : Thread nD τ).loc main_arg0)) (m ((c : Thread nD τ).loc main_arg3)) := by
  refine Dat.arrAt_eq_of_covers (dats m 0 c) 7 (G7 (m ((c : Thread nD τ).loc main_arg0)) (m ((c : Thread nD τ).loc main_arg3)))
    (by decide +kernel) fun t hf y => ?_
  blk_simp
  rw [after0_7]
  idx_vars y
  refine (out_v _ _ _ _ y0 y1).trans ?_
  simp only [b0, b3]
  have e : (((View.whole main_v0_3).slice (win0_7.rect t)).emb (ix2 y0 y1) : S512x128.Idx) = ix2 (row t y0) y1 := by
    unfold row
    blk_ext! [idx t]
  exact (congrArg (G7 _ _) e).symm

open Cert.Reference25Ideal.Read in
set_option backward.isDefEq.respectTransparency false in
/-- The mean of the square: the reference's is the kernel's. -/
theorem agree7 (x0 : Vec Ideal S4x512x128 .bf16) (x3 : Vec Ideal S512x128 .f32) : val_main_v12 (F := Ideal) x0 x3 = G7 x0 x3 := by
  funext i
  idx_vars i
  unfold G7 mean2
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The results agree with the reference's, at all arguments. -/
theorem claim : Cert.algebraic_Kernel25Ideal_Reference25Ideal := by
  intro m ρ m' ρ' _ hagree
  refine ⟨fun c => G4 _, fun c => G5 _ _ _ _, fun c => G6 _ _, fun c => G7 _ _,
    (θ_run defs _ _).mono (fun r h c => ⟨(h c).1.trans (final4 m c), (h c).2.1.trans (final5 m c), (h c).2.2.1.trans (final6 m c), (h c).2.2.2.1.trans (final7 m c), (h c).2.2.2.2⟩)
      (Value.run_blocks (F := Ideal) m ρ), ?_⟩
  refine (θ_run Cert.Reference25Ideal.defs _ _).mono (fun _ h c => ⟨(h c).1.trans ?_, (h c).2.1.trans ?_, (h c).2.2.1.trans ?_, (h c).2.2.2.1.trans ?_, (h c).2.2.2.2⟩)
    (Cert.Reference25Ideal.Value.run (F := Ideal) m' ρ')
  · obtain ⟨a0, a1, a2, a3⟩ := hagree c
    rw [a0]
    exact (Cert.Reference25Ideal.Read.val_main_v1_eq _).trans (agree4 _)
  · obtain ⟨a0, a1, a2, a3⟩ := hagree c
    rw [a0, a1, a2, a3]
    exact (Cert.Reference25Ideal.Read.val_main_v25_eq _ _ _ _).trans (agree5 _ _ _ _)
  · obtain ⟨a0, a1, a2, a3⟩ := hagree c
    rw [a0, a2]
    exact (Cert.Reference25Ideal.Read.val_main_v6_eq _ _).trans (agree6 _ _)
  · obtain ⟨a0, a1, a2, a3⟩ := hagree c
    rw [a0, a3]
    exact (Cert.Reference25Ideal.Read.val_main_v12_eq _ _).trans (agree7 _ _)

end Cert.Kernel25Ideal.AdamScOut

end
-- ==== Proof.AdamSsmOut.lean ====
/- The optimiser's step of the projection of the state-space mixer: at every argument the kernel's results are the reference's. -/
module

public import proofs.«01_k».proof.Proof.Gen.Kernel26Ideal.Value
public import proofs.«01_k».proof.Proof.Gen.Reference26Ideal.Read
public import proofs.«01_k».proof.Proof.Adam
public import proofs.«01_k».proof.Defs
public import Idealize.ShloMosaic.Lib.Pipeline.ValueKit
public import Idealize.ShloMosaic.Lib.Claim

@[expose] public section

set_option maxRecDepth 16384

noncomputable section

namespace Cert.Kernel26Ideal.AdamSsmOut

open Cert.Kernel26Ideal Cert.Kernel26Ideal.Gen Cert.Adam Idealize.ShloMosaic Idealize.ShloMosaic.TcCoe
open Idealize.ShloMosaic.Pipeline (Dat)

/-! ## One point's stored values, from its blocks -/

set_option backward.isDefEq.respectTransparency false in
/-- Part 0 of a block, read by itself. -/
theorem ld0 (x : Vec Ideal S4x512x128 .bf16) (p : Fin 512) (j : Fin 128) : View.ld x r0_0 (ix3 0 p j) = x (ix3 0 p j) := by
  refine congrArg x (funext fun a => Fin.ext ?_)
  match a with
  | ⟨0, _⟩ => exact (rfl : 0 + 1 * 0 = 0)
  | ⟨1, _⟩ => show 0 + 1 * p.val = p.val; omega
  | ⟨2, _⟩ => show 0 + 1 * j.val = j.val; omega

set_option backward.isDefEq.respectTransparency false in
/-- Part 1 of a block, read by itself. -/
theorem ld1 (x : Vec Ideal S4x512x128 .bf16) (p : Fin 512) (j : Fin 128) : View.ld x r0_1 (ix3 0 p j) = x (ix3 1 p j) := by
  refine congrArg x (funext fun a => Fin.ext ?_)
  match a with
  | ⟨0, _⟩ => exact (rfl : 1 + 1 * 0 = 1)
  | ⟨1, _⟩ => show 0 + 1 * p.val = p.val; omega
  | ⟨2, _⟩ => show 0 + 1 * j.val = j.val; omega

set_option backward.isDefEq.respectTransparency false in
/-- Part 2 of a block, read by itself. -/
theorem ld2 (x : Vec Ideal S4x512x128 .bf16) (p : Fin 512) (j : Fin 128) : View.ld x r0_2 (ix3 0 p j) = x (ix3 2 p j) := by
  refine congrArg x (funext fun a => Fin.ext ?_)
  match a with
  | ⟨0, _⟩ => exact (rfl : 2 + 1 * 0 = 2)
  | ⟨1, _⟩ => show 0 + 1 * p.val = p.val; omega
  | ⟨2, _⟩ => show 0 + 1 * j.val = j.val; omega

set_option backward.isDefEq.respectTransparency false in
/-- Part 3 of a block, read by itself. -/
theorem ld3 (x : Vec Ideal S4x512x128 .bf16) (p : Fin 512) (j : Fin 128) : View.ld x r0_3 (ix3 0 p j) = x (ix3 3 p j) := by
  refine congrArg x (funext fun a => Fin.ext ?_)
  match a with
  | ⟨0, _⟩ => exact (rfl : 3 + 1 * 0 = 3)
  | ⟨1, _⟩ => show 0 + 1 * p.val = p.val; omega
  | ⟨2, _⟩ => show 0 + 1 * j.val = j.val; omega

set_option backward.isDefEq.respectTransparency false in
/-- The stored gradient, from the loaded parts. -/
theorem pay_g (x0 x1 x2 x3 : Vec Ideal S1x512x128 .bf16) (p : Fin 512) (j : Fin 128) :
    k0_pay2 x0 x1 x2 x3 (ix2 p j) = x0 (ix3 0 p j) + x1 (ix3 0 p j) + x2 (ix3 0 p j) + x3 (ix3 0 p j) := by
  pointwise [k0_pay1, k0_pay2, k0_pay3, k0_pay4, k0_pay5, k0_pay6]

set_option backward.isDefEq.respectTransparency false in
/-- The stored gradient, from the blocks. -/
theorem out_g (x : Vec Ideal S4x512x128 .bf16) (w m v : Vec Ideal S512x128 .f32) (p : Fin 512) (j : Fin 128) :
    out0_4 x w m v (ix2 p j) = ∑ k, x (ix3 k p j) := by
  unfold out0_4
  frame_out
  rw [pay_g, sum_four, ld0, ld1, ld2, ld3]

set_option backward.isDefEq.respectTransparency false in
/-- The stored change of the weight, from the loaded parts. -/
theorem pay_d (x0 x1 x2 x3 : Vec Ideal S1x512x128 .bf16) (w m v : Vec Ideal S512x128 .f32) (p : Fin 512) (j : Fin 128) :
    k0_pay1 (k0_pay5 x0 x1 x2 x3 m) (k0_pay6 x0 x1 x2 x3 v) w (ix2 p j) = change (x0 (ix3 0 p j) + x1 (ix3 0 p j) + x2 (ix3 0 p j) + x3 (ix3 0 p j)) (w (ix2 p j)) (m (ix2 p j)) (v (ix2 p j)) := by
  unfold change mean1 mean2
  pointwise [k0_pay1, k0_pay2, k0_pay3, k0_pay4, k0_pay5, k0_pay6]

set_option backward.isDefEq.respectTransparency false in
/-- The stored change of the weight, from the blocks. -/
theorem out_d (x : Vec Ideal S4x512x128 .bf16) (w m v : Vec Ideal S512x128 .f32) (p : Fin 512) (j : Fin 128) :
    out0_5 x w m v (ix2 p j) = change (∑ k, x (ix3 k p j)) (w (ix2 p j)) (m (ix2 p j)) (v (ix2 p j)) := by
  unfold out0_5
  frame_out
  rw [pay_d, sum_four, ld0, ld1, ld2, ld3]

set_option backward.isDefEq.respectTransparency false in
/-- The stored mean of the gradient, from the loaded parts. -/
theorem pay_m (x0 x1 x2 x3 : Vec Ideal S1x512x128 .bf16) (m : Vec Ideal S512x128 .f32) (p : Fin 512) (j : Fin 128) :
    k0_pay3 x0 x1 x2 x3 m (ix2 p j) = mean1 (x0 (ix3 0 p j) + x1 (ix3 0 p j) + x2 (ix3 0 p j) + x3 (ix3 0 p j)) (m (ix2 p j)) := by
  unfold mean1
  pointwise [k0_pay1, k0_pay2, k0_pay3, k0_pay4, k0_pay5, k0_pay6]

set_option backward.isDefEq.respectTransparency false in
/-- The stored mean of the gradient, from the blocks. -/
theorem out_m (x : Vec Ideal S4x512x128 .bf16) (w m v : Vec Ideal S512x128 .f32) (p : Fin 512) (j : Fin 128) :
    out0_6 x w m v (ix2 p j) = mean1 (∑ k, x (ix3 k p j)) (m (ix2 p j)) := by
  unfold out0_6
  frame_out
  rw [pay_m, sum_four, ld0, ld1, ld2, ld3]

set_option backward.isDefEq.respectTransparency false in
/-- The stored mean of the square, from the loaded parts. -/
theorem pay_v (x0 x1 x2 x3 : Vec Ideal S1x512x128 .bf16) (v : Vec Ideal S512x128 .f32) (p : Fin 512) (j : Fin 128) :
    k0_pay4 x0 x1 x2 x3 v (ix2 p j) = mean2 (x0 (ix3 0 p j) + x1 (ix3 0 p j) + x2 (ix3 0 p j) + x3 (ix3 0 p j)) (v (ix2 p j)) := by
  unfold mean2
  pointwise [k0_pay1, k0_pay2, k0_pay3, k0_pay4, k0_pay5, k0_pay6]

set_option backward.isDefEq.respectTransparency false in
/-- The stored mean of the square, from the blocks. -/
theorem out_v (x : Vec Ideal S4x512x128 .bf16) (w m v : Vec Ideal S512x128 .f32) (p : Fin 512) (j : Fin 128) :
    out0_7 x w m v (ix2 p j) = mean2 (∑ k, x (ix3 k p j)) (v (ix2 p j)) := by
  unfold out0_7
  frame_out
  rw [pay_v, sum_four, ld0, ld1, ld2, ld3]

variable (m : (ℓ : Loc nD τ sig) → Buf (Elt Ideal) ℓ)

/-! ## Blocks of rows: point `t` works on the block of rows `t` -/

/-- The blocks' positions at a grid point. -/
theorem idx : ∀ t : Fin cfg0.N, t.val < 2
    ∧ win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- Row `p` of block `t`. -/
def row (t : Fin cfg0.N) (p : Fin 512) : Fin 1024 := ⟨t.val * 512 + p.val, by have := (idx t).1; omega⟩

set_option backward.isDefEq.respectTransparency false in
/-- The gradient: each of its four parts of a point's block is rows of the whole array's part. -/
theorem b0 (c : Dev nD) (t : Fin cfg0.N) (k : Fin 4) (p : Fin 512) (j : Fin 128) :
    (iblk m c 0 t : Vec Ideal S4x512x128 .bf16) (ix3 k p j) = (m ((c : Thread nD τ).loc main_arg0) : Vec Ideal S4x1024x128 .bf16) (ix3 k (row t p) j) := by
  unfold row
  blk_ext! [iblk, V, idx t]

set_option backward.isDefEq.respectTransparency false in
/-- The weight: row `p` of a point's block is the whole array's row. -/
theorem b1 (c : Dev nD) (t : Fin cfg0.N) (p : Fin 512) (j : Fin 128) :
    (iblk m c 1 t : Vec Ideal S512x128 .f32) (ix2 p j) = (m ((c : Thread nD τ).loc main_arg1) : Vec Ideal S1024x128 .f32) (ix2 (row t p) j) := by
  unfold row
  blk_ext! [iblk, V, idx t]

set_option backward.isDefEq.respectTransparency false in
/-- The mean of the gradient so far: row `p` of a point's block is the whole array's row. -/
theorem b2 (c : Dev nD) (t : Fin cfg0.N) (p : Fin 512) (j : Fin 128) :
    (iblk m c 2 t : Vec Ideal S512x128 .f32) (ix2 p j) = (m ((c : Thread nD τ).loc main_arg2) : Vec Ideal S1024x128 .f32) (ix2 (row t p) j) := by
  unfold row
  blk_ext! [iblk, V, idx t]

set_option backward.isDefEq.respectTransparency false in
/-- The mean of the square so far: row `p` of a point's block is the whole array's row. -/
theorem b3 (c : Dev nD) (t : Fin cfg0.N) (p : Fin 512) (j : Fin 128) :
    (iblk m c 3 t : Vec Ideal S512x128 .f32) (ix2 p j) = (m ((c : Thread nD τ).loc main_arg3) : Vec Ideal S1024x128 .f32) (ix2 (row t p) j) := by
  unfold row
  blk_ext! [iblk, V, idx t]

/-! ## The results from the program's arguments -/

/-- The gradient, from the arguments. -/
def G4 (x0 : Vec Ideal S4x1024x128 .bf16) : Vec Ideal S1024x128 .f32 := fun y => ∑ k, x0 (ix3 k (y 0) (y 1))

set_option backward.isDefEq.respectTransparency false in
/-- The array of the gradient after the run. -/
theorem final4 (c : Dev nD) : (dats m 0 c).arrAt 4 cfg0.N = G4 (m ((c : Thread nD τ).loc main_arg0)) := by
  refine Dat.arrAt_eq_of_covers (dats m 0 c) 4 (G4 (m ((c : Thread nD τ).loc main_arg0)))
    (by decide +kernel) fun t hf y => ?_
  blk_simp
  rw [after0_4]
  idx_vars y
  refine (out_g _ _ _ _ y0 y1).trans ?_
  simp only [b0]
  have e : (((View.whole main_v0_0).slice (win0_4.rect t)).emb (ix2 y0 y1) : S1024x128.Idx) = ix2 (row t y0) y1 := by
    unfold row
    blk_ext! [idx t]
  exact (congrArg (G4 _) e).symm

open Cert.Reference26Ideal.Read in
set_option backward.isDefEq.respectTransparency false in
/-- The gradient: the reference's is the kernel's. -/
theorem agree4 (x0 : Vec Ideal S4x1024x128 .bf16) : val_main_v1 (F := Ideal) x0 = G4 x0 := by
  funext i
  idx_vars i
  unfold G4
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The change of the weight, from the arguments. -/
def G5 (x0 : Vec Ideal S4x1024x128 .bf16) (x1 x2 x3 : Vec Ideal S1024x128 .f32) : Vec Ideal S1024x128 .f32 := fun y => change (∑ k, x0 (ix3 k (y 0) (y 1))) (x1 y) (x2 y) (x3 y)

set_option backward.isDefEq.respectTransparency false in
/-- The array of the change of the weight after the run. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) := by
  refine Dat.arrAt_eq_of_covers (dats m 0 c) 5 (G5 (m ((c : Thread nD τ).loc main_arg0)) (m ((c : Thread nD τ).loc main_arg1)) (m ((c : Thread nD τ).loc main_arg2)) (m ((c : Thread nD τ).loc main_arg3)))
    (by decide +kernel) fun t hf y => ?_
  blk_simp
  rw [after0_5]
  idx_vars y
  refine (out_d _ _ _ _ y0 y1).trans ?_
  simp only [b0, b1, b2, b3]
  have e : (((View.whole main_v0_1).slice (win0_5.rect t)).emb (ix2 y0 y1) : S1024x128.Idx) = ix2 (row t y0) y1 := by
    unfold row
    blk_ext! [idx t]
  exact (congrArg (G5 _ _ _ _) e).symm

open Cert.Reference26Ideal.Read in
set_option backward.isDefEq.respectTransparency false in
/-- The change of the weight: the reference's is the kernel's. -/
theorem agree5 (x0 : Vec Ideal S4x1024x128 .bf16) (x1 x2 x3 : Vec Ideal S1024x128 .f32) : val_main_v25 (F := Ideal) x0 x1 x2 x3 = G5 x0 x1 x2 x3 := by
  funext i
  idx_vars i
  unfold G5 change mean1 mean2
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The mean of the gradient, from the arguments. -/
def G6 (x0 : Vec Ideal S4x1024x128 .bf16) (x2 : Vec Ideal S1024x128 .f32) : Vec Ideal S1024x128 .f32 := fun y => mean1 (∑ k, x0 (ix3 k (y 0) (y 1))) (x2 y)

set_option backward.isDefEq.respectTransparency false in
/-- The array of the mean of the gradient after the run. -/
theorem final6 (c : Dev nD) : (dats m 0 c).arrAt 6 cfg0.N = G6 (m ((c : Thread nD τ).loc main_arg0)) (m ((c : Thread nD τ).loc main_arg2)) := by
  refine Dat.arrAt_eq_of_covers (dats m 0 c) 6 (G6 (m ((c : Thread nD τ).loc main_arg0)) (m ((c : Thread nD τ).loc main_arg2)))
    (by decide +kernel) fun t hf y => ?_
  blk_simp
  rw [after0_6]
  idx_vars y
  refine (out_m _ _ _ _ y0 y1).trans ?_
  simp only [b0, b2]
  have e : (((View.whole main_v0_2).slice (win0_6.rect t)).emb (ix2 y0 y1) : S1024x128.Idx) = ix2 (row t y0) y1 := by
    unfold row
    blk_ext! [idx t]
  exact (congrArg (G6 _ _) e).symm

open Cert.Reference26Ideal.Read in
set_option backward.isDefEq.respectTransparency false in
/-- The mean of the gradient: the reference's is the kernel's. -/
theorem agree6 (x0 : Vec Ideal S4x1024x128 .bf16) (x2 : Vec Ideal S1024x128 .f32) : val_main_v6 (F := Ideal) x0 x2 = G6 x0 x2 := by
  funext i
  idx_vars i
  unfold G6 mean1
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The mean of the square, from the arguments. -/
def G7 (x0 : Vec Ideal S4x1024x128 .bf16) (x3 : Vec Ideal S1024x128 .f32) : Vec Ideal S1024x128 .f32 := fun y => mean2 (∑ k, x0 (ix3 k (y 0) (y 1))) (x3 y)

set_option backward.isDefEq.respectTransparency false in
/-- The array of the mean of the square after the run. -/
theorem final7 (c : Dev nD) : (dats m 0 c).arrAt 7 cfg0.N = G7 (m ((c : Thread nD τ).loc main_arg0)) (m ((c : Thread nD τ).loc main_arg3)) := by
  refine Dat.arrAt_eq_of_covers (dats m 0 c) 7 (G7 (m ((c : Thread nD τ).loc main_arg0)) (m ((c : Thread nD τ).loc main_arg3)))
    (by decide +kernel) fun t hf y => ?_
  blk_simp
  rw [after0_7]
  idx_vars y
  refine (out_v _ _ _ _ y0 y1).trans ?_
  simp only [b0, b3]
  have e : (((View.whole main_v0_3).slice (win0_7.rect t)).emb (ix2 y0 y1) : S1024x128.Idx) = ix2 (row t y0) y1 := by
    unfold row
    blk_ext! [idx t]
  exact (congrArg (G7 _ _) e).symm

open Cert.Reference26Ideal.Read in
set_option backward.isDefEq.respectTransparency false in
/-- The mean of the square: the reference's is the kernel's. -/
theorem agree7 (x0 : Vec Ideal S4x1024x128 .bf16) (x3 : Vec Ideal S1024x128 .f32) : val_main_v12 (F := Ideal) x0 x3 = G7 x0 x3 := by
  funext i
  idx_vars i
  unfold G7 mean2
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The results agree with the reference's, at all arguments. -/
theorem claim : Cert.algebraic_Kernel26Ideal_Reference26Ideal := by
  intro m ρ m' ρ' _ hagree
  refine ⟨fun c => G4 _, fun c => G5 _ _ _ _, fun c => G6 _ _, fun c => G7 _ _,
    (θ_run defs _ _).mono (fun r h c => ⟨(h c).1.trans (final4 m c), (h c).2.1.trans (final5 m c), (h c).2.2.1.trans (final6 m c), (h c).2.2.2.1.trans (final7 m c), (h c).2.2.2.2⟩)
      (Value.run_blocks (F := Ideal) m ρ), ?_⟩
  refine (θ_run Cert.Reference26Ideal.defs _ _).mono (fun _ h c => ⟨(h c).1.trans ?_, (h c).2.1.trans ?_, (h c).2.2.1.trans ?_, (h c).2.2.2.1.trans ?_, (h c).2.2.2.2⟩)
    (Cert.Reference26Ideal.Value.run (F := Ideal) m' ρ')
  · obtain ⟨a0, a1, a2, a3⟩ := hagree c
    rw [a0]
    exact (Cert.Reference26Ideal.Read.val_main_v1_eq _).trans (agree4 _)
  · obtain ⟨a0, a1, a2, a3⟩ := hagree c
    rw [a0, a1, a2, a3]
    exact (Cert.Reference26Ideal.Read.val_main_v25_eq _ _ _ _).trans (agree5 _ _ _ _)
  · obtain ⟨a0, a1, a2, a3⟩ := hagree c
    rw [a0, a2]
    exact (Cert.Reference26Ideal.Read.val_main_v6_eq _ _).trans (agree6 _ _)
  · obtain ⟨a0, a1, a2, a3⟩ := hagree c
    rw [a0, a3]
    exact (Cert.Reference26Ideal.Read.val_main_v12_eq _ _).trans (agree7 _ _)

end Cert.Kernel26Ideal.AdamSsmOut

end
-- ==== Proof.AdamO.lean ====
/- The optimiser's step of the output projection's weight: at every argument the kernel's results are the reference's. -/
module

public import proofs.«01_k».proof.Proof.Gen.Kernel27Ideal.Value
public import proofs.«01_k».proof.Proof.Gen.Reference27Ideal.Read
public import proofs.«01_k».proof.Proof.Adam
public import proofs.«01_k».proof.Defs
public import Idealize.ShloMosaic.Lib.Pipeline.ValueKit
public import Idealize.ShloMosaic.Lib.Claim

@[expose] public section

set_option maxRecDepth 16384

noncomputable section

namespace Cert.Kernel27Ideal.AdamO

open Cert.Kernel27Ideal Cert.Kernel27Ideal.Gen Cert.Adam Idealize.ShloMosaic Idealize.ShloMosaic.TcCoe
open Idealize.ShloMosaic.Pipeline (Dat)

/-! ## One point's stored values, from its blocks -/

set_option backward.isDefEq.respectTransparency false in
/-- Part 0 of a block, read by itself. -/
theorem ld0 (x : Vec Ideal S4x256x1024 .bf16) (p : Fin 256) (j : Fin 1024) : View.ld x r0_0 (ix3 0 p j) = x (ix3 0 p j) := by
  refine congrArg x (funext fun a => Fin.ext ?_)
  match a with
  | ⟨0, _⟩ => exact (rfl : 0 + 1 * 0 = 0)
  | ⟨1, _⟩ => show 0 + 1 * p.val = p.val; omega
  | ⟨2, _⟩ => show 0 + 1 * j.val = j.val; omega

set_option backward.isDefEq.respectTransparency false in
/-- Part 1 of a block, read by itself. -/
theorem ld1 (x : Vec Ideal S4x256x1024 .bf16) (p : Fin 256) (j : Fin 1024) : View.ld x r0_1 (ix3 0 p j) = x (ix3 1 p j) := by
  refine congrArg x (funext fun a => Fin.ext ?_)
  match a with
  | ⟨0, _⟩ => exact (rfl : 1 + 1 * 0 = 1)
  | ⟨1, _⟩ => show 0 + 1 * p.val = p.val; omega
  | ⟨2, _⟩ => show 0 + 1 * j.val = j.val; omega

set_option backward.isDefEq.respectTransparency false in
/-- Part 2 of a block, read by itself. -/
theorem ld2 (x : Vec Ideal S4x256x1024 .bf16) (p : Fin 256) (j : Fin 1024) : View.ld x r0_2 (ix3 0 p j) = x (ix3 2 p j) := by
  refine congrArg x (funext fun a => Fin.ext ?_)
  match a with
  | ⟨0, _⟩ => exact (rfl : 2 + 1 * 0 = 2)
  | ⟨1, _⟩ => show 0 + 1 * p.val = p.val; omega
  | ⟨2, _⟩ => show 0 + 1 * j.val = j.val; omega

set_option backward.isDefEq.respectTransparency false in
/-- Part 3 of a block, read by itself. -/
theorem ld3 (x : Vec Ideal S4x256x1024 .bf16) (p : Fin 256) (j : Fin 1024) : View.ld x r0_3 (ix3 0 p j) = x (ix3 3 p j) := by
  refine congrArg x (funext fun a => Fin.ext ?_)
  match a with
  | ⟨0, _⟩ => exact (rfl : 3 + 1 * 0 = 3)
  | ⟨1, _⟩ => show 0 + 1 * p.val = p.val; omega
  | ⟨2, _⟩ => show 0 + 1 * j.val = j.val; omega

set_option backward.isDefEq.respectTransparency false in
/-- The stored gradient, from the loaded parts. -/
theorem pay_g (x0 x1 x2 x3 : Vec Ideal S1x256x1024 .bf16) (p : Fin 256) (j : Fin 1024) :
    k0_pay2 x0 x1 x2 x3 (ix2 p j) = x0 (ix3 0 p j) + x1 (ix3 0 p j) + x2 (ix3 0 p j) + x3 (ix3 0 p j) := by
  pointwise [k0_pay1, k0_pay2, k0_pay3, k0_pay4, k0_pay5, k0_pay6]

set_option backward.isDefEq.respectTransparency false in
/-- The stored gradient, from the blocks. -/
theorem out_g (x : Vec Ideal S4x256x1024 .bf16) (w m v : Vec Ideal S256x1024 .f32) (p : Fin 256) (j : Fin 1024) :
    out0_4 x w m v (ix2 p j) = ∑ k, x (ix3 k p j) := by
  unfold out0_4
  frame_out
  rw [pay_g, sum_four, ld0, ld1, ld2, ld3]

set_option backward.isDefEq.respectTransparency false in
/-- The stored change of the weight, from the loaded parts. -/
theorem pay_d (x0 x1 x2 x3 : Vec Ideal S1x256x1024 .bf16) (w m v : Vec Ideal S256x1024 .f32) (p : Fin 256) (j : Fin 1024) :
    k0_pay1 (k0_pay5 x0 x1 x2 x3 m) (k0_pay6 x0 x1 x2 x3 v) w (ix2 p j) = change (x0 (ix3 0 p j) + x1 (ix3 0 p j) + x2 (ix3 0 p j) + x3 (ix3 0 p j)) (w (ix2 p j)) (m (ix2 p j)) (v (ix2 p j)) := by
  unfold change mean1 mean2
  pointwise [k0_pay1, k0_pay2, k0_pay3, k0_pay4, k0_pay5, k0_pay6]

set_option backward.isDefEq.respectTransparency false in
/-- The stored change of the weight, from the blocks. -/
theorem out_d (x : Vec Ideal S4x256x1024 .bf16) (w m v : Vec Ideal S256x1024 .f32) (p : Fin 256) (j : Fin 1024) :
    out0_5 x w m v (ix2 p j) = change (∑ k, x (ix3 k p j)) (w (ix2 p j)) (m (ix2 p j)) (v (ix2 p j)) := by
  unfold out0_5
  frame_out
  rw [pay_d, sum_four, ld0, ld1, ld2, ld3]

set_option backward.isDefEq.respectTransparency false in
/-- The stored mean of the gradient, from the loaded parts. -/
theorem pay_m (x0 x1 x2 x3 : Vec Ideal S1x256x1024 .bf16) (m : Vec Ideal S256x1024 .f32) (p : Fin 256) (j : Fin 1024) :
    k0_pay3 x0 x1 x2 x3 m (ix2 p j) = mean1 (x0 (ix3 0 p j) + x1 (ix3 0 p j) + x2 (ix3 0 p j) + x3 (ix3 0 p j)) (m (ix2 p j)) := by
  unfold mean1
  pointwise [k0_pay1, k0_pay2, k0_pay3, k0_pay4, k0_pay5, k0_pay6]

set_option backward.isDefEq.respectTransparency false in
/-- The stored mean of the gradient, from the blocks. -/
theorem out_m (x : Vec Ideal S4x256x1024 .bf16) (w m v : Vec Ideal S256x1024 .f32) (p : Fin 256) (j : Fin 1024) :
    out0_6 x w m v (ix2 p j) = mean1 (∑ k, x (ix3 k p j)) (m (ix2 p j)) := by
  unfold out0_6
  frame_out
  rw [pay_m, sum_four, ld0, ld1, ld2, ld3]

set_option backward.isDefEq.respectTransparency false in
/-- The stored mean of the square, from the loaded parts. -/
theorem pay_v (x0 x1 x2 x3 : Vec Ideal S1x256x1024 .bf16) (v : Vec Ideal S256x1024 .f32) (p : Fin 256) (j : Fin 1024) :
    k0_pay4 x0 x1 x2 x3 v (ix2 p j) = mean2 (x0 (ix3 0 p j) + x1 (ix3 0 p j) + x2 (ix3 0 p j) + x3 (ix3 0 p j)) (v (ix2 p j)) := by
  unfold mean2
  pointwise [k0_pay1, k0_pay2, k0_pay3, k0_pay4, k0_pay5, k0_pay6]

set_option backward.isDefEq.respectTransparency false in
/-- The stored mean of the square, from the blocks. -/
theorem out_v (x : Vec Ideal S4x256x1024 .bf16) (w m v : Vec Ideal S256x1024 .f32) (p : Fin 256) (j : Fin 1024) :
    out0_7 x w m v (ix2 p j) = mean2 (∑ k, x (ix3 k p j)) (v (ix2 p j)) := by
  unfold out0_7
  frame_out
  rw [pay_v, sum_four, ld0, ld1, ld2, ld3]

variable (m : (ℓ : Loc nD τ sig) → Buf (Elt Ideal) ℓ)

/-! ## Blocks of rows: point `t` works on the block of rows `t` -/

/-- The blocks' positions at a grid point. -/
theorem idx : ∀ t : Fin cfg0.N, t.val < 1
    ∧ win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- Row `p` of block `t`. -/
def row (t : Fin cfg0.N) (p : Fin 256) : Fin 256 := ⟨t.val * 256 + p.val, by have := (idx t).1; omega⟩

set_option backward.isDefEq.respectTransparency false in
/-- The gradient: each of its four parts of a point's block is rows of the whole array's part. -/
theorem b0 (c : Dev nD) (t : Fin cfg0.N) (k : Fin 4) (p : Fin 256) (j : Fin 1024) :
    (iblk m c 0 t : Vec Ideal S4x256x1024 .bf16) (ix3 k p j) = (m ((c : Thread nD τ).loc main_arg0) : Vec Ideal S4x256x1024 .bf16) (ix3 k (row t p) j) := by
  unfold row
  blk_ext! [iblk, V, idx t]

set_option backward.isDefEq.respectTransparency false in
/-- The weight: row `p` of a point's block is the whole array's row. -/
theorem b1 (c : Dev nD) (t : Fin cfg0.N) (p : Fin 256) (j : Fin 1024) :
    (iblk m c 1 t : Vec Ideal S256x1024 .f32) (ix2 p j) = (m ((c : Thread nD τ).loc main_arg1) : Vec Ideal S256x1024 .f32) (ix2 (row t p) j) := by
  unfold row
  blk_ext! [iblk, V, idx t]

set_option backward.isDefEq.respectTransparency false in
/-- The mean of the gradient so far: row `p` of a point's block is the whole array's row. -/
theorem b2 (c : Dev nD) (t : Fin cfg0.N) (p : Fin 256) (j : Fin 1024) :
    (iblk m c 2 t : Vec Ideal S256x1024 .f32) (ix2 p j) = (m ((c : Thread nD τ).loc main_arg2) : Vec Ideal S256x1024 .f32) (ix2 (row t p) j) := by
  unfold row
  blk_ext! [iblk, V, idx t]

set_option backward.isDefEq.respectTransparency false in
/-- The mean of the square so far: row `p` of a point's block is the whole array's row. -/
theorem b3 (c : Dev nD) (t : Fin cfg0.N) (p : Fin 256) (j : Fin 1024) :
    (iblk m c 3 t : Vec Ideal S256x1024 .f32) (ix2 p j) = (m ((c : Thread nD τ).loc main_arg3) : Vec Ideal S256x1024 .f32) (ix2 (row t p) j) := by
  unfold row
  blk_ext! [iblk, V, idx t]

/-! ## The results from the program's arguments -/

/-- The gradient, from the arguments. -/
def G4 (x0 : Vec Ideal S4x256x1024 .bf16) : Vec Ideal S256x1024 .f32 := fun y => ∑ k, x0 (ix3 k (y 0) (y 1))

set_option backward.isDefEq.respectTransparency false in
/-- The array of the gradient after the run. -/
theorem final4 (c : Dev nD) : (dats m 0 c).arrAt 4 cfg0.N = G4 (m ((c : Thread nD τ).loc main_arg0)) := by
  refine Dat.arrAt_eq_of_covers (dats m 0 c) 4 (G4 (m ((c : Thread nD τ).loc main_arg0)))
    (by decide +kernel) fun t hf y => ?_
  blk_simp
  rw [after0_4]
  idx_vars y
  refine (out_g _ _ _ _ y0 y1).trans ?_
  simp only [b0]
  have e : (((View.whole main_v0_0).slice (win0_4.rect t)).emb (ix2 y0 y1) : S256x1024.Idx) = ix2 (row t y0) y1 := by
    unfold row
    blk_ext! [idx t]
  exact (congrArg (G4 _) e).symm

open Cert.Reference27Ideal.Read in
set_option backward.isDefEq.respectTransparency false in
/-- The gradient: the reference's is the kernel's. -/
theorem agree4 (x0 : Vec Ideal S4x256x1024 .bf16) : val_main_v1 (F := Ideal) x0 = G4 x0 := by
  funext i
  idx_vars i
  unfold G4
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The change of the weight, from the arguments. -/
def G5 (x0 : Vec Ideal S4x256x1024 .bf16) (x1 x2 x3 : Vec Ideal S256x1024 .f32) : Vec Ideal S256x1024 .f32 := fun y => change (∑ k, x0 (ix3 k (y 0) (y 1))) (x1 y) (x2 y) (x3 y)

set_option backward.isDefEq.respectTransparency false in
/-- The array of the change of the weight after the run. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) := by
  refine Dat.arrAt_eq_of_covers (dats m 0 c) 5 (G5 (m ((c : Thread nD τ).loc main_arg0)) (m ((c : Thread nD τ).loc main_arg1)) (m ((c : Thread nD τ).loc main_arg2)) (m ((c : Thread nD τ).loc main_arg3)))
    (by decide +kernel) fun t hf y => ?_
  blk_simp
  rw [after0_5]
  idx_vars y
  refine (out_d _ _ _ _ y0 y1).trans ?_
  simp only [b0, b1, b2, b3]
  have e : (((View.whole main_v0_1).slice (win0_5.rect t)).emb (ix2 y0 y1) : S256x1024.Idx) = ix2 (row t y0) y1 := by
    unfold row
    blk_ext! [idx t]
  exact (congrArg (G5 _ _ _ _) e).symm

open Cert.Reference27Ideal.Read in
set_option backward.isDefEq.respectTransparency false in
/-- The change of the weight: the reference's is the kernel's. -/
theorem agree5 (x0 : Vec Ideal S4x256x1024 .bf16) (x1 x2 x3 : Vec Ideal S256x1024 .f32) : val_main_v25 (F := Ideal) x0 x1 x2 x3 = G5 x0 x1 x2 x3 := by
  funext i
  idx_vars i
  unfold G5 change mean1 mean2
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The mean of the gradient, from the arguments. -/
def G6 (x0 : Vec Ideal S4x256x1024 .bf16) (x2 : Vec Ideal S256x1024 .f32) : Vec Ideal S256x1024 .f32 := fun y => mean1 (∑ k, x0 (ix3 k (y 0) (y 1))) (x2 y)

set_option backward.isDefEq.respectTransparency false in
/-- The array of the mean of the gradient after the run. -/
theorem final6 (c : Dev nD) : (dats m 0 c).arrAt 6 cfg0.N = G6 (m ((c : Thread nD τ).loc main_arg0)) (m ((c : Thread nD τ).loc main_arg2)) := by
  refine Dat.arrAt_eq_of_covers (dats m 0 c) 6 (G6 (m ((c : Thread nD τ).loc main_arg0)) (m ((c : Thread nD τ).loc main_arg2)))
    (by decide +kernel) fun t hf y => ?_
  blk_simp
  rw [after0_6]
  idx_vars y
  refine (out_m _ _ _ _ y0 y1).trans ?_
  simp only [b0, b2]
  have e : (((View.whole main_v0_2).slice (win0_6.rect t)).emb (ix2 y0 y1) : S256x1024.Idx) = ix2 (row t y0) y1 := by
    unfold row
    blk_ext! [idx t]
  exact (congrArg (G6 _ _) e).symm

open Cert.Reference27Ideal.Read in
set_option backward.isDefEq.respectTransparency false in
/-- The mean of the gradient: the reference's is the kernel's. -/
theorem agree6 (x0 : Vec Ideal S4x256x1024 .bf16) (x2 : Vec Ideal S256x1024 .f32) : val_main_v6 (F := Ideal) x0 x2 = G6 x0 x2 := by
  funext i
  idx_vars i
  unfold G6 mean1
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The mean of the square, from the arguments. -/
def G7 (x0 : Vec Ideal S4x256x1024 .bf16) (x3 : Vec Ideal S256x1024 .f32) : Vec Ideal S256x1024 .f32 := fun y => mean2 (∑ k, x0 (ix3 k (y 0) (y 1))) (x3 y)

set_option backward.isDefEq.respectTransparency false in
/-- The array of the mean of the square after the run. -/
theorem final7 (c : Dev nD) : (dats m 0 c).arrAt 7 cfg0.N = G7 (m ((c : Thread nD τ).loc main_arg0)) (m ((c : Thread nD τ).loc main_arg3)) := by
  refine Dat.arrAt_eq_of_covers (dats m 0 c) 7 (G7 (m ((c : Thread nD τ).loc main_arg0)) (m ((c : Thread nD τ).loc main_arg3)))
    (by decide +kernel) fun t hf y => ?_
  blk_simp
  rw [after0_7]
  idx_vars y
  refine (out_v _ _ _ _ y0 y1).trans ?_
  simp only [b0, b3]
  have e : (((View.whole main_v0_3).slice (win0_7.rect t)).emb (ix2 y0 y1) : S256x1024.Idx) = ix2 (row t y0) y1 := by
    unfold row
    blk_ext! [idx t]
  exact (congrArg (G7 _ _) e).symm

open Cert.Reference27Ideal.Read in
set_option backward.isDefEq.respectTransparency false in
/-- The mean of the square: the reference's is the kernel's. -/
theorem agree7 (x0 : Vec Ideal S4x256x1024 .bf16) (x3 : Vec Ideal S256x1024 .f32) : val_main_v12 (F := Ideal) x0 x3 = G7 x0 x3 := by
  funext i
  idx_vars i
  unfold G7 mean2
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The results agree with the reference's, at all arguments. -/
theorem claim : Cert.algebraic_Kernel27Ideal_Reference27Ideal := by
  intro m ρ m' ρ' _ hagree
  refine ⟨fun c => G4 _, fun c => G5 _ _ _ _, fun c => G6 _ _, fun c => G7 _ _,
    (θ_run defs _ _).mono (fun r h c => ⟨(h c).1.trans (final4 m c), (h c).2.1.trans (final5 m c), (h c).2.2.1.trans (final6 m c), (h c).2.2.2.1.trans (final7 m c), (h c).2.2.2.2⟩)
      (Value.run_blocks (F := Ideal) m ρ), ?_⟩
  refine (θ_run Cert.Reference27Ideal.defs _ _).mono (fun _ h c => ⟨(h c).1.trans ?_, (h c).2.1.trans ?_, (h c).2.2.1.trans ?_, (h c).2.2.2.1.trans ?_, (h c).2.2.2.2⟩)
    (Cert.Reference27Ideal.Value.run (F := Ideal) m' ρ')
  · obtain ⟨a0, a1, a2, a3⟩ := hagree c
    rw [a0]
    exact (Cert.Reference27Ideal.Read.val_main_v1_eq _).trans (agree4 _)
  · obtain ⟨a0, a1, a2, a3⟩ := hagree c
    rw [a0, a1, a2, a3]
    exact (Cert.Reference27Ideal.Read.val_main_v25_eq _ _ _ _).trans (agree5 _ _ _ _)
  · obtain ⟨a0, a1, a2, a3⟩ := hagree c
    rw [a0, a2]
    exact (Cert.Reference27Ideal.Read.val_main_v6_eq _ _).trans (agree6 _ _)
  · obtain ⟨a0, a1, a2, a3⟩ := hagree c
    rw [a0, a3]
    exact (Cert.Reference27Ideal.Read.val_main_v12_eq _ _).trans (agree7 _ _)

end Cert.Kernel27Ideal.AdamO

end
-- ==== Proof.AdamFfnIn.lean ====
/- The optimiser's step of the channel mixer's first weight: at every argument the kernel's results are the reference's. -/
module

public import proofs.«01_k».proof.Proof.Gen.Kernel28Ideal.Value
public import proofs.«01_k».proof.Proof.Gen.Reference28Ideal.Read
public import proofs.«01_k».proof.Proof.Adam
public import proofs.«01_k».proof.Defs
public import Idealize.ShloMosaic.Lib.Pipeline.ValueKit
public import Idealize.ShloMosaic.Lib.Claim

@[expose] public section

set_option maxRecDepth 16384

noncomputable section

namespace Cert.Kernel28Ideal.AdamFfnIn

open Cert.Kernel28Ideal Cert.Kernel28Ideal.Gen Cert.Adam Idealize.ShloMosaic Idealize.ShloMosaic.TcCoe
open Idealize.ShloMosaic.Pipeline (Dat)

/-! ## One point's stored values, from its blocks -/

set_option backward.isDefEq.respectTransparency false in
/-- Part 0 of a block, read by itself. -/
theorem ld0 (x : Vec Ideal S4x512x704 .bf16) (p : Fin 512) (j : Fin 704) : View.ld x r0_0 (ix3 0 p j) = x (ix3 0 p j) := by
  refine congrArg x (funext fun a => Fin.ext ?_)
  match a with
  | ⟨0, _⟩ => exact (rfl : 0 + 1 * 0 = 0)
  | ⟨1, _⟩ => show 0 + 1 * p.val = p.val; omega
  | ⟨2, _⟩ => show 0 + 1 * j.val = j.val; omega

set_option backward.isDefEq.respectTransparency false in
/-- Part 1 of a block, read by itself. -/
theorem ld1 (x : Vec Ideal S4x512x704 .bf16) (p : Fin 512) (j : Fin 704) : View.ld x r0_1 (ix3 0 p j) = x (ix3 1 p j) := by
  refine congrArg x (funext fun a => Fin.ext ?_)
  match a with
  | ⟨0, _⟩ => exact (rfl : 1 + 1 * 0 = 1)
  | ⟨1, _⟩ => show 0 + 1 * p.val = p.val; omega
  | ⟨2, _⟩ => show 0 + 1 * j.val = j.val; omega

set_option backward.isDefEq.respectTransparency false in
/-- Part 2 of a block, read by itself. -/
theorem ld2 (x : Vec Ideal S4x512x704 .bf16) (p : Fin 512) (j : Fin 704) : View.ld x r0_2 (ix3 0 p j) = x (ix3 2 p j) := by
  refine congrArg x (funext fun a => Fin.ext ?_)
  match a with
  | ⟨0, _⟩ => exact (rfl : 2 + 1 * 0 = 2)
  | ⟨1, _⟩ => show 0 + 1 * p.val = p.val; omega
  | ⟨2, _⟩ => show 0 + 1 * j.val = j.val; omega

set_option backward.isDefEq.respectTransparency false in
/-- Part 3 of a block, read by itself. -/
theorem ld3 (x : Vec Ideal S4x512x704 .bf16) (p : Fin 512) (j : Fin 704) : View.ld x r0_3 (ix3 0 p j) = x (ix3 3 p j) := by
  refine congrArg x (funext fun a => Fin.ext ?_)
  match a with
  | ⟨0, _⟩ => exact (rfl : 3 + 1 * 0 = 3)
  | ⟨1, _⟩ => show 0 + 1 * p.val = p.val; omega
  | ⟨2, _⟩ => show 0 + 1 * j.val = j.val; omega

set_option backward.isDefEq.respectTransparency false in
/-- The stored gradient, from the loaded parts. -/
theorem pay_g (x0 x1 x2 x3 : Vec Ideal S1x512x704 .bf16) (p : Fin 512) (j : Fin 704) :
    k0_pay2 x0 x1 x2 x3 (ix2 p j) = x0 (ix3 0 p j) + x1 (ix3 0 p j) + x2 (ix3 0 p j) + x3 (ix3 0 p j) := by
  pointwise [k0_pay1, k0_pay2, k0_pay3, k0_pay4, k0_pay5, k0_pay6]

set_option backward.isDefEq.respectTransparency false in
/-- The stored gradient, from the blocks. -/
theorem out_g (x : Vec Ideal S4x512x704 .bf16) (w m v : Vec Ideal S512x704 .f32) (p : Fin 512) (j : Fin 704) :
    out0_4 x w m v (ix2 p j) = ∑ k, x (ix3 k p j) := by
  unfold out0_4
  frame_out
  rw [pay_g, sum_four, ld0, ld1, ld2, ld3]

set_option backward.isDefEq.respectTransparency false in
/-- The stored change of the weight, from the loaded parts. -/
theorem pay_d (x0 x1 x2 x3 : Vec Ideal S1x512x704 .bf16) (w m v : Vec Ideal S512x704 .f32) (p : Fin 512) (j : Fin 704) :
    k0_pay1 (k0_pay5 x0 x1 x2 x3 m) (k0_pay6 x0 x1 x2 x3 v) w (ix2 p j) = change (x0 (ix3 0 p j) + x1 (ix3 0 p j) + x2 (ix3 0 p j) + x3 (ix3 0 p j)) (w (ix2 p j)) (m (ix2 p j)) (v (ix2 p j)) := by
  unfold change mean1 mean2
  pointwise [k0_pay1, k0_pay2, k0_pay3, k0_pay4, k0_pay5, k0_pay6]

set_option backward.isDefEq.respectTransparency false in
/-- The stored change of the weight, from the blocks. -/
theorem out_d (x : Vec Ideal S4x512x704 .bf16) (w m v : Vec Ideal S512x704 .f32) (p : Fin 512) (j : Fin 704) :
    out0_5 x w m v (ix2 p j) = change (∑ k, x (ix3 k p j)) (w (ix2 p j)) (m (ix2 p j)) (v (ix2 p j)) := by
  unfold out0_5
  frame_out
  rw [pay_d, sum_four, ld0, ld1, ld2, ld3]

set_option backward.isDefEq.respectTransparency false in
/-- The stored mean of the gradient, from the loaded parts. -/
theorem pay_m (x0 x1 x2 x3 : Vec Ideal S1x512x704 .bf16) (m : Vec Ideal S512x704 .f32) (p : Fin 512) (j : Fin 704) :
    k0_pay3 x0 x1 x2 x3 m (ix2 p j) = mean1 (x0 (ix3 0 p j) + x1 (ix3 0 p j) + x2 (ix3 0 p j) + x3 (ix3 0 p j)) (m (ix2 p j)) := by
  unfold mean1
  pointwise [k0_pay1, k0_pay2, k0_pay3, k0_pay4, k0_pay5, k0_pay6]

set_option backward.isDefEq.respectTransparency false in
/-- The stored mean of the gradient, from the blocks. -/
theorem out_m (x : Vec Ideal S4x512x704 .bf16) (w m v : Vec Ideal S512x704 .f32) (p : Fin 512) (j : Fin 704) :
    out0_6 x w m v (ix2 p j) = mean1 (∑ k, x (ix3 k p j)) (m (ix2 p j)) := by
  unfold out0_6
  frame_out
  rw [pay_m, sum_four, ld0, ld1, ld2, ld3]

set_option backward.isDefEq.respectTransparency false in
/-- The stored mean of the square, from the loaded parts. -/
theorem pay_v (x0 x1 x2 x3 : Vec Ideal S1x512x704 .bf16) (v : Vec Ideal S512x704 .f32) (p : Fin 512) (j : Fin 704) :
    k0_pay4 x0 x1 x2 x3 v (ix2 p j) = mean2 (x0 (ix3 0 p j) + x1 (ix3 0 p j) + x2 (ix3 0 p j) + x3 (ix3 0 p j)) (v (ix2 p j)) := by
  unfold mean2
  pointwise [k0_pay1, k0_pay2, k0_pay3, k0_pay4, k0_pay5, k0_pay6]

set_option backward.isDefEq.respectTransparency false in
/-- The stored mean of the square, from the blocks. -/
theorem out_v (x : Vec Ideal S4x512x704 .bf16) (w m v : Vec Ideal S512x704 .f32) (p : Fin 512) (j : Fin 704) :
    out0_7 x w m v (ix2 p j) = mean2 (∑ k, x (ix3 k p j)) (v (ix2 p j)) := by
  unfold out0_7
  frame_out
  rw [pay_v, sum_four, ld0, ld1, ld2, ld3]

variable (m : (ℓ : Loc nD τ sig) → Buf (Elt Ideal) ℓ)

/-! ## Blocks of rows: point `t` works on the block of rows `t` -/

/-- The blocks' positions at a grid point. -/
theorem idx : ∀ t : Fin cfg0.N, t.val < 4
    ∧ win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- Row `p` of block `t`. -/
def row (t : Fin cfg0.N) (p : Fin 512) : Fin 2048 := ⟨t.val * 512 + p.val, by have := (idx t).1; omega⟩

set_option backward.isDefEq.respectTransparency false in
/-- The gradient: each of its four parts of a point's block is rows of the whole array's part. -/
theorem b0 (c : Dev nD) (t : Fin cfg0.N) (k : Fin 4) (p : Fin 512) (j : Fin 704) :
    (iblk m c 0 t : Vec Ideal S4x512x704 .bf16) (ix3 k p j) = (m ((c : Thread nD τ).loc main_arg0) : Vec Ideal S4x2048x704 .bf16) (ix3 k (row t p) j) := by
  unfold row
  blk_ext! [iblk, V, idx t]

set_option backward.isDefEq.respectTransparency false in
/-- The weight: row `p` of a point's block is the whole array's row. -/
theorem b1 (c : Dev nD) (t : Fin cfg0.N) (p : Fin 512) (j : Fin 704) :
    (iblk m c 1 t : Vec Ideal S512x704 .f32) (ix2 p j) = (m ((c : Thread nD τ).loc main_arg1) : Vec Ideal S2048x704 .f32) (ix2 (row t p) j) := by
  unfold row
  blk_ext! [iblk, V, idx t]

set_option backward.isDefEq.respectTransparency false in
/-- The mean of the gradient so far: row `p` of a point's block is the whole array's row. -/
theorem b2 (c : Dev nD) (t : Fin cfg0.N) (p : Fin 512) (j : Fin 704) :
    (iblk m c 2 t : Vec Ideal S512x704 .f32) (ix2 p j) = (m ((c : Thread nD τ).loc main_arg2) : Vec Ideal S2048x704 .f32) (ix2 (row t p) j) := by
  unfold row
  blk_ext! [iblk, V, idx t]

set_option backward.isDefEq.respectTransparency false in
/-- The mean of the square so far: row `p` of a point's block is the whole array's row. -/
theorem b3 (c : Dev nD) (t : Fin cfg0.N) (p : Fin 512) (j : Fin 704) :
    (iblk m c 3 t : Vec Ideal S512x704 .f32) (ix2 p j) = (m ((c : Thread nD τ).loc main_arg3) : Vec Ideal S2048x704 .f32) (ix2 (row t p) j) := by
  unfold row
  blk_ext! [iblk, V, idx t]

/-! ## The results from the program's arguments -/

/-- The gradient, from the arguments. -/
def G4 (x0 : Vec Ideal S4x2048x704 .bf16) : Vec Ideal S2048x704 .f32 := fun y => ∑ k, x0 (ix3 k (y 0) (y 1))

set_option backward.isDefEq.respectTransparency false in
/-- The array of the gradient after the run. -/
theorem final4 (c : Dev nD) : (dats m 0 c).arrAt 4 cfg0.N = G4 (m ((c : Thread nD τ).loc main_arg0)) := by
  refine Dat.arrAt_eq_of_covers (dats m 0 c) 4 (G4 (m ((c : Thread nD τ).loc main_arg0)))
    (by decide +kernel) fun t hf y => ?_
  blk_simp
  rw [after0_4]
  idx_vars y
  refine (out_g _ _ _ _ y0 y1).trans ?_
  simp only [b0]
  have e : (((View.whole main_v0_0).slice (win0_4.rect t)).emb (ix2 y0 y1) : S2048x704.Idx) = ix2 (row t y0) y1 := by
    unfold row
    blk_ext! [idx t]
  exact (congrArg (G4 _) e).symm

open Cert.Reference28Ideal.Read in
set_option backward.isDefEq.respectTransparency false in
/-- The gradient: the reference's is the kernel's. -/
theorem agree4 (x0 : Vec Ideal S4x2048x704 .bf16) : val_main_v1 (F := Ideal) x0 = G4 x0 := by
  funext i
  idx_vars i
  unfold G4
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The change of the weight, from the arguments. -/
def G5 (x0 : Vec Ideal S4x2048x704 .bf16) (x1 x2 x3 : Vec Ideal S2048x704 .f32) : Vec Ideal S2048x704 .f32 := fun y => change (∑ k, x0 (ix3 k (y 0) (y 1))) (x1 y) (x2 y) (x3 y)

set_option backward.isDefEq.respectTransparency false in
/-- The array of the change of the weight after the run. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) := by
  refine Dat.arrAt_eq_of_covers (dats m 0 c) 5 (G5 (m ((c : Thread nD τ).loc main_arg0)) (m ((c : Thread nD τ).loc main_arg1)) (m ((c : Thread nD τ).loc main_arg2)) (m ((c : Thread nD τ).loc main_arg3)))
    (by decide +kernel) fun t hf y => ?_
  blk_simp
  rw [after0_5]
  idx_vars y
  refine (out_d _ _ _ _ y0 y1).trans ?_
  simp only [b0, b1, b2, b3]
  have e : (((View.whole main_v0_1).slice (win0_5.rect t)).emb (ix2 y0 y1) : S2048x704.Idx) = ix2 (row t y0) y1 := by
    unfold row
    blk_ext! [idx t]
  exact (congrArg (G5 _ _ _ _) e).symm

open Cert.Reference28Ideal.Read in
set_option backward.isDefEq.respectTransparency false in
/-- The change of the weight: the reference's is the kernel's. -/
theorem agree5 (x0 : Vec Ideal S4x2048x704 .bf16) (x1 x2 x3 : Vec Ideal S2048x704 .f32) : val_main_v25 (F := Ideal) x0 x1 x2 x3 = G5 x0 x1 x2 x3 := by
  funext i
  idx_vars i
  unfold G5 change mean1 mean2
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The mean of the gradient, from the arguments. -/
def G6 (x0 : Vec Ideal S4x2048x704 .bf16) (x2 : Vec Ideal S2048x704 .f32) : Vec Ideal S2048x704 .f32 := fun y => mean1 (∑ k, x0 (ix3 k (y 0) (y 1))) (x2 y)

set_option backward.isDefEq.respectTransparency false in
/-- The array of the mean of the gradient after the run. -/
theorem final6 (c : Dev nD) : (dats m 0 c).arrAt 6 cfg0.N = G6 (m ((c : Thread nD τ).loc main_arg0)) (m ((c : Thread nD τ).loc main_arg2)) := by
  refine Dat.arrAt_eq_of_covers (dats m 0 c) 6 (G6 (m ((c : Thread nD τ).loc main_arg0)) (m ((c : Thread nD τ).loc main_arg2)))
    (by decide +kernel) fun t hf y => ?_
  blk_simp
  rw [after0_6]
  idx_vars y
  refine (out_m _ _ _ _ y0 y1).trans ?_
  simp only [b0, b2]
  have e : (((View.whole main_v0_2).slice (win0_6.rect t)).emb (ix2 y0 y1) : S2048x704.Idx) = ix2 (row t y0) y1 := by
    unfold row
    blk_ext! [idx t]
  exact (congrArg (G6 _ _) e).symm

open Cert.Reference28Ideal.Read in
set_option backward.isDefEq.respectTransparency false in
/-- The mean of the gradient: the reference's is the kernel's. -/
theorem agree6 (x0 : Vec Ideal S4x2048x704 .bf16) (x2 : Vec Ideal S2048x704 .f32) : val_main_v6 (F := Ideal) x0 x2 = G6 x0 x2 := by
  funext i
  idx_vars i
  unfold G6 mean1
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The mean of the square, from the arguments. -/
def G7 (x0 : Vec Ideal S4x2048x704 .bf16) (x3 : Vec Ideal S2048x704 .f32) : Vec Ideal S2048x704 .f32 := fun y => mean2 (∑ k, x0 (ix3 k (y 0) (y 1))) (x3 y)

set_option backward.isDefEq.respectTransparency false in
/-- The array of the mean of the square after the run. -/
theorem final7 (c : Dev nD) : (dats m 0 c).arrAt 7 cfg0.N = G7 (m ((c : Thread nD τ).loc main_arg0)) (m ((c : Thread nD τ).loc main_arg3)) := by
  refine Dat.arrAt_eq_of_covers (dats m 0 c) 7 (G7 (m ((c : Thread nD τ).loc main_arg0)) (m ((c : Thread nD τ).loc main_arg3)))
    (by decide +kernel) fun t hf y => ?_
  blk_simp
  rw [after0_7]
  idx_vars y
  refine (out_v _ _ _ _ y0 y1).trans ?_
  simp only [b0, b3]
  have e : (((View.whole main_v0_3).slice (win0_7.rect t)).emb (ix2 y0 y1) : S2048x704.Idx) = ix2 (row t y0) y1 := by
    unfold row
    blk_ext! [idx t]
  exact (congrArg (G7 _ _) e).symm

open Cert.Reference28Ideal.Read in
set_option backward.isDefEq.respectTransparency false in
/-- The mean of the square: the reference's is the kernel's. -/
theorem agree7 (x0 : Vec Ideal S4x2048x704 .bf16) (x3 : Vec Ideal S2048x704 .f32) : val_main_v12 (F := Ideal) x0 x3 = G7 x0 x3 := by
  funext i
  idx_vars i
  unfold G7 mean2
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The results agree with the reference's, at all arguments. -/
theorem claim : Cert.algebraic_Kernel28Ideal_Reference28Ideal := by
  intro m ρ m' ρ' _ hagree
  refine ⟨fun c => G4 _, fun c => G5 _ _ _ _, fun c => G6 _ _, fun c => G7 _ _,
    (θ_run defs _ _).mono (fun r h c => ⟨(h c).1.trans (final4 m c), (h c).2.1.trans (final5 m c), (h c).2.2.1.trans (final6 m c), (h c).2.2.2.1.trans (final7 m c), (h c).2.2.2.2⟩)
      (Value.run_blocks (F := Ideal) m ρ), ?_⟩
  refine (θ_run Cert.Reference28Ideal.defs _ _).mono (fun _ h c => ⟨(h c).1.trans ?_, (h c).2.1.trans ?_, (h c).2.2.1.trans ?_, (h c).2.2.2.1.trans ?_, (h c).2.2.2.2⟩)
    (Cert.Reference28Ideal.Value.run (F := Ideal) m' ρ')
  · obtain ⟨a0, a1, a2, a3⟩ := hagree c
    rw [a0]
    exact (Cert.Reference28Ideal.Read.val_main_v1_eq _).trans (agree4 _)
  · obtain ⟨a0, a1, a2, a3⟩ := hagree c
    rw [a0, a1, a2, a3]
    exact (Cert.Reference28Ideal.Read.val_main_v25_eq _ _ _ _).trans (agree5 _ _ _ _)
  · obtain ⟨a0, a1, a2, a3⟩ := hagree c
    rw [a0, a2]
    exact (Cert.Reference28Ideal.Read.val_main_v6_eq _ _).trans (agree6 _ _)
  · obtain ⟨a0, a1, a2, a3⟩ := hagree c
    rw [a0, a3]
    exact (Cert.Reference28Ideal.Read.val_main_v12_eq _ _).trans (agree7 _ _)

end Cert.Kernel28Ideal.AdamFfnIn

end
-- ==== Proof.AdamFfnOut.lean ====
/- The optimiser's step of the channel mixer's second weight: at every argument the kernel's results are the reference's. -/
module

public import proofs.«01_k».proof.Proof.Gen.Kernel29Ideal.Value
public import proofs.«01_k».proof.Proof.Gen.Reference29Ideal.Read
public import proofs.«01_k».proof.Proof.Adam
public import proofs.«01_k».proof.Defs
public import Idealize.ShloMosaic.Lib.Pipeline.ValueKit
public import Idealize.ShloMosaic.Lib.Claim

@[expose] public section

set_option maxRecDepth 16384

noncomputable section

namespace Cert.Kernel29Ideal.AdamFfnOut

open Cert.Kernel29Ideal Cert.Kernel29Ideal.Gen Cert.Adam Idealize.ShloMosaic Idealize.ShloMosaic.TcCoe
open Idealize.ShloMosaic.Pipeline (Dat)

/-! ## One point's stored values, from its blocks -/

set_option backward.isDefEq.respectTransparency false in
/-- Part 0 of a block, read by itself. -/
theorem ld0 (x : Vec Ideal S4x352x1024 .bf16) (p : Fin 352) (j : Fin 1024) : View.ld x r0_0 (ix3 0 p j) = x (ix3 0 p j) := by
  refine congrArg x (funext fun a => Fin.ext ?_)
  match a with
  | ⟨0, _⟩ => exact (rfl : 0 + 1 * 0 = 0)
  | ⟨1, _⟩ => show 0 + 1 * p.val = p.val; omega
  | ⟨2, _⟩ => show 0 + 1 * j.val = j.val; omega

set_option backward.isDefEq.respectTransparency false in
/-- Part 1 of a block, read by itself. -/
theorem ld1 (x : Vec Ideal S4x352x1024 .bf16) (p : Fin 352) (j : Fin 1024) : View.ld x r0_1 (ix3 0 p j) = x (ix3 1 p j) := by
  refine congrArg x (funext fun a => Fin.ext ?_)
  match a with
  | ⟨0, _⟩ => exact (rfl : 1 + 1 * 0 = 1)
  | ⟨1, _⟩ => show 0 + 1 * p.val = p.val; omega
  | ⟨2, _⟩ => show 0 + 1 * j.val = j.val; omega

set_option backward.isDefEq.respectTransparency false in
/-- Part 2 of a block, read by itself. -/
theorem ld2 (x : Vec Ideal S4x352x1024 .bf16) (p : Fin 352) (j : Fin 1024) : View.ld x r0_2 (ix3 0 p j) = x (ix3 2 p j) := by
  refine congrArg x (funext fun a => Fin.ext ?_)
  match a with
  | ⟨0, _⟩ => exact (rfl : 2 + 1 * 0 = 2)
  | ⟨1, _⟩ => show 0 + 1 * p.val = p.val; omega
  | ⟨2, _⟩ => show 0 + 1 * j.val = j.val; omega

set_option backward.isDefEq.respectTransparency false in
/-- Part 3 of a block, read by itself. -/
theorem ld3 (x : Vec Ideal S4x352x1024 .bf16) (p : Fin 352) (j : Fin 1024) : View.ld x r0_3 (ix3 0 p j) = x (ix3 3 p j) := by
  refine congrArg x (funext fun a => Fin.ext ?_)
  match a with
  | ⟨0, _⟩ => exact (rfl : 3 + 1 * 0 = 3)
  | ⟨1, _⟩ => show 0 + 1 * p.val = p.val; omega
  | ⟨2, _⟩ => show 0 + 1 * j.val = j.val; omega

set_option backward.isDefEq.respectTransparency false in
/-- The stored gradient, from the loaded parts. -/
theorem pay_g (x0 x1 x2 x3 : Vec Ideal S1x352x1024 .bf16) (p : Fin 352) (j : Fin 1024) :
    k0_pay2 x0 x1 x2 x3 (ix2 p j) = x0 (ix3 0 p j) + x1 (ix3 0 p j) + x2 (ix3 0 p j) + x3 (ix3 0 p j) := by
  pointwise [k0_pay1, k0_pay2, k0_pay3, k0_pay4, k0_pay5, k0_pay6]

set_option backward.isDefEq.respectTransparency false in
/-- The stored gradient, from the blocks. -/
theorem out_g (x : Vec Ideal S4x352x1024 .bf16) (w m v : Vec Ideal S352x1024 .f32) (p : Fin 352) (j : Fin 1024) :
    out0_4 x w m v (ix2 p j) = ∑ k, x (ix3 k p j) := by
  unfold out0_4
  frame_out
  rw [pay_g, sum_four, ld0, ld1, ld2, ld3]

set_option backward.isDefEq.respectTransparency false in
/-- The stored change of the weight, from the loaded parts. -/
theorem pay_d (x0 x1 x2 x3 : Vec Ideal S1x352x1024 .bf16) (w m v : Vec Ideal S352x1024 .f32) (p : Fin 352) (j : Fin 1024) :
    k0_pay1 (k0_pay5 x0 x1 x2 x3 m) (k0_pay6 x0 x1 x2 x3 v) w (ix2 p j) = change (x0 (ix3 0 p j) + x1 (ix3 0 p j) + x2 (ix3 0 p j) + x3 (ix3 0 p j)) (w (ix2 p j)) (m (ix2 p j)) (v (ix2 p j)) := by
  unfold change mean1 mean2
  pointwise [k0_pay1, k0_pay2, k0_pay3, k0_pay4, k0_pay5, k0_pay6]

set_option backward.isDefEq.respectTransparency false in
/-- The stored change of the weight, from the blocks. -/
theorem out_d (x : Vec Ideal S4x352x1024 .bf16) (w m v : Vec Ideal S352x1024 .f32) (p : Fin 352) (j : Fin 1024) :
    out0_5 x w m v (ix2 p j) = change (∑ k, x (ix3 k p j)) (w (ix2 p j)) (m (ix2 p j)) (v (ix2 p j)) := by
  unfold out0_5
  frame_out
  rw [pay_d, sum_four, ld0, ld1, ld2, ld3]

set_option backward.isDefEq.respectTransparency false in
/-- The stored mean of the gradient, from the loaded parts. -/
theorem pay_m (x0 x1 x2 x3 : Vec Ideal S1x352x1024 .bf16) (m : Vec Ideal S352x1024 .f32) (p : Fin 352) (j : Fin 1024) :
    k0_pay3 x0 x1 x2 x3 m (ix2 p j) = mean1 (x0 (ix3 0 p j) + x1 (ix3 0 p j) + x2 (ix3 0 p j) + x3 (ix3 0 p j)) (m (ix2 p j)) := by
  unfold mean1
  pointwise [k0_pay1, k0_pay2, k0_pay3, k0_pay4, k0_pay5, k0_pay6]

set_option backward.isDefEq.respectTransparency false in
/-- The stored mean of the gradient, from the blocks. -/
theorem out_m (x : Vec Ideal S4x352x1024 .bf16) (w m v : Vec Ideal S352x1024 .f32) (p : Fin 352) (j : Fin 1024) :
    out0_6 x w m v (ix2 p j) = mean1 (∑ k, x (ix3 k p j)) (m (ix2 p j)) := by
  unfold out0_6
  frame_out
  rw [pay_m, sum_four, ld0, ld1, ld2, ld3]

set_option backward.isDefEq.respectTransparency false in
/-- The stored mean of the square, from the loaded parts. -/
theorem pay_v (x0 x1 x2 x3 : Vec Ideal S1x352x1024 .bf16) (v : Vec Ideal S352x1024 .f32) (p : Fin 352) (j : Fin 1024) :
    k0_pay4 x0 x1 x2 x3 v (ix2 p j) = mean2 (x0 (ix3 0 p j) + x1 (ix3 0 p j) + x2 (ix3 0 p j) + x3 (ix3 0 p j)) (v (ix2 p j)) := by
  unfold mean2
  pointwise [k0_pay1, k0_pay2, k0_pay3, k0_pay4, k0_pay5, k0_pay6]

set_option backward.isDefEq.respectTransparency false in
/-- The stored mean of the square, from the blocks. -/
theorem out_v (x : Vec Ideal S4x352x1024 .bf16) (w m v : Vec Ideal S352x1024 .f32) (p : Fin 352) (j : Fin 1024) :
    out0_7 x w m v (ix2 p j) = mean2 (∑ k, x (ix3 k p j)) (v (ix2 p j)) := by
  unfold out0_7
  frame_out
  rw [pay_v, sum_four, ld0, ld1, ld2, ld3]

variable (m : (ℓ : Loc nD τ sig) → Buf (Elt Ideal) ℓ)

/-! ## Blocks of rows: point `t` works on the block of rows `t` -/

/-- The blocks' positions at a grid point. -/
theorem idx : ∀ t : Fin cfg0.N, t.val < 2
    ∧ win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- Row `p` of block `t`. -/
def row (t : Fin cfg0.N) (p : Fin 352) : Fin 704 := ⟨t.val * 352 + p.val, by have := (idx t).1; omega⟩

set_option backward.isDefEq.respectTransparency false in
/-- The gradient: each of its four parts of a point's block is rows of the whole array's part. -/
theorem b0 (c : Dev nD) (t : Fin cfg0.N) (k : Fin 4) (p : Fin 352) (j : Fin 1024) :
    (iblk m c 0 t : Vec Ideal S4x352x1024 .bf16) (ix3 k p j) = (m ((c : Thread nD τ).loc main_arg0) : Vec Ideal S4x704x1024 .bf16) (ix3 k (row t p) j) := by
  unfold row
  blk_ext! [iblk, V, idx t]

set_option backward.isDefEq.respectTransparency false in
/-- The weight: row `p` of a point's block is the whole array's row. -/
theorem b1 (c : Dev nD) (t : Fin cfg0.N) (p : Fin 352) (j : Fin 1024) :
    (iblk m c 1 t : Vec Ideal S352x1024 .f32) (ix2 p j) = (m ((c : Thread nD τ).loc main_arg1) : Vec Ideal S704x1024 .f32) (ix2 (row t p) j) := by
  unfold row
  blk_ext! [iblk, V, idx t]

set_option backward.isDefEq.respectTransparency false in
/-- The mean of the gradient so far: row `p` of a point's block is the whole array's row. -/
theorem b2 (c : Dev nD) (t : Fin cfg0.N) (p : Fin 352) (j : Fin 1024) :
    (iblk m c 2 t : Vec Ideal S352x1024 .f32) (ix2 p j) = (m ((c : Thread nD τ).loc main_arg2) : Vec Ideal S704x1024 .f32) (ix2 (row t p) j) := by
  unfold row
  blk_ext! [iblk, V, idx t]

set_option backward.isDefEq.respectTransparency false in
/-- The mean of the square so far: row `p` of a point's block is the whole array's row. -/
theorem b3 (c : Dev nD) (t : Fin cfg0.N) (p : Fin 352) (j : Fin 1024) :
    (iblk m c 3 t : Vec Ideal S352x1024 .f32) (ix2 p j) = (m ((c : Thread nD τ).loc main_arg3) : Vec Ideal S704x1024 .f32) (ix2 (row t p) j) := by
  unfold row
  blk_ext! [iblk, V, idx t]

/-! ## The results from the program's arguments -/

/-- The gradient, from the arguments. -/
def G4 (x0 : Vec Ideal S4x704x1024 .bf16) : Vec Ideal S704x1024 .f32 := fun y => ∑ k, x0 (ix3 k (y 0) (y 1))

set_option backward.isDefEq.respectTransparency false in
/-- The array of the gradient after the run. -/
theorem final4 (c : Dev nD) : (dats m 0 c).arrAt 4 cfg0.N = G4 (m ((c : Thread nD τ).loc main_arg0)) := by
  refine Dat.arrAt_eq_of_covers (dats m 0 c) 4 (G4 (m ((c : Thread nD τ).loc main_arg0)))
    (by decide +kernel) fun t hf y => ?_
  blk_simp
  rw [after0_4]
  idx_vars y
  refine (out_g _ _ _ _ y0 y1).trans ?_
  simp only [b0]
  have e : (((View.whole main_v0_0).slice (win0_4.rect t)).emb (ix2 y0 y1) : S704x1024.Idx) = ix2 (row t y0) y1 := by
    unfold row
    blk_ext! [idx t]
  exact (congrArg (G4 _) e).symm

open Cert.Reference29Ideal.Read in
set_option backward.isDefEq.respectTransparency false in
/-- The gradient: the reference's is the kernel's. -/
theorem agree4 (x0 : Vec Ideal S4x704x1024 .bf16) : val_main_v1 (F := Ideal) x0 = G4 x0 := by
  funext i
  idx_vars i
  unfold G4
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The change of the weight, from the arguments. -/
def G5 (x0 : Vec Ideal S4x704x1024 .bf16) (x1 x2 x3 : Vec Ideal S704x1024 .f32) : Vec Ideal S704x1024 .f32 := fun y => change (∑ k, x0 (ix3 k (y 0) (y 1))) (x1 y) (x2 y) (x3 y)

set_option backward.isDefEq.respectTransparency false in
/-- The array of the change of the weight after the run. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) := by
  refine Dat.arrAt_eq_of_covers (dats m 0 c) 5 (G5 (m ((c : Thread nD τ).loc main_arg0)) (m ((c : Thread nD τ).loc main_arg1)) (m ((c : Thread nD τ).loc main_arg2)) (m ((c : Thread nD τ).loc main_arg3)))
    (by decide +kernel) fun t hf y => ?_
  blk_simp
  rw [after0_5]
  idx_vars y
  refine (out_d _ _ _ _ y0 y1).trans ?_
  simp only [b0, b1, b2, b3]
  have e : (((View.whole main_v0_1).slice (win0_5.rect t)).emb (ix2 y0 y1) : S704x1024.Idx) = ix2 (row t y0) y1 := by
    unfold row
    blk_ext! [idx t]
  exact (congrArg (G5 _ _ _ _) e).symm

open Cert.Reference29Ideal.Read in
set_option backward.isDefEq.respectTransparency false in
/-- The change of the weight: the reference's is the kernel's. -/
theorem agree5 (x0 : Vec Ideal S4x704x1024 .bf16) (x1 x2 x3 : Vec Ideal S704x1024 .f32) : val_main_v25 (F := Ideal) x0 x1 x2 x3 = G5 x0 x1 x2 x3 := by
  funext i
  idx_vars i
  unfold G5 change mean1 mean2
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The mean of the gradient, from the arguments. -/
def G6 (x0 : Vec Ideal S4x704x1024 .bf16) (x2 : Vec Ideal S704x1024 .f32) : Vec Ideal S704x1024 .f32 := fun y => mean1 (∑ k, x0 (ix3 k (y 0) (y 1))) (x2 y)

set_option backward.isDefEq.respectTransparency false in
/-- The array of the mean of the gradient after the run. -/
theorem final6 (c : Dev nD) : (dats m 0 c).arrAt 6 cfg0.N = G6 (m ((c : Thread nD τ).loc main_arg0)) (m ((c : Thread nD τ).loc main_arg2)) := by
  refine Dat.arrAt_eq_of_covers (dats m 0 c) 6 (G6 (m ((c : Thread nD τ).loc main_arg0)) (m ((c : Thread nD τ).loc main_arg2)))
    (by decide +kernel) fun t hf y => ?_
  blk_simp
  rw [after0_6]
  idx_vars y
  refine (out_m _ _ _ _ y0 y1).trans ?_
  simp only [b0, b2]
  have e : (((View.whole main_v0_2).slice (win0_6.rect t)).emb (ix2 y0 y1) : S704x1024.Idx) = ix2 (row t y0) y1 := by
    unfold row
    blk_ext! [idx t]
  exact (congrArg (G6 _ _) e).symm

open Cert.Reference29Ideal.Read in
set_option backward.isDefEq.respectTransparency false in
/-- The mean of the gradient: the reference's is the kernel's. -/
theorem agree6 (x0 : Vec Ideal S4x704x1024 .bf16) (x2 : Vec Ideal S704x1024 .f32) : val_main_v6 (F := Ideal) x0 x2 = G6 x0 x2 := by
  funext i
  idx_vars i
  unfold G6 mean1
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The mean of the square, from the arguments. -/
def G7 (x0 : Vec Ideal S4x704x1024 .bf16) (x3 : Vec Ideal S704x1024 .f32) : Vec Ideal S704x1024 .f32 := fun y => mean2 (∑ k, x0 (ix3 k (y 0) (y 1))) (x3 y)

set_option backward.isDefEq.respectTransparency false in
/-- The array of the mean of the square after the run. -/
theorem final7 (c : Dev nD) : (dats m 0 c).arrAt 7 cfg0.N = G7 (m ((c : Thread nD τ).loc main_arg0)) (m ((c : Thread nD τ).loc main_arg3)) := by
  refine Dat.arrAt_eq_of_covers (dats m 0 c) 7 (G7 (m ((c : Thread nD τ).loc main_arg0)) (m ((c : Thread nD τ).loc main_arg3)))
    (by decide +kernel) fun t hf y => ?_
  blk_simp
  rw [after0_7]
  idx_vars y
  refine (out_v _ _ _ _ y0 y1).trans ?_
  simp only [b0, b3]
  have e : (((View.whole main_v0_3).slice (win0_7.rect t)).emb (ix2 y0 y1) : S704x1024.Idx) = ix2 (row t y0) y1 := by
    unfold row
    blk_ext! [idx t]
  exact (congrArg (G7 _ _) e).symm

open Cert.Reference29Ideal.Read in
set_option backward.isDefEq.respectTransparency false in
/-- The mean of the square: the reference's is the kernel's. -/
theorem agree7 (x0 : Vec Ideal S4x704x1024 .bf16) (x3 : Vec Ideal S704x1024 .f32) : val_main_v12 (F := Ideal) x0 x3 = G7 x0 x3 := by
  funext i
  idx_vars i
  unfold G7 mean2
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The results agree with the reference's, at all arguments. -/
theorem claim : Cert.algebraic_Kernel29Ideal_Reference29Ideal := by
  intro m ρ m' ρ' _ hagree
  refine ⟨fun c => G4 _, fun c => G5 _ _ _ _, fun c => G6 _ _, fun c => G7 _ _,
    (θ_run defs _ _).mono (fun r h c => ⟨(h c).1.trans (final4 m c), (h c).2.1.trans (final5 m c), (h c).2.2.1.trans (final6 m c), (h c).2.2.2.1.trans (final7 m c), (h c).2.2.2.2⟩)
      (Value.run_blocks (F := Ideal) m ρ), ?_⟩
  refine (θ_run Cert.Reference29Ideal.defs _ _).mono (fun _ h c => ⟨(h c).1.trans ?_, (h c).2.1.trans ?_, (h c).2.2.1.trans ?_, (h c).2.2.2.1.trans ?_, (h c).2.2.2.2⟩)
    (Cert.Reference29Ideal.Value.run (F := Ideal) m' ρ')
  · obtain ⟨a0, a1, a2, a3⟩ := hagree c
    rw [a0]
    exact (Cert.Reference29Ideal.Read.val_main_v1_eq _).trans (agree4 _)
  · obtain ⟨a0, a1, a2, a3⟩ := hagree c
    rw [a0, a1, a2, a3]
    exact (Cert.Reference29Ideal.Read.val_main_v25_eq _ _ _ _).trans (agree5 _ _ _ _)
  · obtain ⟨a0, a1, a2, a3⟩ := hagree c
    rw [a0, a2]
    exact (Cert.Reference29Ideal.Read.val_main_v6_eq _ _).trans (agree6 _ _)
  · obtain ⟨a0, a1, a2, a3⟩ := hagree c
    rw [a0, a3]
    exact (Cert.Reference29Ideal.Read.val_main_v12_eq _ _).trans (agree7 _ _)

end Cert.Kernel29Ideal.AdamFfnOut

end
-- ==== Proof.Silu.lean ====
/- The function `x / (1 + exp (-x))` on extended reals. -/
module

public import proofs.«01_k».proof.Proof.Reals

@[expose] public section

noncomputable section

namespace Cert.Silu

open Idealize.ShloMosaic

/-- A number times its logistic. -/
def silu (x : EReal) : EReal := x * Ideal.div 1 (1 + Ideal.exp (-x))

/-- The same with the negation written as a difference from zero. -/
theorem silu_sub (x : EReal) : x * Ideal.div 1 (1 + Ideal.exp (0 - x)) = silu x := by
  rw [zero_sub]
  rfl

end Cert.Silu

end
-- ==== Proof.ShortConv.lean ====
/- The two short convolutions and the attention's arguments, one block of rows at a time: at every argument the kernel's three results are the reference's. -/
module

public import proofs.«01_k».proof.Proof.Gen.Kernel30Ideal.Value
public import proofs.«01_k».proof.Proof.Gen.Reference30Ideal.Read
public import proofs.«01_k».proof.Proof.Silu
public import proofs.«01_k».proof.Defs
public import Idealize.ShloMosaic.Lib.KernelVsHost
public import Idealize.ShloMosaic.Lib.Pipeline.ValueKit
public import Idealize.ShloMosaic.Lib.Claim

@[expose] public section

set_option maxRecDepth 16384

noncomputable section

namespace Cert.Kernel30Ideal.ShortConv

open Cert.Kernel30Ideal Cert.Kernel30Ideal.Gen Cert.Silu Idealize.ShloMosaic Idealize.ShloMosaic.TcCoe
open Idealize.ShloMosaic.Pipeline (Dat)

/-! ## Rows moved down inside a block -/

/-- A block whose rows are moved down by `s`, the rows before it coming from the eight rows before the block. -/
def moved {n : Nat} (s : Nat) (hs : s < 8) (prev : Vec Ideal (⟨2, ![8, n]⟩ : Shape) .f32) (v : Vec Ideal (⟨2, ![512, n]⟩ : Shape) .f32) :
    Vec Ideal (⟨2, ![512, n]⟩ : Shape) .f32 :=
  fun y => if h : (y 0).val < s then prev (ix2 ⟨8 - s + (y 0).val, by omega⟩ (y 1)) else v (ix2 ⟨(y 0).val - s, lt_of_le_of_lt (Nat.sub_le _ _) (y 0).isLt⟩ (y 1))

/-- Which of the first eight rows come from the rows before the block. -/
theorem first_rows : ∀ (s : Fin 4) (p : Fin 8), IntOp.cmpi .slt (BitVec.ofNat 32 p.val) (BitVec.ofNat 32 s.val) = (if p.val < s.val then 1#1 else 0#1) := by
  decide +kernel

set_option backward.isDefEq.respectTransparency false in
/-- The kernel's form of moving the rows of 256 columns down by one. -/
theorem moved256_1 (prev : Vec Ideal S8x256 .f32) (v : Vec Ideal S512x256 .f32) :
    concatenate S512x256 0 [⟨S8x256, select (cmpi .slt (iota .tc S8x256 32 [0] iota_S8x256_d0_w32) (broadcast S8x256 1#32))
      (dynamicRotate 0 1#32 none prev rotates_S8x256_d0) (extractStridedSlice S8x256 ![0, 0] (dynamicRotate 0 1#32 none v rotates_S512x256_d0) slices_S512x256_o0_0_S8x256)⟩,
      ⟨S504x256, extractStridedSlice S504x256 ![8, 0] (dynamicRotate 0 1#32 none v rotates_S512x256_d0) slices_S512x256_o8_0_S504x256⟩] concatenates_S8x256_S504x256_S512x256_d0
      = moved 1 (by decide) prev v := by
  funext y
  unfold moved
  pointwise []
  have hy : (y 0).val < 512 := (y 0).isLt
  by_cases h8 : (y 0).val < 8
  · rw [dif_pos h8]
    have e := first_rows 1 ⟨(y 0).val, h8⟩
    unfold Scalar.select
    by_cases h : (y 0).val < 1
    · rw [dif_pos h]
      refine (if_pos (e.trans (if_pos h))).trans ?_
      exact congrArg prev (congrArg (fun a => ix2 a (y 1)) (Fin.ext (by show ((y 0).val + 8 - 1) % 8 = 7 + (y 0).val; omega)))
    · rw [dif_neg h]
      refine (if_neg fun e1 => absurd ((e.trans (if_neg h)).symm.trans e1) (by decide)).trans ?_
      exact congrArg v (congrArg (fun a => ix2 a (y 1)) (Fin.ext (by show ((y 0).val + 512 - 1) % 512 = (y 0).val - 1; omega)))
  · rw [dif_neg h8, dif_neg (show ¬ (y 0).val < 1 by omega)]
    exact congrArg v (congrArg (fun a => ix2 a (y 1)) (Fin.ext (by show (8 + ((y 0).val - 8) + 512 - 1) % 512 = (y 0).val - 1; omega)))

set_option backward.isDefEq.respectTransparency false in
/-- The kernel's form of moving the rows of 256 columns down by two. -/
theorem moved256_2 (prev : Vec Ideal S8x256 .f32) (v : Vec Ideal S512x256 .f32) :
    concatenate S512x256 0 [⟨S8x256, select (cmpi .slt (iota .tc S8x256 32 [0] iota_S8x256_d0_w32) (broadcast S8x256 2#32))
      (dynamicRotate 0 2#32 none prev rotates_S8x256_d0) (extractStridedSlice S8x256 ![0, 0] (dynamicRotate 0 2#32 none v rotates_S512x256_d0) slices_S512x256_o0_0_S8x256)⟩,
      ⟨S504x256, extractStridedSlice S504x256 ![8, 0] (dynamicRotate 0 2#32 none v rotates_S512x256_d0) slices_S512x256_o8_0_S504x256⟩] concatenates_S8x256_S504x256_S512x256_d0
      = moved 2 (by decide) prev v := by
  funext y
  unfold moved
  pointwise []
  have hy : (y 0).val < 512 := (y 0).isLt
  by_cases h8 : (y 0).val < 8
  · rw [dif_pos h8]
    have e := first_rows 2 ⟨(y 0).val, h8⟩
    unfold Scalar.select
    by_cases h : (y 0).val < 2
    · rw [dif_pos h]
      refine (if_pos (e.trans (if_pos h))).trans ?_
      exact congrArg prev (congrArg (fun a => ix2 a (y 1)) (Fin.ext (by show ((y 0).val + 8 - 2) % 8 = 6 + (y 0).val; omega)))
    · rw [dif_neg h]
      refine (if_neg fun e1 => absurd ((e.trans (if_neg h)).symm.trans e1) (by decide)).trans ?_
      exact congrArg v (congrArg (fun a => ix2 a (y 1)) (Fin.ext (by show ((y 0).val + 512 - 2) % 512 = (y 0).val - 2; omega)))
  · rw [dif_neg h8, dif_neg (show ¬ (y 0).val < 2 by omega)]
    exact congrArg v (congrArg (fun a => ix2 a (y 1)) (Fin.ext (by show (8 + ((y 0).val - 8) + 512 - 2) % 512 = (y 0).val - 2; omega)))

set_option backward.isDefEq.respectTransparency false in
/-- The kernel's form of moving the rows of 768 columns down by one. -/
theorem moved768_1 (prev : Vec Ideal S8x768 .f32) (v : Vec Ideal S512x768 .f32) :
    concatenate S512x768 0 [⟨S8x768, select (cmpi .slt (iota .tc S8x768 32 [0] iota_S8x768_d0_w32) (broadcast S8x768 1#32))
      (dynamicRotate 0 1#32 none prev rotates_S8x768_d0) (extractStridedSlice S8x768 ![0, 0] (dynamicRotate 0 1#32 none v rotates_S512x768_d0) slices_S512x768_o0_0_S8x768)⟩,
      ⟨S504x768, extractStridedSlice S504x768 ![8, 0] (dynamicRotate 0 1#32 none v rotates_S512x768_d0) slices_S512x768_o8_0_S504x768⟩] concatenates_S8x768_S504x768_S512x768_d0
      = moved 1 (by decide) prev v := by
  funext y
  unfold moved
  pointwise []
  have hy : (y 0).val < 512 := (y 0).isLt
  by_cases h8 : (y 0).val < 8
  · rw [dif_pos h8]
    have e := first_rows 1 ⟨(y 0).val, h8⟩
    unfold Scalar.select
    by_cases h : (y 0).val < 1
    · rw [dif_pos h]
      refine (if_pos (e.trans (if_pos h))).trans ?_
      exact congrArg prev (congrArg (fun a => ix2 a (y 1)) (Fin.ext (by show ((y 0).val + 8 - 1) % 8 = 7 + (y 0).val; omega)))
    · rw [dif_neg h]
      refine (if_neg fun e1 => absurd ((e.trans (if_neg h)).symm.trans e1) (by decide)).trans ?_
      exact congrArg v (congrArg (fun a => ix2 a (y 1)) (Fin.ext (by show ((y 0).val + 512 - 1) % 512 = (y 0).val - 1; omega)))
  · rw [dif_neg h8, dif_neg (show ¬ (y 0).val < 1 by omega)]
    exact congrArg v (congrArg (fun a => ix2 a (y 1)) (Fin.ext (by show (8 + ((y 0).val - 8) + 512 - 1) % 512 = (y 0).val - 1; omega)))

set_option backward.isDefEq.respectTransparency false in
/-- The kernel's form of moving the rows of 768 columns down by two. -/
theorem moved768_2 (prev : Vec Ideal S8x768 .f32) (v : Vec Ideal S512x768 .f32) :
    concatenate S512x768 0 [⟨S8x768, select (cmpi .slt (iota .tc S8x768 32 [0] iota_S8x768_d0_w32) (broadcast S8x768 2#32))
      (dynamicRotate 0 2#32 none prev rotates_S8x768_d0) (extractStridedSlice S8x768 ![0, 0] (dynamicRotate 0 2#32 none v rotates_S512x768_d0) slices_S512x768_o0_0_S8x768)⟩,
      ⟨S504x768, extractStridedSlice S504x768 ![8, 0] (dynamicRotate 0 2#32 none v rotates_S512x768_d0) slices_S512x768_o8_0_S504x768⟩] concatenates_S8x768_S504x768_S512x768_d0
      = moved 2 (by decide) prev v := by
  funext y
  unfold moved
  pointwise []
  have hy : (y 0).val < 512 := (y 0).isLt
  by_cases h8 : (y 0).val < 8
  · rw [dif_pos h8]
    have e := first_rows 2 ⟨(y 0).val, h8⟩
    unfold Scalar.select
    by_cases h : (y 0).val < 2
    · rw [dif_pos h]
      refine (if_pos (e.trans (if_pos h))).trans ?_
      exact congrArg prev (congrArg (fun a => ix2 a (y 1)) (Fin.ext (by show ((y 0).val + 8 - 2) % 8 = 6 + (y 0).val; omega)))
    · rw [dif_neg h]
      refine (if_neg fun e1 => absurd ((e.trans (if_neg h)).symm.trans e1) (by decide)).trans ?_
      exact congrArg v (congrArg (fun a => ix2 a (y 1)) (Fin.ext (by show ((y 0).val + 512 - 2) % 512 = (y 0).val - 2; omega)))
  · rw [dif_neg h8, dif_neg (show ¬ (y 0).val < 2 by omega)]
    exact congrArg v (congrArg (fun a => ix2 a (y 1)) (Fin.ext (by show (8 + ((y 0).val - 8) + 512 - 2) % 512 = (y 0).val - 2; omega)))

set_option backward.isDefEq.respectTransparency false in
/-- The kernel's form of moving the rows of 768 columns down by three. -/
theorem moved768_3 (prev : Vec Ideal S8x768 .f32) (v : Vec Ideal S512x768 .f32) :
    concatenate S512x768 0 [⟨S8x768, select (cmpi .slt (iota .tc S8x768 32 [0] iota_S8x768_d0_w32) (broadcast S8x768 3#32))
      (dynamicRotate 0 3#32 none prev rotates_S8x768_d0) (extractStridedSlice S8x768 ![0, 0] (dynamicRotate 0 3#32 none v rotates_S512x768_d0) slices_S512x768_o0_0_S8x768)⟩,
      ⟨S504x768, extractStridedSlice S504x768 ![8, 0] (dynamicRotate 0 3#32 none v rotates_S512x768_d0) slices_S512x768_o8_0_S504x768⟩] concatenates_S8x768_S504x768_S512x768_d0
      = moved 3 (by decide) prev v := by
  funext y
  unfold moved
  pointwise []
  have hy : (y 0).val < 512 := (y 0).isLt
  by_cases h8 : (y 0).val < 8
  · rw [dif_pos h8]
    have e := first_rows 3 ⟨(y 0).val, h8⟩
    unfold Scalar.select
    by_cases h : (y 0).val < 3
    · rw [dif_pos h]
      refine (if_pos (e.trans (if_pos h))).trans ?_
      exact congrArg prev (congrArg (fun a => ix2 a (y 1)) (Fin.ext (by show ((y 0).val + 8 - 3) % 8 = 5 + (y 0).val; omega)))
    · rw [dif_neg h]
      refine (if_neg fun e1 => absurd ((e.trans (if_neg h)).symm.trans e1) (by decide)).trans ?_
      exact congrArg v (congrArg (fun a => ix2 a (y 1)) (Fin.ext (by show ((y 0).val + 512 - 3) % 512 = (y 0).val - 3; omega)))
  · rw [dif_neg h8, dif_neg (show ¬ (y 0).val < 3 by omega)]
    exact congrArg v (congrArg (fun a => ix2 a (y 1)) (Fin.ext (by show (8 + ((y 0).val - 8) + 512 - 3) % 512 = (y 0).val - 3; omega)))

/-! ## One point's stored values, from its blocks -/

/-- The products of the two column groups in the eight rows before a block, each row times `z`. -/
def gated (z : EReal) (pv : Vec Ideal S8x768 .bf16) : Vec Ideal S8x256 .f32 := fun q =>
  (pv (ix2 (n0 := 8) (n1 := 768) (q 0) ⟨256 + (q 1).val, by have h : (q 1).val < 256 := (q 1).isLt; omega⟩) * z) * (pv (ix2 (n0 := 8) (n1 := 768) (q 0) ⟨512 + (q 1).val, by have h : (q 1).val < 256 := (q 1).isLt; omega⟩) * z)

set_option backward.isDefEq.respectTransparency false in
/-- The first mixer's rows, from the blocks and three taps. -/
theorem pay_y (i : grid0.Coords) (x : Vec Ideal S512x768 .bf16) (pv : Vec Ideal S8x768 .bf16) (w0 w1 w2 : Vec Ideal S1x256 .f32) (p : Fin 512) (j : Fin 256) :
    k0_pay6 (k0_pay3 x) (k0_pay4 x) (k0_pay5 i x pv w0 w1) w2 (ix2 p j) =
      x (ix2 p ⟨j.val, by omega⟩) * ((w0 (ix2 0 j) * moved 2 (by decide) (gated (k0_pay1 (F := Ideal) i) pv) (k0_pay3 x) (ix2 p j)
        + w1 (ix2 0 j) * moved 1 (by decide) (gated (k0_pay1 (F := Ideal) i) pv) (k0_pay3 x) (ix2 p j))
        + w2 (ix2 0 j) * (x (ix2 p ⟨256 + j.val, by omega⟩) * x (ix2 p ⟨512 + j.val, by omega⟩))) := by
  dsimp only [k0_pay5]
  rw [moved256_2, moved256_1]
  have e : (mulf (extractStridedSlice S8x256 ![0, 256] (mulf (extf .f32 pv bitsLt_bf16_f32) (broadcast S8x768 (k0_pay1 (F := Ideal) i))) slices_S8x768_o0_256_S8x256)
      (extractStridedSlice S8x256 ![0, 512] (mulf (extf .f32 pv bitsLt_bf16_f32) (broadcast S8x768 (k0_pay1 (F := Ideal) i))) slices_S8x768_o0_512_S8x256) : FVec Ideal S8x256 .f32) = gated (k0_pay1 (F := Ideal) i) pv := by
    funext q
    unfold gated
    generalize k0_pay1 (F := Ideal) i = z
    pointwise []
  rw [e]
  generalize moved 2 _ _ _ = M2
  generalize moved 1 _ _ _ = M1
  pointwise [k0_pay2, k0_pay3, k0_pay4, k0_pay6]

/-- The eight rows before a block, each times `z`. -/
def masked (z : EReal) (pv : Vec Ideal S8x768 .bf16) : Vec Ideal S8x768 .f32 := fun q => pv q * z

set_option backward.isDefEq.respectTransparency false in
/-- The activations' rows, from the blocks, four taps and the bias. -/
theorem pay_act (z : EReal) (x : Vec Ideal S512x768 .bf16) (pv : Vec Ideal S8x768 .bf16) (w0 w1 w2 w3 b : Vec Ideal S1x768 .f32) (p : Fin 512) (j : Fin 768) :
    k0_pay12 (k0_pay9 x) (k0_pay10 z pv) (k0_pay11 z x pv w0) w1 w2 w3 b (ix2 p j) =
      silu ((((w0 (ix2 0 j) * moved 3 (by decide) (masked z pv) (k0_pay9 x) (ix2 p j)
        + w1 (ix2 0 j) * moved 2 (by decide) (masked z pv) (k0_pay9 x) (ix2 p j))
        + w2 (ix2 0 j) * moved 1 (by decide) (masked z pv) (k0_pay9 x) (ix2 p j))
        + w3 (ix2 0 j) * x (ix2 p j)) + b (ix2 0 j)) := by
  dsimp only [k0_pay11, k0_pay12]
  rw [moved768_3, moved768_2, moved768_1]
  have e : (k0_pay10 z pv : FVec Ideal S8x768 .f32) = (masked z pv) := by
    funext q
    unfold masked
    pointwise [k0_pay10]
  rw [e]
  generalize moved 3 _ _ _ = M3
  generalize moved 2 _ _ _ = M2
  generalize moved 1 _ _ _ = M1
  rw [← silu_sub]
  pointwise [k0_pay9]

set_option backward.isDefEq.respectTransparency false in
/-- Whether a point is not the first, as a number. -/
theorem later (i : grid0.Coords) : k0_pay1 (F := Ideal) i = if (i 0).val = 0 then (0 : EReal) else 1 := by
  have h : ∀ t : Fin 32, (Scalar.extui (Scalar.cmpi .sgt (BitVec.ofNat 32 t.val) 0#32) : BitVec 32) = (if t.val = 0 then 0#32 else 1#32) := by decide +kernel
  unfold k0_pay1
  dsimp only
  rw [h (i 0)]
  split
  · show (((0#32).toInt : ℝ) : EReal) = 0
    simp
  · show (((1#32).toInt : ℝ) : EReal) = 1
    simp

/-! ## Rows of the whole array -/

/-- Row `p` of block `b`. -/
def row (b : Fin 32) (p : Fin 512) : Fin 16384 := ⟨b.val * 512 + p.val, by omega⟩

/-- A column's entry `s` rows before row `r`, zero before the first row. -/
def before (f : Fin 16384 → EReal) (s : Nat) (r : Fin 16384) : EReal := if s ≤ r.val then f ⟨r.val - s, by omega⟩ else 0

/-- A block moved down by `s` rows holds the whole array's entries `s` rows before. -/
theorem moved_before {n : Nat} (s : Nat) (hs : s < 8) (f : Fin n → Fin 16384 → EReal) (b : Fin 32)
    (prev : Vec Ideal (⟨2, ![8, n]⟩ : Shape) .f32) (v : Vec Ideal (⟨2, ![512, n]⟩ : Shape) .f32)
    (h0 : b.val = 0 → ∀ q j, prev (ix2 q j) = 0) (h1 : b.val ≠ 0 → ∀ (q : Fin 8) j, prev (ix2 q j) = f j ⟨b.val * 512 - 8 + q.val, by omega⟩)
    (hv : ∀ p j, v (ix2 p j) = f j (row b p)) (p : Fin 512) (j : Fin n) :
    moved s hs prev v (ix2 p j) = before (f j) s (row b p) := by
  unfold moved before
  rw [show (ix2 p j : (⟨2, ![512, n]⟩ : Shape).Idx) 1 = j from rfl]
  by_cases hp : p.val < s
  · refine (dif_pos (show ((ix2 p j : (⟨2, ![512, n]⟩ : Shape).Idx) 0).val < s from hp)).trans ?_
    by_cases hb : b.val = 0
    · rw [h0 hb, if_neg (by show ¬ s ≤ b.val * 512 + p.val; omega)]
    · rw [h1 hb, if_pos (by show s ≤ b.val * 512 + p.val; omega)]
      exact congrArg (f j) (Fin.ext (by show b.val * 512 - 8 + (8 - s + p.val) = b.val * 512 + p.val - s; omega))
  · refine (dif_neg (show ¬ ((ix2 p j : (⟨2, ![512, n]⟩ : Shape).Idx) 0).val < s from hp)).trans ?_
    rw [hv, if_pos (by show s ≤ b.val * 512 + p.val; omega)]
    exact congrArg (f j) (Fin.ext (by show b.val * 512 + (p.val - s) = b.val * 512 + p.val - s; omega))

variable (m : (ℓ : Loc nD τ sig) → Buf (Elt Ideal) ℓ)

/-- The blocks' positions at a grid point. -/
theorem idx : ∀ t : Fin cfg0.N, t.val < 32
    ∧ (grid0.coords t 0).val = t.val
    ∧ win0_0.index t = ![t.val, 4]
    ∧ win0_1.index t = ![t.val * 32 - 1, 4]
    ∧ win0_2.index t = ![t.val, 5]
    ∧ win0_3.index t = ![t.val, 6]
    ∧ win0_4.index t = ![t.val * 32 - 1, 6]
    ∧ win0_5.index t = ![0, 0]
    ∧ win0_6.index t = ![0, 0]
    ∧ win0_7.index t = ![0, 0]
    ∧ win0_8.index t = ![t.val, 0]
    ∧ win0_9.index t = ![t.val, 0]
    ∧ win0_10.index t = ![t.val, 0] :=
  (by decide +kernel : ∀ t : Fin grid0.N, _)

set_option backward.isDefEq.respectTransparency false in
/-- The taps of the first convolution as the call finds them. -/
theorem V0 (c : Dev nD) : V m c main_v0 = pad S8x256 ![0, 0] ![5, 0] ![0, 0] (m ((c : Thread nD τ).loc main_arg1)) (sitofp (F := Ideal) .f32 (constantI S_ 32 0#32)) pads_S3x256_S8x256_050_000 h_S_ := by
  show StableHlo.after (List.flatten [hostOps0, hostOps0_1, hostOps0_2, hostOps0_3, hostOps0_4]) _ _ = _
  simp only [List.flatten_cons, List.flatten_nil, List.append_nil, List.cons_append, List.nil_append]
  after_results_simp
  rfl

set_option backward.isDefEq.respectTransparency false in
/-- The taps of the second convolution as the call finds them. -/
theorem V1 (c : Dev nD) : V m c main_v1 = pad S8x768 ![0, 0] ![4, 0] ![0, 0] (m ((c : Thread nD τ).loc main_arg2)) (sitofp (F := Ideal) .f32 (constantI S_ 32 0#32)) pads_S4x768_S8x768_040_000 h_S_ := by
  show StableHlo.after (List.flatten [hostOps0, hostOps0_1, hostOps0_2, hostOps0_3, hostOps0_4]) _ _ = _
  simp only [List.flatten_cons, List.flatten_nil, List.append_nil, List.cons_append, List.nil_append]
  after_results_simp
  rfl

set_option backward.isDefEq.respectTransparency false in
/-- The bias as the call finds it. -/
theorem V2 (c : Dev nD) : V m c main_v2 = shapeCast S1x768 (m ((c : Thread nD τ).loc main_arg3)) shapeCasts_S768_S1x768 := by
  show StableHlo.after (List.flatten [hostOps0, hostOps0_1, hostOps0_2, hostOps0_3, hostOps0_4]) _ _ = _
  simp only [List.flatten_cons, List.flatten_nil, List.append_nil, List.cons_append, List.nil_append]
  after_results_simp
  rfl

/-- Whether a point is not the first, as a number. -/
theorem point (t : Fin cfg0.N) : k0_pay1 (F := Ideal) (grid0.coords t) = if t.val = 0 then (0 : EReal) else 1 := by
  refine (later _).trans ?_
  rw [(idx t).2.1]

/-! ## Loads of some rows of a block -/

set_option backward.isDefEq.respectTransparency false in
/-- The last eight rows of sixteen. -/
theorem last8 (x : Vec Ideal S16x768 .bf16) (q : Fin 8) (j : Fin 768) :
    View.ld x (Rect.unit ![8, 0] ![8, 768] inb_S16x768_S8x768_8_0) (ix2 q j) = x (ix2 ⟨8 + q.val, by omega⟩ j) := by
  refine View.ld_unit_apply_of x _ _ _ _ _ fun a => match a with
    | ⟨0, _⟩ => rfl
    | ⟨1, _⟩ => (Nat.zero_add _).symm

set_option backward.isDefEq.respectTransparency false in
/-- Row 0 of eight rows of 256. -/
theorem row256_0 (x : Vec Ideal S8x256 .f32) (j : Fin 256) :
    View.ld x (Rect.unit ![0, 0] ![1, 256] inb_S8x256_S1x256_0_0) (ix2 0 j) = x (ix2 0 j) := by
  refine View.ld_unit_apply_of x _ _ _ _ _ fun a => match a with
    | ⟨0, _⟩ => rfl
    | ⟨1, _⟩ => (Nat.zero_add _).symm

set_option backward.isDefEq.respectTransparency false in
/-- Row 1 of eight rows of 256. -/
theorem row256_1 (x : Vec Ideal S8x256 .f32) (j : Fin 256) :
    View.ld x (Rect.unit ![1, 0] ![1, 256] inb_S8x256_S1x256_1_0) (ix2 0 j) = x (ix2 1 j) := by
  refine View.ld_unit_apply_of x _ _ _ _ _ fun a => match a with
    | ⟨0, _⟩ => rfl
    | ⟨1, _⟩ => (Nat.zero_add _).symm

set_option backward.isDefEq.respectTransparency false in
/-- Row 2 of eight rows of 256. -/
theorem row256_2 (x : Vec Ideal S8x256 .f32) (j : Fin 256) :
    View.ld x (Rect.unit ![2, 0] ![1, 256] inb_S8x256_S1x256_2_0) (ix2 0 j) = x (ix2 2 j) := by
  refine View.ld_unit_apply_of x _ _ _ _ _ fun a => match a with
    | ⟨0, _⟩ => rfl
    | ⟨1, _⟩ => (Nat.zero_add _).symm

set_option backward.isDefEq.respectTransparency false in
/-- Row 0 of eight rows of 768. -/
theorem row768_0 (x : Vec Ideal S8x768 .f32) (j : Fin 768) :
    View.ld x (Rect.unit ![0, 0] ![1, 768] inb_S8x768_S1x768_0_0) (ix2 0 j) = x (ix2 0 j) := by
  refine View.ld_unit_apply_of x _ _ _ _ _ fun a => match a with
    | ⟨0, _⟩ => rfl
    | ⟨1, _⟩ => (Nat.zero_add _).symm

set_option backward.isDefEq.respectTransparency false in
/-- Row 1 of eight rows of 768. -/
theorem row768_1 (x : Vec Ideal S8x768 .f32) (j : Fin 768) :
    View.ld x (Rect.unit ![1, 0] ![1, 768] inb_S8x768_S1x768_1_0) (ix2 0 j) = x (ix2 1 j) := by
  refine View.ld_unit_apply_of x _ _ _ _ _ fun a => match a with
    | ⟨0, _⟩ => rfl
    | ⟨1, _⟩ => (Nat.zero_add _).symm

set_option backward.isDefEq.respectTransparency false in
/-- Row 2 of eight rows of 768. -/
theorem row768_2 (x : Vec Ideal S8x768 .f32) (j : Fin 768) :
    View.ld x (Rect.unit ![2, 0] ![1, 768] inb_S8x768_S1x768_2_0) (ix2 0 j) = x (ix2 2 j) := by
  refine View.ld_unit_apply_of x _ _ _ _ _ fun a => match a with
    | ⟨0, _⟩ => rfl
    | ⟨1, _⟩ => (Nat.zero_add _).symm

set_option backward.isDefEq.respectTransparency false in
/-- Row 3 of eight rows of 768. -/
theorem row768_3 (x : Vec Ideal S8x768 .f32) (j : Fin 768) :
    View.ld x (Rect.unit ![3, 0] ![1, 768] inb_S8x768_S1x768_3_0) (ix2 0 j) = x (ix2 3 j) := by
  refine View.ld_unit_apply_of x _ _ _ _ _ fun a => match a with
    | ⟨0, _⟩ => rfl
    | ⟨1, _⟩ => (Nat.zero_add _).symm

/-! ## The blocks -/

set_option backward.isDefEq.respectTransparency false in
/-- The first mixer's columns: row `p` of a point's block is the whole array's row. -/
theorem b0 (c : Dev nD) (t : Fin cfg0.N) (p : Fin 512) (j : Fin 768) :
    (iblk m c 0 t : Vec Ideal S512x768 .bf16) (ix2 p j) = (m ((c : Thread nD τ).loc main_arg0) : Vec Ideal S16384x6144 .bf16) (ix2 (row ⟨t.val, (idx t).1⟩ p) ⟨3072 + j.val, by omega⟩) := by
  unfold row
  blk_ext! [iblk, V, idx t]

set_option backward.isDefEq.respectTransparency false in
/-- The attention's columns: row `p` of a point's block is the whole array's row. -/
theorem b2 (c : Dev nD) (t : Fin cfg0.N) (p : Fin 512) (j : Fin 768) :
    (iblk m c 2 t : Vec Ideal S512x768 .bf16) (ix2 p j) = (m ((c : Thread nD τ).loc main_arg0) : Vec Ideal S16384x6144 .bf16) (ix2 (row ⟨t.val, (idx t).1⟩ p) ⟨3840 + j.val, by omega⟩) := by
  unfold row
  blk_ext! [iblk, V, idx t]

set_option backward.isDefEq.respectTransparency false in
/-- The state-space columns: row `p` of a point's block is the whole array's row. -/
theorem b3 (c : Dev nD) (t : Fin cfg0.N) (p : Fin 512) (j : Fin 768) :
    (iblk m c 3 t : Vec Ideal S512x768 .bf16) (ix2 p j) = (m ((c : Thread nD τ).loc main_arg0) : Vec Ideal S16384x6144 .bf16) (ix2 (row ⟨t.val, (idx t).1⟩ p) ⟨4608 + j.val, by omega⟩) := by
  unfold row
  blk_ext! [iblk, V, idx t]

set_option backward.isDefEq.respectTransparency false in
/-- The first mixer's columns in the eight rows before a later point's block. -/
theorem b1 (c : Dev nD) (t : Fin cfg0.N) (h : t.val ≠ 0) (q : Fin 8) (j : Fin 768) :
    View.ld (iblk m c 1 t : Vec Ideal S16x768 .bf16) (Rect.unit ![8, 0] ![8, 768] inb_S16x768_S8x768_8_0) (ix2 q j)
      = (m ((c : Thread nD τ).loc main_arg0) : Vec Ideal S16384x6144 .bf16) (ix2 ⟨t.val * 512 - 8 + q.val, by have := (idx t).1; omega⟩ ⟨3072 + j.val, by omega⟩) := by
  refine (last8 (iblk m c 1 t : Vec Ideal S16x768 .bf16) q j).trans ?_
  have e : (iblk m c 1 t : Vec Ideal S16x768 .bf16) (ix2 ⟨8 + q.val, by omega⟩ j) = (m ((c : Thread nD τ).loc main_arg0) : Vec Ideal S16384x6144 .bf16) (ix2 ⟨(t.val * 32 - 1) * 16 + (8 + q.val), by have := (idx t).1; omega⟩ ⟨3072 + j.val, by omega⟩) := by
    blk_ext! [iblk, V, idx t]
  exact e.trans (congrArg (fun a => (m ((c : Thread nD τ).loc main_arg0) : Vec Ideal S16384x6144 .bf16) (ix2 a ⟨3072 + j.val, by omega⟩)) (Fin.ext (by show (t.val * 32 - 1) * 16 + (8 + q.val) = t.val * 512 - 8 + q.val; omega)))

set_option backward.isDefEq.respectTransparency false in
/-- The state-space columns in the eight rows before a later point's block. -/
theorem b4 (c : Dev nD) (t : Fin cfg0.N) (h : t.val ≠ 0) (q : Fin 8) (j : Fin 768) :
    View.ld (iblk m c 4 t : Vec Ideal S16x768 .bf16) (Rect.unit ![8, 0] ![8, 768] inb_S16x768_S8x768_8_0) (ix2 q j)
      = (m ((c : Thread nD τ).loc main_arg0) : Vec Ideal S16384x6144 .bf16) (ix2 ⟨t.val * 512 - 8 + q.val, by have := (idx t).1; omega⟩ ⟨4608 + j.val, by omega⟩) := by
  refine (last8 (iblk m c 4 t : Vec Ideal S16x768 .bf16) q j).trans ?_
  have e : (iblk m c 4 t : Vec Ideal S16x768 .bf16) (ix2 ⟨8 + q.val, by omega⟩ j) = (m ((c : Thread nD τ).loc main_arg0) : Vec Ideal S16384x6144 .bf16) (ix2 ⟨(t.val * 32 - 1) * 16 + (8 + q.val), by have := (idx t).1; omega⟩ ⟨4608 + j.val, by omega⟩) := by
    blk_ext! [iblk, V, idx t]
  exact e.trans (congrArg (fun a => (m ((c : Thread nD τ).loc main_arg0) : Vec Ideal S16384x6144 .bf16) (ix2 a ⟨4608 + j.val, by omega⟩)) (Fin.ext (by show (t.val * 32 - 1) * 16 + (8 + q.val) = t.val * 512 - 8 + q.val; omega)))

set_option backward.isDefEq.respectTransparency false in
/-- The first convolution's taps: every point's block holds them in its first rows. -/
theorem b5 (c : Dev nD) (t : Fin cfg0.N) (k : Fin 3) (j : Fin 256) :
    (iblk m c 5 t : Vec Ideal S8x256 .f32) (ix2 ⟨k.val, by omega⟩ j) = (m ((c : Thread nD τ).loc main_arg1) : Vec Ideal S3x256 .f32) (ix2 k j) := by
  have e : (iblk m c 5 t : Vec Ideal S8x256 .f32) (ix2 ⟨k.val, by omega⟩ j) = (V m c main_v0 : Vec Ideal S8x256 .f32) (ix2 ⟨k.val, by omega⟩ j) := by
    blk_ext! [iblk, idx t]
  rw [e, V0]
  exact pad_apply_of_inside _ _ _ _ _ _ _ _ (ix2 k j) fun a => match a with
    | ⟨0, _⟩ => by show k.val = 0 + k.val * (0 + 1); omega
    | ⟨1, _⟩ => by show j.val = 0 + j.val * (0 + 1); omega

set_option backward.isDefEq.respectTransparency false in
/-- Tap 0 of the first convolution, read by itself. -/
theorem tap5_0 (c : Dev nD) (t : Fin cfg0.N) (j : Fin 256) :
    View.ld (iblk m c 5 t : Vec Ideal S8x256 .f32) (Rect.unit ![0, 0] ![1, 256] inb_S8x256_S1x256_0_0) (ix2 0 j) = (m ((c : Thread nD τ).loc main_arg1) : Vec Ideal S3x256 .f32) (ix2 0 j) :=
  (row256_0 (iblk m c 5 t : Vec Ideal S8x256 .f32) j).trans (b5 m c t 0 j)

set_option backward.isDefEq.respectTransparency false in
/-- Tap 1 of the first convolution, read by itself. -/
theorem tap5_1 (c : Dev nD) (t : Fin cfg0.N) (j : Fin 256) :
    View.ld (iblk m c 5 t : Vec Ideal S8x256 .f32) (Rect.unit ![1, 0] ![1, 256] inb_S8x256_S1x256_1_0) (ix2 0 j) = (m ((c : Thread nD τ).loc main_arg1) : Vec Ideal S3x256 .f32) (ix2 1 j) :=
  (row256_1 (iblk m c 5 t : Vec Ideal S8x256 .f32) j).trans (b5 m c t 1 j)

set_option backward.isDefEq.respectTransparency false in
/-- Tap 2 of the first convolution, read by itself. -/
theorem tap5_2 (c : Dev nD) (t : Fin cfg0.N) (j : Fin 256) :
    View.ld (iblk m c 5 t : Vec Ideal S8x256 .f32) (Rect.unit ![2, 0] ![1, 256] inb_S8x256_S1x256_2_0) (ix2 0 j) = (m ((c : Thread nD τ).loc main_arg1) : Vec Ideal S3x256 .f32) (ix2 2 j) :=
  (row256_2 (iblk m c 5 t : Vec Ideal S8x256 .f32) j).trans (b5 m c t 2 j)

set_option backward.isDefEq.respectTransparency false in
/-- The second convolution's taps: every point's block holds them in its first rows. -/
theorem b6 (c : Dev nD) (t : Fin cfg0.N) (k : Fin 4) (j : Fin 768) :
    (iblk m c 6 t : Vec Ideal S8x768 .f32) (ix2 ⟨k.val, by omega⟩ j) = (m ((c : Thread nD τ).loc main_arg2) : Vec Ideal S4x768 .f32) (ix2 k j) := by
  have e : (iblk m c 6 t : Vec Ideal S8x768 .f32) (ix2 ⟨k.val, by omega⟩ j) = (V m c main_v1 : Vec Ideal S8x768 .f32) (ix2 ⟨k.val, by omega⟩ j) := by
    blk_ext! [iblk, idx t]
  rw [e, V1]
  exact pad_apply_of_inside _ _ _ _ _ _ _ _ (ix2 k j) fun a => match a with
    | ⟨0, _⟩ => by show k.val = 0 + k.val * (0 + 1); omega
    | ⟨1, _⟩ => by show j.val = 0 + j.val * (0 + 1); omega

set_option backward.isDefEq.respectTransparency false in
/-- Tap 0 of the second convolution, read by itself. -/
theorem tap6_0 (c : Dev nD) (t : Fin cfg0.N) (j : Fin 768) :
    View.ld (iblk m c 6 t : Vec Ideal S8x768 .f32) (Rect.unit ![0, 0] ![1, 768] inb_S8x768_S1x768_0_0) (ix2 0 j) = (m ((c : Thread nD τ).loc main_arg2) : Vec Ideal S4x768 .f32) (ix2 0 j) :=
  (row768_0 (iblk m c 6 t : Vec Ideal S8x768 .f32) j).trans (b6 m c t 0 j)

set_option backward.isDefEq.respectTransparency false in
/-- Tap 1 of the second convolution, read by itself. -/
theorem tap6_1 (c : Dev nD) (t : Fin cfg0.N) (j : Fin 768) :
    View.ld (iblk m c 6 t : Vec Ideal S8x768 .f32) (Rect.unit ![1, 0] ![1, 768] inb_S8x768_S1x768_1_0) (ix2 0 j) = (m ((c : Thread nD τ).loc main_arg2) : Vec Ideal S4x768 .f32) (ix2 1 j) :=
  (row768_1 (iblk m c 6 t : Vec Ideal S8x768 .f32) j).trans (b6 m c t 1 j)

set_option backward.isDefEq.respectTransparency false in
/-- Tap 2 of the second convolution, read by itself. -/
theorem tap6_2 (c : Dev nD) (t : Fin cfg0.N) (j : Fin 768) :
    View.ld (iblk m c 6 t : Vec Ideal S8x768 .f32) (Rect.unit ![2, 0] ![1, 768] inb_S8x768_S1x768_2_0) (ix2 0 j) = (m ((c : Thread nD τ).loc main_arg2) : Vec Ideal S4x768 .f32) (ix2 2 j) :=
  (row768_2 (iblk m c 6 t : Vec Ideal S8x768 .f32) j).trans (b6 m c t 2 j)

set_option backward.isDefEq.respectTransparency false in
/-- Tap 3 of the second convolution, read by itself. -/
theorem tap6_3 (c : Dev nD) (t : Fin cfg0.N) (j : Fin 768) :
    View.ld (iblk m c 6 t : Vec Ideal S8x768 .f32) (Rect.unit ![3, 0] ![1, 768] inb_S8x768_S1x768_3_0) (ix2 0 j) = (m ((c : Thread nD τ).loc main_arg2) : Vec Ideal S4x768 .f32) (ix2 3 j) :=
  (row768_3 (iblk m c 6 t : Vec Ideal S8x768 .f32) j).trans (b6 m c t 3 j)

set_option backward.isDefEq.respectTransparency false in
/-- The bias: every point's block is the whole of it. -/
theorem b7 (c : Dev nD) (t : Fin cfg0.N) (j : Fin 768) :
    (iblk m c 7 t : Vec Ideal S1x768 .f32) (ix2 0 j) = (m ((c : Thread nD τ).loc main_arg3) : Vec Ideal S768 .f32) (ix1 j) := by
  have e : (iblk m c 7 t : Vec Ideal S1x768 .f32) (ix2 0 j) = (V m c main_v2 : Vec Ideal S1x768 .f32) (ix2 0 j) := by
    blk_ext! [iblk, idx t]
  rw [e, V2]
  pointwise []

/-! ## The results -/

/-- The first mixer's product of its two later column groups, a column at a time. -/
def inner (x : Vec Ideal S16384x6144 .bf16) (j : Fin 256) (r : Fin 16384) : EReal := x (ix2 r ⟨3328 + j.val, by omega⟩) * x (ix2 r ⟨3584 + j.val, by omega⟩)

/-- The first mixer's result, from the program's arguments. -/
def G8 (x : Vec Ideal S16384x6144 .bf16) (w : Vec Ideal S3x256 .f32) : Vec Ideal S16384x256 .bf16 := fun y =>
  x (ix2 (n0 := 16384) (n1 := 6144) (y 0) ⟨3072 + (y 1).val, by have h : (y 1).val < 256 := (y 1).isLt; omega⟩) *
    ((w (ix2 (n0 := 3) (n1 := 256) 0 (y 1)) * before (inner x (y 1)) 2 (y 0) + w (ix2 (n0 := 3) (n1 := 256) 1 (y 1)) * before (inner x (y 1)) 1 (y 0))
      + w (ix2 (n0 := 3) (n1 := 256) 2 (y 1)) * inner x (y 1) (y 0))

/-- A column of the state-space columns. -/
def state (x : Vec Ideal S16384x6144 .bf16) (j : Fin 768) (r : Fin 16384) : EReal := x (ix2 r ⟨4608 + j.val, by omega⟩)

/-- The activations, from the program's arguments. -/
def G10 (x : Vec Ideal S16384x6144 .bf16) (w : Vec Ideal S4x768 .f32) (b : Vec Ideal S768 .f32) : Vec Ideal S16384x768 .f32 := fun y =>
  silu ((((w (ix2 (n0 := 4) (n1 := 768) 0 (y 1)) * before (state x (y 1)) 3 (y 0) + w (ix2 (n0 := 4) (n1 := 768) 1 (y 1)) * before (state x (y 1)) 2 (y 0))
    + w (ix2 (n0 := 4) (n1 := 768) 2 (y 1)) * before (state x (y 1)) 1 (y 0)) + w (ix2 (n0 := 4) (n1 := 768) 3 (y 1)) * state x (y 1) (y 0)) + b (ix1 (n0 := 768) (y 1)))

set_option backward.isDefEq.respectTransparency false in
/-- The gated rows before a block, and the block's, moved down. -/
theorem inner_moved (s : Nat) (hs : s < 8) (c : Dev nD) (t : Fin cfg0.N) (p : Fin 512) (j : Fin 256) :
    moved s hs (gated (k0_pay1 (F := Ideal) (grid0.coords t)) (View.ld (iblk m c 1 t : Vec Ideal S16x768 .bf16) (Rect.unit ![8, 0] ![8, 768] inb_S16x768_S8x768_8_0))) (k0_pay3 (iblk m c 0 t : Vec Ideal S512x768 .bf16)) (ix2 p j)
      = before (inner (m ((c : Thread nD τ).loc main_arg0)) j) s (row ⟨t.val, (idx t).1⟩ p) := by
  refine moved_before s hs (inner (m ((c : Thread nD τ).loc main_arg0))) ⟨t.val, (idx t).1⟩ _ _ (fun h q j => ?_) (fun h q j => ?_) (fun p j => ?_) p j
  · rw [point, if_pos h]
    unfold gated
    rw [mul_zero, zero_mul]
  · rw [point, if_neg h]
    unfold gated inner
    rw [mul_one, mul_one]
    refine (congrArg₂ (fun a b : EReal => a * b) (b1 m c t h q _) (b1 m c t h q _)).trans ?_
    simp only [ix2_1, ← Nat.add_assoc, Nat.reduceAdd]
  · unfold inner
    have e : ∀ x : Vec Ideal S512x768 .bf16, k0_pay3 x (ix2 p j) = x (ix2 p ⟨256 + j.val, by omega⟩) * x (ix2 p ⟨512 + j.val, by omega⟩) := by
      intro x
      pointwise [k0_pay3, k0_pay2]
    refine (e _).trans ?_
    rw [b0, b0]
    simp only [← Nat.add_assoc, Nat.reduceAdd]

set_option backward.isDefEq.respectTransparency false in
/-- The state-space rows before a block, and the block's, moved down. -/
theorem state_moved (s : Nat) (hs : s < 8) (c : Dev nD) (t : Fin cfg0.N) (p : Fin 512) (j : Fin 768) :
    moved s hs (masked (k0_pay1 (F := Ideal) (grid0.coords t)) (View.ld (iblk m c 4 t : Vec Ideal S16x768 .bf16) (Rect.unit ![8, 0] ![8, 768] inb_S16x768_S8x768_8_0))) (k0_pay9 (iblk m c 3 t : Vec Ideal S512x768 .bf16)) (ix2 p j)
      = before (state (m ((c : Thread nD τ).loc main_arg0)) j) s (row ⟨t.val, (idx t).1⟩ p) := by
  refine moved_before s hs (state (m ((c : Thread nD τ).loc main_arg0))) ⟨t.val, (idx t).1⟩ _ _ (fun h q j => ?_) (fun h q j => ?_) (fun p j => ?_) p j
  · rw [point, if_pos h]
    unfold masked
    rw [mul_zero]
  · rw [point, if_neg h]
    unfold masked
    rw [mul_one]
    exact b4 m c t h q j
  · exact b3 m c t p j

set_option backward.isDefEq.respectTransparency false in
/-- The first mixer's result after the run. -/
theorem final8 (c : Dev nD) : (dats m 0 c).arrAt 8 cfg0.N = G8 (m ((c : Thread nD τ).loc main_arg0)) (m ((c : Thread nD τ).loc main_arg1)) := by
  refine Dat.arrAt_eq_of_covers (dats m 0 c) 8 (G8 (m ((c : Thread nD τ).loc main_arg0)) (m ((c : Thread nD τ).loc main_arg1)))
    (by decide +kernel) fun t hf y => ?_
  blk_simp
  rw [after0_8]
  idx_vars y
  unfold outsAt0 out0_A_8
  frame_out
  refine (pay_y _ _ _ _ _ _ y0 y1).trans ?_
  rw [inner_moved, inner_moved, tap5_0, tap5_1, tap5_2, b0, b0, b0]
  simp only [← Nat.add_assoc, Nat.reduceAdd]
  have e : (((View.whole main_v3_0).slice (win0_8.rect t)).emb (ix2 y0 y1) : S16384x256.Idx) = ix2 (row ⟨t.val, (idx t).1⟩ y0) y1 := by
    unfold row
    blk_ext! [idx t]
  exact (congrArg (G8 _ _) e).symm

set_option backward.isDefEq.respectTransparency false in
/-- The activations after the run. -/
theorem final10 (c : Dev nD) : (dats m 0 c).arrAt 10 cfg0.N = G10 (m ((c : Thread nD τ).loc main_arg0)) (m ((c : Thread nD τ).loc main_arg2)) (m ((c : Thread nD τ).loc main_arg3)) := by
  refine Dat.arrAt_eq_of_covers (dats m 0 c) 10 (G10 (m ((c : Thread nD τ).loc main_arg0)) (m ((c : Thread nD τ).loc main_arg2)) (m ((c : Thread nD τ).loc main_arg3)))
    (by decide +kernel) fun t hf y => ?_
  blk_simp
  rw [after0_10]
  idx_vars y
  unfold outsAt0 out0_A_10
  frame_out
  refine (pay_act _ _ _ _ _ _ _ _ y0 y1).trans ?_
  rw [state_moved, state_moved, state_moved, tap6_0, tap6_1, tap6_2, tap6_3, b3, b7]
  have e : (((View.whole main_v3_2).slice (win0_10.rect t)).emb (ix2 y0 y1) : S16384x768.Idx) = ix2 (row ⟨t.val, (idx t).1⟩ y0) y1 := by
    unfold row
    blk_ext! [idx t]
  exact (congrArg (G10 _ _ _) e).symm

/-- The attention's arguments, from the program's arguments: the queries scaled, the keys and values as they are. -/
def G9 (x : Vec Ideal S16384x6144 .bf16) : Vec Ideal S16384x768 .bf16 := fun y =>
  if (y 1).val < 256 then x (ix2 (n0 := 16384) (n1 := 6144) (y 0) ⟨3840 + (y 1).val, by have h : (y 1).val < 768 := (y 1).isLt; omega⟩) * Ideal.ofBits .f32 0x3E000000#32
  else x (ix2 (n0 := 16384) (n1 := 6144) (y 0) ⟨3840 + (y 1).val, by have h : (y 1).val < 768 := (y 1).isLt; omega⟩)

set_option backward.isDefEq.respectTransparency false in
/-- The scaled queries of a block. -/
theorem pay_q (x : Vec Ideal S512x768 .bf16) (p : Fin 512) (j : Fin 256) : k0_pay7 x (ix2 p j) = x (ix2 p ⟨j.val, by omega⟩) * Ideal.ofBits .f32 0x3E000000#32 := by
  pointwise [k0_pay7]

set_option backward.isDefEq.respectTransparency false in
/-- The keys and values of a block. -/
theorem pay_kv (x : Vec Ideal S512x768 .bf16) (p : Fin 512) (j : Fin 512) : k0_pay8 x (ix2 p j) = x (ix2 p ⟨256 + j.val, by omega⟩) := by
  pointwise [k0_pay8]

set_option backward.isDefEq.respectTransparency false in
set_option maxHeartbeats 1000000 in
/-- What a point stores of the attention's arguments. -/
theorem pay_qkv (x : Vec Ideal S512x768 .bf16) (y : S512x768.Idx) :
    View.canon (Val := Elt Ideal) [⟨Rect.unit ![0, 256] ![512, 512] inb_S512x768_S512x512_0_256, k0_pay8 x⟩, ⟨Rect.unit ![0, 0] ![512, 256] inb_S512x768_S512x256_0_0, k0_pay7 x⟩] y =
      if (y 1).val < 256 then x y * Ideal.ofBits .f32 0x3E000000#32 else x y := by
  canon_tiles z h using (View.cover_of_tiledBy _ ![512, 256] (by sl_kernel_rfl) y)
  · rw [if_neg (by omega)]
    idx_vars z
    refine (pay_kv x z0 z1).trans (congrArg x (funext fun a => Fin.ext ?_))
    match a with
    | ⟨0, _⟩ => exact h0.symm
    | ⟨1, _⟩ => exact h1.symm
  · rw [if_pos (by omega)]
    idx_vars z
    refine (pay_q x z0 z1).trans (congrArg (fun u : EReal => u * Ideal.ofBits .f32 0x3E000000#32) (congrArg x (funext fun a => Fin.ext ?_)))
    match a with
    | ⟨0, _⟩ => exact h0.symm
    | ⟨1, _⟩ => exact h1.symm

set_option backward.isDefEq.respectTransparency false in
/-- The attention's arguments after the run. -/
theorem final9 (c : Dev nD) : (dats m 0 c).arrAt 9 cfg0.N = G9 (m ((c : Thread nD τ).loc main_arg0)) := by
  refine Dat.arrAt_eq_of_covers (dats m 0 c) 9 (G9 (m ((c : Thread nD τ).loc main_arg0)))
    (by decide +kernel) fun t hf y => ?_
  blk_simp
  rw [after0_9]
  idx_vars y
  unfold outsAt0 out0_A_9
  frame_out
  refine (pay_qkv _ (ix2 y0 y1)).trans ?_
  rw [b2]
  have e : (((View.whole main_v3_1).slice (win0_9.rect t)).emb (ix2 y0 y1) : S16384x768.Idx) = ix2 (row ⟨t.val, (idx t).1⟩ y0) y1 := by
    unfold row
    blk_ext! [idx t]
  exact (congrArg (G9 _) e).symm

set_option backward.isDefEq.respectTransparency false in
/-- An entry of a column lengthened by `k` zeros in front, read `k - s` places on, is the column's entry `s` rows before. -/
theorem before_of (f : Fin 16384 → EReal) (s k n : Nat) (r : Fin 16384) (hn : n + s = r.val + k) (hk : s ≤ k) [Decidable (k ≤ n ∧ n - k < 16384)]
    (g : (k ≤ n ∧ n - k < 16384) → EReal) (hg : ∀ h, g h = f ⟨n - k, h.2⟩) :
    (if h : k ≤ n ∧ n - k < 16384 then g h else FloatOps.sitofp (F := Ideal) .f32 0#32) = before f s r := by
  unfold before
  by_cases h : s ≤ r.val
  · rw [if_pos h, dif_pos ⟨by omega, by omega⟩, hg]
    exact congrArg f (Fin.ext (by show n - k = r.val - s; omega))
  · rw [if_neg h, dif_neg fun h' => h (by omega)]
    show (((0#32).toInt : ℝ) : EReal) = 0
    simp

open Cert.Reference30Ideal.Read in
set_option backward.isDefEq.respectTransparency false in
/-- The reference's first mixer is the kernel's. -/
theorem agree8 (x0 : Vec Ideal S16384x6144 .bf16) (x1 : Vec Ideal S3x256 .f32) : val_main_v70 (F := Ideal) x0 x1 = G8 x0 x1 := by
  funext i
  unfold G8
  pointwise [val_main_v71, val_main_v70, val_main_v69, val_main_call2_v5, val_main_call2_v4, val_main_call2_cst_0, val_main_call2_v3, val_main_call2_v2, val_main_call2_cst, val_main_call2_v1, val_main_call2_v0, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_call1_v0, val_main_c_0, val_main_v37, val_main_v36, val_main_v35, val_main_cst, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_call0_v0, val_main_c, val_main_v12, val_main_v11, val_main_v10, val_main_v9, val_main_v8, val_main_v7, val_main_v6, val_main_v5, val_main_v4, val_main_v3, val_main_v2, val_main_v1, val_main_v0]
  have e2 := fun g hg d => @before_of (inner x0 (i 1)) 2 2 (i 0).val (i 0) rfl (by decide) d g hg
  have e1 := fun g hg d => @before_of (inner x0 (i 1)) 1 2 (1 + (i 0).val) (i 0) (by omega) (by decide) d g hg
  refine congrArg (fun z : EReal => _ * z) (congrArg₂ (fun a b : EReal => a + b) (congrArg₂ (fun a b : EReal => a + b) (congrArg (fun z : EReal => _ * z) ?_) (congrArg (fun z : EReal => _ * z) ?_)) rfl)
  · exact e2 _ (fun _ => rfl) _
  · exact e1 _ (fun _ => rfl) _

open Cert.Reference30Ideal.Read in
set_option backward.isDefEq.respectTransparency false in
/-- The reference's attention arguments are the kernel's. -/
theorem agree9 (x0 : Vec Ideal S16384x6144 .bf16) : val_main_v71 (F := Ideal) x0 = G9 x0 := by
  funext i
  unfold G9
  pointwise [val_main_v71, val_main_v70, val_main_v69, val_main_call2_v5, val_main_call2_v4, val_main_call2_cst_0, val_main_call2_v3, val_main_call2_v2, val_main_call2_cst, val_main_call2_v1, val_main_call2_v0, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_call1_v0, val_main_c_0, val_main_v37, val_main_v36, val_main_v35, val_main_cst, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_call0_v0, val_main_c, val_main_v12, val_main_v11, val_main_v10, val_main_v9, val_main_v8, val_main_v7, val_main_v6, val_main_v5, val_main_v4, val_main_v3, val_main_v2, val_main_v1, val_main_v0]
  split
  · rfl
  · rename_i h
    exact congrArg (fun a => x0 (ix2 (n0 := 16384) (n1 := 6144) (i 0) a)) (Fin.ext (by show 4096 + ((i 1).val - 256) = 3840 + (i 1).val; omega))

open Cert.Reference30Ideal.Read in
set_option backward.isDefEq.respectTransparency false in
/-- The reference's activations are the kernel's. -/
theorem agree10 (x0 : Vec Ideal S16384x6144 .bf16) (x2 : Vec Ideal S4x768 .f32) (x3 : Vec Ideal S768 .f32) : val_main_v69 (F := Ideal) x0 x2 x3 = G10 x0 x2 x3 := by
  funext i
  unfold G10
  pointwise [val_main_v71, val_main_v70, val_main_v69, val_main_call2_v5, val_main_call2_v4, val_main_call2_cst_0, val_main_call2_v3, val_main_call2_v2, val_main_call2_cst, val_main_call2_v1, val_main_call2_v0, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_call1_v0, val_main_c_0, val_main_v37, val_main_v36, val_main_v35, val_main_cst, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_call0_v0, val_main_c, val_main_v12, val_main_v11, val_main_v10, val_main_v9, val_main_v8, val_main_v7, val_main_v6, val_main_v5, val_main_v4, val_main_v3, val_main_v2, val_main_v1, val_main_v0]
  have e3 := fun g hg d => @before_of (state x0 (i 1)) 3 3 (i 0).val (i 0) rfl (by decide) d g hg
  have e2 := fun g hg d => @before_of (state x0 (i 1)) 2 3 (1 + (i 0).val) (i 0) (by omega) (by decide) d g hg
  have e1 := fun g hg d => @before_of (state x0 (i 1)) 1 3 (2 + (i 0).val) (i 0) (by omega) (by decide) d g hg
  refine congrArg silu (congrArg₂ (fun a b : EReal => a + b) (congrArg₂ (fun a b : EReal => a + b) (congrArg₂ (fun a b : EReal => a + b) (congrArg₂ (fun a b : EReal => a + b)
    (congrArg (fun z : EReal => _ * z) ?_) (congrArg (fun z : EReal => _ * z) ?_)) (congrArg (fun z : EReal => _ * z) ?_)) rfl) rfl)
  · exact e3 _ (fun _ => rfl) _
  · exact e2 _ (fun _ => rfl) _
  · exact e1 _ (fun _ => rfl) _

/-- The three results agree with the reference's, at all arguments. -/
theorem claim : Cert.algebraic_Kernel30Ideal_Reference30Ideal := by
  intro m ρ m' ρ' _ hagree
  refine ⟨fun c => G8 _ _, fun c => G9 _, fun c => G10 _ _ _,
    (θ_run defs _ _).mono (fun r h c => ⟨(h c).1.trans (final8 m c), (h c).2.1.trans (final9 m c), (h c).2.2.1.trans (final10 m c), (h c).2.2.2⟩)
      (Value.run_blocks (F := Ideal) m ρ), ?_⟩
  refine (θ_run Cert.Reference30Ideal.defs _ _).mono (fun _ h c => ⟨(h c).1.trans ?_, (h c).2.1.trans ?_, (h c).2.2.1.trans ?_, (h c).2.2.2⟩)
    (Cert.Reference30Ideal.Value.run (F := Ideal) m' ρ')
  · obtain ⟨a0, a1, a2, a3⟩ := hagree c
    rw [a0, a1]
    exact (Cert.Reference30Ideal.Read.val_main_v70_eq _ _).trans (agree8 _ _)
  · obtain ⟨a0, a1, a2, a3⟩ := hagree c
    rw [a0]
    exact (Cert.Reference30Ideal.Read.val_main_v71_eq _).trans (agree9 _)
  · obtain ⟨a0, a1, a2, a3⟩ := hagree c
    refine (Cert.Reference30Ideal.Read.val_main_v69_eq _ _).trans ?_
    rw [a0, a2, a3]
    exact agree10 _ _ _

end Cert.Kernel30Ideal.ShortConv

end
-- ==== Proof.ModGrad.lean ====
/- The gradient of the modulation's weight: at every argument the kernel's product is the reference's. -/
module

public import proofs.«01_k».proof.Proof.Gen.Kernel31Ideal.Value
public import proofs.«01_k».proof.Proof.Gen.Reference31Ideal.Read
public import proofs.«01_k».proof.Proof.Silu
public import proofs.«01_k».proof.Defs
public import Idealize.ShloMosaic.Lib.Pipeline.ValueKit
public import Idealize.ShloMosaic.Lib.Claim

@[expose] public section

set_option maxRecDepth 16384

noncomputable section

namespace Cert.Kernel31Ideal.ModGrad

open Cert.Kernel31Ideal Cert.Kernel31Ideal.Gen Cert.Silu Idealize.ShloMosaic Idealize.ShloMosaic.TcCoe
open Idealize.ShloMosaic.Pipeline (Dat)

/-- The result from the program's arguments. -/
def G (x0 : Vec Ideal S8x1024 .f32) (x1 : Vec Ideal S2x8x768 .f32) : Vec Ideal S2x1024x768 .f32 :=
  fun i => ∑ b : Fin 8, silu (x0 (ix2 b (i 1))) * x1 (ix3 (i 0) b (i 2))

set_option backward.isDefEq.respectTransparency false in
/-- The activation of the conditioning. -/
theorem act (x : Vec Ideal S8x1024 .f32) (i : S8x1024.Idx) : k0_pay1 x i = silu (x i) := by
  rw [← silu_sub]
  pointwise [k0_pay1]

set_option backward.isDefEq.respectTransparency false in
/-- What is stored for the first layer. -/
theorem pay2_apply (x : Vec Ideal S8x1024 .f32) (w : Vec Ideal S1x8x768 .f32) (d : Fin 1024) (j : Fin 768) :
    k0_pay2 x w (ix3 0 d j) = ∑ b : Fin 8, silu (x (ix2 b d)) * w (ix3 0 b j) := by
  simp only [← act]
  pointwise [k0_pay2]

set_option backward.isDefEq.respectTransparency false in
/-- What is stored for the second layer. -/
theorem pay3_apply (x : Vec Ideal S8x1024 .f32) (w : Vec Ideal S1x8x768 .f32) (d : Fin 1024) (j : Fin 768) :
    k0_pay3 x w (ix3 0 d j) = ∑ b : Fin 8, silu (x (ix2 b d)) * w (ix3 0 b j) := by
  simp only [← act]
  pointwise [k0_pay3]

set_option maxHeartbeats 1000000 in
set_option backward.isDefEq.respectTransparency false in
/-- The two stores, together. -/
theorem stored (x0 : Vec Ideal S8x1024 .f32) (x1 : Vec Ideal S2x8x768 .f32) : Value.G2 x0 x1 = G x0 x1 := by
  funext y
  canon_tiles x h
  · have ex : x = ix3 0 (y 1) (y 2) := funext fun a => Fin.ext (match a with
      | ⟨0, _⟩ => (by show (x 0).val = 0; omega)
      | ⟨1, _⟩ => h1.symm
      | ⟨2, _⟩ => h2.symm)
    rw [ex]
    refine (pay3_apply _ _ _ _).trans (Finset.sum_congr rfl fun b _ => congrArg₂ (· * ·) rfl ?_)
    exact View.ld_unit_apply_of x1 _ _ _ _ _ fun a => match a with
      | ⟨0, _⟩ => (by show (y 0).val = 1 + 0; omega)
      | ⟨1, _⟩ => (Nat.zero_add _).symm
      | ⟨2, _⟩ => (Nat.zero_add _).symm
  · have ex : x = ix3 0 (y 1) (y 2) := funext fun a => Fin.ext (match a with
      | ⟨0, _⟩ => (by show (x 0).val = 0; omega)
      | ⟨1, _⟩ => h1.symm
      | ⟨2, _⟩ => h2.symm)
    rw [ex]
    refine (pay2_apply _ _ _ _).trans (Finset.sum_congr rfl fun b _ => congrArg₂ (· * ·) rfl ?_)
    exact View.ld_unit_apply_of x1 _ _ _ _ _ fun a => match a with
      | ⟨0, _⟩ => (by show (y 0).val = 0 + 0; omega)
      | ⟨1, _⟩ => (Nat.zero_add _).symm
      | ⟨2, _⟩ => (Nat.zero_add _).symm

open Cert.Reference31Ideal.Read in
/-- The reference's result is the kernel's. -/
theorem agree (x0 : Vec Ideal S8x1024 .f32) (x1 : Vec Ideal S2x8x768 .f32) : val_main_v3 (F := Ideal) x0 x1 = G x0 x1 := by
  funext i
  unfold G silu
  pointwise [val_main_v3, val_main_v2, val_main_v1, val_main_v0, val_main_call0_v5, val_main_call0_v4, val_main_call0_v3, val_main_call0_v2, val_main_call0_v1, val_main_call0_v0, val_main_call0_cst, val_main_call0_cst_0]
  exact Finset.sum_congr rfl fun k _ => mul_comm _ _

/-- The result agrees with the reference's, at all arguments. -/
theorem claim : Cert.algebraic_Kernel31Ideal_Reference31Ideal := by
  intro m ρ m' ρ' _ hagree
  refine ⟨fun c => G _ _,
    (θ_run defs _ _).mono (fun r h c => ⟨(h c).1.trans (stored _ _), (h c).2⟩)
      (Value.run (F := Ideal) m ρ), ?_⟩
  refine (θ_run Cert.Reference31Ideal.defs _ _).mono (fun _ h c => ⟨(h c).1.trans ?_, (h c).2⟩)
    (Cert.Reference31Ideal.Value.run (F := Ideal) m' ρ')
  rw [(hagree c).1, (hagree c).2]
  exact (Cert.Reference31Ideal.Read.val_main_v3_eq _ _).trans (agree _ _)

end Cert.Kernel31Ideal.ModGrad

end
-- ==== Proof.Mod.lean ====
/- The modulation of the conditioning: at every argument the kernel's result is the reference's. -/
module

public import proofs.«01_k».proof.Proof.Gen.Kernel32Ideal.Value
public import proofs.«01_k».proof.Proof.Gen.Reference32Ideal.Read
public import proofs.«01_k».proof.Proof.Silu
public import proofs.«01_k».proof.Defs
public import Idealize.ShloMosaic.Lib.Pipeline.ValueKit
public import Idealize.ShloMosaic.Lib.Claim

@[expose] public section

set_option maxRecDepth 16384

noncomputable section

namespace Cert.Kernel32Ideal.Mod

open Cert.Kernel32Ideal Cert.Kernel32Ideal.Gen Cert.Silu Idealize.ShloMosaic Idealize.ShloMosaic.TcCoe
open Idealize.ShloMosaic.Pipeline (Dat)

/-- The result from the program's arguments. -/
def G (x0 : Vec Ideal S8x1024 .f32) (x1 : Vec Ideal S2x1024x768 .f32) (x2 : Vec Ideal S2x1x768 .f32) : Vec Ideal S2x8x768 .f32 :=
  fun i => ∑ d : Fin 1024, silu (x0 (ix2 (i 1) d)) * x1 (ix3 (i 0) d (i 2)) + x2 (ix3 (i 0) 0 (i 2))

set_option backward.isDefEq.respectTransparency false in
/-- The activation of the conditioning. -/
theorem act (x : Vec Ideal S8x1024 .f32) (i : S8x1024.Idx) : k0_pay1 x i = silu (x i) := by
  rw [← silu_sub]
  pointwise [k0_pay1]

set_option backward.isDefEq.respectTransparency false in
/-- What is stored for the first layer. -/
theorem pay2_apply (x : Vec Ideal S8x1024 .f32) (w : Vec Ideal S1x1024x768 .f32) (v : Vec Ideal S1x1x768 .f32) (b : Fin 8) (j : Fin 768) :
    k0_pay2 x w v (ix3 0 b j) = ∑ d : Fin 1024, silu (x (ix2 b d)) * w (ix3 0 d j) + v (ix3 0 0 j) := by
  simp only [← act]
  pointwise [k0_pay2]

set_option backward.isDefEq.respectTransparency false in
/-- What is stored for the second layer. -/
theorem pay3_apply (x : Vec Ideal S8x1024 .f32) (w : Vec Ideal S1x1024x768 .f32) (v : Vec Ideal S1x1x768 .f32) (b : Fin 8) (j : Fin 768) :
    k0_pay3 x w v (ix3 0 b j) = ∑ d : Fin 1024, silu (x (ix2 b d)) * w (ix3 0 d j) + v (ix3 0 0 j) := by
  simp only [← act]
  pointwise [k0_pay3]

set_option maxHeartbeats 1000000 in
set_option backward.isDefEq.respectTransparency false in
/-- The two stores, together. -/
theorem stored (x0 : Vec Ideal S8x1024 .f32) (x1 : Vec Ideal S2x1024x768 .f32) (x2 : Vec Ideal S2x1x768 .f32) : Value.G3 x0 x1 x2 = G x0 x1 x2 := by
  funext y
  canon_tiles x h
  · have ex : x = ix3 0 (y 1) (y 2) := funext fun a => Fin.ext (match a with
      | ⟨0, _⟩ => (by show (x 0).val = 0; omega)
      | ⟨1, _⟩ => h1.symm
      | ⟨2, _⟩ => h2.symm)
    rw [ex]
    refine (pay3_apply _ _ _ _ _).trans (congrArg₂ (· + ·) (Finset.sum_congr rfl fun b _ => congrArg₂ (· * ·) rfl ?_) ?_)
    all_goals exact View.ld_unit_apply_of _ _ _ _ _ _ fun a => match a with
      | ⟨0, _⟩ => (by show (y 0).val = 1 + 0; omega)
      | ⟨1, _⟩ => (Nat.zero_add _).symm
      | ⟨2, _⟩ => (Nat.zero_add _).symm
  · have ex : x = ix3 0 (y 1) (y 2) := funext fun a => Fin.ext (match a with
      | ⟨0, _⟩ => (by show (x 0).val = 0; omega)
      | ⟨1, _⟩ => h1.symm
      | ⟨2, _⟩ => h2.symm)
    rw [ex]
    refine (pay2_apply _ _ _ _ _).trans (congrArg₂ (· + ·) (Finset.sum_congr rfl fun b _ => congrArg₂ (· * ·) rfl ?_) ?_)
    all_goals exact View.ld_unit_apply_of _ _ _ _ _ _ fun a => match a with
      | ⟨0, _⟩ => (by show (y 0).val = 0 + 0; omega)
      | ⟨1, _⟩ => (Nat.zero_add _).symm
      | ⟨2, _⟩ => (Nat.zero_add _).symm

open Cert.Reference32Ideal.Read in
/-- The reference's result is the kernel's. -/
theorem agree (x0 : Vec Ideal S8x1024 .f32) (x1 : Vec Ideal S2x1024x768 .f32) (x2 : Vec Ideal S2x1x768 .f32) : val_main_v4 (F := Ideal) x0 x1 x2 = G x0 x1 x2 := by
  funext i
  unfold G silu
  pointwise [val_main_v4, val_main_v3, val_main_v2, val_main_v1, val_main_v0, val_main_call0_v5, val_main_call0_v4, val_main_call0_v3, val_main_call0_v2, val_main_call0_v1, val_main_call0_v0, val_main_call0_cst, val_main_call0_cst_0]
  exact congrArg₂ (· + ·) (Finset.sum_congr rfl fun k _ => mul_comm _ _) rfl

/-- The result agrees with the reference's, at all arguments. -/
theorem claim : Cert.algebraic_Kernel32Ideal_Reference32Ideal := by
  intro m ρ m' ρ' _ hagree
  refine ⟨fun c => G _ _ _,
    (θ_run defs _ _).mono (fun r h c => ⟨(h c).1.trans (stored _ _ _), (h c).2⟩)
      (Value.run (F := Ideal) m ρ), ?_⟩
  refine (θ_run Cert.Reference32Ideal.defs _ _).mono (fun _ h c => ⟨(h c).1.trans ?_, (h c).2⟩)
    (Cert.Reference32Ideal.Value.run (F := Ideal) m' ρ')
  rw [(hagree c).1, (hagree c).2.1, (hagree c).2.2]
  exact (Cert.Reference32Ideal.Read.val_main_v4_eq _ _ _).trans (agree _ _ _)

end Cert.Kernel32Ideal.Mod

end
-- ==== Proof.AdamSmall.lean ====
/- The optimiser's step of the small weights, packed in rows of 128, with the gradient in eight parts: at every argument the kernel's results are the reference's. -/
module

public import proofs.«01_k».proof.Proof.Gen.Kernel33Ideal.Value
public import proofs.«01_k».proof.Proof.Gen.Reference33Ideal.Read
public import proofs.«01_k».proof.Proof.Adam
public import proofs.«01_k».proof.Defs
public import Idealize.ShloMosaic.Lib.Pipeline.ValueKit
public import Idealize.ShloMosaic.Lib.Claim

@[expose] public section

set_option maxRecDepth 16384

noncomputable section

namespace Cert.Kernel33Ideal.AdamSmall

open Cert.Kernel33Ideal Cert.Kernel33Ideal.Gen Cert.Adam Idealize.ShloMosaic Idealize.ShloMosaic.TcCoe
open Idealize.ShloMosaic.Pipeline (Dat)

/-! ## One point's stored values, from its blocks -/

set_option backward.isDefEq.respectTransparency false in
/-- Part 0 of a block, read by itself. -/
theorem ld0 (x : Vec Ideal S8x184x128 .f32) (p : Fin 184) (j : Fin 128) : View.ld x r0_0 (ix3 0 p j) = x (ix3 0 p j) := by
  refine congrArg x (funext fun a => Fin.ext ?_)
  match a with
  | ⟨0, _⟩ => exact (rfl : 0 + 1 * 0 = 0)
  | ⟨1, _⟩ => show 0 + 1 * p.val = p.val; omega
  | ⟨2, _⟩ => show 0 + 1 * j.val = j.val; omega

set_option backward.isDefEq.respectTransparency false in
/-- Part 1 of a block, read by itself. -/
theorem ld1 (x : Vec Ideal S8x184x128 .f32) (p : Fin 184) (j : Fin 128) : View.ld x r0_1 (ix3 0 p j) = x (ix3 1 p j) := by
  refine congrArg x (funext fun a => Fin.ext ?_)
  match a with
  | ⟨0, _⟩ => exact (rfl : 1 + 1 * 0 = 1)
  | ⟨1, _⟩ => show 0 + 1 * p.val = p.val; omega
  | ⟨2, _⟩ => show 0 + 1 * j.val = j.val; omega

set_option backward.isDefEq.respectTransparency false in
/-- Part 2 of a block, read by itself. -/
theorem ld2 (x : Vec Ideal S8x184x128 .f32) (p : Fin 184) (j : Fin 128) : View.ld x r0_2 (ix3 0 p j) = x (ix3 2 p j) := by
  refine congrArg x (funext fun a => Fin.ext ?_)
  match a with
  | ⟨0, _⟩ => exact (rfl : 2 + 1 * 0 = 2)
  | ⟨1, _⟩ => show 0 + 1 * p.val = p.val; omega
  | ⟨2, _⟩ => show 0 + 1 * j.val = j.val; omega

set_option backward.isDefEq.respectTransparency false in
/-- Part 3 of a block, read by itself. -/
theorem ld3 (x : Vec Ideal S8x184x128 .f32) (p : Fin 184) (j : Fin 128) : View.ld x r0_3 (ix3 0 p j) = x (ix3 3 p j) := by
  refine congrArg x (funext fun a => Fin.ext ?_)
  match a with
  | ⟨0, _⟩ => exact (rfl : 3 + 1 * 0 = 3)
  | ⟨1, _⟩ => show 0 + 1 * p.val = p.val; omega
  | ⟨2, _⟩ => show 0 + 1 * j.val = j.val; omega

set_option backward.isDefEq.respectTransparency false in
/-- Part 4 of a block, read by itself. -/
theorem ld4 (x : Vec Ideal S8x184x128 .f32) (p : Fin 184) (j : Fin 128) : View.ld x r0_4 (ix3 0 p j) = x (ix3 4 p j) := by
  refine congrArg x (funext fun a => Fin.ext ?_)
  match a with
  | ⟨0, _⟩ => exact (rfl : 4 + 1 * 0 = 4)
  | ⟨1, _⟩ => show 0 + 1 * p.val = p.val; omega
  | ⟨2, _⟩ => show 0 + 1 * j.val = j.val; omega

set_option backward.isDefEq.respectTransparency false in
/-- Part 5 of a block, read by itself. -/
theorem ld5 (x : Vec Ideal S8x184x128 .f32) (p : Fin 184) (j : Fin 128) : View.ld x r0_5 (ix3 0 p j) = x (ix3 5 p j) := by
  refine congrArg x (funext fun a => Fin.ext ?_)
  match a with
  | ⟨0, _⟩ => exact (rfl : 5 + 1 * 0 = 5)
  | ⟨1, _⟩ => show 0 + 1 * p.val = p.val; omega
  | ⟨2, _⟩ => show 0 + 1 * j.val = j.val; omega

set_option backward.isDefEq.respectTransparency false in
/-- Part 6 of a block, read by itself. -/
theorem ld6 (x : Vec Ideal S8x184x128 .f32) (p : Fin 184) (j : Fin 128) : View.ld x r0_6 (ix3 0 p j) = x (ix3 6 p j) := by
  refine congrArg x (funext fun a => Fin.ext ?_)
  match a with
  | ⟨0, _⟩ => exact (rfl : 6 + 1 * 0 = 6)
  | ⟨1, _⟩ => show 0 + 1 * p.val = p.val; omega
  | ⟨2, _⟩ => show 0 + 1 * j.val = j.val; omega

set_option backward.isDefEq.respectTransparency false in
/-- Part 7 of a block, read by itself. -/
theorem ld7 (x : Vec Ideal S8x184x128 .f32) (p : Fin 184) (j : Fin 128) : View.ld x r0_7 (ix3 0 p j) = x (ix3 7 p j) := by
  refine congrArg x (funext fun a => Fin.ext ?_)
  match a with
  | ⟨0, _⟩ => exact (rfl : 7 + 1 * 0 = 7)
  | ⟨1, _⟩ => show 0 + 1 * p.val = p.val; omega
  | ⟨2, _⟩ => show 0 + 1 * j.val = j.val; omega

set_option backward.isDefEq.respectTransparency false in
/-- The stored gradient, from the loaded parts. -/
theorem pay_g (x0 x1 x2 x3 x4 x5 x6 x7 : Vec Ideal S1x184x128 .f32) (p : Fin 184) (j : Fin 128) :
    k0_pay3 x0 x1 x2 x3 x4 x5 x6 x7 (ix2 p j) = x0 (ix3 0 p j) + x1 (ix3 0 p j) + x2 (ix3 0 p j) + x3 (ix3 0 p j) + x4 (ix3 0 p j) + x5 (ix3 0 p j) + x6 (ix3 0 p j) + x7 (ix3 0 p j) := by
  pointwise [k0_pay1, k0_pay2, k0_pay3, k0_pay4]

set_option backward.isDefEq.respectTransparency false in
/-- The stored gradient, from the blocks. -/
theorem out_g (x : Vec Ideal S8x184x128 .f32) (w m v : Vec Ideal S184x128 .f32) (p : Fin 184) (j : Fin 128) :
    out0_4 x w m v (ix2 p j) = ∑ k, x (ix3 k p j) := by
  unfold out0_4 k0_pay5
  frame_out
  rw [pay_g, Fin.sum_univ_eight, ld0, ld1, ld2, ld3, ld4, ld5, ld6, ld7]

set_option backward.isDefEq.respectTransparency false in
/-- The stored change of the weight, from the loaded parts. -/
theorem pay_d (x0 x1 x2 x3 x4 x5 x6 x7 : Vec Ideal S1x184x128 .f32) (w m v : Vec Ideal S184x128 .f32) (p : Fin 184) (j : Fin 128) :
    k0_pay2 (k0_pay3 x0 x1 x2 x3 x4 x5 x6 x7) (k0_pay4 x0 x1 x2 x3 x4 x5 x6 x7 m) v w (ix2 p j) = change (x0 (ix3 0 p j) + x1 (ix3 0 p j) + x2 (ix3 0 p j) + x3 (ix3 0 p j) + x4 (ix3 0 p j) + x5 (ix3 0 p j) + x6 (ix3 0 p j) + x7 (ix3 0 p j)) (w (ix2 p j)) (m (ix2 p j)) (v (ix2 p j)) := by
  unfold change mean1 mean2
  pointwise [k0_pay1, k0_pay2, k0_pay3, k0_pay4]

set_option backward.isDefEq.respectTransparency false in
/-- The stored change of the weight, from the blocks. -/
theorem out_d (x : Vec Ideal S8x184x128 .f32) (w m v : Vec Ideal S184x128 .f32) (p : Fin 184) (j : Fin 128) :
    out0_5 x w m v (ix2 p j) = change (∑ k, x (ix3 k p j)) (w (ix2 p j)) (m (ix2 p j)) (v (ix2 p j)) := by
  unfold out0_5 k0_pay6 k0_pay5
  frame_out
  rw [pay_d, Fin.sum_univ_eight, ld0, ld1, ld2, ld3, ld4, ld5, ld6, ld7]

set_option backward.isDefEq.respectTransparency false in
/-- The stored mean of the gradient, from the loaded parts. -/
theorem pay_m (x0 x1 x2 x3 x4 x5 x6 x7 : Vec Ideal S1x184x128 .f32) (m : Vec Ideal S184x128 .f32) (p : Fin 184) (j : Fin 128) :
    k0_pay4 x0 x1 x2 x3 x4 x5 x6 x7 m (ix2 p j) = mean1 (x0 (ix3 0 p j) + x1 (ix3 0 p j) + x2 (ix3 0 p j) + x3 (ix3 0 p j) + x4 (ix3 0 p j) + x5 (ix3 0 p j) + x6 (ix3 0 p j) + x7 (ix3 0 p j)) (m (ix2 p j)) := by
  unfold mean1
  pointwise [k0_pay1, k0_pay2, k0_pay3, k0_pay4]

set_option backward.isDefEq.respectTransparency false in
/-- The stored mean of the gradient, from the blocks. -/
theorem out_m (x : Vec Ideal S8x184x128 .f32) (w m v : Vec Ideal S184x128 .f32) (p : Fin 184) (j : Fin 128) :
    out0_6 x w m v (ix2 p j) = mean1 (∑ k, x (ix3 k p j)) (m (ix2 p j)) := by
  unfold out0_6 k0_pay6
  frame_out
  rw [pay_m, Fin.sum_univ_eight, ld0, ld1, ld2, ld3, ld4, ld5, ld6, ld7]

set_option backward.isDefEq.respectTransparency false in
/-- The stored mean of the square, from the loaded parts. -/
theorem pay_v (x0 x1 x2 x3 x4 x5 x6 x7 : Vec Ideal S1x184x128 .f32) (v : Vec Ideal S184x128 .f32) (p : Fin 184) (j : Fin 128) :
    k0_pay1 (k0_pay3 x0 x1 x2 x3 x4 x5 x6 x7) v (ix2 p j) = mean2 (x0 (ix3 0 p j) + x1 (ix3 0 p j) + x2 (ix3 0 p j) + x3 (ix3 0 p j) + x4 (ix3 0 p j) + x5 (ix3 0 p j) + x6 (ix3 0 p j) + x7 (ix3 0 p j)) (v (ix2 p j)) := by
  unfold mean2
  pointwise [k0_pay1, k0_pay2, k0_pay3, k0_pay4]

set_option backward.isDefEq.respectTransparency false in
/-- The stored mean of the square, from the blocks. -/
theorem out_v (x : Vec Ideal S8x184x128 .f32) (w m v : Vec Ideal S184x128 .f32) (p : Fin 184) (j : Fin 128) :
    out0_7 x w m v (ix2 p j) = mean2 (∑ k, x (ix3 k p j)) (v (ix2 p j)) := by
  unfold out0_7 k0_pay5
  frame_out
  rw [pay_v, Fin.sum_univ_eight, ld0, ld1, ld2, ld3, ld4, ld5, ld6, ld7]

variable (m : (ℓ : Loc nD τ sig) → Buf (Elt Ideal) ℓ)

/-! ## Blocks of rows: point `t` works on the block of rows `t` -/

/-- The blocks' positions at a grid point. -/
theorem idx : ∀ t : Fin cfg0.N, t.val < 1
    ∧ win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- Row `p` of block `t`. -/
def row (t : Fin cfg0.N) (p : Fin 184) : Fin 184 := ⟨t.val * 184 + p.val, by have := (idx t).1; omega⟩

set_option backward.isDefEq.respectTransparency false in
/-- The gradient: each of its eight parts of a point's block is rows of the whole array's part. -/
theorem b0 (c : Dev nD) (t : Fin cfg0.N) (k : Fin 8) (p : Fin 184) (j : Fin 128) :
    (iblk m c 0 t : Vec Ideal S8x184x128 .f32) (ix3 k p j) = (m ((c : Thread nD τ).loc main_arg0) : Vec Ideal S8x184x128 .f32) (ix3 k (row t p) j) := by
  unfold row
  blk_ext! [iblk, V, idx t]

set_option backward.isDefEq.respectTransparency false in
/-- The weight: row `p` of a point's block is the whole array's row. -/
theorem b1 (c : Dev nD) (t : Fin cfg0.N) (p : Fin 184) (j : Fin 128) :
    (iblk m c 1 t : Vec Ideal S184x128 .f32) (ix2 p j) = (m ((c : Thread nD τ).loc main_arg1) : Vec Ideal S184x128 .f32) (ix2 (row t p) j) := by
  unfold row
  blk_ext! [iblk, V, idx t]

set_option backward.isDefEq.respectTransparency false in
/-- The mean of the gradient so far: row `p` of a point's block is the whole array's row. -/
theorem b2 (c : Dev nD) (t : Fin cfg0.N) (p : Fin 184) (j : Fin 128) :
    (iblk m c 2 t : Vec Ideal S184x128 .f32) (ix2 p j) = (m ((c : Thread nD τ).loc main_arg2) : Vec Ideal S184x128 .f32) (ix2 (row t p) j) := by
  unfold row
  blk_ext! [iblk, V, idx t]

set_option backward.isDefEq.respectTransparency false in
/-- The mean of the square so far: row `p` of a point's block is the whole array's row. -/
theorem b3 (c : Dev nD) (t : Fin cfg0.N) (p : Fin 184) (j : Fin 128) :
    (iblk m c 3 t : Vec Ideal S184x128 .f32) (ix2 p j) = (m ((c : Thread nD τ).loc main_arg3) : Vec Ideal S184x128 .f32) (ix2 (row t p) j) := by
  unfold row
  blk_ext! [iblk, V, idx t]

/-! ## The results from the program's arguments -/

/-- The gradient, from the arguments. -/
def G4 (x0 : Vec Ideal S8x184x128 .f32) : Vec Ideal S184x128 .f32 := fun y => ∑ k, x0 (ix3 k (y 0) (y 1))

set_option backward.isDefEq.respectTransparency false in
/-- The array of the gradient after the run. -/
theorem final4 (c : Dev nD) : (dats m 0 c).arrAt 4 cfg0.N = G4 (m ((c : Thread nD τ).loc main_arg0)) := by
  refine Dat.arrAt_eq_of_covers (dats m 0 c) 4 (G4 (m ((c : Thread nD τ).loc main_arg0)))
    (by decide +kernel) fun t hf y => ?_
  blk_simp
  rw [after0_4]
  idx_vars y
  refine (out_g _ _ _ _ y0 y1).trans ?_
  simp only [b0]
  have e : (((View.whole main_v0_0).slice (win0_4.rect t)).emb (ix2 y0 y1) : S184x128.Idx) = ix2 (row t y0) y1 := by
    unfold row
    blk_ext! [idx t]
  exact (congrArg (G4 _) e).symm

open Cert.Reference33Ideal.Read in
set_option backward.isDefEq.respectTransparency false in
/-- The gradient: the reference's is the kernel's. -/
theorem agree4 (x0 : Vec Ideal S8x184x128 .f32) : val_main_v0 (F := Ideal) x0 = G4 x0 := by
  funext i
  idx_vars i
  unfold G4
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The change of the weight, from the arguments. -/
def G5 (x0 : Vec Ideal S8x184x128 .f32) (x1 x2 x3 : Vec Ideal S184x128 .f32) : Vec Ideal S184x128 .f32 := fun y => change (∑ k, x0 (ix3 k (y 0) (y 1))) (x1 y) (x2 y) (x3 y)

set_option backward.isDefEq.respectTransparency false in
/-- The array of the change of the weight after the run. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) := by
  refine Dat.arrAt_eq_of_covers (dats m 0 c) 5 (G5 (m ((c : Thread nD τ).loc main_arg0)) (m ((c : Thread nD τ).loc main_arg1)) (m ((c : Thread nD τ).loc main_arg2)) (m ((c : Thread nD τ).loc main_arg3)))
    (by decide +kernel) fun t hf y => ?_
  blk_simp
  rw [after0_5]
  idx_vars y
  refine (out_d _ _ _ _ y0 y1).trans ?_
  simp only [b0, b1, b2, b3]
  have e : (((View.whole main_v0_1).slice (win0_5.rect t)).emb (ix2 y0 y1) : S184x128.Idx) = ix2 (row t y0) y1 := by
    unfold row
    blk_ext! [idx t]
  exact (congrArg (G5 _ _ _ _) e).symm

open Cert.Reference33Ideal.Read in
set_option backward.isDefEq.respectTransparency false in
/-- The change of the weight: the reference's is the kernel's. -/
theorem agree5 (x0 : Vec Ideal S8x184x128 .f32) (x1 x2 x3 : Vec Ideal S184x128 .f32) : val_main_v24 (F := Ideal) x0 x1 x2 x3 = G5 x0 x1 x2 x3 := by
  funext i
  idx_vars i
  unfold G5 change mean1 mean2
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The mean of the gradient, from the arguments. -/
def G6 (x0 : Vec Ideal S8x184x128 .f32) (x2 : Vec Ideal S184x128 .f32) : Vec Ideal S184x128 .f32 := fun y => mean1 (∑ k, x0 (ix3 k (y 0) (y 1))) (x2 y)

set_option backward.isDefEq.respectTransparency false in
/-- The array of the mean of the gradient after the run. -/
theorem final6 (c : Dev nD) : (dats m 0 c).arrAt 6 cfg0.N = G6 (m ((c : Thread nD τ).loc main_arg0)) (m ((c : Thread nD τ).loc main_arg2)) := by
  refine Dat.arrAt_eq_of_covers (dats m 0 c) 6 (G6 (m ((c : Thread nD τ).loc main_arg0)) (m ((c : Thread nD τ).loc main_arg2)))
    (by decide +kernel) fun t hf y => ?_
  blk_simp
  rw [after0_6]
  idx_vars y
  refine (out_m _ _ _ _ y0 y1).trans ?_
  simp only [b0, b2]
  have e : (((View.whole main_v0_2).slice (win0_6.rect t)).emb (ix2 y0 y1) : S184x128.Idx) = ix2 (row t y0) y1 := by
    unfold row
    blk_ext! [idx t]
  exact (congrArg (G6 _ _) e).symm

open Cert.Reference33Ideal.Read in
set_option backward.isDefEq.respectTransparency false in
/-- The mean of the gradient: the reference's is the kernel's. -/
theorem agree6 (x0 : Vec Ideal S8x184x128 .f32) (x2 : Vec Ideal S184x128 .f32) : val_main_v5 (F := Ideal) x0 x2 = G6 x0 x2 := by
  funext i
  idx_vars i
  unfold G6 mean1
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The mean of the square, from the arguments. -/
def G7 (x0 : Vec Ideal S8x184x128 .f32) (x3 : Vec Ideal S184x128 .f32) : Vec Ideal S184x128 .f32 := fun y => mean2 (∑ k, x0 (ix3 k (y 0) (y 1))) (x3 y)

set_option backward.isDefEq.respectTransparency false in
/-- The array of the mean of the square after the run. -/
theorem final7 (c : Dev nD) : (dats m 0 c).arrAt 7 cfg0.N = G7 (m ((c : Thread nD τ).loc main_arg0)) (m ((c : Thread nD τ).loc main_arg3)) := by
  refine Dat.arrAt_eq_of_covers (dats m 0 c) 7 (G7 (m ((c : Thread nD τ).loc main_arg0)) (m ((c : Thread nD τ).loc main_arg3)))
    (by decide +kernel) fun t hf y => ?_
  blk_simp
  rw [after0_7]
  idx_vars y
  refine (out_v _ _ _ _ y0 y1).trans ?_
  simp only [b0, b3]
  have e : (((View.whole main_v0_3).slice (win0_7.rect t)).emb (ix2 y0 y1) : S184x128.Idx) = ix2 (row t y0) y1 := by
    unfold row
    blk_ext! [idx t]
  exact (congrArg (G7 _ _) e).symm

open Cert.Reference33Ideal.Read in
set_option backward.isDefEq.respectTransparency false in
/-- The mean of the square: the reference's is the kernel's. -/
theorem agree7 (x0 : Vec Ideal S8x184x128 .f32) (x3 : Vec Ideal S184x128 .f32) : val_main_v11 (F := Ideal) x0 x3 = G7 x0 x3 := by
  funext i
  idx_vars i
  unfold G7 mean2
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The results agree with the reference's, at all arguments. -/
theorem claim : Cert.algebraic_Kernel33Ideal_Reference33Ideal := by
  intro m ρ m' ρ' _ hagree
  refine ⟨fun c => G4 _, fun c => G5 _ _ _ _, fun c => G6 _ _, fun c => G7 _ _,
    (θ_run defs _ _).mono (fun r h c => ⟨(h c).1.trans (final4 m c), (h c).2.1.trans (final5 m c), (h c).2.2.1.trans (final6 m c), (h c).2.2.2.1.trans (final7 m c), (h c).2.2.2.2⟩)
      (Value.run_blocks (F := Ideal) m ρ), ?_⟩
  refine (θ_run Cert.Reference33Ideal.defs _ _).mono (fun _ h c => ⟨(h c).1.trans ?_, (h c).2.1.trans ?_, (h c).2.2.1.trans ?_, (h c).2.2.2.1.trans ?_, (h c).2.2.2.2⟩)
    (Cert.Reference33Ideal.Value.run (F := Ideal) m' ρ')
  · obtain ⟨a0, a1, a2, a3⟩ := hagree c
    rw [a0]
    exact (Cert.Reference33Ideal.Read.val_main_v0_eq _).trans (agree4 _)
  · obtain ⟨a0, a1, a2, a3⟩ := hagree c
    rw [a0, a1, a2, a3]
    exact (Cert.Reference33Ideal.Read.val_main_v24_eq _ _ _ _).trans (agree5 _ _ _ _)
  · obtain ⟨a0, a1, a2, a3⟩ := hagree c
    rw [a0, a2]
    exact (Cert.Reference33Ideal.Read.val_main_v5_eq _ _).trans (agree6 _ _)
  · obtain ⟨a0, a1, a2, a3⟩ := hagree c
    rw [a0, a3]
    exact (Cert.Reference33Ideal.Read.val_main_v11_eq _ _).trans (agree7 _ _)

end Cert.Kernel33Ideal.AdamSmall

end
-- ==== Proof.AdamConv.lean ====
/- The optimiser's step of the convolutions' taps, packed in rows of 128, with the gradient in eight parts: at every argument the kernel's results are the reference's. -/
module

public import proofs.«01_k».proof.Proof.Gen.Kernel34Ideal.Value
public import proofs.«01_k».proof.Proof.Gen.Reference34Ideal.Read
public import proofs.«01_k».proof.Proof.Adam
public import proofs.«01_k».proof.Defs
public import Idealize.ShloMosaic.Lib.Pipeline.ValueKit
public import Idealize.ShloMosaic.Lib.Claim

@[expose] public section

set_option maxRecDepth 16384

noncomputable section

namespace Cert.Kernel34Ideal.AdamConv

open Cert.Kernel34Ideal Cert.Kernel34Ideal.Gen Cert.Adam Idealize.ShloMosaic Idealize.ShloMosaic.TcCoe
open Idealize.ShloMosaic.Pipeline (Dat)

/-! ## One point's stored values, from its blocks -/

set_option backward.isDefEq.respectTransparency false in
/-- Part 0 of a block, read by itself. -/
theorem ld0 (x : Vec Ideal S8x8x128 .f32) (p : Fin 8) (j : Fin 128) : View.ld x r0_0 (ix3 0 p j) = x (ix3 0 p j) := by
  refine congrArg x (funext fun a => Fin.ext ?_)
  match a with
  | ⟨0, _⟩ => exact (rfl : 0 + 1 * 0 = 0)
  | ⟨1, _⟩ => show 0 + 1 * p.val = p.val; omega
  | ⟨2, _⟩ => show 0 + 1 * j.val = j.val; omega

set_option backward.isDefEq.respectTransparency false in
/-- Part 1 of a block, read by itself. -/
theorem ld1 (x : Vec Ideal S8x8x128 .f32) (p : Fin 8) (j : Fin 128) : View.ld x r0_1 (ix3 0 p j) = x (ix3 1 p j) := by
  refine congrArg x (funext fun a => Fin.ext ?_)
  match a with
  | ⟨0, _⟩ => exact (rfl : 1 + 1 * 0 = 1)
  | ⟨1, _⟩ => show 0 + 1 * p.val = p.val; omega
  | ⟨2, _⟩ => show 0 + 1 * j.val = j.val; omega

set_option backward.isDefEq.respectTransparency false in
/-- Part 2 of a block, read by itself. -/
theorem ld2 (x : Vec Ideal S8x8x128 .f32) (p : Fin 8) (j : Fin 128) : View.ld x r0_2 (ix3 0 p j) = x (ix3 2 p j) := by
  refine congrArg x (funext fun a => Fin.ext ?_)
  match a with
  | ⟨0, _⟩ => exact (rfl : 2 + 1 * 0 = 2)
  | ⟨1, _⟩ => show 0 + 1 * p.val = p.val; omega
  | ⟨2, _⟩ => show 0 + 1 * j.val = j.val; omega

set_option backward.isDefEq.respectTransparency false in
/-- Part 3 of a block, read by itself. -/
theorem ld3 (x : Vec Ideal S8x8x128 .f32) (p : Fin 8) (j : Fin 128) : View.ld x r0_3 (ix3 0 p j) = x (ix3 3 p j) := by
  refine congrArg x (funext fun a => Fin.ext ?_)
  match a with
  | ⟨0, _⟩ => exact (rfl : 3 + 1 * 0 = 3)
  | ⟨1, _⟩ => show 0 + 1 * p.val = p.val; omega
  | ⟨2, _⟩ => show 0 + 1 * j.val = j.val; omega

set_option backward.isDefEq.respectTransparency false in
/-- Part 4 of a block, read by itself. -/
theorem ld4 (x : Vec Ideal S8x8x128 .f32) (p : Fin 8) (j : Fin 128) : View.ld x r0_4 (ix3 0 p j) = x (ix3 4 p j) := by
  refine congrArg x (funext fun a => Fin.ext ?_)
  match a with
  | ⟨0, _⟩ => exact (rfl : 4 + 1 * 0 = 4)
  | ⟨1, _⟩ => show 0 + 1 * p.val = p.val; omega
  | ⟨2, _⟩ => show 0 + 1 * j.val = j.val; omega

set_option backward.isDefEq.respectTransparency false in
/-- Part 5 of a block, read by itself. -/
theorem ld5 (x : Vec Ideal S8x8x128 .f32) (p : Fin 8) (j : Fin 128) : View.ld x r0_5 (ix3 0 p j) = x (ix3 5 p j) := by
  refine congrArg x (funext fun a => Fin.ext ?_)
  match a with
  | ⟨0, _⟩ => exact (rfl : 5 + 1 * 0 = 5)
  | ⟨1, _⟩ => show 0 + 1 * p.val = p.val; omega
  | ⟨2, _⟩ => show 0 + 1 * j.val = j.val; omega

set_option backward.isDefEq.respectTransparency false in
/-- Part 6 of a block, read by itself. -/
theorem ld6 (x : Vec Ideal S8x8x128 .f32) (p : Fin 8) (j : Fin 128) : View.ld x r0_6 (ix3 0 p j) = x (ix3 6 p j) := by
  refine congrArg x (funext fun a => Fin.ext ?_)
  match a with
  | ⟨0, _⟩ => exact (rfl : 6 + 1 * 0 = 6)
  | ⟨1, _⟩ => show 0 + 1 * p.val = p.val; omega
  | ⟨2, _⟩ => show 0 + 1 * j.val = j.val; omega

set_option backward.isDefEq.respectTransparency false in
/-- Part 7 of a block, read by itself. -/
theorem ld7 (x : Vec Ideal S8x8x128 .f32) (p : Fin 8) (j : Fin 128) : View.ld x r0_7 (ix3 0 p j) = x (ix3 7 p j) := by
  refine congrArg x (funext fun a => Fin.ext ?_)
  match a with
  | ⟨0, _⟩ => exact (rfl : 7 + 1 * 0 = 7)
  | ⟨1, _⟩ => show 0 + 1 * p.val = p.val; omega
  | ⟨2, _⟩ => show 0 + 1 * j.val = j.val; omega

set_option backward.isDefEq.respectTransparency false in
/-- The stored gradient, from the loaded parts. -/
theorem pay_g (x0 x1 x2 x3 x4 x5 x6 x7 : Vec Ideal S1x8x128 .f32) (p : Fin 8) (j : Fin 128) :
    k0_pay3 x0 x1 x2 x3 x4 x5 x6 x7 (ix2 p j) = x0 (ix3 0 p j) + x1 (ix3 0 p j) + x2 (ix3 0 p j) + x3 (ix3 0 p j) + x4 (ix3 0 p j) + x5 (ix3 0 p j) + x6 (ix3 0 p j) + x7 (ix3 0 p j) := by
  pointwise [k0_pay1, k0_pay2, k0_pay3, k0_pay4]

set_option backward.isDefEq.respectTransparency false in
/-- The stored gradient, from the blocks. -/
theorem out_g (x : Vec Ideal S8x8x128 .f32) (w m v : Vec Ideal S8x128 .f32) (p : Fin 8) (j : Fin 128) :
    out0_4 x w m v (ix2 p j) = ∑ k, x (ix3 k p j) := by
  unfold out0_4 k0_pay5
  frame_out
  rw [pay_g, Fin.sum_univ_eight, ld0, ld1, ld2, ld3, ld4, ld5, ld6, ld7]

set_option backward.isDefEq.respectTransparency false in
/-- The stored change of the weight, from the loaded parts. -/
theorem pay_d (x0 x1 x2 x3 x4 x5 x6 x7 : Vec Ideal S1x8x128 .f32) (w m v : Vec Ideal S8x128 .f32) (p : Fin 8) (j : Fin 128) :
    k0_pay2 (k0_pay3 x0 x1 x2 x3 x4 x5 x6 x7) (k0_pay4 x0 x1 x2 x3 x4 x5 x6 x7 m) v w (ix2 p j) = change (x0 (ix3 0 p j) + x1 (ix3 0 p j) + x2 (ix3 0 p j) + x3 (ix3 0 p j) + x4 (ix3 0 p j) + x5 (ix3 0 p j) + x6 (ix3 0 p j) + x7 (ix3 0 p j)) (w (ix2 p j)) (m (ix2 p j)) (v (ix2 p j)) := by
  unfold change mean1 mean2
  pointwise [k0_pay1, k0_pay2, k0_pay3, k0_pay4]

set_option backward.isDefEq.respectTransparency false in
/-- The stored change of the weight, from the blocks. -/
theorem out_d (x : Vec Ideal S8x8x128 .f32) (w m v : Vec Ideal S8x128 .f32) (p : Fin 8) (j : Fin 128) :
    out0_5 x w m v (ix2 p j) = change (∑ k, x (ix3 k p j)) (w (ix2 p j)) (m (ix2 p j)) (v (ix2 p j)) := by
  unfold out0_5 k0_pay6 k0_pay5
  frame_out
  rw [pay_d, Fin.sum_univ_eight, ld0, ld1, ld2, ld3, ld4, ld5, ld6, ld7]

set_option backward.isDefEq.respectTransparency false in
/-- The stored mean of the gradient, from the loaded parts. -/
theorem pay_m (x0 x1 x2 x3 x4 x5 x6 x7 : Vec Ideal S1x8x128 .f32) (m : Vec Ideal S8x128 .f32) (p : Fin 8) (j : Fin 128) :
    k0_pay4 x0 x1 x2 x3 x4 x5 x6 x7 m (ix2 p j) = mean1 (x0 (ix3 0 p j) + x1 (ix3 0 p j) + x2 (ix3 0 p j) + x3 (ix3 0 p j) + x4 (ix3 0 p j) + x5 (ix3 0 p j) + x6 (ix3 0 p j) + x7 (ix3 0 p j)) (m (ix2 p j)) := by
  unfold mean1
  pointwise [k0_pay1, k0_pay2, k0_pay3, k0_pay4]

set_option backward.isDefEq.respectTransparency false in
/-- The stored mean of the gradient, from the blocks. -/
theorem out_m (x : Vec Ideal S8x8x128 .f32) (w m v : Vec Ideal S8x128 .f32) (p : Fin 8) (j : Fin 128) :
    out0_6 x w m v (ix2 p j) = mean1 (∑ k, x (ix3 k p j)) (m (ix2 p j)) := by
  unfold out0_6 k0_pay6
  frame_out
  rw [pay_m, Fin.sum_univ_eight, ld0, ld1, ld2, ld3, ld4, ld5, ld6, ld7]

set_option backward.isDefEq.respectTransparency false in
/-- The stored mean of the square, from the loaded parts. -/
theorem pay_v (x0 x1 x2 x3 x4 x5 x6 x7 : Vec Ideal S1x8x128 .f32) (v : Vec Ideal S8x128 .f32) (p : Fin 8) (j : Fin 128) :
    k0_pay1 (k0_pay3 x0 x1 x2 x3 x4 x5 x6 x7) v (ix2 p j) = mean2 (x0 (ix3 0 p j) + x1 (ix3 0 p j) + x2 (ix3 0 p j) + x3 (ix3 0 p j) + x4 (ix3 0 p j) + x5 (ix3 0 p j) + x6 (ix3 0 p j) + x7 (ix3 0 p j)) (v (ix2 p j)) := by
  unfold mean2
  pointwise [k0_pay1, k0_pay2, k0_pay3, k0_pay4]

set_option backward.isDefEq.respectTransparency false in
/-- The stored mean of the square, from the blocks. -/
theorem out_v (x : Vec Ideal S8x8x128 .f32) (w m v : Vec Ideal S8x128 .f32) (p : Fin 8) (j : Fin 128) :
    out0_7 x w m v (ix2 p j) = mean2 (∑ k, x (ix3 k p j)) (v (ix2 p j)) := by
  unfold out0_7 k0_pay5
  frame_out
  rw [pay_v, Fin.sum_univ_eight, ld0, ld1, ld2, ld3, ld4, ld5, ld6, ld7]

variable (m : (ℓ : Loc nD τ sig) → Buf (Elt Ideal) ℓ)

/-! ## Blocks of rows: point `t` works on the block of rows `t` -/

/-- The blocks' positions at a grid point. -/
theorem idx : ∀ t : Fin cfg0.N, t.val < 1
    ∧ win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- Row `p` of block `t`. -/
def row (t : Fin cfg0.N) (p : Fin 8) : Fin 8 := ⟨t.val * 8 + p.val, by have := (idx t).1; omega⟩

set_option backward.isDefEq.respectTransparency false in
/-- The gradient: each of its eight parts of a point's block is rows of the whole array's part. -/
theorem b0 (c : Dev nD) (t : Fin cfg0.N) (k : Fin 8) (p : Fin 8) (j : Fin 128) :
    (iblk m c 0 t : Vec Ideal S8x8x128 .f32) (ix3 k p j) = (m ((c : Thread nD τ).loc main_arg0) : Vec Ideal S8x8x128 .f32) (ix3 k (row t p) j) := by
  unfold row
  blk_ext! [iblk, V, idx t]

set_option backward.isDefEq.respectTransparency false in
/-- The weight: row `p` of a point's block is the whole array's row. -/
theorem b1 (c : Dev nD) (t : Fin cfg0.N) (p : Fin 8) (j : Fin 128) :
    (iblk m c 1 t : Vec Ideal S8x128 .f32) (ix2 p j) = (m ((c : Thread nD τ).loc main_arg1) : Vec Ideal S8x128 .f32) (ix2 (row t p) j) := by
  unfold row
  blk_ext! [iblk, V, idx t]

set_option backward.isDefEq.respectTransparency false in
/-- The mean of the gradient so far: row `p` of a point's block is the whole array's row. -/
theorem b2 (c : Dev nD) (t : Fin cfg0.N) (p : Fin 8) (j : Fin 128) :
    (iblk m c 2 t : Vec Ideal S8x128 .f32) (ix2 p j) = (m ((c : Thread nD τ).loc main_arg2) : Vec Ideal S8x128 .f32) (ix2 (row t p) j) := by
  unfold row
  blk_ext! [iblk, V, idx t]

set_option backward.isDefEq.respectTransparency false in
/-- The mean of the square so far: row `p` of a point's block is the whole array's row. -/
theorem b3 (c : Dev nD) (t : Fin cfg0.N) (p : Fin 8) (j : Fin 128) :
    (iblk m c 3 t : Vec Ideal S8x128 .f32) (ix2 p j) = (m ((c : Thread nD τ).loc main_arg3) : Vec Ideal S8x128 .f32) (ix2 (row t p) j) := by
  unfold row
  blk_ext! [iblk, V, idx t]

/-! ## The results from the program's arguments -/

/-- The gradient, from the arguments. -/
def G4 (x0 : Vec Ideal S8x8x128 .f32) : Vec Ideal S8x128 .f32 := fun y => ∑ k, x0 (ix3 k (y 0) (y 1))

set_option backward.isDefEq.respectTransparency false in
/-- The array of the gradient after the run. -/
theorem final4 (c : Dev nD) : (dats m 0 c).arrAt 4 cfg0.N = G4 (m ((c : Thread nD τ).loc main_arg0)) := by
  refine Dat.arrAt_eq_of_covers (dats m 0 c) 4 (G4 (m ((c : Thread nD τ).loc main_arg0)))
    (by decide +kernel) fun t hf y => ?_
  blk_simp
  rw [after0_4]
  idx_vars y
  refine (out_g _ _ _ _ y0 y1).trans ?_
  simp only [b0]
  have e : (((View.whole main_v0_0).slice (win0_4.rect t)).emb (ix2 y0 y1) : S8x128.Idx) = ix2 (row t y0) y1 := by
    unfold row
    blk_ext! [idx t]
  exact (congrArg (G4 _) e).symm

open Cert.Reference34Ideal.Read in
set_option backward.isDefEq.respectTransparency false in
/-- The gradient: the reference's is the kernel's. -/
theorem agree4 (x0 : Vec Ideal S8x8x128 .f32) : val_main_v0 (F := Ideal) x0 = G4 x0 := by
  funext i
  idx_vars i
  unfold G4
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The change of the weight, from the arguments. -/
def G5 (x0 : Vec Ideal S8x8x128 .f32) (x1 x2 x3 : Vec Ideal S8x128 .f32) : Vec Ideal S8x128 .f32 := fun y => change (∑ k, x0 (ix3 k (y 0) (y 1))) (x1 y) (x2 y) (x3 y)

set_option backward.isDefEq.respectTransparency false in
/-- The array of the change of the weight after the run. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) := by
  refine Dat.arrAt_eq_of_covers (dats m 0 c) 5 (G5 (m ((c : Thread nD τ).loc main_arg0)) (m ((c : Thread nD τ).loc main_arg1)) (m ((c : Thread nD τ).loc main_arg2)) (m ((c : Thread nD τ).loc main_arg3)))
    (by decide +kernel) fun t hf y => ?_
  blk_simp
  rw [after0_5]
  idx_vars y
  refine (out_d _ _ _ _ y0 y1).trans ?_
  simp only [b0, b1, b2, b3]
  have e : (((View.whole main_v0_1).slice (win0_5.rect t)).emb (ix2 y0 y1) : S8x128.Idx) = ix2 (row t y0) y1 := by
    unfold row
    blk_ext! [idx t]
  exact (congrArg (G5 _ _ _ _) e).symm

open Cert.Reference34Ideal.Read in
set_option backward.isDefEq.respectTransparency false in
/-- The change of the weight: the reference's is the kernel's. -/
theorem agree5 (x0 : Vec Ideal S8x8x128 .f32) (x1 x2 x3 : Vec Ideal S8x128 .f32) : val_main_v24 (F := Ideal) x0 x1 x2 x3 = G5 x0 x1 x2 x3 := by
  funext i
  idx_vars i
  unfold G5 change mean1 mean2
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The mean of the gradient, from the arguments. -/
def G6 (x0 : Vec Ideal S8x8x128 .f32) (x2 : Vec Ideal S8x128 .f32) : Vec Ideal S8x128 .f32 := fun y => mean1 (∑ k, x0 (ix3 k (y 0) (y 1))) (x2 y)

set_option backward.isDefEq.respectTransparency false in
/-- The array of the mean of the gradient after the run. -/
theorem final6 (c : Dev nD) : (dats m 0 c).arrAt 6 cfg0.N = G6 (m ((c : Thread nD τ).loc main_arg0)) (m ((c : Thread nD τ).loc main_arg2)) := by
  refine Dat.arrAt_eq_of_covers (dats m 0 c) 6 (G6 (m ((c : Thread nD τ).loc main_arg0)) (m ((c : Thread nD τ).loc main_arg2)))
    (by decide +kernel) fun t hf y => ?_
  blk_simp
  rw [after0_6]
  idx_vars y
  refine (out_m _ _ _ _ y0 y1).trans ?_
  simp only [b0, b2]
  have e : (((View.whole main_v0_2).slice (win0_6.rect t)).emb (ix2 y0 y1) : S8x128.Idx) = ix2 (row t y0) y1 := by
    unfold row
    blk_ext! [idx t]
  exact (congrArg (G6 _ _) e).symm

open Cert.Reference34Ideal.Read in
set_option backward.isDefEq.respectTransparency false in
/-- The mean of the gradient: the reference's is the kernel's. -/
theorem agree6 (x0 : Vec Ideal S8x8x128 .f32) (x2 : Vec Ideal S8x128 .f32) : val_main_v5 (F := Ideal) x0 x2 = G6 x0 x2 := by
  funext i
  idx_vars i
  unfold G6 mean1
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The mean of the square, from the arguments. -/
def G7 (x0 : Vec Ideal S8x8x128 .f32) (x3 : Vec Ideal S8x128 .f32) : Vec Ideal S8x128 .f32 := fun y => mean2 (∑ k, x0 (ix3 k (y 0) (y 1))) (x3 y)

set_option backward.isDefEq.respectTransparency false in
/-- The array of the mean of the square after the run. -/
theorem final7 (c : Dev nD) : (dats m 0 c).arrAt 7 cfg0.N = G7 (m ((c : Thread nD τ).loc main_arg0)) (m ((c : Thread nD τ).loc main_arg3)) := by
  refine Dat.arrAt_eq_of_covers (dats m 0 c) 7 (G7 (m ((c : Thread nD τ).loc main_arg0)) (m ((c : Thread nD τ).loc main_arg3)))
    (by decide +kernel) fun t hf y => ?_
  blk_simp
  rw [after0_7]
  idx_vars y
  refine (out_v _ _ _ _ y0 y1).trans ?_
  simp only [b0, b3]
  have e : (((View.whole main_v0_3).slice (win0_7.rect t)).emb (ix2 y0 y1) : S8x128.Idx) = ix2 (row t y0) y1 := by
    unfold row
    blk_ext! [idx t]
  exact (congrArg (G7 _ _) e).symm

open Cert.Reference34Ideal.Read in
set_option backward.isDefEq.respectTransparency false in
/-- The mean of the square: the reference's is the kernel's. -/
theorem agree7 (x0 : Vec Ideal S8x8x128 .f32) (x3 : Vec Ideal S8x128 .f32) : val_main_v11 (F := Ideal) x0 x3 = G7 x0 x3 := by
  funext i
  idx_vars i
  unfold G7 mean2
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]

/-- The results agree with the reference's, at all arguments. -/
theorem claim : Cert.algebraic_Kernel34Ideal_Reference34Ideal := by
  intro m ρ m' ρ' _ hagree
  refine ⟨fun c => G4 _, fun c => G5 _ _ _ _, fun c => G6 _ _, fun c => G7 _ _,
    (θ_run defs _ _).mono (fun r h c => ⟨(h c).1.trans (final4 m c), (h c).2.1.trans (final5 m c), (h c).2.2.1.trans (final6 m c), (h c).2.2.2.1.trans (final7 m c), (h c).2.2.2.2⟩)
      (Value.run_blocks (F := Ideal) m ρ), ?_⟩
  refine (θ_run Cert.Reference34Ideal.defs _ _).mono (fun _ h c => ⟨(h c).1.trans ?_, (h c).2.1.trans ?_, (h c).2.2.1.trans ?_, (h c).2.2.2.1.trans ?_, (h c).2.2.2.2⟩)
    (Cert.Reference34Ideal.Value.run (F := Ideal) m' ρ')
  · obtain ⟨a0, a1, a2, a3⟩ := hagree c
    rw [a0]
    exact (Cert.Reference34Ideal.Read.val_main_v0_eq _).trans (agree4 _)
  · obtain ⟨a0, a1, a2, a3⟩ := hagree c
    rw [a0, a1, a2, a3]
    exact (Cert.Reference34Ideal.Read.val_main_v24_eq _ _ _ _).trans (agree5 _ _ _ _)
  · obtain ⟨a0, a1, a2, a3⟩ := hagree c
    rw [a0, a2]
    exact (Cert.Reference34Ideal.Read.val_main_v5_eq _ _).trans (agree6 _ _)
  · obtain ⟨a0, a1, a2, a3⟩ := hagree c
    rw [a0, a3]
    exact (Cert.Reference34Ideal.Read.val_main_v11_eq _ _).trans (agree7 _ _)

end Cert.Kernel34Ideal.AdamConv

end
-- ==== Proof.Loss.lean ====
/- The loss and its gradient at the last layer's result joined to the residual stream: at every argument one device's part of the
   loss and the rows of the gradient are the reference's. -/
module

public import proofs.«01_k».proof.Proof.Gen.Kernel35Ideal.Value
public import proofs.«01_k».proof.Proof.Gen.Reference35Ideal.Read
public import proofs.«01_k».proof.Proof.Norm
public import proofs.«01_k».proof.Defs
public import Idealize.ShloMosaic.Lib.Pipeline.ValueKit
public import Idealize.ShloMosaic.Lib.Claim

@[expose] public section

set_option maxRecDepth 16384

noncomputable section

namespace Cert.Kernel35Ideal.Loss

open Cert.Kernel35Ideal Cert.Kernel35Ideal.Gen Cert.Norm Cert.Reals Idealize.ShloMosaic Idealize.ShloMosaic.TcCoe
open Idealize.ShloMosaic.Pipeline (Dat)

/-! ## Constants -/

/-- The pattern of one half. -/
theorem half_real : Ideal.ofBits .f32 0x3F000000#32 = ((1/2 : ℝ) : EReal) := by
  simp [Ideal.ofBits, Ideal.ieee, -EReal.coe_mul]; norm_num

/-- The pattern of one. -/
theorem one_real : Ideal.ofBits .f32 0x3F800000#32 = ((1 : ℝ) : EReal) := by
  simp [Ideal.ofBits, Ideal.ieee, -EReal.coe_mul]; norm_num

/-- The pattern of two. -/
theorem two_real : Ideal.ofBits .f32 0x40000000#32 = ((2 : ℝ) : EReal) := by
  simp [Ideal.ofBits, Ideal.ieee, -EReal.coe_mul]; norm_num

/-- The pattern of one part of 1024. -/
theorem part_real : Ideal.ofBits .f32 0x3A800000#32 = ((1/1024 : ℝ) : EReal) := by
  simp [Ideal.ofBits, Ideal.ieee, -EReal.coe_mul]; norm_num

/-- Halving is additive over finite sums, at all extended reals. -/
theorem half_sum {ι : Type*} (s : Finset ι) (f : ι → EReal) :
    Ideal.ofBits .f32 0x3F000000#32 * ∑ i ∈ s, f i = ∑ i ∈ s, Ideal.ofBits .f32 0x3F000000#32 * f i := by
  classical
  rw [half_real]
  induction s using Finset.induction_on with
  | empty => simp
  | insert a s h ih =>
    rw [Finset.sum_insert h, Finset.sum_insert h, EReal.left_distrib_of_nonneg_of_ne_top (by positivity) (EReal.coe_ne_top _), ih]

/-- Half of the mean's gradient of a square is the difference over the number of columns, at all extended reals. -/
theorem grad_half (e : EReal) :
    Ideal.div (Ideal.ofBits .f32 0x3F000000#32 * Ideal.ofBits .f32 0x3F800000#32) (Ideal.ofBits .f32 0x44800000#32)
      * (Ideal.ofBits .f32 0x40000000#32 * e) = e * Ideal.ofBits .f32 0x3A800000#32 := by
  rw [half_real, one_real, two_real, part_real, cols_real, ← EReal.coe_mul, div_real _ _ (by norm_num), ← mul_assoc, ← EReal.coe_mul,
    mul_comm]
  norm_num

/-! ## A row's results from the rows of the arguments -/

/-- A row of an array. -/
abbrev rw0 {n : Nat} (x : Vec Ideal (⟨2, ![n, 1024]⟩ : Shape) .f32) (r : Fin n) (j : Fin 1024) : EReal := x (ix2 r j)

/-- The difference between a row of the step's result and the row of the target. -/
def E {n : Nat} (x0 x1 : Vec Ideal (⟨2, ![n, 1024]⟩ : Shape) .f32) (x2 x3 : Vec Ideal S1x1024 .f32)
    (x4 : Vec Ideal (⟨2, ![n, 1024]⟩ : Shape) .f32) (r : Fin n) (j : Fin 1024) : EReal :=
  rw0 x0 r j + rw0 x2 0 j * (nrm (rw0 x1 r) j * rw0 x3 0 j) - rw0 x4 r j

/-- The mean of the squares of a row's differences. -/
def Q {n : Nat} (x0 x1 : Vec Ideal (⟨2, ![n, 1024]⟩ : Shape) .f32) (x2 x3 : Vec Ideal S1x1024 .f32)
    (x4 : Vec Ideal (⟨2, ![n, 1024]⟩ : Shape) .f32) (r : Fin n) : EReal :=
  Ideal.div (∑ j, E x0 x1 x2 x3 x4 r j * E x0 x1 x2 x3 x4 r j) (Ideal.ofBits .f32 0x44800000#32)

/-! ## What a point stores -/

set_option backward.isDefEq.respectTransparency false in
/-- The gradient, as a point stores it. -/
theorem pay5 (x0 x1 : Vec Ideal S512x1024 .f32) (x2 x3 : Vec Ideal S1x1024 .f32) (x4 : Vec Ideal S512x1024 .f32) (p : Fin 512) (j : Fin 1024) :
    k0_pay4 x1 x0 x2 x3 x4 (ix2 p j) = E x0 x1 x2 x3 x4 p j * Ideal.ofBits .f32 0x3A800000#32 := by
  unfold E nrm rinv ms rw0
  pointwise [k0_pay4, k0_pay3]

set_option backward.isDefEq.respectTransparency false in
/-- Half of the means of a point's rows, added to what was there. -/
theorem pay6 (x0 x1 : Vec Ideal S512x1024 .f32) (x2 x3 : Vec Ideal S1x1024 .f32) (x4 : Vec Ideal S512x1024 .f32) (o : Vec Ideal S8x128 .f32)
    (a : Fin 8) (b : Fin 128) :
    k0_pay2 (k0_pay5 x1 x0 x2 x3 x4) o (ix2 a b) = o (ix2 a b) + Ideal.ofBits .f32 0x3F000000#32 * ∑ p, Q x0 x1 x2 x3 x4 p := by
  unfold Q E nrm rinv ms rw0
  pointwise [k0_pay2, k0_pay5, k0_pay3]

variable (m : (ℓ : Loc nD τ sig) → Buf (Elt Ideal) ℓ)

/-! ## Blocks of rows: point `t` works on the block of rows `t` -/

/-- The blocks' positions at a grid point. -/
theorem idx : ∀ t : Fin cfg0.N, t.val < 32
    ∧ win0_0.index t = ![t.val, 0]
    ∧ win0_1.index t = ![t.val, 0]
    ∧ win0_2.index t = ![0, 0]
    ∧ win0_3.index t = ![0, 0]
    ∧ win0_4.index t = ![t.val, 0]
    ∧ win0_5.index t = ![t.val, 0]
    ∧ win0_6.index t = ![0, 0] :=
  (by decide +kernel : ∀ t : Fin grid0.N, _)

set_option backward.isDefEq.respectTransparency false in
/-- The residual stream: row `p` of a point's block is the whole array's row. -/
theorem b0 (c : Dev nD) (t : Fin cfg0.N) (p : Fin 512) (j : Fin 1024) :
    (iblk m c 0 t : Vec Ideal S512x1024 .f32) (ix2 p j) = rw0 (n := 16384) (m ((c : Thread nD τ).loc main_arg0)) (row ⟨t.val, (idx t).1⟩ p) j := by
  unfold row
  blk_ext! [iblk, V, idx t]

set_option backward.isDefEq.respectTransparency false in
/-- The last layer's result: row `p` of a point's block is the whole array's row. -/
theorem b1 (c : Dev nD) (t : Fin cfg0.N) (p : Fin 512) (j : Fin 1024) :
    (iblk m c 1 t : Vec Ideal S512x1024 .f32) (ix2 p j) = rw0 (n := 16384) (m ((c : Thread nD τ).loc main_arg1)) (row ⟨t.val, (idx t).1⟩ p) j := by
  unfold row
  blk_ext! [iblk, V, idx t]

set_option backward.isDefEq.respectTransparency false in
/-- The target: row `p` of a point's block is the whole array's row. -/
theorem b4 (c : Dev nD) (t : Fin cfg0.N) (p : Fin 512) (j : Fin 1024) :
    (iblk m c 4 t : Vec Ideal S512x1024 .f32) (ix2 p j) = rw0 (n := 16384) (m ((c : Thread nD τ).loc main_arg4)) (row ⟨t.val, (idx t).1⟩ p) j := by
  unfold row
  blk_ext! [iblk, V, idx t]

set_option backward.isDefEq.respectTransparency false in
/-- The gate: every point's block is the whole of it. -/
theorem b2 (c : Dev nD) (t : Fin cfg0.N) (j : Fin 1024) :
    (iblk m c 2 t : Vec Ideal S1x1024 .f32) (ix2 0 j) = rw0 (n := 1) (m ((c : Thread nD τ).loc main_arg2)) 0 j := by
  blk_ext! [iblk, V, idx t]

set_option backward.isDefEq.respectTransparency false in
/-- The weight of the norm: every point's block is the whole of it. -/
theorem b3 (c : Dev nD) (t : Fin cfg0.N) (j : Fin 1024) :
    (iblk m c 3 t : Vec Ideal S1x1024 .f32) (ix2 0 j) = rw0 (n := 1) (m ((c : Thread nD τ).loc main_arg3)) 0 j := by
  blk_ext! [iblk, V, idx t]

set_option backward.isDefEq.respectTransparency false in
/-- The differences: the row of a point's blocks gives what the whole arrays' row gives. -/
theorem e5 (c : Dev nD) (t : Fin cfg0.N) (p : Fin 512) (j : Fin 1024) :
    E (n := 512) (iblk m c 0 t) (iblk m c 1 t) (iblk m c 2 t) (iblk m c 3 t) (iblk m c 4 t) p j = E (n := 16384) (m ((c : Thread nD τ).loc main_arg0)) (m ((c : Thread nD τ).loc main_arg1)) (m ((c : Thread nD τ).loc main_arg2)) (m ((c : Thread nD τ).loc main_arg3)) (m ((c : Thread nD τ).loc main_arg4)) (row ⟨t.val, (idx t).1⟩ p) j := by
  unfold E rw0
  simp only [b0, b1, b2, b3, b4]

set_option backward.isDefEq.respectTransparency false in
/-- The means of squares: the row of a point's blocks gives what the whole arrays' row gives. -/
theorem e6 (c : Dev nD) (t : Fin cfg0.N) (p : Fin 512) :
    Q (n := 512) (iblk m c 0 t) (iblk m c 1 t) (iblk m c 2 t) (iblk m c 3 t) (iblk m c 4 t) p = Q (n := 16384) (m ((c : Thread nD τ).loc main_arg0)) (m ((c : Thread nD τ).loc main_arg1)) (m ((c : Thread nD τ).loc main_arg2)) (m ((c : Thread nD τ).loc main_arg3)) (m ((c : Thread nD τ).loc main_arg4)) (row ⟨t.val, (idx t).1⟩ p) := by
  unfold Q
  simp only [e5]

/-! ## The gradient -/

set_option backward.isDefEq.respectTransparency false in
/-- The gradient, as stored at a grid point. -/
theorem s5 (c : Dev nD) (t : Fin cfg0.N) (p : Fin 512) (j : Fin 1024) :
    (outsAt0 m c t.val t.isLt).1 (ix2 p j) = E (n := 16384) (m ((c : Thread nD τ).loc main_arg0)) (m ((c : Thread nD τ).loc main_arg1)) (m ((c : Thread nD τ).loc main_arg2)) (m ((c : Thread nD τ).loc main_arg3)) (m ((c : Thread nD τ).loc main_arg4)) (row ⟨t.val, (idx t).1⟩ p) j * Ideal.ofBits .f32 0x3A800000#32 := by
  by_cases h : t.val % 32 = 0
  · rw [outsAt0_A m c t h]
    frame_out
    exact (pay5 _ _ _ _ _ p j).trans (congrArg (· * Ideal.ofBits .f32 0x3A800000#32) (e5 m c t p j))
  · rw [outsAt0_B m c t h]
    frame_out
    exact (pay5 _ _ _ _ _ p j).trans (congrArg (· * Ideal.ofBits .f32 0x3A800000#32) (e5 m c t p j))

/-- The gradient, for all rows. -/
def G5 (x0 x1 : Vec Ideal S16384x1024 .f32) (x2 x3 : Vec Ideal S1x1024 .f32) (x4 : Vec Ideal S16384x1024 .f32) : Vec Ideal S16384x1024 .f32 :=
  fun y => E x0 x1 x2 x3 x4 (y 0) (y 1) * Ideal.ofBits .f32 0x3A800000#32

set_option backward.isDefEq.respectTransparency false in
/-- The gradient: the array after the run. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) (m ((c : Thread nD τ).loc main_arg4)) := by
  refine Dat.arrAt_eq_of_covers (dats m 0 c) 5 (G5 (m ((c : Thread nD τ).loc main_arg0)) (m ((c : Thread nD τ).loc main_arg1)) (m ((c : Thread nD τ).loc main_arg2)) (m ((c : Thread nD τ).loc main_arg3)) (m ((c : Thread nD τ).loc main_arg4)))
    (by decide +kernel) fun t hf y => ?_
  blk_simp
  rw [after0_5]
  idx_vars y
  refine (s5 m c t y0 y1).trans ?_
  have e : (((View.whole main_v0_0).slice (win0_5.rect t)).emb (ix2 y0 y1) : S16384x1024.Idx) = ix2 (row ⟨t.val, (idx t).1⟩ y0) y1 := by
    unfold row
    blk_ext! [idx t]
  exact (congrArg (G5 _ _ _ _ _) e).symm

/-! ## The loss -/

/-- A point's part of the loss: half of the means of its rows. -/
def part (c : Dev nD) (t : Fin cfg0.N) : EReal :=
  Ideal.ofBits .f32 0x3F000000#32 * ∑ p, Q (n := 16384) (m ((c : Thread nD τ).loc main_arg0)) (m ((c : Thread nD τ).loc main_arg1)) (m ((c : Thread nD τ).loc main_arg2)) (m ((c : Thread nD τ).loc main_arg3)) (m ((c : Thread nD τ).loc main_arg4)) (row ⟨t.val, (idx t).1⟩ p)

set_option backward.isDefEq.respectTransparency false in
/-- The loss so far at the first point. -/
theorem s6A (c : Dev nD) (t : Fin cfg0.N) (h : t.val % 32 = 0) (y : Fin 8 × Fin 128) :
    (outsAt0 m c t.val t.isLt).2 (ix2 y.1 y.2) = 0 + part m c t := by
  rw [outsAt0_A m c t h]
  frame_out
  refine (pay6 _ _ _ _ _ _ y.1 y.2).trans (congrArg₂ (· + ·) ?_
    (congrArg (Ideal.ofBits .f32 0x3F000000#32 * ·) (Finset.sum_congr rfl fun p _ => e6 m c t p)))
  pointwise [k0_pay1]

set_option backward.isDefEq.respectTransparency false in
/-- The loss so far at a later point. -/
theorem s6B (c : Dev nD) (t : Fin cfg0.N) (h : ¬t.val % 32 = 0) (y : Fin 8 × Fin 128) :
    (outsAt0 m c t.val t.isLt).2 (ix2 y.1 y.2) = (outsAt0 m c (t.val - 1) (by omega)).2 (ix2 y.1 y.2) + part m c t := by
  rw [outsAt0_B m c t h]
  frame_out
  exact (pay6 _ _ _ _ _ _ y.1 y.2).trans (congrArg₂ (· + ·) rfl
    (congrArg (Ideal.ofBits .f32 0x3F000000#32 * ·) (Finset.sum_congr rfl fun p _ => e6 m c t p)))

set_option backward.isDefEq.respectTransparency false in
/-- The loss where it is written back: half of the means of all rows. -/
theorem acc6 (c : Dev nD) (t : Fin cfg0.N) (h : t.val % 32 = 31) (y : Fin 8 × Fin 128) :
    (outsAt0 m c t.val t.isLt).2 (ix2 y.1 y.2) = Ideal.ofBits .f32 0x3F000000#32 * ∑ r, Q (n := 16384) (m ((c : Thread nD τ).loc main_arg0)) (m ((c : Thread nD τ).loc main_arg1)) (m ((c : Thread nD τ).loc main_arg2)) (m ((c : Thread nD τ).loc main_arg3)) (m ((c : Thread nD τ).loc main_arg4)) r := by
  refine (Pipeline.eq_sum_fin_of_reset_step_apply_of_flush (fun n hn (y : Fin 8 × Fin 128) => (outsAt0 m c n hn).2 (ix2 y.1 y.2)) 32 (fun _ => 0)
    (fun t _ => part m c t) (fun t h y => s6A m c t h y) (fun t h y => s6B m c t h y) t h y).trans ?_
  rw [zero_add, ← sum_rows, half_sum]
  have := (idx t).1
  exact Finset.sum_congr rfl fun s _ => congrArg (Ideal.ofBits .f32 0x3F000000#32 * ·) (Finset.sum_congr rfl fun p _ =>
    congrArg (Q (n := 16384) (m ((c : Thread nD τ).loc main_arg0)) (m ((c : Thread nD τ).loc main_arg1)) (m ((c : Thread nD τ).loc main_arg2)) (m ((c : Thread nD τ).loc main_arg3)) (m ((c : Thread nD τ).loc main_arg4))) (congrArg (row · p) (Fin.ext (show 32 * (t.val / 32) + s.val = s.val by omega))))

/-- The loss of the device's rows, in every entry. -/
def G6 (x0 x1 : Vec Ideal S16384x1024 .f32) (x2 x3 : Vec Ideal S1x1024 .f32) (x4 : Vec Ideal S16384x1024 .f32) : Vec Ideal S8x128 .f32 :=
  fun _ => Ideal.ofBits .f32 0x3F000000#32 * ∑ r, Q x0 x1 x2 x3 x4 r

set_option backward.isDefEq.respectTransparency false in
/-- The loss: the array after the run. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) := by
  refine Dat.arrAt_eq_of_covers (dats m 0 c) 6 (G6 (m ((c : Thread nD τ).loc main_arg0)) (m ((c : Thread nD τ).loc main_arg1)) (m ((c : Thread nD τ).loc main_arg2)) (m ((c : Thread nD τ).loc main_arg3)) (m ((c : Thread nD τ).loc main_arg4)))
    (by decide +kernel) fun t hf y => ?_
  blk_simp
  rw [after0_6]
  idx_vars y
  exact acc6 m c t ((flush0_6 t).mp hf) (y0, y1)

/-! ## The reference's results -/

open Cert.Reference35Ideal.Read in
set_option backward.isDefEq.respectTransparency false in
/-- The gradient, as the reference computes it. -/
theorem ref5 (x0 x1 : Vec Ideal S16384x1024 .f32) (x2 x3 : Vec Ideal S1x1024 .f32) (x4 : Vec Ideal S16384x1024 .f32) (r : Fin 16384) (j : Fin 1024) :
    val_main_v29 (F := Ideal) x0 x1 x2 x3 x4 (ix2 r j) =
      Ideal.div (Ideal.ofBits .f32 0x3F000000#32 * Ideal.ofBits .f32 0x3F800000#32) (Ideal.ofBits .f32 0x44800000#32)
        * (Ideal.ofBits .f32 0x40000000#32 * E x0 x1 x2 x3 x4 r j) := by
  unfold E nrm rinv ms rw0
  pointwise [val_main_v29, val_main_v28, val_main_v27, val_main_v26, val_main_cst_9, val_main_v25, val_main_v24, val_main_cst_8, val_main_cst_7, val_main_v18, val_main_v17, val_main_cst_2, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]

/-- The reference's gradient is the kernel's. -/
theorem agree5 (x0 x1 : Vec Ideal S16384x1024 .f32) (x2 x3 : Vec Ideal S1x1024 .f32) (x4 : Vec Ideal S16384x1024 .f32) : Cert.Reference35Ideal.Read.val_main_v29 (F := Ideal) x0 x1 x2 x3 x4 = G5 x0 x1 x2 x3 x4 := by
  funext i
  idx_vars i
  exact (ref5 x0 x1 x2 x3 x4 i0 i1).trans (grad_half _)

open Cert.Reference35Ideal.Read in
set_option backward.isDefEq.respectTransparency false in
/-- A row's mean of squares, as the reference computes it. -/
theorem ref6 (x0 x1 : Vec Ideal S16384x1024 .f32) (x2 x3 : Vec Ideal S1x1024 .f32) (x4 : Vec Ideal S16384x1024 .f32) (r : Fin 16384) :
    val_main_v21 (F := Ideal) x0 x1 x2 x3 x4 (ix1 r) = Q x0 x1 x2 x3 x4 r := by
  unfold Q E nrm rinv ms rw0
  pointwise [val_main_v21, val_main_v20, val_main_cst_4, val_main_v19, val_main_cst_3, val_main_v16, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]

/-- A sum over the indices of an array with one axis is the sum over the axis. -/
theorem sum_axis (f : Cert.Reference35Ideal.S16384.Idx → EReal) : ∑ i, f i = ∑ r : Fin 16384, f (ix1 r) :=
  Fintype.sum_equiv ⟨fun i => i 0, ix1, fun i => (eq_ix1 i).symm, fun _ => rfl⟩ _ _ fun i => congrArg f (eq_ix1 i)

open Cert.Reference35Ideal.Read in
/-- The reference's loss is the kernel's. -/
theorem agree6 (x0 x1 : Vec Ideal S16384x1024 .f32) (x2 x3 : Vec Ideal S1x1024 .f32) (x4 : Vec Ideal S16384x1024 .f32) : val_main_v30 (F := Ideal) x0 x1 x2 x3 x4 = G6 x0 x1 x2 x3 x4 := by
  funext i
  rw [val_main_v30_apply, val_main_v23_apply, val_main_v22_apply, sum_axis]
  show Ideal.ofBits .f32 0x3F000000#32 * (Ideal.ofBits .f32 0x00000000#32 + _) = Ideal.ofBits .f32 0x3F000000#32 * _
  have z : Ideal.ofBits .f32 0x00000000#32 = 0 := by simp [Ideal.ofBits, Ideal.ieee]
  rw [z, zero_add]
  exact congrArg (Ideal.ofBits .f32 0x3F000000#32 * ·) (Finset.sum_congr rfl fun r _ => ref6 x0 x1 x2 x3 x4 r)

/-- The loss of the device's rows and its gradient agree with the reference's, at all arguments. -/
theorem claim : Cert.algebraic_Kernel35Ideal_Reference35Ideal := by
  intro m ρ m' ρ' _ hagree
  refine ⟨fun c => G5 _ _ _ _ _, fun c => G6 _ _ _ _ _,
    (θ_run defs _ _).mono (fun r h c => ⟨(h c).1.trans (final5 m c), (h c).2.1.trans (final6 m c), (h c).2.2⟩)
      (Value.run_blocks (F := Ideal) m ρ), ?_⟩
  refine (θ_run Cert.Reference35Ideal.defs _ _).mono (fun _ h c => ⟨(h c).1.trans ?_, (h c).2.1.trans ?_, (h c).2.2⟩)
    (Cert.Reference35Ideal.Value.run (F := Ideal) m' ρ')
  · obtain ⟨a0, a1, a2, a3, a4⟩ := hagree c
    rw [a0, a1, a2, a3, a4]
    exact (Cert.Reference35Ideal.Read.val_main_v29_eq _ _ _ _ _).trans (agree5 _ _ _ _ _)
  · obtain ⟨a0, a1, a2, a3, a4⟩ := hagree c
    rw [a0, a1, a2, a3, a4]
    exact (Cert.Reference35Ideal.Read.val_main_v30_eq _ _ _ _ _).trans (agree6 _ _ _ _ _)

end Cert.Kernel35Ideal.Loss

end
-- ==== Proof.lean ====
/- The claims of this directory, put together. The frames of the kernels are the generated ones, the frames of the references
   follow from their runs, and the values are proved in the modules imported here. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2
public import proofs.«01_k».proof.Proof.Gen.Reference2.Run
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3
public import proofs.«01_k».proof.Proof.Gen.Reference3.Run
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4
public import proofs.«01_k».proof.Proof.Gen.Reference4.Run
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5
public import proofs.«01_k».proof.Proof.Gen.Reference5.Run
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6
public import proofs.«01_k».proof.Proof.Gen.Reference6.Run
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7
public import proofs.«01_k».proof.Proof.Gen.Reference7.Run
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8
public import proofs.«01_k».proof.Proof.Gen.Reference8.Run
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9
public import proofs.«01_k».proof.Proof.Gen.Reference9.Run
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10
public import proofs.«01_k».proof.Proof.Gen.Reference10.Run
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11
public import proofs.«01_k».proof.Proof.Gen.Reference11.Run
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12
public import proofs.«01_k».proof.Proof.Gen.Reference12.Run
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13
public import proofs.«01_k».proof.Proof.Gen.Reference13.Run
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14
public import proofs.«01_k».proof.Proof.Gen.Reference14.Run
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15
public import proofs.«01_k».proof.Proof.Gen.Reference15.Run
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16
public import proofs.«01_k».proof.Proof.Gen.Reference16.Run
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.SbaFrame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.SbaFrameIdeal
public import proofs.«01_k».proof.Proof.Gen.Reference17
public import proofs.«01_k».proof.Proof.Gen.Reference17.Run
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18
public import proofs.«01_k».proof.Proof.Gen.Reference18.Run
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19
public import proofs.«01_k».proof.Proof.Gen.Reference19.Run
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20
public import proofs.«01_k».proof.Proof.Gen.Reference20.Run
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21
public import proofs.«01_k».proof.Proof.Gen.Reference21.Run
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22
public import proofs.«01_k».proof.Proof.Gen.Reference22.Run
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23
public import proofs.«01_k».proof.Proof.Gen.Reference23.Run
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24
public import proofs.«01_k».proof.Proof.Gen.Reference24.Run
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25
public import proofs.«01_k».proof.Proof.Gen.Reference25.Run
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26
public import proofs.«01_k».proof.Proof.Gen.Reference26.Run
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27
public import proofs.«01_k».proof.Proof.Gen.Reference27.Run
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28
public import proofs.«01_k».proof.Proof.Gen.Reference28.Run
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29
public import proofs.«01_k».proof.Proof.Gen.Reference29.Run
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30
public import proofs.«01_k».proof.Proof.Gen.Reference30.Run
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31
public import proofs.«01_k».proof.Proof.Gen.Reference31.Run
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32
public import proofs.«01_k».proof.Proof.Gen.Reference32.Run
public import proofs.«01_k».proof.Proof.Gen.Reference32Ideal
public import proofs.«01_k».proof.Proof.Gen.Reference32Ideal.Run
public import proofs.«01_k».proof.Proof.Gen.Reference32Ideal.Read
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33
public import proofs.«01_k».proof.Proof.Gen.Reference33.Run
public import proofs.«01_k».proof.Proof.Gen.Reference33Ideal
public import proofs.«01_k».proof.Proof.Gen.Reference33Ideal.Run
public import proofs.«01_k».proof.Proof.Gen.Reference33Ideal.Read
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Kernel34Ideal.Value
public import proofs.«01_k».proof.Proof.Gen.Reference34
public import proofs.«01_k».proof.Proof.Gen.Reference34.Run
public import proofs.«01_k».proof.Proof.Gen.Reference34Ideal
public import proofs.«01_k».proof.Proof.Gen.Reference34Ideal.Run
public import proofs.«01_k».proof.Proof.Gen.Reference34Ideal.Read
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35.Frame
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Kernel35Ideal.Value
public import proofs.«01_k».proof.Proof.Gen.Reference35
public import proofs.«01_k».proof.Proof.Gen.Reference35.Run
public import proofs.«01_k».proof.Proof.Gen.Reference35Ideal
public import proofs.«01_k».proof.Proof.Gen.Reference35Ideal.Run
public import proofs.«01_k».proof.Proof.Gen.Reference35Ideal.Read
public import proofs.«01_k».proof.Proof.Gen.Pre_finite
public import proofs.«01_k».proof.Proof.Ssd
public import proofs.«01_k».proof.Proof.Gen.Pre_finite2
public import proofs.«01_k».proof.Proof.Swiglu
public import proofs.«01_k».proof.Proof.InProjDx
public import proofs.«01_k».proof.Proof.InProjDw
public import proofs.«01_k».proof.Proof.FfnInDx
public import proofs.«01_k».proof.Proof.FfnInDw
public import proofs.«01_k».proof.Proof.FfnOutDw
public import proofs.«01_k».proof.Proof.OutProjDx
public import proofs.«01_k».proof.Proof.OutProjDw
public import proofs.«01_k».proof.Proof.InProj
public import proofs.«01_k».proof.Proof.TimeSteps
public import proofs.«01_k».proof.Proof.FfnIn
public import proofs.«01_k».proof.Proof.FfnOut
public import proofs.«01_k».proof.Proof.OutProj
public import proofs.«01_k».proof.Proof.Branch
public import proofs.«01_k».proof.Proof.BranchBwd
public import proofs.«01_k».proof.Proof.Gen.Pre_kept
public import proofs.«01_k».proof.Proof.Sba
public import proofs.«01_k».proof.Proof.Gen.Pre_finite18
public import proofs.«01_k».proof.Proof.NormMod
public import proofs.«01_k».proof.Proof.Gen.Pre_finite19
public import proofs.«01_k».proof.Proof.Resid
public import proofs.«01_k».proof.Proof.Gen.Pre_finite20
public import proofs.«01_k».proof.Proof.NormResid
public import proofs.«01_k».proof.Proof.NormFwd
public import proofs.«01_k».proof.Proof.ResidNorm
public import proofs.«01_k».proof.Proof.AdamModW
public import proofs.«01_k».proof.Proof.AdamIn
public import proofs.«01_k».proof.Proof.AdamScOut
public import proofs.«01_k».proof.Proof.AdamSsmOut
public import proofs.«01_k».proof.Proof.AdamO
public import proofs.«01_k».proof.Proof.AdamFfnIn
public import proofs.«01_k».proof.Proof.AdamFfnOut
public import proofs.«01_k».proof.Proof.ShortConv
public import proofs.«01_k».proof.Proof.ModGrad
public import proofs.«01_k».proof.Proof.Mod
public import proofs.«01_k».proof.Proof.AdamSmall
public import proofs.«01_k».proof.Proof.AdamConv
public import proofs.«01_k».proof.Proof.Loss
public import Idealize.ShloMosaic.Adequacy
public import Idealize.ShloMosaic.Init
public import Idealize.ShloMosaic.Lib.Quiescent

@[expose] public section

noncomputable section

namespace Cert.Proof

open Idealize.ShloMosaic Idealize.SL.Sem

/-- Every claim of this directory. -/
theorem claim : Cert.Claim :=
  ⟨Cert.Kernel.Gen.facts, Cert.KernelIdeal.Gen.facts, Cert.Reference.Gen.facts, Cert.ReferenceIdeal.Gen.facts, Cert.Kernel2.Gen.facts, Cert.Kernel2Ideal.Gen.facts, Cert.Reference2.Gen.facts, Cert.Reference2Ideal.Gen.facts, Cert.Kernel3.Gen.facts, Cert.Kernel3Ideal.Gen.facts, Cert.Reference3.Gen.facts, Cert.Reference3Ideal.Gen.facts, Cert.Kernel4.Gen.facts, Cert.Kernel4Ideal.Gen.facts, Cert.Reference4.Gen.facts, Cert.Reference4Ideal.Gen.facts, Cert.Kernel5.Gen.facts, Cert.Kernel5Ideal.Gen.facts, Cert.Reference5.Gen.facts, Cert.Reference5Ideal.Gen.facts, Cert.Kernel6.Gen.facts, Cert.Kernel6Ideal.Gen.facts, Cert.Reference6.Gen.facts, Cert.Reference6Ideal.Gen.facts, Cert.Kernel7.Gen.facts, Cert.Kernel7Ideal.Gen.facts, Cert.Reference7.Gen.facts, Cert.Reference7Ideal.Gen.facts, Cert.Kernel8.Gen.facts, Cert.Kernel8Ideal.Gen.facts, Cert.Reference8.Gen.facts, Cert.Reference8Ideal.Gen.facts, Cert.Kernel9.Gen.facts, Cert.Kernel9Ideal.Gen.facts, Cert.Reference9.Gen.facts, Cert.Reference9Ideal.Gen.facts, Cert.Kernel10.Gen.facts, Cert.Kernel10Ideal.Gen.facts, Cert.Reference10.Gen.facts, Cert.Reference10Ideal.Gen.facts, Cert.Kernel11.Gen.facts, Cert.Kernel11Ideal.Gen.facts, Cert.Reference11.Gen.facts, Cert.Reference11Ideal.Gen.facts, Cert.Kernel12.Gen.facts, Cert.Kernel12Ideal.Gen.facts, Cert.Reference12.Gen.facts, Cert.Reference12Ideal.Gen.facts, Cert.Kernel13.Gen.facts, Cert.Kernel13Ideal.Gen.facts, Cert.Reference13.Gen.facts, Cert.Reference13Ideal.Gen.facts, Cert.Kernel14.Gen.facts, Cert.Kernel14Ideal.Gen.facts, Cert.Reference14.Gen.facts, Cert.Reference14Ideal.Gen.facts, Cert.Kernel15.Gen.facts, Cert.Kernel15Ideal.Gen.facts, Cert.Reference15.Gen.facts, Cert.Reference15Ideal.Gen.facts, Cert.Kernel16.Gen.facts, Cert.Kernel16Ideal.Gen.facts, Cert.Reference16.Gen.facts, Cert.Reference16Ideal.Gen.facts, Cert.Kernel17.Gen.facts, Cert.Kernel17Ideal.Gen.facts, Cert.Reference17.Gen.facts, Cert.Reference17Ideal.Gen.facts, Cert.Kernel18.Gen.facts, Cert.Kernel18Ideal.Gen.facts, Cert.Reference18.Gen.facts, Cert.Reference18Ideal.Gen.facts, Cert.Kernel19.Gen.facts, Cert.Kernel19Ideal.Gen.facts, Cert.Reference19.Gen.facts, Cert.Reference19Ideal.Gen.facts, Cert.Kernel20.Gen.facts, Cert.Kernel20Ideal.Gen.facts, Cert.Reference20.Gen.facts, Cert.Reference20Ideal.Gen.facts, Cert.Kernel21.Gen.facts, Cert.Kernel21Ideal.Gen.facts, Cert.Reference21.Gen.facts, Cert.Reference21Ideal.Gen.facts, Cert.Kernel22.Gen.facts, Cert.Kernel22Ideal.Gen.facts, Cert.Reference22.Gen.facts, Cert.Reference22Ideal.Gen.facts, Cert.Kernel23.Gen.facts, Cert.Kernel23Ideal.Gen.facts, Cert.Reference23.Gen.facts, Cert.Reference23Ideal.Gen.facts, Cert.Kernel24.Gen.facts, Cert.Kernel24Ideal.Gen.facts, Cert.Reference24.Gen.facts, Cert.Reference24Ideal.Gen.facts, Cert.Kernel25.Gen.facts, Cert.Kernel25Ideal.Gen.facts, Cert.Reference25.Gen.facts, Cert.Reference25Ideal.Gen.facts, Cert.Kernel26.Gen.facts, Cert.Kernel26Ideal.Gen.facts, Cert.Reference26.Gen.facts, Cert.Reference26Ideal.Gen.facts, Cert.Kernel27.Gen.facts, Cert.Kernel27Ideal.Gen.facts, Cert.Reference27.Gen.facts, Cert.Reference27Ideal.Gen.facts, Cert.Kernel28.Gen.facts, Cert.Kernel28Ideal.Gen.facts, Cert.Reference28.Gen.facts, Cert.Reference28Ideal.Gen.facts, Cert.Kernel29.Gen.facts, Cert.Kernel29Ideal.Gen.facts, Cert.Reference29.Gen.facts, Cert.Reference29Ideal.Gen.facts, Cert.Kernel30.Gen.facts, Cert.Kernel30Ideal.Gen.facts, Cert.Reference30.Gen.facts, Cert.Reference30Ideal.Gen.facts, Cert.Kernel31.Gen.facts, Cert.Kernel31Ideal.Gen.facts, Cert.Reference31.Gen.facts, Cert.Reference31Ideal.Gen.facts, Cert.Kernel32.Gen.facts, Cert.Kernel32Ideal.Gen.facts, Cert.Reference32.Gen.facts, Cert.Reference32Ideal.Gen.facts, Cert.Kernel33.Gen.facts, Cert.Kernel33Ideal.Gen.facts, Cert.Reference33.Gen.facts, Cert.Reference33Ideal.Gen.facts, Cert.Kernel34.Gen.facts, Cert.Kernel34Ideal.Gen.facts, Cert.Reference34.Gen.facts, Cert.Reference34Ideal.Gen.facts, Cert.Kernel35.Gen.facts, Cert.Kernel35Ideal.Gen.facts, Cert.Reference35.Gen.facts, Cert.Reference35Ideal.Gen.facts, Cert.Pre_finite.Gen.facts, Cert.Pre_finite2.Gen.facts, Cert.Pre_kept.Gen.facts, Cert.Pre_finite18.Gen.facts, Cert.Pre_finite19.Gen.facts, Cert.Pre_finite20.Gen.facts,
    fun m ρ _ => Cert.Kernel.Gen.frame m ρ,
    fun m ρ _ => Cert.KernelIdeal.Gen.frame m ρ,
    fun m ρ _ => Cert.KernelIdeal.Gen.frame m ρ,
    fun m ρ _ => (θ_run Cert.Reference.defs _ _).mono (fun r h => ⟨fun c => (h c).2.2.2, Idealize.ShloMosaic.sem_eq_zero_of_no_sems (by decide) r.2⟩)
      (Cert.Reference.Value.run (F := Bits) m ρ),
    fun m ρ _ => (θ_run Cert.ReferenceIdeal.defs _ _).mono (fun r h => ⟨fun c => (h c).2.2.2, Idealize.ShloMosaic.sem_eq_zero_of_no_sems (by decide) r.2⟩)
      (Cert.ReferenceIdeal.Value.run (F := Ideal) m ρ),
    fun m ρ _ => (θ_run Cert.ReferenceIdeal.defs _ _).mono (fun r h => ⟨fun c => (h c).2.2.2, Idealize.ShloMosaic.sem_eq_zero_of_no_sems (by decide) r.2⟩)
      (Cert.ReferenceIdeal.Value.run (F := Ideal) m ρ),
    fun m ρ _ => Cert.Kernel2.Gen.frame m ρ,
    fun m ρ _ => Cert.Kernel2Ideal.Gen.frame m ρ,
    fun m ρ _ => Cert.Kernel2Ideal.Gen.frame m ρ,
    fun m ρ _ => (θ_run Cert.Reference2.defs _ _).mono (fun r h => ⟨fun c => (h c).2.2, Idealize.ShloMosaic.sem_eq_zero_of_no_sems (by decide) r.2⟩)
      (Cert.Reference2.Value.run (F := Bits) m ρ),
    fun m ρ _ => (θ_run Cert.Reference2Ideal.defs _ _).mono (fun r h => ⟨fun c => (h c).2.2, Idealize.ShloMosaic.sem_eq_zero_of_no_sems (by decide) r.2⟩)
      (Cert.Reference2Ideal.Value.run (F := Ideal) m ρ),
    fun m ρ _ => (θ_run Cert.Reference2Ideal.defs _ _).mono (fun r h => ⟨fun c => (h c).2.2, Idealize.ShloMosaic.sem_eq_zero_of_no_sems (by decide) r.2⟩)
      (Cert.Reference2Ideal.Value.run (F := Ideal) m ρ),
    fun m ρ _ => Cert.Kernel3.Gen.frame m ρ,
    fun m ρ _ => Cert.Kernel3Ideal.Gen.frame m ρ,
    fun m ρ _ => (θ_run Cert.Reference3.defs _ _).mono (fun r h => ⟨fun c => (h c).2, Idealize.ShloMosaic.sem_eq_zero_of_no_sems (by decide) r.2⟩)
      (Cert.Reference3.Value.run (F := Bits) m ρ),
    fun m ρ _ => (θ_run Cert.Reference3Ideal.defs _ _).mono (fun r h => ⟨fun c => (h c).2, Idealize.ShloMosaic.sem_eq_zero_of_no_sems (by decide) r.2⟩)
      (Cert.Reference3Ideal.Value.run (F := Ideal) m ρ),
    fun m ρ _ => Cert.Kernel4.Gen.frame m ρ,
    fun m ρ _ => Cert.Kernel4Ideal.Gen.frame m ρ,
    fun m ρ _ => (θ_run Cert.Reference4.defs _ _).mono (fun r h => ⟨fun c => (h c).2, Idealize.ShloMosaic.sem_eq_zero_of_no_sems (by decide) r.2⟩)
      (Cert.Reference4.Value.run (F := Bits) m ρ),
    fun m ρ _ => (θ_run Cert.Reference4Ideal.defs _ _).mono (fun r h => ⟨fun c => (h c).2, Idealize.ShloMosaic.sem_eq_zero_of_no_sems (by decide) r.2⟩)
      (Cert.Reference4Ideal.Value.run (F := Ideal) m ρ),
    fun m ρ _ => Cert.Kernel5.Gen.frame m ρ,
    fun m ρ _ => Cert.Kernel5Ideal.Gen.frame m ρ,
    fun m ρ _ => (θ_run Cert.Reference5.defs _ _).mono (fun r h => ⟨fun c => (h c).2, Idealize.ShloMosaic.sem_eq_zero_of_no_sems (by decide) r.2⟩)
      (Cert.Reference5.Value.run (F := Bits) m ρ),
    fun m ρ _ => (θ_run Cert.Reference5Ideal.defs _ _).mono (fun r h => ⟨fun c => (h c).2, Idealize.ShloMosaic.sem_eq_zero_of_no_sems (by decide) r.2⟩)
      (Cert.Reference5Ideal.Value.run (F := Ideal) m ρ),
    fun m ρ _ => Cert.Kernel6.Gen.frame m ρ,
    fun m ρ _ => Cert.Kernel6Ideal.Gen.frame m ρ,
    fun m ρ _ => (θ_run Cert.Reference6.defs _ _).mono (fun r h => ⟨fun c => (h c).2, Idealize.ShloMosaic.sem_eq_zero_of_no_sems (by decide) r.2⟩)
      (Cert.Reference6.Value.run (F := Bits) m ρ),
    fun m ρ _ => (θ_run Cert.Reference6Ideal.defs _ _).mono (fun r h => ⟨fun c => (h c).2, Idealize.ShloMosaic.sem_eq_zero_of_no_sems (by decide) r.2⟩)
      (Cert.Reference6Ideal.Value.run (F := Ideal) m ρ),
    fun m ρ _ => Cert.Kernel7.Gen.frame m ρ,
    fun m ρ _ => Cert.Kernel7Ideal.Gen.frame m ρ,
    fun m ρ _ => (θ_run Cert.Reference7.defs _ _).mono (fun r h => ⟨fun c => (h c).2, Idealize.ShloMosaic.sem_eq_zero_of_no_sems (by decide) r.2⟩)
      (Cert.Reference7.Value.run (F := Bits) m ρ),
    fun m ρ _ => (θ_run Cert.Reference7Ideal.defs _ _).mono (fun r h => ⟨fun c => (h c).2, Idealize.ShloMosaic.sem_eq_zero_of_no_sems (by decide) r.2⟩)
      (Cert.Reference7Ideal.Value.run (F := Ideal) m ρ),
    fun m ρ _ => Cert.Kernel8.Gen.frame m ρ,
    fun m ρ _ => Cert.Kernel8Ideal.Gen.frame m ρ,
    fun m ρ _ => (θ_run Cert.Reference8.defs _ _).mono (fun r h => ⟨fun c => (h c).2, Idealize.ShloMosaic.sem_eq_zero_of_no_sems (by decide) r.2⟩)
      (Cert.Reference8.Value.run (F := Bits) m ρ),
    fun m ρ _ => (θ_run Cert.Reference8Ideal.defs _ _).mono (fun r h => ⟨fun c => (h c).2, Idealize.ShloMosaic.sem_eq_zero_of_no_sems (by decide) r.2⟩)
      (Cert.Reference8Ideal.Value.run (F := Ideal) m ρ),
    fun m ρ _ => Cert.Kernel9.Gen.frame m ρ,
    fun m ρ _ => Cert.Kernel9Ideal.Gen.frame m ρ,
    fun m ρ _ => (θ_run Cert.Reference9.defs _ _).mono (fun r h => ⟨fun c => (h c).2, Idealize.ShloMosaic.sem_eq_zero_of_no_sems (by decide) r.2⟩)
      (Cert.Reference9.Value.run (F := Bits) m ρ),
    fun m ρ _ => (θ_run Cert.Reference9Ideal.defs _ _).mono (fun r h => ⟨fun c => (h c).2, Idealize.ShloMosaic.sem_eq_zero_of_no_sems (by decide) r.2⟩)
      (Cert.Reference9Ideal.Value.run (F := Ideal) m ρ),
    fun m ρ _ => Cert.Kernel10.Gen.frame m ρ,
    fun m ρ _ => Cert.Kernel10Ideal.Gen.frame m ρ,
    fun m ρ _ => (θ_run Cert.Reference10.defs _ _).mono (fun r h => ⟨fun c => (h c).2, Idealize.ShloMosaic.sem_eq_zero_of_no_sems (by decide) r.2⟩)
      (Cert.Reference10.Value.run (F := Bits) m ρ),
    fun m ρ _ => (θ_run Cert.Reference10Ideal.defs _ _).mono (fun r h => ⟨fun c => (h c).2, Idealize.ShloMosaic.sem_eq_zero_of_no_sems (by decide) r.2⟩)
      (Cert.Reference10Ideal.Value.run (F := Ideal) m ρ),
    fun m ρ _ => Cert.Kernel11.Gen.frame m ρ,
    fun m ρ _ => Cert.Kernel11Ideal.Gen.frame m ρ,
    fun m ρ _ => (θ_run Cert.Reference11.defs _ _).mono (fun r h => ⟨fun c => (h c).2, Idealize.ShloMosaic.sem_eq_zero_of_no_sems (by decide) r.2⟩)
      (Cert.Reference11.Value.run (F := Bits) m ρ),
    fun m ρ _ => (θ_run Cert.Reference11Ideal.defs _ _).mono (fun r h => ⟨fun c => (h c).2, Idealize.ShloMosaic.sem_eq_zero_of_no_sems (by decide) r.2⟩)
      (Cert.Reference11Ideal.Value.run (F := Ideal) m ρ),
    fun m ρ _ => Cert.Kernel12.Gen.frame m ρ,
    fun m ρ _ => Cert.Kernel12Ideal.Gen.frame m ρ,
    fun m ρ _ => (θ_run Cert.Reference12.defs _ _).mono (fun r h => ⟨fun c => (h c).2.2.2, Idealize.ShloMosaic.sem_eq_zero_of_no_sems (by decide) r.2⟩)
      (Cert.Reference12.Value.run (F := Bits) m ρ),
    fun m ρ _ => (θ_run Cert.Reference12Ideal.defs _ _).mono (fun r h => ⟨fun c => (h c).2.2.2, Idealize.ShloMosaic.sem_eq_zero_of_no_sems (by decide) r.2⟩)
      (Cert.Reference12Ideal.Value.run (F := Ideal) m ρ),
    fun m ρ _ => Cert.Kernel13.Gen.frame m ρ,
    fun m ρ _ => Cert.Kernel13Ideal.Gen.frame m ρ,
    fun m ρ _ => (θ_run Cert.Reference13.defs _ _).mono (fun r h => ⟨fun c => (h c).2, Idealize.ShloMosaic.sem_eq_zero_of_no_sems (by decide) r.2⟩)
      (Cert.Reference13.Value.run (F := Bits) m ρ),
    fun m ρ _ => (θ_run Cert.Reference13Ideal.defs _ _).mono (fun r h => ⟨fun c => (h c).2, Idealize.ShloMosaic.sem_eq_zero_of_no_sems (by decide) r.2⟩)
      (Cert.Reference13Ideal.Value.run (F := Ideal) m ρ),
    fun m ρ _ => Cert.Kernel14.Gen.frame m ρ,
    fun m ρ _ => Cert.Kernel14Ideal.Gen.frame m ρ,
    fun m ρ _ => (θ_run Cert.Reference14.defs _ _).mono (fun r h => ⟨fun c => (h c).2, Idealize.ShloMosaic.sem_eq_zero_of_no_sems (by decide) r.2⟩)
      (Cert.Reference14.Value.run (F := Bits) m ρ),
    fun m ρ _ => (θ_run Cert.Reference14Ideal.defs _ _).mono (fun r h => ⟨fun c => (h c).2, Idealize.ShloMosaic.sem_eq_zero_of_no_sems (by decide) r.2⟩)
      (Cert.Reference14Ideal.Value.run (F := Ideal) m ρ),
    fun m ρ _ => Cert.Kernel15.Gen.frame m ρ,
    fun m ρ _ => Cert.Kernel15Ideal.Gen.frame m ρ,
    fun m ρ _ => (θ_run Cert.Reference15.defs _ _).mono (fun r h => ⟨fun c => (h c).2, Idealize.ShloMosaic.sem_eq_zero_of_no_sems (by decide) r.2⟩)
      (Cert.Reference15.Value.run (F := Bits) m ρ),
    fun m ρ _ => (θ_run Cert.Reference15Ideal.defs _ _).mono (fun r h => ⟨fun c => (h c).2, Idealize.ShloMosaic.sem_eq_zero_of_no_sems (by decide) r.2⟩)
      (Cert.Reference15Ideal.Value.run (F := Ideal) m ρ),
    fun m ρ _ => Cert.Kernel16.Gen.frame m ρ,
    fun m ρ _ => Cert.Kernel16Ideal.Gen.frame m ρ,
    fun m ρ _ => (θ_run Cert.Reference16.defs _ _).mono (fun r h => ⟨fun c => (h c).2.2.2.2.2, Idealize.ShloMosaic.sem_eq_zero_of_no_sems (by decide) r.2⟩)
      (Cert.Reference16.Value.run (F := Bits) m ρ),
    fun m ρ _ => (θ_run Cert.Reference16Ideal.defs _ _).mono (fun r h => ⟨fun c => (h c).2.2.2.2.2, Idealize.ShloMosaic.sem_eq_zero_of_no_sems (by decide) r.2⟩)
      (Cert.Reference16Ideal.Value.run (F := Ideal) m ρ),
    fun m ρ _ => Cert.Kernel17.Gen.frame m ρ,
    fun m ρ _ => Cert.Kernel17Ideal.Gen.frame m ρ,
    fun m ρ _ => Cert.Kernel17Ideal.Gen.frame m ρ,
    fun m ρ _ => (θ_run Cert.Reference17.defs _ _).mono (fun r h => ⟨fun c => (h c).2, Idealize.ShloMosaic.sem_eq_zero_of_no_sems (by decide) r.2⟩)
      (Cert.Reference17.Value.run (F := Bits) m ρ),
    fun m ρ _ => (θ_run Cert.Reference17Ideal.defs _ _).mono (fun r h => ⟨fun c => (h c).2, Idealize.ShloMosaic.sem_eq_zero_of_no_sems (by decide) r.2⟩)
      (Cert.Reference17Ideal.Value.run (F := Ideal) m ρ),
    fun m ρ _ => (θ_run Cert.Reference17Ideal.defs _ _).mono (fun r h => ⟨fun c => (h c).2, Idealize.ShloMosaic.sem_eq_zero_of_no_sems (by decide) r.2⟩)
      (Cert.Reference17Ideal.Value.run (F := Ideal) m ρ),
    fun m ρ _ => Cert.Kernel18.Gen.frame m ρ,
    fun m ρ _ => Cert.Kernel18Ideal.Gen.frame m ρ,
    fun m ρ _ => Cert.Kernel18Ideal.Gen.frame m ρ,
    fun m ρ _ => (θ_run Cert.Reference18.defs _ _).mono (fun r h => ⟨fun c => (h c).2.2.2.2, Idealize.ShloMosaic.sem_eq_zero_of_no_sems (by decide) r.2⟩)
      (Cert.Reference18.Value.run (F := Bits) m ρ),
    fun m ρ _ => (θ_run Cert.Reference18Ideal.defs _ _).mono (fun r h => ⟨fun c => (h c).2.2.2.2, Idealize.ShloMosaic.sem_eq_zero_of_no_sems (by decide) r.2⟩)
      (Cert.Reference18Ideal.Value.run (F := Ideal) m ρ),
    fun m ρ _ => (θ_run Cert.Reference18Ideal.defs _ _).mono (fun r h => ⟨fun c => (h c).2.2.2.2, Idealize.ShloMosaic.sem_eq_zero_of_no_sems (by decide) r.2⟩)
      (Cert.Reference18Ideal.Value.run (F := Ideal) m ρ),
    fun m ρ _ => Cert.Kernel19.Gen.frame m ρ,
    fun m ρ _ => Cert.Kernel19Ideal.Gen.frame m ρ,
    fun m ρ _ => Cert.Kernel19Ideal.Gen.frame m ρ,
    fun m ρ _ => (θ_run Cert.Reference19.defs _ _).mono (fun r h => ⟨fun c => (h c).2.2.2, Idealize.ShloMosaic.sem_eq_zero_of_no_sems (by decide) r.2⟩)
      (Cert.Reference19.Value.run (F := Bits) m ρ),
    fun m ρ _ => (θ_run Cert.Reference19Ideal.defs _ _).mono (fun r h => ⟨fun c => (h c).2.2.2, Idealize.ShloMosaic.sem_eq_zero_of_no_sems (by decide) r.2⟩)
      (Cert.Reference19Ideal.Value.run (F := Ideal) m ρ),
    fun m ρ _ => (θ_run Cert.Reference19Ideal.defs _ _).mono (fun r h => ⟨fun c => (h c).2.2.2, Idealize.ShloMosaic.sem_eq_zero_of_no_sems (by decide) r.2⟩)
      (Cert.Reference19Ideal.Value.run (F := Ideal) m ρ),
    fun m ρ _ => Cert.Kernel20.Gen.frame m ρ,
    fun m ρ _ => Cert.Kernel20Ideal.Gen.frame m ρ,
    fun m ρ _ => Cert.Kernel20Ideal.Gen.frame m ρ,
    fun m ρ _ => (θ_run Cert.Reference20.defs _ _).mono (fun r h => ⟨fun c => (h c).2.2.2.2.2.2.2, Idealize.ShloMosaic.sem_eq_zero_of_no_sems (by decide) r.2⟩)
      (Cert.Reference20.Value.run (F := Bits) m ρ),
    fun m ρ _ => (θ_run Cert.Reference20Ideal.defs _ _).mono (fun r h => ⟨fun c => (h c).2.2.2.2.2.2.2, Idealize.ShloMosaic.sem_eq_zero_of_no_sems (by decide) r.2⟩)
      (Cert.Reference20Ideal.Value.run (F := Ideal) m ρ),
    fun m ρ _ => (θ_run Cert.Reference20Ideal.defs _ _).mono (fun r h => ⟨fun c => (h c).2.2.2.2.2.2.2, Idealize.ShloMosaic.sem_eq_zero_of_no_sems (by decide) r.2⟩)
      (Cert.Reference20Ideal.Value.run (F := Ideal) m ρ),
    fun m ρ _ => Cert.Kernel21.Gen.frame m ρ,
    fun m ρ _ => Cert.Kernel21Ideal.Gen.frame m ρ,
    fun m ρ _ => (θ_run Cert.Reference21.defs _ _).mono (fun r h => ⟨fun c => (h c).2, Idealize.ShloMosaic.sem_eq_zero_of_no_sems (by decide) r.2⟩)
      (Cert.Reference21.Value.run (F := Bits) m ρ),
    fun m ρ _ => (θ_run Cert.Reference21Ideal.defs _ _).mono (fun r h => ⟨fun c => (h c).2, Idealize.ShloMosaic.sem_eq_zero_of_no_sems (by decide) r.2⟩)
      (Cert.Reference21Ideal.Value.run (F := Ideal) m ρ),
    fun m ρ _ => Cert.Kernel22.Gen.frame m ρ,
    fun m ρ _ => Cert.Kernel22Ideal.Gen.frame m ρ,
    fun m ρ _ => (θ_run Cert.Reference22.defs _ _).mono (fun r h => ⟨fun c => (h c).2.2, Idealize.ShloMosaic.sem_eq_zero_of_no_sems (by decide) r.2⟩)
      (Cert.Reference22.Value.run (F := Bits) m ρ),
    fun m ρ _ => (θ_run Cert.Reference22Ideal.defs _ _).mono (fun r h => ⟨fun c => (h c).2.2, Idealize.ShloMosaic.sem_eq_zero_of_no_sems (by decide) r.2⟩)
      (Cert.Reference22Ideal.Value.run (F := Ideal) m ρ),
    fun m ρ _ => Cert.Kernel23.Gen.frame m ρ,
    fun m ρ _ => Cert.Kernel23Ideal.Gen.frame m ρ,
    fun m ρ _ => (θ_run Cert.Reference23.defs _ _).mono (fun r h => ⟨fun c => (h c).2.2.2.2, Idealize.ShloMosaic.sem_eq_zero_of_no_sems (by decide) r.2⟩)
      (Cert.Reference23.Value.run (F := Bits) m ρ),
    fun m ρ _ => (θ_run Cert.Reference23Ideal.defs _ _).mono (fun r h => ⟨fun c => (h c).2.2.2.2, Idealize.ShloMosaic.sem_eq_zero_of_no_sems (by decide) r.2⟩)
      (Cert.Reference23Ideal.Value.run (F := Ideal) m ρ),
    fun m ρ _ => Cert.Kernel24.Gen.frame m ρ,
    fun m ρ _ => Cert.Kernel24Ideal.Gen.frame m ρ,
    fun m ρ _ => (θ_run Cert.Reference24.defs _ _).mono (fun r h => ⟨fun c => (h c).2.2.2.2, Idealize.ShloMosaic.sem_eq_zero_of_no_sems (by decide) r.2⟩)
      (Cert.Reference24.Value.run (F := Bits) m ρ),
    fun m ρ _ => (θ_run Cert.Reference24Ideal.defs _ _).mono (fun r h => ⟨fun c => (h c).2.2.2.2, Idealize.ShloMosaic.sem_eq_zero_of_no_sems (by decide) r.2⟩)
      (Cert.Reference24Ideal.Value.run (F := Ideal) m ρ),
    fun m ρ _ => Cert.Kernel25.Gen.frame m ρ,
    fun m ρ _ => Cert.Kernel25Ideal.Gen.frame m ρ,
    fun m ρ _ => (θ_run Cert.Reference25.defs _ _).mono (fun r h => ⟨fun c => (h c).2.2.2.2, Idealize.ShloMosaic.sem_eq_zero_of_no_sems (by decide) r.2⟩)
      (Cert.Reference25.Value.run (F := Bits) m ρ),
    fun m ρ _ => (θ_run Cert.Reference25Ideal.defs _ _).mono (fun r h => ⟨fun c => (h c).2.2.2.2, Idealize.ShloMosaic.sem_eq_zero_of_no_sems (by decide) r.2⟩)
      (Cert.Reference25Ideal.Value.run (F := Ideal) m ρ),
    fun m ρ _ => Cert.Kernel26.Gen.frame m ρ,
    fun m ρ _ => Cert.Kernel26Ideal.Gen.frame m ρ,
    fun m ρ _ => (θ_run Cert.Reference26.defs _ _).mono (fun r h => ⟨fun c => (h c).2.2.2.2, Idealize.ShloMosaic.sem_eq_zero_of_no_sems (by decide) r.2⟩)
      (Cert.Reference26.Value.run (F := Bits) m ρ),
    fun m ρ _ => (θ_run Cert.Reference26Ideal.defs _ _).mono (fun r h => ⟨fun c => (h c).2.2.2.2, Idealize.ShloMosaic.sem_eq_zero_of_no_sems (by decide) r.2⟩)
      (Cert.Reference26Ideal.Value.run (F := Ideal) m ρ),
    fun m ρ _ => Cert.Kernel27.Gen.frame m ρ,
    fun m ρ _ => Cert.Kernel27Ideal.Gen.frame m ρ,
    fun m ρ _ => (θ_run Cert.Reference27.defs _ _).mono (fun r h => ⟨fun c => (h c).2.2.2.2, Idealize.ShloMosaic.sem_eq_zero_of_no_sems (by decide) r.2⟩)
      (Cert.Reference27.Value.run (F := Bits) m ρ),
    fun m ρ _ => (θ_run Cert.Reference27Ideal.defs _ _).mono (fun r h => ⟨fun c => (h c).2.2.2.2, Idealize.ShloMosaic.sem_eq_zero_of_no_sems (by decide) r.2⟩)
      (Cert.Reference27Ideal.Value.run (F := Ideal) m ρ),
    fun m ρ _ => Cert.Kernel28.Gen.frame m ρ,
    fun m ρ _ => Cert.Kernel28Ideal.Gen.frame m ρ,
    fun m ρ _ => (θ_run Cert.Reference28.defs _ _).mono (fun r h => ⟨fun c => (h c).2.2.2.2, Idealize.ShloMosaic.sem_eq_zero_of_no_sems (by decide) r.2⟩)
      (Cert.Reference28.Value.run (F := Bits) m ρ),
    fun m ρ _ => (θ_run Cert.Reference28Ideal.defs _ _).mono (fun r h => ⟨fun c => (h c).2.2.2.2, Idealize.ShloMosaic.sem_eq_zero_of_no_sems (by decide) r.2⟩)
      (Cert.Reference28Ideal.Value.run (F := Ideal) m ρ),
    fun m ρ _ => Cert.Kernel29.Gen.frame m ρ,
    fun m ρ _ => Cert.Kernel29Ideal.Gen.frame m ρ,
    fun m ρ _ => (θ_run Cert.Reference29.defs _ _).mono (fun r h => ⟨fun c => (h c).2.2.2.2, Idealize.ShloMosaic.sem_eq_zero_of_no_sems (by decide) r.2⟩)
      (Cert.Reference29.Value.run (F := Bits) m ρ),
    fun m ρ _ => (θ_run Cert.Reference29Ideal.defs _ _).mono (fun r h => ⟨fun c => (h c).2.2.2.2, Idealize.ShloMosaic.sem_eq_zero_of_no_sems (by decide) r.2⟩)
      (Cert.Reference29Ideal.Value.run (F := Ideal) m ρ),
    fun m ρ _ => Cert.Kernel30.Gen.frame m ρ,
    fun m ρ _ => Cert.Kernel30Ideal.Gen.frame m ρ,
    fun m ρ _ => (θ_run Cert.Reference30.defs _ _).mono (fun r h => ⟨fun c => (h c).2.2.2, Idealize.ShloMosaic.sem_eq_zero_of_no_sems (by decide) r.2⟩)
      (Cert.Reference30.Value.run (F := Bits) m ρ),
    fun m ρ _ => (θ_run Cert.Reference30Ideal.defs _ _).mono (fun r h => ⟨fun c => (h c).2.2.2, Idealize.ShloMosaic.sem_eq_zero_of_no_sems (by decide) r.2⟩)
      (Cert.Reference30Ideal.Value.run (F := Ideal) m ρ),
    fun m ρ _ => Cert.Kernel31.Gen.frame m ρ,
    fun m ρ _ => Cert.Kernel31Ideal.Gen.frame m ρ,
    fun m ρ _ => (θ_run Cert.Reference31.defs _ _).mono (fun r h => ⟨fun c => (h c).2, Idealize.ShloMosaic.sem_eq_zero_of_no_sems (by decide) r.2⟩)
      (Cert.Reference31.Value.run (F := Bits) m ρ),
    fun m ρ _ => (θ_run Cert.Reference31Ideal.defs _ _).mono (fun r h => ⟨fun c => (h c).2, Idealize.ShloMosaic.sem_eq_zero_of_no_sems (by decide) r.2⟩)
      (Cert.Reference31Ideal.Value.run (F := Ideal) m ρ),
    fun m ρ _ => Cert.Kernel32.Gen.frame m ρ,
    fun m ρ _ => Cert.Kernel32Ideal.Gen.frame m ρ,
    fun m ρ _ => (θ_run Cert.Reference32.defs _ _).mono (fun r h => ⟨fun c => (h c).2, Idealize.ShloMosaic.sem_eq_zero_of_no_sems (by decide) r.2⟩)
      (Cert.Reference32.Value.run (F := Bits) m ρ),
    fun m ρ _ => (θ_run Cert.Reference32Ideal.defs _ _).mono (fun r h => ⟨fun c => (h c).2, Idealize.ShloMosaic.sem_eq_zero_of_no_sems (by decide) r.2⟩)
      (Cert.Reference32Ideal.Value.run (F := Ideal) m ρ),
    fun m ρ _ => Cert.Kernel33.Gen.frame m ρ,
    fun m ρ _ => Cert.Kernel33Ideal.Gen.frame m ρ,
    fun m ρ _ => (θ_run Cert.Reference33.defs _ _).mono (fun r h => ⟨fun c => (h c).2.2.2.2, Idealize.ShloMosaic.sem_eq_zero_of_no_sems (by decide) r.2⟩)
      (Cert.Reference33.Value.run (F := Bits) m ρ),
    fun m ρ _ => (θ_run Cert.Reference33Ideal.defs _ _).mono (fun r h => ⟨fun c => (h c).2.2.2.2, Idealize.ShloMosaic.sem_eq_zero_of_no_sems (by decide) r.2⟩)
      (Cert.Reference33Ideal.Value.run (F := Ideal) m ρ),
    fun m ρ _ => Cert.Kernel34.Gen.frame m ρ,
    fun m ρ _ => Cert.Kernel34Ideal.Gen.frame m ρ,
    fun m ρ _ => (θ_run Cert.Reference34.defs _ _).mono (fun r h => ⟨fun c => (h c).2.2.2.2, Idealize.ShloMosaic.sem_eq_zero_of_no_sems (by decide) r.2⟩)
      (Cert.Reference34.Value.run (F := Bits) m ρ),
    fun m ρ _ => (θ_run Cert.Reference34Ideal.defs _ _).mono (fun r h => ⟨fun c => (h c).2.2.2.2, Idealize.ShloMosaic.sem_eq_zero_of_no_sems (by decide) r.2⟩)
      (Cert.Reference34Ideal.Value.run (F := Ideal) m ρ),
    fun m ρ _ => Cert.Kernel35.Gen.frame m ρ,
    fun m ρ _ => Cert.Kernel35Ideal.Gen.frame m ρ,
    fun m ρ _ => (θ_run Cert.Reference35.defs _ _).mono (fun r h => ⟨fun c => (h c).2.2, Idealize.ShloMosaic.sem_eq_zero_of_no_sems (by decide) r.2⟩)
      (Cert.Reference35.Value.run (F := Bits) m ρ),
    fun m ρ _ => (θ_run Cert.Reference35Ideal.defs _ _).mono (fun r h => ⟨fun c => (h c).2.2, Idealize.ShloMosaic.sem_eq_zero_of_no_sems (by decide) r.2⟩)
      (Cert.Reference35Ideal.Value.run (F := Ideal) m ρ),
    trivial,
    trivial,
    Cert.KernelIdeal.Ssd.claim,
    trivial,
    trivial,
    Cert.Kernel2Ideal.Swiglu.claim,
    trivial,
    trivial,
    Cert.Kernel3Ideal.InProjDx.claim,
    trivial,
    trivial,
    Cert.Kernel4Ideal.InProjDw.claim,
    trivial,
    trivial,
    Cert.Kernel5Ideal.FfnInDx.claim,
    trivial,
    trivial,
    Cert.Kernel6Ideal.FfnInDw.claim,
    trivial,
    trivial,
    Cert.Kernel7Ideal.FfnOutDw.claim,
    trivial,
    trivial,
    Cert.Kernel8Ideal.OutProjDx.claim,
    trivial,
    trivial,
    Cert.Kernel9Ideal.OutProjDw.claim,
    trivial,
    trivial,
    Cert.Kernel10Ideal.InProj.claim,
    trivial,
    trivial,
    Cert.Kernel11Ideal.TimeSteps.claim,
    trivial,
    trivial,
    Cert.Kernel12Ideal.FfnIn.claim,
    trivial,
    trivial,
    Cert.Kernel13Ideal.FfnOut.claim,
    trivial,
    trivial,
    Cert.Kernel14Ideal.OutProj.claim,
    trivial,
    trivial,
    Cert.Kernel15Ideal.Branch.claim,
    trivial,
    trivial,
    Cert.Kernel16Ideal.BranchBwd.claim,
    trivial,
    trivial,
    Cert.Kernel17Ideal.Sba.claim,
    trivial,
    trivial,
    Cert.Kernel18Ideal.NormMod.claim,
    trivial,
    trivial,
    Cert.Kernel19Ideal.Resid.claim,
    trivial,
    trivial,
    Cert.Kernel20Ideal.NormResid.claim,
    trivial,
    trivial,
    Cert.Kernel21Ideal.NormFwd.claim,
    trivial,
    trivial,
    Cert.Kernel22Ideal.ResidNorm.claim,
    trivial,
    trivial,
    Cert.Kernel23Ideal.AdamModW.claim,
    trivial,
    trivial,
    Cert.Kernel24Ideal.AdamIn.claim,
    trivial,
    trivial,
    Cert.Kernel25Ideal.AdamScOut.claim,
    trivial,
    trivial,
    Cert.Kernel26Ideal.AdamSsmOut.claim,
    trivial,
    trivial,
    Cert.Kernel27Ideal.AdamO.claim,
    trivial,
    trivial,
    Cert.Kernel28Ideal.AdamFfnIn.claim,
    trivial,
    trivial,
    Cert.Kernel29Ideal.AdamFfnOut.claim,
    trivial,
    trivial,
    Cert.Kernel30Ideal.ShortConv.claim,
    trivial,
    trivial,
    Cert.Kernel31Ideal.ModGrad.claim,
    trivial,
    trivial,
    Cert.Kernel32Ideal.Mod.claim,
    trivial,
    trivial,
    Cert.Kernel33Ideal.AdamSmall.claim,
    trivial,
    trivial,
    Cert.Kernel34Ideal.AdamConv.claim,
    trivial,
    trivial,
    Cert.Kernel35Ideal.Loss.claim⟩

end Cert.Proof

end
